-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Mlp2 (m : (ℓ : Loc Cert.Mlp2.nD Cert.Mlp2.τ Cert.Mlp2.sig) → Buf (Elt Bits) ℓ) : Prop :=
  True

def Pre_Mlp2Ideal (m : (ℓ : Loc Cert.Mlp2Ideal.nD Cert.Mlp2Ideal.τ Cert.Mlp2Ideal.sig) → Buf (Elt Ideal) ℓ) : Prop :=
  True

def Pre_Mlp2RefIdeal (m : (ℓ : Loc Cert.Mlp2RefIdeal.nD Cert.Mlp2RefIdeal.τ Cert.Mlp2RefIdeal.sig) → Buf (Elt Ideal) ℓ) : Prop :=
  True

def Pre_DMlp2 (m : (ℓ : Loc Cert.DMlp2.nD Cert.DMlp2.τ Cert.DMlp2.sig) → Buf (Elt Bits) ℓ) : Prop :=
  True

def Pre_DMlp2Ideal (m : (ℓ : Loc Cert.DMlp2Ideal.nD Cert.DMlp2Ideal.τ Cert.DMlp2Ideal.sig) → Buf (Elt Ideal) ℓ) : Prop :=
  True

def Pre_DMlp2RefIdeal (m : (ℓ : Loc Cert.DMlp2RefIdeal.nD Cert.DMlp2RefIdeal.τ Cert.DMlp2RefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DMlp1 (m : (ℓ : Loc Cert.DMlp1.nD Cert.DMlp1.τ Cert.DMlp1.sig) → Buf (Elt Bits) ℓ) : Prop :=
  True

def Pre_DMlp1Ideal (m : (ℓ : Loc Cert.DMlp1Ideal.nD Cert.DMlp1Ideal.τ Cert.DMlp1Ideal.sig) → Buf (Elt Ideal) ℓ) : Prop :=
  True

def Pre_DMlp1RefIdeal (m : (ℓ : Loc Cert.DMlp1RefIdeal.nD Cert.DMlp1RefIdeal.τ Cert.DMlp1RefIdeal.sig) → Buf (Elt Ideal) ℓ) : Prop :=
  True

def Pre_DHm (m : (ℓ : Loc Cert.DHm.nD Cert.DHm.τ Cert.DHm.sig) → Buf (Elt Bits) ℓ) : Prop :=
  True

def Pre_DHmIdeal (m : (ℓ : Loc Cert.DHmIdeal.nD Cert.DHmIdeal.τ Cert.DHmIdeal.sig) → Buf (Elt Ideal) ℓ) : Prop :=
  True

def Pre_DHmIdeal_finite_mlp [hPre_finite_mlp : Cert.Pre_finite_mlp.Facts] (m : (ℓ : Loc Cert.DHmIdeal.nD Cert.DHmIdeal.τ Cert.DHmIdeal.sig) → Buf (Elt Ideal) ℓ) : Prop :=
  ∀ c : Dev Cert.DHmIdeal.nD,
    (Cert.Pre_finite_mlp.fn (F := Ideal) (m ((c.tc : Thread Cert.DHmIdeal.nD Cert.DHmIdeal.τ).loc Cert.DHmIdeal.main_arg0)) (m ((c.tc : Thread Cert.DHmIdeal.nD Cert.DHmIdeal.τ).loc Cert.DHmIdeal.main_arg1)) (m ((c.tc : Thread Cert.DHmIdeal.nD Cert.DHmIdeal.τ).loc Cert.DHmIdeal.main_arg2)) (m ((c.tc : Thread Cert.DHmIdeal.nD Cert.DHmIdeal.τ).loc Cert.DHmIdeal.main_arg3)) (m ((c.tc : Thread Cert.DHmIdeal.nD Cert.DHmIdeal.τ).loc Cert.DHmIdeal.main_arg4))) = (fun _ => 1#1)

def Pre_DHmRefIdeal (m : (ℓ : Loc Cert.DHmRefIdeal.nD Cert.DHmRefIdeal.τ Cert.DHmRefIdeal.sig) → Buf (Elt Ideal) ℓ) : Prop :=
  True

def Pre_DHmRefIdeal_finite_mlp [hPre_finite_mlp : Cert.Pre_finite_mlp.Facts] (m : (ℓ : Loc Cert.DHmRefIdeal.nD Cert.DHmRefIdeal.τ Cert.DHmRefIdeal.sig) → Buf (Elt Ideal) ℓ) : Prop :=
  ∀ c : Dev Cert.DHmRefIdeal.nD,
    (Cert.Pre_finite_mlp.fn (F := Ideal) (m ((c.tc : Thread Cert.DHmRefIdeal.nD Cert.DHmRefIdeal.τ).loc Cert.DHmRefIdeal.main_arg0)) (m ((c.tc : Thread Cert.DHmRefIdeal.nD Cert.DHmRefIdeal.τ).loc Cert.DHmRefIdeal.main_arg1)) (m ((c.tc : Thread Cert.DHmRefIdeal.nD Cert.DHmRefIdeal.τ).loc Cert.DHmRefIdeal.main_arg2)) (m ((c.tc : Thread Cert.DHmRefIdeal.nD Cert.DHmRefIdeal.τ).loc Cert.DHmRefIdeal.main_arg3)) (m ((c.tc : Thread Cert.DHmRefIdeal.nD Cert.DHmRefIdeal.τ).loc Cert.DHmRefIdeal.main_arg4))) = (fun _ => 1#1)

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_InC (m : (ℓ : Loc Cert.InC.nD Cert.InC.τ Cert.InC.sig) → Buf (Elt Bits) ℓ) : Prop :=
  True

def Pre_InCIdeal (m : (ℓ : Loc Cert.InCIdeal.nD Cert.InCIdeal.τ Cert.InCIdeal.sig) → Buf (Elt Ideal) ℓ) : Prop :=
  True

def Pre_InCRefIdeal (m : (ℓ : Loc Cert.InCRefIdeal.nD Cert.InCRefIdeal.τ Cert.InCRefIdeal.sig) → Buf (Elt Ideal) ℓ) : Prop :=
  True

def Pre_DInA (m : (ℓ : Loc Cert.DInA.nD Cert.DInA.τ Cert.DInA.sig) → Buf (Elt Bits) ℓ) : Prop :=
  True

def Pre_DInAIdeal (m : (ℓ : Loc Cert.DInAIdeal.nD Cert.DInAIdeal.τ Cert.DInAIdeal.sig) → Buf (Elt Ideal) ℓ) : Prop :=
  True

def Pre_DInARefIdeal (m : (ℓ : Loc Cert.DInARefIdeal.nD Cert.DInARefIdeal.τ Cert.DInARefIdeal.sig) → Buf (Elt Ideal) ℓ) : Prop :=
  True

def Pre_DInB (m : (ℓ : Loc Cert.DInB.nD Cert.DInB.τ Cert.DInB.sig) → Buf (Elt Bits) ℓ) : Prop :=
  True

def Pre_DInBIdeal (m : (ℓ : Loc Cert.DInBIdeal.nD Cert.DInBIdeal.τ Cert.DInBIdeal.sig) → Buf (Elt Ideal) ℓ) : Prop :=
  True

def Pre_DInBRefIdeal (m : (ℓ : Loc Cert.DInBRefIdeal.nD Cert.DInBRefIdeal.τ Cert.DInBRefIdeal.sig) → Buf (Elt Ideal) ℓ) : Prop :=
  True

def Pre_DInC (m : (ℓ : Loc Cert.DInC.nD Cert.DInC.τ Cert.DInC.sig) → Buf (Elt Bits) ℓ) : Prop :=
  True

def Pre_DInCIdeal (m : (ℓ : Loc Cert.DInCIdeal.nD Cert.DInCIdeal.τ Cert.DInCIdeal.sig) → Buf (Elt Ideal) ℓ) : Prop :=
  True

def Pre_DInCRefIdeal (m : (ℓ : Loc Cert.DInCRefIdeal.nD Cert.DInCRefIdeal.τ Cert.DInCRefIdeal.sig) → Buf (Elt Ideal) ℓ) : Prop :=
  True

def Pre_DHa (m : (ℓ : Loc Cert.DHa.nD Cert.DHa.τ Cert.DHa.sig) → Buf (Elt Bits) ℓ) : Prop :=
  True

def Pre_DHaIdeal (m : (ℓ : Loc Cert.DHaIdeal.nD Cert.DHaIdeal.τ Cert.DHaIdeal.sig) → Buf (Elt Ideal) ℓ) : Prop :=
  True

def Pre_DHaRefIdeal (m : (ℓ : Loc Cert.DHaRefIdeal.nD Cert.DHaRefIdeal.τ Cert.DHaRefIdeal.sig) → Buf (Elt Ideal) ℓ) : Prop :=
  True

def Pre_DHb (m : (ℓ : Loc Cert.DHb.nD Cert.DHb.τ Cert.DHb.sig) → Buf (Elt Bits) ℓ) : Prop :=
  True

def Pre_DHbIdeal (m : (ℓ : Loc Cert.DHbIdeal.nD Cert.DHbIdeal.τ Cert.DHbIdeal.sig) → Buf (Elt Ideal) ℓ) : Prop :=
  True

def Pre_DHbRefIdeal (m : (ℓ : Loc Cert.DHbRefIdeal.nD Cert.DHbRefIdeal.τ Cert.DHbRefIdeal.sig) → Buf (Elt Ideal) ℓ) : Prop :=
  True

def Pre_DHc (m : (ℓ : Loc Cert.DHc.nD Cert.DHc.τ Cert.DHc.sig) → Buf (Elt Bits) ℓ) : Prop :=
  True

def Pre_DHcIdeal (m : (ℓ : Loc Cert.DHcIdeal.nD Cert.DHcIdeal.τ Cert.DHcIdeal.sig) → Buf (Elt Ideal) ℓ) : Prop :=
  True

def Pre_DHcIdeal_finite_mix [hPre_finite_mix : Cert.Pre_finite_mix.Facts] (m : (ℓ : Loc Cert.DHcIdeal.nD Cert.DHcIdeal.τ Cert.DHcIdeal.sig) → Buf (Elt Ideal) ℓ) : Prop :=
  ∀ c : Dev Cert.DHcIdeal.nD,
    (Cert.Pre_finite_mix.fn (F := Ideal) (m ((c.tc : Thread Cert.DHcIdeal.nD Cert.DHcIdeal.τ).loc Cert.DHcIdeal.main_arg0)) (m ((c.tc : Thread Cert.DHcIdeal.nD Cert.DHcIdeal.τ).loc Cert.DHcIdeal.main_arg1)) (m ((c.tc : Thread Cert.DHcIdeal.nD Cert.DHcIdeal.τ).loc Cert.DHcIdeal.main_arg2)) (m ((c.tc : Thread Cert.DHcIdeal.nD Cert.DHcIdeal.τ).loc Cert.DHcIdeal.main_arg3)) (m ((c.tc : Thread Cert.DHcIdeal.nD Cert.DHcIdeal.τ).loc Cert.DHcIdeal.main_arg4)) (m ((c.tc : Thread Cert.DHcIdeal.nD Cert.DHcIdeal.τ).loc Cert.DHcIdeal.main_arg5))) = (fun _ => 1#1)

def Pre_DHcRefIdeal (m : (ℓ : Loc Cert.DHcRefIdeal.nD Cert.DHcRefIdeal.τ Cert.DHcRefIdeal.sig) → Buf (Elt Ideal) ℓ) : Prop :=
  True

def Pre_DHcRefIdeal_finite_mix [hPre_finite_mix : Cert.Pre_finite_mix.Facts] (m : (ℓ : Loc Cert.DHcRefIdeal.nD Cert.DHcRefIdeal.τ Cert.DHcRefIdeal.sig) → Buf (Elt Ideal) ℓ) : Prop :=
  ∀ c : Dev Cert.DHcRefIdeal.nD,
    (Cert.Pre_finite_mix.fn (F := Ideal) (m ((c.tc : Thread Cert.DHcRefIdeal.nD Cert.DHcRefIdeal.τ).loc Cert.DHcRefIdeal.main_arg0)) (m ((c.tc : Thread Cert.DHcRefIdeal.nD Cert.DHcRefIdeal.τ).loc Cert.DHcRefIdeal.main_arg1)) (m ((c.tc : Thread Cert.DHcRefIdeal.nD Cert.DHcRefIdeal.τ).loc Cert.DHcRefIdeal.main_arg2)) (m ((c.tc : Thread Cert.DHcRefIdeal.nD Cert.DHcRefIdeal.τ).loc Cert.DHcRefIdeal.main_arg3)) (m ((c.tc : Thread Cert.DHcRefIdeal.nD Cert.DHcRefIdeal.τ).loc Cert.DHcRefIdeal.main_arg4)) (m ((c.tc : Thread Cert.DHcRefIdeal.nD Cert.DHcRefIdeal.τ).loc Cert.DHcRefIdeal.main_arg5))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_DOut (m : (ℓ : Loc Cert.DOut.nD Cert.DOut.τ Cert.DOut.sig) → Buf (Elt Bits) ℓ) : Prop :=
  True

def Pre_DOutIdeal (m : (ℓ : Loc Cert.DOutIdeal.nD Cert.DOutIdeal.τ Cert.DOutIdeal.sig) → Buf (Elt Ideal) ℓ) : Prop :=
  True

def Pre_DOutRefIdeal (m : (ℓ : Loc Cert.DOutRefIdeal.nD Cert.DOutRefIdeal.τ Cert.DOutRefIdeal.sig) → Buf (Elt Ideal) ℓ) : Prop :=
  True

def Pre_DY (m : (ℓ : Loc Cert.DY.nD Cert.DY.τ Cert.DY.sig) → Buf (Elt Bits) ℓ) : Prop :=
  True

def Pre_DYIdeal (m : (ℓ : Loc Cert.DYIdeal.nD Cert.DYIdeal.τ Cert.DYIdeal.sig) → Buf (Elt Ideal) ℓ) : Prop :=
  True

def Pre_DYRefIdeal (m : (ℓ : Loc Cert.DYRefIdeal.nD Cert.DYRefIdeal.τ Cert.DYRefIdeal.sig) → Buf (Elt Ideal) ℓ) : Prop :=
  True

def Pre_UpMerge (m : (ℓ : Loc Cert.UpMerge.nD Cert.UpMerge.τ Cert.UpMerge.sig) → Buf (Elt Bits) ℓ) : Prop :=
  True

def Pre_UpMergeIdeal (m : (ℓ : Loc Cert.UpMergeIdeal.nD Cert.UpMergeIdeal.τ Cert.UpMergeIdeal.sig) → Buf (Elt Ideal) ℓ) : Prop :=
  True

def Pre_UpMergeRefIdeal (m : (ℓ : Loc Cert.UpMergeRefIdeal.nD Cert.UpMergeRefIdeal.τ Cert.UpMergeRefIdeal.sig) → Buf (Elt Ideal) ℓ) : Prop :=
  True

def Pre_Xo (m : (ℓ : Loc Cert.Xo.nD Cert.Xo.τ Cert.Xo.sig) → Buf (Elt Bits) ℓ) : Prop :=
  True

def Pre_XoIdeal (m : (ℓ : Loc Cert.XoIdeal.nD Cert.XoIdeal.τ Cert.XoIdeal.sig) → Buf (Elt Ideal) ℓ) : Prop :=
  True

def Pre_XoRefIdeal (m : (ℓ : Loc Cert.XoRefIdeal.nD Cert.XoRefIdeal.τ Cert.XoRefIdeal.sig) → Buf (Elt Ideal) ℓ) : Prop :=
  True

def Pre_DXo (m : (ℓ : Loc Cert.DXo.nD Cert.DXo.τ Cert.DXo.sig) → Buf (Elt Bits) ℓ) : Prop :=
  True

def Pre_DXoIdeal (m : (ℓ : Loc Cert.DXoIdeal.nD Cert.DXoIdeal.τ Cert.DXoIdeal.sig) → Buf (Elt Ideal) ℓ) : Prop :=
  True

def Pre_DXoRefIdeal (m : (ℓ : Loc Cert.DXoRefIdeal.nD Cert.DXoRefIdeal.τ Cert.DXoRefIdeal.sig) → Buf (Elt Ideal) ℓ) : Prop :=
  True

def Pre_DOx (m : (ℓ : Loc Cert.DOx.nD Cert.DOx.τ Cert.DOx.sig) → Buf (Elt Bits) ℓ) : Prop :=
  True

def Pre_DOxIdeal (m : (ℓ : Loc Cert.DOxIdeal.nD Cert.DOxIdeal.τ Cert.DOxIdeal.sig) → Buf (Elt Ideal) ℓ) : Prop :=
  True

def Pre_DOxRefIdeal (m : (ℓ : Loc Cert.DOxRefIdeal.nD Cert.DOxRefIdeal.τ Cert.DOxRefIdeal.sig) → Buf (Elt Ideal) ℓ) : Prop :=
  True

def Pre_DXq (m : (ℓ : Loc Cert.DXq.nD Cert.DXq.τ Cert.DXq.sig) → Buf (Elt Bits) ℓ) : Prop :=
  True

def Pre_DXqIdeal (m : (ℓ : Loc Cert.DXqIdeal.nD Cert.DXqIdeal.τ Cert.DXqIdeal.sig) → Buf (Elt Ideal) ℓ) : Prop :=
  True

def Pre_DXqRefIdeal (m : (ℓ : Loc Cert.DXqRefIdeal.nD Cert.DXqRefIdeal.τ Cert.DXqRefIdeal.sig) → Buf (Elt Ideal) ℓ) : Prop :=
  True

def Pre_DHx (m : (ℓ : Loc Cert.DHx.nD Cert.DHx.τ Cert.DHx.sig) → Buf (Elt Bits) ℓ) : Prop :=
  True

def Pre_DHxIdeal (m : (ℓ : Loc Cert.DHxIdeal.nD Cert.DHxIdeal.τ Cert.DHxIdeal.sig) → Buf (Elt Ideal) ℓ) : Prop :=
  True

def Pre_DHxIdeal_finite_xq [hPre_finite_xq : Cert.Pre_finite_xq.Facts] (m : (ℓ : Loc Cert.DHxIdeal.nD Cert.DHxIdeal.τ Cert.DHxIdeal.sig) → Buf (Elt Ideal) ℓ) : Prop :=
  ∀ c : Dev Cert.DHxIdeal.nD,
    (Cert.Pre_finite_xq.fn (F := Ideal) (m ((c.tc : Thread Cert.DHxIdeal.nD Cert.DHxIdeal.τ).loc Cert.DHxIdeal.main_arg0)) (m ((c.tc : Thread Cert.DHxIdeal.nD Cert.DHxIdeal.τ).loc Cert.DHxIdeal.main_arg1)) (m ((c.tc : Thread Cert.DHxIdeal.nD Cert.DHxIdeal.τ).loc Cert.DHxIdeal.main_arg2)) (m ((c.tc : Thread Cert.DHxIdeal.nD Cert.DHxIdeal.τ).loc Cert.DHxIdeal.main_arg3)) (m ((c.tc : Thread Cert.DHxIdeal.nD Cert.DHxIdeal.τ).loc Cert.DHxIdeal.main_arg4))) = (fun _ => 1#1)

def Pre_DHxRefIdeal (m : (ℓ : Loc Cert.DHxRefIdeal.nD Cert.DHxRefIdeal.τ Cert.DHxRefIdeal.sig) → Buf (Elt Ideal) ℓ) : Prop :=
  True

def Pre_DHxRefIdeal_finite_xq [hPre_finite_xq : Cert.Pre_finite_xq.Facts] (m : (ℓ : Loc Cert.DHxRefIdeal.nD Cert.DHxRefIdeal.τ Cert.DHxRefIdeal.sig) → Buf (Elt Ideal) ℓ) : Prop :=
  ∀ c : Dev Cert.DHxRefIdeal.nD,
    (Cert.Pre_finite_xq.fn (F := Ideal) (m ((c.tc : Thread Cert.DHxRefIdeal.nD Cert.DHxRefIdeal.τ).loc Cert.DHxRefIdeal.main_arg0)) (m ((c.tc : Thread Cert.DHxRefIdeal.nD Cert.DHxRefIdeal.τ).loc Cert.DHxRefIdeal.main_arg1)) (m ((c.tc : Thread Cert.DHxRefIdeal.nD Cert.DHxRefIdeal.τ).loc Cert.DHxRefIdeal.main_arg2)) (m ((c.tc : Thread Cert.DHxRefIdeal.nD Cert.DHxRefIdeal.τ).loc Cert.DHxRefIdeal.main_arg3)) (m ((c.tc : Thread Cert.DHxRefIdeal.nD Cert.DHxRefIdeal.τ).loc Cert.DHxRefIdeal.main_arg4))) = (fun _ => 1#1)

def Pre_DUp (m : (ℓ : Loc Cert.DUp.nD Cert.DUp.τ Cert.DUp.sig) → Buf (Elt Bits) ℓ) : Prop :=
  True

def Pre_DUpIdeal (m : (ℓ : Loc Cert.DUpIdeal.nD Cert.DUpIdeal.τ Cert.DUpIdeal.sig) → Buf (Elt Ideal) ℓ) : Prop :=
  True

def Pre_DUpRefIdeal (m : (ℓ : Loc Cert.DUpRefIdeal.nD Cert.DUpRefIdeal.τ Cert.DUpRefIdeal.sig) → Buf (Elt Ideal) ℓ) : Prop :=
  True

def Pre_DUpGla (m : (ℓ : Loc Cert.DUpGla.nD Cert.DUpGla.τ Cert.DUpGla.sig) → Buf (Elt Bits) ℓ) : Prop :=
  True

def Pre_DUpGlaIdeal (m : (ℓ : Loc Cert.DUpGlaIdeal.nD Cert.DUpGlaIdeal.τ Cert.DUpGlaIdeal.sig) → Buf (Elt Ideal) ℓ) : Prop :=
  True

def Pre_DUpGlaRefIdeal (m : (ℓ : Loc Cert.DUpGlaRefIdeal.nD Cert.DUpGlaRefIdeal.τ Cert.DUpGlaRefIdeal.sig) → Buf (Elt Ideal) ℓ) : Prop :=
  True

def Pre_DUq (m : (ℓ : Loc Cert.DUq.nD Cert.DUq.τ Cert.DUq.sig) → Buf (Elt Bits) ℓ) : Prop :=
  True

def Pre_DUqIdeal (m : (ℓ : Loc Cert.DUqIdeal.nD Cert.DUqIdeal.τ Cert.DUqIdeal.sig) → Buf (Elt Ideal) ℓ) : Prop :=
  True

def Pre_DUqRefIdeal (m : (ℓ : Loc Cert.DUqRefIdeal.nD Cert.DUqRefIdeal.τ Cert.DUqRefIdeal.sig) → Buf (Elt Ideal) ℓ) : Prop :=
  True

def Pre_DCqn (m : (ℓ : Loc Cert.DCqn.nD Cert.DCqn.τ Cert.DCqn.sig) → Buf (Elt Bits) ℓ) : Prop :=
  True

def Pre_DCqnIdeal (m : (ℓ : Loc Cert.DCqnIdeal.nD Cert.DCqnIdeal.τ Cert.DCqnIdeal.sig) → Buf (Elt Ideal) ℓ) : Prop :=
  True

def Pre_DCqnRefIdeal (m : (ℓ : Loc Cert.DCqnRefIdeal.nD Cert.DCqnRefIdeal.τ Cert.DCqnRefIdeal.sig) → Buf (Elt Ideal) ℓ) : Prop :=
  True

def Pre_DUkv (m : (ℓ : Loc Cert.DUkv.nD Cert.DUkv.τ Cert.DUkv.sig) → Buf (Elt Bits) ℓ) : Prop :=
  True

def Pre_DUkvIdeal (m : (ℓ : Loc Cert.DUkvIdeal.nD Cert.DUkvIdeal.τ Cert.DUkvIdeal.sig) → Buf (Elt Ideal) ℓ) : Prop :=
  True

def Pre_DUkvRefIdeal (m : (ℓ : Loc Cert.DUkvRefIdeal.nD Cert.DUkvRefIdeal.τ Cert.DUkvRefIdeal.sig) → Buf (Elt Ideal) ℓ) : Prop :=
  True

def Pre_DCkvn (m : (ℓ : Loc Cert.DCkvn.nD Cert.DCkvn.τ Cert.DCkvn.sig) → Buf (Elt Bits) ℓ) : Prop :=
  True

def Pre_DCkvnIdeal (m : (ℓ : Loc Cert.DCkvnIdeal.nD Cert.DCkvnIdeal.τ Cert.DCkvnIdeal.sig) → Buf (Elt Ideal) ℓ) : Prop :=
  True

def Pre_DCkvnRefIdeal (m : (ℓ : Loc Cert.DCkvnRefIdeal.nD Cert.DCkvnRefIdeal.τ Cert.DCkvnRefIdeal.sig) → Buf (Elt Ideal) ℓ) : Prop :=
  True

def Pre_Mlp1 (m : (ℓ : Loc Cert.Mlp1.nD Cert.Mlp1.τ Cert.Mlp1.sig) → Buf (Elt Bits) ℓ) : Prop :=
  True

def Pre_Mlp1Ideal (m : (ℓ : Loc Cert.Mlp1Ideal.nD Cert.Mlp1Ideal.τ Cert.Mlp1Ideal.sig) → Buf (Elt Ideal) ℓ) : Prop :=
  True

def Pre_Mlp1RefIdeal (m : (ℓ : Loc Cert.Mlp1RefIdeal.nD Cert.Mlp1RefIdeal.τ Cert.Mlp1RefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqRefIdeal (m : (ℓ : Loc Cert.XqRefIdeal.nD Cert.XqRefIdeal.τ Cert.XqRefIdeal.sig) → Buf (Elt Ideal) ℓ) : Prop :=
  True

def Pre_Xkv (m : (ℓ : Loc Cert.Xkv.nD Cert.Xkv.τ Cert.Xkv.sig) → Buf (Elt Bits) ℓ) : Prop :=
  True

def Pre_XkvIdeal (m : (ℓ : Loc Cert.XkvIdeal.nD Cert.XkvIdeal.τ Cert.XkvIdeal.sig) → Buf (Elt Ideal) ℓ) : Prop :=
  True

def Pre_XkvRefIdeal (m : (ℓ : Loc Cert.XkvRefIdeal.nD Cert.XkvRefIdeal.τ Cert.XkvRefIdeal.sig) → Buf (Elt Ideal) ℓ) : Prop :=
  True

def Pre_MlaUq (m : (ℓ : Loc Cert.MlaUq.nD Cert.MlaUq.τ Cert.MlaUq.sig) → Buf (Elt Bits) ℓ) : Prop :=
  True

def Pre_MlaUqIdeal (m : (ℓ : Loc Cert.MlaUqIdeal.nD Cert.MlaUqIdeal.τ Cert.MlaUqIdeal.sig) → Buf (Elt Ideal) ℓ) : Prop :=
  True

def Pre_MlaUqRefIdeal (m : (ℓ : Loc Cert.MlaUqRefIdeal.nD Cert.MlaUqRefIdeal.τ Cert.MlaUqRefIdeal.sig) → Buf (Elt Ideal) ℓ) : Prop :=
  True

def Pre_MlaUkv (m : (ℓ : Loc Cert.MlaUkv.nD Cert.MlaUkv.τ Cert.MlaUkv.sig) → Buf (Elt Bits) ℓ) : Prop :=
  True

def Pre_MlaUkvIdeal (m : (ℓ : Loc Cert.MlaUkvIdeal.nD Cert.MlaUkvIdeal.τ Cert.MlaUkvIdeal.sig) → Buf (Elt Ideal) ℓ) : Prop :=
  True

def Pre_MlaUkvRefIdeal (m : (ℓ : Loc Cert.MlaUkvRefIdeal.nD Cert.MlaUkvRefIdeal.τ Cert.MlaUkvRefIdeal.sig) → Buf (Elt Ideal) ℓ) : Prop :=
  True

def Pre_DXkv (m : (ℓ : Loc Cert.DXkv.nD Cert.DXkv.τ Cert.DXkv.sig) → Buf (Elt Bits) ℓ) : Prop :=
  True

def Pre_DXkvIdeal (m : (ℓ : Loc Cert.DXkvIdeal.nD Cert.DXkvIdeal.τ Cert.DXkvIdeal.sig) → Buf (Elt Ideal) ℓ) : Prop :=
  True

def Pre_DXkvRefIdeal (m : (ℓ : Loc Cert.DXkvRefIdeal.nD Cert.DXkvRefIdeal.τ Cert.DXkvRefIdeal.sig) → Buf (Elt Ideal) ℓ) : Prop :=
  True

def Pre_DMn (m : (ℓ : Loc Cert.DMn.nD Cert.DMn.τ Cert.DMn.sig) → Buf (Elt Bits) ℓ) : Prop :=
  True

def Pre_DMnIdeal (m : (ℓ : Loc Cert.DMnIdeal.nD Cert.DMnIdeal.τ Cert.DMnIdeal.sig) → Buf (Elt Ideal) ℓ) : Prop :=
  True

def Pre_DMnRefIdeal (m : (ℓ : Loc Cert.DMnRefIdeal.nD Cert.DMnRefIdeal.τ Cert.DMnRefIdeal.sig) → Buf (Elt Ideal) ℓ) : Prop :=
  True

def Pre_DMerge (m : (ℓ : Loc Cert.DMerge.nD Cert.DMerge.τ Cert.DMerge.sig) → Buf (Elt Bits) ℓ) : Prop :=
  True

def Pre_DMergeIdeal (m : (ℓ : Loc Cert.DMergeIdeal.nD Cert.DMergeIdeal.τ Cert.DMergeIdeal.sig) → Buf (Elt Ideal) ℓ) : Prop :=
  True

def Pre_DMergeRefIdeal (m : (ℓ : Loc Cert.DMergeRefIdeal.nD Cert.DMergeRefIdeal.τ Cert.DMergeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Mlp2 [hMlp2 : Cert.Mlp2.Facts] : Prop :=
  ∀ (m : (ℓ : Loc Cert.Mlp2.nD Cert.Mlp2.τ Cert.Mlp2.sig) → Buf (Elt Bits) ℓ) (g : Dev Cert.Mlp2.nD → PrngReg), Pre_Mlp2 m →
    θ_run (Cert.Mlp2.defs (F := Bits)) (onTc (τ := Cert.Mlp2.τ) (Cert.Mlp2.main (F := Bits))) ⟨m, fun _ => 0, g⟩ (fun r => (∀ c : Dev Cert.Mlp2.nD,
      r.2.mem ((c.tc : Thread Cert.Mlp2.nD Cert.Mlp2.τ).loc Cert.Mlp2.main_arg0) = m ((c.tc : Thread Cert.Mlp2.nD Cert.Mlp2.τ).loc Cert.Mlp2.main_arg0)
      ∧ r.2.mem ((c.tc : Thread Cert.Mlp2.nD Cert.Mlp2.τ).loc Cert.Mlp2.main_arg1) = m ((c.tc : Thread Cert.Mlp2.nD Cert.Mlp2.τ).loc Cert.Mlp2.main_arg1)
      ∧ r.2.mem ((c.tc : Thread Cert.Mlp2.nD Cert.Mlp2.τ).loc Cert.Mlp2.main_arg2) = m ((c.tc : Thread Cert.Mlp2.nD Cert.Mlp2.τ).loc Cert.Mlp2.main_arg2))
      ∧ r.2.sem = fun _ => 0)

def quiescent_Mlp2Ideal [hMlp2Ideal : Cert.Mlp2Ideal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg), Pre_Mlp2Ideal m →
    θ_run (Cert.Mlp2Ideal.defs (F := Ideal)) (onTc (τ := Cert.Mlp2Ideal.τ) (Cert.Mlp2Ideal.main (F := Ideal))) ⟨m, fun _ => 0, g⟩ (fun r => (∀ c : Dev Cert.Mlp2Ideal.nD,
      r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
      ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1)
      ∧ r.2.mem ((c.tc : Thread Cert.Mlp2Ideal.nD Cert.Mlp2Ideal.τ).loc Cert.Mlp2Ideal.main_arg2) = m ((c.tc : Thread Cert.Mlp2Ideal.nD Cert.Mlp2Ideal.τ).loc Cert.Mlp2Ideal.main_arg2))
      ∧ r.2.sem = fun _ => 0)

def quiescent_Mlp2RefIdeal [hMlp2RefIdeal : Cert.Mlp2RefIdeal.Facts] : Prop :=
  ∀ (m : (ℓ : Loc Cert.Mlp2RefIdeal.nD Cert.Mlp2RefIdeal.τ Cert.Mlp2RefIdeal.sig) → Buf (Elt Ideal) ℓ) (g : Dev Cert.Mlp2RefIdeal.nD → PrngReg), Pre_Mlp2RefIdeal m →
    θ_run (Cert.Mlp2RefIdeal.defs (F := Ideal)) (onTc (τ := Cert.Mlp2RefIdeal.τ) (Cert.Mlp2RefIdeal.main (F := Ideal))) ⟨m, fun _ => 0, g⟩ (fun r => (∀ c : Dev Cert.Mlp2RefIdeal.nD,
      r.2.mem ((c.tc : Thread Cert.Mlp2RefIdeal.nD Cert.Mlp2RefIdeal.τ).loc Cert.Mlp2RefIdeal.main_arg0) = m ((c.tc : Thread Cert.Mlp2RefIdeal.nD Cert.Mlp2RefIdeal.τ).loc Cert.Mlp2RefIdeal.main_arg0)
      ∧ r.2.mem ((c.tc : Thread Cert.Mlp2RefIdeal.nD Cert.Mlp2RefIdeal.τ).loc Cert.Mlp2RefIdeal.main_arg1) = m ((c.tc : Thread Cert.Mlp2RefIdeal.nD Cert.Mlp2RefIdeal.τ).loc Cert.Mlp2RefIdeal.main_arg1)
      ∧ r.2.mem ((c.tc : Thread Cert.Mlp2RefIdeal.nD Cert.Mlp2RefIdeal.τ).loc Cert.Mlp2RefIdeal.main_arg2) = m ((c.tc : Thread Cert.Mlp2RefIdeal.nD Cert.Mlp2RefIdeal.τ).loc Cert.Mlp2RefIdeal.main_arg2))
      ∧ r.2.sem = fun _ => 0)

def quiescent_DMlp2 [hDMlp2 : Cert.DMlp2.Facts] : Prop :=
  ∀ (m : (ℓ : Loc Cert.DMlp2.nD Cert.DMlp2.τ Cert.DMlp2.sig) → Buf (Elt Bits) ℓ) (g : Dev Cert.DMlp2.nD → PrngReg), Pre_DMlp2 m →
    θ_run (Cert.DMlp2.defs (F := Bits)) (onTc (τ := Cert.DMlp2.τ) (Cert.DMlp2.main (F := Bits))) ⟨m, fun _ => 0, g⟩ (fun r => (∀ c : Dev Cert.DMlp2.nD,
      r.2.mem ((c.tc : Thread Cert.DMlp2.nD Cert.DMlp2.τ).loc Cert.DMlp2.main_arg0) = m ((c.tc : Thread Cert.DMlp2.nD Cert.DMlp2.τ).loc Cert.DMlp2.main_arg0)
      ∧ r.2.mem ((c.tc : Thread Cert.DMlp2.nD Cert.DMlp2.τ).loc Cert.DMlp2.main_arg1) = m ((c.tc : Thread Cert.DMlp2.nD Cert.DMlp2.τ).loc Cert.DMlp2.main_arg1))
      ∧ r.2.sem = fun _ => 0)

def quiescent_DMlp2Ideal [hDMlp2Ideal : Cert.DMlp2Ideal.Facts] : Prop :=
  ∀ (m : (ℓ : Loc Cert.DMlp2Ideal.nD Cert.DMlp2Ideal.τ Cert.DMlp2Ideal.sig) → Buf (Elt Ideal) ℓ) (g : Dev Cert.DMlp2Ideal.nD → PrngReg), Pre_DMlp2Ideal m →
    θ_run (Cert.DMlp2Ideal.defs (F := Ideal)) (onTc (τ := Cert.DMlp2Ideal.τ) (Cert.DMlp2Ideal.main (F := Ideal))) ⟨m, fun _ => 0, g⟩ (fun r => (∀ c : Dev Cert.DMlp2Ideal.nD,
      r.2.mem ((c.tc : Thread Cert.DMlp2Ideal.nD Cert.DMlp2Ideal.τ).loc Cert.DMlp2Ideal.main_arg0) = m ((c.tc : Thread Cert.DMlp2Ideal.nD Cert.DMlp2Ideal.τ).loc Cert.DMlp2Ideal.main_arg0)
      ∧ r.2.mem ((c.tc : Thread Cert.DMlp2Ideal.nD Cert.DMlp2Ideal.τ).loc Cert.DMlp2Ideal.main_arg1) = m ((c.tc : Thread Cert.DMlp2Ideal.nD Cert.DMlp2Ideal.τ).loc Cert.DMlp2Ideal.main_arg1))
      ∧ r.2.sem = fun _ => 0)

def quiescent_DMlp2RefIdeal [hDMlp2RefIdeal : Cert.DMlp2RefIdeal.Facts] : Prop :=
  ∀ (m : (ℓ : Loc Cert.DMlp2RefIdeal.nD Cert.DMlp2RefIdeal.τ Cert.DMlp2RefIdeal.sig) → Buf (Elt Ideal) ℓ) (g : Dev Cert.DMlp2RefIdeal.nD → PrngReg), Pre_DMlp2RefIdeal m →
    θ_run (Cert.DMlp2RefIdeal.defs (F := Ideal)) (onTc (τ := Cert.DMlp2RefIdeal.τ) (Cert.DMlp2RefIdeal.main (F := Ideal))) ⟨m, fun _ => 0, g⟩ (fun r => (∀ c : Dev Cert.DMlp2RefIdeal.nD,
      r.2.mem ((c.tc : Thread Cert.DMlp2RefIdeal.nD Cert.DMlp2RefIdeal.τ).loc Cert.DMlp2RefIdeal.main_arg0) = m ((c.tc : Thread Cert.DMlp2RefIdeal.nD Cert.DMlp2RefIdeal.τ).loc Cert.DMlp2RefIdeal.main_arg0)
      ∧ r.2.mem ((c.tc : Thread Cert.DMlp2RefIdeal.nD Cert.DMlp2RefIdeal.τ).loc Cert.DMlp2RefIdeal.main_arg1) = m ((c.tc : Thread Cert.DMlp2RefIdeal.nD Cert.DMlp2RefIdeal.τ).loc Cert.DMlp2RefIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1)
      ∧ r.2.mem ((c.tc : Thread Cert.DAct.nD Cert.DAct.τ).loc Cert.DAct.main_arg2) = m ((c.tc : Thread Cert.DAct.nD Cert.DAct.τ).loc Cert.DAct.main_arg2))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2))
      ∧ r.2.sem = fun _ => 0)

def quiescent_DMlp1 [hDMlp1 : Cert.DMlp1.Facts] : Prop :=
  ∀ (m : (ℓ : Loc Cert.DMlp1.nD Cert.DMlp1.τ Cert.DMlp1.sig) → Buf (Elt Bits) ℓ) (g : Dev Cert.DMlp1.nD → PrngReg), Pre_DMlp1 m →
    θ_run (Cert.DMlp1.defs (F := Bits)) (onTc (τ := Cert.DMlp1.τ) (Cert.DMlp1.main (F := Bits))) ⟨m, fun _ => 0, g⟩ (fun r => (∀ c : Dev Cert.DMlp1.nD,
      r.2.mem ((c.tc : Thread Cert.DMlp1.nD Cert.DMlp1.τ).loc Cert.DMlp1.main_arg0) = m ((c.tc : Thread Cert.DMlp1.nD Cert.DMlp1.τ).loc Cert.DMlp1.main_arg0)
      ∧ r.2.mem ((c.tc : Thread Cert.DMlp1.nD Cert.DMlp1.τ).loc Cert.DMlp1.main_arg1) = m ((c.tc : Thread Cert.DMlp1.nD Cert.DMlp1.τ).loc Cert.DMlp1.main_arg1))
      ∧ r.2.sem = fun _ => 0)

def quiescent_DMlp1Ideal [hDMlp1Ideal : Cert.DMlp1Ideal.Facts] : Prop :=
  ∀ (m : (ℓ : Loc Cert.DMlp1Ideal.nD Cert.DMlp1Ideal.τ Cert.DMlp1Ideal.sig) → Buf (Elt Ideal) ℓ) (g : Dev Cert.DMlp1Ideal.nD → PrngReg), Pre_DMlp1Ideal m →
    θ_run (Cert.DMlp1Ideal.defs (F := Ideal)) (onTc (τ := Cert.DMlp1Ideal.τ) (Cert.DMlp1Ideal.main (F := Ideal))) ⟨m, fun _ => 0, g⟩ (fun r => (∀ c : Dev Cert.DMlp1Ideal.nD,
      r.2.mem ((c.tc : Thread Cert.DMlp1Ideal.nD Cert.DMlp1Ideal.τ).loc Cert.DMlp1Ideal.main_arg0) = m ((c.tc : Thread Cert.DMlp1Ideal.nD Cert.DMlp1Ideal.τ).loc Cert.DMlp1Ideal.main_arg0)
      ∧ r.2.mem ((c.tc : Thread Cert.DMlp1Ideal.nD Cert.DMlp1Ideal.τ).loc Cert.DMlp1Ideal.main_arg1) = m ((c.tc : Thread Cert.DMlp1Ideal.nD Cert.DMlp1Ideal.τ).loc Cert.DMlp1Ideal.main_arg1))
      ∧ r.2.sem = fun _ => 0)

def quiescent_DMlp1RefIdeal [hDMlp1RefIdeal : Cert.DMlp1RefIdeal.Facts] : Prop :=
  ∀ (m : (ℓ : Loc Cert.DMlp1RefIdeal.nD Cert.DMlp1RefIdeal.τ Cert.DMlp1RefIdeal.sig) → Buf (Elt Ideal) ℓ) (g : Dev Cert.DMlp1RefIdeal.nD → PrngReg), Pre_DMlp1RefIdeal m →
    θ_run (Cert.DMlp1RefIdeal.defs (F := Ideal)) (onTc (τ := Cert.DMlp1RefIdeal.τ) (Cert.DMlp1RefIdeal.main (F := Ideal))) ⟨m, fun _ => 0, g⟩ (fun r => (∀ c : Dev Cert.DMlp1RefIdeal.nD,
      r.2.mem ((c.tc : Thread Cert.DMlp1RefIdeal.nD Cert.DMlp1RefIdeal.τ).loc Cert.DMlp1RefIdeal.main_arg0) = m ((c.tc : Thread Cert.DMlp1RefIdeal.nD Cert.DMlp1RefIdeal.τ).loc Cert.DMlp1RefIdeal.main_arg0)
      ∧ r.2.mem ((c.tc : Thread Cert.DMlp1RefIdeal.nD Cert.DMlp1RefIdeal.τ).loc Cert.DMlp1RefIdeal.main_arg1) = m ((c.tc : Thread Cert.DMlp1RefIdeal.nD Cert.DMlp1RefIdeal.τ).loc Cert.DMlp1RefIdeal.main_arg1))
      ∧ r.2.sem = fun _ => 0)

def quiescent_DHm [hDHm : Cert.DHm.Facts] : Prop :=
  ∀ (m : (ℓ : Loc Cert.DHm.nD Cert.DHm.τ Cert.DHm.sig) → Buf (Elt Bits) ℓ) (g : Dev Cert.DHm.nD → PrngReg), Pre_DHm m →
    θ_run (Cert.DHm.defs (F := Bits)) (onTc (τ := Cert.DHm.τ) (Cert.DHm.main (F := Bits))) ⟨m, fun _ => 0, g⟩ (fun r => (∀ c : Dev Cert.DHm.nD,
      r.2.mem ((c.tc : Thread Cert.DHm.nD Cert.DHm.τ).loc Cert.DHm.main_arg0) = m ((c.tc : Thread Cert.DHm.nD Cert.DHm.τ).loc Cert.DHm.main_arg0)
      ∧ r.2.mem ((c.tc : Thread Cert.DHm.nD Cert.DHm.τ).loc Cert.DHm.main_arg1) = m ((c.tc : Thread Cert.DHm.nD Cert.DHm.τ).loc Cert.DHm.main_arg1)
      ∧ r.2.mem ((c.tc : Thread Cert.DHm.nD Cert.DHm.τ).loc Cert.DHm.main_arg2) = m ((c.tc : Thread Cert.DHm.nD Cert.DHm.τ).loc Cert.DHm.main_arg2)
      ∧ r.2.mem ((c.tc : Thread Cert.DHm.nD Cert.DHm.τ).loc Cert.DHm.main_arg3) = m ((c.tc : Thread Cert.DHm.nD Cert.DHm.τ).loc Cert.DHm.main_arg3)
      ∧ r.2.mem ((c.tc : Thread Cert.DHm.nD Cert.DHm.τ).loc Cert.DHm.main_arg4) = m ((c.tc : Thread Cert.DHm.nD Cert.DHm.τ).loc Cert.DHm.main_arg4))
      ∧ r.2.sem = fun _ => 0)

def quiescent_DHmIdeal [hDHmIdeal : Cert.DHmIdeal.Facts] : Prop :=
  ∀ (m : (ℓ : Loc Cert.DHmIdeal.nD Cert.DHmIdeal.τ Cert.DHmIdeal.sig) → Buf (Elt Ideal) ℓ) (g : Dev Cert.DHmIdeal.nD → PrngReg), Pre_DHmIdeal m →
    θ_run (Cert.DHmIdeal.defs (F := Ideal)) (onTc (τ := Cert.DHmIdeal.τ) (Cert.DHmIdeal.main (F := Ideal))) ⟨m, fun _ => 0, g⟩ (fun r => (∀ c : Dev Cert.DHmIdeal.nD,
      r.2.mem ((c.tc : Thread Cert.DHmIdeal.nD Cert.DHmIdeal.τ).loc Cert.DHmIdeal.main_arg0) = m ((c.tc : Thread Cert.DHmIdeal.nD Cert.DHmIdeal.τ).loc Cert.DHmIdeal.main_arg0)
      ∧ r.2.mem ((c.tc : Thread Cert.DHmIdeal.nD Cert.DHmIdeal.τ).loc Cert.DHmIdeal.main_arg1) = m ((c.tc : Thread Cert.DHmIdeal.nD Cert.DHmIdeal.τ).loc Cert.DHmIdeal.main_arg1)
      ∧ r.2.mem ((c.tc : Thread Cert.DHmIdeal.nD Cert.DHmIdeal.τ).loc Cert.DHmIdeal.main_arg2) = m ((c.tc : Thread Cert.DHmIdeal.nD Cert.DHmIdeal.τ).loc Cert.DHmIdeal.main_arg2)
      ∧ r.2.mem ((c.tc : Thread Cert.DHmIdeal.nD Cert.DHmIdeal.τ).loc Cert.DHmIdeal.main_arg3) = m ((c.tc : Thread Cert.DHmIdeal.nD Cert.DHmIdeal.τ).loc Cert.DHmIdeal.main_arg3)
      ∧ r.2.mem ((c.tc : Thread Cert.DHmIdeal.nD Cert.DHmIdeal.τ).loc Cert.DHmIdeal.main_arg4) = m ((c.tc : Thread Cert.DHmIdeal.nD Cert.DHmIdeal.τ).loc Cert.DHmIdeal.main_arg4))
      ∧ r.2.sem = fun _ => 0)

def quiescent_DHmIdeal_pre_finite_mlp [hDHmIdeal : Cert.DHmIdeal.Facts] [hPre_finite_mlp : Cert.Pre_finite_mlp.Facts] : Prop :=
  ∀ (m : (ℓ : Loc Cert.DHmIdeal.nD Cert.DHmIdeal.τ Cert.DHmIdeal.sig) → Buf (Elt Ideal) ℓ) (g : Dev Cert.DHmIdeal.nD → PrngReg), Pre_DHmIdeal_finite_mlp m →
    θ_run (Cert.DHmIdeal.defs (F := Ideal)) (onTc (τ := Cert.DHmIdeal.τ) (Cert.DHmIdeal.main (F := Ideal))) ⟨m, fun _ => 0, g⟩ (fun r => (∀ c : Dev Cert.DHmIdeal.nD,
      r.2.mem ((c.tc : Thread Cert.DHmIdeal.nD Cert.DHmIdeal.τ).loc Cert.DHmIdeal.main_arg0) = m ((c.tc : Thread Cert.DHmIdeal.nD Cert.DHmIdeal.τ).loc Cert.DHmIdeal.main_arg0)
      ∧ r.2.mem ((c.tc : Thread Cert.DHmIdeal.nD Cert.DHmIdeal.τ).loc Cert.DHmIdeal.main_arg1) = m ((c.tc : Thread Cert.DHmIdeal.nD Cert.DHmIdeal.τ).loc Cert.DHmIdeal.main_arg1)
      ∧ r.2.mem ((c.tc : Thread Cert.DHmIdeal.nD Cert.DHmIdeal.τ).loc Cert.DHmIdeal.main_arg2) = m ((c.tc : Thread Cert.DHmIdeal.nD Cert.DHmIdeal.τ).loc Cert.DHmIdeal.main_arg2)
      ∧ r.2.mem ((c.tc : Thread Cert.DHmIdeal.nD Cert.DHmIdeal.τ).loc Cert.DHmIdeal.main_arg3) = m ((c.tc : Thread Cert.DHmIdeal.nD Cert.DHmIdeal.τ).loc Cert.DHmIdeal.main_arg3)
      ∧ r.2.mem ((c.tc : Thread Cert.DHmIdeal.nD Cert.DHmIdeal.τ).loc Cert.DHmIdeal.main_arg4) = m ((c.tc : Thread Cert.DHmIdeal.nD Cert.DHmIdeal.τ).loc Cert.DHmIdeal.main_arg4))
      ∧ r.2.sem = fun _ => 0)

def quiescent_DHmRefIdeal [hDHmRefIdeal : Cert.DHmRefIdeal.Facts] : Prop :=
  ∀ (m : (ℓ : Loc Cert.DHmRefIdeal.nD Cert.DHmRefIdeal.τ Cert.DHmRefIdeal.sig) → Buf (Elt Ideal) ℓ) (g : Dev Cert.DHmRefIdeal.nD → PrngReg), Pre_DHmRefIdeal m →
    θ_run (Cert.DHmRefIdeal.defs (F := Ideal)) (onTc (τ := Cert.DHmRefIdeal.τ) (Cert.DHmRefIdeal.main (F := Ideal))) ⟨m, fun _ => 0, g⟩ (fun r => (∀ c : Dev Cert.DHmRefIdeal.nD,
      r.2.mem ((c.tc : Thread Cert.DHmRefIdeal.nD Cert.DHmRefIdeal.τ).loc Cert.DHmRefIdeal.main_arg0) = m ((c.tc : Thread Cert.DHmRefIdeal.nD Cert.DHmRefIdeal.τ).loc Cert.DHmRefIdeal.main_arg0)
      ∧ r.2.mem ((c.tc : Thread Cert.DHmRefIdeal.nD Cert.DHmRefIdeal.τ).loc Cert.DHmRefIdeal.main_arg1) = m ((c.tc : Thread Cert.DHmRefIdeal.nD Cert.DHmRefIdeal.τ).loc Cert.DHmRefIdeal.main_arg1)
      ∧ r.2.mem ((c.tc : Thread Cert.DHmRefIdeal.nD Cert.DHmRefIdeal.τ).loc Cert.DHmRefIdeal.main_arg2) = m ((c.tc : Thread Cert.DHmRefIdeal.nD Cert.DHmRefIdeal.τ).loc Cert.DHmRefIdeal.main_arg2)
      ∧ r.2.mem ((c.tc : Thread Cert.DHmRefIdeal.nD Cert.DHmRefIdeal.τ).loc Cert.DHmRefIdeal.main_arg3) = m ((c.tc : Thread Cert.DHmRefIdeal.nD Cert.DHmRefIdeal.τ).loc Cert.DHmRefIdeal.main_arg3)
      ∧ r.2.mem ((c.tc : Thread Cert.DHmRefIdeal.nD Cert.DHmRefIdeal.τ).loc Cert.DHmRefIdeal.main_arg4) = m ((c.tc : Thread Cert.DHmRefIdeal.nD Cert.DHmRefIdeal.τ).loc Cert.DHmRefIdeal.main_arg4))
      ∧ r.2.sem = fun _ => 0)

def quiescent_DHmRefIdeal_pre_finite_mlp [hDHmRefIdeal : Cert.DHmRefIdeal.Facts] [hPre_finite_mlp : Cert.Pre_finite_mlp.Facts] : Prop :=
  ∀ (m : (ℓ : Loc Cert.DHmRefIdeal.nD Cert.DHmRefIdeal.τ Cert.DHmRefIdeal.sig) → Buf (Elt Ideal) ℓ) (g : Dev Cert.DHmRefIdeal.nD → PrngReg), Pre_DHmRefIdeal_finite_mlp m →
    θ_run (Cert.DHmRefIdeal.defs (F := Ideal)) (onTc (τ := Cert.DHmRefIdeal.τ) (Cert.DHmRefIdeal.main (F := Ideal))) ⟨m, fun _ => 0, g⟩ (fun r => (∀ c : Dev Cert.DHmRefIdeal.nD,
      r.2.mem ((c.tc : Thread Cert.DHmRefIdeal.nD Cert.DHmRefIdeal.τ).loc Cert.DHmRefIdeal.main_arg0) = m ((c.tc : Thread Cert.DHmRefIdeal.nD Cert.DHmRefIdeal.τ).loc Cert.DHmRefIdeal.main_arg0)
      ∧ r.2.mem ((c.tc : Thread Cert.DHmRefIdeal.nD Cert.DHmRefIdeal.τ).loc Cert.DHmRefIdeal.main_arg1) = m ((c.tc : Thread Cert.DHmRefIdeal.nD Cert.DHmRefIdeal.τ).loc Cert.DHmRefIdeal.main_arg1)
      ∧ r.2.mem ((c.tc : Thread Cert.DHmRefIdeal.nD Cert.DHmRefIdeal.τ).loc Cert.DHmRefIdeal.main_arg2) = m ((c.tc : Thread Cert.DHmRefIdeal.nD Cert.DHmRefIdeal.τ).loc Cert.DHmRefIdeal.main_arg2)
      ∧ r.2.mem ((c.tc : Thread Cert.DHmRefIdeal.nD Cert.DHmRefIdeal.τ).loc Cert.DHmRefIdeal.main_arg3) = m ((c.tc : Thread Cert.DHmRefIdeal.nD Cert.DHmRefIdeal.τ).loc Cert.DHmRefIdeal.main_arg3)
      ∧ r.2.mem ((c.tc : Thread Cert.DHmRefIdeal.nD Cert.DHmRefIdeal.τ).loc Cert.DHmRefIdeal.main_arg4) = m ((c.tc : Thread Cert.DHmRefIdeal.nD Cert.DHmRefIdeal.τ).loc Cert.DHmRefIdeal.main_arg4))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1))
      ∧ r.2.sem = fun _ => 0)

def quiescent_InC [hInC : Cert.InC.Facts] : Prop :=
  ∀ (m : (ℓ : Loc Cert.InC.nD Cert.InC.τ Cert.InC.sig) → Buf (Elt Bits) ℓ) (g : Dev Cert.InC.nD → PrngReg), Pre_InC m →
    θ_run (Cert.InC.defs (F := Bits)) (onTc (τ := Cert.InC.τ) (Cert.InC.main (F := Bits))) ⟨m, fun _ => 0, g⟩ (fun r => (∀ c : Dev Cert.InC.nD,
      r.2.mem ((c.tc : Thread Cert.InC.nD Cert.InC.τ).loc Cert.InC.main_arg0) = m ((c.tc : Thread Cert.InC.nD Cert.InC.τ).loc Cert.InC.main_arg0)
      ∧ r.2.mem ((c.tc : Thread Cert.InC.nD Cert.InC.τ).loc Cert.InC.main_arg1) = m ((c.tc : Thread Cert.InC.nD Cert.InC.τ).loc Cert.InC.main_arg1))
      ∧ r.2.sem = fun _ => 0)

def quiescent_InCIdeal [hInCIdeal : Cert.InCIdeal.Facts] : Prop :=
  ∀ (m : (ℓ : Loc Cert.InCIdeal.nD Cert.InCIdeal.τ Cert.InCIdeal.sig) → Buf (Elt Ideal) ℓ) (g : Dev Cert.InCIdeal.nD → PrngReg), Pre_InCIdeal m →
    θ_run (Cert.InCIdeal.defs (F := Ideal)) (onTc (τ := Cert.InCIdeal.τ) (Cert.InCIdeal.main (F := Ideal))) ⟨m, fun _ => 0, g⟩ (fun r => (∀ c : Dev Cert.InCIdeal.nD,
      r.2.mem ((c.tc : Thread Cert.InCIdeal.nD Cert.InCIdeal.τ).loc Cert.InCIdeal.main_arg0) = m ((c.tc : Thread Cert.InCIdeal.nD Cert.InCIdeal.τ).loc Cert.InCIdeal.main_arg0)
      ∧ r.2.mem ((c.tc : Thread Cert.InCIdeal.nD Cert.InCIdeal.τ).loc Cert.InCIdeal.main_arg1) = m ((c.tc : Thread Cert.InCIdeal.nD Cert.InCIdeal.τ).loc Cert.InCIdeal.main_arg1))
      ∧ r.2.sem = fun _ => 0)

def quiescent_InCRefIdeal [hInCRefIdeal : Cert.InCRefIdeal.Facts] : Prop :=
  ∀ (m : (ℓ : Loc Cert.InCRefIdeal.nD Cert.InCRefIdeal.τ Cert.InCRefIdeal.sig) → Buf (Elt Ideal) ℓ) (g : Dev Cert.InCRefIdeal.nD → PrngReg), Pre_InCRefIdeal m →
    θ_run (Cert.InCRefIdeal.defs (F := Ideal)) (onTc (τ := Cert.InCRefIdeal.τ) (Cert.InCRefIdeal.main (F := Ideal))) ⟨m, fun _ => 0, g⟩ (fun r => (∀ c : Dev Cert.InCRefIdeal.nD,
      r.2.mem ((c.tc : Thread Cert.InCRefIdeal.nD Cert.InCRefIdeal.τ).loc Cert.InCRefIdeal.main_arg0) = m ((c.tc : Thread Cert.InCRefIdeal.nD Cert.InCRefIdeal.τ).loc Cert.InCRefIdeal.main_arg0)
      ∧ r.2.mem ((c.tc : Thread Cert.InCRefIdeal.nD Cert.InCRefIdeal.τ).loc Cert.InCRefIdeal.main_arg1) = m ((c.tc : Thread Cert.InCRefIdeal.nD Cert.InCRefIdeal.τ).loc Cert.InCRefIdeal.main_arg1))
      ∧ r.2.sem = fun _ => 0)

def quiescent_DInA [hDInA : Cert.DInA.Facts] : Prop :=
  ∀ (m : (ℓ : Loc Cert.DInA.nD Cert.DInA.τ Cert.DInA.sig) → Buf (Elt Bits) ℓ) (g : Dev Cert.DInA.nD → PrngReg), Pre_DInA m →
    θ_run (Cert.DInA.defs (F := Bits)) (onTc (τ := Cert.DInA.τ) (Cert.DInA.main (F := Bits))) ⟨m, fun _ => 0, g⟩ (fun r => (∀ c : Dev Cert.DInA.nD,
      r.2.mem ((c.tc : Thread Cert.DInA.nD Cert.DInA.τ).loc Cert.DInA.main_arg0) = m ((c.tc : Thread Cert.DInA.nD Cert.DInA.τ).loc Cert.DInA.main_arg0)
      ∧ r.2.mem ((c.tc : Thread Cert.DInA.nD Cert.DInA.τ).loc Cert.DInA.main_arg1) = m ((c.tc : Thread Cert.DInA.nD Cert.DInA.τ).loc Cert.DInA.main_arg1))
      ∧ r.2.sem = fun _ => 0)

def quiescent_DInAIdeal [hDInAIdeal : Cert.DInAIdeal.Facts] : Prop :=
  ∀ (m : (ℓ : Loc Cert.DInAIdeal.nD Cert.DInAIdeal.τ Cert.DInAIdeal.sig) → Buf (Elt Ideal) ℓ) (g : Dev Cert.DInAIdeal.nD → PrngReg), Pre_DInAIdeal m →
    θ_run (Cert.DInAIdeal.defs (F := Ideal)) (onTc (τ := Cert.DInAIdeal.τ) (Cert.DInAIdeal.main (F := Ideal))) ⟨m, fun _ => 0, g⟩ (fun r => (∀ c : Dev Cert.DInAIdeal.nD,
      r.2.mem ((c.tc : Thread Cert.DInAIdeal.nD Cert.DInAIdeal.τ).loc Cert.DInAIdeal.main_arg0) = m ((c.tc : Thread Cert.DInAIdeal.nD Cert.DInAIdeal.τ).loc Cert.DInAIdeal.main_arg0)
      ∧ r.2.mem ((c.tc : Thread Cert.DInAIdeal.nD Cert.DInAIdeal.τ).loc Cert.DInAIdeal.main_arg1) = m ((c.tc : Thread Cert.DInAIdeal.nD Cert.DInAIdeal.τ).loc Cert.DInAIdeal.main_arg1))
      ∧ r.2.sem = fun _ => 0)

def quiescent_DInARefIdeal [hDInARefIdeal : Cert.DInARefIdeal.Facts] : Prop :=
  ∀ (m : (ℓ : Loc Cert.DInARefIdeal.nD Cert.DInARefIdeal.τ Cert.DInARefIdeal.sig) → Buf (Elt Ideal) ℓ) (g : Dev Cert.DInARefIdeal.nD → PrngReg), Pre_DInARefIdeal m →
    θ_run (Cert.DInARefIdeal.defs (F := Ideal)) (onTc (τ := Cert.DInARefIdeal.τ) (Cert.DInARefIdeal.main (F := Ideal))) ⟨m, fun _ => 0, g⟩ (fun r => (∀ c : Dev Cert.DInARefIdeal.nD,
      r.2.mem ((c.tc : Thread Cert.DInARefIdeal.nD Cert.DInARefIdeal.τ).loc Cert.DInARefIdeal.main_arg0) = m ((c.tc : Thread Cert.DInARefIdeal.nD Cert.DInARefIdeal.τ).loc Cert.DInARefIdeal.main_arg0)
      ∧ r.2.mem ((c.tc : Thread Cert.DInARefIdeal.nD Cert.DInARefIdeal.τ).loc Cert.DInARefIdeal.main_arg1) = m ((c.tc : Thread Cert.DInARefIdeal.nD Cert.DInARefIdeal.τ).loc Cert.DInARefIdeal.main_arg1))
      ∧ r.2.sem = fun _ => 0)

def quiescent_DInB [hDInB : Cert.DInB.Facts] : Prop :=
  ∀ (m : (ℓ : Loc Cert.DInB.nD Cert.DInB.τ Cert.DInB.sig) → Buf (Elt Bits) ℓ) (g : Dev Cert.DInB.nD → PrngReg), Pre_DInB m →
    θ_run (Cert.DInB.defs (F := Bits)) (onTc (τ := Cert.DInB.τ) (Cert.DInB.main (F := Bits))) ⟨m, fun _ => 0, g⟩ (fun r => (∀ c : Dev Cert.DInB.nD,
      r.2.mem ((c.tc : Thread Cert.DInB.nD Cert.DInB.τ).loc Cert.DInB.main_arg0) = m ((c.tc : Thread Cert.DInB.nD Cert.DInB.τ).loc Cert.DInB.main_arg0)
      ∧ r.2.mem ((c.tc : Thread Cert.DInB.nD Cert.DInB.τ).loc Cert.DInB.main_arg1) = m ((c.tc : Thread Cert.DInB.nD Cert.DInB.τ).loc Cert.DInB.main_arg1))
      ∧ r.2.sem = fun _ => 0)

def quiescent_DInBIdeal [hDInBIdeal : Cert.DInBIdeal.Facts] : Prop :=
  ∀ (m : (ℓ : Loc Cert.DInBIdeal.nD Cert.DInBIdeal.τ Cert.DInBIdeal.sig) → Buf (Elt Ideal) ℓ) (g : Dev Cert.DInBIdeal.nD → PrngReg), Pre_DInBIdeal m →
    θ_run (Cert.DInBIdeal.defs (F := Ideal)) (onTc (τ := Cert.DInBIdeal.τ) (Cert.DInBIdeal.main (F := Ideal))) ⟨m, fun _ => 0, g⟩ (fun r => (∀ c : Dev Cert.DInBIdeal.nD,
      r.2.mem ((c.tc : Thread Cert.DInBIdeal.nD Cert.DInBIdeal.τ).loc Cert.DInBIdeal.main_arg0) = m ((c.tc : Thread Cert.DInBIdeal.nD Cert.DInBIdeal.τ).loc Cert.DInBIdeal.main_arg0)
      ∧ r.2.mem ((c.tc : Thread Cert.DInBIdeal.nD Cert.DInBIdeal.τ).loc Cert.DInBIdeal.main_arg1) = m ((c.tc : Thread Cert.DInBIdeal.nD Cert.DInBIdeal.τ).loc Cert.DInBIdeal.main_arg1))
      ∧ r.2.sem = fun _ => 0)

def quiescent_DInBRefIdeal [hDInBRefIdeal : Cert.DInBRefIdeal.Facts] : Prop :=
  ∀ (m : (ℓ : Loc Cert.DInBRefIdeal.nD Cert.DInBRefIdeal.τ Cert.DInBRefIdeal.sig) → Buf (Elt Ideal) ℓ) (g : Dev Cert.DInBRefIdeal.nD → PrngReg), Pre_DInBRefIdeal m →
    θ_run (Cert.DInBRefIdeal.defs (F := Ideal)) (onTc (τ := Cert.DInBRefIdeal.τ) (Cert.DInBRefIdeal.main (F := Ideal))) ⟨m, fun _ => 0, g⟩ (fun r => (∀ c : Dev Cert.DInBRefIdeal.nD,
      r.2.mem ((c.tc : Thread Cert.DInBRefIdeal.nD Cert.DInBRefIdeal.τ).loc Cert.DInBRefIdeal.main_arg0) = m ((c.tc : Thread Cert.DInBRefIdeal.nD Cert.DInBRefIdeal.τ).loc Cert.DInBRefIdeal.main_arg0)
      ∧ r.2.mem ((c.tc : Thread Cert.DInBRefIdeal.nD Cert.DInBRefIdeal.τ).loc Cert.DInBRefIdeal.main_arg1) = m ((c.tc : Thread Cert.DInBRefIdeal.nD Cert.DInBRefIdeal.τ).loc Cert.DInBRefIdeal.main_arg1))
      ∧ r.2.sem = fun _ => 0)

def quiescent_DInC [hDInC : Cert.DInC.Facts] : Prop :=
  ∀ (m : (ℓ : Loc Cert.DInC.nD Cert.DInC.τ Cert.DInC.sig) → Buf (Elt Bits) ℓ) (g : Dev Cert.DInC.nD → PrngReg), Pre_DInC m →
    θ_run (Cert.DInC.defs (F := Bits)) (onTc (τ := Cert.DInC.τ) (Cert.DInC.main (F := Bits))) ⟨m, fun _ => 0, g⟩ (fun r => (∀ c : Dev Cert.DInC.nD,
      r.2.mem ((c.tc : Thread Cert.DInC.nD Cert.DInC.τ).loc Cert.DInC.main_arg0) = m ((c.tc : Thread Cert.DInC.nD Cert.DInC.τ).loc Cert.DInC.main_arg0)
      ∧ r.2.mem ((c.tc : Thread Cert.DInC.nD Cert.DInC.τ).loc Cert.DInC.main_arg1) = m ((c.tc : Thread Cert.DInC.nD Cert.DInC.τ).loc Cert.DInC.main_arg1))
      ∧ r.2.sem = fun _ => 0)

def quiescent_DInCIdeal [hDInCIdeal : Cert.DInCIdeal.Facts] : Prop :=
  ∀ (m : (ℓ : Loc Cert.DInCIdeal.nD Cert.DInCIdeal.τ Cert.DInCIdeal.sig) → Buf (Elt Ideal) ℓ) (g : Dev Cert.DInCIdeal.nD → PrngReg), Pre_DInCIdeal m →
    θ_run (Cert.DInCIdeal.defs (F := Ideal)) (onTc (τ := Cert.DInCIdeal.τ) (Cert.DInCIdeal.main (F := Ideal))) ⟨m, fun _ => 0, g⟩ (fun r => (∀ c : Dev Cert.DInCIdeal.nD,
      r.2.mem ((c.tc : Thread Cert.DInCIdeal.nD Cert.DInCIdeal.τ).loc Cert.DInCIdeal.main_arg0) = m ((c.tc : Thread Cert.DInCIdeal.nD Cert.DInCIdeal.τ).loc Cert.DInCIdeal.main_arg0)
      ∧ r.2.mem ((c.tc : Thread Cert.DInCIdeal.nD Cert.DInCIdeal.τ).loc Cert.DInCIdeal.main_arg1) = m ((c.tc : Thread Cert.DInCIdeal.nD Cert.DInCIdeal.τ).loc Cert.DInCIdeal.main_arg1))
      ∧ r.2.sem = fun _ => 0)

def quiescent_DInCRefIdeal [hDInCRefIdeal : Cert.DInCRefIdeal.Facts] : Prop :=
  ∀ (m : (ℓ : Loc Cert.DInCRefIdeal.nD Cert.DInCRefIdeal.τ Cert.DInCRefIdeal.sig) → Buf (Elt Ideal) ℓ) (g : Dev Cert.DInCRefIdeal.nD → PrngReg), Pre_DInCRefIdeal m →
    θ_run (Cert.DInCRefIdeal.defs (F := Ideal)) (onTc (τ := Cert.DInCRefIdeal.τ) (Cert.DInCRefIdeal.main (F := Ideal))) ⟨m, fun _ => 0, g⟩ (fun r => (∀ c : Dev Cert.DInCRefIdeal.nD,
      r.2.mem ((c.tc : Thread Cert.DInCRefIdeal.nD Cert.DInCRefIdeal.τ).loc Cert.DInCRefIdeal.main_arg0) = m ((c.tc : Thread Cert.DInCRefIdeal.nD Cert.DInCRefIdeal.τ).loc Cert.DInCRefIdeal.main_arg0)
      ∧ r.2.mem ((c.tc : Thread Cert.DInCRefIdeal.nD Cert.DInCRefIdeal.τ).loc Cert.DInCRefIdeal.main_arg1) = m ((c.tc : Thread Cert.DInCRefIdeal.nD Cert.DInCRefIdeal.τ).loc Cert.DInCRefIdeal.main_arg1))
      ∧ r.2.sem = fun _ => 0)

def quiescent_DHa [hDHa : Cert.DHa.Facts] : Prop :=
  ∀ (m : (ℓ : Loc Cert.DHa.nD Cert.DHa.τ Cert.DHa.sig) → Buf (Elt Bits) ℓ) (g : Dev Cert.DHa.nD → PrngReg), Pre_DHa m →
    θ_run (Cert.DHa.defs (F := Bits)) (onTc (τ := Cert.DHa.τ) (Cert.DHa.main (F := Bits))) ⟨m, fun _ => 0, g⟩ (fun r => (∀ c : Dev Cert.DHa.nD,
      r.2.mem ((c.tc : Thread Cert.DHa.nD Cert.DHa.τ).loc Cert.DHa.main_arg0) = m ((c.tc : Thread Cert.DHa.nD Cert.DHa.τ).loc Cert.DHa.main_arg0)
      ∧ r.2.mem ((c.tc : Thread Cert.DHa.nD Cert.DHa.τ).loc Cert.DHa.main_arg1) = m ((c.tc : Thread Cert.DHa.nD Cert.DHa.τ).loc Cert.DHa.main_arg1))
      ∧ r.2.sem = fun _ => 0)

def quiescent_DHaIdeal [hDHaIdeal : Cert.DHaIdeal.Facts] : Prop :=
  ∀ (m : (ℓ : Loc Cert.DHaIdeal.nD Cert.DHaIdeal.τ Cert.DHaIdeal.sig) → Buf (Elt Ideal) ℓ) (g : Dev Cert.DHaIdeal.nD → PrngReg), Pre_DHaIdeal m →
    θ_run (Cert.DHaIdeal.defs (F := Ideal)) (onTc (τ := Cert.DHaIdeal.τ) (Cert.DHaIdeal.main (F := Ideal))) ⟨m, fun _ => 0, g⟩ (fun r => (∀ c : Dev Cert.DHaIdeal.nD,
      r.2.mem ((c.tc : Thread Cert.DHaIdeal.nD Cert.DHaIdeal.τ).loc Cert.DHaIdeal.main_arg0) = m ((c.tc : Thread Cert.DHaIdeal.nD Cert.DHaIdeal.τ).loc Cert.DHaIdeal.main_arg0)
      ∧ r.2.mem ((c.tc : Thread Cert.DHaIdeal.nD Cert.DHaIdeal.τ).loc Cert.DHaIdeal.main_arg1) = m ((c.tc : Thread Cert.DHaIdeal.nD Cert.DHaIdeal.τ).loc Cert.DHaIdeal.main_arg1))
      ∧ r.2.sem = fun _ => 0)

def quiescent_DHaRefIdeal [hDHaRefIdeal : Cert.DHaRefIdeal.Facts] : Prop :=
  ∀ (m : (ℓ : Loc Cert.DHaRefIdeal.nD Cert.DHaRefIdeal.τ Cert.DHaRefIdeal.sig) → Buf (Elt Ideal) ℓ) (g : Dev Cert.DHaRefIdeal.nD → PrngReg), Pre_DHaRefIdeal m →
    θ_run (Cert.DHaRefIdeal.defs (F := Ideal)) (onTc (τ := Cert.DHaRefIdeal.τ) (Cert.DHaRefIdeal.main (F := Ideal))) ⟨m, fun _ => 0, g⟩ (fun r => (∀ c : Dev Cert.DHaRefIdeal.nD,
      r.2.mem ((c.tc : Thread Cert.DHaRefIdeal.nD Cert.DHaRefIdeal.τ).loc Cert.DHaRefIdeal.main_arg0) = m ((c.tc : Thread Cert.DHaRefIdeal.nD Cert.DHaRefIdeal.τ).loc Cert.DHaRefIdeal.main_arg0)
      ∧ r.2.mem ((c.tc : Thread Cert.DHaRefIdeal.nD Cert.DHaRefIdeal.τ).loc Cert.DHaRefIdeal.main_arg1) = m ((c.tc : Thread Cert.DHaRefIdeal.nD Cert.DHaRefIdeal.τ).loc Cert.DHaRefIdeal.main_arg1))
      ∧ r.2.sem = fun _ => 0)

def quiescent_DHb [hDHb : Cert.DHb.Facts] : Prop :=
  ∀ (m : (ℓ : Loc Cert.DHb.nD Cert.DHb.τ Cert.DHb.sig) → Buf (Elt Bits) ℓ) (g : Dev Cert.DHb.nD → PrngReg), Pre_DHb m →
    θ_run (Cert.DHb.defs (F := Bits)) (onTc (τ := Cert.DHb.τ) (Cert.DHb.main (F := Bits))) ⟨m, fun _ => 0, g⟩ (fun r => (∀ c : Dev Cert.DHb.nD,
      r.2.mem ((c.tc : Thread Cert.DHb.nD Cert.DHb.τ).loc Cert.DHb.main_arg0) = m ((c.tc : Thread Cert.DHb.nD Cert.DHb.τ).loc Cert.DHb.main_arg0)
      ∧ r.2.mem ((c.tc : Thread Cert.DHb.nD Cert.DHb.τ).loc Cert.DHb.main_arg1) = m ((c.tc : Thread Cert.DHb.nD Cert.DHb.τ).loc Cert.DHb.main_arg1)
      ∧ r.2.mem ((c.tc : Thread Cert.DHb.nD Cert.DHb.τ).loc Cert.DHb.main_arg2) = m ((c.tc : Thread Cert.DHb.nD Cert.DHb.τ).loc Cert.DHb.main_arg2))
      ∧ r.2.sem = fun _ => 0)

def quiescent_DHbIdeal [hDHbIdeal : Cert.DHbIdeal.Facts] : Prop :=
  ∀ (m : (ℓ : Loc Cert.DHbIdeal.nD Cert.DHbIdeal.τ Cert.DHbIdeal.sig) → Buf (Elt Ideal) ℓ) (g : Dev Cert.DHbIdeal.nD → PrngReg), Pre_DHbIdeal m →
    θ_run (Cert.DHbIdeal.defs (F := Ideal)) (onTc (τ := Cert.DHbIdeal.τ) (Cert.DHbIdeal.main (F := Ideal))) ⟨m, fun _ => 0, g⟩ (fun r => (∀ c : Dev Cert.DHbIdeal.nD,
      r.2.mem ((c.tc : Thread Cert.DHbIdeal.nD Cert.DHbIdeal.τ).loc Cert.DHbIdeal.main_arg0) = m ((c.tc : Thread Cert.DHbIdeal.nD Cert.DHbIdeal.τ).loc Cert.DHbIdeal.main_arg0)
      ∧ r.2.mem ((c.tc : Thread Cert.DHbIdeal.nD Cert.DHbIdeal.τ).loc Cert.DHbIdeal.main_arg1) = m ((c.tc : Thread Cert.DHbIdeal.nD Cert.DHbIdeal.τ).loc Cert.DHbIdeal.main_arg1)
      ∧ r.2.mem ((c.tc : Thread Cert.DHbIdeal.nD Cert.DHbIdeal.τ).loc Cert.DHbIdeal.main_arg2) = m ((c.tc : Thread Cert.DHbIdeal.nD Cert.DHbIdeal.τ).loc Cert.DHbIdeal.main_arg2))
      ∧ r.2.sem = fun _ => 0)

def quiescent_DHbRefIdeal [hDHbRefIdeal : Cert.DHbRefIdeal.Facts] : Prop :=
  ∀ (m : (ℓ : Loc Cert.DHbRefIdeal.nD Cert.DHbRefIdeal.τ Cert.DHbRefIdeal.sig) → Buf (Elt Ideal) ℓ) (g : Dev Cert.DHbRefIdeal.nD → PrngReg), Pre_DHbRefIdeal m →
    θ_run (Cert.DHbRefIdeal.defs (F := Ideal)) (onTc (τ := Cert.DHbRefIdeal.τ) (Cert.DHbRefIdeal.main (F := Ideal))) ⟨m, fun _ => 0, g⟩ (fun r => (∀ c : Dev Cert.DHbRefIdeal.nD,
      r.2.mem ((c.tc : Thread Cert.DHbRefIdeal.nD Cert.DHbRefIdeal.τ).loc Cert.DHbRefIdeal.main_arg0) = m ((c.tc : Thread Cert.DHbRefIdeal.nD Cert.DHbRefIdeal.τ).loc Cert.DHbRefIdeal.main_arg0)
      ∧ r.2.mem ((c.tc : Thread Cert.DHbRefIdeal.nD Cert.DHbRefIdeal.τ).loc Cert.DHbRefIdeal.main_arg1) = m ((c.tc : Thread Cert.DHbRefIdeal.nD Cert.DHbRefIdeal.τ).loc Cert.DHbRefIdeal.main_arg1)
      ∧ r.2.mem ((c.tc : Thread Cert.DHbRefIdeal.nD Cert.DHbRefIdeal.τ).loc Cert.DHbRefIdeal.main_arg2) = m ((c.tc : Thread Cert.DHbRefIdeal.nD Cert.DHbRefIdeal.τ).loc Cert.DHbRefIdeal.main_arg2))
      ∧ r.2.sem = fun _ => 0)

def quiescent_DHc [hDHc : Cert.DHc.Facts] : Prop :=
  ∀ (m : (ℓ : Loc Cert.DHc.nD Cert.DHc.τ Cert.DHc.sig) → Buf (Elt Bits) ℓ) (g : Dev Cert.DHc.nD → PrngReg), Pre_DHc m →
    θ_run (Cert.DHc.defs (F := Bits)) (onTc (τ := Cert.DHc.τ) (Cert.DHc.main (F := Bits))) ⟨m, fun _ => 0, g⟩ (fun r => (∀ c : Dev Cert.DHc.nD,
      r.2.mem ((c.tc : Thread Cert.DHc.nD Cert.DHc.τ).loc Cert.DHc.main_arg0) = m ((c.tc : Thread Cert.DHc.nD Cert.DHc.τ).loc Cert.DHc.main_arg0)
      ∧ r.2.mem ((c.tc : Thread Cert.DHc.nD Cert.DHc.τ).loc Cert.DHc.main_arg1) = m ((c.tc : Thread Cert.DHc.nD Cert.DHc.τ).loc Cert.DHc.main_arg1)
      ∧ r.2.mem ((c.tc : Thread Cert.DHc.nD Cert.DHc.τ).loc Cert.DHc.main_arg2) = m ((c.tc : Thread Cert.DHc.nD Cert.DHc.τ).loc Cert.DHc.main_arg2)
      ∧ r.2.mem ((c.tc : Thread Cert.DHc.nD Cert.DHc.τ).loc Cert.DHc.main_arg3) = m ((c.tc : Thread Cert.DHc.nD Cert.DHc.τ).loc Cert.DHc.main_arg3)
      ∧ r.2.mem ((c.tc : Thread Cert.DHc.nD Cert.DHc.τ).loc Cert.DHc.main_arg4) = m ((c.tc : Thread Cert.DHc.nD Cert.DHc.τ).loc Cert.DHc.main_arg4)
      ∧ r.2.mem ((c.tc : Thread Cert.DHc.nD Cert.DHc.τ).loc Cert.DHc.main_arg5) = m ((c.tc : Thread Cert.DHc.nD Cert.DHc.τ).loc Cert.DHc.main_arg5))
      ∧ r.2.sem = fun _ => 0)

def quiescent_DHcIdeal [hDHcIdeal : Cert.DHcIdeal.Facts] : Prop :=
  ∀ (m : (ℓ : Loc Cert.DHcIdeal.nD Cert.DHcIdeal.τ Cert.DHcIdeal.sig) → Buf (Elt Ideal) ℓ) (g : Dev Cert.DHcIdeal.nD → PrngReg), Pre_DHcIdeal m →
    θ_run (Cert.DHcIdeal.defs (F := Ideal)) (onTc (τ := Cert.DHcIdeal.τ) (Cert.DHcIdeal.main (F := Ideal))) ⟨m, fun _ => 0, g⟩ (fun r => (∀ c : Dev Cert.DHcIdeal.nD,
      r.2.mem ((c.tc : Thread Cert.DHcIdeal.nD Cert.DHcIdeal.τ).loc Cert.DHcIdeal.main_arg0) = m ((c.tc : Thread Cert.DHcIdeal.nD Cert.DHcIdeal.τ).loc Cert.DHcIdeal.main_arg0)
      ∧ r.2.mem ((c.tc : Thread Cert.DHcIdeal.nD Cert.DHcIdeal.τ).loc Cert.DHcIdeal.main_arg1) = m ((c.tc : Thread Cert.DHcIdeal.nD Cert.DHcIdeal.τ).loc Cert.DHcIdeal.main_arg1)
      ∧ r.2.mem ((c.tc : Thread Cert.DHcIdeal.nD Cert.DHcIdeal.τ).loc Cert.DHcIdeal.main_arg2) = m ((c.tc : Thread Cert.DHcIdeal.nD Cert.DHcIdeal.τ).loc Cert.DHcIdeal.main_arg2)
      ∧ r.2.mem ((c.tc : Thread Cert.DHcIdeal.nD Cert.DHcIdeal.τ).loc Cert.DHcIdeal.main_arg3) = m ((c.tc : Thread Cert.DHcIdeal.nD Cert.DHcIdeal.τ).loc Cert.DHcIdeal.main_arg3)
      ∧ r.2.mem ((c.tc : Thread Cert.DHcIdeal.nD Cert.DHcIdeal.τ).loc Cert.DHcIdeal.main_arg4) = m ((c.tc : Thread Cert.DHcIdeal.nD Cert.DHcIdeal.τ).loc Cert.DHcIdeal.main_arg4)
      ∧ r.2.mem ((c.tc : Thread Cert.DHcIdeal.nD Cert.DHcIdeal.τ).loc Cert.DHcIdeal.main_arg5) = m ((c.tc : Thread Cert.DHcIdeal.nD Cert.DHcIdeal.τ).loc Cert.DHcIdeal.main_arg5))
      ∧ r.2.sem = fun _ => 0)

def quiescent_DHcIdeal_pre_finite_mix [hDHcIdeal : Cert.DHcIdeal.Facts] [hPre_finite_mix : Cert.Pre_finite_mix.Facts] : Prop :=
  ∀ (m : (ℓ : Loc Cert.DHcIdeal.nD Cert.DHcIdeal.τ Cert.DHcIdeal.sig) → Buf (Elt Ideal) ℓ) (g : Dev Cert.DHcIdeal.nD → PrngReg), Pre_DHcIdeal_finite_mix m →
    θ_run (Cert.DHcIdeal.defs (F := Ideal)) (onTc (τ := Cert.DHcIdeal.τ) (Cert.DHcIdeal.main (F := Ideal))) ⟨m, fun _ => 0, g⟩ (fun r => (∀ c : Dev Cert.DHcIdeal.nD,
      r.2.mem ((c.tc : Thread Cert.DHcIdeal.nD Cert.DHcIdeal.τ).loc Cert.DHcIdeal.main_arg0) = m ((c.tc : Thread Cert.DHcIdeal.nD Cert.DHcIdeal.τ).loc Cert.DHcIdeal.main_arg0)
      ∧ r.2.mem ((c.tc : Thread Cert.DHcIdeal.nD Cert.DHcIdeal.τ).loc Cert.DHcIdeal.main_arg1) = m ((c.tc : Thread Cert.DHcIdeal.nD Cert.DHcIdeal.τ).loc Cert.DHcIdeal.main_arg1)
      ∧ r.2.mem ((c.tc : Thread Cert.DHcIdeal.nD Cert.DHcIdeal.τ).loc Cert.DHcIdeal.main_arg2) = m ((c.tc : Thread Cert.DHcIdeal.nD Cert.DHcIdeal.τ).loc Cert.DHcIdeal.main_arg2)
      ∧ r.2.mem ((c.tc : Thread Cert.DHcIdeal.nD Cert.DHcIdeal.τ).loc Cert.DHcIdeal.main_arg3) = m ((c.tc : Thread Cert.DHcIdeal.nD Cert.DHcIdeal.τ).loc Cert.DHcIdeal.main_arg3)
      ∧ r.2.mem ((c.tc : Thread Cert.DHcIdeal.nD Cert.DHcIdeal.τ).loc Cert.DHcIdeal.main_arg4) = m ((c.tc : Thread Cert.DHcIdeal.nD Cert.DHcIdeal.τ).loc Cert.DHcIdeal.main_arg4)
      ∧ r.2.mem ((c.tc : Thread Cert.DHcIdeal.nD Cert.DHcIdeal.τ).loc Cert.DHcIdeal.main_arg5) = m ((c.tc : Thread Cert.DHcIdeal.nD Cert.DHcIdeal.τ).loc Cert.DHcIdeal.main_arg5))
      ∧ r.2.sem = fun _ => 0)

def quiescent_DHcRefIdeal [hDHcRefIdeal : Cert.DHcRefIdeal.Facts] : Prop :=
  ∀ (m : (ℓ : Loc Cert.DHcRefIdeal.nD Cert.DHcRefIdeal.τ Cert.DHcRefIdeal.sig) → Buf (Elt Ideal) ℓ) (g : Dev Cert.DHcRefIdeal.nD → PrngReg), Pre_DHcRefIdeal m →
    θ_run (Cert.DHcRefIdeal.defs (F := Ideal)) (onTc (τ := Cert.DHcRefIdeal.τ) (Cert.DHcRefIdeal.main (F := Ideal))) ⟨m, fun _ => 0, g⟩ (fun r => (∀ c : Dev Cert.DHcRefIdeal.nD,
      r.2.mem ((c.tc : Thread Cert.DHcRefIdeal.nD Cert.DHcRefIdeal.τ).loc Cert.DHcRefIdeal.main_arg0) = m ((c.tc : Thread Cert.DHcRefIdeal.nD Cert.DHcRefIdeal.τ).loc Cert.DHcRefIdeal.main_arg0)
      ∧ r.2.mem ((c.tc : Thread Cert.DHcRefIdeal.nD Cert.DHcRefIdeal.τ).loc Cert.DHcRefIdeal.main_arg1) = m ((c.tc : Thread Cert.DHcRefIdeal.nD Cert.DHcRefIdeal.τ).loc Cert.DHcRefIdeal.main_arg1)
      ∧ r.2.mem ((c.tc : Thread Cert.DHcRefIdeal.nD Cert.DHcRefIdeal.τ).loc Cert.DHcRefIdeal.main_arg2) = m ((c.tc : Thread Cert.DHcRefIdeal.nD Cert.DHcRefIdeal.τ).loc Cert.DHcRefIdeal.main_arg2)
      ∧ r.2.mem ((c.tc : Thread Cert.DHcRefIdeal.nD Cert.DHcRefIdeal.τ).loc Cert.DHcRefIdeal.main_arg3) = m ((c.tc : Thread Cert.DHcRefIdeal.nD Cert.DHcRefIdeal.τ).loc Cert.DHcRefIdeal.main_arg3)
      ∧ r.2.mem ((c.tc : Thread Cert.DHcRefIdeal.nD Cert.DHcRefIdeal.τ).loc Cert.DHcRefIdeal.main_arg4) = m ((c.tc : Thread Cert.DHcRefIdeal.nD Cert.DHcRefIdeal.τ).loc Cert.DHcRefIdeal.main_arg4)
      ∧ r.2.mem ((c.tc : Thread Cert.DHcRefIdeal.nD Cert.DHcRefIdeal.τ).loc Cert.DHcRefIdeal.main_arg5) = m ((c.tc : Thread Cert.DHcRefIdeal.nD Cert.DHcRefIdeal.τ).loc Cert.DHcRefIdeal.main_arg5))
      ∧ r.2.sem = fun _ => 0)

def quiescent_DHcRefIdeal_pre_finite_mix [hDHcRefIdeal : Cert.DHcRefIdeal.Facts] [hPre_finite_mix : Cert.Pre_finite_mix.Facts] : Prop :=
  ∀ (m : (ℓ : Loc Cert.DHcRefIdeal.nD Cert.DHcRefIdeal.τ Cert.DHcRefIdeal.sig) → Buf (Elt Ideal) ℓ) (g : Dev Cert.DHcRefIdeal.nD → PrngReg), Pre_DHcRefIdeal_finite_mix m →
    θ_run (Cert.DHcRefIdeal.defs (F := Ideal)) (onTc (τ := Cert.DHcRefIdeal.τ) (Cert.DHcRefIdeal.main (F := Ideal))) ⟨m, fun _ => 0, g⟩ (fun r => (∀ c : Dev Cert.DHcRefIdeal.nD,
      r.2.mem ((c.tc : Thread Cert.DHcRefIdeal.nD Cert.DHcRefIdeal.τ).loc Cert.DHcRefIdeal.main_arg0) = m ((c.tc : Thread Cert.DHcRefIdeal.nD Cert.DHcRefIdeal.τ).loc Cert.DHcRefIdeal.main_arg0)
      ∧ r.2.mem ((c.tc : Thread Cert.DHcRefIdeal.nD Cert.DHcRefIdeal.τ).loc Cert.DHcRefIdeal.main_arg1) = m ((c.tc : Thread Cert.DHcRefIdeal.nD Cert.DHcRefIdeal.τ).loc Cert.DHcRefIdeal.main_arg1)
      ∧ r.2.mem ((c.tc : Thread Cert.DHcRefIdeal.nD Cert.DHcRefIdeal.τ).loc Cert.DHcRefIdeal.main_arg2) = m ((c.tc : Thread Cert.DHcRefIdeal.nD Cert.DHcRefIdeal.τ).loc Cert.DHcRefIdeal.main_arg2)
      ∧ r.2.mem ((c.tc : Thread Cert.DHcRefIdeal.nD Cert.DHcRefIdeal.τ).loc Cert.DHcRefIdeal.main_arg3) = m ((c.tc : Thread Cert.DHcRefIdeal.nD Cert.DHcRefIdeal.τ).loc Cert.DHcRefIdeal.main_arg3)
      ∧ r.2.mem ((c.tc : Thread Cert.DHcRefIdeal.nD Cert.DHcRefIdeal.τ).loc Cert.DHcRefIdeal.main_arg4) = m ((c.tc : Thread Cert.DHcRefIdeal.nD Cert.DHcRefIdeal.τ).loc Cert.DHcRefIdeal.main_arg4)
      ∧ r.2.mem ((c.tc : Thread Cert.DHcRefIdeal.nD Cert.DHcRefIdeal.τ).loc Cert.DHcRefIdeal.main_arg5) = m ((c.tc : Thread Cert.DHcRefIdeal.nD Cert.DHcRefIdeal.τ).loc Cert.DHcRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_DOut [hDOut : Cert.DOut.Facts] : Prop :=
  ∀ (m : (ℓ : Loc Cert.DOut.nD Cert.DOut.τ Cert.DOut.sig) → Buf (Elt Bits) ℓ) (g : Dev Cert.DOut.nD → PrngReg), Pre_DOut m →
    θ_run (Cert.DOut.defs (F := Bits)) (onTc (τ := Cert.DOut.τ) (Cert.DOut.main (F := Bits))) ⟨m, fun _ => 0, g⟩ (fun r => (∀ c : Dev Cert.DOut.nD,
      r.2.mem ((c.tc : Thread Cert.DOut.nD Cert.DOut.τ).loc Cert.DOut.main_arg0) = m ((c.tc : Thread Cert.DOut.nD Cert.DOut.τ).loc Cert.DOut.main_arg0)
      ∧ r.2.mem ((c.tc : Thread Cert.DOut.nD Cert.DOut.τ).loc Cert.DOut.main_arg1) = m ((c.tc : Thread Cert.DOut.nD Cert.DOut.τ).loc Cert.DOut.main_arg1))
      ∧ r.2.sem = fun _ => 0)

def quiescent_DOutIdeal [hDOutIdeal : Cert.DOutIdeal.Facts] : Prop :=
  ∀ (m : (ℓ : Loc Cert.DOutIdeal.nD Cert.DOutIdeal.τ Cert.DOutIdeal.sig) → Buf (Elt Ideal) ℓ) (g : Dev Cert.DOutIdeal.nD → PrngReg), Pre_DOutIdeal m →
    θ_run (Cert.DOutIdeal.defs (F := Ideal)) (onTc (τ := Cert.DOutIdeal.τ) (Cert.DOutIdeal.main (F := Ideal))) ⟨m, fun _ => 0, g⟩ (fun r => (∀ c : Dev Cert.DOutIdeal.nD,
      r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
      ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1))
      ∧ r.2.sem = fun _ => 0)

def quiescent_DOutRefIdeal [hDOutRefIdeal : Cert.DOutRefIdeal.Facts] : Prop :=
  ∀ (m : (ℓ : Loc Cert.DOutRefIdeal.nD Cert.DOutRefIdeal.τ Cert.DOutRefIdeal.sig) → Buf (Elt Ideal) ℓ) (g : Dev Cert.DOutRefIdeal.nD → PrngReg), Pre_DOutRefIdeal m →
    θ_run (Cert.DOutRefIdeal.defs (F := Ideal)) (onTc (τ := Cert.DOutRefIdeal.τ) (Cert.DOutRefIdeal.main (F := Ideal))) ⟨m, fun _ => 0, g⟩ (fun r => (∀ c : Dev Cert.DOutRefIdeal.nD,
      r.2.mem ((c.tc : Thread Cert.DOutRefIdeal.nD Cert.DOutRefIdeal.τ).loc Cert.DOutRefIdeal.main_arg0) = m ((c.tc : Thread Cert.DOutRefIdeal.nD Cert.DOutRefIdeal.τ).loc Cert.DOutRefIdeal.main_arg0)
      ∧ r.2.mem ((c.tc : Thread Cert.DOutRefIdeal.nD Cert.DOutRefIdeal.τ).loc Cert.DOutRefIdeal.main_arg1) = m ((c.tc : Thread Cert.DOutRefIdeal.nD Cert.DOutRefIdeal.τ).loc Cert.DOutRefIdeal.main_arg1))
      ∧ r.2.sem = fun _ => 0)

def quiescent_DY [hDY : Cert.DY.Facts] : Prop :=
  ∀ (m : (ℓ : Loc Cert.DY.nD Cert.DY.τ Cert.DY.sig) → Buf (Elt Bits) ℓ) (g : Dev Cert.DY.nD → PrngReg), Pre_DY m →
    θ_run (Cert.DY.defs (F := Bits)) (onTc (τ := Cert.DY.τ) (Cert.DY.main (F := Bits))) ⟨m, fun _ => 0, g⟩ (fun r => (∀ c : Dev Cert.DY.nD,
      r.2.mem ((c.tc : Thread Cert.DY.nD Cert.DY.τ).loc Cert.DY.main_arg0) = m ((c.tc : Thread Cert.DY.nD Cert.DY.τ).loc Cert.DY.main_arg0)
      ∧ r.2.mem ((c.tc : Thread Cert.DY.nD Cert.DY.τ).loc Cert.DY.main_arg1) = m ((c.tc : Thread Cert.DY.nD Cert.DY.τ).loc Cert.DY.main_arg1))
      ∧ r.2.sem = fun _ => 0)

def quiescent_DYIdeal [hDYIdeal : Cert.DYIdeal.Facts] : Prop :=
  ∀ (m : (ℓ : Loc Cert.DYIdeal.nD Cert.DYIdeal.τ Cert.DYIdeal.sig) → Buf (Elt Ideal) ℓ) (g : Dev Cert.DYIdeal.nD → PrngReg), Pre_DYIdeal m →
    θ_run (Cert.DYIdeal.defs (F := Ideal)) (onTc (τ := Cert.DYIdeal.τ) (Cert.DYIdeal.main (F := Ideal))) ⟨m, fun _ => 0, g⟩ (fun r => (∀ c : Dev Cert.DYIdeal.nD,
      r.2.mem ((c.tc : Thread Cert.DYIdeal.nD Cert.DYIdeal.τ).loc Cert.DYIdeal.main_arg0) = m ((c.tc : Thread Cert.DYIdeal.nD Cert.DYIdeal.τ).loc Cert.DYIdeal.main_arg0)
      ∧ r.2.mem ((c.tc : Thread Cert.DYIdeal.nD Cert.DYIdeal.τ).loc Cert.DYIdeal.main_arg1) = m ((c.tc : Thread Cert.DYIdeal.nD Cert.DYIdeal.τ).loc Cert.DYIdeal.main_arg1))
      ∧ r.2.sem = fun _ => 0)

def quiescent_DYRefIdeal [hDYRefIdeal : Cert.DYRefIdeal.Facts] : Prop :=
  ∀ (m : (ℓ : Loc Cert.DYRefIdeal.nD Cert.DYRefIdeal.τ Cert.DYRefIdeal.sig) → Buf (Elt Ideal) ℓ) (g : Dev Cert.DYRefIdeal.nD → PrngReg), Pre_DYRefIdeal m →
    θ_run (Cert.DYRefIdeal.defs (F := Ideal)) (onTc (τ := Cert.DYRefIdeal.τ) (Cert.DYRefIdeal.main (F := Ideal))) ⟨m, fun _ => 0, g⟩ (fun r => (∀ c : Dev Cert.DYRefIdeal.nD,
      r.2.mem ((c.tc : Thread Cert.DYRefIdeal.nD Cert.DYRefIdeal.τ).loc Cert.DYRefIdeal.main_arg0) = m ((c.tc : Thread Cert.DYRefIdeal.nD Cert.DYRefIdeal.τ).loc Cert.DYRefIdeal.main_arg0)
      ∧ r.2.mem ((c.tc : Thread Cert.DYRefIdeal.nD Cert.DYRefIdeal.τ).loc Cert.DYRefIdeal.main_arg1) = m ((c.tc : Thread Cert.DYRefIdeal.nD Cert.DYRefIdeal.τ).loc Cert.DYRefIdeal.main_arg1))
      ∧ r.2.sem = fun _ => 0)

def quiescent_UpMerge [hUpMerge : Cert.UpMerge.Facts] : Prop :=
  ∀ (m : (ℓ : Loc Cert.UpMerge.nD Cert.UpMerge.τ Cert.UpMerge.sig) → Buf (Elt Bits) ℓ) (g : Dev Cert.UpMerge.nD → PrngReg), Pre_UpMerge m →
    θ_run (Cert.UpMerge.defs (F := Bits)) (onTc (τ := Cert.UpMerge.τ) (Cert.UpMerge.main (F := Bits))) ⟨m, fun _ => 0, g⟩ (fun r => (∀ c : Dev Cert.UpMerge.nD,
      r.2.mem ((c.tc : Thread Cert.UpMerge.nD Cert.UpMerge.τ).loc Cert.UpMerge.main_arg0) = m ((c.tc : Thread Cert.UpMerge.nD Cert.UpMerge.τ).loc Cert.UpMerge.main_arg0)
      ∧ r.2.mem ((c.tc : Thread Cert.UpMerge.nD Cert.UpMerge.τ).loc Cert.UpMerge.main_arg1) = m ((c.tc : Thread Cert.UpMerge.nD Cert.UpMerge.τ).loc Cert.UpMerge.main_arg1)
      ∧ r.2.mem ((c.tc : Thread Cert.UpMerge.nD Cert.UpMerge.τ).loc Cert.UpMerge.main_arg2) = m ((c.tc : Thread Cert.UpMerge.nD Cert.UpMerge.τ).loc Cert.UpMerge.main_arg2)
      ∧ r.2.mem ((c.tc : Thread Cert.UpMerge.nD Cert.UpMerge.τ).loc Cert.UpMerge.main_arg3) = m ((c.tc : Thread Cert.UpMerge.nD Cert.UpMerge.τ).loc Cert.UpMerge.main_arg3)
      ∧ r.2.mem ((c.tc : Thread Cert.UpMerge.nD Cert.UpMerge.τ).loc Cert.UpMerge.main_arg4) = m ((c.tc : Thread Cert.UpMerge.nD Cert.UpMerge.τ).loc Cert.UpMerge.main_arg4)
      ∧ r.2.mem ((c.tc : Thread Cert.UpMerge.nD Cert.UpMerge.τ).loc Cert.UpMerge.main_arg5) = m ((c.tc : Thread Cert.UpMerge.nD Cert.UpMerge.τ).loc Cert.UpMerge.main_arg5)
      ∧ r.2.mem ((c.tc : Thread Cert.UpMerge.nD Cert.UpMerge.τ).loc Cert.UpMerge.main_arg6) = m ((c.tc : Thread Cert.UpMerge.nD Cert.UpMerge.τ).loc Cert.UpMerge.main_arg6)
      ∧ r.2.mem ((c.tc : Thread Cert.UpMerge.nD Cert.UpMerge.τ).loc Cert.UpMerge.main_arg7) = m ((c.tc : Thread Cert.UpMerge.nD Cert.UpMerge.τ).loc Cert.UpMerge.main_arg7))
      ∧ r.2.sem = fun _ => 0)

def quiescent_UpMergeIdeal [hUpMergeIdeal : Cert.UpMergeIdeal.Facts] : Prop :=
  ∀ (m : (ℓ : Loc Cert.UpMergeIdeal.nD Cert.UpMergeIdeal.τ Cert.UpMergeIdeal.sig) → Buf (Elt Ideal) ℓ) (g : Dev Cert.UpMergeIdeal.nD → PrngReg), Pre_UpMergeIdeal m →
    θ_run (Cert.UpMergeIdeal.defs (F := Ideal)) (onTc (τ := Cert.UpMergeIdeal.τ) (Cert.UpMergeIdeal.main (F := Ideal))) ⟨m, fun _ => 0, g⟩ (fun r => (∀ c : Dev Cert.UpMergeIdeal.nD,
      r.2.mem ((c.tc : Thread Cert.UpMergeIdeal.nD Cert.UpMergeIdeal.τ).loc Cert.UpMergeIdeal.main_arg0) = m ((c.tc : Thread Cert.UpMergeIdeal.nD Cert.UpMergeIdeal.τ).loc Cert.UpMergeIdeal.main_arg0)
      ∧ r.2.mem ((c.tc : Thread Cert.UpMergeIdeal.nD Cert.UpMergeIdeal.τ).loc Cert.UpMergeIdeal.main_arg1) = m ((c.tc : Thread Cert.UpMergeIdeal.nD Cert.UpMergeIdeal.τ).loc Cert.UpMergeIdeal.main_arg1)
      ∧ r.2.mem ((c.tc : Thread Cert.UpMergeIdeal.nD Cert.UpMergeIdeal.τ).loc Cert.UpMergeIdeal.main_arg2) = m ((c.tc : Thread Cert.UpMergeIdeal.nD Cert.UpMergeIdeal.τ).loc Cert.UpMergeIdeal.main_arg2)
      ∧ r.2.mem ((c.tc : Thread Cert.UpMergeIdeal.nD Cert.UpMergeIdeal.τ).loc Cert.UpMergeIdeal.main_arg3) = m ((c.tc : Thread Cert.UpMergeIdeal.nD Cert.UpMergeIdeal.τ).loc Cert.UpMergeIdeal.main_arg3)
      ∧ r.2.mem ((c.tc : Thread Cert.UpMergeIdeal.nD Cert.UpMergeIdeal.τ).loc Cert.UpMergeIdeal.main_arg4) = m ((c.tc : Thread Cert.UpMergeIdeal.nD Cert.UpMergeIdeal.τ).loc Cert.UpMergeIdeal.main_arg4)
      ∧ r.2.mem ((c.tc : Thread Cert.UpMergeIdeal.nD Cert.UpMergeIdeal.τ).loc Cert.UpMergeIdeal.main_arg5) = m ((c.tc : Thread Cert.UpMergeIdeal.nD Cert.UpMergeIdeal.τ).loc Cert.UpMergeIdeal.main_arg5)
      ∧ r.2.mem ((c.tc : Thread Cert.UpMergeIdeal.nD Cert.UpMergeIdeal.τ).loc Cert.UpMergeIdeal.main_arg6) = m ((c.tc : Thread Cert.UpMergeIdeal.nD Cert.UpMergeIdeal.τ).loc Cert.UpMergeIdeal.main_arg6)
      ∧ r.2.mem ((c.tc : Thread Cert.UpMergeIdeal.nD Cert.UpMergeIdeal.τ).loc Cert.UpMergeIdeal.main_arg7) = m ((c.tc : Thread Cert.UpMergeIdeal.nD Cert.UpMergeIdeal.τ).loc Cert.UpMergeIdeal.main_arg7))
      ∧ r.2.sem = fun _ => 0)

def quiescent_UpMergeRefIdeal [hUpMergeRefIdeal : Cert.UpMergeRefIdeal.Facts] : Prop :=
  ∀ (m : (ℓ : Loc Cert.UpMergeRefIdeal.nD Cert.UpMergeRefIdeal.τ Cert.UpMergeRefIdeal.sig) → Buf (Elt Ideal) ℓ) (g : Dev Cert.UpMergeRefIdeal.nD → PrngReg), Pre_UpMergeRefIdeal m →
    θ_run (Cert.UpMergeRefIdeal.defs (F := Ideal)) (onTc (τ := Cert.UpMergeRefIdeal.τ) (Cert.UpMergeRefIdeal.main (F := Ideal))) ⟨m, fun _ => 0, g⟩ (fun r => (∀ c : Dev Cert.UpMergeRefIdeal.nD,
      r.2.mem ((c.tc : Thread Cert.UpMergeRefIdeal.nD Cert.UpMergeRefIdeal.τ).loc Cert.UpMergeRefIdeal.main_arg0) = m ((c.tc : Thread Cert.UpMergeRefIdeal.nD Cert.UpMergeRefIdeal.τ).loc Cert.UpMergeRefIdeal.main_arg0)
      ∧ r.2.mem ((c.tc : Thread Cert.UpMergeRefIdeal.nD Cert.UpMergeRefIdeal.τ).loc Cert.UpMergeRefIdeal.main_arg1) = m ((c.tc : Thread Cert.UpMergeRefIdeal.nD Cert.UpMergeRefIdeal.τ).loc Cert.UpMergeRefIdeal.main_arg1)
      ∧ r.2.mem ((c.tc : Thread Cert.UpMergeRefIdeal.nD Cert.UpMergeRefIdeal.τ).loc Cert.UpMergeRefIdeal.main_arg2) = m ((c.tc : Thread Cert.UpMergeRefIdeal.nD Cert.UpMergeRefIdeal.τ).loc Cert.UpMergeRefIdeal.main_arg2)
      ∧ r.2.mem ((c.tc : Thread Cert.UpMergeRefIdeal.nD Cert.UpMergeRefIdeal.τ).loc Cert.UpMergeRefIdeal.main_arg3) = m ((c.tc : Thread Cert.UpMergeRefIdeal.nD Cert.UpMergeRefIdeal.τ).loc Cert.UpMergeRefIdeal.main_arg3)
      ∧ r.2.mem ((c.tc : Thread Cert.UpMergeRefIdeal.nD Cert.UpMergeRefIdeal.τ).loc Cert.UpMergeRefIdeal.main_arg4) = m ((c.tc : Thread Cert.UpMergeRefIdeal.nD Cert.UpMergeRefIdeal.τ).loc Cert.UpMergeRefIdeal.main_arg4)
      ∧ r.2.mem ((c.tc : Thread Cert.UpMergeRefIdeal.nD Cert.UpMergeRefIdeal.τ).loc Cert.UpMergeRefIdeal.main_arg5) = m ((c.tc : Thread Cert.UpMergeRefIdeal.nD Cert.UpMergeRefIdeal.τ).loc Cert.UpMergeRefIdeal.main_arg5)
      ∧ r.2.mem ((c.tc : Thread Cert.UpMergeRefIdeal.nD Cert.UpMergeRefIdeal.τ).loc Cert.UpMergeRefIdeal.main_arg6) = m ((c.tc : Thread Cert.UpMergeRefIdeal.nD Cert.UpMergeRefIdeal.τ).loc Cert.UpMergeRefIdeal.main_arg6)
      ∧ r.2.mem ((c.tc : Thread Cert.UpMergeRefIdeal.nD Cert.UpMergeRefIdeal.τ).loc Cert.UpMergeRefIdeal.main_arg7) = m ((c.tc : Thread Cert.UpMergeRefIdeal.nD Cert.UpMergeRefIdeal.τ).loc Cert.UpMergeRefIdeal.main_arg7))
      ∧ r.2.sem = fun _ => 0)

def quiescent_Xo [hXo : Cert.Xo.Facts] : Prop :=
  ∀ (m : (ℓ : Loc Cert.Xo.nD Cert.Xo.τ Cert.Xo.sig) → Buf (Elt Bits) ℓ) (g : Dev Cert.Xo.nD → PrngReg), Pre_Xo m →
    θ_run (Cert.Xo.defs (F := Bits)) (onTc (τ := Cert.Xo.τ) (Cert.Xo.main (F := Bits))) ⟨m, fun _ => 0, g⟩ (fun r => (∀ c : Dev Cert.Xo.nD,
      r.2.mem ((c.tc : Thread Cert.Xo.nD Cert.Xo.τ).loc Cert.Xo.main_arg0) = m ((c.tc : Thread Cert.Xo.nD Cert.Xo.τ).loc Cert.Xo.main_arg0)
      ∧ r.2.mem ((c.tc : Thread Cert.Xo.nD Cert.Xo.τ).loc Cert.Xo.main_arg1) = m ((c.tc : Thread Cert.Xo.nD Cert.Xo.τ).loc Cert.Xo.main_arg1)
      ∧ r.2.mem ((c.tc : Thread Cert.Xo.nD Cert.Xo.τ).loc Cert.Xo.main_arg2) = m ((c.tc : Thread Cert.Xo.nD Cert.Xo.τ).loc Cert.Xo.main_arg2))
      ∧ r.2.sem = fun _ => 0)

def quiescent_XoIdeal [hXoIdeal : Cert.XoIdeal.Facts] : Prop :=
  ∀ (m : (ℓ : Loc Cert.XoIdeal.nD Cert.XoIdeal.τ Cert.XoIdeal.sig) → Buf (Elt Ideal) ℓ) (g : Dev Cert.XoIdeal.nD → PrngReg), Pre_XoIdeal m →
    θ_run (Cert.XoIdeal.defs (F := Ideal)) (onTc (τ := Cert.XoIdeal.τ) (Cert.XoIdeal.main (F := Ideal))) ⟨m, fun _ => 0, g⟩ (fun r => (∀ c : Dev Cert.XoIdeal.nD,
      r.2.mem ((c.tc : Thread Cert.XoIdeal.nD Cert.XoIdeal.τ).loc Cert.XoIdeal.main_arg0) = m ((c.tc : Thread Cert.XoIdeal.nD Cert.XoIdeal.τ).loc Cert.XoIdeal.main_arg0)
      ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
      ∧ r.2.mem ((c.tc : Thread Cert.XoIdeal.nD Cert.XoIdeal.τ).loc Cert.XoIdeal.main_arg2) = m ((c.tc : Thread Cert.XoIdeal.nD Cert.XoIdeal.τ).loc Cert.XoIdeal.main_arg2))
      ∧ r.2.sem = fun _ => 0)

def quiescent_XoRefIdeal [hXoRefIdeal : Cert.XoRefIdeal.Facts] : Prop :=
  ∀ (m : (ℓ : Loc Cert.XoRefIdeal.nD Cert.XoRefIdeal.τ Cert.XoRefIdeal.sig) → Buf (Elt Ideal) ℓ) (g : Dev Cert.XoRefIdeal.nD → PrngReg), Pre_XoRefIdeal m →
    θ_run (Cert.XoRefIdeal.defs (F := Ideal)) (onTc (τ := Cert.XoRefIdeal.τ) (Cert.XoRefIdeal.main (F := Ideal))) ⟨m, fun _ => 0, g⟩ (fun r => (∀ c : Dev Cert.XoRefIdeal.nD,
      r.2.mem ((c.tc : Thread Cert.XoRefIdeal.nD Cert.XoRefIdeal.τ).loc Cert.XoRefIdeal.main_arg0) = m ((c.tc : Thread Cert.XoRefIdeal.nD Cert.XoRefIdeal.τ).loc Cert.XoRefIdeal.main_arg0)
      ∧ r.2.mem ((c.tc : Thread Cert.XoRefIdeal.nD Cert.XoRefIdeal.τ).loc Cert.XoRefIdeal.main_arg1) = m ((c.tc : Thread Cert.XoRefIdeal.nD Cert.XoRefIdeal.τ).loc Cert.XoRefIdeal.main_arg1)
      ∧ r.2.mem ((c.tc : Thread Cert.XoRefIdeal.nD Cert.XoRefIdeal.τ).loc Cert.XoRefIdeal.main_arg2) = m ((c.tc : Thread Cert.XoRefIdeal.nD Cert.XoRefIdeal.τ).loc Cert.XoRefIdeal.main_arg2))
      ∧ r.2.sem = fun _ => 0)

def quiescent_DXo [hDXo : Cert.DXo.Facts] : Prop :=
  ∀ (m : (ℓ : Loc Cert.DXo.nD Cert.DXo.τ Cert.DXo.sig) → Buf (Elt Bits) ℓ) (g : Dev Cert.DXo.nD → PrngReg), Pre_DXo m →
    θ_run (Cert.DXo.defs (F := Bits)) (onTc (τ := Cert.DXo.τ) (Cert.DXo.main (F := Bits))) ⟨m, fun _ => 0, g⟩ (fun r => (∀ c : Dev Cert.DXo.nD,
      r.2.mem ((c.tc : Thread Cert.DXo.nD Cert.DXo.τ).loc Cert.DXo.main_arg0) = m ((c.tc : Thread Cert.DXo.nD Cert.DXo.τ).loc Cert.DXo.main_arg0)
      ∧ r.2.mem ((c.tc : Thread Cert.DXo.nD Cert.DXo.τ).loc Cert.DXo.main_arg1) = m ((c.tc : Thread Cert.DXo.nD Cert.DXo.τ).loc Cert.DXo.main_arg1))
      ∧ r.2.sem = fun _ => 0)

def quiescent_DXoIdeal [hDXoIdeal : Cert.DXoIdeal.Facts] : Prop :=
  ∀ (m : (ℓ : Loc Cert.DXoIdeal.nD Cert.DXoIdeal.τ Cert.DXoIdeal.sig) → Buf (Elt Ideal) ℓ) (g : Dev Cert.DXoIdeal.nD → PrngReg), Pre_DXoIdeal m →
    θ_run (Cert.DXoIdeal.defs (F := Ideal)) (onTc (τ := Cert.DXoIdeal.τ) (Cert.DXoIdeal.main (F := Ideal))) ⟨m, fun _ => 0, g⟩ (fun r => (∀ c : Dev Cert.DXoIdeal.nD,
      r.2.mem ((c.tc : Thread Cert.DXoIdeal.nD Cert.DXoIdeal.τ).loc Cert.DXoIdeal.main_arg0) = m ((c.tc : Thread Cert.DXoIdeal.nD Cert.DXoIdeal.τ).loc Cert.DXoIdeal.main_arg0)
      ∧ r.2.mem ((c.tc : Thread Cert.DXoIdeal.nD Cert.DXoIdeal.τ).loc Cert.DXoIdeal.main_arg1) = m ((c.tc : Thread Cert.DXoIdeal.nD Cert.DXoIdeal.τ).loc Cert.DXoIdeal.main_arg1))
      ∧ r.2.sem = fun _ => 0)

def quiescent_DXoRefIdeal [hDXoRefIdeal : Cert.DXoRefIdeal.Facts] : Prop :=
  ∀ (m : (ℓ : Loc Cert.DXoRefIdeal.nD Cert.DXoRefIdeal.τ Cert.DXoRefIdeal.sig) → Buf (Elt Ideal) ℓ) (g : Dev Cert.DXoRefIdeal.nD → PrngReg), Pre_DXoRefIdeal m →
    θ_run (Cert.DXoRefIdeal.defs (F := Ideal)) (onTc (τ := Cert.DXoRefIdeal.τ) (Cert.DXoRefIdeal.main (F := Ideal))) ⟨m, fun _ => 0, g⟩ (fun r => (∀ c : Dev Cert.DXoRefIdeal.nD,
      r.2.mem ((c.tc : Thread Cert.DXoRefIdeal.nD Cert.DXoRefIdeal.τ).loc Cert.DXoRefIdeal.main_arg0) = m ((c.tc : Thread Cert.DXoRefIdeal.nD Cert.DXoRefIdeal.τ).loc Cert.DXoRefIdeal.main_arg0)
      ∧ r.2.mem ((c.tc : Thread Cert.DXoRefIdeal.nD Cert.DXoRefIdeal.τ).loc Cert.DXoRefIdeal.main_arg1) = m ((c.tc : Thread Cert.DXoRefIdeal.nD Cert.DXoRefIdeal.τ).loc Cert.DXoRefIdeal.main_arg1))
      ∧ r.2.sem = fun _ => 0)

def quiescent_DOx [hDOx : Cert.DOx.Facts] : Prop :=
  ∀ (m : (ℓ : Loc Cert.DOx.nD Cert.DOx.τ Cert.DOx.sig) → Buf (Elt Bits) ℓ) (g : Dev Cert.DOx.nD → PrngReg), Pre_DOx m →
    θ_run (Cert.DOx.defs (F := Bits)) (onTc (τ := Cert.DOx.τ) (Cert.DOx.main (F := Bits))) ⟨m, fun _ => 0, g⟩ (fun r => (∀ c : Dev Cert.DOx.nD,
      r.2.mem ((c.tc : Thread Cert.DOx.nD Cert.DOx.τ).loc Cert.DOx.main_arg0) = m ((c.tc : Thread Cert.DOx.nD Cert.DOx.τ).loc Cert.DOx.main_arg0)
      ∧ r.2.mem ((c.tc : Thread Cert.DOx.nD Cert.DOx.τ).loc Cert.DOx.main_arg1) = m ((c.tc : Thread Cert.DOx.nD Cert.DOx.τ).loc Cert.DOx.main_arg1))
      ∧ r.2.sem = fun _ => 0)

def quiescent_DOxIdeal [hDOxIdeal : Cert.DOxIdeal.Facts] : Prop :=
  ∀ (m : (ℓ : Loc Cert.DOxIdeal.nD Cert.DOxIdeal.τ Cert.DOxIdeal.sig) → Buf (Elt Ideal) ℓ) (g : Dev Cert.DOxIdeal.nD → PrngReg), Pre_DOxIdeal m →
    θ_run (Cert.DOxIdeal.defs (F := Ideal)) (onTc (τ := Cert.DOxIdeal.τ) (Cert.DOxIdeal.main (F := Ideal))) ⟨m, fun _ => 0, g⟩ (fun r => (∀ c : Dev Cert.DOxIdeal.nD,
      r.2.mem ((c.tc : Thread Cert.DOxIdeal.nD Cert.DOxIdeal.τ).loc Cert.DOxIdeal.main_arg0) = m ((c.tc : Thread Cert.DOxIdeal.nD Cert.DOxIdeal.τ).loc Cert.DOxIdeal.main_arg0)
      ∧ r.2.mem ((c.tc : Thread Cert.DOxIdeal.nD Cert.DOxIdeal.τ).loc Cert.DOxIdeal.main_arg1) = m ((c.tc : Thread Cert.DOxIdeal.nD Cert.DOxIdeal.τ).loc Cert.DOxIdeal.main_arg1))
      ∧ r.2.sem = fun _ => 0)

def quiescent_DOxRefIdeal [hDOxRefIdeal : Cert.DOxRefIdeal.Facts] : Prop :=
  ∀ (m : (ℓ : Loc Cert.DOxRefIdeal.nD Cert.DOxRefIdeal.τ Cert.DOxRefIdeal.sig) → Buf (Elt Ideal) ℓ) (g : Dev Cert.DOxRefIdeal.nD → PrngReg), Pre_DOxRefIdeal m →
    θ_run (Cert.DOxRefIdeal.defs (F := Ideal)) (onTc (τ := Cert.DOxRefIdeal.τ) (Cert.DOxRefIdeal.main (F := Ideal))) ⟨m, fun _ => 0, g⟩ (fun r => (∀ c : Dev Cert.DOxRefIdeal.nD,
      r.2.mem ((c.tc : Thread Cert.DOxRefIdeal.nD Cert.DOxRefIdeal.τ).loc Cert.DOxRefIdeal.main_arg0) = m ((c.tc : Thread Cert.DOxRefIdeal.nD Cert.DOxRefIdeal.τ).loc Cert.DOxRefIdeal.main_arg0)
      ∧ r.2.mem ((c.tc : Thread Cert.DOxRefIdeal.nD Cert.DOxRefIdeal.τ).loc Cert.DOxRefIdeal.main_arg1) = m ((c.tc : Thread Cert.DOxRefIdeal.nD Cert.DOxRefIdeal.τ).loc Cert.DOxRefIdeal.main_arg1))
      ∧ r.2.sem = fun _ => 0)

def quiescent_DXq [hDXq : Cert.DXq.Facts] : Prop :=
  ∀ (m : (ℓ : Loc Cert.DXq.nD Cert.DXq.τ Cert.DXq.sig) → Buf (Elt Bits) ℓ) (g : Dev Cert.DXq.nD → PrngReg), Pre_DXq m →
    θ_run (Cert.DXq.defs (F := Bits)) (onTc (τ := Cert.DXq.τ) (Cert.DXq.main (F := Bits))) ⟨m, fun _ => 0, g⟩ (fun r => (∀ c : Dev Cert.DXq.nD,
      r.2.mem ((c.tc : Thread Cert.DXq.nD Cert.DXq.τ).loc Cert.DXq.main_arg0) = m ((c.tc : Thread Cert.DXq.nD Cert.DXq.τ).loc Cert.DXq.main_arg0)
      ∧ r.2.mem ((c.tc : Thread Cert.DXq.nD Cert.DXq.τ).loc Cert.DXq.main_arg1) = m ((c.tc : Thread Cert.DXq.nD Cert.DXq.τ).loc Cert.DXq.main_arg1))
      ∧ r.2.sem = fun _ => 0)

def quiescent_DXqIdeal [hDXqIdeal : Cert.DXqIdeal.Facts] : Prop :=
  ∀ (m : (ℓ : Loc Cert.DXqIdeal.nD Cert.DXqIdeal.τ Cert.DXqIdeal.sig) → Buf (Elt Ideal) ℓ) (g : Dev Cert.DXqIdeal.nD → PrngReg), Pre_DXqIdeal m →
    θ_run (Cert.DXqIdeal.defs (F := Ideal)) (onTc (τ := Cert.DXqIdeal.τ) (Cert.DXqIdeal.main (F := Ideal))) ⟨m, fun _ => 0, g⟩ (fun r => (∀ c : Dev Cert.DXqIdeal.nD,
      r.2.mem ((c.tc : Thread Cert.DXqIdeal.nD Cert.DXqIdeal.τ).loc Cert.DXqIdeal.main_arg0) = m ((c.tc : Thread Cert.DXqIdeal.nD Cert.DXqIdeal.τ).loc Cert.DXqIdeal.main_arg0)
      ∧ r.2.mem ((c.tc : Thread Cert.DXqIdeal.nD Cert.DXqIdeal.τ).loc Cert.DXqIdeal.main_arg1) = m ((c.tc : Thread Cert.DXqIdeal.nD Cert.DXqIdeal.τ).loc Cert.DXqIdeal.main_arg1))
      ∧ r.2.sem = fun _ => 0)

def quiescent_DXqRefIdeal [hDXqRefIdeal : Cert.DXqRefIdeal.Facts] : Prop :=
  ∀ (m : (ℓ : Loc Cert.DXqRefIdeal.nD Cert.DXqRefIdeal.τ Cert.DXqRefIdeal.sig) → Buf (Elt Ideal) ℓ) (g : Dev Cert.DXqRefIdeal.nD → PrngReg), Pre_DXqRefIdeal m →
    θ_run (Cert.DXqRefIdeal.defs (F := Ideal)) (onTc (τ := Cert.DXqRefIdeal.τ) (Cert.DXqRefIdeal.main (F := Ideal))) ⟨m, fun _ => 0, g⟩ (fun r => (∀ c : Dev Cert.DXqRefIdeal.nD,
      r.2.mem ((c.tc : Thread Cert.DXqRefIdeal.nD Cert.DXqRefIdeal.τ).loc Cert.DXqRefIdeal.main_arg0) = m ((c.tc : Thread Cert.DXqRefIdeal.nD Cert.DXqRefIdeal.τ).loc Cert.DXqRefIdeal.main_arg0)
      ∧ r.2.mem ((c.tc : Thread Cert.DXqRefIdeal.nD Cert.DXqRefIdeal.τ).loc Cert.DXqRefIdeal.main_arg1) = m ((c.tc : Thread Cert.DXqRefIdeal.nD Cert.DXqRefIdeal.τ).loc Cert.DXqRefIdeal.main_arg1))
      ∧ r.2.sem = fun _ => 0)

def quiescent_DHx [hDHx : Cert.DHx.Facts] : Prop :=
  ∀ (m : (ℓ : Loc Cert.DHx.nD Cert.DHx.τ Cert.DHx.sig) → Buf (Elt Bits) ℓ) (g : Dev Cert.DHx.nD → PrngReg), Pre_DHx m →
    θ_run (Cert.DHx.defs (F := Bits)) (onTc (τ := Cert.DHx.τ) (Cert.DHx.main (F := Bits))) ⟨m, fun _ => 0, g⟩ (fun r => (∀ c : Dev Cert.DHx.nD,
      r.2.mem ((c.tc : Thread Cert.DHx.nD Cert.DHx.τ).loc Cert.DHx.main_arg0) = m ((c.tc : Thread Cert.DHx.nD Cert.DHx.τ).loc Cert.DHx.main_arg0)
      ∧ r.2.mem ((c.tc : Thread Cert.DHx.nD Cert.DHx.τ).loc Cert.DHx.main_arg1) = m ((c.tc : Thread Cert.DHx.nD Cert.DHx.τ).loc Cert.DHx.main_arg1)
      ∧ r.2.mem ((c.tc : Thread Cert.DHx.nD Cert.DHx.τ).loc Cert.DHx.main_arg2) = m ((c.tc : Thread Cert.DHx.nD Cert.DHx.τ).loc Cert.DHx.main_arg2)
      ∧ r.2.mem ((c.tc : Thread Cert.DHx.nD Cert.DHx.τ).loc Cert.DHx.main_arg3) = m ((c.tc : Thread Cert.DHx.nD Cert.DHx.τ).loc Cert.DHx.main_arg3)
      ∧ r.2.mem ((c.tc : Thread Cert.DHx.nD Cert.DHx.τ).loc Cert.DHx.main_arg4) = m ((c.tc : Thread Cert.DHx.nD Cert.DHx.τ).loc Cert.DHx.main_arg4))
      ∧ r.2.sem = fun _ => 0)

def quiescent_DHxIdeal [hDHxIdeal : Cert.DHxIdeal.Facts] : Prop :=
  ∀ (m : (ℓ : Loc Cert.DHxIdeal.nD Cert.DHxIdeal.τ Cert.DHxIdeal.sig) → Buf (Elt Ideal) ℓ) (g : Dev Cert.DHxIdeal.nD → PrngReg), Pre_DHxIdeal m →
    θ_run (Cert.DHxIdeal.defs (F := Ideal)) (onTc (τ := Cert.DHxIdeal.τ) (Cert.DHxIdeal.main (F := Ideal))) ⟨m, fun _ => 0, g⟩ (fun r => (∀ c : Dev Cert.DHxIdeal.nD,
      r.2.mem ((c.tc : Thread Cert.DHxIdeal.nD Cert.DHxIdeal.τ).loc Cert.DHxIdeal.main_arg0) = m ((c.tc : Thread Cert.DHxIdeal.nD Cert.DHxIdeal.τ).loc Cert.DHxIdeal.main_arg0)
      ∧ r.2.mem ((c.tc : Thread Cert.DHxIdeal.nD Cert.DHxIdeal.τ).loc Cert.DHxIdeal.main_arg1) = m ((c.tc : Thread Cert.DHxIdeal.nD Cert.DHxIdeal.τ).loc Cert.DHxIdeal.main_arg1)
      ∧ r.2.mem ((c.tc : Thread Cert.DHxIdeal.nD Cert.DHxIdeal.τ).loc Cert.DHxIdeal.main_arg2) = m ((c.tc : Thread Cert.DHxIdeal.nD Cert.DHxIdeal.τ).loc Cert.DHxIdeal.main_arg2)
      ∧ r.2.mem ((c.tc : Thread Cert.DHxIdeal.nD Cert.DHxIdeal.τ).loc Cert.DHxIdeal.main_arg3) = m ((c.tc : Thread Cert.DHxIdeal.nD Cert.DHxIdeal.τ).loc Cert.DHxIdeal.main_arg3)
      ∧ r.2.mem ((c.tc : Thread Cert.DHxIdeal.nD Cert.DHxIdeal.τ).loc Cert.DHxIdeal.main_arg4) = m ((c.tc : Thread Cert.DHxIdeal.nD Cert.DHxIdeal.τ).loc Cert.DHxIdeal.main_arg4))
      ∧ r.2.sem = fun _ => 0)

def quiescent_DHxIdeal_pre_finite_xq [hDHxIdeal : Cert.DHxIdeal.Facts] [hPre_finite_xq : Cert.Pre_finite_xq.Facts] : Prop :=
  ∀ (m : (ℓ : Loc Cert.DHxIdeal.nD Cert.DHxIdeal.τ Cert.DHxIdeal.sig) → Buf (Elt Ideal) ℓ) (g : Dev Cert.DHxIdeal.nD → PrngReg), Pre_DHxIdeal_finite_xq m →
    θ_run (Cert.DHxIdeal.defs (F := Ideal)) (onTc (τ := Cert.DHxIdeal.τ) (Cert.DHxIdeal.main (F := Ideal))) ⟨m, fun _ => 0, g⟩ (fun r => (∀ c : Dev Cert.DHxIdeal.nD,
      r.2.mem ((c.tc : Thread Cert.DHxIdeal.nD Cert.DHxIdeal.τ).loc Cert.DHxIdeal.main_arg0) = m ((c.tc : Thread Cert.DHxIdeal.nD Cert.DHxIdeal.τ).loc Cert.DHxIdeal.main_arg0)
      ∧ r.2.mem ((c.tc : Thread Cert.DHxIdeal.nD Cert.DHxIdeal.τ).loc Cert.DHxIdeal.main_arg1) = m ((c.tc : Thread Cert.DHxIdeal.nD Cert.DHxIdeal.τ).loc Cert.DHxIdeal.main_arg1)
      ∧ r.2.mem ((c.tc : Thread Cert.DHxIdeal.nD Cert.DHxIdeal.τ).loc Cert.DHxIdeal.main_arg2) = m ((c.tc : Thread Cert.DHxIdeal.nD Cert.DHxIdeal.τ).loc Cert.DHxIdeal.main_arg2)
      ∧ r.2.mem ((c.tc : Thread Cert.DHxIdeal.nD Cert.DHxIdeal.τ).loc Cert.DHxIdeal.main_arg3) = m ((c.tc : Thread Cert.DHxIdeal.nD Cert.DHxIdeal.τ).loc Cert.DHxIdeal.main_arg3)
      ∧ r.2.mem ((c.tc : Thread Cert.DHxIdeal.nD Cert.DHxIdeal.τ).loc Cert.DHxIdeal.main_arg4) = m ((c.tc : Thread Cert.DHxIdeal.nD Cert.DHxIdeal.τ).loc Cert.DHxIdeal.main_arg4))
      ∧ r.2.sem = fun _ => 0)

def quiescent_DHxRefIdeal [hDHxRefIdeal : Cert.DHxRefIdeal.Facts] : Prop :=
  ∀ (m : (ℓ : Loc Cert.DHxRefIdeal.nD Cert.DHxRefIdeal.τ Cert.DHxRefIdeal.sig) → Buf (Elt Ideal) ℓ) (g : Dev Cert.DHxRefIdeal.nD → PrngReg), Pre_DHxRefIdeal m →
    θ_run (Cert.DHxRefIdeal.defs (F := Ideal)) (onTc (τ := Cert.DHxRefIdeal.τ) (Cert.DHxRefIdeal.main (F := Ideal))) ⟨m, fun _ => 0, g⟩ (fun r => (∀ c : Dev Cert.DHxRefIdeal.nD,
      r.2.mem ((c.tc : Thread Cert.DHxRefIdeal.nD Cert.DHxRefIdeal.τ).loc Cert.DHxRefIdeal.main_arg0) = m ((c.tc : Thread Cert.DHxRefIdeal.nD Cert.DHxRefIdeal.τ).loc Cert.DHxRefIdeal.main_arg0)
      ∧ r.2.mem ((c.tc : Thread Cert.DHxRefIdeal.nD Cert.DHxRefIdeal.τ).loc Cert.DHxRefIdeal.main_arg1) = m ((c.tc : Thread Cert.DHxRefIdeal.nD Cert.DHxRefIdeal.τ).loc Cert.DHxRefIdeal.main_arg1)
      ∧ r.2.mem ((c.tc : Thread Cert.DHxRefIdeal.nD Cert.DHxRefIdeal.τ).loc Cert.DHxRefIdeal.main_arg2) = m ((c.tc : Thread Cert.DHxRefIdeal.nD Cert.DHxRefIdeal.τ).loc Cert.DHxRefIdeal.main_arg2)
      ∧ r.2.mem ((c.tc : Thread Cert.DHxRefIdeal.nD Cert.DHxRefIdeal.τ).loc Cert.DHxRefIdeal.main_arg3) = m ((c.tc : Thread Cert.DHxRefIdeal.nD Cert.DHxRefIdeal.τ).loc Cert.DHxRefIdeal.main_arg3)
      ∧ r.2.mem ((c.tc : Thread Cert.DHxRefIdeal.nD Cert.DHxRefIdeal.τ).loc Cert.DHxRefIdeal.main_arg4) = m ((c.tc : Thread Cert.DHxRefIdeal.nD Cert.DHxRefIdeal.τ).loc Cert.DHxRefIdeal.main_arg4))
      ∧ r.2.sem = fun _ => 0)

def quiescent_DHxRefIdeal_pre_finite_xq [hDHxRefIdeal : Cert.DHxRefIdeal.Facts] [hPre_finite_xq : Cert.Pre_finite_xq.Facts] : Prop :=
  ∀ (m : (ℓ : Loc Cert.DHxRefIdeal.nD Cert.DHxRefIdeal.τ Cert.DHxRefIdeal.sig) → Buf (Elt Ideal) ℓ) (g : Dev Cert.DHxRefIdeal.nD → PrngReg), Pre_DHxRefIdeal_finite_xq m →
    θ_run (Cert.DHxRefIdeal.defs (F := Ideal)) (onTc (τ := Cert.DHxRefIdeal.τ) (Cert.DHxRefIdeal.main (F := Ideal))) ⟨m, fun _ => 0, g⟩ (fun r => (∀ c : Dev Cert.DHxRefIdeal.nD,
      r.2.mem ((c.tc : Thread Cert.DHxRefIdeal.nD Cert.DHxRefIdeal.τ).loc Cert.DHxRefIdeal.main_arg0) = m ((c.tc : Thread Cert.DHxRefIdeal.nD Cert.DHxRefIdeal.τ).loc Cert.DHxRefIdeal.main_arg0)
      ∧ r.2.mem ((c.tc : Thread Cert.DHxRefIdeal.nD Cert.DHxRefIdeal.τ).loc Cert.DHxRefIdeal.main_arg1) = m ((c.tc : Thread Cert.DHxRefIdeal.nD Cert.DHxRefIdeal.τ).loc Cert.DHxRefIdeal.main_arg1)
      ∧ r.2.mem ((c.tc : Thread Cert.DHxRefIdeal.nD Cert.DHxRefIdeal.τ).loc Cert.DHxRefIdeal.main_arg2) = m ((c.tc : Thread Cert.DHxRefIdeal.nD Cert.DHxRefIdeal.τ).loc Cert.DHxRefIdeal.main_arg2)
      ∧ r.2.mem ((c.tc : Thread Cert.DHxRefIdeal.nD Cert.DHxRefIdeal.τ).loc Cert.DHxRefIdeal.main_arg3) = m ((c.tc : Thread Cert.DHxRefIdeal.nD Cert.DHxRefIdeal.τ).loc Cert.DHxRefIdeal.main_arg3)
      ∧ r.2.mem ((c.tc : Thread Cert.DHxRefIdeal.nD Cert.DHxRefIdeal.τ).loc Cert.DHxRefIdeal.main_arg4) = m ((c.tc : Thread Cert.DHxRefIdeal.nD Cert.DHxRefIdeal.τ).loc Cert.DHxRefIdeal.main_arg4))
      ∧ r.2.sem = fun _ => 0)

def quiescent_DUp [hDUp : Cert.DUp.Facts] : Prop :=
  ∀ (m : (ℓ : Loc Cert.DUp.nD Cert.DUp.τ Cert.DUp.sig) → Buf (Elt Bits) ℓ) (g : Dev Cert.DUp.nD → PrngReg), Pre_DUp m →
    θ_run (Cert.DUp.defs (F := Bits)) (onTc (τ := Cert.DUp.τ) (Cert.DUp.main (F := Bits))) ⟨m, fun _ => 0, g⟩ (fun r => (∀ c : Dev Cert.DUp.nD,
      r.2.mem ((c.tc : Thread Cert.DUp.nD Cert.DUp.τ).loc Cert.DUp.main_arg0) = m ((c.tc : Thread Cert.DUp.nD Cert.DUp.τ).loc Cert.DUp.main_arg0)
      ∧ r.2.mem ((c.tc : Thread Cert.DUp.nD Cert.DUp.τ).loc Cert.DUp.main_arg1) = m ((c.tc : Thread Cert.DUp.nD Cert.DUp.τ).loc Cert.DUp.main_arg1))
      ∧ r.2.sem = fun _ => 0)

def quiescent_DUpIdeal [hDUpIdeal : Cert.DUpIdeal.Facts] : Prop :=
  ∀ (m : (ℓ : Loc Cert.DUpIdeal.nD Cert.DUpIdeal.τ Cert.DUpIdeal.sig) → Buf (Elt Ideal) ℓ) (g : Dev Cert.DUpIdeal.nD → PrngReg), Pre_DUpIdeal m →
    θ_run (Cert.DUpIdeal.defs (F := Ideal)) (onTc (τ := Cert.DUpIdeal.τ) (Cert.DUpIdeal.main (F := Ideal))) ⟨m, fun _ => 0, g⟩ (fun r => (∀ c : Dev Cert.DUpIdeal.nD,
      r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
      ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1))
      ∧ r.2.sem = fun _ => 0)

def quiescent_DUpRefIdeal [hDUpRefIdeal : Cert.DUpRefIdeal.Facts] : Prop :=
  ∀ (m : (ℓ : Loc Cert.DUpRefIdeal.nD Cert.DUpRefIdeal.τ Cert.DUpRefIdeal.sig) → Buf (Elt Ideal) ℓ) (g : Dev Cert.DUpRefIdeal.nD → PrngReg), Pre_DUpRefIdeal m →
    θ_run (Cert.DUpRefIdeal.defs (F := Ideal)) (onTc (τ := Cert.DUpRefIdeal.τ) (Cert.DUpRefIdeal.main (F := Ideal))) ⟨m, fun _ => 0, g⟩ (fun r => (∀ c : Dev Cert.DUpRefIdeal.nD,
      r.2.mem ((c.tc : Thread Cert.DUpRefIdeal.nD Cert.DUpRefIdeal.τ).loc Cert.DUpRefIdeal.main_arg0) = m ((c.tc : Thread Cert.DUpRefIdeal.nD Cert.DUpRefIdeal.τ).loc Cert.DUpRefIdeal.main_arg0)
      ∧ r.2.mem ((c.tc : Thread Cert.DUpRefIdeal.nD Cert.DUpRefIdeal.τ).loc Cert.DUpRefIdeal.main_arg1) = m ((c.tc : Thread Cert.DUpRefIdeal.nD Cert.DUpRefIdeal.τ).loc Cert.DUpRefIdeal.main_arg1))
      ∧ r.2.sem = fun _ => 0)

def quiescent_DUpGla [hDUpGla : Cert.DUpGla.Facts] : Prop :=
  ∀ (m : (ℓ : Loc Cert.DUpGla.nD Cert.DUpGla.τ Cert.DUpGla.sig) → Buf (Elt Bits) ℓ) (g : Dev Cert.DUpGla.nD → PrngReg), Pre_DUpGla m →
    θ_run (Cert.DUpGla.defs (F := Bits)) (onTc (τ := Cert.DUpGla.τ) (Cert.DUpGla.main (F := Bits))) ⟨m, fun _ => 0, g⟩ (fun r => (∀ c : Dev Cert.DUpGla.nD,
      r.2.mem ((c.tc : Thread Cert.DUpGla.nD Cert.DUpGla.τ).loc Cert.DUpGla.main_arg0) = m ((c.tc : Thread Cert.DUpGla.nD Cert.DUpGla.τ).loc Cert.DUpGla.main_arg0)
      ∧ r.2.mem ((c.tc : Thread Cert.DUpGla.nD Cert.DUpGla.τ).loc Cert.DUpGla.main_arg1) = m ((c.tc : Thread Cert.DUpGla.nD Cert.DUpGla.τ).loc Cert.DUpGla.main_arg1))
      ∧ r.2.sem = fun _ => 0)

def quiescent_DUpGlaIdeal [hDUpGlaIdeal : Cert.DUpGlaIdeal.Facts] : Prop :=
  ∀ (m : (ℓ : Loc Cert.DUpGlaIdeal.nD Cert.DUpGlaIdeal.τ Cert.DUpGlaIdeal.sig) → Buf (Elt Ideal) ℓ) (g : Dev Cert.DUpGlaIdeal.nD → PrngReg), Pre_DUpGlaIdeal m →
    θ_run (Cert.DUpGlaIdeal.defs (F := Ideal)) (onTc (τ := Cert.DUpGlaIdeal.τ) (Cert.DUpGlaIdeal.main (F := Ideal))) ⟨m, fun _ => 0, g⟩ (fun r => (∀ c : Dev Cert.DUpGlaIdeal.nD,
      r.2.mem ((c.tc : Thread Cert.DUpGlaIdeal.nD Cert.DUpGlaIdeal.τ).loc Cert.DUpGlaIdeal.main_arg0) = m ((c.tc : Thread Cert.DUpGlaIdeal.nD Cert.DUpGlaIdeal.τ).loc Cert.DUpGlaIdeal.main_arg0)
      ∧ r.2.mem ((c.tc : Thread Cert.DUpGlaIdeal.nD Cert.DUpGlaIdeal.τ).loc Cert.DUpGlaIdeal.main_arg1) = m ((c.tc : Thread Cert.DUpGlaIdeal.nD Cert.DUpGlaIdeal.τ).loc Cert.DUpGlaIdeal.main_arg1))
      ∧ r.2.sem = fun _ => 0)

def quiescent_DUpGlaRefIdeal [hDUpGlaRefIdeal : Cert.DUpGlaRefIdeal.Facts] : Prop :=
  ∀ (m : (ℓ : Loc Cert.DUpGlaRefIdeal.nD Cert.DUpGlaRefIdeal.τ Cert.DUpGlaRefIdeal.sig) → Buf (Elt Ideal) ℓ) (g : Dev Cert.DUpGlaRefIdeal.nD → PrngReg), Pre_DUpGlaRefIdeal m →
    θ_run (Cert.DUpGlaRefIdeal.defs (F := Ideal)) (onTc (τ := Cert.DUpGlaRefIdeal.τ) (Cert.DUpGlaRefIdeal.main (F := Ideal))) ⟨m, fun _ => 0, g⟩ (fun r => (∀ c : Dev Cert.DUpGlaRefIdeal.nD,
      r.2.mem ((c.tc : Thread Cert.DUpGlaRefIdeal.nD Cert.DUpGlaRefIdeal.τ).loc Cert.DUpGlaRefIdeal.main_arg0) = m ((c.tc : Thread Cert.DUpGlaRefIdeal.nD Cert.DUpGlaRefIdeal.τ).loc Cert.DUpGlaRefIdeal.main_arg0)
      ∧ r.2.mem ((c.tc : Thread Cert.DUpGlaRefIdeal.nD Cert.DUpGlaRefIdeal.τ).loc Cert.DUpGlaRefIdeal.main_arg1) = m ((c.tc : Thread Cert.DUpGlaRefIdeal.nD Cert.DUpGlaRefIdeal.τ).loc Cert.DUpGlaRefIdeal.main_arg1))
      ∧ r.2.sem = fun _ => 0)

def quiescent_DUq [hDUq : Cert.DUq.Facts] : Prop :=
  ∀ (m : (ℓ : Loc Cert.DUq.nD Cert.DUq.τ Cert.DUq.sig) → Buf (Elt Bits) ℓ) (g : Dev Cert.DUq.nD → PrngReg), Pre_DUq m →
    θ_run (Cert.DUq.defs (F := Bits)) (onTc (τ := Cert.DUq.τ) (Cert.DUq.main (F := Bits))) ⟨m, fun _ => 0, g⟩ (fun r => (∀ c : Dev Cert.DUq.nD,
      r.2.mem ((c.tc : Thread Cert.DUq.nD Cert.DUq.τ).loc Cert.DUq.main_arg0) = m ((c.tc : Thread Cert.DUq.nD Cert.DUq.τ).loc Cert.DUq.main_arg0)
      ∧ r.2.mem ((c.tc : Thread Cert.DUq.nD Cert.DUq.τ).loc Cert.DUq.main_arg1) = m ((c.tc : Thread Cert.DUq.nD Cert.DUq.τ).loc Cert.DUq.main_arg1))
      ∧ r.2.sem = fun _ => 0)

def quiescent_DUqIdeal [hDUqIdeal : Cert.DUqIdeal.Facts] : Prop :=
  ∀ (m : (ℓ : Loc Cert.DUqIdeal.nD Cert.DUqIdeal.τ Cert.DUqIdeal.sig) → Buf (Elt Ideal) ℓ) (g : Dev Cert.DUqIdeal.nD → PrngReg), Pre_DUqIdeal m →
    θ_run (Cert.DUqIdeal.defs (F := Ideal)) (onTc (τ := Cert.DUqIdeal.τ) (Cert.DUqIdeal.main (F := Ideal))) ⟨m, fun _ => 0, g⟩ (fun r => (∀ c : Dev Cert.DUqIdeal.nD,
      r.2.mem ((c.tc : Thread Cert.DUqIdeal.nD Cert.DUqIdeal.τ).loc Cert.DUqIdeal.main_arg0) = m ((c.tc : Thread Cert.DUqIdeal.nD Cert.DUqIdeal.τ).loc Cert.DUqIdeal.main_arg0)
      ∧ r.2.mem ((c.tc : Thread Cert.DUqIdeal.nD Cert.DUqIdeal.τ).loc Cert.DUqIdeal.main_arg1) = m ((c.tc : Thread Cert.DUqIdeal.nD Cert.DUqIdeal.τ).loc Cert.DUqIdeal.main_arg1))
      ∧ r.2.sem = fun _ => 0)

def quiescent_DUqRefIdeal [hDUqRefIdeal : Cert.DUqRefIdeal.Facts] : Prop :=
  ∀ (m : (ℓ : Loc Cert.DUqRefIdeal.nD Cert.DUqRefIdeal.τ Cert.DUqRefIdeal.sig) → Buf (Elt Ideal) ℓ) (g : Dev Cert.DUqRefIdeal.nD → PrngReg), Pre_DUqRefIdeal m →
    θ_run (Cert.DUqRefIdeal.defs (F := Ideal)) (onTc (τ := Cert.DUqRefIdeal.τ) (Cert.DUqRefIdeal.main (F := Ideal))) ⟨m, fun _ => 0, g⟩ (fun r => (∀ c : Dev Cert.DUqRefIdeal.nD,
      r.2.mem ((c.tc : Thread Cert.DUqRefIdeal.nD Cert.DUqRefIdeal.τ).loc Cert.DUqRefIdeal.main_arg0) = m ((c.tc : Thread Cert.DUqRefIdeal.nD Cert.DUqRefIdeal.τ).loc Cert.DUqRefIdeal.main_arg0)
      ∧ r.2.mem ((c.tc : Thread Cert.DUqRefIdeal.nD Cert.DUqRefIdeal.τ).loc Cert.DUqRefIdeal.main_arg1) = m ((c.tc : Thread Cert.DUqRefIdeal.nD Cert.DUqRefIdeal.τ).loc Cert.DUqRefIdeal.main_arg1))
      ∧ r.2.sem = fun _ => 0)

def quiescent_DCqn [hDCqn : Cert.DCqn.Facts] : Prop :=
  ∀ (m : (ℓ : Loc Cert.DCqn.nD Cert.DCqn.τ Cert.DCqn.sig) → Buf (Elt Bits) ℓ) (g : Dev Cert.DCqn.nD → PrngReg), Pre_DCqn m →
    θ_run (Cert.DCqn.defs (F := Bits)) (onTc (τ := Cert.DCqn.τ) (Cert.DCqn.main (F := Bits))) ⟨m, fun _ => 0, g⟩ (fun r => (∀ c : Dev Cert.DCqn.nD,
      r.2.mem ((c.tc : Thread Cert.DCqn.nD Cert.DCqn.τ).loc Cert.DCqn.main_arg0) = m ((c.tc : Thread Cert.DCqn.nD Cert.DCqn.τ).loc Cert.DCqn.main_arg0)
      ∧ r.2.mem ((c.tc : Thread Cert.DCqn.nD Cert.DCqn.τ).loc Cert.DCqn.main_arg1) = m ((c.tc : Thread Cert.DCqn.nD Cert.DCqn.τ).loc Cert.DCqn.main_arg1))
      ∧ r.2.sem = fun _ => 0)

def quiescent_DCqnIdeal [hDCqnIdeal : Cert.DCqnIdeal.Facts] : Prop :=
  ∀ (m : (ℓ : Loc Cert.DCqnIdeal.nD Cert.DCqnIdeal.τ Cert.DCqnIdeal.sig) → Buf (Elt Ideal) ℓ) (g : Dev Cert.DCqnIdeal.nD → PrngReg), Pre_DCqnIdeal m →
    θ_run (Cert.DCqnIdeal.defs (F := Ideal)) (onTc (τ := Cert.DCqnIdeal.τ) (Cert.DCqnIdeal.main (F := Ideal))) ⟨m, fun _ => 0, g⟩ (fun r => (∀ c : Dev Cert.DCqnIdeal.nD,
      r.2.mem ((c.tc : Thread Cert.DCqnIdeal.nD Cert.DCqnIdeal.τ).loc Cert.DCqnIdeal.main_arg0) = m ((c.tc : Thread Cert.DCqnIdeal.nD Cert.DCqnIdeal.τ).loc Cert.DCqnIdeal.main_arg0)
      ∧ r.2.mem ((c.tc : Thread Cert.DCqnIdeal.nD Cert.DCqnIdeal.τ).loc Cert.DCqnIdeal.main_arg1) = m ((c.tc : Thread Cert.DCqnIdeal.nD Cert.DCqnIdeal.τ).loc Cert.DCqnIdeal.main_arg1))
      ∧ r.2.sem = fun _ => 0)

def quiescent_DCqnRefIdeal [hDCqnRefIdeal : Cert.DCqnRefIdeal.Facts] : Prop :=
  ∀ (m : (ℓ : Loc Cert.DCqnRefIdeal.nD Cert.DCqnRefIdeal.τ Cert.DCqnRefIdeal.sig) → Buf (Elt Ideal) ℓ) (g : Dev Cert.DCqnRefIdeal.nD → PrngReg), Pre_DCqnRefIdeal m →
    θ_run (Cert.DCqnRefIdeal.defs (F := Ideal)) (onTc (τ := Cert.DCqnRefIdeal.τ) (Cert.DCqnRefIdeal.main (F := Ideal))) ⟨m, fun _ => 0, g⟩ (fun r => (∀ c : Dev Cert.DCqnRefIdeal.nD,
      r.2.mem ((c.tc : Thread Cert.DCqnRefIdeal.nD Cert.DCqnRefIdeal.τ).loc Cert.DCqnRefIdeal.main_arg0) = m ((c.tc : Thread Cert.DCqnRefIdeal.nD Cert.DCqnRefIdeal.τ).loc Cert.DCqnRefIdeal.main_arg0)
      ∧ r.2.mem ((c.tc : Thread Cert.DCqnRefIdeal.nD Cert.DCqnRefIdeal.τ).loc Cert.DCqnRefIdeal.main_arg1) = m ((c.tc : Thread Cert.DCqnRefIdeal.nD Cert.DCqnRefIdeal.τ).loc Cert.DCqnRefIdeal.main_arg1))
      ∧ r.2.sem = fun _ => 0)

def quiescent_DUkv [hDUkv : Cert.DUkv.Facts] : Prop :=
  ∀ (m : (ℓ : Loc Cert.DUkv.nD Cert.DUkv.τ Cert.DUkv.sig) → Buf (Elt Bits) ℓ) (g : Dev Cert.DUkv.nD → PrngReg), Pre_DUkv m →
    θ_run (Cert.DUkv.defs (F := Bits)) (onTc (τ := Cert.DUkv.τ) (Cert.DUkv.main (F := Bits))) ⟨m, fun _ => 0, g⟩ (fun r => (∀ c : Dev Cert.DUkv.nD,
      r.2.mem ((c.tc : Thread Cert.DUkv.nD Cert.DUkv.τ).loc Cert.DUkv.main_arg0) = m ((c.tc : Thread Cert.DUkv.nD Cert.DUkv.τ).loc Cert.DUkv.main_arg0)
      ∧ r.2.mem ((c.tc : Thread Cert.DUkv.nD Cert.DUkv.τ).loc Cert.DUkv.main_arg1) = m ((c.tc : Thread Cert.DUkv.nD Cert.DUkv.τ).loc Cert.DUkv.main_arg1))
      ∧ r.2.sem = fun _ => 0)

def quiescent_DUkvIdeal [hDUkvIdeal : Cert.DUkvIdeal.Facts] : Prop :=
  ∀ (m : (ℓ : Loc Cert.DUkvIdeal.nD Cert.DUkvIdeal.τ Cert.DUkvIdeal.sig) → Buf (Elt Ideal) ℓ) (g : Dev Cert.DUkvIdeal.nD → PrngReg), Pre_DUkvIdeal m →
    θ_run (Cert.DUkvIdeal.defs (F := Ideal)) (onTc (τ := Cert.DUkvIdeal.τ) (Cert.DUkvIdeal.main (F := Ideal))) ⟨m, fun _ => 0, g⟩ (fun r => (∀ c : Dev Cert.DUkvIdeal.nD,
      r.2.mem ((c.tc : Thread Cert.DUkvIdeal.nD Cert.DUkvIdeal.τ).loc Cert.DUkvIdeal.main_arg0) = m ((c.tc : Thread Cert.DUkvIdeal.nD Cert.DUkvIdeal.τ).loc Cert.DUkvIdeal.main_arg0)
      ∧ r.2.mem ((c.tc : Thread Cert.DUkvIdeal.nD Cert.DUkvIdeal.τ).loc Cert.DUkvIdeal.main_arg1) = m ((c.tc : Thread Cert.DUkvIdeal.nD Cert.DUkvIdeal.τ).loc Cert.DUkvIdeal.main_arg1))
      ∧ r.2.sem = fun _ => 0)

def quiescent_DUkvRefIdeal [hDUkvRefIdeal : Cert.DUkvRefIdeal.Facts] : Prop :=
  ∀ (m : (ℓ : Loc Cert.DUkvRefIdeal.nD Cert.DUkvRefIdeal.τ Cert.DUkvRefIdeal.sig) → Buf (Elt Ideal) ℓ) (g : Dev Cert.DUkvRefIdeal.nD → PrngReg), Pre_DUkvRefIdeal m →
    θ_run (Cert.DUkvRefIdeal.defs (F := Ideal)) (onTc (τ := Cert.DUkvRefIdeal.τ) (Cert.DUkvRefIdeal.main (F := Ideal))) ⟨m, fun _ => 0, g⟩ (fun r => (∀ c : Dev Cert.DUkvRefIdeal.nD,
      r.2.mem ((c.tc : Thread Cert.DUkvRefIdeal.nD Cert.DUkvRefIdeal.τ).loc Cert.DUkvRefIdeal.main_arg0) = m ((c.tc : Thread Cert.DUkvRefIdeal.nD Cert.DUkvRefIdeal.τ).loc Cert.DUkvRefIdeal.main_arg0)
      ∧ r.2.mem ((c.tc : Thread Cert.DUkvRefIdeal.nD Cert.DUkvRefIdeal.τ).loc Cert.DUkvRefIdeal.main_arg1) = m ((c.tc : Thread Cert.DUkvRefIdeal.nD Cert.DUkvRefIdeal.τ).loc Cert.DUkvRefIdeal.main_arg1))
      ∧ r.2.sem = fun _ => 0)

def quiescent_DCkvn [hDCkvn : Cert.DCkvn.Facts] : Prop :=
  ∀ (m : (ℓ : Loc Cert.DCkvn.nD Cert.DCkvn.τ Cert.DCkvn.sig) → Buf (Elt Bits) ℓ) (g : Dev Cert.DCkvn.nD → PrngReg), Pre_DCkvn m →
    θ_run (Cert.DCkvn.defs (F := Bits)) (onTc (τ := Cert.DCkvn.τ) (Cert.DCkvn.main (F := Bits))) ⟨m, fun _ => 0, g⟩ (fun r => (∀ c : Dev Cert.DCkvn.nD,
      r.2.mem ((c.tc : Thread Cert.DCkvn.nD Cert.DCkvn.τ).loc Cert.DCkvn.main_arg0) = m ((c.tc : Thread Cert.DCkvn.nD Cert.DCkvn.τ).loc Cert.DCkvn.main_arg0)
      ∧ r.2.mem ((c.tc : Thread Cert.DCkvn.nD Cert.DCkvn.τ).loc Cert.DCkvn.main_arg1) = m ((c.tc : Thread Cert.DCkvn.nD Cert.DCkvn.τ).loc Cert.DCkvn.main_arg1))
      ∧ r.2.sem = fun _ => 0)

def quiescent_DCkvnIdeal [hDCkvnIdeal : Cert.DCkvnIdeal.Facts] : Prop :=
  ∀ (m : (ℓ : Loc Cert.DCkvnIdeal.nD Cert.DCkvnIdeal.τ Cert.DCkvnIdeal.sig) → Buf (Elt Ideal) ℓ) (g : Dev Cert.DCkvnIdeal.nD → PrngReg), Pre_DCkvnIdeal m →
    θ_run (Cert.DCkvnIdeal.defs (F := Ideal)) (onTc (τ := Cert.DCkvnIdeal.τ) (Cert.DCkvnIdeal.main (F := Ideal))) ⟨m, fun _ => 0, g⟩ (fun r => (∀ c : Dev Cert.DCkvnIdeal.nD,
      r.2.mem ((c.tc : Thread Cert.DCkvnIdeal.nD Cert.DCkvnIdeal.τ).loc Cert.DCkvnIdeal.main_arg0) = m ((c.tc : Thread Cert.DCkvnIdeal.nD Cert.DCkvnIdeal.τ).loc Cert.DCkvnIdeal.main_arg0)
      ∧ r.2.mem ((c.tc : Thread Cert.DCkvnIdeal.nD Cert.DCkvnIdeal.τ).loc Cert.DCkvnIdeal.main_arg1) = m ((c.tc : Thread Cert.DCkvnIdeal.nD Cert.DCkvnIdeal.τ).loc Cert.DCkvnIdeal.main_arg1))
      ∧ r.2.sem = fun _ => 0)

def quiescent_DCkvnRefIdeal [hDCkvnRefIdeal : Cert.DCkvnRefIdeal.Facts] : Prop :=
  ∀ (m : (ℓ : Loc Cert.DCkvnRefIdeal.nD Cert.DCkvnRefIdeal.τ Cert.DCkvnRefIdeal.sig) → Buf (Elt Ideal) ℓ) (g : Dev Cert.DCkvnRefIdeal.nD → PrngReg), Pre_DCkvnRefIdeal m →
    θ_run (Cert.DCkvnRefIdeal.defs (F := Ideal)) (onTc (τ := Cert.DCkvnRefIdeal.τ) (Cert.DCkvnRefIdeal.main (F := Ideal))) ⟨m, fun _ => 0, g⟩ (fun r => (∀ c : Dev Cert.DCkvnRefIdeal.nD,
      r.2.mem ((c.tc : Thread Cert.DCkvnRefIdeal.nD Cert.DCkvnRefIdeal.τ).loc Cert.DCkvnRefIdeal.main_arg0) = m ((c.tc : Thread Cert.DCkvnRefIdeal.nD Cert.DCkvnRefIdeal.τ).loc Cert.DCkvnRefIdeal.main_arg0)
      ∧ r.2.mem ((c.tc : Thread Cert.DCkvnRefIdeal.nD Cert.DCkvnRefIdeal.τ).loc Cert.DCkvnRefIdeal.main_arg1) = m ((c.tc : Thread Cert.DCkvnRefIdeal.nD Cert.DCkvnRefIdeal.τ).loc Cert.DCkvnRefIdeal.main_arg1))
      ∧ r.2.sem = fun _ => 0)

def quiescent_Mlp1 [hMlp1 : Cert.Mlp1.Facts] : Prop :=
  ∀ (m : (ℓ : Loc Cert.Mlp1.nD Cert.Mlp1.τ Cert.Mlp1.sig) → Buf (Elt Bits) ℓ) (g : Dev Cert.Mlp1.nD → PrngReg), Pre_Mlp1 m →
    θ_run (Cert.Mlp1.defs (F := Bits)) (onTc (τ := Cert.Mlp1.τ) (Cert.Mlp1.main (F := Bits))) ⟨m, fun _ => 0, g⟩ (fun r => (∀ c : Dev Cert.Mlp1.nD,
      r.2.mem ((c.tc : Thread Cert.Mlp1.nD Cert.Mlp1.τ).loc Cert.Mlp1.main_arg0) = m ((c.tc : Thread Cert.Mlp1.nD Cert.Mlp1.τ).loc Cert.Mlp1.main_arg0)
      ∧ r.2.mem ((c.tc : Thread Cert.Mlp1.nD Cert.Mlp1.τ).loc Cert.Mlp1.main_arg1) = m ((c.tc : Thread Cert.Mlp1.nD Cert.Mlp1.τ).loc Cert.Mlp1.main_arg1)
      ∧ r.2.mem ((c.tc : Thread Cert.Mlp1.nD Cert.Mlp1.τ).loc Cert.Mlp1.main_arg2) = m ((c.tc : Thread Cert.Mlp1.nD Cert.Mlp1.τ).loc Cert.Mlp1.main_arg2))
      ∧ r.2.sem = fun _ => 0)

def quiescent_Mlp1Ideal [hMlp1Ideal : Cert.Mlp1Ideal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg), Pre_Mlp1Ideal m →
    θ_run (Cert.Mlp1Ideal.defs (F := Ideal)) (onTc (τ := Cert.Mlp1Ideal.τ) (Cert.Mlp1Ideal.main (F := Ideal))) ⟨m, fun _ => 0, g⟩ (fun r => (∀ c : Dev Cert.Mlp1Ideal.nD,
      r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
      ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
      ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2))
      ∧ r.2.sem = fun _ => 0)

def quiescent_Mlp1RefIdeal [hMlp1RefIdeal : Cert.Mlp1RefIdeal.Facts] : Prop :=
  ∀ (m : (ℓ : Loc Cert.Mlp1RefIdeal.nD Cert.Mlp1RefIdeal.τ Cert.Mlp1RefIdeal.sig) → Buf (Elt Ideal) ℓ) (g : Dev Cert.Mlp1RefIdeal.nD → PrngReg), Pre_Mlp1RefIdeal m →
    θ_run (Cert.Mlp1RefIdeal.defs (F := Ideal)) (onTc (τ := Cert.Mlp1RefIdeal.τ) (Cert.Mlp1RefIdeal.main (F := Ideal))) ⟨m, fun _ => 0, g⟩ (fun r => (∀ c : Dev Cert.Mlp1RefIdeal.nD,
      r.2.mem ((c.tc : Thread Cert.Mlp1RefIdeal.nD Cert.Mlp1RefIdeal.τ).loc Cert.Mlp1RefIdeal.main_arg0) = m ((c.tc : Thread Cert.Mlp1RefIdeal.nD Cert.Mlp1RefIdeal.τ).loc Cert.Mlp1RefIdeal.main_arg0)
      ∧ r.2.mem ((c.tc : Thread Cert.Mlp1RefIdeal.nD Cert.Mlp1RefIdeal.τ).loc Cert.Mlp1RefIdeal.main_arg1) = m ((c.tc : Thread Cert.Mlp1RefIdeal.nD Cert.Mlp1RefIdeal.τ).loc Cert.Mlp1RefIdeal.main_arg1)
      ∧ r.2.mem ((c.tc : Thread Cert.Mlp1RefIdeal.nD Cert.Mlp1RefIdeal.τ).loc Cert.Mlp1RefIdeal.main_arg2) = m ((c.tc : Thread Cert.Mlp1RefIdeal.nD Cert.Mlp1RefIdeal.τ).loc Cert.Mlp1RefIdeal.main_arg2))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1)
      ∧ r.2.mem ((c.tc : Thread Cert.InA.nD Cert.InA.τ).loc Cert.InA.main_arg2) = m ((c.tc : Thread Cert.InA.nD Cert.InA.τ).loc Cert.InA.main_arg2))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
      ∧ r.2.mem ((c.tc : Thread Cert.InAIdeal.nD Cert.InAIdeal.τ).loc Cert.InAIdeal.main_arg2) = m ((c.tc : Thread Cert.InAIdeal.nD Cert.InAIdeal.τ).loc Cert.InAIdeal.main_arg2))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1)
      ∧ r.2.mem ((c.tc : Thread Cert.InARefIdeal.nD Cert.InARefIdeal.τ).loc Cert.InARefIdeal.main_arg2) = m ((c.tc : Thread Cert.InARefIdeal.nD Cert.InARefIdeal.τ).loc Cert.InARefIdeal.main_arg2))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1)
      ∧ r.2.mem ((c.tc : Thread Cert.Xq.nD Cert.Xq.τ).loc Cert.Xq.main_arg2) = m ((c.tc : Thread Cert.Xq.nD Cert.Xq.τ).loc Cert.Xq.main_arg2))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
      ∧ r.2.mem ((c.tc : Thread Cert.XqIdeal.nD Cert.XqIdeal.τ).loc Cert.XqIdeal.main_arg2) = m ((c.tc : Thread Cert.XqIdeal.nD Cert.XqIdeal.τ).loc Cert.XqIdeal.main_arg2))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1)
      ∧ r.2.mem ((c.tc : Thread Cert.XqRefIdeal.nD Cert.XqRefIdeal.τ).loc Cert.XqRefIdeal.main_arg2) = m ((c.tc : Thread Cert.XqRefIdeal.nD Cert.XqRefIdeal.τ).loc Cert.XqRefIdeal.main_arg2))
      ∧ r.2.sem = fun _ => 0)

def quiescent_Xkv [hXkv : Cert.Xkv.Facts] : Prop :=
  ∀ (m : (ℓ : Loc Cert.Xkv.nD Cert.Xkv.τ Cert.Xkv.sig) → Buf (Elt Bits) ℓ) (g : Dev Cert.Xkv.nD → PrngReg), Pre_Xkv m →
    θ_run (Cert.Xkv.defs (F := Bits)) (onTc (τ := Cert.Xkv.τ) (Cert.Xkv.main (F := Bits))) ⟨m, fun _ => 0, g⟩ (fun r => (∀ c : Dev Cert.Xkv.nD,
      r.2.mem ((c.tc : Thread Cert.Xkv.nD Cert.Xkv.τ).loc Cert.Xkv.main_arg0) = m ((c.tc : Thread Cert.Xkv.nD Cert.Xkv.τ).loc Cert.Xkv.main_arg0)
      ∧ r.2.mem ((c.tc : Thread Cert.Xkv.nD Cert.Xkv.τ).loc Cert.Xkv.main_arg1) = m ((c.tc : Thread Cert.Xkv.nD Cert.Xkv.τ).loc Cert.Xkv.main_arg1)
      ∧ r.2.mem ((c.tc : Thread Cert.Xkv.nD Cert.Xkv.τ).loc Cert.Xkv.main_arg2) = m ((c.tc : Thread Cert.Xkv.nD Cert.Xkv.τ).loc Cert.Xkv.main_arg2))
      ∧ r.2.sem = fun _ => 0)

def quiescent_XkvIdeal [hXkvIdeal : Cert.XkvIdeal.Facts] : Prop :=
  ∀ (m : (ℓ : Loc Cert.XkvIdeal.nD Cert.XkvIdeal.τ Cert.XkvIdeal.sig) → Buf (Elt Ideal) ℓ) (g : Dev Cert.XkvIdeal.nD → PrngReg), Pre_XkvIdeal m →
    θ_run (Cert.XkvIdeal.defs (F := Ideal)) (onTc (τ := Cert.XkvIdeal.τ) (Cert.XkvIdeal.main (F := Ideal))) ⟨m, fun _ => 0, g⟩ (fun r => (∀ c : Dev Cert.XkvIdeal.nD,
      r.2.mem ((c.tc : Thread Cert.XkvIdeal.nD Cert.XkvIdeal.τ).loc Cert.XkvIdeal.main_arg0) = m ((c.tc : Thread Cert.XkvIdeal.nD Cert.XkvIdeal.τ).loc Cert.XkvIdeal.main_arg0)
      ∧ r.2.mem ((c.tc : Thread Cert.XkvIdeal.nD Cert.XkvIdeal.τ).loc Cert.XkvIdeal.main_arg1) = m ((c.tc : Thread Cert.XkvIdeal.nD Cert.XkvIdeal.τ).loc Cert.XkvIdeal.main_arg1)
      ∧ r.2.mem ((c.tc : Thread Cert.XkvIdeal.nD Cert.XkvIdeal.τ).loc Cert.XkvIdeal.main_arg2) = m ((c.tc : Thread Cert.XkvIdeal.nD Cert.XkvIdeal.τ).loc Cert.XkvIdeal.main_arg2))
      ∧ r.2.sem = fun _ => 0)

def quiescent_XkvRefIdeal [hXkvRefIdeal : Cert.XkvRefIdeal.Facts] : Prop :=
  ∀ (m : (ℓ : Loc Cert.XkvRefIdeal.nD Cert.XkvRefIdeal.τ Cert.XkvRefIdeal.sig) → Buf (Elt Ideal) ℓ) (g : Dev Cert.XkvRefIdeal.nD → PrngReg), Pre_XkvRefIdeal m →
    θ_run (Cert.XkvRefIdeal.defs (F := Ideal)) (onTc (τ := Cert.XkvRefIdeal.τ) (Cert.XkvRefIdeal.main (F := Ideal))) ⟨m, fun _ => 0, g⟩ (fun r => (∀ c : Dev Cert.XkvRefIdeal.nD,
      r.2.mem ((c.tc : Thread Cert.XkvRefIdeal.nD Cert.XkvRefIdeal.τ).loc Cert.XkvRefIdeal.main_arg0) = m ((c.tc : Thread Cert.XkvRefIdeal.nD Cert.XkvRefIdeal.τ).loc Cert.XkvRefIdeal.main_arg0)
      ∧ r.2.mem ((c.tc : Thread Cert.XkvRefIdeal.nD Cert.XkvRefIdeal.τ).loc Cert.XkvRefIdeal.main_arg1) = m ((c.tc : Thread Cert.XkvRefIdeal.nD Cert.XkvRefIdeal.τ).loc Cert.XkvRefIdeal.main_arg1)
      ∧ r.2.mem ((c.tc : Thread Cert.XkvRefIdeal.nD Cert.XkvRefIdeal.τ).loc Cert.XkvRefIdeal.main_arg2) = m ((c.tc : Thread Cert.XkvRefIdeal.nD Cert.XkvRefIdeal.τ).loc Cert.XkvRefIdeal.main_arg2))
      ∧ r.2.sem = fun _ => 0)

def quiescent_MlaUq [hMlaUq : Cert.MlaUq.Facts] : Prop :=
  ∀ (m : (ℓ : Loc Cert.MlaUq.nD Cert.MlaUq.τ Cert.MlaUq.sig) → Buf (Elt Bits) ℓ) (g : Dev Cert.MlaUq.nD → PrngReg), Pre_MlaUq m →
    θ_run (Cert.MlaUq.defs (F := Bits)) (onTc (τ := Cert.MlaUq.τ) (Cert.MlaUq.main (F := Bits))) ⟨m, fun _ => 0, g⟩ (fun r => (∀ c : Dev Cert.MlaUq.nD,
      r.2.mem ((c.tc : Thread Cert.MlaUq.nD Cert.MlaUq.τ).loc Cert.MlaUq.main_arg0) = m ((c.tc : Thread Cert.MlaUq.nD Cert.MlaUq.τ).loc Cert.MlaUq.main_arg0)
      ∧ r.2.mem ((c.tc : Thread Cert.MlaUq.nD Cert.MlaUq.τ).loc Cert.MlaUq.main_arg1) = m ((c.tc : Thread Cert.MlaUq.nD Cert.MlaUq.τ).loc Cert.MlaUq.main_arg1)
      ∧ r.2.mem ((c.tc : Thread Cert.MlaUq.nD Cert.MlaUq.τ).loc Cert.MlaUq.main_arg2) = m ((c.tc : Thread Cert.MlaUq.nD Cert.MlaUq.τ).loc Cert.MlaUq.main_arg2))
      ∧ r.2.sem = fun _ => 0)

def quiescent_MlaUqIdeal [hMlaUqIdeal : Cert.MlaUqIdeal.Facts] : Prop :=
  ∀ (m : (ℓ : Loc Cert.MlaUqIdeal.nD Cert.MlaUqIdeal.τ Cert.MlaUqIdeal.sig) → Buf (Elt Ideal) ℓ) (g : Dev Cert.MlaUqIdeal.nD → PrngReg), Pre_MlaUqIdeal m →
    θ_run (Cert.MlaUqIdeal.defs (F := Ideal)) (onTc (τ := Cert.MlaUqIdeal.τ) (Cert.MlaUqIdeal.main (F := Ideal))) ⟨m, fun _ => 0, g⟩ (fun r => (∀ c : Dev Cert.MlaUqIdeal.nD,
      r.2.mem ((c.tc : Thread Cert.MlaUqIdeal.nD Cert.MlaUqIdeal.τ).loc Cert.MlaUqIdeal.main_arg0) = m ((c.tc : Thread Cert.MlaUqIdeal.nD Cert.MlaUqIdeal.τ).loc Cert.MlaUqIdeal.main_arg0)
      ∧ r.2.mem ((c.tc : Thread Cert.MlaUqIdeal.nD Cert.MlaUqIdeal.τ).loc Cert.MlaUqIdeal.main_arg1) = m ((c.tc : Thread Cert.MlaUqIdeal.nD Cert.MlaUqIdeal.τ).loc Cert.MlaUqIdeal.main_arg1)
      ∧ r.2.mem ((c.tc : Thread Cert.MlaUqIdeal.nD Cert.MlaUqIdeal.τ).loc Cert.MlaUqIdeal.main_arg2) = m ((c.tc : Thread Cert.MlaUqIdeal.nD Cert.MlaUqIdeal.τ).loc Cert.MlaUqIdeal.main_arg2))
      ∧ r.2.sem = fun _ => 0)

def quiescent_MlaUqRefIdeal [hMlaUqRefIdeal : Cert.MlaUqRefIdeal.Facts] : Prop :=
  ∀ (m : (ℓ : Loc Cert.MlaUqRefIdeal.nD Cert.MlaUqRefIdeal.τ Cert.MlaUqRefIdeal.sig) → Buf (Elt Ideal) ℓ) (g : Dev Cert.MlaUqRefIdeal.nD → PrngReg), Pre_MlaUqRefIdeal m →
    θ_run (Cert.MlaUqRefIdeal.defs (F := Ideal)) (onTc (τ := Cert.MlaUqRefIdeal.τ) (Cert.MlaUqRefIdeal.main (F := Ideal))) ⟨m, fun _ => 0, g⟩ (fun r => (∀ c : Dev Cert.MlaUqRefIdeal.nD,
      r.2.mem ((c.tc : Thread Cert.MlaUqRefIdeal.nD Cert.MlaUqRefIdeal.τ).loc Cert.MlaUqRefIdeal.main_arg0) = m ((c.tc : Thread Cert.MlaUqRefIdeal.nD Cert.MlaUqRefIdeal.τ).loc Cert.MlaUqRefIdeal.main_arg0)
      ∧ r.2.mem ((c.tc : Thread Cert.MlaUqRefIdeal.nD Cert.MlaUqRefIdeal.τ).loc Cert.MlaUqRefIdeal.main_arg1) = m ((c.tc : Thread Cert.MlaUqRefIdeal.nD Cert.MlaUqRefIdeal.τ).loc Cert.MlaUqRefIdeal.main_arg1)
      ∧ r.2.mem ((c.tc : Thread Cert.MlaUqRefIdeal.nD Cert.MlaUqRefIdeal.τ).loc Cert.MlaUqRefIdeal.main_arg2) = m ((c.tc : Thread Cert.MlaUqRefIdeal.nD Cert.MlaUqRefIdeal.τ).loc Cert.MlaUqRefIdeal.main_arg2))
      ∧ r.2.sem = fun _ => 0)

def quiescent_MlaUkv [hMlaUkv : Cert.MlaUkv.Facts] : Prop :=
  ∀ (m : (ℓ : Loc Cert.MlaUkv.nD Cert.MlaUkv.τ Cert.MlaUkv.sig) → Buf (Elt Bits) ℓ) (g : Dev Cert.MlaUkv.nD → PrngReg), Pre_MlaUkv m →
    θ_run (Cert.MlaUkv.defs (F := Bits)) (onTc (τ := Cert.MlaUkv.τ) (Cert.MlaUkv.main (F := Bits))) ⟨m, fun _ => 0, g⟩ (fun r => (∀ c : Dev Cert.MlaUkv.nD,
      r.2.mem ((c.tc : Thread Cert.MlaUkv.nD Cert.MlaUkv.τ).loc Cert.MlaUkv.main_arg0) = m ((c.tc : Thread Cert.MlaUkv.nD Cert.MlaUkv.τ).loc Cert.MlaUkv.main_arg0)
      ∧ r.2.mem ((c.tc : Thread Cert.MlaUkv.nD Cert.MlaUkv.τ).loc Cert.MlaUkv.main_arg1) = m ((c.tc : Thread Cert.MlaUkv.nD Cert.MlaUkv.τ).loc Cert.MlaUkv.main_arg1)
      ∧ r.2.mem ((c.tc : Thread Cert.MlaUkv.nD Cert.MlaUkv.τ).loc Cert.MlaUkv.main_arg2) = m ((c.tc : Thread Cert.MlaUkv.nD Cert.MlaUkv.τ).loc Cert.MlaUkv.main_arg2))
      ∧ r.2.sem = fun _ => 0)

def quiescent_MlaUkvIdeal [hMlaUkvIdeal : Cert.MlaUkvIdeal.Facts] : Prop :=
  ∀ (m : (ℓ : Loc Cert.MlaUkvIdeal.nD Cert.MlaUkvIdeal.τ Cert.MlaUkvIdeal.sig) → Buf (Elt Ideal) ℓ) (g : Dev Cert.MlaUkvIdeal.nD → PrngReg), Pre_MlaUkvIdeal m →
    θ_run (Cert.MlaUkvIdeal.defs (F := Ideal)) (onTc (τ := Cert.MlaUkvIdeal.τ) (Cert.MlaUkvIdeal.main (F := Ideal))) ⟨m, fun _ => 0, g⟩ (fun r => (∀ c : Dev Cert.MlaUkvIdeal.nD,
      r.2.mem ((c.tc : Thread Cert.MlaUkvIdeal.nD Cert.MlaUkvIdeal.τ).loc Cert.MlaUkvIdeal.main_arg0) = m ((c.tc : Thread Cert.MlaUkvIdeal.nD Cert.MlaUkvIdeal.τ).loc Cert.MlaUkvIdeal.main_arg0)
      ∧ r.2.mem ((c.tc : Thread Cert.MlaUkvIdeal.nD Cert.MlaUkvIdeal.τ).loc Cert.MlaUkvIdeal.main_arg1) = m ((c.tc : Thread Cert.MlaUkvIdeal.nD Cert.MlaUkvIdeal.τ).loc Cert.MlaUkvIdeal.main_arg1)
      ∧ r.2.mem ((c.tc : Thread Cert.MlaUkvIdeal.nD Cert.MlaUkvIdeal.τ).loc Cert.MlaUkvIdeal.main_arg2) = m ((c.tc : Thread Cert.MlaUkvIdeal.nD Cert.MlaUkvIdeal.τ).loc Cert.MlaUkvIdeal.main_arg2))
      ∧ r.2.sem = fun _ => 0)

def quiescent_MlaUkvRefIdeal [hMlaUkvRefIdeal : Cert.MlaUkvRefIdeal.Facts] : Prop :=
  ∀ (m : (ℓ : Loc Cert.MlaUkvRefIdeal.nD Cert.MlaUkvRefIdeal.τ Cert.MlaUkvRefIdeal.sig) → Buf (Elt Ideal) ℓ) (g : Dev Cert.MlaUkvRefIdeal.nD → PrngReg), Pre_MlaUkvRefIdeal m →
    θ_run (Cert.MlaUkvRefIdeal.defs (F := Ideal)) (onTc (τ := Cert.MlaUkvRefIdeal.τ) (Cert.MlaUkvRefIdeal.main (F := Ideal))) ⟨m, fun _ => 0, g⟩ (fun r => (∀ c : Dev Cert.MlaUkvRefIdeal.nD,
      r.2.mem ((c.tc : Thread Cert.MlaUkvRefIdeal.nD Cert.MlaUkvRefIdeal.τ).loc Cert.MlaUkvRefIdeal.main_arg0) = m ((c.tc : Thread Cert.MlaUkvRefIdeal.nD Cert.MlaUkvRefIdeal.τ).loc Cert.MlaUkvRefIdeal.main_arg0)
      ∧ r.2.mem ((c.tc : Thread Cert.MlaUkvRefIdeal.nD Cert.MlaUkvRefIdeal.τ).loc Cert.MlaUkvRefIdeal.main_arg1) = m ((c.tc : Thread Cert.MlaUkvRefIdeal.nD Cert.MlaUkvRefIdeal.τ).loc Cert.MlaUkvRefIdeal.main_arg1)
      ∧ r.2.mem ((c.tc : Thread Cert.MlaUkvRefIdeal.nD Cert.MlaUkvRefIdeal.τ).loc Cert.MlaUkvRefIdeal.main_arg2) = m ((c.tc : Thread Cert.MlaUkvRefIdeal.nD Cert.MlaUkvRefIdeal.τ).loc Cert.MlaUkvRefIdeal.main_arg2))
      ∧ r.2.sem = fun _ => 0)

def quiescent_DXkv [hDXkv : Cert.DXkv.Facts] : Prop :=
  ∀ (m : (ℓ : Loc Cert.DXkv.nD Cert.DXkv.τ Cert.DXkv.sig) → Buf (Elt Bits) ℓ) (g : Dev Cert.DXkv.nD → PrngReg), Pre_DXkv m →
    θ_run (Cert.DXkv.defs (F := Bits)) (onTc (τ := Cert.DXkv.τ) (Cert.DXkv.main (F := Bits))) ⟨m, fun _ => 0, g⟩ (fun r => (∀ c : Dev Cert.DXkv.nD,
      r.2.mem ((c.tc : Thread Cert.DXkv.nD Cert.DXkv.τ).loc Cert.DXkv.main_arg0) = m ((c.tc : Thread Cert.DXkv.nD Cert.DXkv.τ).loc Cert.DXkv.main_arg0)
      ∧ r.2.mem ((c.tc : Thread Cert.DXkv.nD Cert.DXkv.τ).loc Cert.DXkv.main_arg1) = m ((c.tc : Thread Cert.DXkv.nD Cert.DXkv.τ).loc Cert.DXkv.main_arg1))
      ∧ r.2.sem = fun _ => 0)

def quiescent_DXkvIdeal [hDXkvIdeal : Cert.DXkvIdeal.Facts] : Prop :=
  ∀ (m : (ℓ : Loc Cert.DXkvIdeal.nD Cert.DXkvIdeal.τ Cert.DXkvIdeal.sig) → Buf (Elt Ideal) ℓ) (g : Dev Cert.DXkvIdeal.nD → PrngReg), Pre_DXkvIdeal m →
    θ_run (Cert.DXkvIdeal.defs (F := Ideal)) (onTc (τ := Cert.DXkvIdeal.τ) (Cert.DXkvIdeal.main (F := Ideal))) ⟨m, fun _ => 0, g⟩ (fun r => (∀ c : Dev Cert.DXkvIdeal.nD,
      r.2.mem ((c.tc : Thread Cert.DXkvIdeal.nD Cert.DXkvIdeal.τ).loc Cert.DXkvIdeal.main_arg0) = m ((c.tc : Thread Cert.DXkvIdeal.nD Cert.DXkvIdeal.τ).loc Cert.DXkvIdeal.main_arg0)
      ∧ r.2.mem ((c.tc : Thread Cert.DXkvIdeal.nD Cert.DXkvIdeal.τ).loc Cert.DXkvIdeal.main_arg1) = m ((c.tc : Thread Cert.DXkvIdeal.nD Cert.DXkvIdeal.τ).loc Cert.DXkvIdeal.main_arg1))
      ∧ r.2.sem = fun _ => 0)

def quiescent_DXkvRefIdeal [hDXkvRefIdeal : Cert.DXkvRefIdeal.Facts] : Prop :=
  ∀ (m : (ℓ : Loc Cert.DXkvRefIdeal.nD Cert.DXkvRefIdeal.τ Cert.DXkvRefIdeal.sig) → Buf (Elt Ideal) ℓ) (g : Dev Cert.DXkvRefIdeal.nD → PrngReg), Pre_DXkvRefIdeal m →
    θ_run (Cert.DXkvRefIdeal.defs (F := Ideal)) (onTc (τ := Cert.DXkvRefIdeal.τ) (Cert.DXkvRefIdeal.main (F := Ideal))) ⟨m, fun _ => 0, g⟩ (fun r => (∀ c : Dev Cert.DXkvRefIdeal.nD,
      r.2.mem ((c.tc : Thread Cert.DXkvRefIdeal.nD Cert.DXkvRefIdeal.τ).loc Cert.DXkvRefIdeal.main_arg0) = m ((c.tc : Thread Cert.DXkvRefIdeal.nD Cert.DXkvRefIdeal.τ).loc Cert.DXkvRefIdeal.main_arg0)
      ∧ r.2.mem ((c.tc : Thread Cert.DXkvRefIdeal.nD Cert.DXkvRefIdeal.τ).loc Cert.DXkvRefIdeal.main_arg1) = m ((c.tc : Thread Cert.DXkvRefIdeal.nD Cert.DXkvRefIdeal.τ).loc Cert.DXkvRefIdeal.main_arg1))
      ∧ r.2.sem = fun _ => 0)

def quiescent_DMn [hDMn : Cert.DMn.Facts] : Prop :=
  ∀ (m : (ℓ : Loc Cert.DMn.nD Cert.DMn.τ Cert.DMn.sig) → Buf (Elt Bits) ℓ) (g : Dev Cert.DMn.nD → PrngReg), Pre_DMn m →
    θ_run (Cert.DMn.defs (F := Bits)) (onTc (τ := Cert.DMn.τ) (Cert.DMn.main (F := Bits))) ⟨m, fun _ => 0, g⟩ (fun r => (∀ c : Dev Cert.DMn.nD,
      r.2.mem ((c.tc : Thread Cert.DMn.nD Cert.DMn.τ).loc Cert.DMn.main_arg0) = m ((c.tc : Thread Cert.DMn.nD Cert.DMn.τ).loc Cert.DMn.main_arg0)
      ∧ r.2.mem ((c.tc : Thread Cert.DMn.nD Cert.DMn.τ).loc Cert.DMn.main_arg1) = m ((c.tc : Thread Cert.DMn.nD Cert.DMn.τ).loc Cert.DMn.main_arg1))
      ∧ r.2.sem = fun _ => 0)

def quiescent_DMnIdeal [hDMnIdeal : Cert.DMnIdeal.Facts] : Prop :=
  ∀ (m : (ℓ : Loc Cert.DMnIdeal.nD Cert.DMnIdeal.τ Cert.DMnIdeal.sig) → Buf (Elt Ideal) ℓ) (g : Dev Cert.DMnIdeal.nD → PrngReg), Pre_DMnIdeal m →
    θ_run (Cert.DMnIdeal.defs (F := Ideal)) (onTc (τ := Cert.DMnIdeal.τ) (Cert.DMnIdeal.main (F := Ideal))) ⟨m, fun _ => 0, g⟩ (fun r => (∀ c : Dev Cert.DMnIdeal.nD,
      r.2.mem ((c.tc : Thread Cert.DMnIdeal.nD Cert.DMnIdeal.τ).loc Cert.DMnIdeal.main_arg0) = m ((c.tc : Thread Cert.DMnIdeal.nD Cert.DMnIdeal.τ).loc Cert.DMnIdeal.main_arg0)
      ∧ r.2.mem ((c.tc : Thread Cert.DMnIdeal.nD Cert.DMnIdeal.τ).loc Cert.DMnIdeal.main_arg1) = m ((c.tc : Thread Cert.DMnIdeal.nD Cert.DMnIdeal.τ).loc Cert.DMnIdeal.main_arg1))
      ∧ r.2.sem = fun _ => 0)

def quiescent_DMnRefIdeal [hDMnRefIdeal : Cert.DMnRefIdeal.Facts] : Prop :=
  ∀ (m : (ℓ : Loc Cert.DMnRefIdeal.nD Cert.DMnRefIdeal.τ Cert.DMnRefIdeal.sig) → Buf (Elt Ideal) ℓ) (g : Dev Cert.DMnRefIdeal.nD → PrngReg), Pre_DMnRefIdeal m →
    θ_run (Cert.DMnRefIdeal.defs (F := Ideal)) (onTc (τ := Cert.DMnRefIdeal.τ) (Cert.DMnRefIdeal.main (F := Ideal))) ⟨m, fun _ => 0, g⟩ (fun r => (∀ c : Dev Cert.DMnRefIdeal.nD,
      r.2.mem ((c.tc : Thread Cert.DMnRefIdeal.nD Cert.DMnRefIdeal.τ).loc Cert.DMnRefIdeal.main_arg0) = m ((c.tc : Thread Cert.DMnRefIdeal.nD Cert.DMnRefIdeal.τ).loc Cert.DMnRefIdeal.main_arg0)
      ∧ r.2.mem ((c.tc : Thread Cert.DMnRefIdeal.nD Cert.DMnRefIdeal.τ).loc Cert.DMnRefIdeal.main_arg1) = m ((c.tc : Thread Cert.DMnRefIdeal.nD Cert.DMnRefIdeal.τ).loc Cert.DMnRefIdeal.main_arg1))
      ∧ r.2.sem = fun _ => 0)

def quiescent_DMerge [hDMerge : Cert.DMerge.Facts] : Prop :=
  ∀ (m : (ℓ : Loc Cert.DMerge.nD Cert.DMerge.τ Cert.DMerge.sig) → Buf (Elt Bits) ℓ) (g : Dev Cert.DMerge.nD → PrngReg), Pre_DMerge m →
    θ_run (Cert.DMerge.defs (F := Bits)) (onTc (τ := Cert.DMerge.τ) (Cert.DMerge.main (F := Bits))) ⟨m, fun _ => 0, g⟩ (fun r => (∀ c : Dev Cert.DMerge.nD,
      r.2.mem ((c.tc : Thread Cert.DMerge.nD Cert.DMerge.τ).loc Cert.DMerge.main_arg0) = m ((c.tc : Thread Cert.DMerge.nD Cert.DMerge.τ).loc Cert.DMerge.main_arg0)
      ∧ r.2.mem ((c.tc : Thread Cert.DMerge.nD Cert.DMerge.τ).loc Cert.DMerge.main_arg1) = m ((c.tc : Thread Cert.DMerge.nD Cert.DMerge.τ).loc Cert.DMerge.main_arg1)
      ∧ r.2.mem ((c.tc : Thread Cert.DMerge.nD Cert.DMerge.τ).loc Cert.DMerge.main_arg2) = m ((c.tc : Thread Cert.DMerge.nD Cert.DMerge.τ).loc Cert.DMerge.main_arg2)
      ∧ r.2.mem ((c.tc : Thread Cert.DMerge.nD Cert.DMerge.τ).loc Cert.DMerge.main_arg3) = m ((c.tc : Thread Cert.DMerge.nD Cert.DMerge.τ).loc Cert.DMerge.main_arg3)
      ∧ r.2.mem ((c.tc : Thread Cert.DMerge.nD Cert.DMerge.τ).loc Cert.DMerge.main_arg4) = m ((c.tc : Thread Cert.DMerge.nD Cert.DMerge.τ).loc Cert.DMerge.main_arg4)
      ∧ r.2.mem ((c.tc : Thread Cert.DMerge.nD Cert.DMerge.τ).loc Cert.DMerge.main_arg5) = m ((c.tc : Thread Cert.DMerge.nD Cert.DMerge.τ).loc Cert.DMerge.main_arg5)
      ∧ r.2.mem ((c.tc : Thread Cert.DMerge.nD Cert.DMerge.τ).loc Cert.DMerge.main_arg6) = m ((c.tc : Thread Cert.DMerge.nD Cert.DMerge.τ).loc Cert.DMerge.main_arg6)
      ∧ r.2.mem ((c.tc : Thread Cert.DMerge.nD Cert.DMerge.τ).loc Cert.DMerge.main_arg7) = m ((c.tc : Thread Cert.DMerge.nD Cert.DMerge.τ).loc Cert.DMerge.main_arg7)
      ∧ r.2.mem ((c.tc : Thread Cert.DMerge.nD Cert.DMerge.τ).loc Cert.DMerge.main_arg8) = m ((c.tc : Thread Cert.DMerge.nD Cert.DMerge.τ).loc Cert.DMerge.main_arg8))
      ∧ r.2.sem = fun _ => 0)

def quiescent_DMergeIdeal [hDMergeIdeal : Cert.DMergeIdeal.Facts] : Prop :=
  ∀ (m : (ℓ : Loc Cert.DMergeIdeal.nD Cert.DMergeIdeal.τ Cert.DMergeIdeal.sig) → Buf (Elt Ideal) ℓ) (g : Dev Cert.DMergeIdeal.nD → PrngReg), Pre_DMergeIdeal m →
    θ_run (Cert.DMergeIdeal.defs (F := Ideal)) (onTc (τ := Cert.DMergeIdeal.τ) (Cert.DMergeIdeal.main (F := Ideal))) ⟨m, fun _ => 0, g⟩ (fun r => (∀ c : Dev Cert.DMergeIdeal.nD,
      r.2.mem ((c.tc : Thread Cert.DMergeIdeal.nD Cert.DMergeIdeal.τ).loc Cert.DMergeIdeal.main_arg0) = m ((c.tc : Thread Cert.DMergeIdeal.nD Cert.DMergeIdeal.τ).loc Cert.DMergeIdeal.main_arg0)
      ∧ r.2.mem ((c.tc : Thread Cert.DMergeIdeal.nD Cert.DMergeIdeal.τ).loc Cert.DMergeIdeal.main_arg1) = m ((c.tc : Thread Cert.DMergeIdeal.nD Cert.DMergeIdeal.τ).loc Cert.DMergeIdeal.main_arg1)
      ∧ r.2.mem ((c.tc : Thread Cert.DMergeIdeal.nD Cert.DMergeIdeal.τ).loc Cert.DMergeIdeal.main_arg2) = m ((c.tc : Thread Cert.DMergeIdeal.nD Cert.DMergeIdeal.τ).loc Cert.DMergeIdeal.main_arg2)
      ∧ r.2.mem ((c.tc : Thread Cert.DMergeIdeal.nD Cert.DMergeIdeal.τ).loc Cert.DMergeIdeal.main_arg3) = m ((c.tc : Thread Cert.DMergeIdeal.nD Cert.DMergeIdeal.τ).loc Cert.DMergeIdeal.main_arg3)
      ∧ r.2.mem ((c.tc : Thread Cert.DMergeIdeal.nD Cert.DMergeIdeal.τ).loc Cert.DMergeIdeal.main_arg4) = m ((c.tc : Thread Cert.DMergeIdeal.nD Cert.DMergeIdeal.τ).loc Cert.DMergeIdeal.main_arg4)
      ∧ r.2.mem ((c.tc : Thread Cert.DMergeIdeal.nD Cert.DMergeIdeal.τ).loc Cert.DMergeIdeal.main_arg5) = m ((c.tc : Thread Cert.DMergeIdeal.nD Cert.DMergeIdeal.τ).loc Cert.DMergeIdeal.main_arg5)
      ∧ r.2.mem ((c.tc : Thread Cert.DMergeIdeal.nD Cert.DMergeIdeal.τ).loc Cert.DMergeIdeal.main_arg6) = m ((c.tc : Thread Cert.DMergeIdeal.nD Cert.DMergeIdeal.τ).loc Cert.DMergeIdeal.main_arg6)
      ∧ r.2.mem ((c.tc : Thread Cert.DMergeIdeal.nD Cert.DMergeIdeal.τ).loc Cert.DMergeIdeal.main_arg7) = m ((c.tc : Thread Cert.DMergeIdeal.nD Cert.DMergeIdeal.τ).loc Cert.DMergeIdeal.main_arg7)
      ∧ r.2.mem ((c.tc : Thread Cert.DMergeIdeal.nD Cert.DMergeIdeal.τ).loc Cert.DMergeIdeal.main_arg8) = m ((c.tc : Thread Cert.DMergeIdeal.nD Cert.DMergeIdeal.τ).loc Cert.DMergeIdeal.main_arg8))
      ∧ r.2.sem = fun _ => 0)

def quiescent_DMergeRefIdeal [hDMergeRefIdeal : Cert.DMergeRefIdeal.Facts] : Prop :=
  ∀ (m : (ℓ : Loc Cert.DMergeRefIdeal.nD Cert.DMergeRefIdeal.τ Cert.DMergeRefIdeal.sig) → Buf (Elt Ideal) ℓ) (g : Dev Cert.DMergeRefIdeal.nD → PrngReg), Pre_DMergeRefIdeal m →
    θ_run (Cert.DMergeRefIdeal.defs (F := Ideal)) (onTc (τ := Cert.DMergeRefIdeal.τ) (Cert.DMergeRefIdeal.main (F := Ideal))) ⟨m, fun _ => 0, g⟩ (fun r => (∀ c : Dev Cert.DMergeRefIdeal.nD,
      r.2.mem ((c.tc : Thread Cert.DMergeRefIdeal.nD Cert.DMergeRefIdeal.τ).loc Cert.DMergeRefIdeal.main_arg0) = m ((c.tc : Thread Cert.DMergeRefIdeal.nD Cert.DMergeRefIdeal.τ).loc Cert.DMergeRefIdeal.main_arg0)
      ∧ r.2.mem ((c.tc : Thread Cert.DMergeRefIdeal.nD Cert.DMergeRefIdeal.τ).loc Cert.DMergeRefIdeal.main_arg1) = m ((c.tc : Thread Cert.DMergeRefIdeal.nD Cert.DMergeRefIdeal.τ).loc Cert.DMergeRefIdeal.main_arg1)
      ∧ r.2.mem ((c.tc : Thread Cert.DMergeRefIdeal.nD Cert.DMergeRefIdeal.τ).loc Cert.DMergeRefIdeal.main_arg2) = m ((c.tc : Thread Cert.DMergeRefIdeal.nD Cert.DMergeRefIdeal.τ).loc Cert.DMergeRefIdeal.main_arg2)
      ∧ r.2.mem ((c.tc : Thread Cert.DMergeRefIdeal.nD Cert.DMergeRefIdeal.τ).loc Cert.DMergeRefIdeal.main_arg3) = m ((c.tc : Thread Cert.DMergeRefIdeal.nD Cert.DMergeRefIdeal.τ).loc Cert.DMergeRefIdeal.main_arg3)
      ∧ r.2.mem ((c.tc : Thread Cert.DMergeRefIdeal.nD Cert.DMergeRefIdeal.τ).loc Cert.DMergeRefIdeal.main_arg4) = m ((c.tc : Thread Cert.DMergeRefIdeal.nD Cert.DMergeRefIdeal.τ).loc Cert.DMergeRefIdeal.main_arg4)
      ∧ r.2.mem ((c.tc : Thread Cert.DMergeRefIdeal.nD Cert.DMergeRefIdeal.τ).loc Cert.DMergeRefIdeal.main_arg5) = m ((c.tc : Thread Cert.DMergeRefIdeal.nD Cert.DMergeRefIdeal.τ).loc Cert.DMergeRefIdeal.main_arg5)
      ∧ r.2.mem ((c.tc : Thread Cert.DMergeRefIdeal.nD Cert.DMergeRefIdeal.τ).loc Cert.DMergeRefIdeal.main_arg6) = m ((c.tc : Thread Cert.DMergeRefIdeal.nD Cert.DMergeRefIdeal.τ).loc Cert.DMergeRefIdeal.main_arg6)
      ∧ r.2.mem ((c.tc : Thread Cert.DMergeRefIdeal.nD Cert.DMergeRefIdeal.τ).loc Cert.DMergeRefIdeal.main_arg7) = m ((c.tc : Thread Cert.DMergeRefIdeal.nD Cert.DMergeRefIdeal.τ).loc Cert.DMergeRefIdeal.main_arg7)
      ∧ r.2.mem ((c.tc : Thread Cert.DMergeRefIdeal.nD Cert.DMergeRefIdeal.τ).loc Cert.DMergeRefIdeal.main_arg8) = m ((c.tc : Thread Cert.DMergeRefIdeal.nD Cert.DMergeRefIdeal.τ).loc Cert.DMergeRefIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Mlp2_Mlp2Ideal : Prop :=
  True

def algebraic_Mlp2Ideal_Mlp2RefIdeal [hMlp2Ideal : Cert.Mlp2Ideal.Facts] [hMlp2RefIdeal : Cert.Mlp2RefIdeal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg)
    (m' : (ℓ : Loc Cert.Mlp2RefIdeal.nD Cert.Mlp2RefIdeal.τ Cert.Mlp2RefIdeal.sig) → Buf (Elt Ideal) ℓ) (g' : Dev Cert.Mlp2RefIdeal.nD → PrngReg), Pre_Mlp2Ideal m →
    (∀ c : Dev Cert.Mlp2Ideal.nD,
      m' ((c.tc : Thread Cert.Mlp2RefIdeal.nD Cert.Mlp2RefIdeal.τ).loc Cert.Mlp2RefIdeal.main_arg0) = m ((c.tc : Thread Cert.Mlp2Ideal.nD Cert.Mlp2Ideal.τ).loc Cert.Mlp2Ideal.main_arg0)
      ∧ m' ((c.tc : Thread Cert.Mlp2RefIdeal.nD Cert.Mlp2RefIdeal.τ).loc Cert.Mlp2RefIdeal.main_arg1) = m ((c.tc : Thread Cert.Mlp2Ideal.nD Cert.Mlp2Ideal.τ).loc Cert.Mlp2Ideal.main_arg1)
      ∧ m' ((c.tc : Thread Cert.Mlp2RefIdeal.nD Cert.Mlp2RefIdeal.τ).loc Cert.Mlp2RefIdeal.main_arg2) = m ((c.tc : Thread Cert.Mlp2Ideal.nD Cert.Mlp2Ideal.τ).loc Cert.Mlp2Ideal.main_arg2)) →
    ∃ (v0 : (c : Dev Cert.Mlp2Ideal.nD) → Buf (Elt Ideal) ((c.tc : Thread Cert.Mlp2Ideal.nD Cert.Mlp2Ideal.τ).loc Cert.Mlp2Ideal.main_v2)),
      θ_run (Cert.Mlp2Ideal.defs (F := Ideal)) (onTc (τ := Cert.Mlp2Ideal.τ) (Cert.Mlp2Ideal.main (F := Ideal))) ⟨m, fun _ => 0, g⟩ (fun r => ∀ c : Dev Cert.Mlp2Ideal.nD,
          r.2.mem ((c.tc : Thread Cert.Mlp2Ideal.nD Cert.Mlp2Ideal.τ).loc Cert.Mlp2Ideal.main_v2) = v0 c
          ∧ r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
          ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1)
          ∧ r.2.mem ((c.tc : Thread Cert.Mlp2Ideal.nD Cert.Mlp2Ideal.τ).loc Cert.Mlp2Ideal.main_arg2) = m ((c.tc : Thread Cert.Mlp2Ideal.nD Cert.Mlp2Ideal.τ).loc Cert.Mlp2Ideal.main_arg2))
      ∧ θ_run (Cert.Mlp2RefIdeal.defs (F := Ideal)) (onTc (τ := Cert.Mlp2RefIdeal.τ) (Cert.Mlp2RefIdeal.main (F := Ideal))) ⟨m', fun _ => 0, g'⟩ (fun r => ∀ c : Dev Cert.Mlp2RefIdeal.nD,
          r.2.mem ((c.tc : Thread Cert.Mlp2RefIdeal.nD Cert.Mlp2RefIdeal.τ).loc Cert.Mlp2RefIdeal.main_v3) = v0 c
          ∧ r.2.mem ((c.tc : Thread Cert.Mlp2RefIdeal.nD Cert.Mlp2RefIdeal.τ).loc Cert.Mlp2RefIdeal.main_arg0) = m' ((c.tc : Thread Cert.Mlp2RefIdeal.nD Cert.Mlp2RefIdeal.τ).loc Cert.Mlp2RefIdeal.main_arg0)
          ∧ r.2.mem ((c.tc : Thread Cert.Mlp2RefIdeal.nD Cert.Mlp2RefIdeal.τ).loc Cert.Mlp2RefIdeal.main_arg1) = m' ((c.tc : Thread Cert.Mlp2RefIdeal.nD Cert.Mlp2RefIdeal.τ).loc Cert.Mlp2RefIdeal.main_arg1)
          ∧ r.2.mem ((c.tc : Thread Cert.Mlp2RefIdeal.nD Cert.Mlp2RefIdeal.τ).loc Cert.Mlp2RefIdeal.main_arg2) = m' ((c.tc : Thread Cert.Mlp2RefIdeal.nD Cert.Mlp2RefIdeal.τ).loc Cert.Mlp2RefIdeal.main_arg2))

def preserves_DMlp2_DMlp2Ideal : Prop :=
  True

def algebraic_DMlp2Ideal_DMlp2RefIdeal [hDMlp2Ideal : Cert.DMlp2Ideal.Facts] [hDMlp2RefIdeal : Cert.DMlp2RefIdeal.Facts] : Prop :=
  ∀ (m : (ℓ : Loc Cert.DMlp2Ideal.nD Cert.DMlp2Ideal.τ Cert.DMlp2Ideal.sig) → Buf (Elt Ideal) ℓ) (g : Dev Cert.DMlp2Ideal.nD → PrngReg)
    (m' : (ℓ : Loc Cert.DMlp2RefIdeal.nD Cert.DMlp2RefIdeal.τ Cert.DMlp2RefIdeal.sig) → Buf (Elt Ideal) ℓ) (g' : Dev Cert.DMlp2RefIdeal.nD → PrngReg), Pre_DMlp2Ideal m →
    (∀ c : Dev Cert.DMlp2Ideal.nD,
      m' ((c.tc : Thread Cert.DMlp2RefIdeal.nD Cert.DMlp2RefIdeal.τ).loc Cert.DMlp2RefIdeal.main_arg0) = m ((c.tc : Thread Cert.DMlp2Ideal.nD Cert.DMlp2Ideal.τ).loc Cert.DMlp2Ideal.main_arg0)
      ∧ m' ((c.tc : Thread Cert.DMlp2RefIdeal.nD Cert.DMlp2RefIdeal.τ).loc Cert.DMlp2RefIdeal.main_arg1) = m ((c.tc : Thread Cert.DMlp2Ideal.nD Cert.DMlp2Ideal.τ).loc Cert.DMlp2Ideal.main_arg1)) →
    ∃ (v0 : (c : Dev Cert.DMlp2Ideal.nD) → Buf (Elt Ideal) ((c.tc : Thread Cert.DMlp2Ideal.nD Cert.DMlp2Ideal.τ).loc Cert.DMlp2Ideal.main_v1)),
      θ_run (Cert.DMlp2Ideal.defs (F := Ideal)) (onTc (τ := Cert.DMlp2Ideal.τ) (Cert.DMlp2Ideal.main (F := Ideal))) ⟨m, fun _ => 0, g⟩ (fun r => ∀ c : Dev Cert.DMlp2Ideal.nD,
          r.2.mem ((c.tc : Thread Cert.DMlp2Ideal.nD Cert.DMlp2Ideal.τ).loc Cert.DMlp2Ideal.main_v1) = v0 c
          ∧ r.2.mem ((c.tc : Thread Cert.DMlp2Ideal.nD Cert.DMlp2Ideal.τ).loc Cert.DMlp2Ideal.main_arg0) = m ((c.tc : Thread Cert.DMlp2Ideal.nD Cert.DMlp2Ideal.τ).loc Cert.DMlp2Ideal.main_arg0)
          ∧ r.2.mem ((c.tc : Thread Cert.DMlp2Ideal.nD Cert.DMlp2Ideal.τ).loc Cert.DMlp2Ideal.main_arg1) = m ((c.tc : Thread Cert.DMlp2Ideal.nD Cert.DMlp2Ideal.τ).loc Cert.DMlp2Ideal.main_arg1))
      ∧ θ_run (Cert.DMlp2RefIdeal.defs (F := Ideal)) (onTc (τ := Cert.DMlp2RefIdeal.τ) (Cert.DMlp2RefIdeal.main (F := Ideal))) ⟨m', fun _ => 0, g'⟩ (fun r => ∀ c : Dev Cert.DMlp2RefIdeal.nD,
          r.2.mem ((c.tc : Thread Cert.DMlp2RefIdeal.nD Cert.DMlp2RefIdeal.τ).loc Cert.DMlp2RefIdeal.main_v5) = v0 c
          ∧ r.2.mem ((c.tc : Thread Cert.DMlp2RefIdeal.nD Cert.DMlp2RefIdeal.τ).loc Cert.DMlp2RefIdeal.main_arg0) = m' ((c.tc : Thread Cert.DMlp2RefIdeal.nD Cert.DMlp2RefIdeal.τ).loc Cert.DMlp2RefIdeal.main_arg0)
          ∧ r.2.mem ((c.tc : Thread Cert.DMlp2RefIdeal.nD Cert.DMlp2RefIdeal.τ).loc Cert.DMlp2RefIdeal.main_arg1) = m' ((c.tc : Thread Cert.DMlp2RefIdeal.nD Cert.DMlp2RefIdeal.τ).loc Cert.DMlp2RefIdeal.main_arg1))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)
      ∧ m' ((c.tc : Thread Cert.DActRefIdeal.nD Cert.DActRefIdeal.τ).loc Cert.DActRefIdeal.main_arg2) = m ((c.tc : Thread Cert.DActIdeal.nD Cert.DActIdeal.τ).loc Cert.DActIdeal.main_arg2)) →
    ∃ (v0 : (c : Dev Cert.DActIdeal.nD) → Buf (Elt Ideal) ((c.tc : Thread Cert.DActIdeal.nD Cert.DActIdeal.τ).loc Cert.DActIdeal.main_v2)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v2) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
          ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v12) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1)
          ∧ r.2.mem ((c.tc : Thread Cert.DActRefIdeal.nD Cert.DActRefIdeal.τ).loc Cert.DActRefIdeal.main_arg2) = m' ((c.tc : Thread Cert.DActRefIdeal.nD Cert.DActRefIdeal.τ).loc Cert.DActRefIdeal.main_arg2))

def preserves_DMlp1_DMlp1Ideal : Prop :=
  True

def algebraic_DMlp1Ideal_DMlp1RefIdeal [hDMlp1Ideal : Cert.DMlp1Ideal.Facts] [hDMlp1RefIdeal : Cert.DMlp1RefIdeal.Facts] : Prop :=
  ∀ (m : (ℓ : Loc Cert.DMlp1Ideal.nD Cert.DMlp1Ideal.τ Cert.DMlp1Ideal.sig) → Buf (Elt Ideal) ℓ) (g : Dev Cert.DMlp1Ideal.nD → PrngReg)
    (m' : (ℓ : Loc Cert.DMlp1RefIdeal.nD Cert.DMlp1RefIdeal.τ Cert.DMlp1RefIdeal.sig) → Buf (Elt Ideal) ℓ) (g' : Dev Cert.DMlp1RefIdeal.nD → PrngReg), Pre_DMlp1Ideal m →
    (∀ c : Dev Cert.DMlp1Ideal.nD,
      m' ((c.tc : Thread Cert.DMlp1RefIdeal.nD Cert.DMlp1RefIdeal.τ).loc Cert.DMlp1RefIdeal.main_arg0) = m ((c.tc : Thread Cert.DMlp1Ideal.nD Cert.DMlp1Ideal.τ).loc Cert.DMlp1Ideal.main_arg0)
      ∧ m' ((c.tc : Thread Cert.DMlp1RefIdeal.nD Cert.DMlp1RefIdeal.τ).loc Cert.DMlp1RefIdeal.main_arg1) = m ((c.tc : Thread Cert.DMlp1Ideal.nD Cert.DMlp1Ideal.τ).loc Cert.DMlp1Ideal.main_arg1)) →
    ∃ (v0 : (c : Dev Cert.DMlp1Ideal.nD) → Buf (Elt Ideal) ((c.tc : Thread Cert.DMlp1Ideal.nD Cert.DMlp1Ideal.τ).loc Cert.DMlp1Ideal.main_v2)),
      θ_run (Cert.DMlp1Ideal.defs (F := Ideal)) (onTc (τ := Cert.DMlp1Ideal.τ) (Cert.DMlp1Ideal.main (F := Ideal))) ⟨m, fun _ => 0, g⟩ (fun r => ∀ c : Dev Cert.DMlp1Ideal.nD,
          r.2.mem ((c.tc : Thread Cert.DMlp1Ideal.nD Cert.DMlp1Ideal.τ).loc Cert.DMlp1Ideal.main_v2) = v0 c
          ∧ r.2.mem ((c.tc : Thread Cert.DMlp1Ideal.nD Cert.DMlp1Ideal.τ).loc Cert.DMlp1Ideal.main_arg0) = m ((c.tc : Thread Cert.DMlp1Ideal.nD Cert.DMlp1Ideal.τ).loc Cert.DMlp1Ideal.main_arg0)
          ∧ r.2.mem ((c.tc : Thread Cert.DMlp1Ideal.nD Cert.DMlp1Ideal.τ).loc Cert.DMlp1Ideal.main_arg1) = m ((c.tc : Thread Cert.DMlp1Ideal.nD Cert.DMlp1Ideal.τ).loc Cert.DMlp1Ideal.main_arg1))
      ∧ θ_run (Cert.DMlp1RefIdeal.defs (F := Ideal)) (onTc (τ := Cert.DMlp1RefIdeal.τ) (Cert.DMlp1RefIdeal.main (F := Ideal))) ⟨m', fun _ => 0, g'⟩ (fun r => ∀ c : Dev Cert.DMlp1RefIdeal.nD,
          r.2.mem ((c.tc : Thread Cert.DMlp1RefIdeal.nD Cert.DMlp1RefIdeal.τ).loc Cert.DMlp1RefIdeal.main_v3) = v0 c
          ∧ r.2.mem ((c.tc : Thread Cert.DMlp1RefIdeal.nD Cert.DMlp1RefIdeal.τ).loc Cert.DMlp1RefIdeal.main_arg0) = m' ((c.tc : Thread Cert.DMlp1RefIdeal.nD Cert.DMlp1RefIdeal.τ).loc Cert.DMlp1RefIdeal.main_arg0)
          ∧ r.2.mem ((c.tc : Thread Cert.DMlp1RefIdeal.nD Cert.DMlp1RefIdeal.τ).loc Cert.DMlp1RefIdeal.main_arg1) = m' ((c.tc : Thread Cert.DMlp1RefIdeal.nD Cert.DMlp1RefIdeal.τ).loc Cert.DMlp1RefIdeal.main_arg1))

def preserves_DHm_DHmIdeal : Prop :=
  True

def algebraic_DHmIdeal_DHmRefIdeal_pre_finite_mlp [hDHmIdeal : Cert.DHmIdeal.Facts] [hDHmRefIdeal : Cert.DHmRefIdeal.Facts] [hPre_finite_mlp : Cert.Pre_finite_mlp.Facts] : Prop :=
  ∀ (m : (ℓ : Loc Cert.DHmIdeal.nD Cert.DHmIdeal.τ Cert.DHmIdeal.sig) → Buf (Elt Ideal) ℓ) (g : Dev Cert.DHmIdeal.nD → PrngReg)
    (m' : (ℓ : Loc Cert.DHmRefIdeal.nD Cert.DHmRefIdeal.τ Cert.DHmRefIdeal.sig) → Buf (Elt Ideal) ℓ) (g' : Dev Cert.DHmRefIdeal.nD → PrngReg), Pre_DHmIdeal_finite_mlp m →
    (∀ c : Dev Cert.DHmIdeal.nD,
      m' ((c.tc : Thread Cert.DHmRefIdeal.nD Cert.DHmRefIdeal.τ).loc Cert.DHmRefIdeal.main_arg0) = m ((c.tc : Thread Cert.DHmIdeal.nD Cert.DHmIdeal.τ).loc Cert.DHmIdeal.main_arg0)
      ∧ m' ((c.tc : Thread Cert.DHmRefIdeal.nD Cert.DHmRefIdeal.τ).loc Cert.DHmRefIdeal.main_arg1) = m ((c.tc : Thread Cert.DHmIdeal.nD Cert.DHmIdeal.τ).loc Cert.DHmIdeal.main_arg1)
      ∧ m' ((c.tc : Thread Cert.DHmRefIdeal.nD Cert.DHmRefIdeal.τ).loc Cert.DHmRefIdeal.main_arg2) = m ((c.tc : Thread Cert.DHmIdeal.nD Cert.DHmIdeal.τ).loc Cert.DHmIdeal.main_arg2)
      ∧ m' ((c.tc : Thread Cert.DHmRefIdeal.nD Cert.DHmRefIdeal.τ).loc Cert.DHmRefIdeal.main_arg3) = m ((c.tc : Thread Cert.DHmIdeal.nD Cert.DHmIdeal.τ).loc Cert.DHmIdeal.main_arg3)
      ∧ m' ((c.tc : Thread Cert.DHmRefIdeal.nD Cert.DHmRefIdeal.τ).loc Cert.DHmRefIdeal.main_arg4) = m ((c.tc : Thread Cert.DHmIdeal.nD Cert.DHmIdeal.τ).loc Cert.DHmIdeal.main_arg4)) →
    ∃ (v0 : (c : Dev Cert.DHmIdeal.nD) → Buf (Elt Ideal) ((c.tc : Thread Cert.DHmIdeal.nD Cert.DHmIdeal.τ).loc Cert.DHmIdeal.main_v2_0)) (v1 : (c : Dev Cert.DHmIdeal.nD) → Buf (Elt Ideal) ((c.tc : Thread Cert.DHmIdeal.nD Cert.DHmIdeal.τ).loc Cert.DHmIdeal.main_v2_1)),
      θ_run (Cert.DHmIdeal.defs (F := Ideal)) (onTc (τ := Cert.DHmIdeal.τ) (Cert.DHmIdeal.main (F := Ideal))) ⟨m, fun _ => 0, g⟩ (fun r => ∀ c : Dev Cert.DHmIdeal.nD,
          r.2.mem ((c.tc : Thread Cert.DHmIdeal.nD Cert.DHmIdeal.τ).loc Cert.DHmIdeal.main_v2_0) = v0 c
          ∧ r.2.mem ((c.tc : Thread Cert.DHmIdeal.nD Cert.DHmIdeal.τ).loc Cert.DHmIdeal.main_v2_1) = v1 c
          ∧ r.2.mem ((c.tc : Thread Cert.DHmIdeal.nD Cert.DHmIdeal.τ).loc Cert.DHmIdeal.main_arg0) = m ((c.tc : Thread Cert.DHmIdeal.nD Cert.DHmIdeal.τ).loc Cert.DHmIdeal.main_arg0)
          ∧ r.2.mem ((c.tc : Thread Cert.DHmIdeal.nD Cert.DHmIdeal.τ).loc Cert.DHmIdeal.main_arg1) = m ((c.tc : Thread Cert.DHmIdeal.nD Cert.DHmIdeal.τ).loc Cert.DHmIdeal.main_arg1)
          ∧ r.2.mem ((c.tc : Thread Cert.DHmIdeal.nD Cert.DHmIdeal.τ).loc Cert.DHmIdeal.main_arg2) = m ((c.tc : Thread Cert.DHmIdeal.nD Cert.DHmIdeal.τ).loc Cert.DHmIdeal.main_arg2)
          ∧ r.2.mem ((c.tc : Thread Cert.DHmIdeal.nD Cert.DHmIdeal.τ).loc Cert.DHmIdeal.main_arg3) = m ((c.tc : Thread Cert.DHmIdeal.nD Cert.DHmIdeal.τ).loc Cert.DHmIdeal.main_arg3)
          ∧ r.2.mem ((c.tc : Thread Cert.DHmIdeal.nD Cert.DHmIdeal.τ).loc Cert.DHmIdeal.main_arg4) = m ((c.tc : Thread Cert.DHmIdeal.nD Cert.DHmIdeal.τ).loc Cert.DHmIdeal.main_arg4))
      ∧ θ_run (Cert.DHmRefIdeal.defs (F := Ideal)) (onTc (τ := Cert.DHmRefIdeal.τ) (Cert.DHmRefIdeal.main (F := Ideal))) ⟨m', fun _ => 0, g'⟩ (fun r => ∀ c : Dev Cert.DHmRefIdeal.nD,
          r.2.mem ((c.tc : Thread Cert.DHmRefIdeal.nD Cert.DHmRefIdeal.τ).loc Cert.DHmRefIdeal.main_v36) = v0 c
          ∧ r.2.mem ((c.tc : Thread Cert.DHmRefIdeal.nD Cert.DHmRefIdeal.τ).loc Cert.DHmRefIdeal.main_v19) = v1 c
          ∧ r.2.mem ((c.tc : Thread Cert.DHmRefIdeal.nD Cert.DHmRefIdeal.τ).loc Cert.DHmRefIdeal.main_arg0) = m' ((c.tc : Thread Cert.DHmRefIdeal.nD Cert.DHmRefIdeal.τ).loc Cert.DHmRefIdeal.main_arg0)
          ∧ r.2.mem ((c.tc : Thread Cert.DHmRefIdeal.nD Cert.DHmRefIdeal.τ).loc Cert.DHmRefIdeal.main_arg1) = m' ((c.tc : Thread Cert.DHmRefIdeal.nD Cert.DHmRefIdeal.τ).loc Cert.DHmRefIdeal.main_arg1)
          ∧ r.2.mem ((c.tc : Thread Cert.DHmRefIdeal.nD Cert.DHmRefIdeal.τ).loc Cert.DHmRefIdeal.main_arg2) = m' ((c.tc : Thread Cert.DHmRefIdeal.nD Cert.DHmRefIdeal.τ).loc Cert.DHmRefIdeal.main_arg2)
          ∧ r.2.mem ((c.tc : Thread Cert.DHmRefIdeal.nD Cert.DHmRefIdeal.τ).loc Cert.DHmRefIdeal.main_arg3) = m' ((c.tc : Thread Cert.DHmRefIdeal.nD Cert.DHmRefIdeal.τ).loc Cert.DHmRefIdeal.main_arg3)
          ∧ r.2.mem ((c.tc : Thread Cert.DHmRefIdeal.nD Cert.DHmRefIdeal.τ).loc Cert.DHmRefIdeal.main_arg4) = m' ((c.tc : Thread Cert.DHmRefIdeal.nD Cert.DHmRefIdeal.τ).loc Cert.DHmRefIdeal.main_arg4))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)) →
    ∃ (v0 : (c : Dev Cert.InBIdeal.nD) → Buf (Elt Ideal) ((c.tc : Thread Cert.InBIdeal.nD Cert.InBIdeal.τ).loc Cert.InBIdeal.main_v2)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v2) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v0) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1))

def preserves_InC_InCIdeal : Prop :=
  True

def algebraic_InCIdeal_InCRefIdeal [hInCIdeal : Cert.InCIdeal.Facts] [hInCRefIdeal : Cert.InCRefIdeal.Facts] : Prop :=
  ∀ (m : (ℓ : Loc Cert.InCIdeal.nD Cert.InCIdeal.τ Cert.InCIdeal.sig) → Buf (Elt Ideal) ℓ) (g : Dev Cert.InCIdeal.nD → PrngReg)
    (m' : (ℓ : Loc Cert.InCRefIdeal.nD Cert.InCRefIdeal.τ Cert.InCRefIdeal.sig) → Buf (Elt Ideal) ℓ) (g' : Dev Cert.InCRefIdeal.nD → PrngReg), Pre_InCIdeal m →
    (∀ c : Dev Cert.InCIdeal.nD,
      m' ((c.tc : Thread Cert.InCRefIdeal.nD Cert.InCRefIdeal.τ).loc Cert.InCRefIdeal.main_arg0) = m ((c.tc : Thread Cert.InCIdeal.nD Cert.InCIdeal.τ).loc Cert.InCIdeal.main_arg0)
      ∧ m' ((c.tc : Thread Cert.InCRefIdeal.nD Cert.InCRefIdeal.τ).loc Cert.InCRefIdeal.main_arg1) = m ((c.tc : Thread Cert.InCIdeal.nD Cert.InCIdeal.τ).loc Cert.InCIdeal.main_arg1)) →
    ∃ (v0 : (c : Dev Cert.InCIdeal.nD) → Buf (Elt Ideal) ((c.tc : Thread Cert.InCIdeal.nD Cert.InCIdeal.τ).loc Cert.InCIdeal.main_v2)),
      θ_run (Cert.InCIdeal.defs (F := Ideal)) (onTc (τ := Cert.InCIdeal.τ) (Cert.InCIdeal.main (F := Ideal))) ⟨m, fun _ => 0, g⟩ (fun r => ∀ c : Dev Cert.InCIdeal.nD,
          r.2.mem ((c.tc : Thread Cert.InCIdeal.nD Cert.InCIdeal.τ).loc Cert.InCIdeal.main_v2) = v0 c
          ∧ r.2.mem ((c.tc : Thread Cert.InCIdeal.nD Cert.InCIdeal.τ).loc Cert.InCIdeal.main_arg0) = m ((c.tc : Thread Cert.InCIdeal.nD Cert.InCIdeal.τ).loc Cert.InCIdeal.main_arg0)
          ∧ r.2.mem ((c.tc : Thread Cert.InCIdeal.nD Cert.InCIdeal.τ).loc Cert.InCIdeal.main_arg1) = m ((c.tc : Thread Cert.InCIdeal.nD Cert.InCIdeal.τ).loc Cert.InCIdeal.main_arg1))
      ∧ θ_run (Cert.InCRefIdeal.defs (F := Ideal)) (onTc (τ := Cert.InCRefIdeal.τ) (Cert.InCRefIdeal.main (F := Ideal))) ⟨m', fun _ => 0, g'⟩ (fun r => ∀ c : Dev Cert.InCRefIdeal.nD,
          r.2.mem ((c.tc : Thread Cert.InCRefIdeal.nD Cert.InCRefIdeal.τ).loc Cert.InCRefIdeal.main_v0) = v0 c
          ∧ r.2.mem ((c.tc : Thread Cert.InCRefIdeal.nD Cert.InCRefIdeal.τ).loc Cert.InCRefIdeal.main_arg0) = m' ((c.tc : Thread Cert.InCRefIdeal.nD Cert.InCRefIdeal.τ).loc Cert.InCRefIdeal.main_arg0)
          ∧ r.2.mem ((c.tc : Thread Cert.InCRefIdeal.nD Cert.InCRefIdeal.τ).loc Cert.InCRefIdeal.main_arg1) = m' ((c.tc : Thread Cert.InCRefIdeal.nD Cert.InCRefIdeal.τ).loc Cert.InCRefIdeal.main_arg1))

def preserves_DInA_DInAIdeal : Prop :=
  True

def algebraic_DInAIdeal_DInARefIdeal [hDInAIdeal : Cert.DInAIdeal.Facts] [hDInARefIdeal : Cert.DInARefIdeal.Facts] : Prop :=
  ∀ (m : (ℓ : Loc Cert.DInAIdeal.nD Cert.DInAIdeal.τ Cert.DInAIdeal.sig) → Buf (Elt Ideal) ℓ) (g : Dev Cert.DInAIdeal.nD → PrngReg)
    (m' : (ℓ : Loc Cert.DInARefIdeal.nD Cert.DInARefIdeal.τ Cert.DInARefIdeal.sig) → Buf (Elt Ideal) ℓ) (g' : Dev Cert.DInARefIdeal.nD → PrngReg), Pre_DInAIdeal m →
    (∀ c : Dev Cert.DInAIdeal.nD,
      m' ((c.tc : Thread Cert.DInARefIdeal.nD Cert.DInARefIdeal.τ).loc Cert.DInARefIdeal.main_arg0) = m ((c.tc : Thread Cert.DInAIdeal.nD Cert.DInAIdeal.τ).loc Cert.DInAIdeal.main_arg0)
      ∧ m' ((c.tc : Thread Cert.DInARefIdeal.nD Cert.DInARefIdeal.τ).loc Cert.DInARefIdeal.main_arg1) = m ((c.tc : Thread Cert.DInAIdeal.nD Cert.DInAIdeal.τ).loc Cert.DInAIdeal.main_arg1)) →
    ∃ (v0 : (c : Dev Cert.DInAIdeal.nD) → Buf (Elt Ideal) ((c.tc : Thread Cert.DInAIdeal.nD Cert.DInAIdeal.τ).loc Cert.DInAIdeal.main_v2)),
      θ_run (Cert.DInAIdeal.defs (F := Ideal)) (onTc (τ := Cert.DInAIdeal.τ) (Cert.DInAIdeal.main (F := Ideal))) ⟨m, fun _ => 0, g⟩ (fun r => ∀ c : Dev Cert.DInAIdeal.nD,
          r.2.mem ((c.tc : Thread Cert.DInAIdeal.nD Cert.DInAIdeal.τ).loc Cert.DInAIdeal.main_v2) = v0 c
          ∧ r.2.mem ((c.tc : Thread Cert.DInAIdeal.nD Cert.DInAIdeal.τ).loc Cert.DInAIdeal.main_arg0) = m ((c.tc : Thread Cert.DInAIdeal.nD Cert.DInAIdeal.τ).loc Cert.DInAIdeal.main_arg0)
          ∧ r.2.mem ((c.tc : Thread Cert.DInAIdeal.nD Cert.DInAIdeal.τ).loc Cert.DInAIdeal.main_arg1) = m ((c.tc : Thread Cert.DInAIdeal.nD Cert.DInAIdeal.τ).loc Cert.DInAIdeal.main_arg1))
      ∧ θ_run (Cert.DInARefIdeal.defs (F := Ideal)) (onTc (τ := Cert.DInARefIdeal.τ) (Cert.DInARefIdeal.main (F := Ideal))) ⟨m', fun _ => 0, g'⟩ (fun r => ∀ c : Dev Cert.DInARefIdeal.nD,
          r.2.mem ((c.tc : Thread Cert.DInARefIdeal.nD Cert.DInARefIdeal.τ).loc Cert.DInARefIdeal.main_v3) = v0 c
          ∧ r.2.mem ((c.tc : Thread Cert.DInARefIdeal.nD Cert.DInARefIdeal.τ).loc Cert.DInARefIdeal.main_arg0) = m' ((c.tc : Thread Cert.DInARefIdeal.nD Cert.DInARefIdeal.τ).loc Cert.DInARefIdeal.main_arg0)
          ∧ r.2.mem ((c.tc : Thread Cert.DInARefIdeal.nD Cert.DInARefIdeal.τ).loc Cert.DInARefIdeal.main_arg1) = m' ((c.tc : Thread Cert.DInARefIdeal.nD Cert.DInARefIdeal.τ).loc Cert.DInARefIdeal.main_arg1))

def preserves_DInB_DInBIdeal : Prop :=
  True

def algebraic_DInBIdeal_DInBRefIdeal [hDInBIdeal : Cert.DInBIdeal.Facts] [hDInBRefIdeal : Cert.DInBRefIdeal.Facts] : Prop :=
  ∀ (m : (ℓ : Loc Cert.DInBIdeal.nD Cert.DInBIdeal.τ Cert.DInBIdeal.sig) → Buf (Elt Ideal) ℓ) (g : Dev Cert.DInBIdeal.nD → PrngReg)
    (m' : (ℓ : Loc Cert.DInBRefIdeal.nD Cert.DInBRefIdeal.τ Cert.DInBRefIdeal.sig) → Buf (Elt Ideal) ℓ) (g' : Dev Cert.DInBRefIdeal.nD → PrngReg), Pre_DInBIdeal m →
    (∀ c : Dev Cert.DInBIdeal.nD,
      m' ((c.tc : Thread Cert.DInBRefIdeal.nD Cert.DInBRefIdeal.τ).loc Cert.DInBRefIdeal.main_arg0) = m ((c.tc : Thread Cert.DInBIdeal.nD Cert.DInBIdeal.τ).loc Cert.DInBIdeal.main_arg0)
      ∧ m' ((c.tc : Thread Cert.DInBRefIdeal.nD Cert.DInBRefIdeal.τ).loc Cert.DInBRefIdeal.main_arg1) = m ((c.tc : Thread Cert.DInBIdeal.nD Cert.DInBIdeal.τ).loc Cert.DInBIdeal.main_arg1)) →
    ∃ (v0 : (c : Dev Cert.DInBIdeal.nD) → Buf (Elt Ideal) ((c.tc : Thread Cert.DInBIdeal.nD Cert.DInBIdeal.τ).loc Cert.DInBIdeal.main_v2)),
      θ_run (Cert.DInBIdeal.defs (F := Ideal)) (onTc (τ := Cert.DInBIdeal.τ) (Cert.DInBIdeal.main (F := Ideal))) ⟨m, fun _ => 0, g⟩ (fun r => ∀ c : Dev Cert.DInBIdeal.nD,
          r.2.mem ((c.tc : Thread Cert.DInBIdeal.nD Cert.DInBIdeal.τ).loc Cert.DInBIdeal.main_v2) = v0 c
          ∧ r.2.mem ((c.tc : Thread Cert.DInBIdeal.nD Cert.DInBIdeal.τ).loc Cert.DInBIdeal.main_arg0) = m ((c.tc : Thread Cert.DInBIdeal.nD Cert.DInBIdeal.τ).loc Cert.DInBIdeal.main_arg0)
          ∧ r.2.mem ((c.tc : Thread Cert.DInBIdeal.nD Cert.DInBIdeal.τ).loc Cert.DInBIdeal.main_arg1) = m ((c.tc : Thread Cert.DInBIdeal.nD Cert.DInBIdeal.τ).loc Cert.DInBIdeal.main_arg1))
      ∧ θ_run (Cert.DInBRefIdeal.defs (F := Ideal)) (onTc (τ := Cert.DInBRefIdeal.τ) (Cert.DInBRefIdeal.main (F := Ideal))) ⟨m', fun _ => 0, g'⟩ (fun r => ∀ c : Dev Cert.DInBRefIdeal.nD,
          r.2.mem ((c.tc : Thread Cert.DInBRefIdeal.nD Cert.DInBRefIdeal.τ).loc Cert.DInBRefIdeal.main_v3) = v0 c
          ∧ r.2.mem ((c.tc : Thread Cert.DInBRefIdeal.nD Cert.DInBRefIdeal.τ).loc Cert.DInBRefIdeal.main_arg0) = m' ((c.tc : Thread Cert.DInBRefIdeal.nD Cert.DInBRefIdeal.τ).loc Cert.DInBRefIdeal.main_arg0)
          ∧ r.2.mem ((c.tc : Thread Cert.DInBRefIdeal.nD Cert.DInBRefIdeal.τ).loc Cert.DInBRefIdeal.main_arg1) = m' ((c.tc : Thread Cert.DInBRefIdeal.nD Cert.DInBRefIdeal.τ).loc Cert.DInBRefIdeal.main_arg1))

def preserves_DInC_DInCIdeal : Prop :=
  True

def algebraic_DInCIdeal_DInCRefIdeal [hDInCIdeal : Cert.DInCIdeal.Facts] [hDInCRefIdeal : Cert.DInCRefIdeal.Facts] : Prop :=
  ∀ (m : (ℓ : Loc Cert.DInCIdeal.nD Cert.DInCIdeal.τ Cert.DInCIdeal.sig) → Buf (Elt Ideal) ℓ) (g : Dev Cert.DInCIdeal.nD → PrngReg)
    (m' : (ℓ : Loc Cert.DInCRefIdeal.nD Cert.DInCRefIdeal.τ Cert.DInCRefIdeal.sig) → Buf (Elt Ideal) ℓ) (g' : Dev Cert.DInCRefIdeal.nD → PrngReg), Pre_DInCIdeal m →
    (∀ c : Dev Cert.DInCIdeal.nD,
      m' ((c.tc : Thread Cert.DInCRefIdeal.nD Cert.DInCRefIdeal.τ).loc Cert.DInCRefIdeal.main_arg0) = m ((c.tc : Thread Cert.DInCIdeal.nD Cert.DInCIdeal.τ).loc Cert.DInCIdeal.main_arg0)
      ∧ m' ((c.tc : Thread Cert.DInCRefIdeal.nD Cert.DInCRefIdeal.τ).loc Cert.DInCRefIdeal.main_arg1) = m ((c.tc : Thread Cert.DInCIdeal.nD Cert.DInCIdeal.τ).loc Cert.DInCIdeal.main_arg1)) →
    ∃ (v0 : (c : Dev Cert.DInCIdeal.nD) → Buf (Elt Ideal) ((c.tc : Thread Cert.DInCIdeal.nD Cert.DInCIdeal.τ).loc Cert.DInCIdeal.main_v2)),
      θ_run (Cert.DInCIdeal.defs (F := Ideal)) (onTc (τ := Cert.DInCIdeal.τ) (Cert.DInCIdeal.main (F := Ideal))) ⟨m, fun _ => 0, g⟩ (fun r => ∀ c : Dev Cert.DInCIdeal.nD,
          r.2.mem ((c.tc : Thread Cert.DInCIdeal.nD Cert.DInCIdeal.τ).loc Cert.DInCIdeal.main_v2) = v0 c
          ∧ r.2.mem ((c.tc : Thread Cert.DInCIdeal.nD Cert.DInCIdeal.τ).loc Cert.DInCIdeal.main_arg0) = m ((c.tc : Thread Cert.DInCIdeal.nD Cert.DInCIdeal.τ).loc Cert.DInCIdeal.main_arg0)
          ∧ r.2.mem ((c.tc : Thread Cert.DInCIdeal.nD Cert.DInCIdeal.τ).loc Cert.DInCIdeal.main_arg1) = m ((c.tc : Thread Cert.DInCIdeal.nD Cert.DInCIdeal.τ).loc Cert.DInCIdeal.main_arg1))
      ∧ θ_run (Cert.DInCRefIdeal.defs (F := Ideal)) (onTc (τ := Cert.DInCRefIdeal.τ) (Cert.DInCRefIdeal.main (F := Ideal))) ⟨m', fun _ => 0, g'⟩ (fun r => ∀ c : Dev Cert.DInCRefIdeal.nD,
          r.2.mem ((c.tc : Thread Cert.DInCRefIdeal.nD Cert.DInCRefIdeal.τ).loc Cert.DInCRefIdeal.main_v3) = v0 c
          ∧ r.2.mem ((c.tc : Thread Cert.DInCRefIdeal.nD Cert.DInCRefIdeal.τ).loc Cert.DInCRefIdeal.main_arg0) = m' ((c.tc : Thread Cert.DInCRefIdeal.nD Cert.DInCRefIdeal.τ).loc Cert.DInCRefIdeal.main_arg0)
          ∧ r.2.mem ((c.tc : Thread Cert.DInCRefIdeal.nD Cert.DInCRefIdeal.τ).loc Cert.DInCRefIdeal.main_arg1) = m' ((c.tc : Thread Cert.DInCRefIdeal.nD Cert.DInCRefIdeal.τ).loc Cert.DInCRefIdeal.main_arg1))

def preserves_DHa_DHaIdeal : Prop :=
  True

def algebraic_DHaIdeal_DHaRefIdeal [hDHaIdeal : Cert.DHaIdeal.Facts] [hDHaRefIdeal : Cert.DHaRefIdeal.Facts] : Prop :=
  ∀ (m : (ℓ : Loc Cert.DHaIdeal.nD Cert.DHaIdeal.τ Cert.DHaIdeal.sig) → Buf (Elt Ideal) ℓ) (g : Dev Cert.DHaIdeal.nD → PrngReg)
    (m' : (ℓ : Loc Cert.DHaRefIdeal.nD Cert.DHaRefIdeal.τ Cert.DHaRefIdeal.sig) → Buf (Elt Ideal) ℓ) (g' : Dev Cert.DHaRefIdeal.nD → PrngReg), Pre_DHaIdeal m →
    (∀ c : Dev Cert.DHaIdeal.nD,
      m' ((c.tc : Thread Cert.DHaRefIdeal.nD Cert.DHaRefIdeal.τ).loc Cert.DHaRefIdeal.main_arg0) = m ((c.tc : Thread Cert.DHaIdeal.nD Cert.DHaIdeal.τ).loc Cert.DHaIdeal.main_arg0)
      ∧ m' ((c.tc : Thread Cert.DHaRefIdeal.nD Cert.DHaRefIdeal.τ).loc Cert.DHaRefIdeal.main_arg1) = m ((c.tc : Thread Cert.DHaIdeal.nD Cert.DHaIdeal.τ).loc Cert.DHaIdeal.main_arg1)) →
    ∃ (v0 : (c : Dev Cert.DHaIdeal.nD) → Buf (Elt Ideal) ((c.tc : Thread Cert.DHaIdeal.nD Cert.DHaIdeal.τ).loc Cert.DHaIdeal.main_v2)),
      θ_run (Cert.DHaIdeal.defs (F := Ideal)) (onTc (τ := Cert.DHaIdeal.τ) (Cert.DHaIdeal.main (F := Ideal))) ⟨m, fun _ => 0, g⟩ (fun r => ∀ c : Dev Cert.DHaIdeal.nD,
          r.2.mem ((c.tc : Thread Cert.DHaIdeal.nD Cert.DHaIdeal.τ).loc Cert.DHaIdeal.main_v2) = v0 c
          ∧ r.2.mem ((c.tc : Thread Cert.DHaIdeal.nD Cert.DHaIdeal.τ).loc Cert.DHaIdeal.main_arg0) = m ((c.tc : Thread Cert.DHaIdeal.nD Cert.DHaIdeal.τ).loc Cert.DHaIdeal.main_arg0)
          ∧ r.2.mem ((c.tc : Thread Cert.DHaIdeal.nD Cert.DHaIdeal.τ).loc Cert.DHaIdeal.main_arg1) = m ((c.tc : Thread Cert.DHaIdeal.nD Cert.DHaIdeal.τ).loc Cert.DHaIdeal.main_arg1))
      ∧ θ_run (Cert.DHaRefIdeal.defs (F := Ideal)) (onTc (τ := Cert.DHaRefIdeal.τ) (Cert.DHaRefIdeal.main (F := Ideal))) ⟨m', fun _ => 0, g'⟩ (fun r => ∀ c : Dev Cert.DHaRefIdeal.nD,
          r.2.mem ((c.tc : Thread Cert.DHaRefIdeal.nD Cert.DHaRefIdeal.τ).loc Cert.DHaRefIdeal.main_v2) = v0 c
          ∧ r.2.mem ((c.tc : Thread Cert.DHaRefIdeal.nD Cert.DHaRefIdeal.τ).loc Cert.DHaRefIdeal.main_arg0) = m' ((c.tc : Thread Cert.DHaRefIdeal.nD Cert.DHaRefIdeal.τ).loc Cert.DHaRefIdeal.main_arg0)
          ∧ r.2.mem ((c.tc : Thread Cert.DHaRefIdeal.nD Cert.DHaRefIdeal.τ).loc Cert.DHaRefIdeal.main_arg1) = m' ((c.tc : Thread Cert.DHaRefIdeal.nD Cert.DHaRefIdeal.τ).loc Cert.DHaRefIdeal.main_arg1))

def preserves_DHb_DHbIdeal : Prop :=
  True

def algebraic_DHbIdeal_DHbRefIdeal [hDHbIdeal : Cert.DHbIdeal.Facts] [hDHbRefIdeal : Cert.DHbRefIdeal.Facts] : Prop :=
  ∀ (m : (ℓ : Loc Cert.DHbIdeal.nD Cert.DHbIdeal.τ Cert.DHbIdeal.sig) → Buf (Elt Ideal) ℓ) (g : Dev Cert.DHbIdeal.nD → PrngReg)
    (m' : (ℓ : Loc Cert.DHbRefIdeal.nD Cert.DHbRefIdeal.τ Cert.DHbRefIdeal.sig) → Buf (Elt Ideal) ℓ) (g' : Dev Cert.DHbRefIdeal.nD → PrngReg), Pre_DHbIdeal m →
    (∀ c : Dev Cert.DHbIdeal.nD,
      m' ((c.tc : Thread Cert.DHbRefIdeal.nD Cert.DHbRefIdeal.τ).loc Cert.DHbRefIdeal.main_arg0) = m ((c.tc : Thread Cert.DHbIdeal.nD Cert.DHbIdeal.τ).loc Cert.DHbIdeal.main_arg0)
      ∧ m' ((c.tc : Thread Cert.DHbRefIdeal.nD Cert.DHbRefIdeal.τ).loc Cert.DHbRefIdeal.main_arg1) = m ((c.tc : Thread Cert.DHbIdeal.nD Cert.DHbIdeal.τ).loc Cert.DHbIdeal.main_arg1)
      ∧ m' ((c.tc : Thread Cert.DHbRefIdeal.nD Cert.DHbRefIdeal.τ).loc Cert.DHbRefIdeal.main_arg2) = m ((c.tc : Thread Cert.DHbIdeal.nD Cert.DHbIdeal.τ).loc Cert.DHbIdeal.main_arg2)) →
    ∃ (v0 : (c : Dev Cert.DHbIdeal.nD) → Buf (Elt Ideal) ((c.tc : Thread Cert.DHbIdeal.nD Cert.DHbIdeal.τ).loc Cert.DHbIdeal.main_v2)),
      θ_run (Cert.DHbIdeal.defs (F := Ideal)) (onTc (τ := Cert.DHbIdeal.τ) (Cert.DHbIdeal.main (F := Ideal))) ⟨m, fun _ => 0, g⟩ (fun r => ∀ c : Dev Cert.DHbIdeal.nD,
          r.2.mem ((c.tc : Thread Cert.DHbIdeal.nD Cert.DHbIdeal.τ).loc Cert.DHbIdeal.main_v2) = v0 c
          ∧ r.2.mem ((c.tc : Thread Cert.DHbIdeal.nD Cert.DHbIdeal.τ).loc Cert.DHbIdeal.main_arg0) = m ((c.tc : Thread Cert.DHbIdeal.nD Cert.DHbIdeal.τ).loc Cert.DHbIdeal.main_arg0)
          ∧ r.2.mem ((c.tc : Thread Cert.DHbIdeal.nD Cert.DHbIdeal.τ).loc Cert.DHbIdeal.main_arg1) = m ((c.tc : Thread Cert.DHbIdeal.nD Cert.DHbIdeal.τ).loc Cert.DHbIdeal.main_arg1)
          ∧ r.2.mem ((c.tc : Thread Cert.DHbIdeal.nD Cert.DHbIdeal.τ).loc Cert.DHbIdeal.main_arg2) = m ((c.tc : Thread Cert.DHbIdeal.nD Cert.DHbIdeal.τ).loc Cert.DHbIdeal.main_arg2))
      ∧ θ_run (Cert.DHbRefIdeal.defs (F := Ideal)) (onTc (τ := Cert.DHbRefIdeal.τ) (Cert.DHbRefIdeal.main (F := Ideal))) ⟨m', fun _ => 0, g'⟩ (fun r => ∀ c : Dev Cert.DHbRefIdeal.nD,
          r.2.mem ((c.tc : Thread Cert.DHbRefIdeal.nD Cert.DHbRefIdeal.τ).loc Cert.DHbRefIdeal.main_v3) = v0 c
          ∧ r.2.mem ((c.tc : Thread Cert.DHbRefIdeal.nD Cert.DHbRefIdeal.τ).loc Cert.DHbRefIdeal.main_arg0) = m' ((c.tc : Thread Cert.DHbRefIdeal.nD Cert.DHbRefIdeal.τ).loc Cert.DHbRefIdeal.main_arg0)
          ∧ r.2.mem ((c.tc : Thread Cert.DHbRefIdeal.nD Cert.DHbRefIdeal.τ).loc Cert.DHbRefIdeal.main_arg1) = m' ((c.tc : Thread Cert.DHbRefIdeal.nD Cert.DHbRefIdeal.τ).loc Cert.DHbRefIdeal.main_arg1)
          ∧ r.2.mem ((c.tc : Thread Cert.DHbRefIdeal.nD Cert.DHbRefIdeal.τ).loc Cert.DHbRefIdeal.main_arg2) = m' ((c.tc : Thread Cert.DHbRefIdeal.nD Cert.DHbRefIdeal.τ).loc Cert.DHbRefIdeal.main_arg2))

def preserves_DHc_DHcIdeal : Prop :=
  True

def algebraic_DHcIdeal_DHcRefIdeal_pre_finite_mix [hDHcIdeal : Cert.DHcIdeal.Facts] [hDHcRefIdeal : Cert.DHcRefIdeal.Facts] [hPre_finite_mix : Cert.Pre_finite_mix.Facts] : Prop :=
  ∀ (m : (ℓ : Loc Cert.DHcIdeal.nD Cert.DHcIdeal.τ Cert.DHcIdeal.sig) → Buf (Elt Ideal) ℓ) (g : Dev Cert.DHcIdeal.nD → PrngReg)
    (m' : (ℓ : Loc Cert.DHcRefIdeal.nD Cert.DHcRefIdeal.τ Cert.DHcRefIdeal.sig) → Buf (Elt Ideal) ℓ) (g' : Dev Cert.DHcRefIdeal.nD → PrngReg), Pre_DHcIdeal_finite_mix m →
    (∀ c : Dev Cert.DHcIdeal.nD,
      m' ((c.tc : Thread Cert.DHcRefIdeal.nD Cert.DHcRefIdeal.τ).loc Cert.DHcRefIdeal.main_arg0) = m ((c.tc : Thread Cert.DHcIdeal.nD Cert.DHcIdeal.τ).loc Cert.DHcIdeal.main_arg0)
      ∧ m' ((c.tc : Thread Cert.DHcRefIdeal.nD Cert.DHcRefIdeal.τ).loc Cert.DHcRefIdeal.main_arg1) = m ((c.tc : Thread Cert.DHcIdeal.nD Cert.DHcIdeal.τ).loc Cert.DHcIdeal.main_arg1)
      ∧ m' ((c.tc : Thread Cert.DHcRefIdeal.nD Cert.DHcRefIdeal.τ).loc Cert.DHcRefIdeal.main_arg2) = m ((c.tc : Thread Cert.DHcIdeal.nD Cert.DHcIdeal.τ).loc Cert.DHcIdeal.main_arg2)
      ∧ m' ((c.tc : Thread Cert.DHcRefIdeal.nD Cert.DHcRefIdeal.τ).loc Cert.DHcRefIdeal.main_arg3) = m ((c.tc : Thread Cert.DHcIdeal.nD Cert.DHcIdeal.τ).loc Cert.DHcIdeal.main_arg3)
      ∧ m' ((c.tc : Thread Cert.DHcRefIdeal.nD Cert.DHcRefIdeal.τ).loc Cert.DHcRefIdeal.main_arg4) = m ((c.tc : Thread Cert.DHcIdeal.nD Cert.DHcIdeal.τ).loc Cert.DHcIdeal.main_arg4)
      ∧ m' ((c.tc : Thread Cert.DHcRefIdeal.nD Cert.DHcRefIdeal.τ).loc Cert.DHcRefIdeal.main_arg5) = m ((c.tc : Thread Cert.DHcIdeal.nD Cert.DHcIdeal.τ).loc Cert.DHcIdeal.main_arg5)) →
    ∃ (v0 : (c : Dev Cert.DHcIdeal.nD) → Buf (Elt Ideal) ((c.tc : Thread Cert.DHcIdeal.nD Cert.DHcIdeal.τ).loc Cert.DHcIdeal.main_v2_0)) (v1 : (c : Dev Cert.DHcIdeal.nD) → Buf (Elt Ideal) ((c.tc : Thread Cert.DHcIdeal.nD Cert.DHcIdeal.τ).loc Cert.DHcIdeal.main_v2_1)),
      θ_run (Cert.DHcIdeal.defs (F := Ideal)) (onTc (τ := Cert.DHcIdeal.τ) (Cert.DHcIdeal.main (F := Ideal))) ⟨m, fun _ => 0, g⟩ (fun r => ∀ c : Dev Cert.DHcIdeal.nD,
          r.2.mem ((c.tc : Thread Cert.DHcIdeal.nD Cert.DHcIdeal.τ).loc Cert.DHcIdeal.main_v2_0) = v0 c
          ∧ r.2.mem ((c.tc : Thread Cert.DHcIdeal.nD Cert.DHcIdeal.τ).loc Cert.DHcIdeal.main_v2_1) = v1 c
          ∧ r.2.mem ((c.tc : Thread Cert.DHcIdeal.nD Cert.DHcIdeal.τ).loc Cert.DHcIdeal.main_arg0) = m ((c.tc : Thread Cert.DHcIdeal.nD Cert.DHcIdeal.τ).loc Cert.DHcIdeal.main_arg0)
          ∧ r.2.mem ((c.tc : Thread Cert.DHcIdeal.nD Cert.DHcIdeal.τ).loc Cert.DHcIdeal.main_arg1) = m ((c.tc : Thread Cert.DHcIdeal.nD Cert.DHcIdeal.τ).loc Cert.DHcIdeal.main_arg1)
          ∧ r.2.mem ((c.tc : Thread Cert.DHcIdeal.nD Cert.DHcIdeal.τ).loc Cert.DHcIdeal.main_arg2) = m ((c.tc : Thread Cert.DHcIdeal.nD Cert.DHcIdeal.τ).loc Cert.DHcIdeal.main_arg2)
          ∧ r.2.mem ((c.tc : Thread Cert.DHcIdeal.nD Cert.DHcIdeal.τ).loc Cert.DHcIdeal.main_arg3) = m ((c.tc : Thread Cert.DHcIdeal.nD Cert.DHcIdeal.τ).loc Cert.DHcIdeal.main_arg3)
          ∧ r.2.mem ((c.tc : Thread Cert.DHcIdeal.nD Cert.DHcIdeal.τ).loc Cert.DHcIdeal.main_arg4) = m ((c.tc : Thread Cert.DHcIdeal.nD Cert.DHcIdeal.τ).loc Cert.DHcIdeal.main_arg4)
          ∧ r.2.mem ((c.tc : Thread Cert.DHcIdeal.nD Cert.DHcIdeal.τ).loc Cert.DHcIdeal.main_arg5) = m ((c.tc : Thread Cert.DHcIdeal.nD Cert.DHcIdeal.τ).loc Cert.DHcIdeal.main_arg5))
      ∧ θ_run (Cert.DHcRefIdeal.defs (F := Ideal)) (onTc (τ := Cert.DHcRefIdeal.τ) (Cert.DHcRefIdeal.main (F := Ideal))) ⟨m', fun _ => 0, g'⟩ (fun r => ∀ c : Dev Cert.DHcRefIdeal.nD,
          r.2.mem ((c.tc : Thread Cert.DHcRefIdeal.nD Cert.DHcRefIdeal.τ).loc Cert.DHcRefIdeal.main_v38) = v0 c
          ∧ r.2.mem ((c.tc : Thread Cert.DHcRefIdeal.nD Cert.DHcRefIdeal.τ).loc Cert.DHcRefIdeal.main_v21) = v1 c
          ∧ r.2.mem ((c.tc : Thread Cert.DHcRefIdeal.nD Cert.DHcRefIdeal.τ).loc Cert.DHcRefIdeal.main_arg0) = m' ((c.tc : Thread Cert.DHcRefIdeal.nD Cert.DHcRefIdeal.τ).loc Cert.DHcRefIdeal.main_arg0)
          ∧ r.2.mem ((c.tc : Thread Cert.DHcRefIdeal.nD Cert.DHcRefIdeal.τ).loc Cert.DHcRefIdeal.main_arg1) = m' ((c.tc : Thread Cert.DHcRefIdeal.nD Cert.DHcRefIdeal.τ).loc Cert.DHcRefIdeal.main_arg1)
          ∧ r.2.mem ((c.tc : Thread Cert.DHcRefIdeal.nD Cert.DHcRefIdeal.τ).loc Cert.DHcRefIdeal.main_arg2) = m' ((c.tc : Thread Cert.DHcRefIdeal.nD Cert.DHcRefIdeal.τ).loc Cert.DHcRefIdeal.main_arg2)
          ∧ r.2.mem ((c.tc : Thread Cert.DHcRefIdeal.nD Cert.DHcRefIdeal.τ).loc Cert.DHcRefIdeal.main_arg3) = m' ((c.tc : Thread Cert.DHcRefIdeal.nD Cert.DHcRefIdeal.τ).loc Cert.DHcRefIdeal.main_arg3)
          ∧ r.2.mem ((c.tc : Thread Cert.DHcRefIdeal.nD Cert.DHcRefIdeal.τ).loc Cert.DHcRefIdeal.main_arg4) = m' ((c.tc : Thread Cert.DHcRefIdeal.nD Cert.DHcRefIdeal.τ).loc Cert.DHcRefIdeal.main_arg4)
          ∧ r.2.mem ((c.tc : Thread Cert.DHcRefIdeal.nD Cert.DHcRefIdeal.τ).loc Cert.DHcRefIdeal.main_arg5) = m' ((c.tc : Thread Cert.DHcRefIdeal.nD Cert.DHcRefIdeal.τ).loc Cert.DHcRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_DOut_DOutIdeal : Prop :=
  True

def algebraic_DOutIdeal_DOutRefIdeal [hDOutIdeal : Cert.DOutIdeal.Facts] [hDOutRefIdeal : Cert.DOutRefIdeal.Facts] : Prop :=
  ∀ (m : (ℓ : Loc Cert.DOutIdeal.nD Cert.DOutIdeal.τ Cert.DOutIdeal.sig) → Buf (Elt Ideal) ℓ) (g : Dev Cert.DOutIdeal.nD → PrngReg)
    (m' : (ℓ : Loc Cert.DOutRefIdeal.nD Cert.DOutRefIdeal.τ Cert.DOutRefIdeal.sig) → Buf (Elt Ideal) ℓ) (g' : Dev Cert.DOutRefIdeal.nD → PrngReg), Pre_DOutIdeal m →
    (∀ c : Dev Cert.DOutIdeal.nD,
      m' ((c.tc : Thread Cert.DOutRefIdeal.nD Cert.DOutRefIdeal.τ).loc Cert.DOutRefIdeal.main_arg0) = m ((c.tc : Thread Cert.DOutIdeal.nD Cert.DOutIdeal.τ).loc Cert.DOutIdeal.main_arg0)
      ∧ m' ((c.tc : Thread Cert.DOutRefIdeal.nD Cert.DOutRefIdeal.τ).loc Cert.DOutRefIdeal.main_arg1) = m ((c.tc : Thread Cert.DOutIdeal.nD Cert.DOutIdeal.τ).loc Cert.DOutIdeal.main_arg1)) →
    ∃ (v0 : (c : Dev Cert.DOutIdeal.nD) → Buf (Elt Ideal) ((c.tc : Thread Cert.DOutIdeal.nD Cert.DOutIdeal.τ).loc Cert.DOutIdeal.main_v1)),
      θ_run (Cert.DOutIdeal.defs (F := Ideal)) (onTc (τ := Cert.DOutIdeal.τ) (Cert.DOutIdeal.main (F := Ideal))) ⟨m, fun _ => 0, g⟩ (fun r => ∀ c : Dev Cert.DOutIdeal.nD,
          r.2.mem ((c.tc : Thread Cert.DOutIdeal.nD Cert.DOutIdeal.τ).loc Cert.DOutIdeal.main_v1) = v0 c
          ∧ r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
          ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1))
      ∧ θ_run (Cert.DOutRefIdeal.defs (F := Ideal)) (onTc (τ := Cert.DOutRefIdeal.τ) (Cert.DOutRefIdeal.main (F := Ideal))) ⟨m', fun _ => 0, g'⟩ (fun r => ∀ c : Dev Cert.DOutRefIdeal.nD,
          r.2.mem ((c.tc : Thread Cert.DOutRefIdeal.nD Cert.DOutRefIdeal.τ).loc Cert.DOutRefIdeal.main_v3) = v0 c
          ∧ r.2.mem ((c.tc : Thread Cert.DOutRefIdeal.nD Cert.DOutRefIdeal.τ).loc Cert.DOutRefIdeal.main_arg0) = m' ((c.tc : Thread Cert.DOutRefIdeal.nD Cert.DOutRefIdeal.τ).loc Cert.DOutRefIdeal.main_arg0)
          ∧ r.2.mem ((c.tc : Thread Cert.DOutRefIdeal.nD Cert.DOutRefIdeal.τ).loc Cert.DOutRefIdeal.main_arg1) = m' ((c.tc : Thread Cert.DOutRefIdeal.nD Cert.DOutRefIdeal.τ).loc Cert.DOutRefIdeal.main_arg1))

def preserves_DY_DYIdeal : Prop :=
  True

def algebraic_DYIdeal_DYRefIdeal [hDYIdeal : Cert.DYIdeal.Facts] [hDYRefIdeal : Cert.DYRefIdeal.Facts] : Prop :=
  ∀ (m : (ℓ : Loc Cert.DYIdeal.nD Cert.DYIdeal.τ Cert.DYIdeal.sig) → Buf (Elt Ideal) ℓ) (g : Dev Cert.DYIdeal.nD → PrngReg)
    (m' : (ℓ : Loc Cert.DYRefIdeal.nD Cert.DYRefIdeal.τ Cert.DYRefIdeal.sig) → Buf (Elt Ideal) ℓ) (g' : Dev Cert.DYRefIdeal.nD → PrngReg), Pre_DYIdeal m →
    (∀ c : Dev Cert.DYIdeal.nD,
      m' ((c.tc : Thread Cert.DYRefIdeal.nD Cert.DYRefIdeal.τ).loc Cert.DYRefIdeal.main_arg0) = m ((c.tc : Thread Cert.DYIdeal.nD Cert.DYIdeal.τ).loc Cert.DYIdeal.main_arg0)
      ∧ m' ((c.tc : Thread Cert.DYRefIdeal.nD Cert.DYRefIdeal.τ).loc Cert.DYRefIdeal.main_arg1) = m ((c.tc : Thread Cert.DYIdeal.nD Cert.DYIdeal.τ).loc Cert.DYIdeal.main_arg1)) →
    ∃ (v0 : (c : Dev Cert.DYIdeal.nD) → Buf (Elt Ideal) ((c.tc : Thread Cert.DYIdeal.nD Cert.DYIdeal.τ).loc Cert.DYIdeal.main_v1)),
      θ_run (Cert.DYIdeal.defs (F := Ideal)) (onTc (τ := Cert.DYIdeal.τ) (Cert.DYIdeal.main (F := Ideal))) ⟨m, fun _ => 0, g⟩ (fun r => ∀ c : Dev Cert.DYIdeal.nD,
          r.2.mem ((c.tc : Thread Cert.DYIdeal.nD Cert.DYIdeal.τ).loc Cert.DYIdeal.main_v1) = v0 c
          ∧ r.2.mem ((c.tc : Thread Cert.DYIdeal.nD Cert.DYIdeal.τ).loc Cert.DYIdeal.main_arg0) = m ((c.tc : Thread Cert.DYIdeal.nD Cert.DYIdeal.τ).loc Cert.DYIdeal.main_arg0)
          ∧ r.2.mem ((c.tc : Thread Cert.DYIdeal.nD Cert.DYIdeal.τ).loc Cert.DYIdeal.main_arg1) = m ((c.tc : Thread Cert.DYIdeal.nD Cert.DYIdeal.τ).loc Cert.DYIdeal.main_arg1))
      ∧ θ_run (Cert.DYRefIdeal.defs (F := Ideal)) (onTc (τ := Cert.DYRefIdeal.τ) (Cert.DYRefIdeal.main (F := Ideal))) ⟨m', fun _ => 0, g'⟩ (fun r => ∀ c : Dev Cert.DYRefIdeal.nD,
          r.2.mem ((c.tc : Thread Cert.DYRefIdeal.nD Cert.DYRefIdeal.τ).loc Cert.DYRefIdeal.main_v3) = v0 c
          ∧ r.2.mem ((c.tc : Thread Cert.DYRefIdeal.nD Cert.DYRefIdeal.τ).loc Cert.DYRefIdeal.main_arg0) = m' ((c.tc : Thread Cert.DYRefIdeal.nD Cert.DYRefIdeal.τ).loc Cert.DYRefIdeal.main_arg0)
          ∧ r.2.mem ((c.tc : Thread Cert.DYRefIdeal.nD Cert.DYRefIdeal.τ).loc Cert.DYRefIdeal.main_arg1) = m' ((c.tc : Thread Cert.DYRefIdeal.nD Cert.DYRefIdeal.τ).loc Cert.DYRefIdeal.main_arg1))

def preserves_UpMerge_UpMergeIdeal : Prop :=
  True

def algebraic_UpMergeIdeal_UpMergeRefIdeal [hUpMergeIdeal : Cert.UpMergeIdeal.Facts] [hUpMergeRefIdeal : Cert.UpMergeRefIdeal.Facts] : Prop :=
  ∀ (m : (ℓ : Loc Cert.UpMergeIdeal.nD Cert.UpMergeIdeal.τ Cert.UpMergeIdeal.sig) → Buf (Elt Ideal) ℓ) (g : Dev Cert.UpMergeIdeal.nD → PrngReg)
    (m' : (ℓ : Loc Cert.UpMergeRefIdeal.nD Cert.UpMergeRefIdeal.τ Cert.UpMergeRefIdeal.sig) → Buf (Elt Ideal) ℓ) (g' : Dev Cert.UpMergeRefIdeal.nD → PrngReg), Pre_UpMergeIdeal m →
    (∀ c : Dev Cert.UpMergeIdeal.nD,
      m' ((c.tc : Thread Cert.UpMergeRefIdeal.nD Cert.UpMergeRefIdeal.τ).loc Cert.UpMergeRefIdeal.main_arg0) = m ((c.tc : Thread Cert.UpMergeIdeal.nD Cert.UpMergeIdeal.τ).loc Cert.UpMergeIdeal.main_arg0)
      ∧ m' ((c.tc : Thread Cert.UpMergeRefIdeal.nD Cert.UpMergeRefIdeal.τ).loc Cert.UpMergeRefIdeal.main_arg1) = m ((c.tc : Thread Cert.UpMergeIdeal.nD Cert.UpMergeIdeal.τ).loc Cert.UpMergeIdeal.main_arg1)
      ∧ m' ((c.tc : Thread Cert.UpMergeRefIdeal.nD Cert.UpMergeRefIdeal.τ).loc Cert.UpMergeRefIdeal.main_arg2) = m ((c.tc : Thread Cert.UpMergeIdeal.nD Cert.UpMergeIdeal.τ).loc Cert.UpMergeIdeal.main_arg2)
      ∧ m' ((c.tc : Thread Cert.UpMergeRefIdeal.nD Cert.UpMergeRefIdeal.τ).loc Cert.UpMergeRefIdeal.main_arg3) = m ((c.tc : Thread Cert.UpMergeIdeal.nD Cert.UpMergeIdeal.τ).loc Cert.UpMergeIdeal.main_arg3)
      ∧ m' ((c.tc : Thread Cert.UpMergeRefIdeal.nD Cert.UpMergeRefIdeal.τ).loc Cert.UpMergeRefIdeal.main_arg4) = m ((c.tc : Thread Cert.UpMergeIdeal.nD Cert.UpMergeIdeal.τ).loc Cert.UpMergeIdeal.main_arg4)
      ∧ m' ((c.tc : Thread Cert.UpMergeRefIdeal.nD Cert.UpMergeRefIdeal.τ).loc Cert.UpMergeRefIdeal.main_arg5) = m ((c.tc : Thread Cert.UpMergeIdeal.nD Cert.UpMergeIdeal.τ).loc Cert.UpMergeIdeal.main_arg5)
      ∧ m' ((c.tc : Thread Cert.UpMergeRefIdeal.nD Cert.UpMergeRefIdeal.τ).loc Cert.UpMergeRefIdeal.main_arg6) = m ((c.tc : Thread Cert.UpMergeIdeal.nD Cert.UpMergeIdeal.τ).loc Cert.UpMergeIdeal.main_arg6)
      ∧ m' ((c.tc : Thread Cert.UpMergeRefIdeal.nD Cert.UpMergeRefIdeal.τ).loc Cert.UpMergeRefIdeal.main_arg7) = m ((c.tc : Thread Cert.UpMergeIdeal.nD Cert.UpMergeIdeal.τ).loc Cert.UpMergeIdeal.main_arg7)) →
    ∃ (v0 : (c : Dev Cert.UpMergeIdeal.nD) → Buf (Elt Ideal) ((c.tc : Thread Cert.UpMergeIdeal.nD Cert.UpMergeIdeal.τ).loc Cert.UpMergeIdeal.main_v6)),
      θ_run (Cert.UpMergeIdeal.defs (F := Ideal)) (onTc (τ := Cert.UpMergeIdeal.τ) (Cert.UpMergeIdeal.main (F := Ideal))) ⟨m, fun _ => 0, g⟩ (fun r => ∀ c : Dev Cert.UpMergeIdeal.nD,
          r.2.mem ((c.tc : Thread Cert.UpMergeIdeal.nD Cert.UpMergeIdeal.τ).loc Cert.UpMergeIdeal.main_v6) = v0 c
          ∧ r.2.mem ((c.tc : Thread Cert.UpMergeIdeal.nD Cert.UpMergeIdeal.τ).loc Cert.UpMergeIdeal.main_arg0) = m ((c.tc : Thread Cert.UpMergeIdeal.nD Cert.UpMergeIdeal.τ).loc Cert.UpMergeIdeal.main_arg0)
          ∧ r.2.mem ((c.tc : Thread Cert.UpMergeIdeal.nD Cert.UpMergeIdeal.τ).loc Cert.UpMergeIdeal.main_arg1) = m ((c.tc : Thread Cert.UpMergeIdeal.nD Cert.UpMergeIdeal.τ).loc Cert.UpMergeIdeal.main_arg1)
          ∧ r.2.mem ((c.tc : Thread Cert.UpMergeIdeal.nD Cert.UpMergeIdeal.τ).loc Cert.UpMergeIdeal.main_arg2) = m ((c.tc : Thread Cert.UpMergeIdeal.nD Cert.UpMergeIdeal.τ).loc Cert.UpMergeIdeal.main_arg2)
          ∧ r.2.mem ((c.tc : Thread Cert.UpMergeIdeal.nD Cert.UpMergeIdeal.τ).loc Cert.UpMergeIdeal.main_arg3) = m ((c.tc : Thread Cert.UpMergeIdeal.nD Cert.UpMergeIdeal.τ).loc Cert.UpMergeIdeal.main_arg3)
          ∧ r.2.mem ((c.tc : Thread Cert.UpMergeIdeal.nD Cert.UpMergeIdeal.τ).loc Cert.UpMergeIdeal.main_arg4) = m ((c.tc : Thread Cert.UpMergeIdeal.nD Cert.UpMergeIdeal.τ).loc Cert.UpMergeIdeal.main_arg4)
          ∧ r.2.mem ((c.tc : Thread Cert.UpMergeIdeal.nD Cert.UpMergeIdeal.τ).loc Cert.UpMergeIdeal.main_arg5) = m ((c.tc : Thread Cert.UpMergeIdeal.nD Cert.UpMergeIdeal.τ).loc Cert.UpMergeIdeal.main_arg5)
          ∧ r.2.mem ((c.tc : Thread Cert.UpMergeIdeal.nD Cert.UpMergeIdeal.τ).loc Cert.UpMergeIdeal.main_arg6) = m ((c.tc : Thread Cert.UpMergeIdeal.nD Cert.UpMergeIdeal.τ).loc Cert.UpMergeIdeal.main_arg6)
          ∧ r.2.mem ((c.tc : Thread Cert.UpMergeIdeal.nD Cert.UpMergeIdeal.τ).loc Cert.UpMergeIdeal.main_arg7) = m ((c.tc : Thread Cert.UpMergeIdeal.nD Cert.UpMergeIdeal.τ).loc Cert.UpMergeIdeal.main_arg7))
      ∧ θ_run (Cert.UpMergeRefIdeal.defs (F := Ideal)) (onTc (τ := Cert.UpMergeRefIdeal.τ) (Cert.UpMergeRefIdeal.main (F := Ideal))) ⟨m', fun _ => 0, g'⟩ (fun r => ∀ c : Dev Cert.UpMergeRefIdeal.nD,
          r.2.mem ((c.tc : Thread Cert.UpMergeRefIdeal.nD Cert.UpMergeRefIdeal.τ).loc Cert.UpMergeRefIdeal.main_v23) = v0 c
          ∧ r.2.mem ((c.tc : Thread Cert.UpMergeRefIdeal.nD Cert.UpMergeRefIdeal.τ).loc Cert.UpMergeRefIdeal.main_arg0) = m' ((c.tc : Thread Cert.UpMergeRefIdeal.nD Cert.UpMergeRefIdeal.τ).loc Cert.UpMergeRefIdeal.main_arg0)
          ∧ r.2.mem ((c.tc : Thread Cert.UpMergeRefIdeal.nD Cert.UpMergeRefIdeal.τ).loc Cert.UpMergeRefIdeal.main_arg1) = m' ((c.tc : Thread Cert.UpMergeRefIdeal.nD Cert.UpMergeRefIdeal.τ).loc Cert.UpMergeRefIdeal.main_arg1)
          ∧ r.2.mem ((c.tc : Thread Cert.UpMergeRefIdeal.nD Cert.UpMergeRefIdeal.τ).loc Cert.UpMergeRefIdeal.main_arg2) = m' ((c.tc : Thread Cert.UpMergeRefIdeal.nD Cert.UpMergeRefIdeal.τ).loc Cert.UpMergeRefIdeal.main_arg2)
          ∧ r.2.mem ((c.tc : Thread Cert.UpMergeRefIdeal.nD Cert.UpMergeRefIdeal.τ).loc Cert.UpMergeRefIdeal.main_arg3) = m' ((c.tc : Thread Cert.UpMergeRefIdeal.nD Cert.UpMergeRefIdeal.τ).loc Cert.UpMergeRefIdeal.main_arg3)
          ∧ r.2.mem ((c.tc : Thread Cert.UpMergeRefIdeal.nD Cert.UpMergeRefIdeal.τ).loc Cert.UpMergeRefIdeal.main_arg4) = m' ((c.tc : Thread Cert.UpMergeRefIdeal.nD Cert.UpMergeRefIdeal.τ).loc Cert.UpMergeRefIdeal.main_arg4)
          ∧ r.2.mem ((c.tc : Thread Cert.UpMergeRefIdeal.nD Cert.UpMergeRefIdeal.τ).loc Cert.UpMergeRefIdeal.main_arg5) = m' ((c.tc : Thread Cert.UpMergeRefIdeal.nD Cert.UpMergeRefIdeal.τ).loc Cert.UpMergeRefIdeal.main_arg5)
          ∧ r.2.mem ((c.tc : Thread Cert.UpMergeRefIdeal.nD Cert.UpMergeRefIdeal.τ).loc Cert.UpMergeRefIdeal.main_arg6) = m' ((c.tc : Thread Cert.UpMergeRefIdeal.nD Cert.UpMergeRefIdeal.τ).loc Cert.UpMergeRefIdeal.main_arg6)
          ∧ r.2.mem ((c.tc : Thread Cert.UpMergeRefIdeal.nD Cert.UpMergeRefIdeal.τ).loc Cert.UpMergeRefIdeal.main_arg7) = m' ((c.tc : Thread Cert.UpMergeRefIdeal.nD Cert.UpMergeRefIdeal.τ).loc Cert.UpMergeRefIdeal.main_arg7))

def preserves_Xo_XoIdeal : Prop :=
  True

def algebraic_XoIdeal_XoRefIdeal [hXoIdeal : Cert.XoIdeal.Facts] [hXoRefIdeal : Cert.XoRefIdeal.Facts] : Prop :=
  ∀ (m : (ℓ : Loc Cert.XoIdeal.nD Cert.XoIdeal.τ Cert.XoIdeal.sig) → Buf (Elt Ideal) ℓ) (g : Dev Cert.XoIdeal.nD → PrngReg)
    (m' : (ℓ : Loc Cert.XoRefIdeal.nD Cert.XoRefIdeal.τ Cert.XoRefIdeal.sig) → Buf (Elt Ideal) ℓ) (g' : Dev Cert.XoRefIdeal.nD → PrngReg), Pre_XoIdeal m →
    (∀ c : Dev Cert.XoIdeal.nD,
      m' ((c.tc : Thread Cert.XoRefIdeal.nD Cert.XoRefIdeal.τ).loc Cert.XoRefIdeal.main_arg0) = m ((c.tc : Thread Cert.XoIdeal.nD Cert.XoIdeal.τ).loc Cert.XoIdeal.main_arg0)
      ∧ m' ((c.tc : Thread Cert.XoRefIdeal.nD Cert.XoRefIdeal.τ).loc Cert.XoRefIdeal.main_arg1) = m ((c.tc : Thread Cert.XoIdeal.nD Cert.XoIdeal.τ).loc Cert.XoIdeal.main_arg1)
      ∧ m' ((c.tc : Thread Cert.XoRefIdeal.nD Cert.XoRefIdeal.τ).loc Cert.XoRefIdeal.main_arg2) = m ((c.tc : Thread Cert.XoIdeal.nD Cert.XoIdeal.τ).loc Cert.XoIdeal.main_arg2)) →
    ∃ (v0 : (c : Dev Cert.XoIdeal.nD) → Buf (Elt Ideal) ((c.tc : Thread Cert.XoIdeal.nD Cert.XoIdeal.τ).loc Cert.XoIdeal.main_v2)),
      θ_run (Cert.XoIdeal.defs (F := Ideal)) (onTc (τ := Cert.XoIdeal.τ) (Cert.XoIdeal.main (F := Ideal))) ⟨m, fun _ => 0, g⟩ (fun r => ∀ c : Dev Cert.XoIdeal.nD,
          r.2.mem ((c.tc : Thread Cert.XoIdeal.nD Cert.XoIdeal.τ).loc Cert.XoIdeal.main_v2) = v0 c
          ∧ r.2.mem ((c.tc : Thread Cert.XoIdeal.nD Cert.XoIdeal.τ).loc Cert.XoIdeal.main_arg0) = m ((c.tc : Thread Cert.XoIdeal.nD Cert.XoIdeal.τ).loc Cert.XoIdeal.main_arg0)
          ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
          ∧ r.2.mem ((c.tc : Thread Cert.XoIdeal.nD Cert.XoIdeal.τ).loc Cert.XoIdeal.main_arg2) = m ((c.tc : Thread Cert.XoIdeal.nD Cert.XoIdeal.τ).loc Cert.XoIdeal.main_arg2))
      ∧ θ_run (Cert.XoRefIdeal.defs (F := Ideal)) (onTc (τ := Cert.XoRefIdeal.τ) (Cert.XoRefIdeal.main (F := Ideal))) ⟨m', fun _ => 0, g'⟩ (fun r => ∀ c : Dev Cert.XoRefIdeal.nD,
          r.2.mem ((c.tc : Thread Cert.XoRefIdeal.nD Cert.XoRefIdeal.τ).loc Cert.XoRefIdeal.main_v1) = v0 c
          ∧ r.2.mem ((c.tc : Thread Cert.XoRefIdeal.nD Cert.XoRefIdeal.τ).loc Cert.XoRefIdeal.main_arg0) = m' ((c.tc : Thread Cert.XoRefIdeal.nD Cert.XoRefIdeal.τ).loc Cert.XoRefIdeal.main_arg0)
          ∧ r.2.mem ((c.tc : Thread Cert.XoRefIdeal.nD Cert.XoRefIdeal.τ).loc Cert.XoRefIdeal.main_arg1) = m' ((c.tc : Thread Cert.XoRefIdeal.nD Cert.XoRefIdeal.τ).loc Cert.XoRefIdeal.main_arg1)
          ∧ r.2.mem ((c.tc : Thread Cert.XoRefIdeal.nD Cert.XoRefIdeal.τ).loc Cert.XoRefIdeal.main_arg2) = m' ((c.tc : Thread Cert.XoRefIdeal.nD Cert.XoRefIdeal.τ).loc Cert.XoRefIdeal.main_arg2))

def preserves_DXo_DXoIdeal : Prop :=
  True

def algebraic_DXoIdeal_DXoRefIdeal [hDXoIdeal : Cert.DXoIdeal.Facts] [hDXoRefIdeal : Cert.DXoRefIdeal.Facts] : Prop :=
  ∀ (m : (ℓ : Loc Cert.DXoIdeal.nD Cert.DXoIdeal.τ Cert.DXoIdeal.sig) → Buf (Elt Ideal) ℓ) (g : Dev Cert.DXoIdeal.nD → PrngReg)
    (m' : (ℓ : Loc Cert.DXoRefIdeal.nD Cert.DXoRefIdeal.τ Cert.DXoRefIdeal.sig) → Buf (Elt Ideal) ℓ) (g' : Dev Cert.DXoRefIdeal.nD → PrngReg), Pre_DXoIdeal m →
    (∀ c : Dev Cert.DXoIdeal.nD,
      m' ((c.tc : Thread Cert.DXoRefIdeal.nD Cert.DXoRefIdeal.τ).loc Cert.DXoRefIdeal.main_arg0) = m ((c.tc : Thread Cert.DXoIdeal.nD Cert.DXoIdeal.τ).loc Cert.DXoIdeal.main_arg0)
      ∧ m' ((c.tc : Thread Cert.DXoRefIdeal.nD Cert.DXoRefIdeal.τ).loc Cert.DXoRefIdeal.main_arg1) = m ((c.tc : Thread Cert.DXoIdeal.nD Cert.DXoIdeal.τ).loc Cert.DXoIdeal.main_arg1)) →
    ∃ (v0 : (c : Dev Cert.DXoIdeal.nD) → Buf (Elt Ideal) ((c.tc : Thread Cert.DXoIdeal.nD Cert.DXoIdeal.τ).loc Cert.DXoIdeal.main_v1)),
      θ_run (Cert.DXoIdeal.defs (F := Ideal)) (onTc (τ := Cert.DXoIdeal.τ) (Cert.DXoIdeal.main (F := Ideal))) ⟨m, fun _ => 0, g⟩ (fun r => ∀ c : Dev Cert.DXoIdeal.nD,
          r.2.mem ((c.tc : Thread Cert.DXoIdeal.nD Cert.DXoIdeal.τ).loc Cert.DXoIdeal.main_v1) = v0 c
          ∧ r.2.mem ((c.tc : Thread Cert.DXoIdeal.nD Cert.DXoIdeal.τ).loc Cert.DXoIdeal.main_arg0) = m ((c.tc : Thread Cert.DXoIdeal.nD Cert.DXoIdeal.τ).loc Cert.DXoIdeal.main_arg0)
          ∧ r.2.mem ((c.tc : Thread Cert.DXoIdeal.nD Cert.DXoIdeal.τ).loc Cert.DXoIdeal.main_arg1) = m ((c.tc : Thread Cert.DXoIdeal.nD Cert.DXoIdeal.τ).loc Cert.DXoIdeal.main_arg1))
      ∧ θ_run (Cert.DXoRefIdeal.defs (F := Ideal)) (onTc (τ := Cert.DXoRefIdeal.τ) (Cert.DXoRefIdeal.main (F := Ideal))) ⟨m', fun _ => 0, g'⟩ (fun r => ∀ c : Dev Cert.DXoRefIdeal.nD,
          r.2.mem ((c.tc : Thread Cert.DXoRefIdeal.nD Cert.DXoRefIdeal.τ).loc Cert.DXoRefIdeal.main_v3) = v0 c
          ∧ r.2.mem ((c.tc : Thread Cert.DXoRefIdeal.nD Cert.DXoRefIdeal.τ).loc Cert.DXoRefIdeal.main_arg0) = m' ((c.tc : Thread Cert.DXoRefIdeal.nD Cert.DXoRefIdeal.τ).loc Cert.DXoRefIdeal.main_arg0)
          ∧ r.2.mem ((c.tc : Thread Cert.DXoRefIdeal.nD Cert.DXoRefIdeal.τ).loc Cert.DXoRefIdeal.main_arg1) = m' ((c.tc : Thread Cert.DXoRefIdeal.nD Cert.DXoRefIdeal.τ).loc Cert.DXoRefIdeal.main_arg1))

def preserves_DOx_DOxIdeal : Prop :=
  True

def algebraic_DOxIdeal_DOxRefIdeal [hDOxIdeal : Cert.DOxIdeal.Facts] [hDOxRefIdeal : Cert.DOxRefIdeal.Facts] : Prop :=
  ∀ (m : (ℓ : Loc Cert.DOxIdeal.nD Cert.DOxIdeal.τ Cert.DOxIdeal.sig) → Buf (Elt Ideal) ℓ) (g : Dev Cert.DOxIdeal.nD → PrngReg)
    (m' : (ℓ : Loc Cert.DOxRefIdeal.nD Cert.DOxRefIdeal.τ Cert.DOxRefIdeal.sig) → Buf (Elt Ideal) ℓ) (g' : Dev Cert.DOxRefIdeal.nD → PrngReg), Pre_DOxIdeal m →
    (∀ c : Dev Cert.DOxIdeal.nD,
      m' ((c.tc : Thread Cert.DOxRefIdeal.nD Cert.DOxRefIdeal.τ).loc Cert.DOxRefIdeal.main_arg0) = m ((c.tc : Thread Cert.DOxIdeal.nD Cert.DOxIdeal.τ).loc Cert.DOxIdeal.main_arg0)
      ∧ m' ((c.tc : Thread Cert.DOxRefIdeal.nD Cert.DOxRefIdeal.τ).loc Cert.DOxRefIdeal.main_arg1) = m ((c.tc : Thread Cert.DOxIdeal.nD Cert.DOxIdeal.τ).loc Cert.DOxIdeal.main_arg1)) →
    ∃ (v0 : (c : Dev Cert.DOxIdeal.nD) → Buf (Elt Ideal) ((c.tc : Thread Cert.DOxIdeal.nD Cert.DOxIdeal.τ).loc Cert.DOxIdeal.main_v1)),
      θ_run (Cert.DOxIdeal.defs (F := Ideal)) (onTc (τ := Cert.DOxIdeal.τ) (Cert.DOxIdeal.main (F := Ideal))) ⟨m, fun _ => 0, g⟩ (fun r => ∀ c : Dev Cert.DOxIdeal.nD,
          r.2.mem ((c.tc : Thread Cert.DOxIdeal.nD Cert.DOxIdeal.τ).loc Cert.DOxIdeal.main_v1) = v0 c
          ∧ r.2.mem ((c.tc : Thread Cert.DOxIdeal.nD Cert.DOxIdeal.τ).loc Cert.DOxIdeal.main_arg0) = m ((c.tc : Thread Cert.DOxIdeal.nD Cert.DOxIdeal.τ).loc Cert.DOxIdeal.main_arg0)
          ∧ r.2.mem ((c.tc : Thread Cert.DOxIdeal.nD Cert.DOxIdeal.τ).loc Cert.DOxIdeal.main_arg1) = m ((c.tc : Thread Cert.DOxIdeal.nD Cert.DOxIdeal.τ).loc Cert.DOxIdeal.main_arg1))
      ∧ θ_run (Cert.DOxRefIdeal.defs (F := Ideal)) (onTc (τ := Cert.DOxRefIdeal.τ) (Cert.DOxRefIdeal.main (F := Ideal))) ⟨m', fun _ => 0, g'⟩ (fun r => ∀ c : Dev Cert.DOxRefIdeal.nD,
          r.2.mem ((c.tc : Thread Cert.DOxRefIdeal.nD Cert.DOxRefIdeal.τ).loc Cert.DOxRefIdeal.main_v3) = v0 c
          ∧ r.2.mem ((c.tc : Thread Cert.DOxRefIdeal.nD Cert.DOxRefIdeal.τ).loc Cert.DOxRefIdeal.main_arg0) = m' ((c.tc : Thread Cert.DOxRefIdeal.nD Cert.DOxRefIdeal.τ).loc Cert.DOxRefIdeal.main_arg0)
          ∧ r.2.mem ((c.tc : Thread Cert.DOxRefIdeal.nD Cert.DOxRefIdeal.τ).loc Cert.DOxRefIdeal.main_arg1) = m' ((c.tc : Thread Cert.DOxRefIdeal.nD Cert.DOxRefIdeal.τ).loc Cert.DOxRefIdeal.main_arg1))

def preserves_DXq_DXqIdeal : Prop :=
  True

def algebraic_DXqIdeal_DXqRefIdeal [hDXqIdeal : Cert.DXqIdeal.Facts] [hDXqRefIdeal : Cert.DXqRefIdeal.Facts] : Prop :=
  ∀ (m : (ℓ : Loc Cert.DXqIdeal.nD Cert.DXqIdeal.τ Cert.DXqIdeal.sig) → Buf (Elt Ideal) ℓ) (g : Dev Cert.DXqIdeal.nD → PrngReg)
    (m' : (ℓ : Loc Cert.DXqRefIdeal.nD Cert.DXqRefIdeal.τ Cert.DXqRefIdeal.sig) → Buf (Elt Ideal) ℓ) (g' : Dev Cert.DXqRefIdeal.nD → PrngReg), Pre_DXqIdeal m →
    (∀ c : Dev Cert.DXqIdeal.nD,
      m' ((c.tc : Thread Cert.DXqRefIdeal.nD Cert.DXqRefIdeal.τ).loc Cert.DXqRefIdeal.main_arg0) = m ((c.tc : Thread Cert.DXqIdeal.nD Cert.DXqIdeal.τ).loc Cert.DXqIdeal.main_arg0)
      ∧ m' ((c.tc : Thread Cert.DXqRefIdeal.nD Cert.DXqRefIdeal.τ).loc Cert.DXqRefIdeal.main_arg1) = m ((c.tc : Thread Cert.DXqIdeal.nD Cert.DXqIdeal.τ).loc Cert.DXqIdeal.main_arg1)) →
    ∃ (v0 : (c : Dev Cert.DXqIdeal.nD) → Buf (Elt Ideal) ((c.tc : Thread Cert.DXqIdeal.nD Cert.DXqIdeal.τ).loc Cert.DXqIdeal.main_v2)),
      θ_run (Cert.DXqIdeal.defs (F := Ideal)) (onTc (τ := Cert.DXqIdeal.τ) (Cert.DXqIdeal.main (F := Ideal))) ⟨m, fun _ => 0, g⟩ (fun r => ∀ c : Dev Cert.DXqIdeal.nD,
          r.2.mem ((c.tc : Thread Cert.DXqIdeal.nD Cert.DXqIdeal.τ).loc Cert.DXqIdeal.main_v2) = v0 c
          ∧ r.2.mem ((c.tc : Thread Cert.DXqIdeal.nD Cert.DXqIdeal.τ).loc Cert.DXqIdeal.main_arg0) = m ((c.tc : Thread Cert.DXqIdeal.nD Cert.DXqIdeal.τ).loc Cert.DXqIdeal.main_arg0)
          ∧ r.2.mem ((c.tc : Thread Cert.DXqIdeal.nD Cert.DXqIdeal.τ).loc Cert.DXqIdeal.main_arg1) = m ((c.tc : Thread Cert.DXqIdeal.nD Cert.DXqIdeal.τ).loc Cert.DXqIdeal.main_arg1))
      ∧ θ_run (Cert.DXqRefIdeal.defs (F := Ideal)) (onTc (τ := Cert.DXqRefIdeal.τ) (Cert.DXqRefIdeal.main (F := Ideal))) ⟨m', fun _ => 0, g'⟩ (fun r => ∀ c : Dev Cert.DXqRefIdeal.nD,
          r.2.mem ((c.tc : Thread Cert.DXqRefIdeal.nD Cert.DXqRefIdeal.τ).loc Cert.DXqRefIdeal.main_v3) = v0 c
          ∧ r.2.mem ((c.tc : Thread Cert.DXqRefIdeal.nD Cert.DXqRefIdeal.τ).loc Cert.DXqRefIdeal.main_arg0) = m' ((c.tc : Thread Cert.DXqRefIdeal.nD Cert.DXqRefIdeal.τ).loc Cert.DXqRefIdeal.main_arg0)
          ∧ r.2.mem ((c.tc : Thread Cert.DXqRefIdeal.nD Cert.DXqRefIdeal.τ).loc Cert.DXqRefIdeal.main_arg1) = m' ((c.tc : Thread Cert.DXqRefIdeal.nD Cert.DXqRefIdeal.τ).loc Cert.DXqRefIdeal.main_arg1))

def preserves_DHx_DHxIdeal : Prop :=
  True

def algebraic_DHxIdeal_DHxRefIdeal_pre_finite_xq [hDHxIdeal : Cert.DHxIdeal.Facts] [hDHxRefIdeal : Cert.DHxRefIdeal.Facts] [hPre_finite_xq : Cert.Pre_finite_xq.Facts] : Prop :=
  ∀ (m : (ℓ : Loc Cert.DHxIdeal.nD Cert.DHxIdeal.τ Cert.DHxIdeal.sig) → Buf (Elt Ideal) ℓ) (g : Dev Cert.DHxIdeal.nD → PrngReg)
    (m' : (ℓ : Loc Cert.DHxRefIdeal.nD Cert.DHxRefIdeal.τ Cert.DHxRefIdeal.sig) → Buf (Elt Ideal) ℓ) (g' : Dev Cert.DHxRefIdeal.nD → PrngReg), Pre_DHxIdeal_finite_xq m →
    (∀ c : Dev Cert.DHxIdeal.nD,
      m' ((c.tc : Thread Cert.DHxRefIdeal.nD Cert.DHxRefIdeal.τ).loc Cert.DHxRefIdeal.main_arg0) = m ((c.tc : Thread Cert.DHxIdeal.nD Cert.DHxIdeal.τ).loc Cert.DHxIdeal.main_arg0)
      ∧ m' ((c.tc : Thread Cert.DHxRefIdeal.nD Cert.DHxRefIdeal.τ).loc Cert.DHxRefIdeal.main_arg1) = m ((c.tc : Thread Cert.DHxIdeal.nD Cert.DHxIdeal.τ).loc Cert.DHxIdeal.main_arg1)
      ∧ m' ((c.tc : Thread Cert.DHxRefIdeal.nD Cert.DHxRefIdeal.τ).loc Cert.DHxRefIdeal.main_arg2) = m ((c.tc : Thread Cert.DHxIdeal.nD Cert.DHxIdeal.τ).loc Cert.DHxIdeal.main_arg2)
      ∧ m' ((c.tc : Thread Cert.DHxRefIdeal.nD Cert.DHxRefIdeal.τ).loc Cert.DHxRefIdeal.main_arg3) = m ((c.tc : Thread Cert.DHxIdeal.nD Cert.DHxIdeal.τ).loc Cert.DHxIdeal.main_arg3)
      ∧ m' ((c.tc : Thread Cert.DHxRefIdeal.nD Cert.DHxRefIdeal.τ).loc Cert.DHxRefIdeal.main_arg4) = m ((c.tc : Thread Cert.DHxIdeal.nD Cert.DHxIdeal.τ).loc Cert.DHxIdeal.main_arg4)) →
    ∃ (v0 : (c : Dev Cert.DHxIdeal.nD) → Buf (Elt Ideal) ((c.tc : Thread Cert.DHxIdeal.nD Cert.DHxIdeal.τ).loc Cert.DHxIdeal.main_v2_0)) (v1 : (c : Dev Cert.DHxIdeal.nD) → Buf (Elt Ideal) ((c.tc : Thread Cert.DHxIdeal.nD Cert.DHxIdeal.τ).loc Cert.DHxIdeal.main_v2_1)),
      θ_run (Cert.DHxIdeal.defs (F := Ideal)) (onTc (τ := Cert.DHxIdeal.τ) (Cert.DHxIdeal.main (F := Ideal))) ⟨m, fun _ => 0, g⟩ (fun r => ∀ c : Dev Cert.DHxIdeal.nD,
          r.2.mem ((c.tc : Thread Cert.DHxIdeal.nD Cert.DHxIdeal.τ).loc Cert.DHxIdeal.main_v2_0) = v0 c
          ∧ r.2.mem ((c.tc : Thread Cert.DHxIdeal.nD Cert.DHxIdeal.τ).loc Cert.DHxIdeal.main_v2_1) = v1 c
          ∧ r.2.mem ((c.tc : Thread Cert.DHxIdeal.nD Cert.DHxIdeal.τ).loc Cert.DHxIdeal.main_arg0) = m ((c.tc : Thread Cert.DHxIdeal.nD Cert.DHxIdeal.τ).loc Cert.DHxIdeal.main_arg0)
          ∧ r.2.mem ((c.tc : Thread Cert.DHxIdeal.nD Cert.DHxIdeal.τ).loc Cert.DHxIdeal.main_arg1) = m ((c.tc : Thread Cert.DHxIdeal.nD Cert.DHxIdeal.τ).loc Cert.DHxIdeal.main_arg1)
          ∧ r.2.mem ((c.tc : Thread Cert.DHxIdeal.nD Cert.DHxIdeal.τ).loc Cert.DHxIdeal.main_arg2) = m ((c.tc : Thread Cert.DHxIdeal.nD Cert.DHxIdeal.τ).loc Cert.DHxIdeal.main_arg2)
          ∧ r.2.mem ((c.tc : Thread Cert.DHxIdeal.nD Cert.DHxIdeal.τ).loc Cert.DHxIdeal.main_arg3) = m ((c.tc : Thread Cert.DHxIdeal.nD Cert.DHxIdeal.τ).loc Cert.DHxIdeal.main_arg3)
          ∧ r.2.mem ((c.tc : Thread Cert.DHxIdeal.nD Cert.DHxIdeal.τ).loc Cert.DHxIdeal.main_arg4) = m ((c.tc : Thread Cert.DHxIdeal.nD Cert.DHxIdeal.τ).loc Cert.DHxIdeal.main_arg4))
      ∧ θ_run (Cert.DHxRefIdeal.defs (F := Ideal)) (onTc (τ := Cert.DHxRefIdeal.τ) (Cert.DHxRefIdeal.main (F := Ideal))) ⟨m', fun _ => 0, g'⟩ (fun r => ∀ c : Dev Cert.DHxRefIdeal.nD,
          r.2.mem ((c.tc : Thread Cert.DHxRefIdeal.nD Cert.DHxRefIdeal.τ).loc Cert.DHxRefIdeal.main_v36) = v0 c
          ∧ r.2.mem ((c.tc : Thread Cert.DHxRefIdeal.nD Cert.DHxRefIdeal.τ).loc Cert.DHxRefIdeal.main_v19) = v1 c
          ∧ r.2.mem ((c.tc : Thread Cert.DHxRefIdeal.nD Cert.DHxRefIdeal.τ).loc Cert.DHxRefIdeal.main_arg0) = m' ((c.tc : Thread Cert.DHxRefIdeal.nD Cert.DHxRefIdeal.τ).loc Cert.DHxRefIdeal.main_arg0)
          ∧ r.2.mem ((c.tc : Thread Cert.DHxRefIdeal.nD Cert.DHxRefIdeal.τ).loc Cert.DHxRefIdeal.main_arg1) = m' ((c.tc : Thread Cert.DHxRefIdeal.nD Cert.DHxRefIdeal.τ).loc Cert.DHxRefIdeal.main_arg1)
          ∧ r.2.mem ((c.tc : Thread Cert.DHxRefIdeal.nD Cert.DHxRefIdeal.τ).loc Cert.DHxRefIdeal.main_arg2) = m' ((c.tc : Thread Cert.DHxRefIdeal.nD Cert.DHxRefIdeal.τ).loc Cert.DHxRefIdeal.main_arg2)
          ∧ r.2.mem ((c.tc : Thread Cert.DHxRefIdeal.nD Cert.DHxRefIdeal.τ).loc Cert.DHxRefIdeal.main_arg3) = m' ((c.tc : Thread Cert.DHxRefIdeal.nD Cert.DHxRefIdeal.τ).loc Cert.DHxRefIdeal.main_arg3)
          ∧ r.2.mem ((c.tc : Thread Cert.DHxRefIdeal.nD Cert.DHxRefIdeal.τ).loc Cert.DHxRefIdeal.main_arg4) = m' ((c.tc : Thread Cert.DHxRefIdeal.nD Cert.DHxRefIdeal.τ).loc Cert.DHxRefIdeal.main_arg4))

def preserves_DUp_DUpIdeal : Prop :=
  True

def algebraic_DUpIdeal_DUpRefIdeal [hDUpIdeal : Cert.DUpIdeal.Facts] [hDUpRefIdeal : Cert.DUpRefIdeal.Facts] : Prop :=
  ∀ (m : (ℓ : Loc Cert.DUpIdeal.nD Cert.DUpIdeal.τ Cert.DUpIdeal.sig) → Buf (Elt Ideal) ℓ) (g : Dev Cert.DUpIdeal.nD → PrngReg)
    (m' : (ℓ : Loc Cert.DUpRefIdeal.nD Cert.DUpRefIdeal.τ Cert.DUpRefIdeal.sig) → Buf (Elt Ideal) ℓ) (g' : Dev Cert.DUpRefIdeal.nD → PrngReg), Pre_DUpIdeal m →
    (∀ c : Dev Cert.DUpIdeal.nD,
      m' ((c.tc : Thread Cert.DUpRefIdeal.nD Cert.DUpRefIdeal.τ).loc Cert.DUpRefIdeal.main_arg0) = m ((c.tc : Thread Cert.DUpIdeal.nD Cert.DUpIdeal.τ).loc Cert.DUpIdeal.main_arg0)
      ∧ m' ((c.tc : Thread Cert.DUpRefIdeal.nD Cert.DUpRefIdeal.τ).loc Cert.DUpRefIdeal.main_arg1) = m ((c.tc : Thread Cert.DUpIdeal.nD Cert.DUpIdeal.τ).loc Cert.DUpIdeal.main_arg1)) →
    ∃ (v0 : (c : Dev Cert.DUpIdeal.nD) → Buf (Elt Ideal) ((c.tc : Thread Cert.DUpIdeal.nD Cert.DUpIdeal.τ).loc Cert.DUpIdeal.main_v2)),
      θ_run (Cert.DUpIdeal.defs (F := Ideal)) (onTc (τ := Cert.DUpIdeal.τ) (Cert.DUpIdeal.main (F := Ideal))) ⟨m, fun _ => 0, g⟩ (fun r => ∀ c : Dev Cert.DUpIdeal.nD,
          r.2.mem ((c.tc : Thread Cert.DUpIdeal.nD Cert.DUpIdeal.τ).loc Cert.DUpIdeal.main_v2) = v0 c
          ∧ r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
          ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1))
      ∧ θ_run (Cert.DUpRefIdeal.defs (F := Ideal)) (onTc (τ := Cert.DUpRefIdeal.τ) (Cert.DUpRefIdeal.main (F := Ideal))) ⟨m', fun _ => 0, g'⟩ (fun r => ∀ c : Dev Cert.DUpRefIdeal.nD,
          r.2.mem ((c.tc : Thread Cert.DUpRefIdeal.nD Cert.DUpRefIdeal.τ).loc Cert.DUpRefIdeal.main_v3) = v0 c
          ∧ r.2.mem ((c.tc : Thread Cert.DUpRefIdeal.nD Cert.DUpRefIdeal.τ).loc Cert.DUpRefIdeal.main_arg0) = m' ((c.tc : Thread Cert.DUpRefIdeal.nD Cert.DUpRefIdeal.τ).loc Cert.DUpRefIdeal.main_arg0)
          ∧ r.2.mem ((c.tc : Thread Cert.DUpRefIdeal.nD Cert.DUpRefIdeal.τ).loc Cert.DUpRefIdeal.main_arg1) = m' ((c.tc : Thread Cert.DUpRefIdeal.nD Cert.DUpRefIdeal.τ).loc Cert.DUpRefIdeal.main_arg1))

def preserves_DUpGla_DUpGlaIdeal : Prop :=
  True

def algebraic_DUpGlaIdeal_DUpGlaRefIdeal [hDUpGlaIdeal : Cert.DUpGlaIdeal.Facts] [hDUpGlaRefIdeal : Cert.DUpGlaRefIdeal.Facts] : Prop :=
  ∀ (m : (ℓ : Loc Cert.DUpGlaIdeal.nD Cert.DUpGlaIdeal.τ Cert.DUpGlaIdeal.sig) → Buf (Elt Ideal) ℓ) (g : Dev Cert.DUpGlaIdeal.nD → PrngReg)
    (m' : (ℓ : Loc Cert.DUpGlaRefIdeal.nD Cert.DUpGlaRefIdeal.τ Cert.DUpGlaRefIdeal.sig) → Buf (Elt Ideal) ℓ) (g' : Dev Cert.DUpGlaRefIdeal.nD → PrngReg), Pre_DUpGlaIdeal m →
    (∀ c : Dev Cert.DUpGlaIdeal.nD,
      m' ((c.tc : Thread Cert.DUpGlaRefIdeal.nD Cert.DUpGlaRefIdeal.τ).loc Cert.DUpGlaRefIdeal.main_arg0) = m ((c.tc : Thread Cert.DUpGlaIdeal.nD Cert.DUpGlaIdeal.τ).loc Cert.DUpGlaIdeal.main_arg0)
      ∧ m' ((c.tc : Thread Cert.DUpGlaRefIdeal.nD Cert.DUpGlaRefIdeal.τ).loc Cert.DUpGlaRefIdeal.main_arg1) = m ((c.tc : Thread Cert.DUpGlaIdeal.nD Cert.DUpGlaIdeal.τ).loc Cert.DUpGlaIdeal.main_arg1)) →
    ∃ (v0 : (c : Dev Cert.DUpGlaIdeal.nD) → Buf (Elt Ideal) ((c.tc : Thread Cert.DUpGlaIdeal.nD Cert.DUpGlaIdeal.τ).loc Cert.DUpGlaIdeal.main_v2)),
      θ_run (Cert.DUpGlaIdeal.defs (F := Ideal)) (onTc (τ := Cert.DUpGlaIdeal.τ) (Cert.DUpGlaIdeal.main (F := Ideal))) ⟨m, fun _ => 0, g⟩ (fun r => ∀ c : Dev Cert.DUpGlaIdeal.nD,
          r.2.mem ((c.tc : Thread Cert.DUpGlaIdeal.nD Cert.DUpGlaIdeal.τ).loc Cert.DUpGlaIdeal.main_v2) = v0 c
          ∧ r.2.mem ((c.tc : Thread Cert.DUpGlaIdeal.nD Cert.DUpGlaIdeal.τ).loc Cert.DUpGlaIdeal.main_arg0) = m ((c.tc : Thread Cert.DUpGlaIdeal.nD Cert.DUpGlaIdeal.τ).loc Cert.DUpGlaIdeal.main_arg0)
          ∧ r.2.mem ((c.tc : Thread Cert.DUpGlaIdeal.nD Cert.DUpGlaIdeal.τ).loc Cert.DUpGlaIdeal.main_arg1) = m ((c.tc : Thread Cert.DUpGlaIdeal.nD Cert.DUpGlaIdeal.τ).loc Cert.DUpGlaIdeal.main_arg1))
      ∧ θ_run (Cert.DUpGlaRefIdeal.defs (F := Ideal)) (onTc (τ := Cert.DUpGlaRefIdeal.τ) (Cert.DUpGlaRefIdeal.main (F := Ideal))) ⟨m', fun _ => 0, g'⟩ (fun r => ∀ c : Dev Cert.DUpGlaRefIdeal.nD,
          r.2.mem ((c.tc : Thread Cert.DUpGlaRefIdeal.nD Cert.DUpGlaRefIdeal.τ).loc Cert.DUpGlaRefIdeal.main_v3) = v0 c
          ∧ r.2.mem ((c.tc : Thread Cert.DUpGlaRefIdeal.nD Cert.DUpGlaRefIdeal.τ).loc Cert.DUpGlaRefIdeal.main_arg0) = m' ((c.tc : Thread Cert.DUpGlaRefIdeal.nD Cert.DUpGlaRefIdeal.τ).loc Cert.DUpGlaRefIdeal.main_arg0)
          ∧ r.2.mem ((c.tc : Thread Cert.DUpGlaRefIdeal.nD Cert.DUpGlaRefIdeal.τ).loc Cert.DUpGlaRefIdeal.main_arg1) = m' ((c.tc : Thread Cert.DUpGlaRefIdeal.nD Cert.DUpGlaRefIdeal.τ).loc Cert.DUpGlaRefIdeal.main_arg1))

def preserves_DUq_DUqIdeal : Prop :=
  True

def algebraic_DUqIdeal_DUqRefIdeal [hDUqIdeal : Cert.DUqIdeal.Facts] [hDUqRefIdeal : Cert.DUqRefIdeal.Facts] : Prop :=
  ∀ (m : (ℓ : Loc Cert.DUqIdeal.nD Cert.DUqIdeal.τ Cert.DUqIdeal.sig) → Buf (Elt Ideal) ℓ) (g : Dev Cert.DUqIdeal.nD → PrngReg)
    (m' : (ℓ : Loc Cert.DUqRefIdeal.nD Cert.DUqRefIdeal.τ Cert.DUqRefIdeal.sig) → Buf (Elt Ideal) ℓ) (g' : Dev Cert.DUqRefIdeal.nD → PrngReg), Pre_DUqIdeal m →
    (∀ c : Dev Cert.DUqIdeal.nD,
      m' ((c.tc : Thread Cert.DUqRefIdeal.nD Cert.DUqRefIdeal.τ).loc Cert.DUqRefIdeal.main_arg0) = m ((c.tc : Thread Cert.DUqIdeal.nD Cert.DUqIdeal.τ).loc Cert.DUqIdeal.main_arg0)
      ∧ m' ((c.tc : Thread Cert.DUqRefIdeal.nD Cert.DUqRefIdeal.τ).loc Cert.DUqRefIdeal.main_arg1) = m ((c.tc : Thread Cert.DUqIdeal.nD Cert.DUqIdeal.τ).loc Cert.DUqIdeal.main_arg1)) →
    ∃ (v0 : (c : Dev Cert.DUqIdeal.nD) → Buf (Elt Ideal) ((c.tc : Thread Cert.DUqIdeal.nD Cert.DUqIdeal.τ).loc Cert.DUqIdeal.main_v2)),
      θ_run (Cert.DUqIdeal.defs (F := Ideal)) (onTc (τ := Cert.DUqIdeal.τ) (Cert.DUqIdeal.main (F := Ideal))) ⟨m, fun _ => 0, g⟩ (fun r => ∀ c : Dev Cert.DUqIdeal.nD,
          r.2.mem ((c.tc : Thread Cert.DUqIdeal.nD Cert.DUqIdeal.τ).loc Cert.DUqIdeal.main_v2) = v0 c
          ∧ r.2.mem ((c.tc : Thread Cert.DUqIdeal.nD Cert.DUqIdeal.τ).loc Cert.DUqIdeal.main_arg0) = m ((c.tc : Thread Cert.DUqIdeal.nD Cert.DUqIdeal.τ).loc Cert.DUqIdeal.main_arg0)
          ∧ r.2.mem ((c.tc : Thread Cert.DUqIdeal.nD Cert.DUqIdeal.τ).loc Cert.DUqIdeal.main_arg1) = m ((c.tc : Thread Cert.DUqIdeal.nD Cert.DUqIdeal.τ).loc Cert.DUqIdeal.main_arg1))
      ∧ θ_run (Cert.DUqRefIdeal.defs (F := Ideal)) (onTc (τ := Cert.DUqRefIdeal.τ) (Cert.DUqRefIdeal.main (F := Ideal))) ⟨m', fun _ => 0, g'⟩ (fun r => ∀ c : Dev Cert.DUqRefIdeal.nD,
          r.2.mem ((c.tc : Thread Cert.DUqRefIdeal.nD Cert.DUqRefIdeal.τ).loc Cert.DUqRefIdeal.main_v3) = v0 c
          ∧ r.2.mem ((c.tc : Thread Cert.DUqRefIdeal.nD Cert.DUqRefIdeal.τ).loc Cert.DUqRefIdeal.main_arg0) = m' ((c.tc : Thread Cert.DUqRefIdeal.nD Cert.DUqRefIdeal.τ).loc Cert.DUqRefIdeal.main_arg0)
          ∧ r.2.mem ((c.tc : Thread Cert.DUqRefIdeal.nD Cert.DUqRefIdeal.τ).loc Cert.DUqRefIdeal.main_arg1) = m' ((c.tc : Thread Cert.DUqRefIdeal.nD Cert.DUqRefIdeal.τ).loc Cert.DUqRefIdeal.main_arg1))

def preserves_DCqn_DCqnIdeal : Prop :=
  True

def algebraic_DCqnIdeal_DCqnRefIdeal [hDCqnIdeal : Cert.DCqnIdeal.Facts] [hDCqnRefIdeal : Cert.DCqnRefIdeal.Facts] : Prop :=
  ∀ (m : (ℓ : Loc Cert.DCqnIdeal.nD Cert.DCqnIdeal.τ Cert.DCqnIdeal.sig) → Buf (Elt Ideal) ℓ) (g : Dev Cert.DCqnIdeal.nD → PrngReg)
    (m' : (ℓ : Loc Cert.DCqnRefIdeal.nD Cert.DCqnRefIdeal.τ Cert.DCqnRefIdeal.sig) → Buf (Elt Ideal) ℓ) (g' : Dev Cert.DCqnRefIdeal.nD → PrngReg), Pre_DCqnIdeal m →
    (∀ c : Dev Cert.DCqnIdeal.nD,
      m' ((c.tc : Thread Cert.DCqnRefIdeal.nD Cert.DCqnRefIdeal.τ).loc Cert.DCqnRefIdeal.main_arg0) = m ((c.tc : Thread Cert.DCqnIdeal.nD Cert.DCqnIdeal.τ).loc Cert.DCqnIdeal.main_arg0)
      ∧ m' ((c.tc : Thread Cert.DCqnRefIdeal.nD Cert.DCqnRefIdeal.τ).loc Cert.DCqnRefIdeal.main_arg1) = m ((c.tc : Thread Cert.DCqnIdeal.nD Cert.DCqnIdeal.τ).loc Cert.DCqnIdeal.main_arg1)) →
    ∃ (v0 : (c : Dev Cert.DCqnIdeal.nD) → Buf (Elt Ideal) ((c.tc : Thread Cert.DCqnIdeal.nD Cert.DCqnIdeal.τ).loc Cert.DCqnIdeal.main_v2)),
      θ_run (Cert.DCqnIdeal.defs (F := Ideal)) (onTc (τ := Cert.DCqnIdeal.τ) (Cert.DCqnIdeal.main (F := Ideal))) ⟨m, fun _ => 0, g⟩ (fun r => ∀ c : Dev Cert.DCqnIdeal.nD,
          r.2.mem ((c.tc : Thread Cert.DCqnIdeal.nD Cert.DCqnIdeal.τ).loc Cert.DCqnIdeal.main_v2) = v0 c
          ∧ r.2.mem ((c.tc : Thread Cert.DCqnIdeal.nD Cert.DCqnIdeal.τ).loc Cert.DCqnIdeal.main_arg0) = m ((c.tc : Thread Cert.DCqnIdeal.nD Cert.DCqnIdeal.τ).loc Cert.DCqnIdeal.main_arg0)
          ∧ r.2.mem ((c.tc : Thread Cert.DCqnIdeal.nD Cert.DCqnIdeal.τ).loc Cert.DCqnIdeal.main_arg1) = m ((c.tc : Thread Cert.DCqnIdeal.nD Cert.DCqnIdeal.τ).loc Cert.DCqnIdeal.main_arg1))
      ∧ θ_run (Cert.DCqnRefIdeal.defs (F := Ideal)) (onTc (τ := Cert.DCqnRefIdeal.τ) (Cert.DCqnRefIdeal.main (F := Ideal))) ⟨m', fun _ => 0, g'⟩ (fun r => ∀ c : Dev Cert.DCqnRefIdeal.nD,
          r.2.mem ((c.tc : Thread Cert.DCqnRefIdeal.nD Cert.DCqnRefIdeal.τ).loc Cert.DCqnRefIdeal.main_v2) = v0 c
          ∧ r.2.mem ((c.tc : Thread Cert.DCqnRefIdeal.nD Cert.DCqnRefIdeal.τ).loc Cert.DCqnRefIdeal.main_arg0) = m' ((c.tc : Thread Cert.DCqnRefIdeal.nD Cert.DCqnRefIdeal.τ).loc Cert.DCqnRefIdeal.main_arg0)
          ∧ r.2.mem ((c.tc : Thread Cert.DCqnRefIdeal.nD Cert.DCqnRefIdeal.τ).loc Cert.DCqnRefIdeal.main_arg1) = m' ((c.tc : Thread Cert.DCqnRefIdeal.nD Cert.DCqnRefIdeal.τ).loc Cert.DCqnRefIdeal.main_arg1))

def preserves_DUkv_DUkvIdeal : Prop :=
  True

def algebraic_DUkvIdeal_DUkvRefIdeal [hDUkvIdeal : Cert.DUkvIdeal.Facts] [hDUkvRefIdeal : Cert.DUkvRefIdeal.Facts] : Prop :=
  ∀ (m : (ℓ : Loc Cert.DUkvIdeal.nD Cert.DUkvIdeal.τ Cert.DUkvIdeal.sig) → Buf (Elt Ideal) ℓ) (g : Dev Cert.DUkvIdeal.nD → PrngReg)
    (m' : (ℓ : Loc Cert.DUkvRefIdeal.nD Cert.DUkvRefIdeal.τ Cert.DUkvRefIdeal.sig) → Buf (Elt Ideal) ℓ) (g' : Dev Cert.DUkvRefIdeal.nD → PrngReg), Pre_DUkvIdeal m →
    (∀ c : Dev Cert.DUkvIdeal.nD,
      m' ((c.tc : Thread Cert.DUkvRefIdeal.nD Cert.DUkvRefIdeal.τ).loc Cert.DUkvRefIdeal.main_arg0) = m ((c.tc : Thread Cert.DUkvIdeal.nD Cert.DUkvIdeal.τ).loc Cert.DUkvIdeal.main_arg0)
      ∧ m' ((c.tc : Thread Cert.DUkvRefIdeal.nD Cert.DUkvRefIdeal.τ).loc Cert.DUkvRefIdeal.main_arg1) = m ((c.tc : Thread Cert.DUkvIdeal.nD Cert.DUkvIdeal.τ).loc Cert.DUkvIdeal.main_arg1)) →
    ∃ (v0 : (c : Dev Cert.DUkvIdeal.nD) → Buf (Elt Ideal) ((c.tc : Thread Cert.DUkvIdeal.nD Cert.DUkvIdeal.τ).loc Cert.DUkvIdeal.main_v2)),
      θ_run (Cert.DUkvIdeal.defs (F := Ideal)) (onTc (τ := Cert.DUkvIdeal.τ) (Cert.DUkvIdeal.main (F := Ideal))) ⟨m, fun _ => 0, g⟩ (fun r => ∀ c : Dev Cert.DUkvIdeal.nD,
          r.2.mem ((c.tc : Thread Cert.DUkvIdeal.nD Cert.DUkvIdeal.τ).loc Cert.DUkvIdeal.main_v2) = v0 c
          ∧ r.2.mem ((c.tc : Thread Cert.DUkvIdeal.nD Cert.DUkvIdeal.τ).loc Cert.DUkvIdeal.main_arg0) = m ((c.tc : Thread Cert.DUkvIdeal.nD Cert.DUkvIdeal.τ).loc Cert.DUkvIdeal.main_arg0)
          ∧ r.2.mem ((c.tc : Thread Cert.DUkvIdeal.nD Cert.DUkvIdeal.τ).loc Cert.DUkvIdeal.main_arg1) = m ((c.tc : Thread Cert.DUkvIdeal.nD Cert.DUkvIdeal.τ).loc Cert.DUkvIdeal.main_arg1))
      ∧ θ_run (Cert.DUkvRefIdeal.defs (F := Ideal)) (onTc (τ := Cert.DUkvRefIdeal.τ) (Cert.DUkvRefIdeal.main (F := Ideal))) ⟨m', fun _ => 0, g'⟩ (fun r => ∀ c : Dev Cert.DUkvRefIdeal.nD,
          r.2.mem ((c.tc : Thread Cert.DUkvRefIdeal.nD Cert.DUkvRefIdeal.τ).loc Cert.DUkvRefIdeal.main_v3) = v0 c
          ∧ r.2.mem ((c.tc : Thread Cert.DUkvRefIdeal.nD Cert.DUkvRefIdeal.τ).loc Cert.DUkvRefIdeal.main_arg0) = m' ((c.tc : Thread Cert.DUkvRefIdeal.nD Cert.DUkvRefIdeal.τ).loc Cert.DUkvRefIdeal.main_arg0)
          ∧ r.2.mem ((c.tc : Thread Cert.DUkvRefIdeal.nD Cert.DUkvRefIdeal.τ).loc Cert.DUkvRefIdeal.main_arg1) = m' ((c.tc : Thread Cert.DUkvRefIdeal.nD Cert.DUkvRefIdeal.τ).loc Cert.DUkvRefIdeal.main_arg1))

def preserves_DCkvn_DCkvnIdeal : Prop :=
  True

def algebraic_DCkvnIdeal_DCkvnRefIdeal [hDCkvnIdeal : Cert.DCkvnIdeal.Facts] [hDCkvnRefIdeal : Cert.DCkvnRefIdeal.Facts] : Prop :=
  ∀ (m : (ℓ : Loc Cert.DCkvnIdeal.nD Cert.DCkvnIdeal.τ Cert.DCkvnIdeal.sig) → Buf (Elt Ideal) ℓ) (g : Dev Cert.DCkvnIdeal.nD → PrngReg)
    (m' : (ℓ : Loc Cert.DCkvnRefIdeal.nD Cert.DCkvnRefIdeal.τ Cert.DCkvnRefIdeal.sig) → Buf (Elt Ideal) ℓ) (g' : Dev Cert.DCkvnRefIdeal.nD → PrngReg), Pre_DCkvnIdeal m →
    (∀ c : Dev Cert.DCkvnIdeal.nD,
      m' ((c.tc : Thread Cert.DCkvnRefIdeal.nD Cert.DCkvnRefIdeal.τ).loc Cert.DCkvnRefIdeal.main_arg0) = m ((c.tc : Thread Cert.DCkvnIdeal.nD Cert.DCkvnIdeal.τ).loc Cert.DCkvnIdeal.main_arg0)
      ∧ m' ((c.tc : Thread Cert.DCkvnRefIdeal.nD Cert.DCkvnRefIdeal.τ).loc Cert.DCkvnRefIdeal.main_arg1) = m ((c.tc : Thread Cert.DCkvnIdeal.nD Cert.DCkvnIdeal.τ).loc Cert.DCkvnIdeal.main_arg1)) →
    ∃ (v0 : (c : Dev Cert.DCkvnIdeal.nD) → Buf (Elt Ideal) ((c.tc : Thread Cert.DCkvnIdeal.nD Cert.DCkvnIdeal.τ).loc Cert.DCkvnIdeal.main_v2)),
      θ_run (Cert.DCkvnIdeal.defs (F := Ideal)) (onTc (τ := Cert.DCkvnIdeal.τ) (Cert.DCkvnIdeal.main (F := Ideal))) ⟨m, fun _ => 0, g⟩ (fun r => ∀ c : Dev Cert.DCkvnIdeal.nD,
          r.2.mem ((c.tc : Thread Cert.DCkvnIdeal.nD Cert.DCkvnIdeal.τ).loc Cert.DCkvnIdeal.main_v2) = v0 c
          ∧ r.2.mem ((c.tc : Thread Cert.DCkvnIdeal.nD Cert.DCkvnIdeal.τ).loc Cert.DCkvnIdeal.main_arg0) = m ((c.tc : Thread Cert.DCkvnIdeal.nD Cert.DCkvnIdeal.τ).loc Cert.DCkvnIdeal.main_arg0)
          ∧ r.2.mem ((c.tc : Thread Cert.DCkvnIdeal.nD Cert.DCkvnIdeal.τ).loc Cert.DCkvnIdeal.main_arg1) = m ((c.tc : Thread Cert.DCkvnIdeal.nD Cert.DCkvnIdeal.τ).loc Cert.DCkvnIdeal.main_arg1))
      ∧ θ_run (Cert.DCkvnRefIdeal.defs (F := Ideal)) (onTc (τ := Cert.DCkvnRefIdeal.τ) (Cert.DCkvnRefIdeal.main (F := Ideal))) ⟨m', fun _ => 0, g'⟩ (fun r => ∀ c : Dev Cert.DCkvnRefIdeal.nD,
          r.2.mem ((c.tc : Thread Cert.DCkvnRefIdeal.nD Cert.DCkvnRefIdeal.τ).loc Cert.DCkvnRefIdeal.main_v2) = v0 c
          ∧ r.2.mem ((c.tc : Thread Cert.DCkvnRefIdeal.nD Cert.DCkvnRefIdeal.τ).loc Cert.DCkvnRefIdeal.main_arg0) = m' ((c.tc : Thread Cert.DCkvnRefIdeal.nD Cert.DCkvnRefIdeal.τ).loc Cert.DCkvnRefIdeal.main_arg0)
          ∧ r.2.mem ((c.tc : Thread Cert.DCkvnRefIdeal.nD Cert.DCkvnRefIdeal.τ).loc Cert.DCkvnRefIdeal.main_arg1) = m' ((c.tc : Thread Cert.DCkvnRefIdeal.nD Cert.DCkvnRefIdeal.τ).loc Cert.DCkvnRefIdeal.main_arg1))

def preserves_Mlp1_Mlp1Ideal : Prop :=
  True

def algebraic_Mlp1Ideal_Mlp1RefIdeal [hMlp1Ideal : Cert.Mlp1Ideal.Facts] [hMlp1RefIdeal : Cert.Mlp1RefIdeal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg)
    (m' : (ℓ : Loc Cert.Mlp1RefIdeal.nD Cert.Mlp1RefIdeal.τ Cert.Mlp1RefIdeal.sig) → Buf (Elt Ideal) ℓ) (g' : Dev Cert.Mlp1RefIdeal.nD → PrngReg), Pre_Mlp1Ideal m →
    (∀ c : Dev Cert.Mlp1Ideal.nD,
      m' ((c.tc : Thread Cert.Mlp1RefIdeal.nD Cert.Mlp1RefIdeal.τ).loc Cert.Mlp1RefIdeal.main_arg0) = m ((c.tc : Thread Cert.Mlp1Ideal.nD Cert.Mlp1Ideal.τ).loc Cert.Mlp1Ideal.main_arg0)
      ∧ m' ((c.tc : Thread Cert.Mlp1RefIdeal.nD Cert.Mlp1RefIdeal.τ).loc Cert.Mlp1RefIdeal.main_arg1) = m ((c.tc : Thread Cert.Mlp1Ideal.nD Cert.Mlp1Ideal.τ).loc Cert.Mlp1Ideal.main_arg1)
      ∧ m' ((c.tc : Thread Cert.Mlp1RefIdeal.nD Cert.Mlp1RefIdeal.τ).loc Cert.Mlp1RefIdeal.main_arg2) = m ((c.tc : Thread Cert.Mlp1Ideal.nD Cert.Mlp1Ideal.τ).loc Cert.Mlp1Ideal.main_arg2)) →
    ∃ (v0 : (c : Dev Cert.Mlp1Ideal.nD) → Buf (Elt Ideal) ((c.tc : Thread Cert.Mlp1Ideal.nD Cert.Mlp1Ideal.τ).loc Cert.Mlp1Ideal.main_v1_0)) (v1 : (c : Dev Cert.Mlp1Ideal.nD) → Buf (Elt Ideal) ((c.tc : Thread Cert.Mlp1Ideal.nD Cert.Mlp1Ideal.τ).loc Cert.Mlp1Ideal.main_v1_1)),
      θ_run (Cert.Mlp1Ideal.defs (F := Ideal)) (onTc (τ := Cert.Mlp1Ideal.τ) (Cert.Mlp1Ideal.main (F := Ideal))) ⟨m, fun _ => 0, g⟩ (fun r => ∀ c : Dev Cert.Mlp1Ideal.nD,
          r.2.mem ((c.tc : Thread Cert.Mlp1Ideal.nD Cert.Mlp1Ideal.τ).loc Cert.Mlp1Ideal.main_v1_0) = v0 c
          ∧ r.2.mem ((c.tc : Thread Cert.Mlp1Ideal.nD Cert.Mlp1Ideal.τ).loc Cert.Mlp1Ideal.main_v1_1) = v1 c
          ∧ r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
          ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
          ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2))
      ∧ θ_run (Cert.Mlp1RefIdeal.defs (F := Ideal)) (onTc (τ := Cert.Mlp1RefIdeal.τ) (Cert.Mlp1RefIdeal.main (F := Ideal))) ⟨m', fun _ => 0, g'⟩ (fun r => ∀ c : Dev Cert.Mlp1RefIdeal.nD,
          r.2.mem ((c.tc : Thread Cert.Mlp1RefIdeal.nD Cert.Mlp1RefIdeal.τ).loc Cert.Mlp1RefIdeal.main_v13) = v0 c
          ∧ r.2.mem ((c.tc : Thread Cert.Mlp1RefIdeal.nD Cert.Mlp1RefIdeal.τ).loc Cert.Mlp1RefIdeal.main_v14) = v1 c
          ∧ r.2.mem ((c.tc : Thread Cert.Mlp1RefIdeal.nD Cert.Mlp1RefIdeal.τ).loc Cert.Mlp1RefIdeal.main_arg0) = m' ((c.tc : Thread Cert.Mlp1RefIdeal.nD Cert.Mlp1RefIdeal.τ).loc Cert.Mlp1RefIdeal.main_arg0)
          ∧ r.2.mem ((c.tc : Thread Cert.Mlp1RefIdeal.nD Cert.Mlp1RefIdeal.τ).loc Cert.Mlp1RefIdeal.main_arg1) = m' ((c.tc : Thread Cert.Mlp1RefIdeal.nD Cert.Mlp1RefIdeal.τ).loc Cert.Mlp1RefIdeal.main_arg1)
          ∧ r.2.mem ((c.tc : Thread Cert.Mlp1RefIdeal.nD Cert.Mlp1RefIdeal.τ).loc Cert.Mlp1RefIdeal.main_arg2) = m' ((c.tc : Thread Cert.Mlp1RefIdeal.nD Cert.Mlp1RefIdeal.τ).loc Cert.Mlp1RefIdeal.main_arg2))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)
      ∧ m' ((c.tc : Thread Cert.InARefIdeal.nD Cert.InARefIdeal.τ).loc Cert.InARefIdeal.main_arg2) = m ((c.tc : Thread Cert.InAIdeal.nD Cert.InAIdeal.τ).loc Cert.InAIdeal.main_arg2)) →
    ∃ (v0 : (c : Dev Cert.InAIdeal.nD) → Buf (Elt Ideal) ((c.tc : Thread Cert.InAIdeal.nD Cert.InAIdeal.τ).loc Cert.InAIdeal.main_v1_0)) (v1 : (c : Dev Cert.InAIdeal.nD) → Buf (Elt Ideal) ((c.tc : Thread Cert.InAIdeal.nD Cert.InAIdeal.τ).loc Cert.InAIdeal.main_v1_1)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v1_0) = v0 c
          ∧ r.2.mem ((c.tc : Thread Cert.InAIdeal.nD Cert.InAIdeal.τ).loc Cert.InAIdeal.main_v1_1) = v1 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
          ∧ r.2.mem ((c.tc : Thread Cert.InAIdeal.nD Cert.InAIdeal.τ).loc Cert.InAIdeal.main_arg2) = m ((c.tc : Thread Cert.InAIdeal.nD Cert.InAIdeal.τ).loc Cert.InAIdeal.main_arg2))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v13) = v0 c
          ∧ r.2.mem ((c.tc : Thread Cert.InARefIdeal.nD Cert.InARefIdeal.τ).loc Cert.InARefIdeal.main_v14) = v1 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1)
          ∧ r.2.mem ((c.tc : Thread Cert.InARefIdeal.nD Cert.InARefIdeal.τ).loc Cert.InARefIdeal.main_arg2) = m' ((c.tc : Thread Cert.InARefIdeal.nD Cert.InARefIdeal.τ).loc Cert.InARefIdeal.main_arg2))

def preserves_Xq_XqIdeal : Prop :=
  True

def algebraic_XqIdeal_XqRefIdeal [hXqIdeal : Cert.XqIdeal.Facts] [hXqRefIdeal : Cert.XqRefIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)
      ∧ m' ((c.tc : Thread Cert.XqRefIdeal.nD Cert.XqRefIdeal.τ).loc Cert.XqRefIdeal.main_arg1) = m ((c.tc : Thread Cert.XqIdeal.nD Cert.XqIdeal.τ).loc Cert.XqIdeal.main_arg1)
      ∧ m' ((c.tc : Thread Cert.XqRefIdeal.nD Cert.XqRefIdeal.τ).loc Cert.XqRefIdeal.main_arg2) = m ((c.tc : Thread Cert.XqIdeal.nD Cert.XqIdeal.τ).loc Cert.XqIdeal.main_arg2)) →
    ∃ (v0 : (c : Dev Cert.XqIdeal.nD) → Buf (Elt Ideal) ((c.tc : Thread Cert.XqIdeal.nD Cert.XqIdeal.τ).loc Cert.XqIdeal.main_v1_0)) (v1 : (c : Dev Cert.XqIdeal.nD) → Buf (Elt Ideal) ((c.tc : Thread Cert.XqIdeal.nD Cert.XqIdeal.τ).loc Cert.XqIdeal.main_v1_1)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v1_0) = v0 c
          ∧ r.2.mem ((c.tc : Thread Cert.XqIdeal.nD Cert.XqIdeal.τ).loc Cert.XqIdeal.main_v1_1) = v1 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
          ∧ r.2.mem ((c.tc : Thread Cert.XqIdeal.nD Cert.XqIdeal.τ).loc Cert.XqIdeal.main_arg2) = m ((c.tc : Thread Cert.XqIdeal.nD Cert.XqIdeal.τ).loc Cert.XqIdeal.main_arg2))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v15) = v0 c
          ∧ r.2.mem ((c.tc : Thread Cert.XqRefIdeal.nD Cert.XqRefIdeal.τ).loc Cert.XqRefIdeal.main_v16) = v1 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0)
          ∧ r.2.mem ((c.tc : Thread Cert.XqRefIdeal.nD Cert.XqRefIdeal.τ).loc Cert.XqRefIdeal.main_arg1) = m' ((c.tc : Thread Cert.XqRefIdeal.nD Cert.XqRefIdeal.τ).loc Cert.XqRefIdeal.main_arg1)
          ∧ r.2.mem ((c.tc : Thread Cert.XqRefIdeal.nD Cert.XqRefIdeal.τ).loc Cert.XqRefIdeal.main_arg2) = m' ((c.tc : Thread Cert.XqRefIdeal.nD Cert.XqRefIdeal.τ).loc Cert.XqRefIdeal.main_arg2))

def preserves_Xkv_XkvIdeal : Prop :=
  True

def algebraic_XkvIdeal_XkvRefIdeal [hXkvIdeal : Cert.XkvIdeal.Facts] [hXkvRefIdeal : Cert.XkvRefIdeal.Facts] : Prop :=
  ∀ (m : (ℓ : Loc Cert.XkvIdeal.nD Cert.XkvIdeal.τ Cert.XkvIdeal.sig) → Buf (Elt Ideal) ℓ) (g : Dev Cert.XkvIdeal.nD → PrngReg)
    (m' : (ℓ : Loc Cert.XkvRefIdeal.nD Cert.XkvRefIdeal.τ Cert.XkvRefIdeal.sig) → Buf (Elt Ideal) ℓ) (g' : Dev Cert.XkvRefIdeal.nD → PrngReg), Pre_XkvIdeal m →
    (∀ c : Dev Cert.XkvIdeal.nD,
      m' ((c.tc : Thread Cert.XkvRefIdeal.nD Cert.XkvRefIdeal.τ).loc Cert.XkvRefIdeal.main_arg0) = m ((c.tc : Thread Cert.XkvIdeal.nD Cert.XkvIdeal.τ).loc Cert.XkvIdeal.main_arg0)
      ∧ m' ((c.tc : Thread Cert.XkvRefIdeal.nD Cert.XkvRefIdeal.τ).loc Cert.XkvRefIdeal.main_arg1) = m ((c.tc : Thread Cert.XkvIdeal.nD Cert.XkvIdeal.τ).loc Cert.XkvIdeal.main_arg1)
      ∧ m' ((c.tc : Thread Cert.XkvRefIdeal.nD Cert.XkvRefIdeal.τ).loc Cert.XkvRefIdeal.main_arg2) = m ((c.tc : Thread Cert.XkvIdeal.nD Cert.XkvIdeal.τ).loc Cert.XkvIdeal.main_arg2)) →
    ∃ (v0 : (c : Dev Cert.XkvIdeal.nD) → Buf (Elt Ideal) ((c.tc : Thread Cert.XkvIdeal.nD Cert.XkvIdeal.τ).loc Cert.XkvIdeal.main_v1_0)) (v1 : (c : Dev Cert.XkvIdeal.nD) → Buf (Elt Ideal) ((c.tc : Thread Cert.XkvIdeal.nD Cert.XkvIdeal.τ).loc Cert.XkvIdeal.main_v1_1)),
      θ_run (Cert.XkvIdeal.defs (F := Ideal)) (onTc (τ := Cert.XkvIdeal.τ) (Cert.XkvIdeal.main (F := Ideal))) ⟨m, fun _ => 0, g⟩ (fun r => ∀ c : Dev Cert.XkvIdeal.nD,
          r.2.mem ((c.tc : Thread Cert.XkvIdeal.nD Cert.XkvIdeal.τ).loc Cert.XkvIdeal.main_v1_0) = v0 c
          ∧ r.2.mem ((c.tc : Thread Cert.XkvIdeal.nD Cert.XkvIdeal.τ).loc Cert.XkvIdeal.main_v1_1) = v1 c
          ∧ r.2.mem ((c.tc : Thread Cert.XkvIdeal.nD Cert.XkvIdeal.τ).loc Cert.XkvIdeal.main_arg0) = m ((c.tc : Thread Cert.XkvIdeal.nD Cert.XkvIdeal.τ).loc Cert.XkvIdeal.main_arg0)
          ∧ r.2.mem ((c.tc : Thread Cert.XkvIdeal.nD Cert.XkvIdeal.τ).loc Cert.XkvIdeal.main_arg1) = m ((c.tc : Thread Cert.XkvIdeal.nD Cert.XkvIdeal.τ).loc Cert.XkvIdeal.main_arg1)
          ∧ r.2.mem ((c.tc : Thread Cert.XkvIdeal.nD Cert.XkvIdeal.τ).loc Cert.XkvIdeal.main_arg2) = m ((c.tc : Thread Cert.XkvIdeal.nD Cert.XkvIdeal.τ).loc Cert.XkvIdeal.main_arg2))
      ∧ θ_run (Cert.XkvRefIdeal.defs (F := Ideal)) (onTc (τ := Cert.XkvRefIdeal.τ) (Cert.XkvRefIdeal.main (F := Ideal))) ⟨m', fun _ => 0, g'⟩ (fun r => ∀ c : Dev Cert.XkvRefIdeal.nD,
          r.2.mem ((c.tc : Thread Cert.XkvRefIdeal.nD Cert.XkvRefIdeal.τ).loc Cert.XkvRefIdeal.main_v13) = v0 c
          ∧ r.2.mem ((c.tc : Thread Cert.XkvRefIdeal.nD Cert.XkvRefIdeal.τ).loc Cert.XkvRefIdeal.main_v14) = v1 c
          ∧ r.2.mem ((c.tc : Thread Cert.XkvRefIdeal.nD Cert.XkvRefIdeal.τ).loc Cert.XkvRefIdeal.main_arg0) = m' ((c.tc : Thread Cert.XkvRefIdeal.nD Cert.XkvRefIdeal.τ).loc Cert.XkvRefIdeal.main_arg0)
          ∧ r.2.mem ((c.tc : Thread Cert.XkvRefIdeal.nD Cert.XkvRefIdeal.τ).loc Cert.XkvRefIdeal.main_arg1) = m' ((c.tc : Thread Cert.XkvRefIdeal.nD Cert.XkvRefIdeal.τ).loc Cert.XkvRefIdeal.main_arg1)
          ∧ r.2.mem ((c.tc : Thread Cert.XkvRefIdeal.nD Cert.XkvRefIdeal.τ).loc Cert.XkvRefIdeal.main_arg2) = m' ((c.tc : Thread Cert.XkvRefIdeal.nD Cert.XkvRefIdeal.τ).loc Cert.XkvRefIdeal.main_arg2))

def preserves_MlaUq_MlaUqIdeal : Prop :=
  True

def algebraic_MlaUqIdeal_MlaUqRefIdeal [hMlaUqIdeal : Cert.MlaUqIdeal.Facts] [hMlaUqRefIdeal : Cert.MlaUqRefIdeal.Facts] : Prop :=
  ∀ (m : (ℓ : Loc Cert.MlaUqIdeal.nD Cert.MlaUqIdeal.τ Cert.MlaUqIdeal.sig) → Buf (Elt Ideal) ℓ) (g : Dev Cert.MlaUqIdeal.nD → PrngReg)
    (m' : (ℓ : Loc Cert.MlaUqRefIdeal.nD Cert.MlaUqRefIdeal.τ Cert.MlaUqRefIdeal.sig) → Buf (Elt Ideal) ℓ) (g' : Dev Cert.MlaUqRefIdeal.nD → PrngReg), Pre_MlaUqIdeal m →
    (∀ c : Dev Cert.MlaUqIdeal.nD,
      m' ((c.tc : Thread Cert.MlaUqRefIdeal.nD Cert.MlaUqRefIdeal.τ).loc Cert.MlaUqRefIdeal.main_arg0) = m ((c.tc : Thread Cert.MlaUqIdeal.nD Cert.MlaUqIdeal.τ).loc Cert.MlaUqIdeal.main_arg0)
      ∧ m' ((c.tc : Thread Cert.MlaUqRefIdeal.nD Cert.MlaUqRefIdeal.τ).loc Cert.MlaUqRefIdeal.main_arg1) = m ((c.tc : Thread Cert.MlaUqIdeal.nD Cert.MlaUqIdeal.τ).loc Cert.MlaUqIdeal.main_arg1)
      ∧ m' ((c.tc : Thread Cert.MlaUqRefIdeal.nD Cert.MlaUqRefIdeal.τ).loc Cert.MlaUqRefIdeal.main_arg2) = m ((c.tc : Thread Cert.MlaUqIdeal.nD Cert.MlaUqIdeal.τ).loc Cert.MlaUqIdeal.main_arg2)) →
    ∃ (v0 : (c : Dev Cert.MlaUqIdeal.nD) → Buf (Elt Ideal) ((c.tc : Thread Cert.MlaUqIdeal.nD Cert.MlaUqIdeal.τ).loc Cert.MlaUqIdeal.main_v1_0)) (v1 : (c : Dev Cert.MlaUqIdeal.nD) → Buf (Elt Ideal) ((c.tc : Thread Cert.MlaUqIdeal.nD Cert.MlaUqIdeal.τ).loc Cert.MlaUqIdeal.main_v1_1)),
      θ_run (Cert.MlaUqIdeal.defs (F := Ideal)) (onTc (τ := Cert.MlaUqIdeal.τ) (Cert.MlaUqIdeal.main (F := Ideal))) ⟨m, fun _ => 0, g⟩ (fun r => ∀ c : Dev Cert.MlaUqIdeal.nD,
          r.2.mem ((c.tc : Thread Cert.MlaUqIdeal.nD Cert.MlaUqIdeal.τ).loc Cert.MlaUqIdeal.main_v1_0) = v0 c
          ∧ r.2.mem ((c.tc : Thread Cert.MlaUqIdeal.nD Cert.MlaUqIdeal.τ).loc Cert.MlaUqIdeal.main_v1_1) = v1 c
          ∧ r.2.mem ((c.tc : Thread Cert.MlaUqIdeal.nD Cert.MlaUqIdeal.τ).loc Cert.MlaUqIdeal.main_arg0) = m ((c.tc : Thread Cert.MlaUqIdeal.nD Cert.MlaUqIdeal.τ).loc Cert.MlaUqIdeal.main_arg0)
          ∧ r.2.mem ((c.tc : Thread Cert.MlaUqIdeal.nD Cert.MlaUqIdeal.τ).loc Cert.MlaUqIdeal.main_arg1) = m ((c.tc : Thread Cert.MlaUqIdeal.nD Cert.MlaUqIdeal.τ).loc Cert.MlaUqIdeal.main_arg1)
          ∧ r.2.mem ((c.tc : Thread Cert.MlaUqIdeal.nD Cert.MlaUqIdeal.τ).loc Cert.MlaUqIdeal.main_arg2) = m ((c.tc : Thread Cert.MlaUqIdeal.nD Cert.MlaUqIdeal.τ).loc Cert.MlaUqIdeal.main_arg2))
      ∧ θ_run (Cert.MlaUqRefIdeal.defs (F := Ideal)) (onTc (τ := Cert.MlaUqRefIdeal.τ) (Cert.MlaUqRefIdeal.main (F := Ideal))) ⟨m', fun _ => 0, g'⟩ (fun r => ∀ c : Dev Cert.MlaUqRefIdeal.nD,
          r.2.mem ((c.tc : Thread Cert.MlaUqRefIdeal.nD Cert.MlaUqRefIdeal.τ).loc Cert.MlaUqRefIdeal.main_v13) = v0 c
          ∧ r.2.mem ((c.tc : Thread Cert.MlaUqRefIdeal.nD Cert.MlaUqRefIdeal.τ).loc Cert.MlaUqRefIdeal.main_v14) = v1 c
          ∧ r.2.mem ((c.tc : Thread Cert.MlaUqRefIdeal.nD Cert.MlaUqRefIdeal.τ).loc Cert.MlaUqRefIdeal.main_arg0) = m' ((c.tc : Thread Cert.MlaUqRefIdeal.nD Cert.MlaUqRefIdeal.τ).loc Cert.MlaUqRefIdeal.main_arg0)
          ∧ r.2.mem ((c.tc : Thread Cert.MlaUqRefIdeal.nD Cert.MlaUqRefIdeal.τ).loc Cert.MlaUqRefIdeal.main_arg1) = m' ((c.tc : Thread Cert.MlaUqRefIdeal.nD Cert.MlaUqRefIdeal.τ).loc Cert.MlaUqRefIdeal.main_arg1)
          ∧ r.2.mem ((c.tc : Thread Cert.MlaUqRefIdeal.nD Cert.MlaUqRefIdeal.τ).loc Cert.MlaUqRefIdeal.main_arg2) = m' ((c.tc : Thread Cert.MlaUqRefIdeal.nD Cert.MlaUqRefIdeal.τ).loc Cert.MlaUqRefIdeal.main_arg2))

def preserves_MlaUkv_MlaUkvIdeal : Prop :=
  True

def algebraic_MlaUkvIdeal_MlaUkvRefIdeal [hMlaUkvIdeal : Cert.MlaUkvIdeal.Facts] [hMlaUkvRefIdeal : Cert.MlaUkvRefIdeal.Facts] : Prop :=
  ∀ (m : (ℓ : Loc Cert.MlaUkvIdeal.nD Cert.MlaUkvIdeal.τ Cert.MlaUkvIdeal.sig) → Buf (Elt Ideal) ℓ) (g : Dev Cert.MlaUkvIdeal.nD → PrngReg)
    (m' : (ℓ : Loc Cert.MlaUkvRefIdeal.nD Cert.MlaUkvRefIdeal.τ Cert.MlaUkvRefIdeal.sig) → Buf (Elt Ideal) ℓ) (g' : Dev Cert.MlaUkvRefIdeal.nD → PrngReg), Pre_MlaUkvIdeal m →
    (∀ c : Dev Cert.MlaUkvIdeal.nD,
      m' ((c.tc : Thread Cert.MlaUkvRefIdeal.nD Cert.MlaUkvRefIdeal.τ).loc Cert.MlaUkvRefIdeal.main_arg0) = m ((c.tc : Thread Cert.MlaUkvIdeal.nD Cert.MlaUkvIdeal.τ).loc Cert.MlaUkvIdeal.main_arg0)
      ∧ m' ((c.tc : Thread Cert.MlaUkvRefIdeal.nD Cert.MlaUkvRefIdeal.τ).loc Cert.MlaUkvRefIdeal.main_arg1) = m ((c.tc : Thread Cert.MlaUkvIdeal.nD Cert.MlaUkvIdeal.τ).loc Cert.MlaUkvIdeal.main_arg1)
      ∧ m' ((c.tc : Thread Cert.MlaUkvRefIdeal.nD Cert.MlaUkvRefIdeal.τ).loc Cert.MlaUkvRefIdeal.main_arg2) = m ((c.tc : Thread Cert.MlaUkvIdeal.nD Cert.MlaUkvIdeal.τ).loc Cert.MlaUkvIdeal.main_arg2)) →
    ∃ (v0 : (c : Dev Cert.MlaUkvIdeal.nD) → Buf (Elt Ideal) ((c.tc : Thread Cert.MlaUkvIdeal.nD Cert.MlaUkvIdeal.τ).loc Cert.MlaUkvIdeal.main_v1_0)) (v1 : (c : Dev Cert.MlaUkvIdeal.nD) → Buf (Elt Ideal) ((c.tc : Thread Cert.MlaUkvIdeal.nD Cert.MlaUkvIdeal.τ).loc Cert.MlaUkvIdeal.main_v1_1)),
      θ_run (Cert.MlaUkvIdeal.defs (F := Ideal)) (onTc (τ := Cert.MlaUkvIdeal.τ) (Cert.MlaUkvIdeal.main (F := Ideal))) ⟨m, fun _ => 0, g⟩ (fun r => ∀ c : Dev Cert.MlaUkvIdeal.nD,
          r.2.mem ((c.tc : Thread Cert.MlaUkvIdeal.nD Cert.MlaUkvIdeal.τ).loc Cert.MlaUkvIdeal.main_v1_0) = v0 c
          ∧ r.2.mem ((c.tc : Thread Cert.MlaUkvIdeal.nD Cert.MlaUkvIdeal.τ).loc Cert.MlaUkvIdeal.main_v1_1) = v1 c
          ∧ r.2.mem ((c.tc : Thread Cert.MlaUkvIdeal.nD Cert.MlaUkvIdeal.τ).loc Cert.MlaUkvIdeal.main_arg0) = m ((c.tc : Thread Cert.MlaUkvIdeal.nD Cert.MlaUkvIdeal.τ).loc Cert.MlaUkvIdeal.main_arg0)
          ∧ r.2.mem ((c.tc : Thread Cert.MlaUkvIdeal.nD Cert.MlaUkvIdeal.τ).loc Cert.MlaUkvIdeal.main_arg1) = m ((c.tc : Thread Cert.MlaUkvIdeal.nD Cert.MlaUkvIdeal.τ).loc Cert.MlaUkvIdeal.main_arg1)
          ∧ r.2.mem ((c.tc : Thread Cert.MlaUkvIdeal.nD Cert.MlaUkvIdeal.τ).loc Cert.MlaUkvIdeal.main_arg2) = m ((c.tc : Thread Cert.MlaUkvIdeal.nD Cert.MlaUkvIdeal.τ).loc Cert.MlaUkvIdeal.main_arg2))
      ∧ θ_run (Cert.MlaUkvRefIdeal.defs (F := Ideal)) (onTc (τ := Cert.MlaUkvRefIdeal.τ) (Cert.MlaUkvRefIdeal.main (F := Ideal))) ⟨m', fun _ => 0, g'⟩ (fun r => ∀ c : Dev Cert.MlaUkvRefIdeal.nD,
          r.2.mem ((c.tc : Thread Cert.MlaUkvRefIdeal.nD Cert.MlaUkvRefIdeal.τ).loc Cert.MlaUkvRefIdeal.main_v14) = v0 c
          ∧ r.2.mem ((c.tc : Thread Cert.MlaUkvRefIdeal.nD Cert.MlaUkvRefIdeal.τ).loc Cert.MlaUkvRefIdeal.main_v15) = v1 c
          ∧ r.2.mem ((c.tc : Thread Cert.MlaUkvRefIdeal.nD Cert.MlaUkvRefIdeal.τ).loc Cert.MlaUkvRefIdeal.main_arg0) = m' ((c.tc : Thread Cert.MlaUkvRefIdeal.nD Cert.MlaUkvRefIdeal.τ).loc Cert.MlaUkvRefIdeal.main_arg0)
          ∧ r.2.mem ((c.tc : Thread Cert.MlaUkvRefIdeal.nD Cert.MlaUkvRefIdeal.τ).loc Cert.MlaUkvRefIdeal.main_arg1) = m' ((c.tc : Thread Cert.MlaUkvRefIdeal.nD Cert.MlaUkvRefIdeal.τ).loc Cert.MlaUkvRefIdeal.main_arg1)
          ∧ r.2.mem ((c.tc : Thread Cert.MlaUkvRefIdeal.nD Cert.MlaUkvRefIdeal.τ).loc Cert.MlaUkvRefIdeal.main_arg2) = m' ((c.tc : Thread Cert.MlaUkvRefIdeal.nD Cert.MlaUkvRefIdeal.τ).loc Cert.MlaUkvRefIdeal.main_arg2))

def preserves_DXkv_DXkvIdeal : Prop :=
  True

def algebraic_DXkvIdeal_DXkvRefIdeal [hDXkvIdeal : Cert.DXkvIdeal.Facts] [hDXkvRefIdeal : Cert.DXkvRefIdeal.Facts] : Prop :=
  ∀ (m : (ℓ : Loc Cert.DXkvIdeal.nD Cert.DXkvIdeal.τ Cert.DXkvIdeal.sig) → Buf (Elt Ideal) ℓ) (g : Dev Cert.DXkvIdeal.nD → PrngReg)
    (m' : (ℓ : Loc Cert.DXkvRefIdeal.nD Cert.DXkvRefIdeal.τ Cert.DXkvRefIdeal.sig) → Buf (Elt Ideal) ℓ) (g' : Dev Cert.DXkvRefIdeal.nD → PrngReg), Pre_DXkvIdeal m →
    (∀ c : Dev Cert.DXkvIdeal.nD,
      m' ((c.tc : Thread Cert.DXkvRefIdeal.nD Cert.DXkvRefIdeal.τ).loc Cert.DXkvRefIdeal.main_arg0) = m ((c.tc : Thread Cert.DXkvIdeal.nD Cert.DXkvIdeal.τ).loc Cert.DXkvIdeal.main_arg0)
      ∧ m' ((c.tc : Thread Cert.DXkvRefIdeal.nD Cert.DXkvRefIdeal.τ).loc Cert.DXkvRefIdeal.main_arg1) = m ((c.tc : Thread Cert.DXkvIdeal.nD Cert.DXkvIdeal.τ).loc Cert.DXkvIdeal.main_arg1)) →
    ∃ (v0 : (c : Dev Cert.DXkvIdeal.nD) → Buf (Elt Ideal) ((c.tc : Thread Cert.DXkvIdeal.nD Cert.DXkvIdeal.τ).loc Cert.DXkvIdeal.main_v2)),
      θ_run (Cert.DXkvIdeal.defs (F := Ideal)) (onTc (τ := Cert.DXkvIdeal.τ) (Cert.DXkvIdeal.main (F := Ideal))) ⟨m, fun _ => 0, g⟩ (fun r => ∀ c : Dev Cert.DXkvIdeal.nD,
          r.2.mem ((c.tc : Thread Cert.DXkvIdeal.nD Cert.DXkvIdeal.τ).loc Cert.DXkvIdeal.main_v2) = v0 c
          ∧ r.2.mem ((c.tc : Thread Cert.DXkvIdeal.nD Cert.DXkvIdeal.τ).loc Cert.DXkvIdeal.main_arg0) = m ((c.tc : Thread Cert.DXkvIdeal.nD Cert.DXkvIdeal.τ).loc Cert.DXkvIdeal.main_arg0)
          ∧ r.2.mem ((c.tc : Thread Cert.DXkvIdeal.nD Cert.DXkvIdeal.τ).loc Cert.DXkvIdeal.main_arg1) = m ((c.tc : Thread Cert.DXkvIdeal.nD Cert.DXkvIdeal.τ).loc Cert.DXkvIdeal.main_arg1))
      ∧ θ_run (Cert.DXkvRefIdeal.defs (F := Ideal)) (onTc (τ := Cert.DXkvRefIdeal.τ) (Cert.DXkvRefIdeal.main (F := Ideal))) ⟨m', fun _ => 0, g'⟩ (fun r => ∀ c : Dev Cert.DXkvRefIdeal.nD,
          r.2.mem ((c.tc : Thread Cert.DXkvRefIdeal.nD Cert.DXkvRefIdeal.τ).loc Cert.DXkvRefIdeal.main_v3) = v0 c
          ∧ r.2.mem ((c.tc : Thread Cert.DXkvRefIdeal.nD Cert.DXkvRefIdeal.τ).loc Cert.DXkvRefIdeal.main_arg0) = m' ((c.tc : Thread Cert.DXkvRefIdeal.nD Cert.DXkvRefIdeal.τ).loc Cert.DXkvRefIdeal.main_arg0)
          ∧ r.2.mem ((c.tc : Thread Cert.DXkvRefIdeal.nD Cert.DXkvRefIdeal.τ).loc Cert.DXkvRefIdeal.main_arg1) = m' ((c.tc : Thread Cert.DXkvRefIdeal.nD Cert.DXkvRefIdeal.τ).loc Cert.DXkvRefIdeal.main_arg1))

def preserves_DMn_DMnIdeal : Prop :=
  True

def algebraic_DMnIdeal_DMnRefIdeal [hDMnIdeal : Cert.DMnIdeal.Facts] [hDMnRefIdeal : Cert.DMnRefIdeal.Facts] : Prop :=
  ∀ (m : (ℓ : Loc Cert.DMnIdeal.nD Cert.DMnIdeal.τ Cert.DMnIdeal.sig) → Buf (Elt Ideal) ℓ) (g : Dev Cert.DMnIdeal.nD → PrngReg)
    (m' : (ℓ : Loc Cert.DMnRefIdeal.nD Cert.DMnRefIdeal.τ Cert.DMnRefIdeal.sig) → Buf (Elt Ideal) ℓ) (g' : Dev Cert.DMnRefIdeal.nD → PrngReg), Pre_DMnIdeal m →
    (∀ c : Dev Cert.DMnIdeal.nD,
      m' ((c.tc : Thread Cert.DMnRefIdeal.nD Cert.DMnRefIdeal.τ).loc Cert.DMnRefIdeal.main_arg0) = m ((c.tc : Thread Cert.DMnIdeal.nD Cert.DMnIdeal.τ).loc Cert.DMnIdeal.main_arg0)
      ∧ m' ((c.tc : Thread Cert.DMnRefIdeal.nD Cert.DMnRefIdeal.τ).loc Cert.DMnRefIdeal.main_arg1) = m ((c.tc : Thread Cert.DMnIdeal.nD Cert.DMnIdeal.τ).loc Cert.DMnIdeal.main_arg1)) →
    ∃ (v0 : (c : Dev Cert.DMnIdeal.nD) → Buf (Elt Ideal) ((c.tc : Thread Cert.DMnIdeal.nD Cert.DMnIdeal.τ).loc Cert.DMnIdeal.main_v2)),
      θ_run (Cert.DMnIdeal.defs (F := Ideal)) (onTc (τ := Cert.DMnIdeal.τ) (Cert.DMnIdeal.main (F := Ideal))) ⟨m, fun _ => 0, g⟩ (fun r => ∀ c : Dev Cert.DMnIdeal.nD,
          r.2.mem ((c.tc : Thread Cert.DMnIdeal.nD Cert.DMnIdeal.τ).loc Cert.DMnIdeal.main_v2) = v0 c
          ∧ r.2.mem ((c.tc : Thread Cert.DMnIdeal.nD Cert.DMnIdeal.τ).loc Cert.DMnIdeal.main_arg0) = m ((c.tc : Thread Cert.DMnIdeal.nD Cert.DMnIdeal.τ).loc Cert.DMnIdeal.main_arg0)
          ∧ r.2.mem ((c.tc : Thread Cert.DMnIdeal.nD Cert.DMnIdeal.τ).loc Cert.DMnIdeal.main_arg1) = m ((c.tc : Thread Cert.DMnIdeal.nD Cert.DMnIdeal.τ).loc Cert.DMnIdeal.main_arg1))
      ∧ θ_run (Cert.DMnRefIdeal.defs (F := Ideal)) (onTc (τ := Cert.DMnRefIdeal.τ) (Cert.DMnRefIdeal.main (F := Ideal))) ⟨m', fun _ => 0, g'⟩ (fun r => ∀ c : Dev Cert.DMnRefIdeal.nD,
          r.2.mem ((c.tc : Thread Cert.DMnRefIdeal.nD Cert.DMnRefIdeal.τ).loc Cert.DMnRefIdeal.main_v2) = v0 c
          ∧ r.2.mem ((c.tc : Thread Cert.DMnRefIdeal.nD Cert.DMnRefIdeal.τ).loc Cert.DMnRefIdeal.main_arg0) = m' ((c.tc : Thread Cert.DMnRefIdeal.nD Cert.DMnRefIdeal.τ).loc Cert.DMnRefIdeal.main_arg0)
          ∧ r.2.mem ((c.tc : Thread Cert.DMnRefIdeal.nD Cert.DMnRefIdeal.τ).loc Cert.DMnRefIdeal.main_arg1) = m' ((c.tc : Thread Cert.DMnRefIdeal.nD Cert.DMnRefIdeal.τ).loc Cert.DMnRefIdeal.main_arg1))

def preserves_DMerge_DMergeIdeal : Prop :=
  True

def algebraic_DMergeIdeal_DMergeRefIdeal [hDMergeIdeal : Cert.DMergeIdeal.Facts] [hDMergeRefIdeal : Cert.DMergeRefIdeal.Facts] : Prop :=
  ∀ (m : (ℓ : Loc Cert.DMergeIdeal.nD Cert.DMergeIdeal.τ Cert.DMergeIdeal.sig) → Buf (Elt Ideal) ℓ) (g : Dev Cert.DMergeIdeal.nD → PrngReg)
    (m' : (ℓ : Loc Cert.DMergeRefIdeal.nD Cert.DMergeRefIdeal.τ Cert.DMergeRefIdeal.sig) → Buf (Elt Ideal) ℓ) (g' : Dev Cert.DMergeRefIdeal.nD → PrngReg), Pre_DMergeIdeal m →
    (∀ c : Dev Cert.DMergeIdeal.nD,
      m' ((c.tc : Thread Cert.DMergeRefIdeal.nD Cert.DMergeRefIdeal.τ).loc Cert.DMergeRefIdeal.main_arg0) = m ((c.tc : Thread Cert.DMergeIdeal.nD Cert.DMergeIdeal.τ).loc Cert.DMergeIdeal.main_arg0)
      ∧ m' ((c.tc : Thread Cert.DMergeRefIdeal.nD Cert.DMergeRefIdeal.τ).loc Cert.DMergeRefIdeal.main_arg1) = m ((c.tc : Thread Cert.DMergeIdeal.nD Cert.DMergeIdeal.τ).loc Cert.DMergeIdeal.main_arg1)
      ∧ m' ((c.tc : Thread Cert.DMergeRefIdeal.nD Cert.DMergeRefIdeal.τ).loc Cert.DMergeRefIdeal.main_arg2) = m ((c.tc : Thread Cert.DMergeIdeal.nD Cert.DMergeIdeal.τ).loc Cert.DMergeIdeal.main_arg2)
      ∧ m' ((c.tc : Thread Cert.DMergeRefIdeal.nD Cert.DMergeRefIdeal.τ).loc Cert.DMergeRefIdeal.main_arg3) = m ((c.tc : Thread Cert.DMergeIdeal.nD Cert.DMergeIdeal.τ).loc Cert.DMergeIdeal.main_arg3)
      ∧ m' ((c.tc : Thread Cert.DMergeRefIdeal.nD Cert.DMergeRefIdeal.τ).loc Cert.DMergeRefIdeal.main_arg4) = m ((c.tc : Thread Cert.DMergeIdeal.nD Cert.DMergeIdeal.τ).loc Cert.DMergeIdeal.main_arg4)
      ∧ m' ((c.tc : Thread Cert.DMergeRefIdeal.nD Cert.DMergeRefIdeal.τ).loc Cert.DMergeRefIdeal.main_arg5) = m ((c.tc : Thread Cert.DMergeIdeal.nD Cert.DMergeIdeal.τ).loc Cert.DMergeIdeal.main_arg5)
      ∧ m' ((c.tc : Thread Cert.DMergeRefIdeal.nD Cert.DMergeRefIdeal.τ).loc Cert.DMergeRefIdeal.main_arg6) = m ((c.tc : Thread Cert.DMergeIdeal.nD Cert.DMergeIdeal.τ).loc Cert.DMergeIdeal.main_arg6)
      ∧ m' ((c.tc : Thread Cert.DMergeRefIdeal.nD Cert.DMergeRefIdeal.τ).loc Cert.DMergeRefIdeal.main_arg7) = m ((c.tc : Thread Cert.DMergeIdeal.nD Cert.DMergeIdeal.τ).loc Cert.DMergeIdeal.main_arg7)
      ∧ m' ((c.tc : Thread Cert.DMergeRefIdeal.nD Cert.DMergeRefIdeal.τ).loc Cert.DMergeRefIdeal.main_arg8) = m ((c.tc : Thread Cert.DMergeIdeal.nD Cert.DMergeIdeal.τ).loc Cert.DMergeIdeal.main_arg8)) →
    ∃ (v0 : (c : Dev Cert.DMergeIdeal.nD) → Buf (Elt Ideal) ((c.tc : Thread Cert.DMergeIdeal.nD Cert.DMergeIdeal.τ).loc Cert.DMergeIdeal.main_v7_0)) (v1 : (c : Dev Cert.DMergeIdeal.nD) → Buf (Elt Ideal) ((c.tc : Thread Cert.DMergeIdeal.nD Cert.DMergeIdeal.τ).loc Cert.DMergeIdeal.main_v7_1)) (v2 : (c : Dev Cert.DMergeIdeal.nD) → Buf (Elt Ideal) ((c.tc : Thread Cert.DMergeIdeal.nD Cert.DMergeIdeal.τ).loc Cert.DMergeIdeal.main_v7_2)) (v3 : (c : Dev Cert.DMergeIdeal.nD) → Buf (Elt Ideal) ((c.tc : Thread Cert.DMergeIdeal.nD Cert.DMergeIdeal.τ).loc Cert.DMergeIdeal.main_v7_3)) (v4 : (c : Dev Cert.DMergeIdeal.nD) → Buf (Elt Ideal) ((c.tc : Thread Cert.DMergeIdeal.nD Cert.DMergeIdeal.τ).loc Cert.DMergeIdeal.main_v7_4)) (v5 : (c : Dev Cert.DMergeIdeal.nD) → Buf (Elt Ideal) ((c.tc : Thread Cert.DMergeIdeal.nD Cert.DMergeIdeal.τ).loc Cert.DMergeIdeal.main_v7_5)) (v6 : (c : Dev Cert.DMergeIdeal.nD) → Buf (Elt Ideal) ((c.tc : Thread Cert.DMergeIdeal.nD Cert.DMergeIdeal.τ).loc Cert.DMergeIdeal.main_v7_6)) (v7 : (c : Dev Cert.DMergeIdeal.nD) → Buf (Elt Ideal) ((c.tc : Thread Cert.DMergeIdeal.nD Cert.DMergeIdeal.τ).loc Cert.DMergeIdeal.main_v7_7)),
      θ_run (Cert.DMergeIdeal.defs (F := Ideal)) (onTc (τ := Cert.DMergeIdeal.τ) (Cert.DMergeIdeal.main (F := Ideal))) ⟨m, fun _ => 0, g⟩ (fun r => ∀ c : Dev Cert.DMergeIdeal.nD,
          r.2.mem ((c.tc : Thread Cert.DMergeIdeal.nD Cert.DMergeIdeal.τ).loc Cert.DMergeIdeal.main_v7_0) = v0 c
          ∧ r.2.mem ((c.tc : Thread Cert.DMergeIdeal.nD Cert.DMergeIdeal.τ).loc Cert.DMergeIdeal.main_v7_1) = v1 c
          ∧ r.2.mem ((c.tc : Thread Cert.DMergeIdeal.nD Cert.DMergeIdeal.τ).loc Cert.DMergeIdeal.main_v7_2) = v2 c
          ∧ r.2.mem ((c.tc : Thread Cert.DMergeIdeal.nD Cert.DMergeIdeal.τ).loc Cert.DMergeIdeal.main_v7_3) = v3 c
          ∧ r.2.mem ((c.tc : Thread Cert.DMergeIdeal.nD Cert.DMergeIdeal.τ).loc Cert.DMergeIdeal.main_v7_4) = v4 c
          ∧ r.2.mem ((c.tc : Thread Cert.DMergeIdeal.nD Cert.DMergeIdeal.τ).loc Cert.DMergeIdeal.main_v7_5) = v5 c
          ∧ r.2.mem ((c.tc : Thread Cert.DMergeIdeal.nD Cert.DMergeIdeal.τ).loc Cert.DMergeIdeal.main_v7_6) = v6 c
          ∧ r.2.mem ((c.tc : Thread Cert.DMergeIdeal.nD Cert.DMergeIdeal.τ).loc Cert.DMergeIdeal.main_v7_7) = v7 c
          ∧ r.2.mem ((c.tc : Thread Cert.DMergeIdeal.nD Cert.DMergeIdeal.τ).loc Cert.DMergeIdeal.main_arg0) = m ((c.tc : Thread Cert.DMergeIdeal.nD Cert.DMergeIdeal.τ).loc Cert.DMergeIdeal.main_arg0)
          ∧ r.2.mem ((c.tc : Thread Cert.DMergeIdeal.nD Cert.DMergeIdeal.τ).loc Cert.DMergeIdeal.main_arg1) = m ((c.tc : Thread Cert.DMergeIdeal.nD Cert.DMergeIdeal.τ).loc Cert.DMergeIdeal.main_arg1)
          ∧ r.2.mem ((c.tc : Thread Cert.DMergeIdeal.nD Cert.DMergeIdeal.τ).loc Cert.DMergeIdeal.main_arg2) = m ((c.tc : Thread Cert.DMergeIdeal.nD Cert.DMergeIdeal.τ).loc Cert.DMergeIdeal.main_arg2)
          ∧ r.2.mem ((c.tc : Thread Cert.DMergeIdeal.nD Cert.DMergeIdeal.τ).loc Cert.DMergeIdeal.main_arg3) = m ((c.tc : Thread Cert.DMergeIdeal.nD Cert.DMergeIdeal.τ).loc Cert.DMergeIdeal.main_arg3)
          ∧ r.2.mem ((c.tc : Thread Cert.DMergeIdeal.nD Cert.DMergeIdeal.τ).loc Cert.DMergeIdeal.main_arg4) = m ((c.tc : Thread Cert.DMergeIdeal.nD Cert.DMergeIdeal.τ).loc Cert.DMergeIdeal.main_arg4)
          ∧ r.2.mem ((c.tc : Thread Cert.DMergeIdeal.nD Cert.DMergeIdeal.τ).loc Cert.DMergeIdeal.main_arg5) = m ((c.tc : Thread Cert.DMergeIdeal.nD Cert.DMergeIdeal.τ).loc Cert.DMergeIdeal.main_arg5)
          ∧ r.2.mem ((c.tc : Thread Cert.DMergeIdeal.nD Cert.DMergeIdeal.τ).loc Cert.DMergeIdeal.main_arg6) = m ((c.tc : Thread Cert.DMergeIdeal.nD Cert.DMergeIdeal.τ).loc Cert.DMergeIdeal.main_arg6)
          ∧ r.2.mem ((c.tc : Thread Cert.DMergeIdeal.nD Cert.DMergeIdeal.τ).loc Cert.DMergeIdeal.main_arg7) = m ((c.tc : Thread Cert.DMergeIdeal.nD Cert.DMergeIdeal.τ).loc Cert.DMergeIdeal.main_arg7)
          ∧ r.2.mem ((c.tc : Thread Cert.DMergeIdeal.nD Cert.DMergeIdeal.τ).loc Cert.DMergeIdeal.main_arg8) = m ((c.tc : Thread Cert.DMergeIdeal.nD Cert.DMergeIdeal.τ).loc Cert.DMergeIdeal.main_arg8))
      ∧ θ_run (Cert.DMergeRefIdeal.defs (F := Ideal)) (onTc (τ := Cert.DMergeRefIdeal.τ) (Cert.DMergeRefIdeal.main (F := Ideal))) ⟨m', fun _ => 0, g'⟩ (fun r => ∀ c : Dev Cert.DMergeRefIdeal.nD,
          r.2.mem ((c.tc : Thread Cert.DMergeRefIdeal.nD Cert.DMergeRefIdeal.τ).loc Cert.DMergeRefIdeal.main_v66) = v0 c
          ∧ r.2.mem ((c.tc : Thread Cert.DMergeRefIdeal.nD Cert.DMergeRefIdeal.τ).loc Cert.DMergeRefIdeal.main_v67) = v1 c
          ∧ r.2.mem ((c.tc : Thread Cert.DMergeRefIdeal.nD Cert.DMergeRefIdeal.τ).loc Cert.DMergeRefIdeal.main_v68) = v2 c
          ∧ r.2.mem ((c.tc : Thread Cert.DMergeRefIdeal.nD Cert.DMergeRefIdeal.τ).loc Cert.DMergeRefIdeal.main_v69) = v3 c
          ∧ r.2.mem ((c.tc : Thread Cert.DMergeRefIdeal.nD Cert.DMergeRefIdeal.τ).loc Cert.DMergeRefIdeal.main_v63) = v4 c
          ∧ r.2.mem ((c.tc : Thread Cert.DMergeRefIdeal.nD Cert.DMergeRefIdeal.τ).loc Cert.DMergeRefIdeal.main_v70) = v5 c
          ∧ r.2.mem ((c.tc : Thread Cert.DMergeRefIdeal.nD Cert.DMergeRefIdeal.τ).loc Cert.DMergeRefIdeal.main_v72) = v6 c
          ∧ r.2.mem ((c.tc : Thread Cert.DMergeRefIdeal.nD Cert.DMergeRefIdeal.τ).loc Cert.DMergeRefIdeal.main_v73) = v7 c
          ∧ r.2.mem ((c.tc : Thread Cert.DMergeRefIdeal.nD Cert.DMergeRefIdeal.τ).loc Cert.DMergeRefIdeal.main_arg0) = m' ((c.tc : Thread Cert.DMergeRefIdeal.nD Cert.DMergeRefIdeal.τ).loc Cert.DMergeRefIdeal.main_arg0)
          ∧ r.2.mem ((c.tc : Thread Cert.DMergeRefIdeal.nD Cert.DMergeRefIdeal.τ).loc Cert.DMergeRefIdeal.main_arg1) = m' ((c.tc : Thread Cert.DMergeRefIdeal.nD Cert.DMergeRefIdeal.τ).loc Cert.DMergeRefIdeal.main_arg1)
          ∧ r.2.mem ((c.tc : Thread Cert.DMergeRefIdeal.nD Cert.DMergeRefIdeal.τ).loc Cert.DMergeRefIdeal.main_arg2) = m' ((c.tc : Thread Cert.DMergeRefIdeal.nD Cert.DMergeRefIdeal.τ).loc Cert.DMergeRefIdeal.main_arg2)
          ∧ r.2.mem ((c.tc : Thread Cert.DMergeRefIdeal.nD Cert.DMergeRefIdeal.τ).loc Cert.DMergeRefIdeal.main_arg3) = m' ((c.tc : Thread Cert.DMergeRefIdeal.nD Cert.DMergeRefIdeal.τ).loc Cert.DMergeRefIdeal.main_arg3)
          ∧ r.2.mem ((c.tc : Thread Cert.DMergeRefIdeal.nD Cert.DMergeRefIdeal.τ).loc Cert.DMergeRefIdeal.main_arg4) = m' ((c.tc : Thread Cert.DMergeRefIdeal.nD Cert.DMergeRefIdeal.τ).loc Cert.DMergeRefIdeal.main_arg4)
          ∧ r.2.mem ((c.tc : Thread Cert.DMergeRefIdeal.nD Cert.DMergeRefIdeal.τ).loc Cert.DMergeRefIdeal.main_arg5) = m' ((c.tc : Thread Cert.DMergeRefIdeal.nD Cert.DMergeRefIdeal.τ).loc Cert.DMergeRefIdeal.main_arg5)
          ∧ r.2.mem ((c.tc : Thread Cert.DMergeRefIdeal.nD Cert.DMergeRefIdeal.τ).loc Cert.DMergeRefIdeal.main_arg6) = m' ((c.tc : Thread Cert.DMergeRefIdeal.nD Cert.DMergeRefIdeal.τ).loc Cert.DMergeRefIdeal.main_arg6)
          ∧ r.2.mem ((c.tc : Thread Cert.DMergeRefIdeal.nD Cert.DMergeRefIdeal.τ).loc Cert.DMergeRefIdeal.main_arg7) = m' ((c.tc : Thread Cert.DMergeRefIdeal.nD Cert.DMergeRefIdeal.τ).loc Cert.DMergeRefIdeal.main_arg7)
          ∧ r.2.mem ((c.tc : Thread Cert.DMergeRefIdeal.nD Cert.DMergeRefIdeal.τ).loc Cert.DMergeRefIdeal.main_arg8) = m' ((c.tc : Thread Cert.DMergeRefIdeal.nD Cert.DMergeRefIdeal.τ).loc Cert.DMergeRefIdeal.main_arg8))

def Claim : Prop :=
  ∃ (hKernel : Cert.Kernel.Facts) (hKernelIdeal : Cert.KernelIdeal.Facts) (hReferenceIdeal : Cert.ReferenceIdeal.Facts) (hMlp2 : Cert.Mlp2.Facts) (hMlp2Ideal : Cert.Mlp2Ideal.Facts) (hMlp2RefIdeal : Cert.Mlp2RefIdeal.Facts) (hDMlp2 : Cert.DMlp2.Facts) (hDMlp2Ideal : Cert.DMlp2Ideal.Facts) (hDMlp2RefIdeal : Cert.DMlp2RefIdeal.Facts) (hDAct : Cert.DAct.Facts) (hDActIdeal : Cert.DActIdeal.Facts) (hDActRefIdeal : Cert.DActRefIdeal.Facts) (hDMlp1 : Cert.DMlp1.Facts) (hDMlp1Ideal : Cert.DMlp1Ideal.Facts) (hDMlp1RefIdeal : Cert.DMlp1RefIdeal.Facts) (hDHm : Cert.DHm.Facts) (hDHmIdeal : Cert.DHmIdeal.Facts) (hDHmRefIdeal : Cert.DHmRefIdeal.Facts) (hInB : Cert.InB.Facts) (hInBIdeal : Cert.InBIdeal.Facts) (hInBRefIdeal : Cert.InBRefIdeal.Facts) (hInC : Cert.InC.Facts) (hInCIdeal : Cert.InCIdeal.Facts) (hInCRefIdeal : Cert.InCRefIdeal.Facts) (hDInA : Cert.DInA.Facts) (hDInAIdeal : Cert.DInAIdeal.Facts) (hDInARefIdeal : Cert.DInARefIdeal.Facts) (hDInB : Cert.DInB.Facts) (hDInBIdeal : Cert.DInBIdeal.Facts) (hDInBRefIdeal : Cert.DInBRefIdeal.Facts) (hDInC : Cert.DInC.Facts) (hDInCIdeal : Cert.DInCIdeal.Facts) (hDInCRefIdeal : Cert.DInCRefIdeal.Facts) (hDHa : Cert.DHa.Facts) (hDHaIdeal : Cert.DHaIdeal.Facts) (hDHaRefIdeal : Cert.DHaRefIdeal.Facts) (hDHb : Cert.DHb.Facts) (hDHbIdeal : Cert.DHbIdeal.Facts) (hDHbRefIdeal : Cert.DHbRefIdeal.Facts) (hDHc : Cert.DHc.Facts) (hDHcIdeal : Cert.DHcIdeal.Facts) (hDHcRefIdeal : Cert.DHcRefIdeal.Facts) (hOut : Cert.Out.Facts) (hOutIdeal : Cert.OutIdeal.Facts) (hOutRefIdeal : Cert.OutRefIdeal.Facts) (hDOut : Cert.DOut.Facts) (hDOutIdeal : Cert.DOutIdeal.Facts) (hDOutRefIdeal : Cert.DOutRefIdeal.Facts) (hDY : Cert.DY.Facts) (hDYIdeal : Cert.DYIdeal.Facts) (hDYRefIdeal : Cert.DYRefIdeal.Facts) (hUpMerge : Cert.UpMerge.Facts) (hUpMergeIdeal : Cert.UpMergeIdeal.Facts) (hUpMergeRefIdeal : Cert.UpMergeRefIdeal.Facts) (hXo : Cert.Xo.Facts) (hXoIdeal : Cert.XoIdeal.Facts) (hXoRefIdeal : Cert.XoRefIdeal.Facts) (hDXo : Cert.DXo.Facts) (hDXoIdeal : Cert.DXoIdeal.Facts) (hDXoRefIdeal : Cert.DXoRefIdeal.Facts) (hDOx : Cert.DOx.Facts) (hDOxIdeal : Cert.DOxIdeal.Facts) (hDOxRefIdeal : Cert.DOxRefIdeal.Facts) (hDXq : Cert.DXq.Facts) (hDXqIdeal : Cert.DXqIdeal.Facts) (hDXqRefIdeal : Cert.DXqRefIdeal.Facts) (hDHx : Cert.DHx.Facts) (hDHxIdeal : Cert.DHxIdeal.Facts) (hDHxRefIdeal : Cert.DHxRefIdeal.Facts) (hDUp : Cert.DUp.Facts) (hDUpIdeal : Cert.DUpIdeal.Facts) (hDUpRefIdeal : Cert.DUpRefIdeal.Facts) (hDUpGla : Cert.DUpGla.Facts) (hDUpGlaIdeal : Cert.DUpGlaIdeal.Facts) (hDUpGlaRefIdeal : Cert.DUpGlaRefIdeal.Facts) (hDUq : Cert.DUq.Facts) (hDUqIdeal : Cert.DUqIdeal.Facts) (hDUqRefIdeal : Cert.DUqRefIdeal.Facts) (hDCqn : Cert.DCqn.Facts) (hDCqnIdeal : Cert.DCqnIdeal.Facts) (hDCqnRefIdeal : Cert.DCqnRefIdeal.Facts) (hDUkv : Cert.DUkv.Facts) (hDUkvIdeal : Cert.DUkvIdeal.Facts) (hDUkvRefIdeal : Cert.DUkvRefIdeal.Facts) (hDCkvn : Cert.DCkvn.Facts) (hDCkvnIdeal : Cert.DCkvnIdeal.Facts) (hDCkvnRefIdeal : Cert.DCkvnRefIdeal.Facts) (hMlp1 : Cert.Mlp1.Facts) (hMlp1Ideal : Cert.Mlp1Ideal.Facts) (hMlp1RefIdeal : Cert.Mlp1RefIdeal.Facts) (hInA : Cert.InA.Facts) (hInAIdeal : Cert.InAIdeal.Facts) (hInARefIdeal : Cert.InARefIdeal.Facts) (hXq : Cert.Xq.Facts) (hXqIdeal : Cert.XqIdeal.Facts) (hXqRefIdeal : Cert.XqRefIdeal.Facts) (hXkv : Cert.Xkv.Facts) (hXkvIdeal : Cert.XkvIdeal.Facts) (hXkvRefIdeal : Cert.XkvRefIdeal.Facts) (hMlaUq : Cert.MlaUq.Facts) (hMlaUqIdeal : Cert.MlaUqIdeal.Facts) (hMlaUqRefIdeal : Cert.MlaUqRefIdeal.Facts) (hMlaUkv : Cert.MlaUkv.Facts) (hMlaUkvIdeal : Cert.MlaUkvIdeal.Facts) (hMlaUkvRefIdeal : Cert.MlaUkvRefIdeal.Facts) (hDXkv : Cert.DXkv.Facts) (hDXkvIdeal : Cert.DXkvIdeal.Facts) (hDXkvRefIdeal : Cert.DXkvRefIdeal.Facts) (hDMn : Cert.DMn.Facts) (hDMnIdeal : Cert.DMnIdeal.Facts) (hDMnRefIdeal : Cert.DMnRefIdeal.Facts) (hDMerge : Cert.DMerge.Facts) (hDMergeIdeal : Cert.DMergeIdeal.Facts) (hDMergeRefIdeal : Cert.DMergeRefIdeal.Facts) (hPre_finite : Cert.Pre_finite.Facts) (hPre_finite_mlp : Cert.Pre_finite_mlp.Facts) (hPre_finite_mix : Cert.Pre_finite_mix.Facts) (hPre_finite_xq : Cert.Pre_finite_xq.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp2 (hMlp2 := hMlp2)
    ∧ quiescent_Mlp2Ideal (hMlp2Ideal := hMlp2Ideal)
    ∧ quiescent_Mlp2RefIdeal (hMlp2RefIdeal := hMlp2RefIdeal)
    ∧ quiescent_DMlp2 (hDMlp2 := hDMlp2)
    ∧ quiescent_DMlp2Ideal (hDMlp2Ideal := hDMlp2Ideal)
    ∧ quiescent_DMlp2RefIdeal (hDMlp2RefIdeal := hDMlp2RefIdeal)
    ∧ quiescent_DAct (hDAct := hDAct)
    ∧ quiescent_DActIdeal (hDActIdeal := hDActIdeal)
    ∧ quiescent_DActRefIdeal (hDActRefIdeal := hDActRefIdeal)
    ∧ quiescent_DMlp1 (hDMlp1 := hDMlp1)
    ∧ quiescent_DMlp1Ideal (hDMlp1Ideal := hDMlp1Ideal)
    ∧ quiescent_DMlp1RefIdeal (hDMlp1RefIdeal := hDMlp1RefIdeal)
    ∧ quiescent_DHm (hDHm := hDHm)
    ∧ quiescent_DHmIdeal (hDHmIdeal := hDHmIdeal)
    ∧ quiescent_DHmIdeal_pre_finite_mlp (hDHmIdeal := hDHmIdeal) (hPre_finite_mlp := hPre_finite_mlp)
    ∧ quiescent_DHmRefIdeal (hDHmRefIdeal := hDHmRefIdeal)
    ∧ quiescent_DHmRefIdeal_pre_finite_mlp (hDHmRefIdeal := hDHmRefIdeal) (hPre_finite_mlp := hPre_finite_mlp)
    ∧ quiescent_InB (hInB := hInB)
    ∧ quiescent_InBIdeal (hInBIdeal := hInBIdeal)
    ∧ quiescent_InBRefIdeal (hInBRefIdeal := hInBRefIdeal)
    ∧ quiescent_InC (hInC := hInC)
    ∧ quiescent_InCIdeal (hInCIdeal := hInCIdeal)
    ∧ quiescent_InCRefIdeal (hInCRefIdeal := hInCRefIdeal)
    ∧ quiescent_DInA (hDInA := hDInA)
    ∧ quiescent_DInAIdeal (hDInAIdeal := hDInAIdeal)
    ∧ quiescent_DInARefIdeal (hDInARefIdeal := hDInARefIdeal)
    ∧ quiescent_DInB (hDInB := hDInB)
    ∧ quiescent_DInBIdeal (hDInBIdeal := hDInBIdeal)
    ∧ quiescent_DInBRefIdeal (hDInBRefIdeal := hDInBRefIdeal)
    ∧ quiescent_DInC (hDInC := hDInC)
    ∧ quiescent_DInCIdeal (hDInCIdeal := hDInCIdeal)
    ∧ quiescent_DInCRefIdeal (hDInCRefIdeal := hDInCRefIdeal)
    ∧ quiescent_DHa (hDHa := hDHa)
    ∧ quiescent_DHaIdeal (hDHaIdeal := hDHaIdeal)
    ∧ quiescent_DHaRefIdeal (hDHaRefIdeal := hDHaRefIdeal)
    ∧ quiescent_DHb (hDHb := hDHb)
    ∧ quiescent_DHbIdeal (hDHbIdeal := hDHbIdeal)
    ∧ quiescent_DHbRefIdeal (hDHbRefIdeal := hDHbRefIdeal)
    ∧ quiescent_DHc (hDHc := hDHc)
    ∧ quiescent_DHcIdeal (hDHcIdeal := hDHcIdeal)
    ∧ quiescent_DHcIdeal_pre_finite_mix (hDHcIdeal := hDHcIdeal) (hPre_finite_mix := hPre_finite_mix)
    ∧ quiescent_DHcRefIdeal (hDHcRefIdeal := hDHcRefIdeal)
    ∧ quiescent_DHcRefIdeal_pre_finite_mix (hDHcRefIdeal := hDHcRefIdeal) (hPre_finite_mix := hPre_finite_mix)
    ∧ quiescent_Out (hOut := hOut)
    ∧ quiescent_OutIdeal (hOutIdeal := hOutIdeal)
    ∧ quiescent_OutRefIdeal (hOutRefIdeal := hOutRefIdeal)
    ∧ quiescent_DOut (hDOut := hDOut)
    ∧ quiescent_DOutIdeal (hDOutIdeal := hDOutIdeal)
    ∧ quiescent_DOutRefIdeal (hDOutRefIdeal := hDOutRefIdeal)
    ∧ quiescent_DY (hDY := hDY)
    ∧ quiescent_DYIdeal (hDYIdeal := hDYIdeal)
    ∧ quiescent_DYRefIdeal (hDYRefIdeal := hDYRefIdeal)
    ∧ quiescent_UpMerge (hUpMerge := hUpMerge)
    ∧ quiescent_UpMergeIdeal (hUpMergeIdeal := hUpMergeIdeal)
    ∧ quiescent_UpMergeRefIdeal (hUpMergeRefIdeal := hUpMergeRefIdeal)
    ∧ quiescent_Xo (hXo := hXo)
    ∧ quiescent_XoIdeal (hXoIdeal := hXoIdeal)
    ∧ quiescent_XoRefIdeal (hXoRefIdeal := hXoRefIdeal)
    ∧ quiescent_DXo (hDXo := hDXo)
    ∧ quiescent_DXoIdeal (hDXoIdeal := hDXoIdeal)
    ∧ quiescent_DXoRefIdeal (hDXoRefIdeal := hDXoRefIdeal)
    ∧ quiescent_DOx (hDOx := hDOx)
    ∧ quiescent_DOxIdeal (hDOxIdeal := hDOxIdeal)
    ∧ quiescent_DOxRefIdeal (hDOxRefIdeal := hDOxRefIdeal)
    ∧ quiescent_DXq (hDXq := hDXq)
    ∧ quiescent_DXqIdeal (hDXqIdeal := hDXqIdeal)
    ∧ quiescent_DXqRefIdeal (hDXqRefIdeal := hDXqRefIdeal)
    ∧ quiescent_DHx (hDHx := hDHx)
    ∧ quiescent_DHxIdeal (hDHxIdeal := hDHxIdeal)
    ∧ quiescent_DHxIdeal_pre_finite_xq (hDHxIdeal := hDHxIdeal) (hPre_finite_xq := hPre_finite_xq)
    ∧ quiescent_DHxRefIdeal (hDHxRefIdeal := hDHxRefIdeal)
    ∧ quiescent_DHxRefIdeal_pre_finite_xq (hDHxRefIdeal := hDHxRefIdeal) (hPre_finite_xq := hPre_finite_xq)
    ∧ quiescent_DUp (hDUp := hDUp)
    ∧ quiescent_DUpIdeal (hDUpIdeal := hDUpIdeal)
    ∧ quiescent_DUpRefIdeal (hDUpRefIdeal := hDUpRefIdeal)
    ∧ quiescent_DUpGla (hDUpGla := hDUpGla)
    ∧ quiescent_DUpGlaIdeal (hDUpGlaIdeal := hDUpGlaIdeal)
    ∧ quiescent_DUpGlaRefIdeal (hDUpGlaRefIdeal := hDUpGlaRefIdeal)
    ∧ quiescent_DUq (hDUq := hDUq)
    ∧ quiescent_DUqIdeal (hDUqIdeal := hDUqIdeal)
    ∧ quiescent_DUqRefIdeal (hDUqRefIdeal := hDUqRefIdeal)
    ∧ quiescent_DCqn (hDCqn := hDCqn)
    ∧ quiescent_DCqnIdeal (hDCqnIdeal := hDCqnIdeal)
    ∧ quiescent_DCqnRefIdeal (hDCqnRefIdeal := hDCqnRefIdeal)
    ∧ quiescent_DUkv (hDUkv := hDUkv)
    ∧ quiescent_DUkvIdeal (hDUkvIdeal := hDUkvIdeal)
    ∧ quiescent_DUkvRefIdeal (hDUkvRefIdeal := hDUkvRefIdeal)
    ∧ quiescent_DCkvn (hDCkvn := hDCkvn)
    ∧ quiescent_DCkvnIdeal (hDCkvnIdeal := hDCkvnIdeal)
    ∧ quiescent_DCkvnRefIdeal (hDCkvnRefIdeal := hDCkvnRefIdeal)
    ∧ quiescent_Mlp1 (hMlp1 := hMlp1)
    ∧ quiescent_Mlp1Ideal (hMlp1Ideal := hMlp1Ideal)
    ∧ quiescent_Mlp1RefIdeal (hMlp1RefIdeal := hMlp1RefIdeal)
    ∧ quiescent_InA (hInA := hInA)
    ∧ quiescent_InAIdeal (hInAIdeal := hInAIdeal)
    ∧ quiescent_InARefIdeal (hInARefIdeal := hInARefIdeal)
    ∧ quiescent_Xq (hXq := hXq)
    ∧ quiescent_XqIdeal (hXqIdeal := hXqIdeal)
    ∧ quiescent_XqRefIdeal (hXqRefIdeal := hXqRefIdeal)
    ∧ quiescent_Xkv (hXkv := hXkv)
    ∧ quiescent_XkvIdeal (hXkvIdeal := hXkvIdeal)
    ∧ quiescent_XkvRefIdeal (hXkvRefIdeal := hXkvRefIdeal)
    ∧ quiescent_MlaUq (hMlaUq := hMlaUq)
    ∧ quiescent_MlaUqIdeal (hMlaUqIdeal := hMlaUqIdeal)
    ∧ quiescent_MlaUqRefIdeal (hMlaUqRefIdeal := hMlaUqRefIdeal)
    ∧ quiescent_MlaUkv (hMlaUkv := hMlaUkv)
    ∧ quiescent_MlaUkvIdeal (hMlaUkvIdeal := hMlaUkvIdeal)
    ∧ quiescent_MlaUkvRefIdeal (hMlaUkvRefIdeal := hMlaUkvRefIdeal)
    ∧ quiescent_DXkv (hDXkv := hDXkv)
    ∧ quiescent_DXkvIdeal (hDXkvIdeal := hDXkvIdeal)
    ∧ quiescent_DXkvRefIdeal (hDXkvRefIdeal := hDXkvRefIdeal)
    ∧ quiescent_DMn (hDMn := hDMn)
    ∧ quiescent_DMnIdeal (hDMnIdeal := hDMnIdeal)
    ∧ quiescent_DMnRefIdeal (hDMnRefIdeal := hDMnRefIdeal)
    ∧ quiescent_DMerge (hDMerge := hDMerge)
    ∧ quiescent_DMergeIdeal (hDMergeIdeal := hDMergeIdeal)
    ∧ quiescent_DMergeRefIdeal (hDMergeRefIdeal := hDMergeRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp2_Mlp2Ideal
    ∧ algebraic_Mlp2Ideal_Mlp2RefIdeal (hMlp2Ideal := hMlp2Ideal) (hMlp2RefIdeal := hMlp2RefIdeal)
    ∧ preserves_DMlp2_DMlp2Ideal
    ∧ algebraic_DMlp2Ideal_DMlp2RefIdeal (hDMlp2Ideal := hDMlp2Ideal) (hDMlp2RefIdeal := hDMlp2RefIdeal)
    ∧ preserves_DAct_DActIdeal
    ∧ algebraic_DActIdeal_DActRefIdeal (hDActIdeal := hDActIdeal) (hDActRefIdeal := hDActRefIdeal)
    ∧ preserves_DMlp1_DMlp1Ideal
    ∧ algebraic_DMlp1Ideal_DMlp1RefIdeal (hDMlp1Ideal := hDMlp1Ideal) (hDMlp1RefIdeal := hDMlp1RefIdeal)
    ∧ preserves_DHm_DHmIdeal
    ∧ algebraic_DHmIdeal_DHmRefIdeal_pre_finite_mlp (hDHmIdeal := hDHmIdeal) (hDHmRefIdeal := hDHmRefIdeal) (hPre_finite_mlp := hPre_finite_mlp)
    ∧ preserves_InB_InBIdeal
    ∧ algebraic_InBIdeal_InBRefIdeal (hInBIdeal := hInBIdeal) (hInBRefIdeal := hInBRefIdeal)
    ∧ preserves_InC_InCIdeal
    ∧ algebraic_InCIdeal_InCRefIdeal (hInCIdeal := hInCIdeal) (hInCRefIdeal := hInCRefIdeal)
    ∧ preserves_DInA_DInAIdeal
    ∧ algebraic_DInAIdeal_DInARefIdeal (hDInAIdeal := hDInAIdeal) (hDInARefIdeal := hDInARefIdeal)
    ∧ preserves_DInB_DInBIdeal
    ∧ algebraic_DInBIdeal_DInBRefIdeal (hDInBIdeal := hDInBIdeal) (hDInBRefIdeal := hDInBRefIdeal)
    ∧ preserves_DInC_DInCIdeal
    ∧ algebraic_DInCIdeal_DInCRefIdeal (hDInCIdeal := hDInCIdeal) (hDInCRefIdeal := hDInCRefIdeal)
    ∧ preserves_DHa_DHaIdeal
    ∧ algebraic_DHaIdeal_DHaRefIdeal (hDHaIdeal := hDHaIdeal) (hDHaRefIdeal := hDHaRefIdeal)
    ∧ preserves_DHb_DHbIdeal
    ∧ algebraic_DHbIdeal_DHbRefIdeal (hDHbIdeal := hDHbIdeal) (hDHbRefIdeal := hDHbRefIdeal)
    ∧ preserves_DHc_DHcIdeal
    ∧ algebraic_DHcIdeal_DHcRefIdeal_pre_finite_mix (hDHcIdeal := hDHcIdeal) (hDHcRefIdeal := hDHcRefIdeal) (hPre_finite_mix := hPre_finite_mix)
    ∧ preserves_Out_OutIdeal
    ∧ algebraic_OutIdeal_OutRefIdeal (hOutIdeal := hOutIdeal) (hOutRefIdeal := hOutRefIdeal)
    ∧ preserves_DOut_DOutIdeal
    ∧ algebraic_DOutIdeal_DOutRefIdeal (hDOutIdeal := hDOutIdeal) (hDOutRefIdeal := hDOutRefIdeal)
    ∧ preserves_DY_DYIdeal
    ∧ algebraic_DYIdeal_DYRefIdeal (hDYIdeal := hDYIdeal) (hDYRefIdeal := hDYRefIdeal)
    ∧ preserves_UpMerge_UpMergeIdeal
    ∧ algebraic_UpMergeIdeal_UpMergeRefIdeal (hUpMergeIdeal := hUpMergeIdeal) (hUpMergeRefIdeal := hUpMergeRefIdeal)
    ∧ preserves_Xo_XoIdeal
    ∧ algebraic_XoIdeal_XoRefIdeal (hXoIdeal := hXoIdeal) (hXoRefIdeal := hXoRefIdeal)
    ∧ preserves_DXo_DXoIdeal
    ∧ algebraic_DXoIdeal_DXoRefIdeal (hDXoIdeal := hDXoIdeal) (hDXoRefIdeal := hDXoRefIdeal)
    ∧ preserves_DOx_DOxIdeal
    ∧ algebraic_DOxIdeal_DOxRefIdeal (hDOxIdeal := hDOxIdeal) (hDOxRefIdeal := hDOxRefIdeal)
    ∧ preserves_DXq_DXqIdeal
    ∧ algebraic_DXqIdeal_DXqRefIdeal (hDXqIdeal := hDXqIdeal) (hDXqRefIdeal := hDXqRefIdeal)
    ∧ preserves_DHx_DHxIdeal
    ∧ algebraic_DHxIdeal_DHxRefIdeal_pre_finite_xq (hDHxIdeal := hDHxIdeal) (hDHxRefIdeal := hDHxRefIdeal) (hPre_finite_xq := hPre_finite_xq)
    ∧ preserves_DUp_DUpIdeal
    ∧ algebraic_DUpIdeal_DUpRefIdeal (hDUpIdeal := hDUpIdeal) (hDUpRefIdeal := hDUpRefIdeal)
    ∧ preserves_DUpGla_DUpGlaIdeal
    ∧ algebraic_DUpGlaIdeal_DUpGlaRefIdeal (hDUpGlaIdeal := hDUpGlaIdeal) (hDUpGlaRefIdeal := hDUpGlaRefIdeal)
    ∧ preserves_DUq_DUqIdeal
    ∧ algebraic_DUqIdeal_DUqRefIdeal (hDUqIdeal := hDUqIdeal) (hDUqRefIdeal := hDUqRefIdeal)
    ∧ preserves_DCqn_DCqnIdeal
    ∧ algebraic_DCqnIdeal_DCqnRefIdeal (hDCqnIdeal := hDCqnIdeal) (hDCqnRefIdeal := hDCqnRefIdeal)
    ∧ preserves_DUkv_DUkvIdeal
    ∧ algebraic_DUkvIdeal_DUkvRefIdeal (hDUkvIdeal := hDUkvIdeal) (hDUkvRefIdeal := hDUkvRefIdeal)
    ∧ preserves_DCkvn_DCkvnIdeal
    ∧ algebraic_DCkvnIdeal_DCkvnRefIdeal (hDCkvnIdeal := hDCkvnIdeal) (hDCkvnRefIdeal := hDCkvnRefIdeal)
    ∧ preserves_Mlp1_Mlp1Ideal
    ∧ algebraic_Mlp1Ideal_Mlp1RefIdeal (hMlp1Ideal := hMlp1Ideal) (hMlp1RefIdeal := hMlp1RefIdeal)
    ∧ preserves_InA_InAIdeal
    ∧ algebraic_InAIdeal_InARefIdeal (hInAIdeal := hInAIdeal) (hInARefIdeal := hInARefIdeal)
    ∧ preserves_Xq_XqIdeal
    ∧ algebraic_XqIdeal_XqRefIdeal (hXqIdeal := hXqIdeal) (hXqRefIdeal := hXqRefIdeal)
    ∧ preserves_Xkv_XkvIdeal
    ∧ algebraic_XkvIdeal_XkvRefIdeal (hXkvIdeal := hXkvIdeal) (hXkvRefIdeal := hXkvRefIdeal)
    ∧ preserves_MlaUq_MlaUqIdeal
    ∧ algebraic_MlaUqIdeal_MlaUqRefIdeal (hMlaUqIdeal := hMlaUqIdeal) (hMlaUqRefIdeal := hMlaUqRefIdeal)
    ∧ preserves_MlaUkv_MlaUkvIdeal
    ∧ algebraic_MlaUkvIdeal_MlaUkvRefIdeal (hMlaUkvIdeal := hMlaUkvIdeal) (hMlaUkvRefIdeal := hMlaUkvRefIdeal)
    ∧ preserves_DXkv_DXkvIdeal
    ∧ algebraic_DXkvIdeal_DXkvRefIdeal (hDXkvIdeal := hDXkvIdeal) (hDXkvRefIdeal := hDXkvRefIdeal)
    ∧ preserves_DMn_DMnIdeal
    ∧ algebraic_DMnIdeal_DMnRefIdeal (hDMnIdeal := hDMnIdeal) (hDMnRefIdeal := hDMnRefIdeal)
    ∧ preserves_DMerge_DMergeIdeal
    ∧ algebraic_DMergeIdeal_DMergeRefIdeal (hDMergeIdeal := hDMergeIdeal) (hDMergeRefIdeal := hDMergeRefIdeal)
-- ==== Pre_finite.lean ====
abbrev S4096x512 : Shape := ⟨2, ![4096, 512]⟩
abbrev S256x1024 : Shape := ⟨2, ![256, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg2 : FVec F S4096x512 .f32) (main_v12 : IVec S_ 1) (main_v14 : IVec S4096x512 1) (main_v15 : FVec F S4096x512 .f32) : IVec S_ 1 :=
  let main_v16 : IVec S4096x512 1 := cmpf .olt main_arg2 main_v15
  let main_v17 : IVec S4096x512 1 := andi main_v14 main_v16
  let main_c_6 : IVec S_ 1 := constantI S_ 1 1#1
  let main_v18 : IVec S_ 1 := (fun x v => Host.reduce IntOp.andi x v reducesTo_S4096x512_S_d0_1 h_S_) main_v17 main_c_6
  let main_v19 : IVec S_ 1 := andi main_v12 main_v18
  main_v19

def fn {F : FTy → Type} [FloatOps F] (main_arg0 : FVec F S4096x512 .f32) (main_arg1 : FVec F S256x1024 .f32) (main_arg2 : FVec F S4096x512 .f32) : IVec S_ 1 :=
  let main_cst : FVec F S_ .f32 := constant S_ .f32 0xFF800000#32
  let main_v0 : FVec F S4096x512 .f32 := broadcastInDim S4096x512 ![] bcast_S_S4096x512 main_cst
  let main_v1 : IVec S4096x512 1 := cmpf .ogt main_arg0 main_v0
  let main_cst_0 : FVec F S_ .f32 := constant S_ .f32 0x7F800000#32
  let main_v2 : FVec F S4096x512 .f32 := broadcastInDim S4096x512 ![] bcast_S_S4096x512 main_cst_0
  let main_v3 : IVec S4096x512 1 := cmpf .olt main_arg0 main_v2
  let main_v4 : IVec S4096x512 1 := andi main_v1 main_v3
  let main_c : IVec S_ 1 := constantI S_ 1 1#1
  let main_v5 : IVec S_ 1 := (fun x v => Host.reduce IntOp.andi x v reducesTo_S4096x512_S_d0_1 h_S_) main_v4 main_c
  let main_cst_1 : FVec F S_ .f32 := constant S_ .f32 0xFF800000#32
  let main_v6 : FVec F S256x1024 .f32 := broadcastInDim S256x1024 ![] bcast_S_S256x1024 main_cst_1
  let main_v7 : IVec S256x1024 1 := cmpf .ogt main_arg1 main_v6
  let main_cst_2 : FVec F S_ .f32 := constant S_ .f32 0x7F800000#32
  let main_v8 : FVec F S256x1024 .f32 := broadcastInDim S256x1024 ![] bcast_S_S256x1024 main_cst_2
  let main_v9 : IVec S256x1024 1 := cmpf .olt main_arg1 main_v8
  let main_v10 : IVec S256x1024 1 := andi main_v7 main_v9
  let main_c_3 : IVec S_ 1 := constantI S_ 1 1#1
  let main_v11 : IVec S_ 1 := (fun x v => Host.reduce IntOp.andi x v reducesTo_S256x1024_S_d0_1 h_S_) main_v10 main_c_3
  let main_v12 : IVec S_ 1 := andi main_v5 main_v11
  let main_cst_4 : FVec F S_ .f32 := constant S_ .f32 0xFF800000#32
  let main_v13 : FVec F S4096x512 .f32 := broadcastInDim S4096x512 ![] bcast_S_S4096x512 main_cst_4
  let main_v14 : IVec S4096x512 1 := cmpf .ogt main_arg2 main_v13
  let main_cst_5 : FVec F S_ .f32 := constant S_ .f32 0x7F800000#32
  let main_v15 : FVec F S4096x512 .f32 := broadcastInDim S4096x512 ![] bcast_S_S4096x512 main_cst_5
  fn_part1 (F := F) main_arg2 main_v12 main_v14 main_v15
-- ==== Pre_finite_mix.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : FVec F S4096x1024 .f32) (main_arg3 : FVec F S4096x1024 .f32) (main_arg5 : FVec F S1x1024 .f32) (main_v12 : IVec S_ 1) (main_v14 : IVec S4096x1024 1) (main_v15 : FVec F S4096x1024 .f32) : IVec S_ 1 :=
  let main_v16 : IVec S4096x1024 1 := cmpf .olt main_arg2 main_v15
  let main_v17 : IVec S4096x1024 1 := andi main_v14 main_v16
  let main_c_6 : IVec S_ 1 := constantI S_ 1 1#1
  let main_v18 : IVec S_ 1 := (fun x v => Host.reduce IntOp.andi x v reducesTo_S4096x1024_S_d0_1 h_S_) main_v17 main_c_6
  let main_v19 : IVec S_ 1 := andi main_v12 main_v18
  let main_cst_7 : FVec F S_ .f32 := constant S_ .f32 0xFF800000#32
  let main_v20 : FVec F S4096x1024 .f32 := broadcastInDim S4096x1024 ![] bcast_S_S4096x1024 main_cst_7
  let main_v21 : IVec S4096x1024 1 := cmpf .ogt main_arg3 main_v20
  let main_cst_8 : FVec F S_ .f32 := constant S_ .f32 0x7F800000#32
  let main_v22 : FVec F S4096x1024 .f32 := broadcastInDim S4096x1024 ![] bcast_S_S4096x1024 main_cst_8
  let main_v23 : IVec S4096x1024 1 := cmpf .olt main_arg3 main_v22
  let main_v24 : IVec S4096x1024 1 := andi main_v21 main_v23
  let main_c_9 : IVec S_ 1 := constantI S_ 1 1#1
  let main_v25 : IVec S_ 1 := (fun x v => Host.reduce IntOp.andi x v reducesTo_S4096x1024_S_d0_1 h_S_) main_v24 main_c_9
  let main_v26 : IVec S_ 1 := andi main_v19 main_v25
  let main_cst_10 : FVec F S_ .f32 := constant S_ .f32 0xFF800000#32
  let main_v27 : FVec F S1x1024 .f32 := broadcastInDim S1x1024 ![] bcast_S_S1x1024 main_cst_10
  let main_v28 : IVec S1x1024 1 := cmpf .ogt main_arg5 main_v27
  let main_cst_11 : FVec F S_ .f32 := constant S_ .f32 0x7F800000#32
  let main_v29 : FVec F S1x1024 .f32 := broadcastInDim S1x1024 ![] bcast_S_S1x1024 main_cst_11
  let main_v30 : IVec S1x1024 1 := cmpf .olt main_arg5 main_v29
  let main_v31 : IVec S1x1024 1 := andi main_v28 main_v30
  let main_c_12 : IVec S_ 1 := constantI S_ 1 1#1
  let main_v32 : IVec S_ 1 := (fun x v => Host.reduce IntOp.andi x v reducesTo_S1x1024_S_d0_1 h_S_) main_v31 main_c_12
  fn_part2 (F := F) main_v26 main_v32

def fn {F : FTy → Type} [FloatOps F] (main_arg0 : FVec F S4096x3072 .f32) (main_arg1 : FVec F S1024x3072 .f32) (main_arg2 : FVec F S4096x1024 .f32) (main_arg3 : FVec F S4096x1024 .f32) (main_arg4 : FVec F S4096x1024 .f32) (main_arg5 : FVec F S1x1024 .f32) : IVec S_ 1 :=
  let main_cst : FVec F S_ .f32 := constant S_ .f32 0xFF800000#32
  let main_v0 : FVec F S4096x3072 .f32 := broadcastInDim S4096x3072 ![] bcast_S_S4096x3072 main_cst
  let main_v1 : IVec S4096x3072 1 := cmpf .ogt main_arg0 main_v0
  let main_cst_0 : FVec F S_ .f32 := constant S_ .f32 0x7F800000#32
  let main_v2 : FVec F S4096x3072 .f32 := broadcastInDim S4096x3072 ![] bcast_S_S4096x3072 main_cst_0
  let main_v3 : IVec S4096x3072 1 := cmpf .olt main_arg0 main_v2
  let main_v4 : IVec S4096x3072 1 := andi main_v1 main_v3
  let main_c : IVec S_ 1 := constantI S_ 1 1#1
  let main_v5 : IVec S_ 1 := (fun x v => Host.reduce IntOp.andi x v reducesTo_S4096x3072_S_d0_1 h_S_) main_v4 main_c
  let main_cst_1 : FVec F S_ .f32 := constant S_ .f32 0xFF800000#32
  let main_v6 : FVec F S1024x3072 .f32 := broadcastInDim S1024x3072 ![] bcast_S_S1024x3072 main_cst_1
  let main_v7 : IVec S1024x3072 1 := cmpf .ogt main_arg1 main_v6
  let main_cst_2 : FVec F S_ .f32 := constant S_ .f32 0x7F800000#32
  let main_v8 : FVec F S1024x3072 .f32 := broadcastInDim S1024x3072 ![] bcast_S_S1024x3072 main_cst_2
  let main_v9 : IVec S1024x3072 1 := cmpf .olt main_arg1 main_v8
  let main_v10 : IVec S1024x3072 1 := andi main_v7 main_v9
  let main_c_3 : IVec S_ 1 := constantI S_ 1 1#1
  let main_v11 : IVec S_ 1 := (fun x v => Host.reduce IntOp.andi x v reducesTo_S1024x3072_S_d0_1 h_S_) main_v10 main_c_3
  let main_v12 : IVec S_ 1 := andi main_v5 main_v11
  let main_cst_4 : FVec F S_ .f32 := constant S_ .f32 0xFF800000#32
  let main_v13 : FVec F S4096x1024 .f32 := broadcastInDim S4096x1024 ![] bcast_S_S4096x1024 main_cst_4
  let main_v14 : IVec S4096x1024 1 := cmpf .ogt main_arg2 main_v13
  let main_cst_5 : FVec F S_ .f32 := constant S_ .f32 0x7F800000#32
  let main_v15 : FVec F S4096x1024 .f32 := broadcastInDim S4096x1024 ![] bcast_S_S4096x1024 main_cst_5
  fn_part1 (F := F) main_arg2 main_arg3 main_arg5 main_v12 main_v14 main_v15
-- ==== Pre_finite_mlp.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg2 : FVec F S4096x1024 .f32) (main_arg4 : FVec F S1x1024 .f32) (main_v12 : IVec S_ 1) (main_v14 : IVec S4096x1024 1) (main_v15 : FVec F S4096x1024 .f32) : IVec S_ 1 :=
  let main_v16 : IVec S4096x1024 1 := cmpf .olt main_arg2 main_v15
  let main_v17 : IVec S4096x1024 1 := andi main_v14 main_v16
  let main_c_6 : IVec S_ 1 := constantI S_ 1 1#1
  let main_v18 : IVec S_ 1 := (fun x v => Host.reduce IntOp.andi x v reducesTo_S4096x1024_S_d0_1 h_S_) main_v17 main_c_6
  let main_v19 : IVec S_ 1 := andi main_v12 main_v18
  let main_cst_7 : FVec F S_ .f32 := constant S_ .f32 0xFF800000#32
  let main_v20 : FVec F S1x1024 .f32 := broadcastInDim S1x1024 ![] bcast_S_S1x1024 main_cst_7
  let main_v21 : IVec S1x1024 1 := cmpf .ogt main_arg4 main_v20
  let main_cst_8 : FVec F S_ .f32 := constant S_ .f32 0x7F800000#32
  let main_v22 : FVec F S1x1024 .f32 := broadcastInDim S1x1024 ![] bcast_S_S1x1024 main_cst_8
  let main_v23 : IVec S1x1024 1 := cmpf .olt main_arg4 main_v22
  let main_v24 : IVec S1x1024 1 := andi main_v21 main_v23
  let main_c_9 : IVec S_ 1 := constantI S_ 1 1#1
  let main_v25 : IVec S_ 1 := (fun x v => Host.reduce IntOp.andi x v reducesTo_S1x1024_S_d0_1 h_S_) main_v24 main_c_9
  let main_v26 : IVec S_ 1 := andi main_v19 main_v25
  main_v26

def fn {F : FTy → Type} [FloatOps F] (main_arg0 : FVec F S4096x4096 .f32) (main_arg1 : FVec F S1024x4096 .f32) (main_arg2 : FVec F S4096x1024 .f32) (main_arg3 : FVec F S4096x1024 .f32) (main_arg4 : FVec F S1x1024 .f32) : IVec S_ 1 :=
  let main_cst : FVec F S_ .f32 := constant S_ .f32 0xFF800000#32
  let main_v0 : FVec F S4096x4096 .f32 := broadcastInDim S4096x4096 ![] bcast_S_S4096x4096 main_cst
  let main_v1 : IVec S4096x4096 1 := cmpf .ogt main_arg0 main_v0
  let main_cst_0 : FVec F S_ .f32 := constant S_ .f32 0x7F800000#32
  let main_v2 : FVec F S4096x4096 .f32 := broadcastInDim S4096x4096 ![] bcast_S_S4096x4096 main_cst_0
  let main_v3 : IVec S4096x4096 1 := cmpf .olt main_arg0 main_v2
  let main_v4 : IVec S4096x4096 1 := andi main_v1 main_v3
  let main_c : IVec S_ 1 := constantI S_ 1 1#1
  let main_v5 : IVec S_ 1 := (fun x v => Host.reduce IntOp.andi x v reducesTo_S4096x4096_S_d0_1 h_S_) main_v4 main_c
  let main_cst_1 : FVec F S_ .f32 := constant S_ .f32 0xFF800000#32
  let main_v6 : FVec F S1024x4096 .f32 := broadcastInDim S1024x4096 ![] bcast_S_S1024x4096 main_cst_1
  let main_v7 : IVec S1024x4096 1 := cmpf .ogt main_arg1 main_v6
  let main_cst_2 : FVec F S_ .f32 := constant S_ .f32 0x7F800000#32
  let main_v8 : FVec F S1024x4096 .f32 := broadcastInDim S1024x4096 ![] bcast_S_S1024x4096 main_cst_2
  let main_v9 : IVec S1024x4096 1 := cmpf .olt main_arg1 main_v8
  let main_v10 : IVec S1024x4096 1 := andi main_v7 main_v9
  let main_c_3 : IVec S_ 1 := constantI S_ 1 1#1
  let main_v11 : IVec S_ 1 := (fun x v => Host.reduce IntOp.andi x v reducesTo_S1024x4096_S_d0_1 h_S_) main_v10 main_c_3
  let main_v12 : IVec S_ 1 := andi main_v5 main_v11
  let main_cst_4 : FVec F S_ .f32 := constant S_ .f32 0xFF800000#32
  let main_v13 : FVec F S4096x1024 .f32 := broadcastInDim S4096x1024 ![] bcast_S_S4096x1024 main_cst_4
  let main_v14 : IVec S4096x1024 1 := cmpf .ogt main_arg2 main_v13
  let main_cst_5 : FVec F S_ .f32 := constant S_ .f32 0x7F800000#32
  let main_v15 : FVec F S4096x1024 .f32 := broadcastInDim S4096x1024 ![] bcast_S_S4096x1024 main_cst_5
  fn_part1 (F := F) main_arg2 main_arg4 main_v12 main_v14 main_v15
-- ==== Pre_finite_xq.lean ====
abbrev S4096x512 : Shape := ⟨2, ![4096, 512]⟩
abbrev S1024x512 : Shape := ⟨2, ![1024, 512]⟩
abbrev S4096x1024 : Shape := ⟨2, ![4096, 1024]⟩
abbrev S1x1024 : Shape := ⟨2, ![1, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg2 : FVec F S4096x1024 .f32) (main_arg4 : FVec F S1x1024 .f32) (main_v12 : IVec S_ 1) (main_v14 : IVec S4096x1024 1) (main_v15 : FVec F S4096x1024 .f32) : IVec S_ 1 :=
  let main_v16 : IVec S4096x1024 1 := cmpf .olt main_arg2 main_v15
  let main_v17 : IVec S4096x1024 1 := andi main_v14 main_v16
  let main_c_6 : IVec S_ 1 := constantI S_ 1 1#1
  let main_v18 : IVec S_ 1 := (fun x v => Host.reduce IntOp.andi x v reducesTo_S4096x1024_S_d0_1 h_S_) main_v17 main_c_6
  let main_v19 : IVec S_ 1 := andi main_v12 main_v18
  let main_cst_7 : FVec F S_ .f32 := constant S_ .f32 0xFF800000#32
  let main_v20 : FVec F S1x1024 .f32 := broadcastInDim S1x1024 ![] bcast_S_S1x1024 main_cst_7
  let main_v21 : IVec S1x1024 1 := cmpf .ogt main_arg4 main_v20
  let main_cst_8 : FVec F S_ .f32 := constant S_ .f32 0x7F800000#32
  let main_v22 : FVec F S1x1024 .f32 := broadcastInDim S1x1024 ![] bcast_S_S1x1024 main_cst_8
  let main_v23 : IVec S1x1024 1 := cmpf .olt main_arg4 main_v22
  let main_v24 : IVec S1x1024 1 := andi main_v21 main_v23
  let main_c_9 : IVec S_ 1 := constantI S_ 1 1#1
  let main_v25 : IVec S_ 1 := (fun x v => Host.reduce IntOp.andi x v reducesTo_S1x1024_S_d0_1 h_S_) main_v24 main_c_9
  let main_v26 : IVec S_ 1 := andi main_v19 main_v25
  main_v26

def fn {F : FTy → Type} [FloatOps F] (main_arg0 : FVec F S4096x512 .f32) (main_arg1 : FVec F S1024x512 .f32) (main_arg2 : FVec F S4096x1024 .f32) (main_arg3 : FVec F S4096x1024 .f32) (main_arg4 : FVec F S1x1024 .f32) : IVec S_ 1 :=
  let main_cst : FVec F S_ .f32 := constant S_ .f32 0xFF800000#32
  let main_v0 : FVec F S4096x512 .f32 := broadcastInDim S4096x512 ![] bcast_S_S4096x512 main_cst
  let main_v1 : IVec S4096x512 1 := cmpf .ogt main_arg0 main_v0
  let main_cst_0 : FVec F S_ .f32 := constant S_ .f32 0x7F800000#32
  let main_v2 : FVec F S4096x512 .f32 := broadcastInDim S4096x512 ![] bcast_S_S4096x512 main_cst_0
  let main_v3 : IVec S4096x512 1 := cmpf .olt main_arg0 main_v2
  let main_v4 : IVec S4096x512 1 := andi main_v1 main_v3
  let main_c : IVec S_ 1 := constantI S_ 1 1#1
  let main_v5 : IVec S_ 1 := (fun x v => Host.reduce IntOp.andi x v reducesTo_S4096x512_S_d0_1 h_S_) main_v4 main_c
  let main_cst_1 : FVec F S_ .f32 := constant S_ .f32 0xFF800000#32
  let main_v6 : FVec F S1024x512 .f32 := broadcastInDim S1024x512 ![] bcast_S_S1024x512 main_cst_1
  let main_v7 : IVec S1024x512 1 := cmpf .ogt main_arg1 main_v6
  let main_cst_2 : FVec F S_ .f32 := constant S_ .f32 0x7F800000#32
  let main_v8 : FVec F S1024x512 .f32 := broadcastInDim S1024x512 ![] bcast_S_S1024x512 main_cst_2
  let main_v9 : IVec S1024x512 1 := cmpf .olt main_arg1 main_v8
  let main_v10 : IVec S1024x512 1 := andi main_v7 main_v9
  let main_c_3 : IVec S_ 1 := constantI S_ 1 1#1
  let main_v11 : IVec S_ 1 := (fun x v => Host.reduce IntOp.andi x v reducesTo_S1024x512_S_d0_1 h_S_) main_v10 main_c_3
  let main_v12 : IVec S_ 1 := andi main_v5 main_v11
  let main_cst_4 : FVec F S_ .f32 := constant S_ .f32 0xFF800000#32
  let main_v13 : FVec F S4096x1024 .f32 := broadcastInDim S4096x1024 ![] bcast_S_S4096x1024 main_cst_4
  let main_v14 : IVec S4096x1024 1 := cmpf .ogt main_arg2 main_v13
  let main_cst_5 : FVec F S_ .f32 := constant S_ .f32 0x7F800000#32
  let main_v15 : FVec F S4096x1024 .f32 := broadcastInDim S4096x1024 ![] bcast_S_S4096x1024 main_cst_5
  fn_part1 (F := F) main_arg2 main_arg4 main_v12 main_v14 main_v15
-- ==== Kernel.lean ====
abbrev S4096x512 : Shape := ⟨2, ![4096, 512]⟩
abbrev S256x1024 : Shape := ⟨2, ![256, 1024]⟩
abbrev S_ : Shape := ⟨0, ![]⟩
abbrev S256x512 : Shape := ⟨2, ![256, 512]⟩
abbrev S4096x4x128 : Shape := ⟨3, ![4096, 4, 128]⟩
abbrev S4x4096x128 : Shape := ⟨3, ![4, 4096, 128]⟩
abbrev S256x4x128 : Shape := ⟨3, ![256, 4, 128]⟩
abbrev S4x256x128 : Shape := ⟨3, ![4, 256, 128]⟩
abbrev S4x4096x256 : Shape := ⟨3, ![4, 4096, 256]⟩
abbrev S4x4096 : Shape := ⟨2, ![4, 4096]⟩
abbrev S4x4096x1 : Shape := ⟨3, ![4, 4096, 1]⟩
abbrev S512x128 : Shape := ⟨2, ![512, 128]⟩
abbrev S256x128 : Shape := ⟨2, ![256, 128]⟩
abbrev S4096x128 : Shape := ⟨2, ![4096, 128]⟩
abbrev S512x256 : Shape := ⟨2, ![512, 256]⟩
abbrev S512 : Shape := ⟨1, ![512]⟩
abbrev S512x1 : Shape := ⟨2, ![512, 1]⟩

abbrev nBuf : Space → Nat
  | .hbm => 46
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S256x1024, .f32⟩
  | .hbm, ⟨2, _⟩ => ⟨S4096x512, .f32⟩
  | .hbm, ⟨3, _⟩ => ⟨S_, .f32⟩
  | .hbm, ⟨4, _⟩ => ⟨S4096x512, .f32⟩
  | .hbm, ⟨5, _⟩ => ⟨S4096x512, .f32⟩
  | .hbm, ⟨6, _⟩ => ⟨S4096x512, .bf16⟩
  | .hbm, ⟨7, _⟩ => ⟨S256x1024, .bf16⟩
  | .hbm, ⟨8, _⟩ => ⟨S4096x512, .bf16⟩
  | .hbm, ⟨9, _⟩ => ⟨S256x512, .bf16⟩
  | .hbm, ⟨10, _⟩ => ⟨S256x512, .bf16⟩
  | .hbm, ⟨11, _⟩ => ⟨S4096x512, .f32⟩
  | .hbm, ⟨12, _⟩ => ⟨S4096x4x128, .f32⟩
  | .hbm, ⟨13, _⟩ => ⟨S4x4096x128, .f32⟩
  | .hbm, ⟨14, _⟩ => ⟨S256x512, .f32⟩
  | .hbm, ⟨15, _⟩ => ⟨S256x4x128, .f32⟩
  | .hbm, ⟨16, _⟩ => ⟨S4x256x128, .f32⟩
  | .hbm, ⟨17, _⟩ => ⟨S4x4096x256, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S4x4096x256, .f32⟩
  | .hbm, ⟨22, _⟩ => ⟨S4x4096x256, .f32⟩
  | .hbm, ⟨23, _⟩ => ⟨S4x4096x256, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S4x4096x256, .f32⟩
  | .hbm, ⟨28, _⟩ => ⟨S4x4096x256, .f32⟩
  | .hbm, ⟨29, _⟩ => ⟨S256x512, .f32⟩
  | .hbm, ⟨30, _⟩ => ⟨S256x4x128, .f32⟩
  | .hbm, ⟨31, _⟩ => ⟨S4x256x128, .f32⟩
  | .hbm, ⟨32, _⟩ => ⟨S4x4096x128, .f32⟩
  | .hbm, ⟨33, _⟩ => ⟨S4096x4x128, .f32⟩
  | .hbm, ⟨34, _⟩ => ⟨S4096x512, .f32⟩
  | .hbm, ⟨35, _⟩ => ⟨S4096x512, .bf16⟩
  | .hbm, ⟨36, _⟩ => ⟨S4x4096x1, .f32⟩
  | .hbm, ⟨37, _⟩ => ⟨S4x4096x1, .f32⟩
  | .hbm, ⟨38, _⟩ => ⟨S_, .i32⟩
  | .hbm, ⟨39, _⟩ => ⟨S_, .f32⟩
  | .hbm, ⟨40, _⟩ => ⟨S4x4096x128, .f32⟩
  | .hbm, ⟨41, _⟩ => ⟨S4096x4x128, .f32⟩
  | .hbm, ⟨42, _⟩ => ⟨S4096x512, .f32⟩
  | .hbm, ⟨43, _⟩ => ⟨S4096x512, .f32⟩
  | .hbm, ⟨44, _⟩ => ⟨S256x512, .f32⟩
  | .hbm, ⟨45, _⟩ => ⟨S256x512, .f32⟩
  | .local _ .vmem, ⟨0, _⟩ => ⟨S512x128, .bf16⟩
  | .local _ .vmem, ⟨1, _⟩ => ⟨S512x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .f32⟩
  | .local _ .vmem, ⟨11, _⟩ => ⟨S512x128, .f32⟩
  | .local _ .vmem, ⟨12, _⟩ => ⟨S4096x128, .f32⟩
  | .local _ .vmem, ⟨13, _⟩ => ⟨S4096x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c : Ref sig .tc := ⟨.hbm, 38, rfl⟩
abbrev main_call0_v0 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35_0 : Ref sig .tc := ⟨.hbm, 43, rfl⟩
abbrev main_v35_1 : Ref sig .tc := ⟨.hbm, 44, rfl⟩
abbrev main_v35_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 1, 8], ![false, false, false]⟩

def k0_mult1 (i : grid0.Coords) : BitVec 32 :=
  let arg2 : BitVec 32 := BitVec.ofNat 32 (i 2).val
  let c512_i32 : BitVec 32 := 512#32
  let v14 : BitVec 32 := Scalar.muli arg2 c512_i32
  let c0_i32_7 : BitVec 32 := 0#32
  let v15 : BitVec 32 := Scalar.addi v14 c0_i32_7
  v15
def k0_off1 (i : grid0.Coords) : Fin 2 → Nat :=
  let arg2 : BitVec 32 := BitVec.ofNat 32 (i 2).val
  let c512_i32 : BitVec 32 := 512#32
  let v14 : BitVec 32 := Scalar.muli arg2 c512_i32
  let c0_i32_7 : BitVec 32 := 0#32
  let v15 : BitVec 32 := Scalar.addi v14 c0_i32_7
  let v16 : BitVec 32 := v15
  let v49 : Index := Scalar.indexCast v16
  let c0_24 : Index := 0#32
  ![v49.toNat, 0]
def k0_cond3 (i : grid0.Coords) : BitVec 1 :=
  let arg2 : BitVec 32 := BitVec.ofNat 32 (i 2).val
  let c7_i32 : BitVec 32 := 7#32
  let v1 : BitVec 1 := Scalar.cmpi .eq arg2 c7_i32
  let v67 : BitVec 32 := Scalar.extui v1
  let c0_i32_35 : BitVec 32 := 0#32
  let v68 : BitVec 1 := Scalar.cmpi .ne v67 c0_i32_35
  v68

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c7_i32 : BitVec 32 := 7#32
  let v1 : BitVec 1 := Scalar.cmpi .eq arg2 c7_i32
  let c0_i32_0 : BitVec 32 := 0#32
  let v2 : BitVec 32 := Scalar.addi c0_i32_0 arg0
  let c0_i32_1 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c7_i32 : BitVec 32 := 7#32
  let v1 : BitVec 1 := Scalar.cmpi .eq arg2 c7_i32
  let c0_i32_0 : BitVec 32 := 0#32
  let v2 : BitVec 32 := Scalar.addi c0_i32_0 arg0
  let c0_i32_1 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c7_i32 : BitVec 32 := 7#32
  let v1 : BitVec 1 := Scalar.cmpi .eq arg2 c7_i32
  let c4_i32 : BitVec 32 := 4#32
  let v2 : BitVec 32 := Scalar.addi c4_i32 arg0
  let c0_i32_0 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c7_i32 : BitVec 32 := 7#32
  let v1 : BitVec 1 := Scalar.cmpi .eq arg2 c7_i32
  let c0_i32_0 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c7_i32 : BitVec 32 := 7#32
  let v1 : BitVec 1 := Scalar.cmpi .eq arg2 c7_i32
  let c0_i32_0 : BitVec 32 := 0#32
  ![arg2.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c7_i32 : BitVec 32 := 7#32
  let v1 : BitVec 1 := Scalar.cmpi .eq arg2 c7_i32
  let c0_i32_0 : BitVec 32 := 0#32
  ![arg2.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c7_i32 : BitVec 32 := 7#32
  let v1 : BitVec 1 := Scalar.cmpi .eq arg2 c7_i32
  let c0_i32_0 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c7_i32 : BitVec 32 := 7#32
  let v1 : BitVec 1 := Scalar.cmpi .eq arg2 c7_i32
  let c0_i32_0 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S4096x512 : Shape := ⟨2, ![4096, 512]⟩
abbrev S256x1024 : Shape := ⟨2, ![256, 1024]⟩
abbrev S256x512 : Shape := ⟨2, ![256, 512]⟩
abbrev S4096x4x128 : Shape := ⟨3, ![4096, 4, 128]⟩
abbrev S4x4096x128 : Shape := ⟨3, ![4, 4096, 128]⟩
abbrev S256x4x128 : Shape := ⟨3, ![256, 4, 128]⟩
abbrev S4x256x128 : Shape := ⟨3, ![4, 256, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x256 : Shape := ⟨3, ![4, 128, 256]⟩

abbrev nBuf : Space → Nat
  | .hbm => 89
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S256x1024, .f32⟩
  | .hbm, ⟨2, _⟩ => ⟨S4096x512, .f32⟩
  | .hbm, ⟨3, _⟩ => ⟨S256x512, .f32⟩
  | .hbm, ⟨4, _⟩ => ⟨S256x512, .f32⟩
  | .hbm, ⟨5, _⟩ => ⟨S4096x4x128, .f32⟩
  | .hbm, ⟨6, _⟩ => ⟨S4x4096x128, .f32⟩
  | .hbm, ⟨7, _⟩ => ⟨S256x4x128, .f32⟩
  | .hbm, ⟨8, _⟩ => ⟨S4x256x128, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S4x4096x256, .f32⟩
  | .hbm, ⟨17, _⟩ => ⟨S4x4096x256, .i1⟩
  | .hbm, ⟨18, _⟩ => ⟨S4x4096x256, .f32⟩
  | .hbm, ⟨19, _⟩ => ⟨S_, .f32⟩
  | .hbm, ⟨20, _⟩ => ⟨S4x4096, .f32⟩
  | .hbm, ⟨21, _⟩ => ⟨S_, .f32⟩
  | .hbm, ⟨22, _⟩ => ⟨S4x4096, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .i1⟩
  | .hbm, ⟨27, _⟩ => ⟨S_, .f32⟩
  | .hbm, ⟨28, _⟩ => ⟨S4x4096, .f32⟩
  | .hbm, ⟨29, _⟩ => ⟨S4x4096, .i1⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S4x4096, .f32⟩
  | .hbm, ⟨37, _⟩ => ⟨S4x4096, .f32⟩
  | .hbm, ⟨38, _⟩ => ⟨S4x4096x1, .f32⟩
  | .hbm, ⟨39, _⟩ => ⟨S4x4096x256, .f32⟩
  | .hbm, ⟨40, _⟩ => ⟨S4x4096x256, .f32⟩
  | .hbm, ⟨41, _⟩ => ⟨S4x4096x256, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S4x4096x256, .f32⟩
  | .hbm, ⟨46, _⟩ => ⟨S4x4096x256, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S256x4x128, .f32⟩
  | .hbm, ⟨52, _⟩ => ⟨S4x256x128, .f32⟩
  | .hbm, ⟨53, _⟩ => ⟨S4x4096x128, .f32⟩
  | .hbm, ⟨54, _⟩ => ⟨S4096x4x128, .f32⟩
  | .hbm, ⟨55, _⟩ => ⟨S4096x512, .f32⟩
  | .hbm, ⟨56, _⟩ => ⟨S4096x4x128, .f32⟩
  | .hbm, ⟨57, _⟩ => ⟨S4x4096x128, .f32⟩
  | .hbm, ⟨58, _⟩ => ⟨S4x128x256, .f32⟩
  | .hbm, ⟨59, _⟩ => ⟨S4x256x128, .f32⟩
  | .hbm, ⟨60, _⟩ => ⟨S4x4096x256, .f32⟩
  | .hbm, ⟨61, _⟩ => ⟨S256x4x128, .f32⟩
  | .hbm, ⟨62, _⟩ => ⟨S256x512, .f32⟩
  | .hbm, ⟨63, _⟩ => ⟨S4x4096x256, .f32⟩
  | .hbm, ⟨64, _⟩ => ⟨S4x4096x256, .f32⟩
  | .hbm, ⟨65, _⟩ => ⟨S4x4096x256, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S4x4096x1, .f32⟩
  | .hbm, ⟨70, _⟩ => ⟨S4x4096x256, .f32⟩
  | .hbm, ⟨71, _⟩ => ⟨S4x4096x256, .f32⟩
  | .hbm, ⟨72, _⟩ => ⟨S_, .f32⟩
  | .hbm, ⟨73, _⟩ => ⟨S4x4096, .f32⟩
  | .hbm, ⟨74, _⟩ => ⟨S4x4096x256, .f32⟩
  | .hbm, ⟨75, _⟩ => ⟨S4x4096x256, .f32⟩
  | .hbm, ⟨76, _⟩ => ⟨S4x4096x256, .f32⟩
  | .hbm, ⟨77, _⟩ => ⟨S_, .f32⟩
  | .hbm, ⟨78, _⟩ => ⟨S4x4096x256, .f32⟩
  | .hbm, ⟨79, _⟩ => ⟨S4x4096x256, .f32⟩
  | .hbm, ⟨80, _⟩ => ⟨S4x256x128, .f32⟩
  | .hbm, ⟨81, _⟩ => ⟨S4x4096x128, .f32⟩
  | .hbm, ⟨82, _⟩ => ⟨S256x4x128, .f32⟩
  | .hbm, ⟨83, _⟩ => ⟨S256x512, .f32⟩
  | .hbm, ⟨84, _⟩ => ⟨S4096x4x128, .f32⟩
  | .hbm, ⟨85, _⟩ => ⟨S4096x512, .f32⟩
  | .hbm, ⟨86, _⟩ => ⟨S256x1024, .f32⟩
  | .hbm, ⟨87, _⟩ => ⟨S256x512, .f32⟩
  | .hbm, ⟨88, _⟩ => ⟨S256x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== Mlp2.lean ====
abbrev S4096x4096 : Shape := ⟨2, ![4096, 4096]⟩
abbrev S4096x1024 : Shape := ⟨2, ![4096, 1024]⟩
abbrev S512x4096 : Shape := ⟨2, ![512, 4096]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x4096, .bf16⟩
  | .hbm, ⟨4, _⟩ => ⟨S4096x1024, .bf16⟩
  | .hbm, ⟨5, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Mlp2RefIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== DMlp2.lean ====
abbrev S4096x4096 : Shape := ⟨2, ![4096, 4096]⟩
abbrev S4096x1024 : Shape := ⟨2, ![4096, 1024]⟩
abbrev S4096x512 : Shape := ⟨2, ![4096, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .f32⟩
  | .local _ .vmem, ⟨0, _⟩ => ⟨S4096x512, .bf16⟩
  | .local _ .vmem, ⟨1, _⟩ => ⟨S4096x512, .bf16⟩
  | .local _ .vmem, ⟨2, _⟩ => ⟨S4096x512, .f32⟩
  | .local _ .vmem, ⟨3, _⟩ => ⟨S4096x512, .f32⟩
  | .local _ .vmem, ⟨4, _⟩ => ⟨S512x512, .f32⟩
  | .local _ .vmem, ⟨5, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DMlp2RefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== DAct.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x4096, .bf16⟩
  | .hbm, ⟨5, _⟩ => ⟨S4096x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DActRefIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== DMlp1.lean ====
abbrev S4096x1024 : Shape := ⟨2, ![4096, 1024]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S1024x4096, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DMlp1RefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DHm.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x4096, .bf16⟩
  | .hbm, ⟨6, _⟩ => ⟨S1024x4096, .bf16⟩
  | .hbm, ⟨7, _⟩ => ⟨S4096x1024, .f32⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== DHmRefIdeal.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== InB.lean ====
abbrev S4096x1024 : Shape := ⟨2, ![4096, 1024]⟩
abbrev S1024x2560 : Shape := ⟨2, ![1024, 2560]⟩
abbrev S4096x2560 : Shape := ⟨2, ![4096, 2560]⟩
abbrev S1024x1024 : Shape := ⟨2, ![1024, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2560, .f32⟩
  | .hbm, ⟨2, _⟩ => ⟨S4096x1024, .bf16⟩
  | .hbm, ⟨3, _⟩ => ⟨S1024x2560, .bf16⟩
  | .hbm, ⟨4, _⟩ => ⟨S4096x2560, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InBRefIdeal.lean ====
abbrev S4096x1024 : Shape := ⟨2, ![4096, 1024]⟩
abbrev S1024x2560 : Shape := ⟨2, ![1024, 2560]⟩
abbrev S4096x2560 : Shape := ⟨2, ![4096, 2560]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2560, .f32⟩
  | .hbm, ⟨2, _⟩ => ⟨S4096x2560, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InC.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x1024, .bf16⟩
  | .hbm, ⟨3, _⟩ => ⟨S1024x3072, .bf16⟩
  | .hbm, ⟨4, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InCRefIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DInA.lean ====
abbrev S4096x1024 : Shape := ⟨2, ![4096, 1024]⟩
abbrev S4096x768 : Shape := ⟨2, ![4096, 768]⟩
abbrev S1024x768 : Shape := ⟨2, ![1024, 768]⟩

abbrev nBuf : Space → Nat
  | .hbm => 5
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x768, .f32⟩
  | .hbm, ⟨2, _⟩ => ⟨S4096x1024, .bf16⟩
  | .hbm, ⟨3, _⟩ => ⟨S4096x768, .bf16⟩
  | .hbm, ⟨4, _⟩ => ⟨S1024x768, .f32⟩
  | .local _ .vmem, ⟨0, _⟩ => ⟨S4096x1024, .bf16⟩
  | .local _ .vmem, ⟨1, _⟩ => ⟨S4096x768, .bf16⟩
  | .local _ .vmem, ⟨2, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== DInARefIdeal.lean ====
abbrev S4096x1024 : Shape := ⟨2, ![4096, 1024]⟩
abbrev S4096x768 : Shape := ⟨2, ![4096, 768]⟩
abbrev S_ : Shape := ⟨0, ![]⟩
abbrev S1024x768 : Shape := ⟨2, ![1024, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x768, .f32⟩
  | .hbm, ⟨2, _⟩ => ⟨S_, .f32⟩
  | .hbm, ⟨3, _⟩ => ⟨S1024x768, .f32⟩
  | .hbm, ⟨4, _⟩ => ⟨S4096x768, .f32⟩
  | .hbm, ⟨5, _⟩ => ⟨S768x1024, .f32⟩
  | .hbm, ⟨6, _⟩ => ⟨S1024x768, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DInB.lean ====
abbrev S4096x1024 : Shape := ⟨2, ![4096, 1024]⟩
abbrev S4096x2560 : Shape := ⟨2, ![4096, 2560]⟩
abbrev S1024x2560 : Shape := ⟨2, ![1024, 2560]⟩
abbrev S4096x512 : Shape := ⟨2, ![4096, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S4096x1024, .bf16⟩
  | .hbm, ⟨3, _⟩ => ⟨S4096x2560, .bf16⟩
  | .hbm, ⟨4, _⟩ => ⟨S1024x2560, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DInBRefIdeal.lean ====
abbrev S4096x1024 : Shape := ⟨2, ![4096, 1024]⟩
abbrev S4096x2560 : Shape := ⟨2, ![4096, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S_, .f32⟩
  | .hbm, ⟨3, _⟩ => ⟨S1024x2560, .f32⟩
  | .hbm, ⟨4, _⟩ => ⟨S4096x2560, .f32⟩
  | .hbm, ⟨5, _⟩ => ⟨S2560x1024, .f32⟩
  | .hbm, ⟨6, _⟩ => ⟨S1024x2560, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DInC.lean ====
abbrev S4096x1024 : Shape := ⟨2, ![4096, 1024]⟩
abbrev S4096x3072 : Shape := ⟨2, ![4096, 3072]⟩
abbrev S1024x3072 : Shape := ⟨2, ![1024, 3072]⟩
abbrev S4096x512 : Shape := ⟨2, ![4096, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x1024, .bf16⟩
  | .hbm, ⟨3, _⟩ => ⟨S4096x3072, .bf16⟩
  | .hbm, ⟨4, _⟩ => ⟨S1024x3072, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DInCRefIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S_, .f32⟩
  | .hbm, ⟨3, _⟩ => ⟨S1024x3072, .f32⟩
  | .hbm, ⟨4, _⟩ => ⟨S4096x3072, .f32⟩
  | .hbm, ⟨5, _⟩ => ⟨S3072x1024, .f32⟩
  | .hbm, ⟨6, _⟩ => ⟨S1024x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DHa.lean ====
abbrev S4096x768 : Shape := ⟨2, ![4096, 768]⟩
abbrev S1024x768 : Shape := ⟨2, ![1024, 768]⟩
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x768, .f32⟩
  | .hbm, ⟨1, _⟩ => ⟨S1024x768, .f32⟩
  | .hbm, ⟨2, _⟩ => ⟨S4096x768, .bf16⟩
  | .hbm, ⟨3, _⟩ => ⟨S1024x768, .bf16⟩
  | .hbm, ⟨4, _⟩ => ⟨S4096x1024, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x1024, .f32⟩
  | .local _ .vmem, ⟨4, _⟩ => ⟨S1024x1024, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DHaRefIdeal.lean ====
abbrev S4096x768 : Shape := ⟨2, ![4096, 768]⟩
abbrev S1024x768 : Shape := ⟨2, ![1024, 768]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S1024x768, .f32⟩
  | .hbm, ⟨2, _⟩ => ⟨S_, .f32⟩
  | .hbm, ⟨3, _⟩ => ⟨S4096x1024, .f32⟩
  | .hbm, ⟨4, _⟩ => ⟨S4096x768, .f32⟩
  | .hbm, ⟨5, _⟩ => ⟨S4096x1024, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DHb.lean ====
abbrev S4096x2560 : Shape := ⟨2, ![4096, 2560]⟩
abbrev S1024x2560 : Shape := ⟨2, ![1024, 2560]⟩
abbrev S4096x1024 : Shape := ⟨2, ![4096, 1024]⟩
abbrev S512x2560 : Shape := ⟨2, ![512, 2560]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x2560, .f32⟩
  | .hbm, ⟨1, _⟩ => ⟨S1024x2560, .f32⟩
  | .hbm, ⟨2, _⟩ => ⟨S4096x1024, .f32⟩
  | .hbm, ⟨3, _⟩ => ⟨S4096x2560, .bf16⟩
  | .hbm, ⟨4, _⟩ => ⟨S1024x2560, .bf16⟩
  | .hbm, ⟨5, _⟩ => ⟨S4096x1024, .f32⟩
  | .local _ .vmem, ⟨0, _⟩ => ⟨S1024x2560, .bf16⟩
  | .local _ .vmem, ⟨1, _⟩ => ⟨S1024x2560, .bf16⟩
  | .local _ .vmem, ⟨2, _⟩ => ⟨S512x2560, .bf16⟩
  | .local _ .vmem, ⟨3, _⟩ => ⟨S512x2560, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DHbRefIdeal.lean ====
abbrev S4096x2560 : Shape := ⟨2, ![4096, 2560]⟩
abbrev S1024x2560 : Shape := ⟨2, ![1024, 2560]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S1024x2560, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x2560, .f32⟩
  | .hbm, ⟨6, _⟩ => ⟨S4096x1024, .f32⟩
  | .hbm, ⟨7, _⟩ => ⟨S4096x1024, .f32⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== DHc.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x3072, .bf16⟩
  | .hbm, ⟨7, _⟩ => ⟨S1024x3072, .bf16⟩
  | .hbm, ⟨8, _⟩ => ⟨S4096x1024, .f32⟩
  | .hbm, ⟨9, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== DHcRefIdeal.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x3072, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DOut.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .f32⟩
  | .local _ .vmem, ⟨0, _⟩ => ⟨S4096x1024, .bf16⟩
  | .local _ .vmem, ⟨1, _⟩ => ⟨S4096x512, .f32⟩
  | .local _ .vmem, ⟨2, _⟩ => ⟨S4096x512, .f32⟩
  | .local _ .vmem, ⟨3, _⟩ => ⟨S1024x512, .f32⟩
  | .local _ .vmem, ⟨4, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DOutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DY.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DYRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpMerge.lean ====
abbrev S4096x256 : Shape := ⟨2, ![4096, 256]⟩
abbrev S4096x512 : Shape := ⟨2, ![4096, 512]⟩
abbrev S256x1024 : Shape := ⟨2, ![256, 1024]⟩
abbrev S512x1024 : Shape := ⟨2, ![512, 1024]⟩
abbrev S4096x3072 : Shape := ⟨2, ![4096, 3072]⟩
abbrev S1x3072 : Shape := ⟨2, ![1, 3072]⟩
abbrev S4096x1024 : Shape := ⟨2, ![4096, 1024]⟩
abbrev S1024x256 : Shape := ⟨2, ![1024, 256]⟩
abbrev S1024x512 : Shape := ⟨2, ![1024, 512]⟩
abbrev S256x512 : Shape := ⟨2, ![256, 512]⟩
abbrev S512x512 : Shape := ⟨2, ![512, 512]⟩
abbrev S1x512 : Shape := ⟨2, ![1, 512]⟩

abbrev nBuf : Space → Nat
  | .hbm => 15
  | .vmem => 26
  | .smem => 0
  | _ => 0

abbrev bufTy : (tb : Table) → Fin (tcTables nBuf tb) → BufTy
  | .hbm, ⟨0, _⟩ => ⟨S4096x256, .f32⟩
  | .hbm, ⟨1, _⟩ => ⟨S4096x512, .f32⟩
  | .hbm, ⟨2, _⟩ => ⟨S4096x256, .f32⟩
  | .hbm, ⟨3, _⟩ => ⟨S256x1024, .f32⟩
  | .hbm, ⟨4, _⟩ => ⟨S512x1024, .f32⟩
  | .hbm, ⟨5, _⟩ => ⟨S256x1024, .f32⟩
  | .hbm, ⟨6, _⟩ => ⟨S4096x3072, .f32⟩
  | .hbm, ⟨7, _⟩ => ⟨S1x3072, .f32⟩
  | .hbm, ⟨8, _⟩ => ⟨S4096x256, .bf16⟩
  | .hbm, ⟨9, _⟩ => ⟨S4096x512, .bf16⟩
  | .hbm, ⟨10, _⟩ => ⟨S4096x256, .bf16⟩
  | .hbm, ⟨11, _⟩ => ⟨S256x1024, .bf16⟩
  | .hbm, ⟨12, _⟩ => ⟨S512x1024, .bf16⟩
  | .hbm, ⟨13, _⟩ => ⟨S256x1024, .bf16⟩
  | .hbm, ⟨14, _⟩ => ⟨S4096x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x512, .bf16⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S256x512, .bf16⟩
  | .local _ .vmem, ⟨7, _⟩ => ⟨S256x512, .bf16⟩
  | .local _ .vmem, ⟨8, _⟩ => ⟨S512x512, .bf16⟩
  | .local _ .vmem, ⟨9, _⟩ => ⟨S512x512, .bf16⟩
  | .local _ .vmem, ⟨10, _⟩ => ⟨S256x512, .bf16⟩
  | .local _ .vmem, ⟨11, _⟩ => ⟨S256x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1024x512, .bf16⟩
  | .local _ .vmem, ⟨25, _⟩ => ⟨S1024x512, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== UpMergeRefIdeal.lean ====
abbrev S4096x256 : Shape := ⟨2, ![4096, 256]⟩
abbrev S4096x512 : Shape := ⟨2, ![4096, 512]⟩
abbrev S256x1024 : Shape := ⟨2, ![256, 1024]⟩
abbrev S512x1024 : Shape := ⟨2, ![512, 1024]⟩
abbrev S4096x3072 : Shape := ⟨2, ![4096, 3072]⟩
abbrev S1x3072 : Shape := ⟨2, ![1, 3072]⟩
abbrev S_ : Shape := ⟨0, ![]⟩
abbrev S4096x3x1024 : Shape := ⟨3, ![4096, 3, 1024]⟩
abbrev S4096x1x1024 : Shape := ⟨3, ![4096, 1, 1024]⟩
abbrev S4096x1024 : Shape := ⟨2, ![4096, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x512, .f32⟩
  | .hbm, ⟨2, _⟩ => ⟨S4096x256, .f32⟩
  | .hbm, ⟨3, _⟩ => ⟨S256x1024, .f32⟩
  | .hbm, ⟨4, _⟩ => ⟨S512x1024, .f32⟩
  | .hbm, ⟨5, _⟩ => ⟨S256x1024, .f32⟩
  | .hbm, ⟨6, _⟩ => ⟨S4096x3072, .f32⟩
  | .hbm, ⟨7, _⟩ => ⟨S1x3072, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S4096x3x1024, .f32⟩
  | .hbm, ⟨19, _⟩ => ⟨S4096x1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Xo.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x512, .bf16⟩
  | .hbm, ⟨4, _⟩ => ⟨S512x1024, .bf16⟩
  | .hbm, ⟨5, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XoRefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DXo.lean ====
abbrev S4096x512 : Shape := ⟨2, ![4096, 512]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .bf16⟩
  | .hbm, ⟨3, _⟩ => ⟨S512x1024, .f32⟩
  | .local _ .vmem, ⟨0, _⟩ => ⟨S4096x512, .bf16⟩
  | .local _ .vmem, ⟨1, _⟩ => ⟨S4096x512, .f32⟩
  | .local _ .vmem, ⟨2, _⟩ => ⟨S4096x512, .f32⟩
  | .local _ .vmem, ⟨3, _⟩ => ⟨S512x512, .f32⟩
  | .local _ .vmem, ⟨4, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DXoRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DOx.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S512x1024, .f32⟩
  | .hbm, ⟨2, _⟩ => ⟨S512x1024, .bf16⟩
  | .hbm, ⟨3, _⟩ => ⟨S4096x512, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DOxRefIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S512x1024, .f32⟩
  | .hbm, ⟨2, _⟩ => ⟨S_, .f32⟩
  | .hbm, ⟨3, _⟩ => ⟨S4096x512, .f32⟩
  | .hbm, ⟨4, _⟩ => ⟨S4096x1024, .f32⟩
  | .hbm, ⟨5, _⟩ => ⟨S4096x512, .f32⟩
  | .hbm, ⟨6, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DXq.lean ====
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 5
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1024, .bf16⟩
  | .hbm, ⟨3, _⟩ => ⟨S4096x512, .bf16⟩
  | .hbm, ⟨4, _⟩ => ⟨S1024x512, .f32⟩
  | .local _ .vmem, ⟨0, _⟩ => ⟨S4096x1024, .bf16⟩
  | .local _ .vmem, ⟨1, _⟩ => ⟨S4096x512, .bf16⟩
  | .local _ .vmem, ⟨2, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== DXqRefIdeal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S_, .f32⟩
  | .hbm, ⟨3, _⟩ => ⟨S1024x512, .f32⟩
  | .hbm, ⟨4, _⟩ => ⟨S4096x512, .f32⟩
  | .hbm, ⟨5, _⟩ => ⟨S512x1024, .f32⟩
  | .hbm, ⟨6, _⟩ => ⟨S1024x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DHx.lean ====
abbrev S4096x512 : Shape := ⟨2, ![4096, 512]⟩
abbrev S1024x512 : Shape := ⟨2, ![1024, 512]⟩
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x512, .f32⟩
  | .hbm, ⟨1, _⟩ => ⟨S1024x512, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x512, .bf16⟩
  | .hbm, ⟨6, _⟩ => ⟨S1024x512, .bf16⟩
  | .hbm, ⟨7, _⟩ => ⟨S4096x1024, .f32⟩
  | .hbm, ⟨8, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== DHxRefIdeal.lean ====
abbrev S4096x512 : Shape := ⟨2, ![4096, 512]⟩
abbrev S1024x512 : Shape := ⟨2, ![1024, 512]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1024x512, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x512, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== DUp.lean ====
abbrev S4096x256 : Shape := ⟨2, ![4096, 256]⟩
abbrev S4096x1024 : Shape := ⟨2, ![4096, 1024]⟩
abbrev S256x1024 : Shape := ⟨2, ![256, 1024]⟩

abbrev nBuf : Space → Nat
  | .hbm => 5
  | .vmem => 3
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S4096x256, .bf16⟩
  | .hbm, ⟨3, _⟩ => ⟨S4096x1024, .bf16⟩
  | .hbm, ⟨4, _⟩ => ⟨S256x1024, .f32⟩
  | .local _ .vmem, ⟨0, _⟩ => ⟨S4096x256, .bf16⟩
  | .local _ .vmem, ⟨1, _⟩ => ⟨S4096x1024, .bf16⟩
  | .local _ .vmem, ⟨2, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== DUpIdeal.lean ====
abbrev S4096x256 : Shape := ⟨2, ![4096, 256]⟩
abbrev S4096x1024 : Shape := ⟨2, ![4096, 1024]⟩
abbrev S256x1024 : Shape := ⟨2, ![256, 1024]⟩

abbrev nBuf : Space → Nat
  | .hbm => 5
  | .vmem => 3
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S4096x256, .bf16⟩
  | .hbm, ⟨3, _⟩ => ⟨S4096x1024, .bf16⟩
  | .hbm, ⟨4, _⟩ => ⟨S256x1024, .f32⟩
  | .local _ .vmem, ⟨0, _⟩ => ⟨S4096x256, .bf16⟩
  | .local _ .vmem, ⟨1, _⟩ => ⟨S4096x1024, .bf16⟩
  | .local _ .vmem, ⟨2, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== DUpRefIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S1024x256, .f32⟩
  | .hbm, ⟨6, _⟩ => ⟨S256x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DUpGla.lean ====
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 5
  | .vmem => 3
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .bf16⟩
  | .hbm, ⟨3, _⟩ => ⟨S4096x1024, .bf16⟩
  | .hbm, ⟨4, _⟩ => ⟨S512x1024, .f32⟩
  | .local _ .vmem, ⟨0, _⟩ => ⟨S4096x512, .bf16⟩
  | .local _ .vmem, ⟨1, _⟩ => ⟨S4096x1024, .bf16⟩
  | .local _ .vmem, ⟨2, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== DUpGlaRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DUq.lean ====
abbrev S4096x256 : Shape := ⟨2, ![4096, 256]⟩
abbrev S4096x512 : Shape := ⟨2, ![4096, 512]⟩
abbrev S256x512 : Shape := ⟨2, ![256, 512]⟩

abbrev nBuf : Space → Nat
  | .hbm => 5
  | .vmem => 3
  | .smem => 0
  | _ => 0

abbrev bufTy : (tb : Table) → Fin (tcTables nBuf tb) → BufTy
  | .hbm, ⟨0, _⟩ => ⟨S4096x256, .f32⟩
  | .hbm, ⟨1, _⟩ => ⟨S4096x512, .f32⟩
  | .hbm, ⟨2, _⟩ => ⟨S4096x256, .bf16⟩
  | .hbm, ⟨3, _⟩ => ⟨S4096x512, .bf16⟩
  | .hbm, ⟨4, _⟩ => ⟨S256x512, .f32⟩
  | .local _ .vmem, ⟨0, _⟩ => ⟨S4096x256, .bf16⟩
  | .local _ .vmem, ⟨1, _⟩ => ⟨S4096x512, .bf16⟩
  | .local _ .vmem, ⟨2, _⟩ => ⟨S256x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== DUqRefIdeal.lean ====
abbrev S4096x256 : Shape := ⟨2, ![4096, 256]⟩
abbrev S4096x512 : Shape := ⟨2, ![4096, 512]⟩
abbrev S_ : Shape := ⟨0, ![]⟩
abbrev S256x512 : Shape := ⟨2, ![256, 512]⟩
abbrev S512x256 : Shape := ⟨2, ![512, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x512, .f32⟩
  | .hbm, ⟨2, _⟩ => ⟨S_, .f32⟩
  | .hbm, ⟨3, _⟩ => ⟨S256x512, .f32⟩
  | .hbm, ⟨4, _⟩ => ⟨S4096x512, .f32⟩
  | .hbm, ⟨5, _⟩ => ⟨S512x256, .f32⟩
  | .hbm, ⟨6, _⟩ => ⟨S256x512, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DCqn.lean ====
abbrev S4096x512 : Shape := ⟨2, ![4096, 512]⟩
abbrev S256x512 : Shape := ⟨2, ![256, 512]⟩
abbrev S4096x256 : Shape := ⟨2, ![4096, 256]⟩
abbrev S1024x512 : Shape := ⟨2, ![1024, 512]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S256x512, .f32⟩
  | .hbm, ⟨2, _⟩ => ⟨S4096x512, .bf16⟩
  | .hbm, ⟨3, _⟩ => ⟨S256x512, .bf16⟩
  | .hbm, ⟨4, _⟩ => ⟨S4096x256, .f32⟩
  | .local _ .vmem, ⟨0, _⟩ => ⟨S1024x512, .bf16⟩
  | .local _ .vmem, ⟨1, _⟩ => ⟨S1024x512, .bf16⟩
  | .local _ .vmem, ⟨2, _⟩ => ⟨S256x512, .bf16⟩
  | .local _ .vmem, ⟨3, _⟩ => ⟨S1024x256, .f32⟩
  | .local _ .vmem, ⟨4, _⟩ => ⟨S1024x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DCqnRefIdeal.lean ====
abbrev S4096x512 : Shape := ⟨2, ![4096, 512]⟩
abbrev S256x512 : Shape := ⟨2, ![256, 512]⟩
abbrev S_ : Shape := ⟨0, ![]⟩
abbrev S4096x256 : Shape := ⟨2, ![4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S256x512, .f32⟩
  | .hbm, ⟨2, _⟩ => ⟨S_, .f32⟩
  | .hbm, ⟨3, _⟩ => ⟨S4096x256, .f32⟩
  | .hbm, ⟨4, _⟩ => ⟨S4096x512, .f32⟩
  | .hbm, ⟨5, _⟩ => ⟨S4096x256, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DUkv.lean ====
abbrev S4096x128 : Shape := ⟨2, ![4096, 128]⟩
abbrev S4096x512 : Shape := ⟨2, ![4096, 512]⟩
abbrev S128x512 : Shape := ⟨2, ![128, 512]⟩

abbrev nBuf : Space → Nat
  | .hbm => 5
  | .vmem => 3
  | .smem => 0
  | _ => 0

abbrev bufTy : (tb : Table) → Fin (tcTables nBuf tb) → BufTy
  | .hbm, ⟨0, _⟩ => ⟨S4096x128, .f32⟩
  | .hbm, ⟨1, _⟩ => ⟨S4096x512, .f32⟩
  | .hbm, ⟨2, _⟩ => ⟨S4096x128, .bf16⟩
  | .hbm, ⟨3, _⟩ => ⟨S4096x512, .bf16⟩
  | .hbm, ⟨4, _⟩ => ⟨S128x512, .f32⟩
  | .local _ .vmem, ⟨0, _⟩ => ⟨S4096x128, .bf16⟩
  | .local _ .vmem, ⟨1, _⟩ => ⟨S4096x512, .bf16⟩
  | .local _ .vmem, ⟨2, _⟩ => ⟨S128x512, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== DUkvRefIdeal.lean ====
abbrev S4096x128 : Shape := ⟨2, ![4096, 128]⟩
abbrev S4096x512 : Shape := ⟨2, ![4096, 512]⟩
abbrev S_ : Shape := ⟨0, ![]⟩
abbrev S128x512 : Shape := ⟨2, ![128, 512]⟩
abbrev S512x128 : Shape := ⟨2, ![512, 128]⟩

abbrev nBuf : Space → Nat
  | .hbm => 7
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x512, .f32⟩
  | .hbm, ⟨2, _⟩ => ⟨S_, .f32⟩
  | .hbm, ⟨3, _⟩ => ⟨S128x512, .f32⟩
  | .hbm, ⟨4, _⟩ => ⟨S4096x512, .f32⟩
  | .hbm, ⟨5, _⟩ => ⟨S512x128, .f32⟩
  | .hbm, ⟨6, _⟩ => ⟨S128x512, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DCkvn.lean ====
abbrev S4096x512 : Shape := ⟨2, ![4096, 512]⟩
abbrev S128x512 : Shape := ⟨2, ![128, 512]⟩
abbrev S4096x128 : Shape := ⟨2, ![4096, 128]⟩
abbrev S1024x512 : Shape := ⟨2, ![1024, 512]⟩
abbrev S1024x128 : Shape := ⟨2, ![1024, 128]⟩

abbrev nBuf : Space → Nat
  | .hbm => 5
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S128x512, .f32⟩
  | .hbm, ⟨2, _⟩ => ⟨S4096x512, .bf16⟩
  | .hbm, ⟨3, _⟩ => ⟨S128x512, .bf16⟩
  | .hbm, ⟨4, _⟩ => ⟨S4096x128, .f32⟩
  | .local _ .vmem, ⟨0, _⟩ => ⟨S1024x512, .bf16⟩
  | .local _ .vmem, ⟨1, _⟩ => ⟨S1024x512, .bf16⟩
  | .local _ .vmem, ⟨2, _⟩ => ⟨S128x512, .bf16⟩
  | .local _ .vmem, ⟨3, _⟩ => ⟨S1024x128, .f32⟩
  | .local _ .vmem, ⟨4, _⟩ => ⟨S1024x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DCkvnRefIdeal.lean ====
abbrev S4096x512 : Shape := ⟨2, ![4096, 512]⟩
abbrev S128x512 : Shape := ⟨2, ![128, 512]⟩
abbrev S_ : Shape := ⟨0, ![]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S128x512, .f32⟩
  | .hbm, ⟨2, _⟩ => ⟨S_, .f32⟩
  | .hbm, ⟨3, _⟩ => ⟨S4096x128, .f32⟩
  | .hbm, ⟨4, _⟩ => ⟨S4096x512, .f32⟩
  | .hbm, ⟨5, _⟩ => ⟨S4096x128, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Mlp1.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S1024x4096, .bf16⟩
  | .hbm, ⟨4, _⟩ => ⟨S4096x4096, .bf16⟩
  | .hbm, ⟨5, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Mlp1RefIdeal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .bf16⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== InA.lean ====
abbrev S4096x1024 : Shape := ⟨2, ![4096, 1024]⟩
abbrev S1x1024 : Shape := ⟨2, ![1, 1024]⟩
abbrev S1024x768 : Shape := ⟨2, ![1024, 768]⟩
abbrev S4096x768 : Shape := ⟨2, ![4096, 768]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x768, .f32⟩
  | .hbm, ⟨3, _⟩ => ⟨S1024x768, .bf16⟩
  | .hbm, ⟨4, _⟩ => ⟨S4096x768, .bf16⟩
  | .hbm, ⟨5, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x768, .bf16⟩
  | .local _ .vmem, ⟨3, _⟩ => ⟨S1x1024, .f32⟩
  | .local _ .vmem, ⟨4, _⟩ => ⟨S1024x768, .bf16⟩
  | .local _ .vmem, ⟨5, _⟩ => ⟨S1024x768, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InARefIdeal.lean ====
abbrev S4096x1024 : Shape := ⟨2, ![4096, 1024]⟩
abbrev S1x1024 : Shape := ⟨2, ![1, 1024]⟩
abbrev S1024x768 : Shape := ⟨2, ![1024, 768]⟩
abbrev S_ : Shape := ⟨0, ![]⟩
abbrev S4096 : Shape := ⟨1, ![4096]⟩
abbrev S4096x1 : Shape := ⟨2, ![4096, 1]⟩
abbrev S4096x768 : Shape := ⟨2, ![4096, 768]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x768, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x768, .f32⟩
  | .hbm, ⟨19, _⟩ => ⟨S4096x768, .bf16⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Xq.lean ====
abbrev S4096x1024 : Shape := ⟨2, ![4096, 1024]⟩
abbrev S1x1024 : Shape := ⟨2, ![1, 1024]⟩
abbrev S1024x512 : Shape := ⟨2, ![1024, 512]⟩
abbrev S4096x512 : Shape := ⟨2, ![4096, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x512, .f32⟩
  | .hbm, ⟨3, _⟩ => ⟨S1024x512, .bf16⟩
  | .hbm, ⟨4, _⟩ => ⟨S4096x512, .bf16⟩
  | .hbm, ⟨5, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1x1024, .f32⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== XqRefIdeal.lean ====
abbrev S4096x1024 : Shape := ⟨2, ![4096, 1024]⟩
abbrev S1x1024 : Shape := ⟨2, ![1, 1024]⟩
abbrev S1024x512 : Shape := ⟨2, ![1024, 512]⟩
abbrev S_ : Shape := ⟨0, ![]⟩
abbrev S4096 : Shape := ⟨1, ![4096]⟩
abbrev S4096x1 : Shape := ⟨2, ![4096, 1]⟩
abbrev S4096x512 : Shape := ⟨2, ![4096, 512]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x512, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S4096x512, .bf16⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Xkv.lean ====
abbrev S256x1024 : Shape := ⟨2, ![256, 1024]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .f32⟩
  | .hbm, ⟨3, _⟩ => ⟨S1024x1024, .bf16⟩
  | .hbm, ⟨4, _⟩ => ⟨S256x1024, .bf16⟩
  | .hbm, ⟨5, _⟩ => ⟨S256x1024, .bf16⟩
  | .local _ .vmem, ⟨0, _⟩ => ⟨S256x1024, .f32⟩
  | .local _ .vmem, ⟨1, _⟩ => ⟨S1024x1024, .bf16⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== XkvRefIdeal.lean ====
abbrev S256x1024 : Shape := ⟨2, ![256, 1024]⟩
abbrev S1x1024 : Shape := ⟨2, ![1, 1024]⟩
abbrev S1024x1024 : Shape := ⟨2, ![1024, 1024]⟩
abbrev S_ : Shape := ⟨0, ![]⟩
abbrev S256 : Shape := ⟨1, ![256]⟩
abbrev S256x1 : Shape := ⟨2, ![256, 1]⟩

abbrev nBuf : Space → Nat
  | .hbm => 21
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .bf16⟩
  | .hbm, ⟨20, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MlaUq.lean ====
abbrev S4096x2560 : Shape := ⟨2, ![4096, 2560]⟩
abbrev S1x256 : Shape := ⟨2, ![1, 256]⟩
abbrev S256x512 : Shape := ⟨2, ![256, 512]⟩
abbrev S4096x512 : Shape := ⟨2, ![4096, 512]⟩
abbrev S4096x256 : Shape := ⟨2, ![4096, 256]⟩
abbrev S1024x256 : Shape := ⟨2, ![1024, 256]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x2560, .f32⟩
  | .hbm, ⟨1, _⟩ => ⟨S1x256, .f32⟩
  | .hbm, ⟨2, _⟩ => ⟨S256x512, .f32⟩
  | .hbm, ⟨3, _⟩ => ⟨S256x512, .bf16⟩
  | .hbm, ⟨4, _⟩ => ⟨S4096x512, .f32⟩
  | .hbm, ⟨5, _⟩ => ⟨S4096x256, .bf16⟩
  | .local _ .vmem, ⟨0, _⟩ => ⟨S1024x256, .f32⟩
  | .local _ .vmem, ⟨1, _⟩ => ⟨S1024x256, .f32⟩
  | .local _ .vmem, ⟨2, _⟩ => ⟨S256x512, .bf16⟩
  | .local _ .vmem, ⟨3, _⟩ => ⟨S1x256, .f32⟩
  | .local _ .vmem, ⟨4, _⟩ => ⟨S1024x512, .f32⟩
  | .local _ .vmem, ⟨5, _⟩ => ⟨S1024x512, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlaUqRefIdeal.lean ====
abbrev S4096x2560 : Shape := ⟨2, ![4096, 2560]⟩
abbrev S1x256 : Shape := ⟨2, ![1, 256]⟩
abbrev S256x512 : Shape := ⟨2, ![256, 512]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S4096x512 : Shape := ⟨2, ![4096, 512]⟩

abbrev nBuf : Space → Nat
  | .hbm => 21
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S1x256, .f32⟩
  | .hbm, ⟨2, _⟩ => ⟨S256x512, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S4096x512, .f32⟩
  | .hbm, ⟨20, _⟩ => ⟨S4096x256, .bf16⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MlaUkv.lean ====
abbrev S4096x2560 : Shape := ⟨2, ![4096, 2560]⟩
abbrev S1x128 : Shape := ⟨2, ![1, 128]⟩
abbrev S128x512 : Shape := ⟨2, ![128, 512]⟩
abbrev S4096x512 : Shape := ⟨2, ![4096, 512]⟩
abbrev S4096x128 : Shape := ⟨2, ![4096, 128]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x2560, .f32⟩
  | .hbm, ⟨1, _⟩ => ⟨S1x128, .f32⟩
  | .hbm, ⟨2, _⟩ => ⟨S128x512, .f32⟩
  | .hbm, ⟨3, _⟩ => ⟨S128x512, .bf16⟩
  | .hbm, ⟨4, _⟩ => ⟨S4096x512, .bf16⟩
  | .hbm, ⟨5, _⟩ => ⟨S4096x128, .bf16⟩
  | .local _ .vmem, ⟨0, _⟩ => ⟨S1024x128, .f32⟩
  | .local _ .vmem, ⟨1, _⟩ => ⟨S1024x128, .f32⟩
  | .local _ .vmem, ⟨2, _⟩ => ⟨S128x512, .bf16⟩
  | .local _ .vmem, ⟨3, _⟩ => ⟨S1x128, .f32⟩
  | .local _ .vmem, ⟨4, _⟩ => ⟨S1024x512, .bf16⟩
  | .local _ .vmem, ⟨5, _⟩ => ⟨S1024x512, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c18_i32 : BitVec 32 := 18#32
  let c0_i32 : BitVec 32 := 0#32
  ![arg0.toNat, c18_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlaUkvRefIdeal.lean ====
abbrev S4096x2560 : Shape := ⟨2, ![4096, 2560]⟩
abbrev S1x128 : Shape := ⟨2, ![1, 128]⟩
abbrev S128x512 : Shape := ⟨2, ![128, 512]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S4096x512 : Shape := ⟨2, ![4096, 512]⟩

abbrev nBuf : Space → Nat
  | .hbm => 22
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S1x128, .f32⟩
  | .hbm, ⟨2, _⟩ => ⟨S128x512, .f32⟩
  | .hbm, ⟨3, _⟩ => ⟨S4096x128, .f32⟩
  | .hbm, ⟨4, _⟩ => ⟨S4096x128, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x512, .f32⟩
  | .hbm, ⟨20, _⟩ => ⟨S4096x512, .bf16⟩
  | .hbm, ⟨21, _⟩ => ⟨S4096x128, .bf16⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== DXkv.lean ====
abbrev S256x1024 : Shape := ⟨2, ![256, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .bf16⟩
  | .hbm, ⟨3, _⟩ => ⟨S256x1024, .bf16⟩
  | .hbm, ⟨4, _⟩ => ⟨S1024x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== DXkvRefIdeal.lean ====
abbrev S256x1024 : Shape := ⟨2, ![256, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S_, .f32⟩
  | .hbm, ⟨3, _⟩ => ⟨S1024x1024, .f32⟩
  | .hbm, ⟨4, _⟩ => ⟨S256x1024, .f32⟩
  | .hbm, ⟨5, _⟩ => ⟨S1024x1024, .f32⟩
  | .hbm, ⟨6, _⟩ => ⟨S1024x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DMn.lean ====
abbrev S256x1024 : Shape := ⟨2, ![256, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .bf16⟩
  | .hbm, ⟨3, _⟩ => ⟨S1024x1024, .bf16⟩
  | .hbm, ⟨4, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== DMnRefIdeal.lean ====
abbrev S256x1024 : Shape := ⟨2, ![256, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S_, .f32⟩
  | .hbm, ⟨3, _⟩ => ⟨S256x1024, .f32⟩
  | .hbm, ⟨4, _⟩ => ⟨S256x1024, .f32⟩
  | .hbm, ⟨5, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DMerge.lean ====
abbrev S4096x1024 : Shape := ⟨2, ![4096, 1024]⟩
abbrev S4096x3072 : Shape := ⟨2, ![4096, 3072]⟩
abbrev S1x3072 : Shape := ⟨2, ![1, 3072]⟩
abbrev S4096x256 : Shape := ⟨2, ![4096, 256]⟩
abbrev S4096x512 : Shape := ⟨2, ![4096, 512]⟩
abbrev S256x1024 : Shape := ⟨2, ![256, 1024]⟩
abbrev S512x1024 : Shape := ⟨2, ![512, 1024]⟩
abbrev S512x3072 : Shape := ⟨2, ![512, 3072]⟩
abbrev S512x256 : Shape := ⟨2, ![512, 256]⟩
abbrev S512x512 : Shape := ⟨2, ![512, 512]⟩
abbrev S1x1024 : Shape := ⟨2, ![1, 1024]⟩
abbrev S1024 : Shape := ⟨1, ![1024]⟩

abbrev nBuf : Space → Nat
  | .hbm => 24
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S1x3072, .f32⟩
  | .hbm, ⟨3, _⟩ => ⟨S4096x256, .f32⟩
  | .hbm, ⟨4, _⟩ => ⟨S4096x512, .f32⟩
  | .hbm, ⟨5, _⟩ => ⟨S4096x256, .f32⟩
  | .hbm, ⟨6, _⟩ => ⟨S256x1024, .f32⟩
  | .hbm, ⟨7, _⟩ => ⟨S512x1024, .f32⟩
  | .hbm, ⟨8, _⟩ => ⟨S256x1024, .f32⟩
  | .hbm, ⟨9, _⟩ => ⟨S4096x1024, .bf16⟩
  | .hbm, ⟨10, _⟩ => ⟨S4096x256, .bf16⟩
  | .hbm, ⟨11, _⟩ => ⟨S4096x512, .bf16⟩
  | .hbm, ⟨12, _⟩ => ⟨S4096x256, .bf16⟩
  | .hbm, ⟨13, _⟩ => ⟨S256x1024, .bf16⟩
  | .hbm, ⟨14, _⟩ => ⟨S512x1024, .bf16⟩
  | .hbm, ⟨15, _⟩ => ⟨S256x1024, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x256, .bf16⟩
  | .hbm, ⟨20, _⟩ => ⟨S4096x512, .f32⟩
  | .hbm, ⟨21, _⟩ => ⟨S4096x256, .bf16⟩
  | .hbm, ⟨22, _⟩ => ⟨S4096x3072, .bf16⟩
  | .hbm, ⟨23, _⟩ => ⟨S1x3072, .f32⟩
  | .local _ .vmem, ⟨0, _⟩ => ⟨S512x1024, .bf16⟩
  | .local _ .vmem, ⟨1, _⟩ => ⟨S512x1024, .bf16⟩
  | .local _ .vmem, ⟨2, _⟩ => ⟨S512x3072, .f32⟩
  | .local _ .vmem, ⟨3, _⟩ => ⟨S512x3072, .f32⟩
  | .local _ .vmem, ⟨4, _⟩ => ⟨S1x3072, .f32⟩
  | .local _ .vmem, ⟨5, _⟩ => ⟨S512x256, .bf16⟩
  | .local _ .vmem, ⟨6, _⟩ => ⟨S512x256, .bf16⟩
  | .local _ .vmem, ⟨7, _⟩ => ⟨S512x512, .bf16⟩
  | .local _ .vmem, ⟨8, _⟩ => ⟨S512x512, .bf16⟩
  | .local _ .vmem, ⟨9, _⟩ => ⟨S512x256, .bf16⟩
  | .local _ .vmem, ⟨10, _⟩ => ⟨S512x256, .bf16⟩
  | .local _ .vmem, ⟨11, _⟩ => ⟨S256x1024, .bf16⟩
  | .local _ .vmem, ⟨12, _⟩ => ⟨S512x1024, .bf16⟩
  | .local _ .vmem, ⟨13, _⟩ => ⟨S256x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x256, .bf16⟩
  | .local _ .vmem, ⟨21, _⟩ => ⟨S512x256, .bf16⟩
  | .local _ .vmem, ⟨22, _⟩ => ⟨S512x512, .f32⟩
  | .local _ .vmem, ⟨23, _⟩ => ⟨S512x512, .f32⟩
  | .local _ .vmem, ⟨24, _⟩ => ⟨S512x256, .bf16⟩
  | .local _ .vmem, ⟨25, _⟩ => ⟨S512x256, .bf16⟩
  | .local _ .vmem, ⟨26, _⟩ => ⟨S512x3072, .bf16⟩
  | .local _ .vmem, ⟨27, _⟩ => ⟨S512x3072, .bf16⟩
  | .local _ .vmem, ⟨28, _⟩ => ⟨S1x3072, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_v7_6 : Ref sig .tc := ⟨.hbm, 22, rfl⟩
abbrev main_v7_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== DMergeRefIdeal.lean ====
abbrev S4096x1024 : Shape := ⟨2, ![4096, 1024]⟩
abbrev S4096x3072 : Shape := ⟨2, ![4096, 3072]⟩
abbrev S1x3072 : Shape := ⟨2, ![1, 3072]⟩
abbrev S4096x256 : Shape := ⟨2, ![4096, 256]⟩
abbrev S4096x512 : Shape := ⟨2, ![4096, 512]⟩
abbrev S256x1024 : Shape := ⟨2, ![256, 1024]⟩
abbrev S512x1024 : Shape := ⟨2, ![512, 1024]⟩
abbrev S1x1024 : Shape := ⟨2, ![1, 1024]⟩
abbrev S_ : Shape := ⟨0, ![]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S1x3072, .f32⟩
  | .hbm, ⟨3, _⟩ => ⟨S4096x256, .f32⟩
  | .hbm, ⟨4, _⟩ => ⟨S4096x512, .f32⟩
  | .hbm, ⟨5, _⟩ => ⟨S4096x256, .f32⟩
  | .hbm, ⟨6, _⟩ => ⟨S256x1024, .f32⟩
  | .hbm, ⟨7, _⟩ => ⟨S512x1024, .f32⟩
  | .hbm, ⟨8, _⟩ => ⟨S256x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S4096x1024, .f32⟩
  | .hbm, ⟨82, _⟩ => ⟨S4096x256, .f32⟩
  | .hbm, ⟨83, _⟩ => ⟨S4096x1024, .f32⟩
  | .hbm, ⟨84, _⟩ => ⟨S4096x512, .f32⟩
  | .hbm, ⟨85, _⟩ => ⟨S4096x1024, .f32⟩
  | .hbm, ⟨86, _⟩ => ⟨S4096x256, .f32⟩
  | .hbm, ⟨87, _⟩ => ⟨S4096x1024, .bf16⟩
  | .hbm, ⟨88, _⟩ => ⟨S4096x1024, .bf16⟩
  | .hbm, ⟨89, _⟩ => ⟨S4096x1024, .bf16⟩
  | .hbm, ⟨90, _⟩ => ⟨S4096x256, .bf16⟩
  | .hbm, ⟨91, _⟩ => ⟨S4096x256, .bf16⟩
  | .hbm, ⟨92, _⟩ => ⟨S4096x3072, .f32⟩
  | .hbm, ⟨93, _⟩ => ⟨S4096x3072, .bf16⟩
  | .hbm, ⟨94, _⟩ => ⟨S1x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩

abbrev nD : Nat := 1
abbrev τ : Topo := Topo.v7x

variable {F : FTy → Type} [FloatOps F]
-- ==== Proof.Reals.lean ====
/- Facts about the extended reals that the value proofs share: sums, products, exponentials and maxima of numbers
   that are real stay real, and are the real sums, products, exponentials. -/
module

public import Idealize.ShloMosaic.Lib.Pointwise

@[expose] public section

noncomputable section

namespace Cert.Reals

open Idealize.ShloMosaic

/-- A finite sum of reals, read in the extended reals. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem add' (a b : ℝ) : (a : EReal) + (b : EReal) = ((a + b : ℝ) : EReal) := (EReal.coe_add a b).symm
theorem sub' (a b : ℝ) : (a : EReal) - (b : EReal) = ((a - b : ℝ) : EReal) := (EReal.coe_sub a b).symm
theorem mul' (a b : ℝ) : (a : EReal) * (b : EReal) = ((a * b : ℝ) : EReal) := (EReal.coe_mul a b).symm
theorem neg' (a : ℝ) : -(a : EReal) = ((-a : ℝ) : EReal) := (EReal.coe_neg a).symm
theorem div' (a b : ℝ) (h : b ≠ 0) : Ideal.div (a : EReal) (b : EReal) = ((a / b : ℝ) : EReal) := by
  rw [Ideal.div_coe h, mul', mul_one_div]
theorem log' (a : ℝ) (h : 0 < a) : Ideal.log (a : EReal) = ((Real.log a : ℝ) : EReal) := by
  rw [Ideal.log_coe, if_neg (not_le.mpr h)]

/-- The largest of finitely many reals, and at least one, is real. -/
theorem fold_max {ι : Type*} [Fintype ι] [Nonempty ι] (f : ι → ℝ) :
    ∃ M : ℝ, Finset.univ.fold max (⊥ : EReal) (fun k => ((f k : ℝ) : EReal)) = (M : EReal) := by
  classical
  have key : ∀ s : Finset ι, s.Nonempty → ∃ M : ℝ, s.fold max (⊥ : EReal) (fun k => ((f k : ℝ) : EReal)) = (M : EReal) := by
    intro s hs
    induction hs using Finset.Nonempty.cons_induction with
    | singleton a => exact ⟨f a, by simp⟩
    | cons a s ha hs ih =>
      obtain ⟨M, hM⟩ := ih
      refine ⟨max (f a) M, ?_⟩
      rw [Finset.fold_cons, hM]
      exact (EReal.coe_strictMono.monotone.map_max (a := f a) (b := M)).symm
  exact key _ Finset.univ_nonempty

/-- The host's maximum over an axis, started below every number, is real where some element is reduced to the index
    and every element is real. -/
theorem reduce_max {s t u : Shape} {axes : List (Fin s.rank)} (x : FVec Ideal s .f32) (init : FVec Ideal u .f32)
    (h : s.ReducesTo axes t) (hu : 0 < u.numel) (hx : ∀ i, ∃ r : ℝ, x i = (r : EReal)) (h0 : ∀ i, init i = (⊥ : EReal))
    (j : t.Idx) (i : s.Idx) (hi : h.drop i = j) :
    ∃ M : ℝ, Host.reduce (FloatOps.maximumf (F := Ideal) (φ := .f32)) x init h hu j = (M : EReal) := by
  classical
  have key : ∀ (L : List (Fin s.numel)) (b : EReal), ((b = ⊥ ∧ L ≠ []) ∨ ∃ r : ℝ, b = (r : EReal)) →
      ∃ M : ℝ, L.foldl (fun r n => max r (x (s.rowMajor.symm n))) b = (M : EReal) := by
    intro L
    induction L with
    | nil => rintro b (⟨_, hn⟩ | hr)
             · exact absurd rfl hn
             · exact hr
    | cons n L ih =>
      intro b hb
      obtain ⟨r, hr⟩ := hx (s.rowMajor.symm n)
      refine ih _ (Or.inr ?_)
      rcases hb with ⟨hb, _⟩ | ⟨r', hb⟩
      · exact ⟨r, by beta_reduce; rw [hb, hr]; exact bot_sup_eq _⟩
      · exact ⟨max r' r, by beta_reduce; rw [hb, hr]; exact (EReal.coe_strictMono.monotone.map_max (a := r') (b := r)).symm⟩
  refine key _ _ (Or.inl ⟨h0 _, ?_⟩)
  intro hnil
  have hm : s.rowMajor i ∈ (List.finRange s.numel).filter fun n => h.drop (s.rowMajor.symm n) = j := by
    rw [List.mem_filter]
    exact ⟨List.mem_finRange _, by rw [Equiv.symm_apply_apply]; exact decide_eq_true hi⟩
  rw [hnil] at hm
  exact List.not_mem_nil hm

/-- The sum of the first `n` of `N` numbers. -/
def upto {N : ℕ} (f : Fin N → ℝ) (n : ℕ) : ℝ := ∑ i ∈ Finset.range n, if h : i < N then f ⟨i, h⟩ else 0

theorem upto_zero {N : ℕ} (f : Fin N → ℝ) : upto f 0 = 0 := Finset.sum_range_zero _

theorem upto_add {N : ℕ} (f : Fin N → ℝ) (n k : ℕ) (h : n + k ≤ N) :
    upto f (n + k) = upto f n + ∑ r : Fin k, f ⟨n + r.val, by omega⟩ := by
  unfold upto
  rw [Finset.sum_range_add]
  congr 1
  rw [Finset.sum_range]
  exact Finset.sum_congr rfl fun r _ => dif_pos (by omega)

theorem upto_first {N : ℕ} (f : Fin N → ℝ) (k : ℕ) (h : k ≤ N) : upto f k = ∑ r : Fin k, f ⟨r.val, by omega⟩ := by
  unfold upto
  rw [Finset.sum_range]
  exact Finset.sum_congr rfl fun r _ => dif_pos (by omega)

theorem upto_all {N : ℕ} (f : Fin N → ℝ) : upto f N = ∑ i, f i := by
  unfold upto
  rw [Finset.sum_range]
  exact Finset.sum_congr rfl fun i _ => dif_pos i.isLt

theorem negInf : Ideal.ofBits .f32 0xFF800000#32 = ⊥ := by
  simp [Ideal.ofBits, Ideal.ieee]

/-- Every element is a real number. -/
def AllReal {ι : Type*} (f : ι → EReal) : Prop := ∀ i, ∃ v : ℝ, f i = (v : EReal)

/-! ### A test for finiteness, read back -/

theorem posInf : Ideal.ofBits .f32 0x7F800000#32 = ⊤ := by
  simp [Ideal.ofBits, Ideal.ieee]

theorem andi_one (a b : BitVec 1) : IntOp.andi a b = 1#1 ↔ a = 1#1 ∧ b = 1#1 := by revert a b; decide

/-- An extended real strictly between the infinities is a real number. -/
theorem real_of_tests (u : EReal) (h1 : FloatOps.cmpf (F := Ideal) (φ := .f32) .ogt u (Ideal.ofBits .f32 0xFF800000#32) = 1#1)
    (h2 : FloatOps.cmpf (F := Ideal) (φ := .f32) .olt u (Ideal.ofBits .f32 0x7F800000#32) = 1#1) :
    u = ((u.toReal : ℝ) : EReal) := by
  rw [negInf, Ideal.cmpf_def] at h1
  rw [posInf, Ideal.cmpf_def] at h2
  refine (EReal.coe_toReal ?_ ?_).symm
  · rintro rfl
    simp [Ideal.cmp] at h2
  · rintro rfl
    simp [Ideal.cmp] at h1

/-- The number that stands for 1/√128 in both programs. -/
def sc : ℝ := (Ideal.ofBits .f32 0x3DB504F3#32 : EReal).toReal

theorem sc_eq : (Ideal.ofBits .f32 0x3DB504F3#32 : EReal) = ((sc : ℝ) : EReal) := by
  have h : ∃ r : ℝ, (Ideal.ofBits .f32 0x3DB504F3#32 : EReal) = (r : EReal) :=
    ⟨11863283 * (2 ^ 27)⁻¹, by simp [Ideal.ofBits, Ideal.ieee]⟩
  obtain ⟨r, hr⟩ := h
  unfold sc
  rw [hr, EReal.toReal_coe]

end Cert.Reals

end
-- ==== Proof.XaSpec.lean ====
/- The gradient of softmax attention over the reals: what the cross-attention's backward pass computes, head by head,
   as plain sums. `x` holds the queries, `y` the keys (first 512 columns) and the values (last 512), `d` the
   cotangent of the output; a head is 128 adjacent columns. -/
module

public import proofs.«01_k».proof.Proof.Reals

@[expose] public section

noncomputable section

namespace Cert.XaSpec

open Cert.Reals

/-- Column `j` of head `h`. -/
abbrev col (h : Fin 4) (j : Fin 128) : Fin 512 := ⟨h.val * 128 + j.val, by omega⟩
/-- Column `j` of head `h` among the keys. -/
abbrev kcol (h : Fin 4) (j : Fin 128) : Fin 1024 := ⟨h.val * 128 + j.val, by omega⟩
/-- Column `j` of head `h` among the values. -/
abbrev vcol (h : Fin 4) (j : Fin 128) : Fin 1024 := ⟨512 + (h.val * 128 + j.val), by omega⟩

variable (x d : Fin 4096 → Fin 512 → ℝ) (y : Fin 256 → Fin 1024 → ℝ)

/-- The scaled logit of query row `q` against key `k`. -/
def s (h : Fin 4) (q : Fin 4096) (k : Fin 256) : ℝ := (∑ j : Fin 128, x q (col h j) * y k (kcol h j)) * sc
/-- The softmax of the logits. -/
def p (h : Fin 4) (q : Fin 4096) (k : Fin 256) : ℝ := Real.exp (s x y h q k) / ∑ k', Real.exp (s x y h q k')
/-- The cotangent of the softmax. -/
def dp (h : Fin 4) (q : Fin 4096) (k : Fin 256) : ℝ := ∑ j : Fin 128, d q (col h j) * y k (vcol h j)
/-- The cotangent of the logits. -/
def g (h : Fin 4) (q : Fin 4096) (k : Fin 256) : ℝ :=
  p x y h q k * (dp d y h q k - ∑ k', p x y h q k' * dp d y h q k')

def dq (h : Fin 4) (q : Fin 4096) (j : Fin 128) : ℝ := ∑ k : Fin 256, g x d y h q k * sc * y k (kcol h j)
def dk (h : Fin 4) (k : Fin 256) (j : Fin 128) : ℝ := ∑ q : Fin 4096, g x d y h q k * sc * x q (col h j)
def dv (h : Fin 4) (k : Fin 256) (j : Fin 128) : ℝ := ∑ q : Fin 4096, d q (col h j) * p x y h q k

theorem expSum_pos {n : ℕ} [NeZero n] (f : Fin n → ℝ) : 0 < ∑ k, Real.exp (f k) :=
  Finset.sum_pos (fun k _ => Real.exp_pos _) ⟨0, Finset.mem_univ _⟩

/-- Subtracting one number from every logit leaves the softmax alone. -/
theorem p_shift (M : ℝ) (h : Fin 4) (q : Fin 4096) (k : Fin 256) :
    Real.exp (s x y h q k - M) / ∑ k', Real.exp (s x y h q k' - M) = p x y h q k := by
  unfold p
  simp only [Real.exp_sub]
  rw [← Finset.sum_div, div_div_div_cancel_right₀ (Real.exp_pos M).ne']

/-- The softmax from the logarithm of its denominator. -/
theorem p_lse (M : ℝ) (h : Fin 4) (q : Fin 4096) (k : Fin 256) :
    Real.exp (s x y h q k - (M + Real.log (∑ k', Real.exp (s x y h q k' - M)))) = p x y h q k := by
  rw [← sub_sub, Real.exp_sub, Real.exp_log (expSum_pos _), p_shift]

/-- The inner product of the output with its cotangent is the softmax's with the softmax's cotangent. -/
theorem delta (h : Fin 4) (q : Fin 4096) :
    ∑ j : Fin 128, d q (col h j) * ∑ k, p x y h q k * y k (vcol h j) = ∑ k, p x y h q k * dp d y h q k := by
  unfold dp
  simp only [Finset.mul_sum]
  rw [Finset.sum_comm]
  exact Finset.sum_congr rfl fun k _ => Finset.sum_congr rfl fun j _ => by ring

end Cert.XaSpec

end
-- ==== Proof.XaHost.lean ====
/- What the host prepares for the attention's gradient kernel: the attention's output and the logarithms of the
   softmax's denominators, as functions of the arguments and, on real arguments, as the sums of `XaSpec`. -/
module

public import proofs.«01_k».proof.Proof.XaSpec
public import proofs.«01_k».proof.Proof.Gen.KernelIdeal.Value
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.KernelIdeal.Xa

open Cert.KernelIdeal Cert.KernelIdeal.Gen
open Cert.Reals Cert.XaSpec

/-! ## The host's arrays as functions of the arguments -/

section
variable (x0 : FVec Ideal S4096x512 .f32) (x1 : FVec Ideal S256x1024 .f32)

/-- The scaled queries. -/
def hq : FVec Ideal S4096x512 .bf16 :=
  truncf .bf16 (mulf x0 (broadcastInDim S4096x512 ![] bcast_S_S4096x512 (constant S_ .f32 0x3DB504F3#32))) bitsLt_bf16_f32

/-- The logits, head by head. -/
def lg : FVec Ideal S4x4096x256 .f32 :=
  Host.dotGeneral dot_S4x4096x128_S4x256x128_S4x4096x256_2_2_1_1_0_0 none
    (transpose S4x4096x128 [1, 0, 2]
      (shapeCast S4096x4x128 (extf .f32 (hq x0) bitsLt_bf16_f32) shapeCasts_S4096x512_S4096x4x128)
      transposes_S4096x4x128_S4x4096x128_1_0_2)
    (transpose S4x256x128 [1, 0, 2]
      (shapeCast S256x4x128
        (extf .f32 (extractStridedSlice S256x512 ![0, 0] (truncf .bf16 x1 bitsLt_bf16_f32) slices_S256x1024_S256x512_0_0)
          bitsLt_bf16_f32) shapeCasts_S256x512_S256x4x128)
      transposes_S256x4x128_S4x256x128_1_0_2)

/-- Each row's largest logit. -/
def mxOf (l : FVec Ideal S4x4096x256 .f32) : FVec Ideal S4x4096x1 .f32 :=
  broadcastInDim S4x4096x1 ![0, 1] bcast_S4x4096_S4x4096x1_0_1
    (Host.reduce FloatOps.maximumf l (constant S_ .f32 0xFF800000#32) reducesTo_S4x4096x256_S4x4096_d2 h_S_)
end

/-- The exponentials of the logits `l` over the largest `a`. -/
def ex (l : FVec Ideal S4x4096x256 .f32) (a : FVec Ideal S4x4096x1 .f32) : FVec Ideal S4x4096x256 .f32 :=
  Host.exp (subf l (broadcastInDim S4x4096x256 ![0, 1, 2] bcast_S4x4096x1_S4x4096x256_0_1_2 a))

/-- Their sums along the keys. -/
def sm (e : FVec Ideal S4x4096x256 .f32) : FVec Ideal S4x4096x1 .f32 :=
  broadcastInDim S4x4096x1 ![0, 1] bcast_S4x4096_S4x4096x1_0_1
    (Host.reduceAdd e (constant S_ .f32 0x00000000#32) reducesTo_S4x4096x256_S4x4096_d2 h_S_)

/-- The attention's output from the exponentials, their sums and the keys and values. -/
def at_ (e : FVec Ideal S4x4096x256 .f32) (z : FVec Ideal S4x4096x1 .f32) (x1 : FVec Ideal S256x1024 .f32) :
    FVec Ideal S4096x512 .bf16 :=
  truncf .bf16 (shapeCast S4096x512 (transpose S4096x4x128 [1, 0, 2]
    (Host.dotGeneral dot_S4x4096x256_S4x256x128_S4x4096x128_2_1_1_2_0_0 none
      (Host.divf e (broadcastInDim S4x4096x256 ![0, 1, 2] bcast_S4x4096x1_S4x4096x256_0_1_2 z))
      (transpose S4x256x128 [1, 0, 2]
        (shapeCast S256x4x128 (extf .f32 (extractStridedSlice S256x512 ![0, 512] (truncf .bf16 x1 bitsLt_bf16_f32)
          slices_S256x1024_S256x512_0_512) bitsLt_bf16_f32) shapeCasts_S256x512_S256x4x128)
        transposes_S256x4x128_S4x256x128_1_0_2))
    transposes_S4x4096x128_S4096x4x128_1_0_2) shapeCasts_S4096x4x128_S4096x512) bitsLt_bf16_f32

/-- A column for each head spread over the first of `128` lanes, the others filled. -/
def lanes (w : FVec Ideal S4x4096x1 .f32) (z : IVec S_ 32) : FVec Ideal S4096x512 .f32 :=
  shapeCast S4096x512 (transpose S4096x4x128 [1, 0, 2]
    (pad S4x4096x128 ![0, 0, 0] ![0, 0, 127] ![0, 0, 0] w (sitofp .f32 z) pads_S4x4096x1_S4x4096x128_000_000_01270 h_S_)
    transposes_S4x4096x128_S4096x4x128_1_0_2) shapeCasts_S4096x4x128_S4096x512

def lz (a z : FVec Ideal S4x4096x1 .f32) : FVec Ideal S4x4096x1 .f32 := addf a (Host.log z)

/-- The logarithms of the denominators: `128` lanes for each head, the number in the first. -/
def ls (a z : FVec Ideal S4x4096x1 .f32) : FVec Ideal S4096x512 .f32 :=
  lanes (lz a z) (constantI S_ 32 0#32)

/-! ## The arrays the kernel is entered with are these functions -/

section
variable (m : (ℓ : Loc nD τ sig) → Buf (Elt Ideal) ℓ) (c : Dev nD)

/-- The first, second and third argument as launched. -/
abbrev A0 : FVec Ideal S4096x512 .f32 := m ((c : Thread nD τ).loc main_arg0)
abbrev A1 : FVec Ideal S256x1024 .f32 := m ((c : Thread nD τ).loc main_arg1)
abbrev A2 : FVec Ideal S4096x512 .f32 := m ((c : Thread nD τ).loc main_arg2)

theorem V2 : V m c main_v2 = hq (A0 m c) := by
  simp only [V, hostOps0, hostOps0_1, hostOps0_2, List.flatten_cons, List.flatten_nil, List.append_nil, List.cons_append,
    List.nil_append]
  after_results
  rfl
theorem V3 : V m c main_v3 = truncf .bf16 (A1 m c) bitsLt_bf16_f32 := by
  simp only [V, hostOps0, hostOps0_1, hostOps0_2, List.flatten_cons, List.flatten_nil, List.append_nil, List.cons_append,
    List.nil_append]
  after_results
theorem V4 : V m c main_v4 = truncf .bf16 (A2 m c) bitsLt_bf16_f32 := by
  simp only [V, hostOps0, hostOps0_1, hostOps0_2, List.flatten_cons, List.flatten_nil, List.append_nil, List.cons_append,
    List.nil_append]
  after_results
theorem V13 : V m c main_v13 = lg (A0 m c) (A1 m c) := by
  simp only [V, hostOps0, hostOps0_1, hostOps0_2, List.flatten_cons, List.flatten_nil, List.append_nil, List.cons_append,
    List.nil_append]
  after_results
  rfl
theorem V15 : V m c main_v15 = mxOf (V m c main_v13) := by
  simp only [V, hostOps0, hostOps0_1, hostOps0_2, List.flatten_cons, List.flatten_nil, List.append_nil, List.cons_append,
    List.nil_append]
  after_results
  rfl
theorem V18 : V m c main_v18 = ex (V m c main_v13) (V m c main_v15) := by
  simp only [V, hostOps0, hostOps0_1, hostOps0_2, List.flatten_cons, List.flatten_nil, List.append_nil, List.cons_append,
    List.nil_append]
  after_results
  rfl
theorem V20 : V m c main_v20 = sm (V m c main_v18) := by
  simp only [V, hostOps0, hostOps0_1, hostOps0_2, List.flatten_cons, List.flatten_nil, List.append_nil, List.cons_append,
    List.nil_append]
  after_results
  rfl
theorem V29 : V m c main_v29 = at_ (V m c main_v18) (V m c main_v20) (A1 m c) := by
  simp only [V, hostOps0, hostOps0_1, hostOps0_2, List.flatten_cons, List.flatten_nil, List.append_nil, List.cons_append,
    List.nil_append]
  after_results
  rfl
theorem V31 : V m c main_v31 = lz (V m c main_v15) (V m c main_v20) := by
  simp only [V, hostOps0, hostOps0_1, hostOps0_2, List.flatten_cons, List.flatten_nil, List.append_nil, List.cons_append,
    List.nil_append]
  after_results
  rfl
theorem Vc : V m c main_c = constantI S_ 32 0#32 := by
  simp only [V, hostOps0, hostOps0_1, hostOps0_2, List.flatten_cons, List.flatten_nil, List.append_nil, List.cons_append,
    List.nil_append]
  after_results

/-- The last operations of the host, after any others. -/
theorem tail (σ : Valuation τ sig (Elt Ideal)) :
    StableHlo.after (hostOps0_1 ++ hostOps0_2) σ (Proc.devRef .tc main_v34)
      = lanes (StableHlo.after (hostOps0_1 ++ hostOps0_2) σ (Proc.devRef .tc main_v31) : FVec Ideal S4x4096x1 .f32)
          (StableHlo.after (hostOps0_1 ++ hostOps0_2) σ (Proc.devRef .tc main_c)) := by
  simp only [hostOps0_1, hostOps0_2, List.cons_append, List.nil_append]
  after_results
  rfl

theorem after_app (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons a l ih => exact ih _

theorem V34 : V m c main_v34 = ls (V m c main_v15) (V m c main_v20) := by
  unfold ls
  rw [← V31, ← Vc m c]
  simp only [V, List.flatten_cons, List.flatten_nil, List.append_nil, after_app hostOps0]
  exact tail _
end

/-! ## Their values on real arguments -/

section
variable (x0 : FVec Ideal S4096x512 .f32) (x1 : FVec Ideal S256x1024 .f32)
variable (x : Fin 4096 → Fin 512 → ℝ) (y : Fin 256 → Fin 1024 → ℝ)
variable (hx : ∀ q j, x0 (ix2 q j) = ((x q j : ℝ) : EReal)) (hy : ∀ k j, x1 (ix2 k j) = ((y k j : ℝ) : EReal))
include hx

theorem hq_at (q : Fin 4096) (j : Fin 512) : hq x0 (ix2 q j) = ((x q j * sc : ℝ) : EReal) := by
  pointwise [hq]
  simp only [hx, mul', sc_eq]

include hy

theorem lg_at (h : Fin 4) (q : Fin 4096) (k : Fin 256) : lg x0 x1 (ix3 h q k) = ((s x y h q k : ℝ) : EReal) := by
  pointwise [lg]
  simp only [hq_at x0 x hx, hy, mul', coe_sum]
  refine congrArg (fun r : ℝ => (r : EReal)) ?_
  unfold s
  rw [Finset.sum_mul]
  exact Finset.sum_congr rfl fun j _ => by ring
end

theorem mx_at (l : FVec Ideal S4x4096x256 .f32) (hl : ∀ i, ∃ r : ℝ, l i = (r : EReal)) (h : Fin 4) (q : Fin 4096) :
    ∃ M : ℝ, ∀ z, mxOf l (ix3 h q z) = (M : EReal) := by
  obtain ⟨M, e⟩ := reduce_max l (constant S_ .f32 0xFF800000#32) reducesTo_S4x4096x256_S4x4096_d2 h_S_
    hl (fun i => negInf) (ix2 h q) (ix3 h q 0) (((reducesTo_S4x4096x256_S4x4096_d2).fiber_r3_a2 _ _).mpr ⟨0, rfl⟩)
  refine ⟨M, fun z => ?_⟩
  unfold mxOf
  generalize Host.reduce FloatOps.maximumf l (constant S_ .f32 0xFF800000#32) reducesTo_S4x4096x256_S4x4096_d2 h_S_
    = w at e ⊢
  pointwise []
  exact e

section
variable (l : FVec Ideal S4x4096x256 .f32) (a : FVec Ideal S4x4096x1 .f32)
variable (x : Fin 4096 → Fin 512 → ℝ) (y : Fin 256 → Fin 1024 → ℝ)
variable (hl : ∀ h q k, l (ix3 h q k) = ((s x y h q k : ℝ) : EReal))
variable (M : Fin 4 → Fin 4096 → ℝ) (ha : ∀ h q z, a (ix3 h q z) = ((M h q : ℝ) : EReal))
include hl ha

theorem ex_at (h : Fin 4) (q : Fin 4096) (k : Fin 256) :
    ex l a (ix3 h q k) = ((Real.exp (s x y h q k - M h q) : ℝ) : EReal) := by
  pointwise [ex]
  simp only [hl, ha, sub', Ideal.exp_coe]

theorem sm_at (h : Fin 4) (q : Fin 4096) (z : Fin 1) :
    sm (ex l a) (ix3 h q z) = ((∑ k, Real.exp (s x y h q k - M h q) : ℝ) : EReal) := by
  have e := ex_at l a x y hl M ha
  generalize ex l a = w at e ⊢
  pointwise [sm]
  simp only [e, coe_sum]

theorem at_at (x1 : FVec Ideal S256x1024 .f32) (hy : ∀ k j, x1 (ix2 k j) = ((y k j : ℝ) : EReal))
    (h : Fin 4) (q : Fin 4096) (j : Fin 128) :
    at_ (ex l a) (sm (ex l a)) x1 (ix2 q (col h j)) = ((∑ k, p x y h q k * y k (vcol h j) : ℝ) : EReal) := by
  have e := ex_at l a x y hl M ha
  have e' := sm_at l a x y hl M ha
  generalize sm (ex l a) = z at e' ⊢
  generalize ex l a = w at e ⊢
  pointwise [at_]
  have hz := expSum_pos (fun k => s x y h q k - M h q)
  have h0 : (h.val * 128 + j.val) / 128 = h.val := by omega
  have h1 : (h.val * 128 + j.val) % 128 = j.val := by omega
  simp only [h0, h1, Fin.eta, e, e', hy, div' _ _ hz.ne', mul', coe_sum, p_shift]

theorem ls_zero (h : Fin 4) (q : Fin 4096) :
    ls a (sm (ex l a)) (ix2 q (col h 0))
      = ((M h q + Real.log (∑ k, Real.exp (s x y h q k - M h q)) : ℝ) : EReal) := by
  have e' := sm_at l a x y hl M ha
  generalize sm (ex l a) = z at e' ⊢
  pointwise [ls, lanes, lz]
  have hz := expSum_pos (fun k => s x y h q k - M h q)
  have h0 : h.val * 128 / 128 = h.val := by omega
  refine (dif_pos ⟨by simp, by simp⟩).trans ?_
  simp only [Fin.val_zero, Nat.add_zero, h0, Fin.eta, e', ha, log' _ hz, add']

omit hl ha in
theorem ls_ne (z : FVec Ideal S4x4096x1 .f32) (h : Fin 4) (q : Fin 4096) (j : Fin 128) (hj : j.val ≠ 0) :
    ls a z (ix2 q (col h j)) = 0 := by
  pointwise [ls, lanes, lz]
  refine (dif_neg (by omega)).trans ?_
  show ((((0#32 : BitVec 32).toInt : ℤ) : ℝ) : EReal) = 0
  simp
end

/-- What the kernel's six arrays hold when it starts, on real arguments. -/
structure Entry (m : (ℓ : Loc nD τ sig) → Buf (Elt Ideal) ℓ) (c : Dev nD) (x d : Fin 4096 → Fin 512 → ℝ)
    (y : Fin 256 → Fin 1024 → ℝ) (M : Fin 4 → Fin 4096 → ℝ) : Prop where
  q : ∀ q j, (V m c main_v2 : FVec Ideal S4096x512 .bf16) (ix2 q j) = ((x q j * sc : ℝ) : EReal)
  k : ∀ k j, (V m c main_v3 : FVec Ideal S256x1024 .bf16) (ix2 k j) = ((y k j : ℝ) : EReal)
  d : ∀ q j, (V m c main_v4 : FVec Ideal S4096x512 .bf16) (ix2 q j) = ((d q j : ℝ) : EReal)
  o : ∀ h q j, (V m c main_v29 : FVec Ideal S4096x512 .bf16) (ix2 q (col h j)) = ((∑ k, p x y h q k * y k (vcol h j) : ℝ) : EReal)
  l0 : ∀ h q, (V m c main_v34 : FVec Ideal S4096x512 .f32) (ix2 q (col h 0))
    = ((M h q + Real.log (∑ k, Real.exp (s x y h q k - M h q)) : ℝ) : EReal)
  ln : ∀ h q (j : Fin 128), j.val ≠ 0 → (V m c main_v34 : FVec Ideal S4096x512 .f32) (ix2 q (col h j)) = ((0 : ℝ) : EReal)

theorem entry (m : (ℓ : Loc nD τ sig) → Buf (Elt Ideal) ℓ) (c : Dev nD) (x d : Fin 4096 → Fin 512 → ℝ)
    (y : Fin 256 → Fin 1024 → ℝ) (hx : ∀ q j, A0 m c (ix2 q j) = ((x q j : ℝ) : EReal))
    (hy : ∀ k j, A1 m c (ix2 k j) = ((y k j : ℝ) : EReal)) (hd : ∀ q j, A2 m c (ix2 q j) = ((d q j : ℝ) : EReal)) :
    ∃ M, Entry m c x d y M := by
  have hl := lg_at (A0 m c) (A1 m c) x y hx hy
  rw [← V13 m c] at hl
  have hm := mx_at (V m c main_v13) (fun i => by idx_vars i; exact ⟨_, hl _ _ _⟩)
  choose M hM using hm
  rw [← V15 m c] at hM
  refine ⟨M, ?_, ?_, ?_, ?_, ?_, ?_⟩
  · rw [V2]; exact hq_at _ x hx
  · intro k j; rw [V3]; exact hy k j
  · intro q j; rw [V4]; exact hd q j
  · rw [V29, V20, V18]; exact at_at _ _ x y hl M hM _ hy
  · rw [V34, V20, V18]; exact ls_zero _ _ x y hl M hM
  · rw [V34]; exact ls_ne _ _

end Cert.KernelIdeal.Xa

end
-- ==== Proof.XaBlock.lean ====
/- One grid point of the attention's gradient kernel: what its blocks hold and what its payloads are, on real arrays. -/
module

public import proofs.«01_k».proof.Proof.XaHost
public import Idealize.ShloMosaic.Lib.WritesUnit

@[expose] public section

set_option maxRecDepth 16384

noncomputable section

open Idealize.ShloMosaic Idealize.ShloMosaic.TcCoe Idealize.SL.Sem

namespace Cert.KernelIdeal.Xa

open Cert.KernelIdeal Cert.KernelIdeal.Gen
open Cert.Reals Cert.XaSpec

/-! ## Where the blocks lie -/

theorem N32 (t : Fin cfg0.N) : t.val < 32 := lt_of_lt_of_eq t.isLt N_0

/-- The head of point `t`. -/
abbrev hd (t : Fin cfg0.N) : Fin 4 := ⟨t.val / 8, by have := N32 t; omega⟩
/-- Row `r` of point `t`'s queries. -/
abbrev row (t : Fin cfg0.N) (r : Fin 512) : Fin 4096 := ⟨512 * (t.val % 8) + r.val, by omega⟩

theorem idx : ∀ t : Fin cfg0.N, win0_0.index t = ![t.val % 8, t.val / 8] ∧ win0_1.index t = ![0, t.val / 8]
    ∧ win0_2.index t = ![0, t.val / 8 + 4] ∧ win0_3.index t = ![t.val % 8, t.val / 8]
    ∧ win0_4.index t = ![t.val % 8, t.val / 8] ∧ win0_5.index t = ![t.val % 8, t.val / 8]
    ∧ win0_6.index t = ![0, t.val / 8] ∧ win0_7.index t = ![0, t.val / 8] ∧ win0_8.index t = ![0, t.val / 8] :=
  (by decide +kernel : ∀ t : Fin grid0.N, _)

/-- The slab of rows point `t` adds to. -/
theorem off (t : Fin cfg0.N) : k0_off1 (grid0.coords t) = ![512 * (t.val % 8), 0] :=
  (by decide +kernel : ∀ t : Fin grid0.N, k0_off1 (grid0.coords t) = ![512 * (t.val % 8), 0]) t

section
variable (m : (ℓ : Loc nD τ sig) → Buf (Elt Ideal) ℓ) (c : Dev nD) (x d : Fin 4096 → Fin 512 → ℝ)
variable (y : Fin 256 → Fin 1024 → ℝ) (M : Fin 4 → Fin 4096 → ℝ) (E : Entry m c x d y M)
variable (t : Fin cfg0.N)

theorem b0 (r : Fin 512) (j : Fin 128) :
    (iblk m c 0 t : FVec Ideal S512x128 .bf16) (ix2 r j) = (V m c main_v2 : FVec Ideal S4096x512 .bf16) (ix2 (row t r) (col (hd t) j)) := by
  blk_ext [iblk, idx t]
theorem b1 (k : Fin 256) (j : Fin 128) :
    (iblk m c 1 t : FVec Ideal S256x128 .bf16) (ix2 k j) = (V m c main_v3 : FVec Ideal S256x1024 .bf16) (ix2 k (kcol (hd t) j)) := by
  blk_ext [iblk, idx t]
theorem b2 (k : Fin 256) (j : Fin 128) :
    (iblk m c 2 t : FVec Ideal S256x128 .bf16) (ix2 k j) = (V m c main_v3 : FVec Ideal S256x1024 .bf16) (ix2 k (vcol (hd t) j)) := by
  blk_ext [iblk, idx t]
theorem b3 (r : Fin 512) (j : Fin 128) :
    (iblk m c 3 t : FVec Ideal S512x128 .bf16) (ix2 r j) = (V m c main_v29 : FVec Ideal S4096x512 .bf16) (ix2 (row t r) (col (hd t) j)) := by
  blk_ext [iblk, idx t]
theorem b4 (r : Fin 512) (j : Fin 128) :
    (iblk m c 4 t : FVec Ideal S512x128 .bf16) (ix2 r j) = (V m c main_v4 : FVec Ideal S4096x512 .bf16) (ix2 (row t r) (col (hd t) j)) := by
  blk_ext [iblk, idx t]
theorem b5 (r : Fin 512) (j : Fin 128) :
    (iblk m c 5 t : FVec Ideal S512x128 .f32) (ix2 r j) = (V m c main_v34 : FVec Ideal S4096x512 .f32) (ix2 (row t r) (col (hd t) j)) := by
  blk_ext [iblk, idx t]
end

/-! ## The payloads over real blocks -/

section
variable (bq : FVec Ideal S512x128 .bf16) (bk bv : FVec Ideal S256x128 .bf16) (bo bd : FVec Ideal S512x128 .bf16)
variable (bl : FVec Ideal S512x128 .f32)
variable (x d : Fin 4096 → Fin 512 → ℝ) (y : Fin 256 → Fin 1024 → ℝ) (M : Fin 4 → Fin 4096 → ℝ)
variable (h : Fin 4) (ρ : Fin 512 → Fin 4096)

/-- The six blocks of a point, head `h` and query rows `ρ`, on real arrays. -/
structure Blocks : Prop where
  q : ∀ r j, bq (ix2 r j) = ((x (ρ r) (col h j) * sc : ℝ) : EReal)
  k : ∀ k j, bk (ix2 k j) = ((y k (kcol h j) : ℝ) : EReal)
  v : ∀ k j, bv (ix2 k j) = ((y k (vcol h j) : ℝ) : EReal)
  o : ∀ r j, bo (ix2 r j) = ((∑ k, p x y h (ρ r) k * y k (vcol h j) : ℝ) : EReal)
  d : ∀ r j, bd (ix2 r j) = ((d (ρ r) (col h j) : ℝ) : EReal)
  l0 : ∀ r, bl (ix2 r 0) = ((M h (ρ r) + Real.log (∑ k, Real.exp (s x y h (ρ r) k - M h (ρ r))) : ℝ) : EReal)
  ln : ∀ r (j : Fin 128), j.val ≠ 0 → bl (ix2 r j) = ((0 : ℝ) : EReal)

variable (B : Blocks bq bk bv bo bd bl x d y M h ρ)

/-- The softmax of the block. -/
abbrev P13 : FVec Ideal S512x256 .f32 := k0_pay13 (F := Ideal) (k0_pay8 (F := Ideal) bl) (k0_pay10 (F := Ideal) bk bq) k0_pay11 k0_pay12
/-- The cotangent of the block's logits. -/
abbrev P14 : FVec Ideal S512x256 .bf16 :=
  k0_pay14 (F := Ideal) (k0_pay5 (F := Ideal) bv) (k0_pay7 (F := Ideal) bd) (k0_pay8 (F := Ideal) bl)
    (k0_pay9 (F := Ideal) bd bo) (k0_pay10 (F := Ideal) bk bq) k0_pay11 k0_pay12

include B

theorem lsum (r : Fin 512) :
    (∑ l : Fin 128, Scalar.select (IntOp.cmpi .eq (BitVec.ofNat 32 l.val) 0#32) (bl (ix2 r l)) (0 : EReal))
      = ((M h (ρ r) + Real.log (∑ k, Real.exp (s x y h (ρ r) k - M h (ρ r))) : ℝ) : EReal) := by
  rw [Finset.sum_eq_single (0 : Fin 128)]
  · rw [B.l0]; rfl
  · intro l _ hl
    have hne : l.val ≠ 0 := fun e => hl (Fin.ext e)
    rw [B.ln r l hne]
    unfold Scalar.select
    split <;> rfl
  · intro hh; exact absurd (Finset.mem_univ _) hh

theorem p13 (r : Fin 512) (k : Fin 256) : P13 bq bk bl (ix2 r k) = ((p x y h (ρ r) k : ℝ) : EReal) := by
  have e := lsum bq bk bv bo bd bl x d y M h ρ B r
  unfold P13
  pointwise [k0_pay13, k0_pay8, k0_pay10, k0_pay6, k0_pay4, k0_pay11, k0_pay12]
  rw [e]
  simp only [B.q, B.k, mul', coe_sum, sub', Ideal.exp_coe]
  refine congrArg (fun r : ℝ => (r : EReal)) ?_
  rw [← p_lse x y (M h (ρ r)) h (ρ r) k]
  have hs : (∑ j : Fin 128, x (ρ r) (col h j) * sc * y k (kcol h j)) = s x y h (ρ r) k := by
    unfold s
    rw [Finset.sum_mul]
    exact Finset.sum_congr rfl fun j _ => by ring
  rw [hs]

theorem p14 (r : Fin 512) (k : Fin 256) : P14 bq bk bv bo bd bl (ix2 r k) = ((g x d y h (ρ r) k : ℝ) : EReal) := by
  have e := p13 bq bk bv bo bd bl x d y M h ρ B r k
  unfold P14 k0_pay14
  unfold P13 at e
  generalize k0_pay13 (F := Ideal) (k0_pay8 (F := Ideal) bl) (k0_pay10 (F := Ideal) bk bq) k0_pay11 k0_pay12 = w at e ⊢
  pointwise [k0_pay5, k0_pay7, k0_pay9]
  simp only [e, B.d, B.o, B.v, mul', coe_sum, sub']
  refine congrArg (fun r : ℝ => (r : EReal)) ?_
  rw [delta]
  rfl

/-- What the point adds to its slab of the queries' gradient. -/
theorem p15 (a : FVec Ideal S512x128 .f32) (r : Fin 512) (j : Fin 128) :
    k0_pay15 (F := Ideal) (k0_pay4 (F := Ideal) bk) (k0_pay5 (F := Ideal) bv) (k0_pay7 (F := Ideal) bd)
      (k0_pay8 (F := Ideal) bl) (k0_pay9 (F := Ideal) bd bo) (k0_pay10 (F := Ideal) bk bq) k0_pay11 k0_pay12 a (ix2 r j)
      = a (ix2 r j) + ((dq x d y h (ρ r) j : ℝ) : EReal) := by
  have e := p14 bq bk bv bo bd bl x d y M h ρ B r
  unfold k0_pay15
  unfold P14 at e
  generalize k0_pay14 (F := Ideal) (k0_pay5 (F := Ideal) bv) (k0_pay7 (F := Ideal) bd) (k0_pay8 (F := Ideal) bl)
    (k0_pay9 (F := Ideal) bd bo) (k0_pay10 (F := Ideal) bk bq) k0_pay11 k0_pay12 = w at e ⊢
  pointwise [k0_pay4]
  simp only [e, B.k, mul', coe_sum, sc_eq]
  refine congrArg (fun r : ℝ => a (ix2 _ _) + (r : EReal)) ?_
  unfold dq
  rw [Finset.mul_sum]
  exact Finset.sum_congr rfl fun k _ => by ring

/-- What the point adds to the values' gradient. -/
theorem p16 (a : FVec Ideal S256x128 .f32) (k : Fin 256) (j : Fin 128) :
    k0_pay16 (F := Ideal) (k0_pay7 (F := Ideal) bd)
      (k0_pay8 (F := Ideal) bl) (k0_pay10 (F := Ideal) bk bq) k0_pay11 k0_pay12 a (ix2 k j)
      = a (ix2 k j) + ((∑ r, d (ρ r) (col h j) * p x y h (ρ r) k : ℝ) : EReal) := by
  have e := fun r => p13 bq bk bv bo bd bl x d y M h ρ B r k
  unfold k0_pay16
  unfold P13 at e
  generalize k0_pay13 (F := Ideal) (k0_pay8 (F := Ideal) bl) (k0_pay10 (F := Ideal) bk bq) k0_pay11 k0_pay12 = w at e ⊢
  pointwise [k0_pay7]
  simp only [e, B.d, mul', coe_sum]
  refine congrArg (fun r : ℝ => a (ix2 _ _) + (r : EReal)) ?_
  exact Finset.sum_congr rfl fun k _ => by ring

/-- What the point adds to the keys' gradient. -/
theorem p17 (a : FVec Ideal S256x128 .f32) (k : Fin 256) (j : Fin 128) :
    k0_pay17 (F := Ideal) (k0_pay5 (F := Ideal) bv) (k0_pay6 (F := Ideal) bq) (k0_pay7 (F := Ideal) bd)
      (k0_pay8 (F := Ideal) bl) (k0_pay9 (F := Ideal) bd bo) (k0_pay10 (F := Ideal) bk bq) k0_pay11 k0_pay12 a (ix2 k j)
      = a (ix2 k j) + ((∑ r, g x d y h (ρ r) k * sc * x (ρ r) (col h j) : ℝ) : EReal) := by
  have e := fun r => p14 bq bk bv bo bd bl x d y M h ρ B r k
  unfold k0_pay17
  unfold P14 at e
  generalize k0_pay14 (F := Ideal) (k0_pay5 (F := Ideal) bv) (k0_pay7 (F := Ideal) bd) (k0_pay8 (F := Ideal) bl)
    (k0_pay9 (F := Ideal) bd bo) (k0_pay10 (F := Ideal) bk bq) k0_pay11 k0_pay12 = w at e ⊢
  pointwise [k0_pay6]
  simp only [e, B.q, mul', coe_sum]
  refine congrArg (fun r : ℝ => a (ix2 _ _) + (r : EReal)) ?_
  exact Finset.sum_congr rfl fun k _ => by ring
end

/-! ## The point's blocks are real -/

theorem blocks (m : (ℓ : Loc nD τ sig) → Buf (Elt Ideal) ℓ) (c : Dev nD) (x d : Fin 4096 → Fin 512 → ℝ)
    (y : Fin 256 → Fin 1024 → ℝ) (M : Fin 4 → Fin 4096 → ℝ) (E : Entry m c x d y M) (t : Fin cfg0.N) :
    Blocks (iblk m c 0 t) (iblk m c 1 t) (iblk m c 2 t) (iblk m c 3 t) (iblk m c 4 t) (iblk m c 5 t) x d y M (hd t) (row t) where
  q r j := (b0 m c t r j).trans (E.q _ _)
  k k j := (b1 m c t k j).trans (E.k _ _)
  v k j := (b2 m c t k j).trans (E.k _ _)
  o r j := (b3 m c t r j).trans (E.o _ _ _)
  d r j := (b4 m c t r j).trans (E.d _ _)
  l0 r := (b5 m c t r 0).trans (E.l0 _ _)
  ln r j hj := (b5 m c t r j).trans (E.ln _ _ j hj)

/-! ## The slab of a point within the queries' gradient -/

section
variable (t : Fin cfg0.N) (P : FVec Ideal S512x128 .f32) (R : Fin 4096) (j : Fin 128)

theorem slab_emb (inb) (r : Fin 512) (h : R.val = 512 * (t.val % 8) + r.val) :
    (Rect.unit (s := S4096x128) (k0_off1 (grid0.coords t)) ![512, 128] inb).emb (ix2 r j) = ix2 R j :=
  funext fun a => Fin.ext (by
    refine (Rect.idx_unit_val _ _ inb _ a).trans ?_
    refine (congrArg (· + (ix2 r j a).val) (congrFun (off t) a)).trans ?_
    match a with
    | 0 => exact h.symm
    | 1 => exact Nat.zero_add _)

theorem slab_not_mem (inb) (h : R.val < 512 * (t.val % 8) ∨ 512 * (t.val % 8) + 512 ≤ R.val) :
    ix2 R j ∉ (Rect.unit (s := S4096x128) (k0_off1 (grid0.coords t)) ![512, 128] inb).set := by
  rw [Rect.mem_set_unit]
  intro hall
  have h0 := hall 0
  rw [off t] at h0
  have h1 : 512 * (t.val % 8) ≤ R.val ∧ R.val < 512 * (t.val % 8) + 512 := h0
  omega

theorem slabA_mem (inb) (inb') (Z : FVec Ideal S4096x128 .f32) (r : Fin 512) (h : R.val = 512 * (t.val % 8) + r.val) :
    View.canon (Val := Elt Ideal) (s := S4096x128) (e := .f32)
      [⟨Rect.unit (k0_off1 (grid0.coords t)) ![512, 128] inb, P⟩, ⟨Rect.unit ![0, 0] ![4096, 128] inb', Z⟩] (ix2 R j)
      = P (ix2 r j) := by
  rw [← slab_emb t R j inb r h]
  exact View.canon_cons_emb _ _ _ _

theorem slabA_not_mem (inb) (inb') (Z : FVec Ideal S4096x128 .f32)
    (h : R.val < 512 * (t.val % 8) ∨ 512 * (t.val % 8) + 512 ≤ R.val) :
    View.canon (Val := Elt Ideal) (s := S4096x128) (e := .f32)
      [⟨Rect.unit (k0_off1 (grid0.coords t)) ![512, 128] inb, P⟩, ⟨Rect.unit ![0, 0] ![4096, 128] inb', Z⟩] (ix2 R j)
      = Z (ix2 R j) := by
  refine (View.canon_cons_of_not_mem _ _ ?_).trans ?_
  · exact slab_not_mem t R j inb h
  have e : (Rect.unit (s := S4096x128) ![0, 0] ![4096, 128] inb').emb (ix2 R j) = ix2 R j :=
    funext fun a => Fin.ext (by
      refine (Rect.idx_unit_val _ _ inb' _ a).trans ?_
      match a with
      | 0 => exact Nat.zero_add _
      | 1 => exact Nat.zero_add _)
  refine (congrArg _ e.symm).trans ?_
  exact View.canon_cons_emb _ _ _ _

variable (X : FVec Ideal S4096x128 .f32) (arg : Memref sig .tc .vmem S4096x128 .f32) (harg : arg.IsWhole)

theorem slabB_mem (inb) (r : Fin 512) (h : R.val = 512 * (t.val % 8) + r.val) :
    View.read (Elt Ideal) arg.view (arg.view.writes (Elt Ideal) (harg.unread X)
      [⟨Rect.unit (k0_off1 (grid0.coords t)) ![512, 128] inb, P⟩]) (ix2 R j) = P (ix2 r j) := by
  rw [← slab_emb t R j inb r h]
  exact View.read_writes_cons_emb _ _ _ _ _ _

theorem slabB_not_mem (inb) (h : R.val < 512 * (t.val % 8) ∨ 512 * (t.val % 8) + 512 ≤ R.val) :
    View.read (Elt Ideal) arg.view (arg.view.writes (Elt Ideal) (harg.unread X)
      [⟨Rect.unit (k0_off1 (grid0.coords t)) ![512, 128] inb, P⟩]) (ix2 R j) = X (ix2 R j) := by
  refine (View.read_writes_cons_miss _ _ _ _ _ ?_).trans ?_
  · exact slab_not_mem t R j inb h
  · exact congrFun (harg.read_unread (Val := Elt Ideal) X) _

/-- What a point loads of the queries' gradient. -/
theorem slab_ld (inb) (r : Fin 512) (h : R.val = 512 * (t.val % 8) + r.val) :
    View.ld (Val := Elt Ideal) (e' := .f32) X (Rect.unit (s := S4096x128) (k0_off1 (grid0.coords t)) ![512, 128] inb) (ix2 r j)
      = X (ix2 R j) :=
  congrArg X (slab_emb t R j inb r h)
end

end Cert.KernelIdeal.Xa

end
-- ==== Proof.XaGrid.lean ====
/- The attention's gradient kernel along its grid: what the outputs and the two running sums hold after each point,
   and so what the three results hold at the end. -/
module

public import Idealize.ShloMosaic.Lib.Pipeline.ReadBack
public import proofs.«01_k».proof.Proof.XaBlock

@[expose] public section

set_option maxRecDepth 16384

noncomputable section

open Idealize.ShloMosaic Idealize.ShloMosaic.TcCoe Idealize.SL.Sem

namespace Cert.KernelIdeal.Xa

open Cert.KernelIdeal Cert.KernelIdeal.Gen
open Cert.Reals Cert.XaSpec

variable (m : (ℓ : Loc nD τ sig) → Buf (Elt Ideal) ℓ) (c : Dev nD) (x d : Fin 4096 → Fin 512 → ℝ)
variable (y : Fin 256 → Fin 1024 → ℝ) (M : Fin 4 → Fin 4096 → ℝ) (E : Entry m c x d y M)

/-- After a point: the block of the queries' gradient, and the running sums of the keys' and the values'. -/
abbrev oq (t : Fin cfg0.N) : FVec Ideal S4096x128 .f32 := (outsAt0 m c t.val t.isLt).1
abbrev ok (t : Fin cfg0.N) : FVec Ideal S256x128 .f32 := (outsAt0 m c t.val t.isLt).2.2.2.1
abbrev ov (t : Fin cfg0.N) : FVec Ideal S256x128 .f32 := (outsAt0 m c t.val t.isLt).2.2.2.2

/-- The point before. -/
abbrev prev (t : Fin cfg0.N) : Fin cfg0.N := ⟨t.val - 1, by have := t.isLt; omega⟩

/-- One term of the keys' gradient, and of the values'. -/
abbrev fk (h : Fin 4) (k : Fin 256) (j : Fin 128) (q : Fin 4096) : ℝ := g x d y h q k * sc * x q (col h j)
abbrev fv (h : Fin 4) (k : Fin 256) (j : Fin 128) (q : Fin 4096) : ℝ := d q (col h j) * p x y h q k

section
variable (t : Fin cfg0.N) (R : Fin 4096) (j : Fin 128) (k : Fin 256)

/-! ### The first point of a head -/

section
variable (h0 : t.val % 8 = 0)
include E h0

theorem oqA_mem (r : Fin 512) (h : R.val = 512 * (t.val % 8) + r.val) :
    oq m c t (ix2 R j) = ((dq x d y (hd t) (row t r) j : ℝ) : EReal) := by
  unfold oq
  rw [outsAt0_A m c t h0 h0 (by omega)]
  frame_out
  refine (slabA_mem t _ R j _ _ _ r h).trans ?_
  refine (p15 _ _ _ _ _ _ x d y M (hd t) (row t) (blocks m c x d y M E t) _ r j).trans ?_
  refine (congrArg (· + _) ((slab_ld t R j _ _ r h).trans (Ideal.ofBits_zero .f32))).trans ?_
  exact zero_add _

theorem oqA_not_mem (h : R.val < 512 * (t.val % 8) ∨ 512 * (t.val % 8) + 512 ≤ R.val) :
    oq m c t (ix2 R j) = 0 := by
  unfold oq
  rw [outsAt0_A m c t h0 h0 (by omega)]
  frame_out
  exact (slabA_not_mem t _ R j _ _ _ h).trans (Ideal.ofBits_zero .f32)

theorem okA : ok m c t (ix2 k j) = ((∑ r, fk x d y (hd t) k j (row t r) : ℝ) : EReal) := by
  unfold ok
  rw [outsAt0_A m c t h0 h0 (by omega)]
  frame_out
  refine (p17 _ _ _ _ _ _ x d y M (hd t) (row t) (blocks m c x d y M E t) _ k j).trans ?_
  refine (congrArg (· + _) (Ideal.ofBits_zero .f32)).trans ?_
  exact zero_add _

theorem ovA : ov m c t (ix2 k j) = ((∑ r, fv x d y (hd t) k j (row t r) : ℝ) : EReal) := by
  unfold ov
  rw [outsAt0_A m c t h0 h0 (by omega)]
  frame_out
  refine (p16 _ _ _ _ _ _ x d y M (hd t) (row t) (blocks m c x d y M E t) _ k j).trans ?_
  refine (congrArg (· + _) (Ideal.ofBits_zero .f32)).trans ?_
  exact zero_add _
end

/-! ### The other points -/

section
variable (h0 : ¬ t.val % 8 = 0)
include E h0

theorem oqB_mem (r : Fin 512) (h : R.val = 512 * (t.val % 8) + r.val) :
    oq m c t (ix2 R j) = oq m c (prev t) (ix2 R j) + ((dq x d y (hd t) (row t r) j : ℝ) : EReal) := by
  unfold oq
  by_cases h2 : t.val % 8 = 7
  · rw [outsAt0_C m c t h0 h0 h2]
    frame_out
    refine (slabB_mem t _ R j _ _ _ _ r h).trans ?_
    refine (p15 _ _ _ _ _ _ x d y M (hd t) (row t) (blocks m c x d y M E t) _ r j).trans ?_
    exact congrArg (· + _) (slab_ld t R j _ _ r h)
  · rw [outsAt0_B m c t h0 h0 h2]
    frame_out
    refine (slabB_mem t _ R j _ _ _ _ r h).trans ?_
    refine (p15 _ _ _ _ _ _ x d y M (hd t) (row t) (blocks m c x d y M E t) _ r j).trans ?_
    exact congrArg (· + _) (slab_ld t R j _ _ r h)

theorem oqB_not_mem (h : R.val < 512 * (t.val % 8) ∨ 512 * (t.val % 8) + 512 ≤ R.val) :
    oq m c t (ix2 R j) = oq m c (prev t) (ix2 R j) := by
  unfold oq
  by_cases h2 : t.val % 8 = 7
  · rw [outsAt0_C m c t h0 h0 h2]
    frame_out
    exact slabB_not_mem t _ R j _ _ _ _ h
  · rw [outsAt0_B m c t h0 h0 h2]
    frame_out
    exact slabB_not_mem t _ R j _ _ _ _ h

theorem okB : ok m c t (ix2 k j) = ok m c (prev t) (ix2 k j) + ((∑ r, fk x d y (hd t) k j (row t r) : ℝ) : EReal) := by
  unfold ok
  by_cases h2 : t.val % 8 = 7
  · rw [outsAt0_C m c t h0 h0 h2]
    frame_out
    rw [read_unread_whole]
    exact p17 _ _ _ _ _ _ x d y M (hd t) (row t) (blocks m c x d y M E t) _ k j
  · rw [outsAt0_B m c t h0 h0 h2]
    frame_out
    rw [read_unread_whole]
    exact p17 _ _ _ _ _ _ x d y M (hd t) (row t) (blocks m c x d y M E t) _ k j

theorem ovB : ov m c t (ix2 k j) = ov m c (prev t) (ix2 k j) + ((∑ r, fv x d y (hd t) k j (row t r) : ℝ) : EReal) := by
  unfold ov
  by_cases h2 : t.val % 8 = 7
  · rw [outsAt0_C m c t h0 h0 h2]
    frame_out
    rw [read_unread_whole]
    exact p16 _ _ _ _ _ _ x d y M (hd t) (row t) (blocks m c x d y M E t) _ k j
  · rw [outsAt0_B m c t h0 h0 h2]
    frame_out
    rw [read_unread_whole]
    exact p16 _ _ _ _ _ _ x d y M (hd t) (row t) (blocks m c x d y M E t) _ k j
end

/-! ### What the last point of a head writes of the keys' and values' gradients -/

theorem out7 (h2 : t.val % 8 = 7) : (outsAt0 m c t.val t.isLt).2.1 = ok m c t := by
  unfold ok
  rw [outsAt0_C m c t (by omega) (by omega) h2]
  frame_out
theorem out8 (h2 : t.val % 8 = 7) : (outsAt0 m c t.val t.isLt).2.2.1 = ov m c t := by
  unfold ov
  rw [outsAt0_C m c t (by omega) (by omega) h2]
  frame_out

end

/-! ### After each point -/

include E in
theorem inv (b : ℕ) : ∀ t : Fin cfg0.N, t.val % 8 = b →
    (∀ (R : Fin 4096) (j : Fin 128), oq m c t (ix2 R j) = if R.val < 512 * (b + 1) then ((dq x d y (hd t) R j : ℝ) : EReal) else 0)
    ∧ (∀ (k : Fin 256) (j : Fin 128), ok m c t (ix2 k j) = ((upto (fk x d y (hd t) k j) (512 * (b + 1)) : ℝ) : EReal))
    ∧ (∀ (k : Fin 256) (j : Fin 128), ov m c t (ix2 k j) = ((upto (fv x d y (hd t) k j) (512 * (b + 1)) : ℝ) : EReal)) := by
  induction b with
  | zero =>
    intro t h0
    refine ⟨fun R j => ?_, fun k j => ?_, fun k j => ?_⟩
    · by_cases h : R.val < 512 * (0 + 1)
      · rw [if_pos h, oqA_mem m c x d y M E t R j h0 ⟨R.val, by omega⟩ (by simp; omega)]
        have e : row t ⟨R.val, by omega⟩ = R := Fin.ext (by simp; omega)
        rw [e]
      · rw [if_neg h, oqA_not_mem m c x d y M E t R j h0 (by omega)]
    · rw [okA m c x d y M E t j k h0]
      rw [show 512 * (0 + 1) = 512 from rfl, upto_first (fk x d y (hd t) k j) 512 (by omega)]
      simp only [row, h0, Nat.mul_zero, Nat.zero_add]
    · rw [ovA m c x d y M E t j k h0]
      rw [show 512 * (0 + 1) = 512 from rfl, upto_first (fv x d y (hd t) k j) 512 (by omega)]
      simp only [row, h0, Nat.mul_zero, Nat.zero_add]
  | succ b ih =>
    intro t hb
    have hN := N32 t
    have h0 : ¬ t.val % 8 = 0 := by omega
    have hh : hd (prev t) = hd t := Fin.ext (by show (t.val - 1) / 8 = t.val / 8; omega)
    obtain ⟨iq, ik, iv⟩ := ih (prev t) (by show (t.val - 1) % 8 = b; omega)
    rw [hh] at iq ik iv
    refine ⟨fun R j => ?_, fun k j => ?_, fun k j => ?_⟩
    · by_cases h : 512 * (b + 1) ≤ R.val ∧ R.val < 512 * (b + 1) + 512
      · have e : row t ⟨R.val - 512 * (b + 1), by omega⟩ = R := Fin.ext (by simp; omega)
        rw [if_pos (by omega), oqB_mem m c x d y M E t R j h0 ⟨R.val - 512 * (b + 1), by omega⟩ (by simp; omega), e, iq,
          if_neg (by omega), zero_add]
      · rw [oqB_not_mem m c x d y M E t R j h0 (by omega), iq]
        by_cases h' : R.val < 512 * (b + 1)
        · rw [if_pos h', if_pos (by omega)]
        · rw [if_neg h', if_neg (by omega)]
    · rw [okB m c x d y M E t j k h0, ik, add', show 512 * (b + 1 + 1) = 512 * (b + 1) + 512 by ring,
        upto_add _ _ _ (by omega)]
      simp only [row, hb]
    · rw [ovB m c x d y M E t j k h0, iv, add', show 512 * (b + 1 + 1) = 512 * (b + 1) + 512 by ring,
        upto_add _ _ _ (by omega)]
      simp only [row, hb]

end Cert.KernelIdeal.Xa

end
-- ==== Proof.XaRef.lean ====
/- What the reference program of the cross-attention's gradient returns on real arguments: the sums of `XaSpec`. -/
module

public import proofs.«01_k».proof.Proof.XaSpec
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.ReferenceIdeal.Xa

open Cert.ReferenceIdeal Cert.ReferenceIdeal.Gen Cert.ReferenceIdeal.Read
open Cert.Reals Cert.XaSpec

variable (x0 : FVec Ideal S4096x512 .f32) (x1 : FVec Ideal S256x1024 .f32) (x2 : FVec Ideal S4096x512 .f32)
variable (x d : Fin 4096 → Fin 512 → ℝ) (y : Fin 256 → Fin 1024 → ℝ)
variable (hx : ∀ q j, x0 (ix2 q j) = ((x q j : ℝ) : EReal)) (hy : ∀ k j, x1 (ix2 k j) = ((y k j : ℝ) : EReal))
variable (hd : ∀ q j, x2 (ix2 q j) = ((d q j : ℝ) : EReal))

section
include hx hy

theorem v8 (h : Fin 4) (q : Fin 4096) (k : Fin 256) :
    val_main_v8 (F := Ideal) x0 x1 (ix3 h q k) = ((s x y h q k : ℝ) : EReal) := by
  pointwise [val_main_v8, val_main_v7, val_main_v6, val_main_v5, val_main_v4, val_main_v3, val_main_v2, val_main_v0,
    val_main_cst]
  simp only [hx, hy, mul', coe_sum, sc_eq]
  rfl

theorem v9 (h : Fin 4) (q : Fin 4096) : ∃ M : ℝ, val_main_v9 (F := Ideal) x0 x1 (ix2 h q) = (M : EReal) := by
  unfold val_main_v9
  refine reduce_max _ _ _ _ (fun i => ?_) (fun i => negInf) _ (ix3 h q 0) ?_
  · idx_vars i
    exact ⟨_, v8 x0 x1 x y hx hy _ _ _⟩
  · exact ((reducesTo_S4x4096x256_S4x4096_d2).fiber_r3_a2 _ _).mpr ⟨0, rfl⟩

omit hx hy in
theorem v16_of (h : Fin 4) (q : Fin 4096) (M : ℝ) (e : val_main_v9 (F := Ideal) x0 x1 (ix2 h q) = (M : EReal)) :
    val_main_v16 (F := Ideal) x0 x1 (ix2 h q) = (M : EReal) := by
  rw [val_main_v16_apply, e, val_main_v15_apply, val_main_cst_2_apply, Ideal.maximumf_def, Ideal.ofBits_def, negInf]
  exact bot_sup_eq _

theorem v16 (h : Fin 4) (q : Fin 4096) :
    ∃ M : ℝ, val_main_v16 (F := Ideal) x0 x1 (ix2 h q) = (M : EReal) := by
  obtain ⟨M, e⟩ := v9 x0 x1 x y hx hy h q
  exact ⟨M, v16_of x0 x1 h q M e⟩

variable (M : ℝ) (h : Fin 4) (q : Fin 4096) (hM : val_main_v16 (F := Ideal) x0 x1 (ix2 h q) = (M : EReal))
include hM

theorem v29 (k : Fin 256) :
    val_main_v29 (F := Ideal) x0 x1 (ix3 h q k) = ((Real.exp (s x y h q k - M) : ℝ) : EReal) := by
  pointwise [val_main_v29, val_main_v28, val_main_v27, val_main_v26]
  simp only [v8 x0 x1 x y hx hy, hM, sub', Ideal.exp_coe]

theorem v31 (z : Fin 1) :
    val_main_v31 (F := Ideal) x0 x1 (ix3 h q z) = ((∑ k, Real.exp (s x y h q k - M) : ℝ) : EReal) := by
  pointwise [val_main_v31, val_main_v30, val_main_cst_8]
  simp only [v29 x0 x1 x y hx hy M h q hM, coe_sum]

theorem v33' (k : Fin 256) :
    val_main_v33 (F := Ideal) x0 x1 (ix3 h q k) = ((p x y h q k : ℝ) : EReal) := by
  pointwise [val_main_v33, val_main_v32]
  rw [v29 x0 x1 x y hx hy M h q hM, v31 x0 x1 x y hx hy M h q hM, div' _ _ (expSum_pos _).ne', p_shift]

end

include hx hy

theorem v33 (h : Fin 4) (q : Fin 4096) (k : Fin 256) :
    val_main_v33 (F := Ideal) x0 x1 (ix3 h q k) = ((p x y h q k : ℝ) : EReal) := by
  obtain ⟨M, hM⟩ := v16 x0 x1 x y hx hy h q
  exact v33' x0 x1 x y hx hy M h q hM k

include hd

omit hx in
theorem v46 (h : Fin 4) (q : Fin 4096) (k : Fin 256) :
    val_main_v46 (F := Ideal) x1 x2 (ix3 h q k) = ((dp d y h q k : ℝ) : EReal) := by
  pointwise [val_main_v46, val_main_v43, val_main_v42, val_main_v38, val_main_v37, val_main_v1]
  simp only [hd, hy, mul', coe_sum]
  rfl

theorem v62 (h : Fin 4) (q : Fin 4096) (k : Fin 256) :
    val_main_v62 (F := Ideal) x0 x1 x2 (ix3 h q k) = ((g x d y h q k * sc : ℝ) : EReal) := by
  obtain ⟨M, hM⟩ := v16 x0 x1 x y hx hy h q
  pointwise [val_main_v62, val_main_v61, val_main_v60, val_main_v59, val_main_v58, val_main_v57, val_main_v56,
    val_main_v55, val_main_v54, val_main_v53, val_main_v52, val_main_v51, val_main_v50, val_main_v49, val_main_v36,
    val_main_v35, val_main_v34, val_main_cst_9, val_main_cst_10, val_main_cst_11, val_main_cst_12]
  have hz := expSum_pos (fun k => s x y h q k - M)
  have one : (1 : EReal) = ((1 : ℝ) : EReal) := rfl
  simp only [v29 x0 x1 x y hx hy M h q hM, v31 x0 x1 x y hx hy M h q hM, v46 x1 x2 d y hy hd, sc_eq, one, mul', coe_sum,
    div' _ _ hz.ne', div' _ _ (mul_pos hz hz).ne', neg', add']
  refine congrArg (fun r : ℝ => (r : EReal)) ?_
  unfold g
  simp only [← p_shift x y M]
  simp only [Finset.sum_const, Finset.card_univ, Fintype.card_fin, one_smul]
  set Z := ∑ k', Real.exp (s x y h q k' - M)
  have e : ∑ k', dp d y h q k' * (1 / (Z * Z)) * Real.exp (s x y h q k' - M)
      = (∑ k', Real.exp (s x y h q k' - M) / Z * dp d y h q k') / Z := by
    rw [Finset.sum_div]
    exact Finset.sum_congr rfl fun k' _ => by field_simp
  rw [e]
  field_simp
  ring

theorem out0 (q : Fin 4096) (h : Fin 4) (j : Fin 128) :
    val_main_v68 (F := Ideal) x0 x1 x2 (ix2 q (col h j)) = ((dq x d y h q j : ℝ) : EReal) := by
  pointwise [val_main_v68, val_main_v67, val_main_v64, val_main_v5, val_main_v4, val_main_v0]
  have e : ∀ hh, (⟨(h.val * 128 + j.val) / 128, hh⟩ : Fin 4) = h := fun hh => Fin.ext (by show (h.val * 128 + j.val) / 128 = h.val; omega)
  have e' : ∀ hh, (⟨(h.val * 128 + j.val) / 128 * 128 + (h.val * 128 + j.val) % 128, hh⟩ : Fin 1024) = kcol h j :=
    fun hh => Fin.ext (Nat.div_add_mod' _ _)
  simp only [e, e', v62 x0 x1 x2 x d y hx hy hd, hy, mul', coe_sum]
  rfl

theorem out1 (k : Fin 256) (h : Fin 4) (j : Fin 128) :
    val_main_v70 (F := Ideal) x0 x1 x2 (ix2 k (col h j)) = ((dk x d y h k j : ℝ) : EReal) := by
  pointwise [val_main_v70, val_main_v69, val_main_v66, val_main_v65, val_main_v63, val_main_v3, val_main_v2]
  have e : ∀ hh, (⟨(h.val * 128 + j.val) / 128, hh⟩ : Fin 4) = h := fun hh => Fin.ext (by show (h.val * 128 + j.val) / 128 = h.val; omega)
  rw [dif_pos (by omega)]
  simp only [e, v62 x0 x1 x2 x d y hx hy hd, hx, mul', coe_sum]
  rfl

theorem out2 (k : Fin 256) (h : Fin 4) (j : Fin 128) :
    val_main_v71 (F := Ideal) x0 x1 x2 (ix2 k (col h j)) = ((dv x d y h k j : ℝ) : EReal) := by
  pointwise [val_main_v71, val_main_v69, val_main_v48, val_main_v47, val_main_v45, val_main_v44, val_main_v43,
    val_main_v42]
  have e : ∀ hh, (⟨(h.val * 128 + j.val) / 128, hh⟩ : Fin 4) = h := fun hh => Fin.ext (by show (h.val * 128 + j.val) / 128 = h.val; omega)
  simp only [e, v33 x0 x1 x y hx hy, hd, mul', coe_sum]
  rfl

end Cert.ReferenceIdeal.Xa

end
-- ==== Proof.XaOut.lean ====
/- The attention's gradient kernel: its three results on finite arguments, and that they are the reference's. -/
module

public import proofs.«01_k».proof.Proof.XaGrid
public import proofs.«01_k».proof.Proof.XaRef
public import proofs.«01_k».proof.Proof.Gen.ReferenceIdeal.Run
public import proofs.«01_k».proof.Proof.Gen.Pre_finite
public import proofs.«01_k».proof.Defs
public import Idealize.ShloMosaic.Lib.ReduceAll
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.KernelIdeal.Xa

open Cert.KernelIdeal Cert.KernelIdeal.Gen Cert.KernelIdeal.Value
open Cert.Reals Cert.XaSpec

section
variable (m : (ℓ : Loc nD τ sig) → Buf (Elt Ideal) ℓ) (c : Dev nD) (x d : Fin 4096 → Fin 512 → ℝ)
variable (y : Fin 256 → Fin 1024 → ℝ) (M : Fin 4 → Fin 4096 → ℝ) (E : Entry m c x d y M)
variable (h : Fin 4) (j : Fin 128)

/-- The last point of a head. -/
abbrev lastPt : Fin cfg0.N := ⟨8 * h.val + 7, lt_of_lt_of_eq (by omega) N_0.symm⟩

theorem lastPt_mod : (lastPt h).val % 8 = 7 := by show (8 * h.val + 7) % 8 = 7; omega
theorem hd_lastPt : hd (lastPt h) = h := Fin.ext (by show (8 * h.val + 7) / 8 = h.val; omega)

include E

theorem G6_at (q : Fin 4096) : G6 m c (ix2 q (col h j)) = ((dq x d y h q j : ℝ) : EReal) := by
  have hr : pt6Of (ix2 q (col h j)) = 8 * h.val + 7 := by
    show 8 * (4 * (q.val / 4096 - 0) + 1 * ((h.val * 128 + j.val) / 128 - 0)) + 7 = _
    omega
  have hl : loc6Of (ix2 q (col h j)) = ix2 q j := by
    funext a
    match a with
    | ⟨0, _⟩ => exact Fin.ext (by show q.val % 4096 = q.val; omega)
    | ⟨1, _⟩ => exact Fin.ext (by show (h.val * 128 + j.val) % 128 = j.val; omega)
  unfold G6
  refine (dif_pos (by rw [hr]; exact (lastPt h).isLt)).trans ?_
  rw [hl, fold0_congr m c _ _ (8 * h.val + 7) (by rw [Nat.zero_add]; exact (lastPt h).isLt) hr,
    ← outsAt0_sweep m c (8 * h.val + 7) (lastPt h).isLt]
  refine ((inv m c x d y M E 7 (lastPt h) (lastPt_mod h)).1 q j).trans ?_
  rw [if_pos (by omega), hd_lastPt]

theorem G7_at (k : Fin 256) : G7 m c (ix2 k (col h j)) = ((dk x d y h k j : ℝ) : EReal) := by
  have hr : pt7Of (ix2 k (col h j)) = 8 * h.val + 7 := by
    show 8 * (4 * (k.val / 256 - 0) + 1 * ((h.val * 128 + j.val) / 128 - 0)) + 7 = _
    omega
  have hl : loc7Of (ix2 k (col h j)) = ix2 k j := by
    funext a
    match a with
    | ⟨0, _⟩ => exact Fin.ext (by show k.val % 256 = k.val; omega)
    | ⟨1, _⟩ => exact Fin.ext (by show (h.val * 128 + j.val) % 128 = j.val; omega)
  unfold G7
  refine (dif_pos (by rw [hr]; exact (lastPt h).isLt)).trans ?_
  rw [hl, fold0_congr m c _ _ (8 * h.val + 7) (by rw [Nat.zero_add]; exact (lastPt h).isLt) hr,
    ← outsAt0_sweep m c (8 * h.val + 7) (lastPt h).isLt]
  refine (congrFun (out7 m c (lastPt h) (lastPt_mod h)) _).trans ?_
  refine ((inv m c x d y M E 7 (lastPt h) (lastPt_mod h)).2.1 k j).trans ?_
  rw [hd_lastPt, show 512 * (7 + 1) = 4096 from rfl, upto_all]
  rfl

theorem G8_at (k : Fin 256) : G8 m c (ix2 k (col h j)) = ((dv x d y h k j : ℝ) : EReal) := by
  have hr : pt8Of (ix2 k (col h j)) = 8 * h.val + 7 := by
    show 8 * (4 * (k.val / 256 - 0) + 1 * ((h.val * 128 + j.val) / 128 - 0)) + 7 = _
    omega
  have hl : loc8Of (ix2 k (col h j)) = ix2 k j := by
    funext a
    match a with
    | ⟨0, _⟩ => exact Fin.ext (by show k.val % 256 = k.val; omega)
    | ⟨1, _⟩ => exact Fin.ext (by show (h.val * 128 + j.val) % 128 = j.val; omega)
  unfold G8
  refine (dif_pos (by rw [hr]; exact (lastPt h).isLt)).trans ?_
  rw [hl, fold0_congr m c _ _ (8 * h.val + 7) (by rw [Nat.zero_add]; exact (lastPt h).isLt) hr,
    ← outsAt0_sweep m c (8 * h.val + 7) (lastPt h).isLt]
  refine (congrFun (out8 m c (lastPt h) (lastPt_mod h)) _).trans ?_
  refine ((inv m c x d y M E 7 (lastPt h) (lastPt_mod h)).2.2 k j).trans ?_
  rw [hd_lastPt, show 512 * (7 + 1) = 4096 from rfl, upto_all]
  rfl
end

/-! ### The precondition, read back -/

theorem finite_args (a0 : FVec Ideal S4096x512 .f32) (a1 : FVec Ideal S256x1024 .f32) (a2 : FVec Ideal S4096x512 .f32)
    (hp : Cert.Pre_finite.fn (F := Ideal) a0 a1 a2 = fun _ => 1#1) :
    (∀ i, a0 i = (((a0 i : EReal).toReal : ℝ) : EReal)) ∧ (∀ i, a1 i = (((a1 i : EReal).toReal : ℝ) : EReal))
    ∧ (∀ i, a2 i = (((a2 i : EReal).toReal : ℝ) : EReal)) := by
  have e := congrFun hp (fun a => a.elim0)
  simp only [Cert.Pre_finite.fn, Cert.Pre_finite.fn_part1, andi, andi_one] at e
  obtain ⟨⟨e0, e1⟩, e2⟩ := e
  refine ⟨fun i => ?_, fun i => ?_, fun i => ?_⟩
  · have t := (andi_one _ _).1 (Host.reduce_andi_all _ _ _ _ _ e0 i)
    exact real_of_tests _ t.1 t.2
  · have t := (andi_one _ _).1 (Host.reduce_andi_all _ _ _ _ _ e1 i)
    exact real_of_tests _ t.1 t.2
  · have t := (andi_one _ _).1 (Host.reduce_andi_all _ _ _ _ _ e2 i)
    exact real_of_tests _ t.1 t.2

/-! ### The two programs' results are the same -/

/-- Every column is a column of a head. -/
theorem ext_cols {n : ℕ} (f g : (⟨2, ![n, 512]⟩ : Shape).Idx → EReal)
    (h : ∀ (r : Fin n) (a : Fin 4) (j : Fin 128), f (ix2 r (col a j)) = g (ix2 r (col a j))) : f = g := by
  suffices H : ∀ (r : Fin n) (q : Fin 512), f (ix2 r q) = g (ix2 r q) by
    funext i
    rw [eq_ix2 i]
    exact H _ _
  intro r q
  have e : col ⟨q.val / 128, by omega⟩ ⟨q.val % 128, by omega⟩ = q := Fin.ext (by show q.val / 128 * 128 + q.val % 128 = q.val; omega)
  rw [← e]
  exact h _ _ _

/-- On finite arguments the kernel's three gradients are the reference's. -/
theorem equal : Cert.algebraic_KernelIdeal_ReferenceIdeal_pre_finite
    (hKernelIdeal := Cert.KernelIdeal.Gen.facts) (hReferenceIdeal := Cert.ReferenceIdeal.Gen.facts)
    (hPre_finite := Cert.Pre_finite.Gen.facts) := by
  intro m g m' g' hpre hagree
  have key : ∀ c : Dev nD, G6 m c = Cert.ReferenceIdeal.Read.val_main_v68 (F := Ideal) (A0 m c) (A1 m c) (A2 m c)
      ∧ G7 m c = Cert.ReferenceIdeal.Read.val_main_v70 (F := Ideal) (A0 m c) (A1 m c) (A2 m c)
      ∧ G8 m c = Cert.ReferenceIdeal.Read.val_main_v71 (F := Ideal) (A0 m c) (A1 m c) (A2 m c) := by
    intro c
    obtain ⟨h0, h1, h2⟩ := finite_args (A0 m c) (A1 m c) (A2 m c) (hpre c)
    have hx := fun (q : Fin 4096) (j : Fin 512) => h0 (ix2 q j)
    have hy := fun (q : Fin 256) (j : Fin 1024) => h1 (ix2 q j)
    have hd := fun (q : Fin 4096) (j : Fin 512) => h2 (ix2 q j)
    obtain ⟨M, E⟩ := entry m c _ _ _ hx hy hd
    exact ⟨ext_cols _ _ fun r a j => (G6_at m c _ _ _ M E a j r).trans (Cert.ReferenceIdeal.Xa.out0 _ _ _ _ _ _ hx hy hd r a j).symm,
      ext_cols _ _ fun r a j => (G7_at m c _ _ _ M E a j r).trans (Cert.ReferenceIdeal.Xa.out1 _ _ _ _ _ _ hx hy hd r a j).symm,
      ext_cols _ _ fun r a j => (G8_at m c _ _ _ M E a j r).trans (Cert.ReferenceIdeal.Xa.out2 _ _ _ _ _ _ hx hy hd r a j).symm⟩
  refine ⟨fun c => G6 m c, fun c => G7 m c, fun c => G8 m c, run m g, ?_⟩
  refine (θ_run _ _ _).mono (fun r h c => ?_) (Cert.ReferenceIdeal.Value.run (F := Ideal) m' g')
  obtain ⟨r0, r1, r2, k0, k1, k2⟩ := h c
  obtain ⟨e0, e1, e2⟩ := hagree c
  obtain ⟨v0, v1, v2⟩ := key c
  refine ⟨r0.trans ?_, r1.trans ?_, r2.trans ?_, k0, k1, k2⟩
  · rw [Cert.ReferenceIdeal.Read.val_main_v68_eq, e0, e1, e2]
    exact v0.symm
  · rw [Cert.ReferenceIdeal.Read.val_main_v70_eq, e0, e1, e2]
    exact v1.symm
  · rw [Cert.ReferenceIdeal.Read.val_main_v71_eq, e0, e1, e2]
    exact v2.symm

/-- The reference terminates with its arguments unchanged; it has no semaphores. -/
theorem ref_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
        r.2.mem ((c.tc : Thread Cert.ReferenceIdeal.nD Cert.ReferenceIdeal.τ).loc Cert.ReferenceIdeal.main_arg0) = m (c.tc.loc Cert.ReferenceIdeal.main_arg0)
        ∧ r.2.mem ((c.tc : Thread Cert.ReferenceIdeal.nD Cert.ReferenceIdeal.τ).loc Cert.ReferenceIdeal.main_arg1) = m (c.tc.loc Cert.ReferenceIdeal.main_arg1)
        ∧ r.2.mem ((c.tc : Thread Cert.ReferenceIdeal.nD Cert.ReferenceIdeal.τ).loc Cert.ReferenceIdeal.main_arg2) = m (c.tc.loc Cert.ReferenceIdeal.main_arg2))
      ∧ r.2.sem = fun _ => 0 :=
  (θ_run _ _ _).mono (fun r h => ⟨fun c => (h c).2.2.2, sem_eq_zero_of_no_sems rfl r.2⟩) (Cert.ReferenceIdeal.Value.run (F := Ideal) m ρ)

end Cert.KernelIdeal.Xa

end
-- ==== Proof.DAct.lean ====
/- The product `d_act`, the gradient at the MLP's pre-activation: the array its blocks make is the reference's. -/
module

public import proofs.«01_k».proof.Proof.Gen.DActIdeal.Value
public import proofs.«01_k».proof.Proof.Gen.DActRefIdeal.Run
public import proofs.«01_k».proof.Proof.Gen.DActRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DActIdeal.Product

open Cert.DActIdeal Cert.DActIdeal.Gen Cert.DActIdeal.Value
open Cert.DActRefIdeal.Read

variable (m : (ℓ : Loc nD τ sig) → Buf (Elt Ideal) ℓ) (c : Dev nD)

theorem idx : ∀ t : Fin cfg0.N, win0_0.index t = ![t.val / 4, 0] ∧ win0_1.index t = ![t.val % 4, 0] ∧ win0_2.index t = ![t.val / 4, t.val % 4] ∧ win0_3.index t = ![t.val / 4, t.val % 4] :=
  (by decide +kernel : ∀ t : Fin grid0.N, _)

/-- The gradient, over the pre-activation `H`, the weight `W` and the output's gradient `D`. -/
abbrev grad (H : FVec Ideal S4096x4096 .f32) (W : FVec Ideal S4096x1024 .f32) (D : FVec Ideal S4096x1024 .f32) : FVec Ideal S4096x4096 .bf16 :=
  val_main_v12 (F := Ideal) H W D

theorem entry0 : (V m c main_v0 : FVec Ideal S4096x1024 .bf16) = (m ((c : Thread nD τ).loc main_arg1) : FVec Ideal S4096x1024 .f32) := rfl
theorem entry1 : (V m c main_v1 : FVec Ideal S4096x4096 .bf16) = (m ((c : Thread nD τ).loc main_arg0) : FVec Ideal S4096x4096 .f32) := rfl

theorem point (t : Fin cfg0.N) (y) :
    k0_pay1 (iblk m c 0 t) (iblk m c 1 t) (iblk m c 2 t) y
      = grad (m ((c : Thread nD τ).loc main_arg0)) (m ((c : Thread nD τ).loc main_arg1)) (m ((c : Thread nD τ).loc main_arg2)) (((cfg0.win 3).blk t).view.emb y) := by
  pointwise [k0_pay1, grad, val_main_v12, val_main_v11, val_main_v10, val_main_v9, val_main_v8, val_main_v6, val_main_v5, val_main_v2, val_main_v1, val_main_v0,
    val_main_call0_v0, val_main_call0_cst, val_main_cst, val_main_cst_1, val_main_cst_2]
  blk_point [iblk, entry0, entry1, V_main_arg2, idx t]
  rename_i h _
  rw [max_eq_right, mul_zero, mul_zero]
  refine le_trans (le_of_eq ?_) (not_lt.mp h)
  blk_ext [entry1, idx t]

theorem final : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

theorem equal : Cert.algebraic_DActIdeal_DActRefIdeal
    (hDActIdeal := Cert.DActIdeal.Gen.facts) (hDActRefIdeal := Cert.DActRefIdeal.Gen.facts) := by
  intro m g m' g' _ hagree
  refine ⟨fun c => grad (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (run_blocks m g)
  · refine (θ_run _ _ _).mono (fun r h c => ?_) (Cert.DActRefIdeal.Value.run (F := Ideal) m' g')
    obtain ⟨e0, e1, e2⟩ := hagree c
    refine ⟨(h c).1.trans ?_, (h c).2⟩
    rw [val_main_v12_eq, e0, e1, e2]

/-- The reference terminates with its arguments unchanged; it has no semaphores. -/
theorem ref_frame : Cert.quiescent_DActRefIdeal (hDActRefIdeal := Cert.DActRefIdeal.Gen.facts) :=
  fun m ρ _ => (θ_run _ _ _).mono (fun r h => ⟨fun c => (h c).2, sem_eq_zero_of_no_sems rfl r.2⟩)
    (Cert.DActRefIdeal.Value.run (F := Ideal) m ρ)

end Cert.DActIdeal.Product

end
-- ==== Proof.NormGrad.lean ====
/- The gradient of the root-mean-square norm of one row of 1024 numbers: the shorter formula of the calls is the derivative's. -/
module

public import proofs.«01_k».proof.Proof.Reals

@[expose] public section

set_option maxRecDepth 16384

noncomputable section

open Idealize.ShloMosaic

namespace Cert.NormGrad

open Cert.Reals

/-- The row's length, as both programs write it. -/
abbrev len : EReal := Ideal.ofBits .f32 0x44800000#32
/-- The number added below the root. -/
abbrev eps : EReal := Ideal.ofBits .f32 0x358637BD#32
/-- The derivative's factor. -/
abbrev half : EReal := Ideal.ofBits .f32 0xBF000000#32

theorem len_eq : len = ((1024 : ℝ) : EReal) := by
  simp [len, Ideal.ofBits, Ideal.ieee]
  rw [mul']
  norm_num
theorem half_eq : half = ((-(1 / 2) : ℝ) : EReal) := by
  simp [half, Ideal.ofBits, Ideal.ieee]
  rw [mul']
  norm_num
theorem eps_eq : ∃ e : ℝ, 0 < e ∧ eps = (e : EReal) :=
  ⟨8796093 * (2 ^ 43)⁻¹, by norm_num, by simp [eps, Ideal.ofBits, Ideal.ieee]⟩

/-- The mean square of a row, with the number below the root. -/
abbrev ms {n : ℕ} (x : Fin n → EReal) : EReal := Ideal.div (∑ k, x k * x k) len + eps

theorem ms_eq {n : ℕ} (x : Fin n → ℝ) : ∃ p : ℝ, 0 < p ∧ ms (fun k => (x k : EReal)) = (p : EReal) := by
  obtain ⟨e, he, h⟩ := eps_eq
  refine ⟨(∑ k, x k * x k) / 1024 + e, ?_, ?_⟩
  · have : 0 ≤ ∑ k, x k * x k := Finset.sum_nonneg fun k _ => mul_self_nonneg (x k)
    positivity
  · unfold ms
    simp only [mul', coe_sum]
    rw [len_eq, h, div' _ _ (by norm_num), add']

/-- The two formulas agree on rows of real numbers: `x` the row, `d` the gradient times the gain, `u` what is added. -/
theorem row {n : ℕ} (x d : Fin n → EReal) (u : EReal) (hx : ∀ k, ∃ v : ℝ, x k = v) (hd : ∀ k, ∃ v : ℝ, d k = v) (j : Fin n) :
    u + Ideal.rsqrt (ms x) * (d j - x j * Ideal.rsqrt (ms x) * Ideal.div (∑ k, d k * (x k * Ideal.rsqrt (ms x))) len)
      = u + (d j * Ideal.rsqrt (ms x)
          + x j * ∑ _ : Fin 1, Ideal.div ((∑ k, x k * d k) * (half * Ideal.div (Ideal.rsqrt (ms x)) (ms x))) len
          + (∑ _ : Fin 1, Ideal.div ((∑ k, x k * d k) * (half * Ideal.div (Ideal.rsqrt (ms x)) (ms x))) len) * x j) := by
  choose y hy using hx
  choose w hw using hd
  obtain rfl : x = fun k => (y k : EReal) := funext hy
  obtain rfl : d = fun k => (w k : EReal) := funext hw
  obtain ⟨p, hp, h⟩ := ms_eq y
  have hs : 0 < Real.sqrt p := Real.sqrt_pos.mpr hp
  rw [h, Ideal.rsqrt_coe, if_neg (not_lt.mpr hp.le), if_neg hp.ne', len_eq, half_eq]
  simp only [mul', coe_sum, div' _ _ hp.ne', div' _ _ (show (1024 : ℝ) ≠ 0 by norm_num), add', sub', Finset.univ_unique, Finset.sum_singleton]
  congr 2
  have e1 : ∑ k, w k * (y k * (Real.sqrt p)⁻¹) = (Real.sqrt p)⁻¹ * ∑ k, y k * w k := by
    rw [Finset.mul_sum]; exact Finset.sum_congr rfl fun k _ => by ring
  have e2 : p = Real.sqrt p * Real.sqrt p := (Real.mul_self_sqrt hp.le).symm
  rw [e1]
  generalize ∑ k, y k * w k = S
  generalize Real.sqrt p = q at *
  subst e2
  field_simp
  ring

end Cert.NormGrad

end
-- ==== Proof.DHm.lean ====
/- The call `d_hm`, the gradient through the MLP's first product and its norm: its two results are the reference's. -/
module

public import proofs.«01_k».proof.Proof.Gen.DHmIdeal.Value
public import proofs.«01_k».proof.Proof.Gen.DHmRefIdeal.Run
public import proofs.«01_k».proof.Proof.Gen.DHmRefIdeal.Read
public import proofs.«01_k».proof.Proof.Gen.Pre_finite_mlp
public import proofs.«01_k».proof.Defs
public import Idealize.ShloMosaic.Lib.ReduceAll
public import Idealize.ShloMosaic.Lib.Pipeline.ValueKit
public import Idealize.ShloMosaic.Lib.Pointwise
public import Idealize.ShloMosaic.Lib.Quiescent
public import Idealize.ShloMosaic.Lib.Claim
public import proofs.«01_k».proof.Proof.NormGrad

@[expose] public section

set_option maxRecDepth 16384

noncomputable section

open Idealize.ShloMosaic Idealize.ShloMosaic.TcCoe Idealize.SL.Sem

namespace Cert.DHmIdeal.Product

open Cert.DHmIdeal Cert.DHmIdeal.Gen Cert.DHmIdeal.Value
open Cert.DHmRefIdeal.Read Cert.NormGrad Cert.Reals

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

theorem entry0 : (V m c main_v0 : FVec Ideal S4096x4096 .bf16) = (m ((c : Thread nD τ).loc main_arg0) : FVec Ideal S4096x4096 .f32) := rfl
theorem entry1 : (V m c main_v1 : FVec Ideal S1024x4096 .bf16) = (m ((c : Thread nD τ).loc main_arg1) : FVec Ideal S1024x4096 .f32) := rfl

/-- The residual's gradient. -/
abbrev grad (D : FVec Ideal S4096x4096 .f32) (W : FVec Ideal S1024x4096 .f32) (X E : FVec Ideal S4096x1024 .f32) (G : FVec Ideal S1x1024 .f32) :
    FVec Ideal S4096x1024 .f32 := val_main_v36 (F := Ideal) D W X E G
/-- The gain's gradient. -/
abbrev gain (D : FVec Ideal S4096x4096 .f32) (W : FVec Ideal S1024x4096 .f32) (X : FVec Ideal S4096x1024 .f32) :
    FVec Ideal S1x1024 .f32 := val_main_v19 (F := Ideal) D W X

theorem out6_at (acc : FVec Ideal S1x1024 .f32) (p : FVec Ideal S512x1024 .f32) (j : S1x1024.Idx) :
    k0_pay1 p acc j = acc j + ∑ r : Fin 512, p (ix2 r (j 1)) := by
  pointwise [k0_pay1]

theorem zero_at (j : S1x1024.Idx) : k0_pay7 (F := Ideal) j = 0 := by pointwise [k0_pay7]

/-- The products at one row: the gradient of the norm's output. -/
abbrev dot {n : ℕ} {φ φ' : FTy} (D : FVec Ideal ⟨2, ![n, 4096]⟩ φ) (W : FVec Ideal S1024x4096 φ') (r : Fin n) (j : Fin 1024) : EReal :=
  ∑ k : Fin 4096, D (ix2 r k) * W (ix2 j k)

theorem pay5_at (x0 : Vec Ideal S512x4096 .bf16) (x1 : Vec Ideal S1024x4096 .bf16) (x2 : Vec Ideal S512x1024 .f32)
    (r : Fin 512) (j : Fin 1024) : k0_pay5 x0 x1 x2 (ix2 r j)
      = dot (n := 512) (φ := .bf16) (φ' := .bf16) x0 x1 r j * (x2 (ix2 r j) * Ideal.rsqrt (ms fun k => x2 (ix2 r k))) := by
  pointwise [k0_pay5, k0_pay4, k0_pay3, k0_pay2]

theorem pay6_at (x0 : Vec Ideal S512x4096 .bf16) (x1 : Vec Ideal S1024x4096 .bf16) (x2 x3 : Vec Ideal S512x1024 .f32) (x4 : Vec Ideal S1x1024 .f32)
    (r : Fin 512) (j : Fin 1024) : k0_pay6 x0 x1 x2 x3 x4 (ix2 r j)
      = x3 (ix2 r j) + Ideal.rsqrt (ms fun k => x2 (ix2 r k)) * (dot (n := 512) (φ := .bf16) (φ' := .bf16) x0 x1 r j * x4 (ix2 0 j)
          - x2 (ix2 r j) * Ideal.rsqrt (ms fun k => x2 (ix2 r k))
            * Ideal.div (∑ k, dot (n := 512) (φ := .bf16) (φ' := .bf16) x0 x1 r k * x4 (ix2 0 k)
                * (x2 (ix2 r k) * Ideal.rsqrt (ms fun k => x2 (ix2 r k)))) len) := by
  pointwise [k0_pay6, k0_pay4, k0_pay3, k0_pay2]

theorem pay5_of (x0 : Vec Ideal S512x4096 .bf16) (x1 : Vec Ideal S1024x4096 .bf16) (x2 : Vec Ideal S512x1024 .f32)
    (D : FVec Ideal S4096x4096 .f32) (W : FVec Ideal S1024x4096 .f32) (X : FVec Ideal S4096x1024 .f32) (r : Fin 512) (R : Fin 4096)
    (h0 : ∀ k, x0 (ix2 r k) = D (ix2 R k)) (h1 : ∀ j k, x1 (ix2 j k) = W (ix2 j k)) (h2 : ∀ k, x2 (ix2 r k) = X (ix2 R k)) (j : Fin 1024) :
    k0_pay5 x0 x1 x2 (ix2 r j)
      = dot (n := 4096) (φ := .f32) (φ' := .f32) D W R j * (X (ix2 R j) * Ideal.rsqrt (ms fun k => X (ix2 R k))) := by
  rw [pay5_at]
  simp only [dot, h0, h1, h2]

theorem pay6_of (x0 : Vec Ideal S512x4096 .bf16) (x1 : Vec Ideal S1024x4096 .bf16) (x2 x3 : Vec Ideal S512x1024 .f32) (x4 : Vec Ideal S1x1024 .f32)
    (D : FVec Ideal S4096x4096 .f32) (W : FVec Ideal S1024x4096 .f32) (X E : FVec Ideal S4096x1024 .f32) (G : FVec Ideal S1x1024 .f32)
    (r : Fin 512) (R : Fin 4096)
    (h0 : ∀ k, x0 (ix2 r k) = D (ix2 R k)) (h1 : ∀ j k, x1 (ix2 j k) = W (ix2 j k)) (h2 : ∀ k, x2 (ix2 r k) = X (ix2 R k))
    (h3 : ∀ k, x3 (ix2 r k) = E (ix2 R k)) (h4 : ∀ k, x4 (ix2 0 k) = G (ix2 0 k)) (j : Fin 1024) :
    k0_pay6 x0 x1 x2 x3 x4 (ix2 r j)
      = E (ix2 R j) + Ideal.rsqrt (ms fun k => X (ix2 R k)) * (dot (n := 4096) (φ := .f32) (φ' := .f32) D W R j * G (ix2 0 j)
          - X (ix2 R j) * Ideal.rsqrt (ms fun k => X (ix2 R k))
            * Ideal.div (∑ k, dot (n := 4096) (φ := .f32) (φ' := .f32) D W R k * G (ix2 0 k)
                * (X (ix2 R k) * Ideal.rsqrt (ms fun k => X (ix2 R k)))) len) := by
  rw [pay6_at]
  simp only [dot, h0, h1, h2, h3, h4]

section
variable (D : FVec Ideal S4096x4096 .f32) (W : FVec Ideal S1024x4096 .f32) (X E : FVec Ideal S4096x1024 .f32) (G : FVec Ideal S1x1024 .f32)

theorem gain_at (j : S1x1024.Idx) : gain D W X j
    = ∑ r : Fin 4096, dot (n := 4096) (φ := .f32) (φ' := .f32) D W r (j 1) * (X (ix2 r (j 1)) * Ideal.rsqrt (ms fun k => X (ix2 r k))) := by
  pointwise [gain, val_main_v0, val_main_v1, val_main_v2, val_main_v3, val_main_v4, val_main_v5, val_main_v6, val_main_v7, val_main_v11,
    val_main_v12, val_main_v16, val_main_v17, val_main_v18, val_main_v19, val_main_cst, val_main_cst_0, val_main_cst_1, val_main_cst_3]
  exact Finset.sum_congr rfl fun r _ => mul_comm _ _

theorem grad_at (hD : AllReal D) (hW : AllReal W) (hX : AllReal X) (hG : AllReal G)
    (r : Fin 4096) (j : Fin 1024) : grad D W X E G (ix2 r j)
      = E (ix2 r j) + Ideal.rsqrt (ms fun k => X (ix2 r k)) * (dot (n := 4096) (φ := .f32) (φ' := .f32) D W r j * G (ix2 0 j)
          - X (ix2 r j) * Ideal.rsqrt (ms fun k => X (ix2 r k))
            * Ideal.div (∑ k, dot (n := 4096) (φ := .f32) (φ' := .f32) D W r k * G (ix2 0 k)
                * (X (ix2 r k) * Ideal.rsqrt (ms fun k => X (ix2 r k)))) len) := by
  have hd : ∀ k, ∃ v : ℝ, dot (n := 4096) (φ := .f32) (φ' := .f32) D W r k * G (ix2 0 k) = v := by
    intro k
    choose d hd using hD
    choose w hw using hW
    obtain ⟨g, hg⟩ := hG (ix2 0 k)
    exact ⟨(∑ i, d (ix2 r i) * w (ix2 k i)) * g, by simp only [dot, hd, hw, hg, mul', coe_sum]⟩
  refine Eq.trans ?_ (row (fun k => X (ix2 r k)) (fun k => dot (n := 4096) (φ := .f32) (φ' := .f32) D W r k * G (ix2 0 k)) (E (ix2 r j))
    (fun k => hX _) hd j).symm
  pointwise [grad, val_main_v0, val_main_v1, val_main_v2, val_main_v3, val_main_v4, val_main_v5, val_main_v6, val_main_v7, val_main_v8,
    val_main_v9, val_main_v10, val_main_v16, val_main_v20, val_main_v21, val_main_v22, val_main_v23, val_main_v24, val_main_v25, val_main_v26,
    val_main_v27, val_main_v28, val_main_v29, val_main_v30, val_main_v31, val_main_v32, val_main_v33, val_main_v34, val_main_v35, val_main_v36,
    val_main_cst, val_main_cst_0, val_main_cst_1, val_main_cst_2, val_main_cst_4, val_main_cst_5, val_main_cst_6]
end

section
variable (t : Fin cfg0.N)

theorem N8 : t.val < 8 := lt_of_lt_of_eq t.isLt N_0

/-- Row `r` of point `t`'s block. -/
abbrev row' (r : Fin 512) : Fin 4096 := ⟨t.val * 512 + r.val, by have := N8 t; omega⟩

theorem b0 (r : Fin 512) (k : Fin 4096) :
    (iblk m c 0 t : FVec Ideal S512x4096 .bf16) (ix2 r k) = (m ((c : Thread nD τ).loc main_arg0) : FVec Ideal S4096x4096 .f32) (ix2 (row' t r) k) := by
  blk_ext [iblk, entry0, idx t]
theorem b1 (r : Fin 1024) (k : Fin 4096) :
    (iblk m c 1 t : FVec Ideal S1024x4096 .bf16) (ix2 r k) = (m ((c : Thread nD τ).loc main_arg1) : FVec Ideal S1024x4096 .f32) (ix2 r k) := by
  blk_ext [iblk, entry1, idx t]
theorem b2 (r : Fin 512) (k : Fin 1024) :
    (iblk m c 2 t : FVec Ideal S512x1024 .f32) (ix2 r k) = (m ((c : Thread nD τ).loc main_arg2) : FVec Ideal S4096x1024 .f32) (ix2 (row' t r) k) := by
  blk_ext [iblk, V_main_arg2, idx t]
theorem b3 (r : Fin 512) (k : Fin 1024) :
    (iblk m c 3 t : FVec Ideal S512x1024 .f32) (ix2 r k) = (m ((c : Thread nD τ).loc main_arg3) : FVec Ideal S4096x1024 .f32) (ix2 (row' t r) k) := by
  blk_ext [iblk, V_main_arg3, idx t]
theorem b4 (r : Fin 1) (k : Fin 1024) :
    (iblk m c 4 t : FVec Ideal S1x1024 .f32) (ix2 r k) = (m ((c : Thread nD τ).loc main_arg4) : FVec Ideal S1x1024 .f32) (ix2 r k) := by
  blk_ext [iblk, V_main_arg4, idx t]
theorem place (r : Fin 512) (j : Fin 1024) : ((cfg0.win 5).blk t).view.emb (ix2 r j) = (ix2 (row' t r) j : S4096x1024.Idx) := by
  blk_ext [idx t]
end

/-- The first result, on finite arguments. -/
theorem final5 (hD : AllReal (m ((c : Thread nD τ).loc main_arg0) : FVec Ideal S4096x4096 .f32))
    (hW : AllReal (m ((c : Thread nD τ).loc main_arg1) : FVec Ideal S1024x4096 .f32))
    (hX : AllReal (m ((c : Thread nD τ).loc main_arg2) : FVec Ideal S4096x1024 .f32))
    (hG : AllReal (m ((c : Thread nD τ).loc main_arg4) : FVec Ideal S1x1024 .f32)) :
    (dats m 0 c).arrAt 5 cfg0.N
      = grad (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]
  have point : k0_pay6 (iblk m c 0 t) (iblk m c 1 t) (iblk m c 2 t) (iblk m c 3 t) (iblk m c 4 t) y
      = grad (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
    suffices H : ∀ (r : Fin 512) (j : Fin 1024), k0_pay6 (iblk m c 0 t) (iblk m c 1 t) (iblk m c 2 t) (iblk m c 3 t) (iblk m c 4 t) (ix2 r j)
        = grad (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb (ix2 r j)) by
      rw [eq_ix2 y]; exact H _ _
    intro r j
    rw [place]
    exact (pay6_of _ _ _ _ _ _ _ _ _ _ _ _ (b0 m c t r) (b1 m c t) (b2 m c t r) (b3 m c t r) (b4 m c t 0) j).trans
      (grad_at _ _ _ _ _ hD hW hX hG _ _).symm
  by_cases h : t.val % 8 = 0
  · rw [outsAt0_A m c t h]; frame_out; exact point
  · rw [outsAt0_B m c t h]; frame_out; exact point

/-- The second result: eight blocks' sums make the sum over all rows. -/
theorem final6 : (dats m 0 c).arrAt 6 cfg0.N
    = gain (m ((c : Thread nD τ).loc main_arg0)) (m ((c : Thread nD τ).loc main_arg1)) (m ((c : Thread nD τ).loc main_arg2)) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0) _
    (fun t h j => by rw [outsAt0_A m c t h]; frame_out; rw [out6_at, zero_at])
    (fun t h j => by rw [outsAt0_B m c t h]; frame_out; rw [out6_at])
    (le_of_eq N_0) t0_7 rfl j, zero_add, gain_at]
  exact Fin.sum_mul_add_congr fun t k hl => pay5_of _ _ _ _ _ _ _ _ (b0 m c t k) (b1 m c t) (b2 m c t k) (j 1)

/-! ### The two programs -/

theorem finite_args (D : FVec Ideal S4096x4096 .f32) (W : FVec Ideal S1024x4096 .f32) (X E : FVec Ideal S4096x1024 .f32) (G : FVec Ideal S1x1024 .f32)
    (hp : Cert.Pre_finite_mlp.fn (F := Ideal) D W X E G = fun _ => 1#1) : AllReal D ∧ AllReal W ∧ AllReal X ∧ AllReal G := by
  have e := congrFun hp (fun a => a.elim0)
  simp only [Cert.Pre_finite_mlp.fn, Cert.Pre_finite_mlp.fn_part1, andi, andi_one] at e
  obtain ⟨⟨⟨e0, e1⟩, e2⟩, e3⟩ := e
  refine ⟨fun i => ?_, fun i => ?_, fun i => ?_, fun i => ?_⟩
  · have t := (andi_one _ _).1 (Host.reduce_andi_all _ _ _ _ _ e0 i)
    exact ⟨_, real_of_tests _ t.1 t.2⟩
  · have t := (andi_one _ _).1 (Host.reduce_andi_all _ _ _ _ _ e1 i)
    exact ⟨_, real_of_tests _ t.1 t.2⟩
  · have t := (andi_one _ _).1 (Host.reduce_andi_all _ _ _ _ _ e2 i)
    exact ⟨_, real_of_tests _ t.1 t.2⟩
  · have t := (andi_one _ _).1 (Host.reduce_andi_all _ _ _ _ _ e3 i)
    exact ⟨_, real_of_tests _ t.1 t.2⟩

/-- On finite arguments the call's two results are the derivative's. -/
theorem equal : Cert.algebraic_DHmIdeal_DHmRefIdeal_pre_finite_mlp
    (hDHmIdeal := Cert.DHmIdeal.Gen.facts) (hDHmRefIdeal := Cert.DHmRefIdeal.Gen.facts)
    (hPre_finite_mlp := Cert.Pre_finite_mlp.Gen.facts) := by
  intro m g m' g' hpre hagree
  refine ⟨fun c => grad (m ((c : Thread nD τ).loc main_arg0)) (m ((c : Thread nD τ).loc main_arg1)) (m ((c : Thread nD τ).loc main_arg2))
      (m ((c : Thread nD τ).loc main_arg3)) (m ((c : Thread nD τ).loc main_arg4)),
    fun c => gain (m ((c : Thread nD τ).loc main_arg0)) (m ((c : Thread nD τ).loc main_arg1)) (m ((c : Thread nD τ).loc main_arg2)), ?_, ?_⟩
  · refine (θ_run _ _ _).mono (fun r h c => ?_) (run_blocks m g)
    obtain ⟨hD, hW, hX, hG⟩ := finite_args _ _ _ _ _ (hpre c)
    exact ⟨(h c).1.trans (final5 m c hD hW hX hG), (h c).2.1.trans (final6 m c), (h c).2.2⟩
  · refine (θ_run _ _ _).mono (fun r h c => ?_) (Cert.DHmRefIdeal.Value.run (F := Ideal) m' g')
    obtain ⟨e0, e1, e2, e3, e4⟩ := hagree c
    refine ⟨(h c).1.trans ?_, (h c).2.1.trans ?_, (h c).2.2⟩
    · rw [val_main_v36_eq, e0, e1, e2, e3, e4]
    · rw [val_main_v19_eq, e0, e1, e2]

/-- The reference terminates with its arguments unchanged; it has no semaphores. -/
theorem ref_frame : Cert.quiescent_DHmRefIdeal (hDHmRefIdeal := Cert.DHmRefIdeal.Gen.facts) :=
  fun m ρ _ => (θ_run _ _ _).mono (fun r h => ⟨fun c => (h c).2.2, sem_eq_zero_of_no_sems rfl r.2⟩)
    (Cert.DHmRefIdeal.Value.run (F := Ideal) m ρ)

theorem ref_frame_pre : Cert.quiescent_DHmRefIdeal_pre_finite_mlp (hDHmRefIdeal := Cert.DHmRefIdeal.Gen.facts)
    (hPre_finite_mlp := Cert.Pre_finite_mlp.Gen.facts) :=
  fun m ρ _ => ref_frame m ρ trivial

end Cert.DHmIdeal.Product

end
-- ==== Proof.DMlp1.lean ====
/- The product `d_mlp1`, the gradient of the MLP's first weight: the array its eight blocks make is the reference's. -/
module

public import proofs.«01_k».proof.Proof.Gen.DMlp1Ideal.Value
public import proofs.«01_k».proof.Proof.Gen.DMlp1RefIdeal.Run
public import proofs.«01_k».proof.Proof.Gen.DMlp1RefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DMlp1Ideal.Product

open Cert.DMlp1Ideal Cert.DMlp1Ideal.Gen Cert.DMlp1Ideal.Value
open Cert.DMlp1RefIdeal.Read

variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val] :=
  (by decide +kernel : ∀ t : Fin grid0.N, _)

/-- The gradient of the weight, over the activations `X` and the gradient `D`. -/
abbrev grad (X : FVec Ideal S4096x1024 .f32) (D : FVec Ideal S4096x4096 .f32) : FVec Ideal S1024x4096 .f32 :=
  val_main_v3 (F := Ideal) X D

theorem entry0 : (V m c main_v0 : FVec Ideal S4096x1024 .bf16) = (m ((c : Thread nD τ).loc main_arg0) : FVec Ideal S4096x1024 .f32) := rfl
theorem entry1 : (V m c main_v1 : FVec Ideal S4096x4096 .bf16) = (m ((c : Thread nD τ).loc main_arg1) : FVec Ideal S4096x4096 .f32) := rfl

theorem point (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad, val_main_v3, val_main_v2]
  refine Eq.trans ?_ (Finset.sum_congr rfl fun k _ => mul_comm _ _)
  blk_point [iblk, entry0, entry1, idx t]

theorem final : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem equal : Cert.algebraic_DMlp1Ideal_DMlp1RefIdeal
    (hDMlp1Ideal := Cert.DMlp1Ideal.Gen.facts) (hDMlp1RefIdeal := Cert.DMlp1RefIdeal.Gen.facts) := by
  intro m g m' g' _ hagree
  refine ⟨fun c => grad (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ?_) (Cert.DMlp1RefIdeal.Value.run (F := Ideal) m' g')
    obtain ⟨e0, e1⟩ := hagree c
    refine ⟨(h c).1.trans ?_, (h c).2⟩
    rw [val_main_v3_eq, e0, e1]

/-- The reference terminates with its arguments unchanged; it has no semaphores. -/
theorem ref_frame : Cert.quiescent_DMlp1RefIdeal (hDMlp1RefIdeal := Cert.DMlp1RefIdeal.Gen.facts) :=
  fun m ρ _ => (θ_run _ _ _).mono (fun r h => ⟨fun c => (h c).2, sem_eq_zero_of_no_sems rfl r.2⟩)
    (Cert.DMlp1RefIdeal.Value.run (F := Ideal) m ρ)

end Cert.DMlp1Ideal.Product

end
-- ==== Proof.DMlp2.lean ====
/- The product `d_mlp2`, the gradient of the MLP's second weight: the array its blocks make is the reference's. -/
module

public import proofs.«01_k».proof.Proof.Gen.DMlp2Ideal.Value
public import proofs.«01_k».proof.Proof.Gen.DMlp2RefIdeal.Run
public import proofs.«01_k».proof.Proof.Gen.DMlp2RefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DMlp2Ideal.Product

open Cert.DMlp2Ideal Cert.DMlp2Ideal.Gen Cert.DMlp2Ideal.Value
open Cert.DMlp2RefIdeal.Read

variable (m : (ℓ : Loc nD τ sig) → Buf (Elt Ideal) ℓ) (c : Dev nD)

theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- The gradient of the weight, over the pre-activation `H` and the gradient `D`. -/
abbrev grad (H : FVec Ideal S4096x4096 .f32) (D : FVec Ideal S4096x1024 .f32) : FVec Ideal S4096x1024 .f32 :=
  val_main_v5 (F := Ideal) H D

theorem entry0 : (V m c main_v0 : FVec Ideal S4096x4096 .bf16) = (m ((c : Thread nD τ).loc main_arg0) : FVec Ideal S4096x4096 .f32) := rfl

theorem point (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad, val_main_v5, val_main_v4, val_main_v2, val_main_v1, val_main_call0_v0, val_main_call0_cst]
  refine Eq.trans ?_ (Finset.sum_congr rfl fun k _ => mul_comm _ _)
  blk_point [iblk, entry0, V_main_arg1, idx t]

theorem final : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem equal : Cert.algebraic_DMlp2Ideal_DMlp2RefIdeal
    (hDMlp2Ideal := Cert.DMlp2Ideal.Gen.facts) (hDMlp2RefIdeal := Cert.DMlp2RefIdeal.Gen.facts) := by
  intro m g m' g' _ hagree
  refine ⟨fun c => grad (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ?_) (Cert.DMlp2RefIdeal.Value.run (F := Ideal) m' g')
    obtain ⟨e0, e1⟩ := hagree c
    refine ⟨(h c).1.trans ?_, (h c).2⟩
    rw [val_main_v5_eq, e0, e1]

/-- The reference terminates with its arguments unchanged; it has no semaphores. -/
theorem ref_frame : Cert.quiescent_DMlp2RefIdeal (hDMlp2RefIdeal := Cert.DMlp2RefIdeal.Gen.facts) :=
  fun m ρ _ => (θ_run _ _ _).mono (fun r h => ⟨fun c => (h c).2, sem_eq_zero_of_no_sems rfl r.2⟩)
    (Cert.DMlp2RefIdeal.Value.run (F := Ideal) m ρ)

end Cert.DMlp2Ideal.Product

end
-- ==== Proof.Mlp2.lean ====
/- The product `mlp2`: the rows its eight blocks make are the squared ReLU times the weight, added to the residual. -/
module

public import proofs.«01_k».proof.Proof.Gen.Mlp2Ideal.Value
public import proofs.«01_k».proof.Proof.Gen.Mlp2RefIdeal.Run
public import proofs.«01_k».proof.Proof.Gen.Mlp2RefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.Mlp2Ideal.Product

open Cert.Mlp2Ideal Cert.Mlp2Ideal.Gen Cert.Mlp2Ideal.Value
open Cert.Mlp2RefIdeal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The layer's output, over the pre-activation `H`, the weight `W` and the residual `X`. -/
abbrev layer (H : FVec Ideal S4096x4096 .f32) (W : FVec Ideal S4096x1024 .f32) (X : FVec Ideal S4096x1024 .f32) : FVec Ideal S4096x1024 .f32 :=
  val_main_v3 (F := Ideal) H W X

theorem entry0 : (V m c main_v0 : FVec Ideal S4096x4096 .bf16) = (m ((c : Thread nD τ).loc main_arg0) : FVec Ideal S4096x4096 .f32) := rfl
theorem entry1 : (V m c main_v1 : FVec Ideal S4096x1024 .bf16) = (m ((c : Thread nD τ).loc main_arg1) : FVec Ideal S4096x1024 .f32) := rfl

theorem point (t : Fin cfg0.N) (y) :
    k0_pay1 (iblk m c 0 t) (iblk m c 1 t) (iblk m c 2 t) y
      = layer (m ((c : Thread nD τ).loc main_arg0)) (m ((c : Thread nD τ).loc main_arg1)) (m ((c : Thread nD τ).loc main_arg2)) (((cfg0.win 3).blk t).view.emb y) := by
  pointwise [k0_pay1, layer, val_main_v3, val_main_v2, val_main_v1, val_main_v0, val_main_call0_v0, val_main_call0_cst]
  blk_point [iblk, entry0, entry1, V_main_arg2, idx t]

theorem final : (dats m 0 c).arrAt 3 cfg0.N
    = layer (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

theorem equal : Cert.algebraic_Mlp2Ideal_Mlp2RefIdeal
    (hMlp2Ideal := Cert.Mlp2Ideal.Gen.facts) (hMlp2RefIdeal := Cert.Mlp2RefIdeal.Gen.facts) := by
  intro m g m' g' _ hagree
  refine ⟨fun c => layer (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (run_blocks m g)
  · refine (θ_run _ _ _).mono (fun r h c => ?_) (Cert.Mlp2RefIdeal.Value.run (F := Ideal) m' g')
    obtain ⟨e0, e1, e2⟩ := hagree c
    refine ⟨(h c).1.trans ?_, (h c).2⟩
    rw [val_main_v3_eq, e0, e1, e2]

/-- The reference terminates with its arguments unchanged; it has no semaphores. -/
theorem ref_frame : Cert.quiescent_Mlp2RefIdeal (hMlp2RefIdeal := Cert.Mlp2RefIdeal.Gen.facts) :=
  fun m ρ _ => (θ_run _ _ _).mono (fun r h => ⟨fun c => (h c).2, sem_eq_zero_of_no_sems rfl r.2⟩)
    (Cert.Mlp2RefIdeal.Value.run (F := Ideal) m ρ)

end Cert.Mlp2Ideal.Product

end
-- ==== Proof.DHa.lean ====
/- The product `d_h_a`, the gradient of the mixer's input through its first part: the array its blocks make is the reference's. -/
module

public import proofs.«01_k».proof.Proof.Gen.DHaIdeal.Value
public import proofs.«01_k».proof.Proof.Gen.DHaRefIdeal.Run
public import proofs.«01_k».proof.Proof.Gen.DHaRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DHaIdeal.Product

open Cert.DHaIdeal Cert.DHaIdeal.Gen Cert.DHaIdeal.Value
open Cert.DHaRefIdeal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The gradient, over the gradient `D` and the weight `W`. -/
abbrev grad (D : FVec Ideal S4096x768 .f32) (W : FVec Ideal S1024x768 .f32) : FVec Ideal S4096x1024 .f32 :=
  val_main_v2 (F := Ideal) D W

theorem entry0 : (V m c main_v0 : FVec Ideal S4096x768 .bf16) = (m ((c : Thread nD τ).loc main_arg0) : FVec Ideal S4096x768 .f32) := rfl
theorem entry1 : (V m c main_v1 : FVec Ideal S1024x768 .bf16) = (m ((c : Thread nD τ).loc main_arg1) : FVec Ideal S1024x768 .f32) := rfl

theorem point (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad, val_main_v2]
  blk_point [iblk, entry0, entry1, idx t]

theorem final : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem equal : Cert.algebraic_DHaIdeal_DHaRefIdeal
    (hDHaIdeal := Cert.DHaIdeal.Gen.facts) (hDHaRefIdeal := Cert.DHaRefIdeal.Gen.facts) := by
  intro m g m' g' _ hagree
  refine ⟨fun c => grad (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ?_) (Cert.DHaRefIdeal.Value.run (F := Ideal) m' g')
    obtain ⟨e0, e1⟩ := hagree c
    refine ⟨(h c).1.trans ?_, (h c).2⟩
    rw [val_main_v2_eq, e0, e1]

/-- The reference terminates with its arguments unchanged; it has no semaphores. -/
theorem ref_frame : Cert.quiescent_DHaRefIdeal (hDHaRefIdeal := Cert.DHaRefIdeal.Gen.facts) :=
  fun m ρ _ => (θ_run _ _ _).mono (fun r h => ⟨fun c => (h c).2, sem_eq_zero_of_no_sems rfl r.2⟩)
    (Cert.DHaRefIdeal.Value.run (F := Ideal) m ρ)

end Cert.DHaIdeal.Product

end
-- ==== Proof.DHb.lean ====
/- The product `d_h_b`, the gradient of the mixer's input through its first two parts: the array its blocks make is the reference's. -/
module

public import proofs.«01_k».proof.Proof.Gen.DHbIdeal.Value
public import proofs.«01_k».proof.Proof.Gen.DHbRefIdeal.Run
public import proofs.«01_k».proof.Proof.Gen.DHbRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DHbIdeal.Product

open Cert.DHbIdeal Cert.DHbIdeal.Gen Cert.DHbIdeal.Value
open Cert.DHbRefIdeal.Read

variable (m : (ℓ : Loc nD τ sig) → Buf (Elt Ideal) ℓ) (c : Dev nD)

theorem idx : ∀ t : Fin cfg0.N, win0_0.index t = ![t.val / 2, 0] ∧ win0_1.index t = ![t.val % 2, 0] ∧ win0_2.index t = ![t.val / 2, t.val % 2] ∧ win0_3.index t = ![t.val / 2, t.val % 2] :=
  (by decide +kernel : ∀ t : Fin grid0.N, _)

/-- The gradient, over the gradient `D` and the weight `W`, added to the part `E`. -/
abbrev grad (D : FVec Ideal S4096x2560 .f32) (W : FVec Ideal S1024x2560 .f32) (E : FVec Ideal S4096x1024 .f32) : FVec Ideal S4096x1024 .f32 :=
  val_main_v3 (F := Ideal) D W E

theorem entry0 : (V m c main_v0 : FVec Ideal S4096x2560 .bf16) = (m ((c : Thread nD τ).loc main_arg0) : FVec Ideal S4096x2560 .f32) := rfl
theorem entry1 : (V m c main_v1 : FVec Ideal S1024x2560 .bf16) = (m ((c : Thread nD τ).loc main_arg1) : FVec Ideal S1024x2560 .f32) := rfl

theorem point (t : Fin cfg0.N) (y) :
    k0_pay1 (iblk m c 0 t) (iblk m c 1 t) (iblk m c 2 t) y
      = grad (m ((c : Thread nD τ).loc main_arg0)) (m ((c : Thread nD τ).loc main_arg1)) (m ((c : Thread nD τ).loc main_arg2)) (((cfg0.win 3).blk t).view.emb y) := by
  pointwise [k0_pay1, grad, val_main_v3, val_main_v2]
  blk_point [iblk, entry0, entry1, V_main_arg2, idx t]

theorem final : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

theorem equal : Cert.algebraic_DHbIdeal_DHbRefIdeal
    (hDHbIdeal := Cert.DHbIdeal.Gen.facts) (hDHbRefIdeal := Cert.DHbRefIdeal.Gen.facts) := by
  intro m g m' g' _ hagree
  refine ⟨fun c => grad (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (run_blocks m g)
  · refine (θ_run _ _ _).mono (fun r h c => ?_) (Cert.DHbRefIdeal.Value.run (F := Ideal) m' g')
    obtain ⟨e0, e1, e2⟩ := hagree c
    refine ⟨(h c).1.trans ?_, (h c).2⟩
    rw [val_main_v3_eq, e0, e1, e2]

/-- The reference terminates with its arguments unchanged; it has no semaphores. -/
theorem ref_frame : Cert.quiescent_DHbRefIdeal (hDHbRefIdeal := Cert.DHbRefIdeal.Gen.facts) :=
  fun m ρ _ => (θ_run _ _ _).mono (fun r h => ⟨fun c => (h c).2, sem_eq_zero_of_no_sems rfl r.2⟩)
    (Cert.DHbRefIdeal.Value.run (F := Ideal) m ρ)

end Cert.DHbIdeal.Product

end
-- ==== Proof.DHc.lean ====
/- The call `d_h_c`, the gradient through the third part of the mixer's input projection, added to that through the first two,
   and through the mixer's norm: its two results are the reference's. -/
module

public import proofs.«01_k».proof.Proof.Gen.DHcIdeal.Value
public import proofs.«01_k».proof.Proof.Gen.DHcRefIdeal.Run
public import proofs.«01_k».proof.Proof.Gen.DHcRefIdeal.Read
public import proofs.«01_k».proof.Proof.Gen.Pre_finite_mix
public import proofs.«01_k».proof.Defs
public import Idealize.ShloMosaic.Lib.ReduceAll
public import Idealize.ShloMosaic.Lib.Pipeline.ValueKit
public import Idealize.ShloMosaic.Lib.Pointwise
public import Idealize.ShloMosaic.Lib.Quiescent
public import Idealize.ShloMosaic.Lib.Claim
public import proofs.«01_k».proof.Proof.NormGrad

@[expose] public section

set_option maxRecDepth 16384

noncomputable section

open Idealize.ShloMosaic Idealize.ShloMosaic.TcCoe Idealize.SL.Sem

namespace Cert.DHcIdeal.Product

open Cert.DHcIdeal Cert.DHcIdeal.Gen Cert.DHcIdeal.Value
open Cert.DHcRefIdeal.Read Cert.NormGrad Cert.Reals

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![t.val, 0] ∧ win0_7.index t = ![0, 0] :=
  (by decide +kernel : ∀ t : Fin grid0.N, _)

theorem entry0 : (V m c main_v0 : FVec Ideal S4096x3072 .bf16) = (m ((c : Thread nD τ).loc main_arg0) : FVec Ideal S4096x3072 .f32) := rfl
theorem entry1 : (V m c main_v1 : FVec Ideal S1024x3072 .bf16) = (m ((c : Thread nD τ).loc main_arg1) : FVec Ideal S1024x3072 .f32) := rfl

/-- The residual's gradient. -/
abbrev grad (D : FVec Ideal S4096x3072 .f32) (W : FVec Ideal S1024x3072 .f32) (P X E : FVec Ideal S4096x1024 .f32) (G : FVec Ideal S1x1024 .f32) :
    FVec Ideal S4096x1024 .f32 := val_main_v38 (F := Ideal) D W P X E G
/-- The gain's gradient. -/
abbrev gain (D : FVec Ideal S4096x3072 .f32) (W : FVec Ideal S1024x3072 .f32) (P X : FVec Ideal S4096x1024 .f32) :
    FVec Ideal S1x1024 .f32 := val_main_v21 (F := Ideal) D W P X

theorem out7_at (acc : FVec Ideal S1x1024 .f32) (p : FVec Ideal S512x1024 .f32) (j : S1x1024.Idx) :
    k0_pay2 p acc j = acc j + ∑ r : Fin 512, p (ix2 r (j 1)) := by
  pointwise [k0_pay2]

theorem zero_at (j : S1x1024.Idx) : k0_pay1 (F := Ideal) j = 0 := by pointwise [k0_pay1]

/-- The gradient of the norm's output at one row: the part `P` that comes in, and the product. -/
abbrev dot {n : ℕ} {φ φ' : FTy} (P : FVec Ideal ⟨2, ![n, 1024]⟩ .f32) (D : FVec Ideal ⟨2, ![n, 3072]⟩ φ) (W : FVec Ideal S1024x3072 φ')
    (r : Fin n) (j : Fin 1024) : EReal := P (ix2 r j) + ∑ k : Fin 3072, D (ix2 r k) * W (ix2 j k)

theorem pay6_at (x0 : Vec Ideal S512x3072 .bf16) (x1 : Vec Ideal S1024x3072 .bf16) (p x2 : Vec Ideal S512x1024 .f32)
    (r : Fin 512) (j : Fin 1024) : k0_pay6 x0 x1 p x2 (ix2 r j)
      = dot (n := 512) (φ := .bf16) (φ' := .bf16) p x0 x1 r j * (x2 (ix2 r j) * Ideal.rsqrt (ms fun k => x2 (ix2 r k))) := by
  pointwise [k0_pay6, k0_pay5, k0_pay4, k0_pay3]

theorem pay7_at (x0 : Vec Ideal S512x3072 .bf16) (x1 : Vec Ideal S1024x3072 .bf16) (p x2 x3 : Vec Ideal S512x1024 .f32) (x4 : Vec Ideal S1x1024 .f32)
    (r : Fin 512) (j : Fin 1024) : k0_pay7 x0 x1 p x2 x3 x4 (ix2 r j)
      = x3 (ix2 r j) + Ideal.rsqrt (ms fun k => x2 (ix2 r k)) * (dot (n := 512) (φ := .bf16) (φ' := .bf16) p x0 x1 r j * x4 (ix2 0 j)
          - x2 (ix2 r j) * Ideal.rsqrt (ms fun k => x2 (ix2 r k))
            * Ideal.div (∑ k, dot (n := 512) (φ := .bf16) (φ' := .bf16) p x0 x1 r k * x4 (ix2 0 k)
                * (x2 (ix2 r k) * Ideal.rsqrt (ms fun k => x2 (ix2 r k)))) len) := by
  pointwise [k0_pay7, k0_pay5, k0_pay4, k0_pay3]

theorem pay6_of (x0 : Vec Ideal S512x3072 .bf16) (x1 : Vec Ideal S1024x3072 .bf16) (p x2 : Vec Ideal S512x1024 .f32)
    (D : FVec Ideal S4096x3072 .f32) (W : FVec Ideal S1024x3072 .f32) (P X : FVec Ideal S4096x1024 .f32) (r : Fin 512) (R : Fin 4096)
    (h0 : ∀ k, x0 (ix2 r k) = D (ix2 R k)) (h1 : ∀ j k, x1 (ix2 j k) = W (ix2 j k)) (hp : ∀ k, p (ix2 r k) = P (ix2 R k)) (h2 : ∀ k, x2 (ix2 r k) = X (ix2 R k)) (j : Fin 1024) :
    k0_pay6 x0 x1 p x2 (ix2 r j)
      = dot (n := 4096) (φ := .f32) (φ' := .f32) P D W R j * (X (ix2 R j) * Ideal.rsqrt (ms fun k => X (ix2 R k))) := by
  rw [pay6_at]
  simp only [dot, h0, h1, hp, h2]

theorem pay7_of (x0 : Vec Ideal S512x3072 .bf16) (x1 : Vec Ideal S1024x3072 .bf16) (p x2 x3 : Vec Ideal S512x1024 .f32) (x4 : Vec Ideal S1x1024 .f32)
    (D : FVec Ideal S4096x3072 .f32) (W : FVec Ideal S1024x3072 .f32) (P X E : FVec Ideal S4096x1024 .f32) (G : FVec Ideal S1x1024 .f32)
    (r : Fin 512) (R : Fin 4096)
    (h0 : ∀ k, x0 (ix2 r k) = D (ix2 R k)) (h1 : ∀ j k, x1 (ix2 j k) = W (ix2 j k)) (hp : ∀ k, p (ix2 r k) = P (ix2 R k)) (h2 : ∀ k, x2 (ix2 r k) = X (ix2 R k))
    (h3 : ∀ k, x3 (ix2 r k) = E (ix2 R k)) (h4 : ∀ k, x4 (ix2 0 k) = G (ix2 0 k)) (j : Fin 1024) :
    k0_pay7 x0 x1 p x2 x3 x4 (ix2 r j)
      = E (ix2 R j) + Ideal.rsqrt (ms fun k => X (ix2 R k)) * (dot (n := 4096) (φ := .f32) (φ' := .f32) P D W R j * G (ix2 0 j)
          - X (ix2 R j) * Ideal.rsqrt (ms fun k => X (ix2 R k))
            * Ideal.div (∑ k, dot (n := 4096) (φ := .f32) (φ' := .f32) P D W R k * G (ix2 0 k)
                * (X (ix2 R k) * Ideal.rsqrt (ms fun k => X (ix2 R k)))) len) := by
  rw [pay7_at]
  simp only [dot, h0, h1, hp, h2, h3, h4]

section
variable (D : FVec Ideal S4096x3072 .f32) (W : FVec Ideal S1024x3072 .f32) (P X E : FVec Ideal S4096x1024 .f32) (G : FVec Ideal S1x1024 .f32)

theorem gain_at (j : S1x1024.Idx) : gain D W P X j
    = ∑ r : Fin 4096, dot (n := 4096) (φ := .f32) (φ' := .f32) P D W r (j 1) * (X (ix2 r (j 1)) * Ideal.rsqrt (ms fun k => X (ix2 r k))) := by
  pointwise [gain, val_main_v0, val_main_v1, val_main_v2, val_main_v3, val_main_v4, val_main_v5, val_main_v6, val_main_v7, val_main_v11,
    val_main_v12, val_main_v17, val_main_v18, val_main_v19, val_main_v20, val_main_v21, val_main_cst, val_main_cst_1, val_main_cst_2, val_main_cst_4,
    val_main_cst_0]
  exact Finset.sum_congr rfl fun r _ => mul_comm _ _

theorem grad_at (hD : AllReal D) (hW : AllReal W) (hP : AllReal P) (hX : AllReal X) (hG : AllReal G)
    (r : Fin 4096) (j : Fin 1024) : grad D W P X E G (ix2 r j)
      = E (ix2 r j) + Ideal.rsqrt (ms fun k => X (ix2 r k)) * (dot (n := 4096) (φ := .f32) (φ' := .f32) P D W r j * G (ix2 0 j)
          - X (ix2 r j) * Ideal.rsqrt (ms fun k => X (ix2 r k))
            * Ideal.div (∑ k, dot (n := 4096) (φ := .f32) (φ' := .f32) P D W r k * G (ix2 0 k)
                * (X (ix2 r k) * Ideal.rsqrt (ms fun k => X (ix2 r k)))) len) := by
  have hd : ∀ k, ∃ v : ℝ, dot (n := 4096) (φ := .f32) (φ' := .f32) P D W r k * G (ix2 0 k) = v := by
    intro k
    choose d hd using hD
    choose w hw using hW
    obtain ⟨p, hp⟩ := hP (ix2 r k)
    obtain ⟨g, hg⟩ := hG (ix2 0 k)
    exact ⟨(p + ∑ i, d (ix2 r i) * w (ix2 k i)) * g, by simp only [dot, hd, hw, hp, hg, mul', coe_sum, add']⟩
  refine Eq.trans ?_ (row (fun k => X (ix2 r k)) (fun k => dot (n := 4096) (φ := .f32) (φ' := .f32) P D W r k * G (ix2 0 k)) (E (ix2 r j))
    (fun k => hX _) hd j).symm
  pointwise [grad, val_main_v0, val_main_v1, val_main_v2, val_main_v3, val_main_v4, val_main_v5, val_main_v6, val_main_v7, val_main_v8, val_main_v9,
    val_main_v10, val_main_v17, val_main_v18, val_main_v22, val_main_v23, val_main_v24, val_main_v25, val_main_v26, val_main_v27, val_main_v28,
    val_main_v29, val_main_v30, val_main_v31, val_main_v32, val_main_v33, val_main_v34, val_main_v35, val_main_v36, val_main_v37, val_main_v38,
    val_main_cst, val_main_cst_1, val_main_cst_2, val_main_cst_5, val_main_cst_6, val_main_cst_7, val_main_cst_0]
end

section
variable (t : Fin cfg0.N)

theorem N8 : t.val < 8 := lt_of_lt_of_eq t.isLt N_0

/-- Row `r` of point `t`'s block. -/
abbrev row' (r : Fin 512) : Fin 4096 := ⟨t.val * 512 + r.val, by have := N8 t; omega⟩

theorem b0 (r : Fin 512) (k : Fin 3072) :
    (iblk m c 0 t : FVec Ideal S512x3072 .bf16) (ix2 r k) = (m ((c : Thread nD τ).loc main_arg0) : FVec Ideal S4096x3072 .f32) (ix2 (row' t r) k) := by
  blk_ext [iblk, entry0, idx t]
theorem b1 (r : Fin 1024) (k : Fin 3072) :
    (iblk m c 1 t : FVec Ideal S1024x3072 .bf16) (ix2 r k) = (m ((c : Thread nD τ).loc main_arg1) : FVec Ideal S1024x3072 .f32) (ix2 r k) := by
  blk_ext [iblk, entry1, idx t]
theorem b2 (r : Fin 512) (k : Fin 1024) :
    (iblk m c 2 t : FVec Ideal S512x1024 .f32) (ix2 r k) = (m ((c : Thread nD τ).loc main_arg2) : FVec Ideal S4096x1024 .f32) (ix2 (row' t r) k) := by
  blk_ext [iblk, V_main_arg2, idx t]
theorem b3 (r : Fin 512) (k : Fin 1024) :
    (iblk m c 3 t : FVec Ideal S512x1024 .f32) (ix2 r k) = (m ((c : Thread nD τ).loc main_arg3) : FVec Ideal S4096x1024 .f32) (ix2 (row' t r) k) := by
  blk_ext [iblk, V_main_arg3, idx t]
theorem b4 (r : Fin 512) (k : Fin 1024) :
    (iblk m c 4 t : FVec Ideal S512x1024 .f32) (ix2 r k) = (m ((c : Thread nD τ).loc main_arg4) : FVec Ideal S4096x1024 .f32) (ix2 (row' t r) k) := by
  blk_ext [iblk, V_main_arg4, idx t]
theorem b5 (r : Fin 1) (k : Fin 1024) :
    (iblk m c 5 t : FVec Ideal S1x1024 .f32) (ix2 r k) = (m ((c : Thread nD τ).loc main_arg5) : FVec Ideal S1x1024 .f32) (ix2 r k) := by
  blk_ext [iblk, V_main_arg5, idx t]
theorem place (r : Fin 512) (j : Fin 1024) : ((cfg0.win 6).blk t).view.emb (ix2 r j) = (ix2 (row' t r) j : S4096x1024.Idx) := by
  blk_ext [idx t]
end

/-- The first result, on finite arguments. -/
theorem final6 (hD : AllReal (m ((c : Thread nD τ).loc main_arg0) : FVec Ideal S4096x3072 .f32))
    (hW : AllReal (m ((c : Thread nD τ).loc main_arg1) : FVec Ideal S1024x3072 .f32))
    (hP : AllReal (m ((c : Thread nD τ).loc main_arg2) : FVec Ideal S4096x1024 .f32))
    (hX : AllReal (m ((c : Thread nD τ).loc main_arg3) : FVec Ideal S4096x1024 .f32))
    (hG : AllReal (m ((c : Thread nD τ).loc main_arg5) : FVec Ideal S1x1024 .f32)) :
    (dats m 0 c).arrAt 6 cfg0.N
      = grad (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  have point : k0_pay7 (iblk m c 0 t) (iblk m c 1 t) (iblk m c 2 t) (iblk m c 3 t) (iblk m c 4 t) (iblk m c 5 t) y
      = grad (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (((cfg0.win 6).blk t).view.emb y) := by
    suffices H : ∀ (r : Fin 512) (j : Fin 1024), k0_pay7 (iblk m c 0 t) (iblk m c 1 t) (iblk m c 2 t) (iblk m c 3 t) (iblk m c 4 t) (iblk m c 5 t) (ix2 r j)
        = grad (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (((cfg0.win 6).blk t).view.emb (ix2 r j)) by
      rw [eq_ix2 y]; exact H _ _
    intro r j
    rw [place]
    exact (pay7_of _ _ _ _ _ _ _ _ _ _ _ _ _ _ (b0 m c t r) (b1 m c t) (b2 m c t r) (b3 m c t r) (b4 m c t r) (b5 m c t 0) j).trans
      (grad_at _ _ _ _ _ _ hD hW hP hX hG _ _).symm
  by_cases h : t.val % 8 = 0
  · rw [outsAt0_A m c t h]; frame_out; exact point
  · rw [outsAt0_B m c t h]; frame_out; exact point

/-- The second result: eight blocks' sums make the sum over all rows. -/
theorem final7 : (dats m 0 c).arrAt 7 cfg0.N
    = gain (m ((c : Thread nD τ).loc main_arg0)) (m ((c : Thread nD τ).loc main_arg1)) (m ((c : Thread nD τ).loc main_arg2))
        (m ((c : Thread nD τ).loc main_arg3)) := by
  refine (dats m 0 c).arrAt_eq_of_after_last 7 t0_7 (by decide +kernel) _ fun j => ?_
  blk_simp
  rw [after0_7, Pipeline.eq_sum_fin_of_reset_step_apply_last (fun n h => (outsAt0 m c n h).2) 8 (fun _ => 0) _
    (fun t h j => by rw [outsAt0_A m c t h]; frame_out; rw [out7_at, zero_at])
    (fun t h j => by rw [outsAt0_B m c t h]; frame_out; rw [out7_at])
    (le_of_eq N_0) t0_7 rfl j, zero_add, gain_at]
  exact Fin.sum_mul_add_congr fun t k hl => pay6_of _ _ _ _ _ _ _ _ _ _ (b0 m c t k) (b1 m c t) (b2 m c t k) (b3 m c t k) (j 1)

/-! ### The two programs -/

theorem finite_args (D : FVec Ideal S4096x3072 .f32) (W : FVec Ideal S1024x3072 .f32) (P X E : FVec Ideal S4096x1024 .f32) (G : FVec Ideal S1x1024 .f32)
    (hp : Cert.Pre_finite_mix.fn (F := Ideal) D W P X E G = fun _ => 1#1) : AllReal D ∧ AllReal W ∧ AllReal P ∧ AllReal X ∧ AllReal G := by
  have e := congrFun hp (fun a => a.elim0)
  simp only [Cert.Pre_finite_mix.fn, Cert.Pre_finite_mix.fn_part1, Cert.Pre_finite_mix.fn_part2, andi, andi_one] at e
  obtain ⟨⟨⟨⟨e0, e1⟩, e2⟩, e3⟩, e4⟩ := e
  refine ⟨fun i => ?_, fun i => ?_, fun i => ?_, fun i => ?_, fun i => ?_⟩
  · have t := (andi_one _ _).1 (Host.reduce_andi_all _ _ _ _ _ e0 i)
    exact ⟨_, real_of_tests _ t.1 t.2⟩
  · have t := (andi_one _ _).1 (Host.reduce_andi_all _ _ _ _ _ e1 i)
    exact ⟨_, real_of_tests _ t.1 t.2⟩
  · have t := (andi_one _ _).1 (Host.reduce_andi_all _ _ _ _ _ e2 i)
    exact ⟨_, real_of_tests _ t.1 t.2⟩
  · have t := (andi_one _ _).1 (Host.reduce_andi_all _ _ _ _ _ e3 i)
    exact ⟨_, real_of_tests _ t.1 t.2⟩
  · have t := (andi_one _ _).1 (Host.reduce_andi_all _ _ _ _ _ e4 i)
    exact ⟨_, real_of_tests _ t.1 t.2⟩

/-- On finite arguments the call's two results are the derivative's. -/
theorem equal : Cert.algebraic_DHcIdeal_DHcRefIdeal_pre_finite_mix
    (hDHcIdeal := Cert.DHcIdeal.Gen.facts) (hDHcRefIdeal := Cert.DHcRefIdeal.Gen.facts)
    (hPre_finite_mix := Cert.Pre_finite_mix.Gen.facts) := by
  intro m g m' g' hpre hagree
  refine ⟨fun c => grad (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)),
    fun c => gain (m ((c : Thread nD τ).loc main_arg0)) (m ((c : Thread nD τ).loc main_arg1)) (m ((c : Thread nD τ).loc main_arg2))
      (m ((c : Thread nD τ).loc main_arg3)), ?_, ?_⟩
  · refine (θ_run _ _ _).mono (fun r h c => ?_) (run_blocks m g)
    obtain ⟨hD, hW, hP, hX, hG⟩ := finite_args _ _ _ _ _ _ (hpre c)
    exact ⟨(h c).1.trans (final6 m c hD hW hP hX hG), (h c).2.1.trans (final7 m c), (h c).2.2⟩
  · refine (θ_run _ _ _).mono (fun r h c => ?_) (Cert.DHcRefIdeal.Value.run (F := Ideal) m' g')
    obtain ⟨e0, e1, e2, e3, e4, e5⟩ := hagree c
    refine ⟨(h c).1.trans ?_, (h c).2.1.trans ?_, (h c).2.2⟩
    · rw [val_main_v38_eq, e0, e1, e2, e3, e4, e5]
    · rw [val_main_v21_eq, e0, e1, e2, e3]

/-- The reference terminates with its arguments unchanged; it has no semaphores. -/
theorem ref_frame : Cert.quiescent_DHcRefIdeal (hDHcRefIdeal := Cert.DHcRefIdeal.Gen.facts) :=
  fun m ρ _ => (θ_run _ _ _).mono (fun r h => ⟨fun c => (h c).2.2, sem_eq_zero_of_no_sems rfl r.2⟩)
    (Cert.DHcRefIdeal.Value.run (F := Ideal) m ρ)

theorem ref_frame_pre : Cert.quiescent_DHcRefIdeal_pre_finite_mix (hDHcRefIdeal := Cert.DHcRefIdeal.Gen.facts)
    (hPre_finite_mix := Cert.Pre_finite_mix.Gen.facts) :=
  fun m ρ _ => ref_frame m ρ trivial

end Cert.DHcIdeal.Product

end
-- ==== Proof.DInA.lean ====
/- The product `d_in_a`, the gradient of the first part of the mixer's input weight: the array its blocks make is the reference's. -/
module

public import proofs.«01_k».proof.Proof.Gen.DInAIdeal.Value
public import proofs.«01_k».proof.Proof.Gen.DInARefIdeal.Run
public import proofs.«01_k».proof.Proof.Gen.DInARefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DInAIdeal.Product

open Cert.DInAIdeal Cert.DInAIdeal.Gen Cert.DInAIdeal.Value
open Cert.DInARefIdeal.Read

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

/-- The gradient of the weight, over the rows `H` and the gradient `D`. -/
abbrev grad (H : FVec Ideal S4096x1024 .f32) (D : FVec Ideal S4096x768 .f32) : FVec Ideal S1024x768 .f32 :=
  val_main_v3 (F := Ideal) H D

theorem entry0 : (V m c main_v0 : FVec Ideal S4096x1024 .bf16) = (m ((c : Thread nD τ).loc main_arg0) : FVec Ideal S4096x1024 .f32) := rfl
theorem entry1 : (V m c main_v1 : FVec Ideal S4096x768 .bf16) = (m ((c : Thread nD τ).loc main_arg1) : FVec Ideal S4096x768 .f32) := rfl

theorem point (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad, val_main_v3, val_main_v2]
  refine Eq.trans ?_ (Finset.sum_congr rfl fun k _ => mul_comm _ _)
  blk_point [iblk, entry0, entry1, idx t]

theorem final : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem equal : Cert.algebraic_DInAIdeal_DInARefIdeal
    (hDInAIdeal := Cert.DInAIdeal.Gen.facts) (hDInARefIdeal := Cert.DInARefIdeal.Gen.facts) := by
  intro m g m' g' _ hagree
  refine ⟨fun c => grad (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ?_) (Cert.DInARefIdeal.Value.run (F := Ideal) m' g')
    obtain ⟨e0, e1⟩ := hagree c
    refine ⟨(h c).1.trans ?_, (h c).2⟩
    rw [val_main_v3_eq, e0, e1]

/-- The reference terminates with its arguments unchanged; it has no semaphores. -/
theorem ref_frame : Cert.quiescent_DInARefIdeal (hDInARefIdeal := Cert.DInARefIdeal.Gen.facts) :=
  fun m ρ _ => (θ_run _ _ _).mono (fun r h => ⟨fun c => (h c).2, sem_eq_zero_of_no_sems rfl r.2⟩)
    (Cert.DInARefIdeal.Value.run (F := Ideal) m ρ)

end Cert.DInAIdeal.Product

end
-- ==== Proof.DInB.lean ====
/- The product `d_in_b`, the gradient of the second part of the mixer's input weight: the array its blocks make is the reference's. -/
module

public import proofs.«01_k».proof.Proof.Gen.DInBIdeal.Value
public import proofs.«01_k».proof.Proof.Gen.DInBRefIdeal.Run
public import proofs.«01_k».proof.Proof.Gen.DInBRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DInBIdeal.Product

open Cert.DInBIdeal Cert.DInBIdeal.Gen Cert.DInBIdeal.Value
open Cert.DInBRefIdeal.Read

variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val] :=
  (by decide +kernel : ∀ t : Fin grid0.N, _)

/-- The gradient of the weight, over the rows `H` and the gradient `D`. -/
abbrev grad (H : FVec Ideal S4096x1024 .f32) (D : FVec Ideal S4096x2560 .f32) : FVec Ideal S1024x2560 .f32 :=
  val_main_v3 (F := Ideal) H D

theorem entry0 : (V m c main_v0 : FVec Ideal S4096x1024 .bf16) = (m ((c : Thread nD τ).loc main_arg0) : FVec Ideal S4096x1024 .f32) := rfl
theorem entry1 : (V m c main_v1 : FVec Ideal S4096x2560 .bf16) = (m ((c : Thread nD τ).loc main_arg1) : FVec Ideal S4096x2560 .f32) := rfl

theorem point (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad, val_main_v3, val_main_v2]
  refine Eq.trans ?_ (Finset.sum_congr rfl fun k _ => mul_comm _ _)
  blk_point [iblk, entry0, entry1, idx t]

theorem final : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem equal : Cert.algebraic_DInBIdeal_DInBRefIdeal
    (hDInBIdeal := Cert.DInBIdeal.Gen.facts) (hDInBRefIdeal := Cert.DInBRefIdeal.Gen.facts) := by
  intro m g m' g' _ hagree
  refine ⟨fun c => grad (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ?_) (Cert.DInBRefIdeal.Value.run (F := Ideal) m' g')
    obtain ⟨e0, e1⟩ := hagree c
    refine ⟨(h c).1.trans ?_, (h c).2⟩
    rw [val_main_v3_eq, e0, e1]

/-- The reference terminates with its arguments unchanged; it has no semaphores. -/
theorem ref_frame : Cert.quiescent_DInBRefIdeal (hDInBRefIdeal := Cert.DInBRefIdeal.Gen.facts) :=
  fun m ρ _ => (θ_run _ _ _).mono (fun r h => ⟨fun c => (h c).2, sem_eq_zero_of_no_sems rfl r.2⟩)
    (Cert.DInBRefIdeal.Value.run (F := Ideal) m ρ)

end Cert.DInBIdeal.Product

end
-- ==== Proof.DInC.lean ====
/- The product `d_in_c`, the gradient of the third part of the mixer's input weight: the array its blocks make is the reference's. -/
module

public import proofs.«01_k».proof.Proof.Gen.DInCIdeal.Value
public import proofs.«01_k».proof.Proof.Gen.DInCRefIdeal.Run
public import proofs.«01_k».proof.Proof.Gen.DInCRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DInCIdeal.Product

open Cert.DInCIdeal Cert.DInCIdeal.Gen Cert.DInCIdeal.Value
open Cert.DInCRefIdeal.Read

variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val] :=
  (by decide +kernel : ∀ t : Fin grid0.N, _)

/-- The gradient of the weight, over the rows `H` and the gradient `D`. -/
abbrev grad (H : FVec Ideal S4096x1024 .f32) (D : FVec Ideal S4096x3072 .f32) : FVec Ideal S1024x3072 .f32 :=
  val_main_v3 (F := Ideal) H D

theorem entry0 : (V m c main_v0 : FVec Ideal S4096x1024 .bf16) = (m ((c : Thread nD τ).loc main_arg0) : FVec Ideal S4096x1024 .f32) := rfl
theorem entry1 : (V m c main_v1 : FVec Ideal S4096x3072 .bf16) = (m ((c : Thread nD τ).loc main_arg1) : FVec Ideal S4096x3072 .f32) := rfl

theorem point (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad, val_main_v3, val_main_v2]
  refine Eq.trans ?_ (Finset.sum_congr rfl fun k _ => mul_comm _ _)
  blk_point [iblk, entry0, entry1, idx t]

theorem final : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem equal : Cert.algebraic_DInCIdeal_DInCRefIdeal
    (hDInCIdeal := Cert.DInCIdeal.Gen.facts) (hDInCRefIdeal := Cert.DInCRefIdeal.Gen.facts) := by
  intro m g m' g' _ hagree
  refine ⟨fun c => grad (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ?_) (Cert.DInCRefIdeal.Value.run (F := Ideal) m' g')
    obtain ⟨e0, e1⟩ := hagree c
    refine ⟨(h c).1.trans ?_, (h c).2⟩
    rw [val_main_v3_eq, e0, e1]

/-- The reference terminates with its arguments unchanged; it has no semaphores. -/
theorem ref_frame : Cert.quiescent_DInCRefIdeal (hDInCRefIdeal := Cert.DInCRefIdeal.Gen.facts) :=
  fun m ρ _ => (θ_run _ _ _).mono (fun r h => ⟨fun c => (h c).2, sem_eq_zero_of_no_sems rfl r.2⟩)
    (Cert.DInCRefIdeal.Value.run (F := Ideal) m ρ)

end Cert.DInCIdeal.Product

end
-- ==== Proof.DOut.lean ====
/- The product `d_out`, the gradient of the mixer's output weight: the array its blocks make is the reference's. -/
module

public import proofs.«01_k».proof.Proof.Gen.DOutIdeal.Value
public import proofs.«01_k».proof.Proof.Gen.DOutRefIdeal.Run
public import proofs.«01_k».proof.Proof.Gen.DOutRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DOutIdeal.Product

open Cert.DOutIdeal Cert.DOutIdeal.Gen Cert.DOutIdeal.Value
open Cert.DOutRefIdeal.Read

variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val] :=
  (by decide +kernel : ∀ t : Fin grid0.N, _)

/-- The gradient of the weight, over the rows `H` and the gradient `D`. -/
abbrev grad (H : FVec Ideal S4096x1024 .f32) (D : FVec Ideal S4096x1024 .f32) : FVec Ideal S1024x1024 .f32 :=
  val_main_v3 (F := Ideal) H D

theorem entry0 : (V m c main_v0 : FVec Ideal S4096x1024 .bf16) = (m ((c : Thread nD τ).loc main_arg0) : FVec Ideal S4096x1024 .f32) := rfl

theorem point (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad, val_main_v3, val_main_v2]
  refine Eq.trans ?_ (Finset.sum_congr rfl fun k _ => mul_comm _ _)
  blk_point [iblk, entry0, V_main_arg1, idx t]

theorem final : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem equal : Cert.algebraic_DOutIdeal_DOutRefIdeal
    (hDOutIdeal := Cert.DOutIdeal.Gen.facts) (hDOutRefIdeal := Cert.DOutRefIdeal.Gen.facts) := by
  intro m g m' g' _ hagree
  refine ⟨fun c => grad (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ?_) (Cert.DOutRefIdeal.Value.run (F := Ideal) m' g')
    obtain ⟨e0, e1⟩ := hagree c
    refine ⟨(h c).1.trans ?_, (h c).2⟩
    rw [val_main_v3_eq, e0, e1]

/-- The reference terminates with its arguments unchanged; it has no semaphores. -/
theorem ref_frame : Cert.quiescent_DOutRefIdeal (hDOutRefIdeal := Cert.DOutRefIdeal.Gen.facts) :=
  fun m ρ _ => (θ_run _ _ _).mono (fun r h => ⟨fun c => (h c).2, sem_eq_zero_of_no_sems rfl r.2⟩)
    (Cert.DOutRefIdeal.Value.run (F := Ideal) m ρ)

end Cert.DOutIdeal.Product

end
-- ==== Proof.DY.lean ====
/- The product `d_y`, the gradient of the branches' merged output: the array its blocks make is the reference's. -/
module

public import proofs.«01_k».proof.Proof.Gen.DYIdeal.Value
public import proofs.«01_k».proof.Proof.Gen.DYRefIdeal.Run
public import proofs.«01_k».proof.Proof.Gen.DYRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DYIdeal.Product

open Cert.DYIdeal Cert.DYIdeal.Gen Cert.DYIdeal.Value
open Cert.DYRefIdeal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The gradient, over the gradient `D` and the weight `W`. -/
abbrev grad (D : FVec Ideal S4096x1024 .f32) (W : FVec Ideal S1024x1024 .f32) : FVec Ideal S4096x1024 .bf16 :=
  val_main_v3 (F := Ideal) D W

theorem entry0 : (V m c main_v0 : FVec Ideal S1024x1024 .bf16) = (m ((c : Thread nD τ).loc main_arg1) : FVec Ideal S1024x1024 .f32) := rfl

theorem point (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad, val_main_v3, val_main_v2]
  blk_point [iblk, V_main_arg0, entry0, idx t]

theorem final : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem equal : Cert.algebraic_DYIdeal_DYRefIdeal
    (hDYIdeal := Cert.DYIdeal.Gen.facts) (hDYRefIdeal := Cert.DYRefIdeal.Gen.facts) := by
  intro m g m' g' _ hagree
  refine ⟨fun c => grad (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ?_) (Cert.DYRefIdeal.Value.run (F := Ideal) m' g')
    obtain ⟨e0, e1⟩ := hagree c
    refine ⟨(h c).1.trans ?_, (h c).2⟩
    rw [val_main_v3_eq, e0, e1]

/-- The reference terminates with its arguments unchanged; it has no semaphores. -/
theorem ref_frame : Cert.quiescent_DYRefIdeal (hDYRefIdeal := Cert.DYRefIdeal.Gen.facts) :=
  fun m ρ _ => (θ_run _ _ _).mono (fun r h => ⟨fun c => (h c).2, sem_eq_zero_of_no_sems rfl r.2⟩)
    (Cert.DYRefIdeal.Value.run (F := Ideal) m ρ)

end Cert.DYIdeal.Product

end
-- ==== Proof.InB.lean ====
/- The product `in_b`, the second part of the mixer's input projection: the array its blocks make is the reference's. -/
module

public import proofs.«01_k».proof.Proof.Gen.InBIdeal.Value
public import proofs.«01_k».proof.Proof.Gen.InBRefIdeal.Run
public import proofs.«01_k».proof.Proof.Gen.InBRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.InBIdeal.Product

open Cert.InBIdeal Cert.InBIdeal.Gen Cert.InBIdeal.Value
open Cert.InBRefIdeal.Read

variable (m : (ℓ : Loc nD τ sig) → Buf (Elt Ideal) ℓ) (c : Dev nD)

theorem idx : ∀ t : Fin cfg0.N, win0_0.index t = ![t.val / 5, 0] ∧ win0_1.index t = ![0, t.val % 5] ∧ win0_2.index t = ![t.val / 5, t.val % 5] :=
  (by decide +kernel : ∀ t : Fin grid0.N, _)

/-- The product of the rows `H` and the weight `W`. -/
abbrev layer (H : FVec Ideal S4096x1024 .f32) (W : FVec Ideal S1024x2560 .f32) : FVec Ideal S4096x2560 .f32 :=
  val_main_v0 (F := Ideal) H W

theorem entry0 : (V m c main_v0 : FVec Ideal S4096x1024 .bf16) = (m ((c : Thread nD τ).loc main_arg0) : FVec Ideal S4096x1024 .f32) := rfl
theorem entry1 : (V m c main_v1 : FVec Ideal S1024x2560 .bf16) = (m ((c : Thread nD τ).loc main_arg1) : FVec Ideal S1024x2560 .f32) := rfl

theorem point (t : Fin cfg0.N) (y) :
    k0_pay1 (iblk m c 0 t) (iblk m c 1 t) y
      = layer (m ((c : Thread nD τ).loc main_arg0)) (m ((c : Thread nD τ).loc main_arg1)) (((cfg0.win 2).blk t).view.emb y) := by
  pointwise [k0_pay1, layer, val_main_v0]
  blk_point [iblk, entry0, entry1, idx t]

theorem final : (dats m 0 c).arrAt 2 cfg0.N
    = layer (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem equal : Cert.algebraic_InBIdeal_InBRefIdeal
    (hInBIdeal := Cert.InBIdeal.Gen.facts) (hInBRefIdeal := Cert.InBRefIdeal.Gen.facts) := by
  intro m g m' g' _ hagree
  refine ⟨fun c => layer (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ?_) (Cert.InBRefIdeal.Value.run (F := Ideal) m' g')
    obtain ⟨e0, e1⟩ := hagree c
    refine ⟨(h c).1.trans ?_, (h c).2⟩
    rw [val_main_v0_eq, e0, e1]

/-- The reference terminates with its arguments unchanged; it has no semaphores. -/
theorem ref_frame : Cert.quiescent_InBRefIdeal (hInBRefIdeal := Cert.InBRefIdeal.Gen.facts) :=
  fun m ρ _ => (θ_run _ _ _).mono (fun r h => ⟨fun c => (h c).2, sem_eq_zero_of_no_sems rfl r.2⟩)
    (Cert.InBRefIdeal.Value.run (F := Ideal) m ρ)

end Cert.InBIdeal.Product

end
-- ==== Proof.InC.lean ====
/- The product `in_c`, the third part of the mixer's input projection: the array its blocks make is the reference's. -/
module

public import proofs.«01_k».proof.Proof.Gen.InCIdeal.Value
public import proofs.«01_k».proof.Proof.Gen.InCRefIdeal.Run
public import proofs.«01_k».proof.Proof.Gen.InCRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.InCIdeal.Product

open Cert.InCIdeal Cert.InCIdeal.Gen Cert.InCIdeal.Value
open Cert.InCRefIdeal.Read

variable (m : (ℓ : Loc nD τ sig) → Buf (Elt Ideal) ℓ) (c : Dev nD)

theorem idx : ∀ t : Fin cfg0.N, win0_0.index t = ![t.val / 3, 0] ∧ win0_1.index t = ![0, t.val % 3] ∧ win0_2.index t = ![t.val / 3, t.val % 3] :=
  (by decide +kernel : ∀ t : Fin grid0.N, _)

/-- The product of the rows `H` and the weight `W`. -/
abbrev layer (H : FVec Ideal S4096x1024 .f32) (W : FVec Ideal S1024x3072 .f32) : FVec Ideal S4096x3072 .f32 :=
  val_main_v0 (F := Ideal) H W

theorem entry0 : (V m c main_v0 : FVec Ideal S4096x1024 .bf16) = (m ((c : Thread nD τ).loc main_arg0) : FVec Ideal S4096x1024 .f32) := rfl
theorem entry1 : (V m c main_v1 : FVec Ideal S1024x3072 .bf16) = (m ((c : Thread nD τ).loc main_arg1) : FVec Ideal S1024x3072 .f32) := rfl

theorem point (t : Fin cfg0.N) (y) :
    k0_pay1 (iblk m c 0 t) (iblk m c 1 t) y
      = layer (m ((c : Thread nD τ).loc main_arg0)) (m ((c : Thread nD τ).loc main_arg1)) (((cfg0.win 2).blk t).view.emb y) := by
  pointwise [k0_pay1, layer, val_main_v0]
  blk_point [iblk, entry0, entry1, idx t]

theorem final : (dats m 0 c).arrAt 2 cfg0.N
    = layer (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem equal : Cert.algebraic_InCIdeal_InCRefIdeal
    (hInCIdeal := Cert.InCIdeal.Gen.facts) (hInCRefIdeal := Cert.InCRefIdeal.Gen.facts) := by
  intro m g m' g' _ hagree
  refine ⟨fun c => layer (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ?_) (Cert.InCRefIdeal.Value.run (F := Ideal) m' g')
    obtain ⟨e0, e1⟩ := hagree c
    refine ⟨(h c).1.trans ?_, (h c).2⟩
    rw [val_main_v0_eq, e0, e1]

/-- The reference terminates with its arguments unchanged; it has no semaphores. -/
theorem ref_frame : Cert.quiescent_InCRefIdeal (hInCRefIdeal := Cert.InCRefIdeal.Gen.facts) :=
  fun m ρ _ => (θ_run _ _ _).mono (fun r h => ⟨fun c => (h c).2, sem_eq_zero_of_no_sems rfl r.2⟩)
    (Cert.InCRefIdeal.Value.run (F := Ideal) m ρ)

end Cert.InCIdeal.Product

end
-- ==== Proof.Out.lean ====
/- The product `out`, the mixer's output projection with the residual: the array its blocks make is the reference's. -/
module

public import proofs.«01_k».proof.Proof.Gen.OutIdeal.Value
public import proofs.«01_k».proof.Proof.Gen.OutRefIdeal.Run
public import proofs.«01_k».proof.Proof.Gen.OutRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.OutIdeal.Product

open Cert.OutIdeal Cert.OutIdeal.Gen Cert.OutIdeal.Value
open Cert.OutRefIdeal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The product of the rows `H` and the weight `W`, added to the residual `X`. -/
abbrev layer (H : FVec Ideal S4096x1024 .f32) (W : FVec Ideal S1024x1024 .f32) (X : FVec Ideal S4096x1024 .f32) : FVec Ideal S4096x1024 .f32 :=
  val_main_v1 (F := Ideal) H W X

theorem entry0 : (V m c main_v0 : FVec Ideal S4096x1024 .bf16) = (m ((c : Thread nD τ).loc main_arg0) : FVec Ideal S4096x1024 .f32) := rfl
theorem entry1 : (V m c main_v1 : FVec Ideal S1024x1024 .bf16) = (m ((c : Thread nD τ).loc main_arg1) : FVec Ideal S1024x1024 .f32) := rfl

theorem point (t : Fin cfg0.N) (y) :
    k0_pay1 (iblk m c 0 t) (iblk m c 1 t) (iblk m c 2 t) y
      = layer (m ((c : Thread nD τ).loc main_arg0)) (m ((c : Thread nD τ).loc main_arg1)) (m ((c : Thread nD τ).loc main_arg2)) (((cfg0.win 3).blk t).view.emb y) := by
  pointwise [k0_pay1, layer, val_main_v1, val_main_v0]
  blk_point [iblk, entry0, entry1, V_main_arg2, idx t]

theorem final : (dats m 0 c).arrAt 3 cfg0.N
    = layer (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

theorem equal : Cert.algebraic_OutIdeal_OutRefIdeal
    (hOutIdeal := Cert.OutIdeal.Gen.facts) (hOutRefIdeal := Cert.OutRefIdeal.Gen.facts) := by
  intro m g m' g' _ hagree
  refine ⟨fun c => layer (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (run_blocks m g)
  · refine (θ_run _ _ _).mono (fun r h c => ?_) (Cert.OutRefIdeal.Value.run (F := Ideal) m' g')
    obtain ⟨e0, e1, e2⟩ := hagree c
    refine ⟨(h c).1.trans ?_, (h c).2⟩
    rw [val_main_v1_eq, e0, e1, e2]

/-- The reference terminates with its arguments unchanged; it has no semaphores. -/
theorem ref_frame : Cert.quiescent_OutRefIdeal (hOutRefIdeal := Cert.OutRefIdeal.Gen.facts) :=
  fun m ρ _ => (θ_run _ _ _).mono (fun r h => ⟨fun c => (h c).2, sem_eq_zero_of_no_sems rfl r.2⟩)
    (Cert.OutRefIdeal.Value.run (F := Ideal) m ρ)

end Cert.OutIdeal.Product

end
-- ==== Proof.DCkvn.lean ====
/- The product `d_ckvn`, the gradient of the latent attention's compressed keys and values: the array its blocks make is the reference's. -/
module

public import proofs.«01_k».proof.Proof.Gen.DCkvnIdeal.Value
public import proofs.«01_k».proof.Proof.Gen.DCkvnRefIdeal.Run
public import proofs.«01_k».proof.Proof.Gen.DCkvnRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DCkvnIdeal.Product

open Cert.DCkvnIdeal Cert.DCkvnIdeal.Gen Cert.DCkvnIdeal.Value
open Cert.DCkvnRefIdeal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The gradient, over the gradient `D` and the weight `W`. -/
abbrev grad (D : FVec Ideal S4096x512 .f32) (W : FVec Ideal S128x512 .f32) : FVec Ideal S4096x128 .f32 :=
  val_main_v2 (F := Ideal) D W

theorem entry0 : (V m c main_v0 : FVec Ideal S4096x512 .bf16) = (m ((c : Thread nD τ).loc main_arg0) : FVec Ideal S4096x512 .f32) := rfl
theorem entry1 : (V m c main_v1 : FVec Ideal S128x512 .bf16) = (m ((c : Thread nD τ).loc main_arg1) : FVec Ideal S128x512 .f32) := rfl

theorem point (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad, val_main_v2]
  blk_point [iblk, entry0, entry1, idx t]

theorem final : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem equal : Cert.algebraic_DCkvnIdeal_DCkvnRefIdeal
    (hDCkvnIdeal := Cert.DCkvnIdeal.Gen.facts) (hDCkvnRefIdeal := Cert.DCkvnRefIdeal.Gen.facts) := by
  intro m g m' g' _ hagree
  refine ⟨fun c => grad (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ?_) (Cert.DCkvnRefIdeal.Value.run (F := Ideal) m' g')
    obtain ⟨e0, e1⟩ := hagree c
    refine ⟨(h c).1.trans ?_, (h c).2⟩
    rw [val_main_v2_eq, e0, e1]

/-- The reference terminates with its arguments unchanged; it has no semaphores. -/
theorem ref_frame : Cert.quiescent_DCkvnRefIdeal (hDCkvnRefIdeal := Cert.DCkvnRefIdeal.Gen.facts) :=
  fun m ρ _ => (θ_run _ _ _).mono (fun r h => ⟨fun c => (h c).2, sem_eq_zero_of_no_sems rfl r.2⟩)
    (Cert.DCkvnRefIdeal.Value.run (F := Ideal) m ρ)

end Cert.DCkvnIdeal.Product

end
-- ==== Proof.DCqn.lean ====
/- The product `d_cqn`, the gradient of the latent attention's compressed queries: the array its blocks make is the reference's. -/
module

public import proofs.«01_k».proof.Proof.Gen.DCqnIdeal.Value
public import proofs.«01_k».proof.Proof.Gen.DCqnRefIdeal.Run
public import proofs.«01_k».proof.Proof.Gen.DCqnRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DCqnIdeal.Product

open Cert.DCqnIdeal Cert.DCqnIdeal.Gen Cert.DCqnIdeal.Value
open Cert.DCqnRefIdeal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The gradient, over the gradient `D` and the weight `W`. -/
abbrev grad (D : FVec Ideal S4096x512 .f32) (W : FVec Ideal S256x512 .f32) : FVec Ideal S4096x256 .f32 :=
  val_main_v2 (F := Ideal) D W

theorem entry0 : (V m c main_v0 : FVec Ideal S4096x512 .bf16) = (m ((c : Thread nD τ).loc main_arg0) : FVec Ideal S4096x512 .f32) := rfl
theorem entry1 : (V m c main_v1 : FVec Ideal S256x512 .bf16) = (m ((c : Thread nD τ).loc main_arg1) : FVec Ideal S256x512 .f32) := rfl

theorem point (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad, val_main_v2]
  blk_point [iblk, entry0, entry1, idx t]

theorem final : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem equal : Cert.algebraic_DCqnIdeal_DCqnRefIdeal
    (hDCqnIdeal := Cert.DCqnIdeal.Gen.facts) (hDCqnRefIdeal := Cert.DCqnRefIdeal.Gen.facts) := by
  intro m g m' g' _ hagree
  refine ⟨fun c => grad (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ?_) (Cert.DCqnRefIdeal.Value.run (F := Ideal) m' g')
    obtain ⟨e0, e1⟩ := hagree c
    refine ⟨(h c).1.trans ?_, (h c).2⟩
    rw [val_main_v2_eq, e0, e1]

/-- The reference terminates with its arguments unchanged; it has no semaphores. -/
theorem ref_frame : Cert.quiescent_DCqnRefIdeal (hDCqnRefIdeal := Cert.DCqnRefIdeal.Gen.facts) :=
  fun m ρ _ => (θ_run _ _ _).mono (fun r h => ⟨fun c => (h c).2, sem_eq_zero_of_no_sems rfl r.2⟩)
    (Cert.DCqnRefIdeal.Value.run (F := Ideal) m ρ)

end Cert.DCqnIdeal.Product

end
-- ==== Proof.DHx.lean ====
/- The call `d_hx`, the gradient through the cross attention's query product and its norm: its two results are the reference's. -/
module

public import proofs.«01_k».proof.Proof.Gen.DHxIdeal.Value
public import proofs.«01_k».proof.Proof.Gen.DHxRefIdeal.Run
public import proofs.«01_k».proof.Proof.Gen.DHxRefIdeal.Read
public import proofs.«01_k».proof.Proof.Gen.Pre_finite_xq
public import proofs.«01_k».proof.Defs
public import Idealize.ShloMosaic.Lib.ReduceAll
public import Idealize.ShloMosaic.Lib.Pipeline.ValueKit
public import Idealize.ShloMosaic.Lib.Pointwise
public import Idealize.ShloMosaic.Lib.Quiescent
public import Idealize.ShloMosaic.Lib.Claim
public import proofs.«01_k».proof.Proof.NormGrad

@[expose] public section

set_option maxRecDepth 16384

noncomputable section

open Idealize.ShloMosaic Idealize.ShloMosaic.TcCoe Idealize.SL.Sem

namespace Cert.DHxIdeal.Product

open Cert.DHxIdeal Cert.DHxIdeal.Gen Cert.DHxIdeal.Value
open Cert.DHxRefIdeal.Read Cert.NormGrad Cert.Reals

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

theorem entry0 : (V m c main_v0 : FVec Ideal S4096x512 .bf16) = (m ((c : Thread nD τ).loc main_arg0) : FVec Ideal S4096x512 .f32) := rfl
theorem entry1 : (V m c main_v1 : FVec Ideal S1024x512 .bf16) = (m ((c : Thread nD τ).loc main_arg1) : FVec Ideal S1024x512 .f32) := rfl

/-- The residual's gradient. -/
abbrev grad (D : FVec Ideal S4096x512 .f32) (W : FVec Ideal S1024x512 .f32) (X E : FVec Ideal S4096x1024 .f32) (G : FVec Ideal S1x1024 .f32) :
    FVec Ideal S4096x1024 .f32 := val_main_v36 (F := Ideal) D W X E G
/-- The gain's gradient. -/
abbrev gain (D : FVec Ideal S4096x512 .f32) (W : FVec Ideal S1024x512 .f32) (X : FVec Ideal S4096x1024 .f32) :
    FVec Ideal S1x1024 .f32 := val_main_v19 (F := Ideal) D W X

theorem out6_at (acc : FVec Ideal S1x1024 .f32) (p : FVec Ideal S1024x1024 .f32) (j : S1x1024.Idx) :
    k0_pay1 p acc j = acc j + ∑ r : Fin 1024, p (ix2 r (j 1)) := by
  pointwise [k0_pay1]

theorem zero_at (j : S1x1024.Idx) : k0_pay7 (F := Ideal) j = 0 := by pointwise [k0_pay7]

/-- The products at one row: the gradient of the norm's output. -/
abbrev dot {n : ℕ} {φ φ' : FTy} (D : FVec Ideal ⟨2, ![n, 512]⟩ φ) (W : FVec Ideal S1024x512 φ') (r : Fin n) (j : Fin 1024) : EReal :=
  ∑ k : Fin 512, D (ix2 r k) * W (ix2 j k)

theorem pay5_at (x0 : Vec Ideal S1024x512 .bf16) (x1 : Vec Ideal S1024x512 .bf16) (x2 : Vec Ideal S1024x1024 .f32)
    (r : Fin 1024) (j : Fin 1024) : k0_pay5 x0 x1 x2 (ix2 r j)
      = dot (n := 1024) (φ := .bf16) (φ' := .bf16) x0 x1 r j * (x2 (ix2 r j) * Ideal.rsqrt (ms fun k => x2 (ix2 r k))) := by
  pointwise [k0_pay5, k0_pay4, k0_pay3, k0_pay2]

theorem pay6_at (x0 : Vec Ideal S1024x512 .bf16) (x1 : Vec Ideal S1024x512 .bf16) (x2 x3 : Vec Ideal S1024x1024 .f32) (x4 : Vec Ideal S1x1024 .f32)
    (r : Fin 1024) (j : Fin 1024) : k0_pay6 x0 x1 x2 x3 x4 (ix2 r j)
      = x3 (ix2 r j) + Ideal.rsqrt (ms fun k => x2 (ix2 r k)) * (dot (n := 1024) (φ := .bf16) (φ' := .bf16) x0 x1 r j * x4 (ix2 0 j)
          - x2 (ix2 r j) * Ideal.rsqrt (ms fun k => x2 (ix2 r k))
            * Ideal.div (∑ k, dot (n := 1024) (φ := .bf16) (φ' := .bf16) x0 x1 r k * x4 (ix2 0 k)
                * (x2 (ix2 r k) * Ideal.rsqrt (ms fun k => x2 (ix2 r k)))) len) := by
  pointwise [k0_pay6, k0_pay4, k0_pay3, k0_pay2]

theorem pay5_of (x0 : Vec Ideal S1024x512 .bf16) (x1 : Vec Ideal S1024x512 .bf16) (x2 : Vec Ideal S1024x1024 .f32)
    (D : FVec Ideal S4096x512 .f32) (W : FVec Ideal S1024x512 .f32) (X : FVec Ideal S4096x1024 .f32) (r : Fin 1024) (R : Fin 4096)
    (h0 : ∀ k, x0 (ix2 r k) = D (ix2 R k)) (h1 : ∀ j k, x1 (ix2 j k) = W (ix2 j k)) (h2 : ∀ k, x2 (ix2 r k) = X (ix2 R k)) (j : Fin 1024) :
    k0_pay5 x0 x1 x2 (ix2 r j)
      = dot (n := 4096) (φ := .f32) (φ' := .f32) D W R j * (X (ix2 R j) * Ideal.rsqrt (ms fun k => X (ix2 R k))) := by
  rw [pay5_at]
  simp only [dot, h0, h1, h2]

theorem pay6_of (x0 : Vec Ideal S1024x512 .bf16) (x1 : Vec Ideal S1024x512 .bf16) (x2 x3 : Vec Ideal S1024x1024 .f32) (x4 : Vec Ideal S1x1024 .f32)
    (D : FVec Ideal S4096x512 .f32) (W : FVec Ideal S1024x512 .f32) (X E : FVec Ideal S4096x1024 .f32) (G : FVec Ideal S1x1024 .f32)
    (r : Fin 1024) (R : Fin 4096)
    (h0 : ∀ k, x0 (ix2 r k) = D (ix2 R k)) (h1 : ∀ j k, x1 (ix2 j k) = W (ix2 j k)) (h2 : ∀ k, x2 (ix2 r k) = X (ix2 R k))
    (h3 : ∀ k, x3 (ix2 r k) = E (ix2 R k)) (h4 : ∀ k, x4 (ix2 0 k) = G (ix2 0 k)) (j : Fin 1024) :
    k0_pay6 x0 x1 x2 x3 x4 (ix2 r j)
      = E (ix2 R j) + Ideal.rsqrt (ms fun k => X (ix2 R k)) * (dot (n := 4096) (φ := .f32) (φ' := .f32) D W R j * G (ix2 0 j)
          - X (ix2 R j) * Ideal.rsqrt (ms fun k => X (ix2 R k))
            * Ideal.div (∑ k, dot (n := 4096) (φ := .f32) (φ' := .f32) D W R k * G (ix2 0 k)
                * (X (ix2 R k) * Ideal.rsqrt (ms fun k => X (ix2 R k)))) len) := by
  rw [pay6_at]
  simp only [dot, h0, h1, h2, h3, h4]

section
variable (D : FVec Ideal S4096x512 .f32) (W : FVec Ideal S1024x512 .f32) (X E : FVec Ideal S4096x1024 .f32) (G : FVec Ideal S1x1024 .f32)

theorem gain_at (j : S1x1024.Idx) : gain D W X j
    = ∑ r : Fin 4096, dot (n := 4096) (φ := .f32) (φ' := .f32) D W r (j 1) * (X (ix2 r (j 1)) * Ideal.rsqrt (ms fun k => X (ix2 r k))) := by
  pointwise [gain, val_main_v0, val_main_v1, val_main_v2, val_main_v3, val_main_v4, val_main_v5, val_main_v6, val_main_v7, val_main_v11,
    val_main_v12, val_main_v16, val_main_v17, val_main_v18, val_main_v19, val_main_cst, val_main_cst_0, val_main_cst_1, val_main_cst_3]
  exact Finset.sum_congr rfl fun r _ => mul_comm _ _

theorem grad_at (hD : AllReal D) (hW : AllReal W) (hX : AllReal X) (hG : AllReal G)
    (r : Fin 4096) (j : Fin 1024) : grad D W X E G (ix2 r j)
      = E (ix2 r j) + Ideal.rsqrt (ms fun k => X (ix2 r k)) * (dot (n := 4096) (φ := .f32) (φ' := .f32) D W r j * G (ix2 0 j)
          - X (ix2 r j) * Ideal.rsqrt (ms fun k => X (ix2 r k))
            * Ideal.div (∑ k, dot (n := 4096) (φ := .f32) (φ' := .f32) D W r k * G (ix2 0 k)
                * (X (ix2 r k) * Ideal.rsqrt (ms fun k => X (ix2 r k)))) len) := by
  have hd : ∀ k, ∃ v : ℝ, dot (n := 4096) (φ := .f32) (φ' := .f32) D W r k * G (ix2 0 k) = v := by
    intro k
    choose d hd using hD
    choose w hw using hW
    obtain ⟨g, hg⟩ := hG (ix2 0 k)
    exact ⟨(∑ i, d (ix2 r i) * w (ix2 k i)) * g, by simp only [dot, hd, hw, hg, mul', coe_sum]⟩
  refine Eq.trans ?_ (row (fun k => X (ix2 r k)) (fun k => dot (n := 4096) (φ := .f32) (φ' := .f32) D W r k * G (ix2 0 k)) (E (ix2 r j))
    (fun k => hX _) hd j).symm
  pointwise [grad, val_main_v0, val_main_v1, val_main_v2, val_main_v3, val_main_v4, val_main_v5, val_main_v6, val_main_v7, val_main_v8,
    val_main_v9, val_main_v10, val_main_v16, val_main_v20, val_main_v21, val_main_v22, val_main_v23, val_main_v24, val_main_v25, val_main_v26,
    val_main_v27, val_main_v28, val_main_v29, val_main_v30, val_main_v31, val_main_v32, val_main_v33, val_main_v34, val_main_v35, val_main_v36,
    val_main_cst, val_main_cst_0, val_main_cst_1, val_main_cst_2, val_main_cst_4, val_main_cst_5, val_main_cst_6]
end

section
variable (t : Fin cfg0.N)

theorem N4 : t.val < 4 := lt_of_lt_of_eq t.isLt N_0

/-- Row `r` of point `t`'s block. -/
abbrev row' (r : Fin 1024) : Fin 4096 := ⟨t.val * 1024 + r.val, by have := N4 t; omega⟩

theorem b0 (r : Fin 1024) (k : Fin 512) :
    (iblk m c 0 t : FVec Ideal S1024x512 .bf16) (ix2 r k) = (m ((c : Thread nD τ).loc main_arg0) : FVec Ideal S4096x512 .f32) (ix2 (row' t r) k) := by
  blk_ext [iblk, entry0, idx t]
theorem b1 (r : Fin 1024) (k : Fin 512) :
    (iblk m c 1 t : FVec Ideal S1024x512 .bf16) (ix2 r k) = (m ((c : Thread nD τ).loc main_arg1) : FVec Ideal S1024x512 .f32) (ix2 r k) := by
  blk_ext [iblk, entry1, idx t]
theorem b2 (r : Fin 1024) (k : Fin 1024) :
    (iblk m c 2 t : FVec Ideal S1024x1024 .f32) (ix2 r k) = (m ((c : Thread nD τ).loc main_arg2) : FVec Ideal S4096x1024 .f32) (ix2 (row' t r) k) := by
  blk_ext [iblk, V_main_arg2, idx t]
theorem b3 (r : Fin 1024) (k : Fin 1024) :
    (iblk m c 3 t : FVec Ideal S1024x1024 .f32) (ix2 r k) = (m ((c : Thread nD τ).loc main_arg3) : FVec Ideal S4096x1024 .f32) (ix2 (row' t r) k) := by
  blk_ext [iblk, V_main_arg3, idx t]
theorem b4 (r : Fin 1) (k : Fin 1024) :
    (iblk m c 4 t : FVec Ideal S1x1024 .f32) (ix2 r k) = (m ((c : Thread nD τ).loc main_arg4) : FVec Ideal S1x1024 .f32) (ix2 r k) := by
  blk_ext [iblk, V_main_arg4, idx t]
theorem place (r : Fin 1024) (j : Fin 1024) : ((cfg0.win 5).blk t).view.emb (ix2 r j) = (ix2 (row' t r) j : S4096x1024.Idx) := by
  blk_ext [idx t]
end

/-- The first result, on finite arguments. -/
theorem final5 (hD : AllReal (m ((c : Thread nD τ).loc main_arg0) : FVec Ideal S4096x512 .f32))
    (hW : AllReal (m ((c : Thread nD τ).loc main_arg1) : FVec Ideal S1024x512 .f32))
    (hX : AllReal (m ((c : Thread nD τ).loc main_arg2) : FVec Ideal S4096x1024 .f32))
    (hG : AllReal (m ((c : Thread nD τ).loc main_arg4) : FVec Ideal S1x1024 .f32)) :
    (dats m 0 c).arrAt 5 cfg0.N
      = grad (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]
  have point : k0_pay6 (iblk m c 0 t) (iblk m c 1 t) (iblk m c 2 t) (iblk m c 3 t) (iblk m c 4 t) y
      = grad (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
    suffices H : ∀ (r : Fin 1024) (j : Fin 1024), k0_pay6 (iblk m c 0 t) (iblk m c 1 t) (iblk m c 2 t) (iblk m c 3 t) (iblk m c 4 t) (ix2 r j)
        = grad (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb (ix2 r j)) by
      rw [eq_ix2 y]; exact H _ _
    intro r j
    rw [place]
    exact (pay6_of _ _ _ _ _ _ _ _ _ _ _ _ (b0 m c t r) (b1 m c t) (b2 m c t r) (b3 m c t r) (b4 m c t 0) j).trans
      (grad_at _ _ _ _ _ hD hW hX hG _ _).symm
  by_cases h : t.val % 4 = 0
  · rw [outsAt0_A m c t h]; frame_out; exact point
  · rw [outsAt0_B m c t h]; frame_out; exact point

/-- The second result: four blocks' sums make the sum over all rows. -/
theorem final6 : (dats m 0 c).arrAt 6 cfg0.N
    = gain (m ((c : Thread nD τ).loc main_arg0)) (m ((c : Thread nD τ).loc main_arg1)) (m ((c : Thread nD τ).loc main_arg2)) := by
  refine (dats m 0 c).arrAt_eq_of_after_last 6 t0_3 (by decide +kernel) _ fun j => ?_
  blk_simp
  rw [after0_6, Pipeline.eq_sum_fin_of_reset_step_apply_last (fun n h => (outsAt0 m c n h).2) 4 (fun _ => 0) _
    (fun t h j => by rw [outsAt0_A m c t h]; frame_out; rw [out6_at, zero_at])
    (fun t h j => by rw [outsAt0_B m c t h]; frame_out; rw [out6_at])
    (le_of_eq N_0) t0_3 rfl j, zero_add, gain_at]
  exact Fin.sum_mul_add_congr fun t k hl => pay5_of _ _ _ _ _ _ _ _ (b0 m c t k) (b1 m c t) (b2 m c t k) (j 1)

/-! ### The two programs -/

theorem finite_args (D : FVec Ideal S4096x512 .f32) (W : FVec Ideal S1024x512 .f32) (X E : FVec Ideal S4096x1024 .f32) (G : FVec Ideal S1x1024 .f32)
    (hp : Cert.Pre_finite_xq.fn (F := Ideal) D W X E G = fun _ => 1#1) : AllReal D ∧ AllReal W ∧ AllReal X ∧ AllReal G := by
  have e := congrFun hp (fun a => a.elim0)
  simp only [Cert.Pre_finite_xq.fn, Cert.Pre_finite_xq.fn_part1, andi, andi_one] at e
  obtain ⟨⟨⟨e0, e1⟩, e2⟩, e3⟩ := e
  refine ⟨fun i => ?_, fun i => ?_, fun i => ?_, fun i => ?_⟩
  · have t := (andi_one _ _).1 (Host.reduce_andi_all _ _ _ _ _ e0 i)
    exact ⟨_, real_of_tests _ t.1 t.2⟩
  · have t := (andi_one _ _).1 (Host.reduce_andi_all _ _ _ _ _ e1 i)
    exact ⟨_, real_of_tests _ t.1 t.2⟩
  · have t := (andi_one _ _).1 (Host.reduce_andi_all _ _ _ _ _ e2 i)
    exact ⟨_, real_of_tests _ t.1 t.2⟩
  · have t := (andi_one _ _).1 (Host.reduce_andi_all _ _ _ _ _ e3 i)
    exact ⟨_, real_of_tests _ t.1 t.2⟩

/-- On finite arguments the call's two results are the derivative's. -/
theorem equal : Cert.algebraic_DHxIdeal_DHxRefIdeal_pre_finite_xq
    (hDHxIdeal := Cert.DHxIdeal.Gen.facts) (hDHxRefIdeal := Cert.DHxRefIdeal.Gen.facts)
    (hPre_finite_xq := Cert.Pre_finite_xq.Gen.facts) := by
  intro m g m' g' hpre hagree
  refine ⟨fun c => grad (m ((c : Thread nD τ).loc main_arg0)) (m ((c : Thread nD τ).loc main_arg1)) (m ((c : Thread nD τ).loc main_arg2))
      (m ((c : Thread nD τ).loc main_arg3)) (m ((c : Thread nD τ).loc main_arg4)),
    fun c => gain (m ((c : Thread nD τ).loc main_arg0)) (m ((c : Thread nD τ).loc main_arg1)) (m ((c : Thread nD τ).loc main_arg2)), ?_, ?_⟩
  · refine (θ_run _ _ _).mono (fun r h c => ?_) (run_blocks m g)
    obtain ⟨hD, hW, hX, hG⟩ := finite_args _ _ _ _ _ (hpre c)
    exact ⟨(h c).1.trans (final5 m c hD hW hX hG), (h c).2.1.trans (final6 m c), (h c).2.2⟩
  · refine (θ_run _ _ _).mono (fun r h c => ?_) (Cert.DHxRefIdeal.Value.run (F := Ideal) m' g')
    obtain ⟨e0, e1, e2, e3, e4⟩ := hagree c
    refine ⟨(h c).1.trans ?_, (h c).2.1.trans ?_, (h c).2.2⟩
    · rw [val_main_v36_eq, e0, e1, e2, e3, e4]
    · rw [val_main_v19_eq, e0, e1, e2]

/-- The reference terminates with its arguments unchanged; it has no semaphores. -/
theorem ref_frame : Cert.quiescent_DHxRefIdeal (hDHxRefIdeal := Cert.DHxRefIdeal.Gen.facts) :=
  fun m ρ _ => (θ_run _ _ _).mono (fun r h => ⟨fun c => (h c).2.2, sem_eq_zero_of_no_sems rfl r.2⟩)
    (Cert.DHxRefIdeal.Value.run (F := Ideal) m ρ)

theorem ref_frame_pre : Cert.quiescent_DHxRefIdeal_pre_finite_xq (hDHxRefIdeal := Cert.DHxRefIdeal.Gen.facts)
    (hPre_finite_xq := Cert.Pre_finite_xq.Gen.facts) :=
  fun m ρ _ => ref_frame m ρ trivial

end Cert.DHxIdeal.Product

end
-- ==== Proof.DOx.lean ====
/- The product `d_ox`, the gradient of the cross attention's output: the array its blocks make is the reference's. -/
module

public import proofs.«01_k».proof.Proof.Gen.DOxIdeal.Value
public import proofs.«01_k».proof.Proof.Gen.DOxRefIdeal.Run
public import proofs.«01_k».proof.Proof.Gen.DOxRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DOxIdeal.Product

open Cert.DOxIdeal Cert.DOxIdeal.Gen Cert.DOxIdeal.Value
open Cert.DOxRefIdeal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The gradient, over the gradient `D` and the weight `W`. -/
abbrev grad (D : FVec Ideal S4096x1024 .f32) (W : FVec Ideal S512x1024 .f32) : FVec Ideal S4096x512 .bf16 :=
  val_main_v3 (F := Ideal) D W

theorem entry0 : (V m c main_v0 : FVec Ideal S512x1024 .bf16) = (m ((c : Thread nD τ).loc main_arg1) : FVec Ideal S512x1024 .f32) := rfl

theorem point (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad, val_main_v3, val_main_v2]
  blk_point [iblk, V_main_arg0, entry0, idx t]

theorem final : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem equal : Cert.algebraic_DOxIdeal_DOxRefIdeal
    (hDOxIdeal := Cert.DOxIdeal.Gen.facts) (hDOxRefIdeal := Cert.DOxRefIdeal.Gen.facts) := by
  intro m g m' g' _ hagree
  refine ⟨fun c => grad (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ?_) (Cert.DOxRefIdeal.Value.run (F := Ideal) m' g')
    obtain ⟨e0, e1⟩ := hagree c
    refine ⟨(h c).1.trans ?_, (h c).2⟩
    rw [val_main_v3_eq, e0, e1]

/-- The reference terminates with its arguments unchanged; it has no semaphores. -/
theorem ref_frame : Cert.quiescent_DOxRefIdeal (hDOxRefIdeal := Cert.DOxRefIdeal.Gen.facts) :=
  fun m ρ _ => (θ_run _ _ _).mono (fun r h => ⟨fun c => (h c).2, sem_eq_zero_of_no_sems rfl r.2⟩)
    (Cert.DOxRefIdeal.Value.run (F := Ideal) m ρ)

end Cert.DOxIdeal.Product

end
-- ==== Proof.DUkv.lean ====
/- The product `d_ukv`, the gradient of the latent attention's key and value weight: the array its blocks make is the reference's. -/
module

public import proofs.«01_k».proof.Proof.Gen.DUkvIdeal.Value
public import proofs.«01_k».proof.Proof.Gen.DUkvRefIdeal.Run
public import proofs.«01_k».proof.Proof.Gen.DUkvRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DUkvIdeal.Product

open Cert.DUkvIdeal Cert.DUkvIdeal.Gen Cert.DUkvIdeal.Value
open Cert.DUkvRefIdeal.Read

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

/-- The gradient of the weight, over the rows `H` and the gradient `D`. -/
abbrev grad (H : FVec Ideal S4096x128 .f32) (D : FVec Ideal S4096x512 .f32) : FVec Ideal S128x512 .f32 :=
  val_main_v3 (F := Ideal) H D

theorem entry0 : (V m c main_v0 : FVec Ideal S4096x128 .bf16) = (m ((c : Thread nD τ).loc main_arg0) : FVec Ideal S4096x128 .f32) := rfl
theorem entry1 : (V m c main_v1 : FVec Ideal S4096x512 .bf16) = (m ((c : Thread nD τ).loc main_arg1) : FVec Ideal S4096x512 .f32) := rfl

theorem point (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad, val_main_v3, val_main_v2]
  refine Eq.trans ?_ (Finset.sum_congr rfl fun k _ => mul_comm _ _)
  blk_point [iblk, entry0, entry1, idx t]

theorem final : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem equal : Cert.algebraic_DUkvIdeal_DUkvRefIdeal
    (hDUkvIdeal := Cert.DUkvIdeal.Gen.facts) (hDUkvRefIdeal := Cert.DUkvRefIdeal.Gen.facts) := by
  intro m g m' g' _ hagree
  refine ⟨fun c => grad (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ?_) (Cert.DUkvRefIdeal.Value.run (F := Ideal) m' g')
    obtain ⟨e0, e1⟩ := hagree c
    refine ⟨(h c).1.trans ?_, (h c).2⟩
    rw [val_main_v3_eq, e0, e1]

/-- The reference terminates with its arguments unchanged; it has no semaphores. -/
theorem ref_frame : Cert.quiescent_DUkvRefIdeal (hDUkvRefIdeal := Cert.DUkvRefIdeal.Gen.facts) :=
  fun m ρ _ => (θ_run _ _ _).mono (fun r h => ⟨fun c => (h c).2, sem_eq_zero_of_no_sems rfl r.2⟩)
    (Cert.DUkvRefIdeal.Value.run (F := Ideal) m ρ)

end Cert.DUkvIdeal.Product

end
-- ==== Proof.DUp.lean ====
/- The product `d_up`, the gradient of the first and the third up projection's weight: the array its blocks make is the reference's. -/
module

public import proofs.«01_k».proof.Proof.Gen.DUpIdeal.Value
public import proofs.«01_k».proof.Proof.Gen.DUpRefIdeal.Run
public import proofs.«01_k».proof.Proof.Gen.DUpRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DUpIdeal.Product

open Cert.DUpIdeal Cert.DUpIdeal.Gen Cert.DUpIdeal.Value
open Cert.DUpRefIdeal.Read

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

/-- The gradient of the weight, over the rows `H` and the gradient `D`. -/
abbrev grad (H : FVec Ideal S4096x256 .f32) (D : FVec Ideal S4096x1024 .f32) : FVec Ideal S256x1024 .f32 :=
  val_main_v3 (F := Ideal) H D

theorem entry0 : (V m c main_v0 : FVec Ideal S4096x256 .bf16) = (m ((c : Thread nD τ).loc main_arg0) : FVec Ideal S4096x256 .f32) := rfl
theorem entry1 : (V m c main_v1 : FVec Ideal S4096x1024 .bf16) = (m ((c : Thread nD τ).loc main_arg1) : FVec Ideal S4096x1024 .f32) := rfl

theorem point (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad, val_main_v3, val_main_v2]
  refine Eq.trans ?_ (Finset.sum_congr rfl fun k _ => mul_comm _ _)
  blk_point [iblk, entry0, entry1, idx t]

theorem final : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem equal : Cert.algebraic_DUpIdeal_DUpRefIdeal
    (hDUpIdeal := Cert.DUpIdeal.Gen.facts) (hDUpRefIdeal := Cert.DUpRefIdeal.Gen.facts) := by
  intro m g m' g' _ hagree
  refine ⟨fun c => grad (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ?_) (Cert.DUpRefIdeal.Value.run (F := Ideal) m' g')
    obtain ⟨e0, e1⟩ := hagree c
    refine ⟨(h c).1.trans ?_, (h c).2⟩
    rw [val_main_v3_eq, e0, e1]

/-- The reference terminates with its arguments unchanged; it has no semaphores. -/
theorem ref_frame : Cert.quiescent_DUpRefIdeal (hDUpRefIdeal := Cert.DUpRefIdeal.Gen.facts) :=
  fun m ρ _ => (θ_run _ _ _).mono (fun r h => ⟨fun c => (h c).2, sem_eq_zero_of_no_sems rfl r.2⟩)
    (Cert.DUpRefIdeal.Value.run (F := Ideal) m ρ)

end Cert.DUpIdeal.Product

end
-- ==== Proof.DUpGla.lean ====
/- The product `d_up`, the gradient of the second up projection's weight: the array its blocks make is the reference's. -/
module

public import proofs.«01_k».proof.Proof.Gen.DUpGlaIdeal.Value
public import proofs.«01_k».proof.Proof.Gen.DUpGlaRefIdeal.Run
public import proofs.«01_k».proof.Proof.Gen.DUpGlaRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DUpGlaIdeal.Product

open Cert.DUpGlaIdeal Cert.DUpGlaIdeal.Gen Cert.DUpGlaIdeal.Value
open Cert.DUpGlaRefIdeal.Read

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

/-- The gradient of the weight, over the rows `H` and the gradient `D`. -/
abbrev grad (H : FVec Ideal S4096x512 .f32) (D : FVec Ideal S4096x1024 .f32) : FVec Ideal S512x1024 .f32 :=
  val_main_v3 (F := Ideal) H D

theorem entry0 : (V m c main_v0 : FVec Ideal S4096x512 .bf16) = (m ((c : Thread nD τ).loc main_arg0) : FVec Ideal S4096x512 .f32) := rfl
theorem entry1 : (V m c main_v1 : FVec Ideal S4096x1024 .bf16) = (m ((c : Thread nD τ).loc main_arg1) : FVec Ideal S4096x1024 .f32) := rfl

theorem point (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad, val_main_v3, val_main_v2]
  refine Eq.trans ?_ (Finset.sum_congr rfl fun k _ => mul_comm _ _)
  blk_point [iblk, entry0, entry1, idx t]

theorem final : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem equal : Cert.algebraic_DUpGlaIdeal_DUpGlaRefIdeal
    (hDUpGlaIdeal := Cert.DUpGlaIdeal.Gen.facts) (hDUpGlaRefIdeal := Cert.DUpGlaRefIdeal.Gen.facts) := by
  intro m g m' g' _ hagree
  refine ⟨fun c => grad (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ?_) (Cert.DUpGlaRefIdeal.Value.run (F := Ideal) m' g')
    obtain ⟨e0, e1⟩ := hagree c
    refine ⟨(h c).1.trans ?_, (h c).2⟩
    rw [val_main_v3_eq, e0, e1]

/-- The reference terminates with its arguments unchanged; it has no semaphores. -/
theorem ref_frame : Cert.quiescent_DUpGlaRefIdeal (hDUpGlaRefIdeal := Cert.DUpGlaRefIdeal.Gen.facts) :=
  fun m ρ _ => (θ_run _ _ _).mono (fun r h => ⟨fun c => (h c).2, sem_eq_zero_of_no_sems rfl r.2⟩)
    (Cert.DUpGlaRefIdeal.Value.run (F := Ideal) m ρ)

end Cert.DUpGlaIdeal.Product

end
-- ==== Proof.DUq.lean ====
/- The product `d_uq`, the gradient of the latent attention's query weight: the array its blocks make is the reference's. -/
module

public import proofs.«01_k».proof.Proof.Gen.DUqIdeal.Value
public import proofs.«01_k».proof.Proof.Gen.DUqRefIdeal.Run
public import proofs.«01_k».proof.Proof.Gen.DUqRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DUqIdeal.Product

open Cert.DUqIdeal Cert.DUqIdeal.Gen Cert.DUqIdeal.Value
open Cert.DUqRefIdeal.Read

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

/-- The gradient of the weight, over the rows `H` and the gradient `D`. -/
abbrev grad (H : FVec Ideal S4096x256 .f32) (D : FVec Ideal S4096x512 .f32) : FVec Ideal S256x512 .f32 :=
  val_main_v3 (F := Ideal) H D

theorem entry0 : (V m c main_v0 : FVec Ideal S4096x256 .bf16) = (m ((c : Thread nD τ).loc main_arg0) : FVec Ideal S4096x256 .f32) := rfl
theorem entry1 : (V m c main_v1 : FVec Ideal S4096x512 .bf16) = (m ((c : Thread nD τ).loc main_arg1) : FVec Ideal S4096x512 .f32) := rfl

theorem point (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad, val_main_v3, val_main_v2]
  refine Eq.trans ?_ (Finset.sum_congr rfl fun k _ => mul_comm _ _)
  blk_point [iblk, entry0, entry1, idx t]

theorem final : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem equal : Cert.algebraic_DUqIdeal_DUqRefIdeal
    (hDUqIdeal := Cert.DUqIdeal.Gen.facts) (hDUqRefIdeal := Cert.DUqRefIdeal.Gen.facts) := by
  intro m g m' g' _ hagree
  refine ⟨fun c => grad (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ?_) (Cert.DUqRefIdeal.Value.run (F := Ideal) m' g')
    obtain ⟨e0, e1⟩ := hagree c
    refine ⟨(h c).1.trans ?_, (h c).2⟩
    rw [val_main_v3_eq, e0, e1]

/-- The reference terminates with its arguments unchanged; it has no semaphores. -/
theorem ref_frame : Cert.quiescent_DUqRefIdeal (hDUqRefIdeal := Cert.DUqRefIdeal.Gen.facts) :=
  fun m ρ _ => (θ_run _ _ _).mono (fun r h => ⟨fun c => (h c).2, sem_eq_zero_of_no_sems rfl r.2⟩)
    (Cert.DUqRefIdeal.Value.run (F := Ideal) m ρ)

end Cert.DUqIdeal.Product

end
-- ==== Proof.DXo.lean ====
/- The product `d_xo`, the gradient of the cross attention's output weight: the array its blocks make is the reference's. -/
module

public import proofs.«01_k».proof.Proof.Gen.DXoIdeal.Value
public import proofs.«01_k».proof.Proof.Gen.DXoRefIdeal.Run
public import proofs.«01_k».proof.Proof.Gen.DXoRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DXoIdeal.Product

open Cert.DXoIdeal Cert.DXoIdeal.Gen Cert.DXoIdeal.Value
open Cert.DXoRefIdeal.Read

variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val] :=
  (by decide +kernel : ∀ t : Fin grid0.N, _)

/-- The gradient of the weight, over the rows `H` and the gradient `D`. -/
abbrev grad (H : FVec Ideal S4096x512 .f32) (D : FVec Ideal S4096x1024 .f32) : FVec Ideal S512x1024 .f32 :=
  val_main_v3 (F := Ideal) H D

theorem entry0 : (V m c main_v0 : FVec Ideal S4096x512 .bf16) = (m ((c : Thread nD τ).loc main_arg0) : FVec Ideal S4096x512 .f32) := rfl

theorem point (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad, val_main_v3, val_main_v2]
  refine Eq.trans ?_ (Finset.sum_congr rfl fun k _ => mul_comm _ _)
  blk_point [iblk, entry0, V_main_arg1, idx t]

theorem final : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem equal : Cert.algebraic_DXoIdeal_DXoRefIdeal
    (hDXoIdeal := Cert.DXoIdeal.Gen.facts) (hDXoRefIdeal := Cert.DXoRefIdeal.Gen.facts) := by
  intro m g m' g' _ hagree
  refine ⟨fun c => grad (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ?_) (Cert.DXoRefIdeal.Value.run (F := Ideal) m' g')
    obtain ⟨e0, e1⟩ := hagree c
    refine ⟨(h c).1.trans ?_, (h c).2⟩
    rw [val_main_v3_eq, e0, e1]

/-- The reference terminates with its arguments unchanged; it has no semaphores. -/
theorem ref_frame : Cert.quiescent_DXoRefIdeal (hDXoRefIdeal := Cert.DXoRefIdeal.Gen.facts) :=
  fun m ρ _ => (θ_run _ _ _).mono (fun r h => ⟨fun c => (h c).2, sem_eq_zero_of_no_sems rfl r.2⟩)
    (Cert.DXoRefIdeal.Value.run (F := Ideal) m ρ)

end Cert.DXoIdeal.Product

end
-- ==== Proof.DXq.lean ====
/- The product `d_xq`, the gradient of the cross attention's query weight: the array its blocks make is the reference's. -/
module

public import proofs.«01_k».proof.Proof.Gen.DXqIdeal.Value
public import proofs.«01_k».proof.Proof.Gen.DXqRefIdeal.Run
public import proofs.«01_k».proof.Proof.Gen.DXqRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DXqIdeal.Product

open Cert.DXqIdeal Cert.DXqIdeal.Gen Cert.DXqIdeal.Value
open Cert.DXqRefIdeal.Read

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

/-- The gradient of the weight, over the rows `H` and the gradient `D`. -/
abbrev grad (H : FVec Ideal S4096x1024 .f32) (D : FVec Ideal S4096x512 .f32) : FVec Ideal S1024x512 .f32 :=
  val_main_v3 (F := Ideal) H D

theorem entry0 : (V m c main_v0 : FVec Ideal S4096x1024 .bf16) = (m ((c : Thread nD τ).loc main_arg0) : FVec Ideal S4096x1024 .f32) := rfl
theorem entry1 : (V m c main_v1 : FVec Ideal S4096x512 .bf16) = (m ((c : Thread nD τ).loc main_arg1) : FVec Ideal S4096x512 .f32) := rfl

theorem point (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad, val_main_v3, val_main_v2]
  refine Eq.trans ?_ (Finset.sum_congr rfl fun k _ => mul_comm _ _)
  blk_point [iblk, entry0, entry1, idx t]

theorem final : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem equal : Cert.algebraic_DXqIdeal_DXqRefIdeal
    (hDXqIdeal := Cert.DXqIdeal.Gen.facts) (hDXqRefIdeal := Cert.DXqRefIdeal.Gen.facts) := by
  intro m g m' g' _ hagree
  refine ⟨fun c => grad (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ?_) (Cert.DXqRefIdeal.Value.run (F := Ideal) m' g')
    obtain ⟨e0, e1⟩ := hagree c
    refine ⟨(h c).1.trans ?_, (h c).2⟩
    rw [val_main_v3_eq, e0, e1]

/-- The reference terminates with its arguments unchanged; it has no semaphores. -/
theorem ref_frame : Cert.quiescent_DXqRefIdeal (hDXqRefIdeal := Cert.DXqRefIdeal.Gen.facts) :=
  fun m ρ _ => (θ_run _ _ _).mono (fun r h => ⟨fun c => (h c).2, sem_eq_zero_of_no_sems rfl r.2⟩)
    (Cert.DXqRefIdeal.Value.run (F := Ideal) m ρ)

end Cert.DXqIdeal.Product

end
-- ==== Proof.UpMerge.lean ====
/- The call `up_merge`, the branches' up projections under their gates: the array its blocks make is the reference's. -/
module

public import proofs.«01_k».proof.Proof.Gen.UpMergeIdeal.Value
public import proofs.«01_k».proof.Proof.Gen.UpMergeRefIdeal.Run
public import proofs.«01_k».proof.Proof.Gen.UpMergeRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.UpMergeIdeal.Product

open Cert.UpMergeIdeal Cert.UpMergeIdeal.Gen Cert.UpMergeIdeal.Value
open Cert.UpMergeRefIdeal.Read

variable (m : (ℓ : Loc nD τ sig) → Buf (Elt Ideal) ℓ) (c : Dev nD)

/-- The merged branches. -/
abbrev merged (X1 : FVec Ideal S4096x256 .f32) (X2 : FVec Ideal S4096x512 .f32) (X3 : FVec Ideal S4096x256 .f32)
    (W1 : FVec Ideal S256x1024 .f32) (W2 : FVec Ideal S512x1024 .f32) (W3 : FVec Ideal S256x1024 .f32)
    (Z : FVec Ideal S4096x3072 .f32) (B : FVec Ideal S1x3072 .f32) : FVec Ideal S4096x1024 .bf16 :=
  val_main_v23 (F := Ideal) X1 X2 X3 W1 W2 W3 Z B

/-- A gate. -/
abbrev gate (z b : EReal) : EReal := Ideal.div 1 (1 + Ideal.exp (-(z + b)))

theorem merged_at (X1 : FVec Ideal S4096x256 .f32) (X2 : FVec Ideal S4096x512 .f32) (X3 : FVec Ideal S4096x256 .f32)
    (W1 : FVec Ideal S256x1024 .f32) (W2 : FVec Ideal S512x1024 .f32) (W3 : FVec Ideal S256x1024 .f32)
    (Z : FVec Ideal S4096x3072 .f32) (B : FVec Ideal S1x3072 .f32) (r : Fin 4096) (j : Fin 1024) :
    merged X1 X2 X3 W1 W2 W3 Z B (ix2 r j)
      = gate (Z (ix2 r ⟨j.val, by omega⟩)) (B (ix2 0 ⟨j.val, by omega⟩)) * (∑ k, X1 (ix2 r k) * W1 (ix2 k j))
        + gate (Z (ix2 r ⟨1024 + j.val, by omega⟩)) (B (ix2 0 ⟨1024 + j.val, by omega⟩)) * (∑ k, X2 (ix2 r k) * W2 (ix2 k j))
        + gate (Z (ix2 r ⟨2048 + j.val, by omega⟩)) (B (ix2 0 ⟨2048 + j.val, by omega⟩)) * (∑ k, X3 (ix2 r k) * W3 (ix2 k j)) := by
  pointwise [merged, val_main_v0, val_main_v1, val_main_v2, val_main_v3, val_main_v4, val_main_v5, val_main_v6, val_main_v7, val_main_v8,
    val_main_v9, val_main_v10, val_main_v11, val_main_v12, val_main_v13, val_main_v14, val_main_v15, val_main_v16, val_main_v17,
    val_main_v18, val_main_v19, val_main_v20, val_main_v21, val_main_v22, val_main_v23, val_main_cst, val_main_cst_0]

theorem pay_at (x1 : Vec Ideal S1024x256 .bf16) (x2 : Vec Ideal S1024x512 .bf16) (x3 : Vec Ideal S1024x256 .bf16)
    (w1 : Vec Ideal S256x512 .bf16) (w2 : Vec Ideal S512x512 .bf16) (w3 : Vec Ideal S256x512 .bf16)
    (z1 z2 z3 : Vec Ideal S1024x512 .f32) (b1 b2 b3 : Vec Ideal S1x512 .f32) (r : Fin 1024) (j : Fin 512) :
    k0_pay1 (k0_pay2 z1 b1 x1 w1) (k0_pay3 z2 b2 x2 w2) z3 b3 x3 w3 (ix2 r j)
      = gate (z1 (ix2 r j)) (b1 (ix2 0 j)) * (∑ k, x1 (ix2 r k) * w1 (ix2 k j))
        + gate (z2 (ix2 r j)) (b2 (ix2 0 j)) * (∑ k, x2 (ix2 r k) * w2 (ix2 k j))
        + gate (z3 (ix2 r j)) (b3 (ix2 0 j)) * (∑ k, x3 (ix2 r k) * w3 (ix2 k j)) := by
  pointwise [k0_pay1, k0_pay2, k0_pay3]
  simp only [zero_sub]

theorem pay_of (x1 : Vec Ideal S1024x256 .bf16) (x2 : Vec Ideal S1024x512 .bf16) (x3 : Vec Ideal S1024x256 .bf16)
    (w1 : Vec Ideal S256x512 .bf16) (w2 : Vec Ideal S512x512 .bf16) (w3 : Vec Ideal S256x512 .bf16)
    (z1 z2 z3 : Vec Ideal S1024x512 .f32) (b1 b2 b3 : Vec Ideal S1x512 .f32)
    (X1 : FVec Ideal S4096x256 .f32) (X2 : FVec Ideal S4096x512 .f32) (X3 : FVec Ideal S4096x256 .f32)
    (W1 : FVec Ideal S256x1024 .f32) (W2 : FVec Ideal S512x1024 .f32) (W3 : FVec Ideal S256x1024 .f32)
    (Z : FVec Ideal S4096x3072 .f32) (B : FVec Ideal S1x3072 .f32) (r : Fin 1024) (j : Fin 512) (R : Fin 4096) (J : Fin 1024)
    (h1 : ∀ k, x1 (ix2 r k) = X1 (ix2 R k)) (h2 : ∀ k, x2 (ix2 r k) = X2 (ix2 R k)) (h3 : ∀ k, x3 (ix2 r k) = X3 (ix2 R k))
    (v1 : ∀ k, w1 (ix2 k j) = W1 (ix2 k J)) (v2 : ∀ k, w2 (ix2 k j) = W2 (ix2 k J)) (v3 : ∀ k, w3 (ix2 k j) = W3 (ix2 k J))
    (e1 : z1 (ix2 r j) = Z (ix2 R ⟨J.val, by omega⟩)) (e2 : z2 (ix2 r j) = Z (ix2 R ⟨1024 + J.val, by omega⟩))
    (e3 : z3 (ix2 r j) = Z (ix2 R ⟨2048 + J.val, by omega⟩))
    (c1 : b1 (ix2 0 j) = B (ix2 0 ⟨J.val, by omega⟩)) (c2 : b2 (ix2 0 j) = B (ix2 0 ⟨1024 + J.val, by omega⟩))
    (c3 : b3 (ix2 0 j) = B (ix2 0 ⟨2048 + J.val, by omega⟩)) :
    k0_pay1 (k0_pay2 z1 b1 x1 w1) (k0_pay3 z2 b2 x2 w2) z3 b3 x3 w3 (ix2 r j) = merged X1 X2 X3 W1 W2 W3 Z B (ix2 R J) := by
  rw [pay_at, merged_at, e1, e2, e3, c1, c2, c3]
  simp only [h1, h2, h3, v1, v2, v3]

theorem idx : ∀ t : Fin cfg0.N, win0_0.index t = ![t.val / 2, 0] ∧ win0_1.index t = ![t.val / 2, 0] ∧ win0_2.index t = ![t.val / 2, 0]
    ∧ win0_3.index t = ![0, t.val % 2] ∧ win0_4.index t = ![0, t.val % 2] ∧ win0_5.index t = ![0, t.val % 2]
    ∧ win0_6.index t = ![t.val / 2, t.val % 2] ∧ win0_7.index t = ![t.val / 2, 2 + t.val % 2] ∧ win0_8.index t = ![t.val / 2, 4 + t.val % 2]
    ∧ win0_9.index t = ![0, t.val % 2] ∧ win0_10.index t = ![0, 2 + t.val % 2] ∧ win0_11.index t = ![0, 4 + t.val % 2]
    ∧ win0_12.index t = ![t.val / 2, t.val % 2] :=
  (by decide +kernel : ∀ t : Fin grid0.N, _)

theorem entry0 : (V m c main_v0 : FVec Ideal S4096x256 .bf16) = (m ((c : Thread nD τ).loc main_arg0) : FVec Ideal S4096x256 .f32) := rfl
theorem entry1 : (V m c main_v1 : FVec Ideal S4096x512 .bf16) = (m ((c : Thread nD τ).loc main_arg1) : FVec Ideal S4096x512 .f32) := rfl
theorem entry2 : (V m c main_v2 : FVec Ideal S4096x256 .bf16) = (m ((c : Thread nD τ).loc main_arg2) : FVec Ideal S4096x256 .f32) := rfl
theorem entry3 : (V m c main_v3 : FVec Ideal S256x1024 .bf16) = (m ((c : Thread nD τ).loc main_arg3) : FVec Ideal S256x1024 .f32) := rfl
theorem entry4 : (V m c main_v4 : FVec Ideal S512x1024 .bf16) = (m ((c : Thread nD τ).loc main_arg4) : FVec Ideal S512x1024 .f32) := rfl
theorem entry5 : (V m c main_v5 : FVec Ideal S256x1024 .bf16) = (m ((c : Thread nD τ).loc main_arg5) : FVec Ideal S256x1024 .f32) := rfl

section
variable (t : Fin cfg0.N)

theorem N8 : t.val < 8 := lt_of_lt_of_eq t.isLt N_0

/-- Row `r` of point `t`'s block. -/
abbrev row (r : Fin 1024) : Fin 4096 := ⟨t.val / 2 * 1024 + r.val, by have := N8 t; omega⟩
/-- Column `j` of point `t`'s block. -/
abbrev col (j : Fin 512) : Fin 1024 := ⟨t.val % 2 * 512 + j.val, by omega⟩

theorem b0 (r : Fin 1024) (k : Fin 256) :
    (iblk m c 0 t : FVec Ideal S1024x256 .bf16) (ix2 r k) = (m ((c : Thread nD τ).loc main_arg0) : FVec Ideal S4096x256 .f32) (ix2 (row t r) k) := by
  blk_ext [iblk, entry0, idx t]
theorem b1 (r : Fin 1024) (k : Fin 512) :
    (iblk m c 1 t : FVec Ideal S1024x512 .bf16) (ix2 r k) = (m ((c : Thread nD τ).loc main_arg1) : FVec Ideal S4096x512 .f32) (ix2 (row t r) k) := by
  blk_ext [iblk, entry1, idx t]
theorem b2 (r : Fin 1024) (k : Fin 256) :
    (iblk m c 2 t : FVec Ideal S1024x256 .bf16) (ix2 r k) = (m ((c : Thread nD τ).loc main_arg2) : FVec Ideal S4096x256 .f32) (ix2 (row t r) k) := by
  blk_ext [iblk, entry2, idx t]
theorem b3 (k : Fin 256) (j : Fin 512) :
    (iblk m c 3 t : FVec Ideal S256x512 .bf16) (ix2 k j) = (m ((c : Thread nD τ).loc main_arg3) : FVec Ideal S256x1024 .f32) (ix2 k (col t j)) := by
  blk_ext [iblk, entry3, idx t]
theorem b4 (k : Fin 512) (j : Fin 512) :
    (iblk m c 4 t : FVec Ideal S512x512 .bf16) (ix2 k j) = (m ((c : Thread nD τ).loc main_arg4) : FVec Ideal S512x1024 .f32) (ix2 k (col t j)) := by
  blk_ext [iblk, entry4, idx t]
theorem b5 (k : Fin 256) (j : Fin 512) :
    (iblk m c 5 t : FVec Ideal S256x512 .bf16) (ix2 k j) = (m ((c : Thread nD τ).loc main_arg5) : FVec Ideal S256x1024 .f32) (ix2 k (col t j)) := by
  blk_ext [iblk, entry5, idx t]
theorem b6 (r : Fin 1024) (j : Fin 512) : (iblk m c 6 t : FVec Ideal S1024x512 .f32) (ix2 r j)
    = (m ((c : Thread nD τ).loc main_arg6) : FVec Ideal S4096x3072 .f32) (ix2 (row t r) ⟨(col t j).val, by omega⟩) := by
  blk_ext [iblk, V_main_arg6, idx t]
theorem b7 (r : Fin 1024) (j : Fin 512) : (iblk m c 7 t : FVec Ideal S1024x512 .f32) (ix2 r j)
    = (m ((c : Thread nD τ).loc main_arg6) : FVec Ideal S4096x3072 .f32) (ix2 (row t r) ⟨1024 + (col t j).val, by omega⟩) := by
  blk_ext [iblk, V_main_arg6, idx t]
theorem b8 (r : Fin 1024) (j : Fin 512) : (iblk m c 8 t : FVec Ideal S1024x512 .f32) (ix2 r j)
    = (m ((c : Thread nD τ).loc main_arg6) : FVec Ideal S4096x3072 .f32) (ix2 (row t r) ⟨2048 + (col t j).val, by omega⟩) := by
  blk_ext [iblk, V_main_arg6, idx t]
theorem b9 (j : Fin 512) : (iblk m c 9 t : FVec Ideal S1x512 .f32) (ix2 0 j)
    = (m ((c : Thread nD τ).loc main_arg7) : FVec Ideal S1x3072 .f32) (ix2 0 ⟨(col t j).val, by omega⟩) := by
  blk_ext [iblk, V_main_arg7, idx t]
theorem b10 (j : Fin 512) : (iblk m c 10 t : FVec Ideal S1x512 .f32) (ix2 0 j)
    = (m ((c : Thread nD τ).loc main_arg7) : FVec Ideal S1x3072 .f32) (ix2 0 ⟨1024 + (col t j).val, by omega⟩) := by
  blk_ext [iblk, V_main_arg7, idx t]
theorem b11 (j : Fin 512) : (iblk m c 11 t : FVec Ideal S1x512 .f32) (ix2 0 j)
    = (m ((c : Thread nD τ).loc main_arg7) : FVec Ideal S1x3072 .f32) (ix2 0 ⟨2048 + (col t j).val, by omega⟩) := by
  blk_ext [iblk, V_main_arg7, idx t]
theorem place (r : Fin 1024) (j : Fin 512) : ((cfg0.win 12).blk t).view.emb (ix2 r j) = (ix2 (row t r) (col t j) : S4096x1024.Idx) := by
  blk_ext [idx t]
end

theorem final : (dats m 0 c).arrAt 12 cfg0.N
    = merged (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 12 _ (by decide +kernel) fun t _ y => ?_
  blk_simp
  rw [after0_12]; frame_out
  obtain ⟨r, j, rfl⟩ : ∃ (r : Fin 1024) (j : Fin 512), y = ix2 r j := ⟨_, _, eq_ix2 y⟩
  rw [place]
  exact pay_of _ _ _ _ _ _ _ _ _ _ _ _ _ _ _ _ _ _ _ _ r j _ _ (b0 m c t r) (b1 m c t r) (b2 m c t r)
    (fun k => b3 m c t k j) (fun k => b4 m c t k j) (fun k => b5 m c t k j) (b6 m c t r j) (b7 m c t r j) (b8 m c t r j)
    (b9 m c t j) (b10 m c t j) (b11 m c t j)

theorem equal : Cert.algebraic_UpMergeIdeal_UpMergeRefIdeal
    (hUpMergeIdeal := Cert.UpMergeIdeal.Gen.facts) (hUpMergeRefIdeal := Cert.UpMergeRefIdeal.Gen.facts) := by
  intro m g m' g' _ hagree
  refine ⟨fun c => merged (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)), ?_, ?_⟩
  · exact (θ_run _ _ _).mono (fun r h c => ⟨(h c).1.trans (final m c), (h c).2⟩) (run_blocks m g)
  · refine (θ_run _ _ _).mono (fun r h c => ?_) (Cert.UpMergeRefIdeal.Value.run (F := Ideal) m' g')
    obtain ⟨e0, e1, e2, e3, e4, e5, e6, e7⟩ := hagree c
    refine ⟨(h c).1.trans ?_, (h c).2⟩
    rw [val_main_v23_eq, e0, e1, e2, e3, e4, e5, e6, e7]

/-- The reference terminates with its arguments unchanged; it has no semaphores. -/
theorem ref_frame : Cert.quiescent_UpMergeRefIdeal (hUpMergeRefIdeal := Cert.UpMergeRefIdeal.Gen.facts) :=
  fun m ρ _ => (θ_run _ _ _).mono (fun r h => ⟨fun c => (h c).2, sem_eq_zero_of_no_sems rfl r.2⟩)
    (Cert.UpMergeRefIdeal.Value.run (F := Ideal) m ρ)

end Cert.UpMergeIdeal.Product

end
-- ==== Proof.Xo.lean ====
/- The product `xo`, the cross attention's output projection with the residual: the array its blocks make is the reference's. -/
module

public import proofs.«01_k».proof.Proof.Gen.XoIdeal.Value
public import proofs.«01_k».proof.Proof.Gen.XoRefIdeal.Run
public import proofs.«01_k».proof.Proof.Gen.XoRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.XoIdeal.Product

open Cert.XoIdeal Cert.XoIdeal.Gen Cert.XoIdeal.Value
open Cert.XoRefIdeal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The product of the rows `H` and the weight `W`, added to the residual `X`. -/
abbrev layer (H : FVec Ideal S4096x512 .f32) (W : FVec Ideal S512x1024 .f32) (X : FVec Ideal S4096x1024 .f32) : FVec Ideal S4096x1024 .f32 :=
  val_main_v1 (F := Ideal) H W X

theorem entry0 : (V m c main_v0 : FVec Ideal S4096x512 .bf16) = (m ((c : Thread nD τ).loc main_arg0) : FVec Ideal S4096x512 .f32) := rfl
theorem entry1 : (V m c main_v1 : FVec Ideal S512x1024 .bf16) = (m ((c : Thread nD τ).loc main_arg1) : FVec Ideal S512x1024 .f32) := rfl

theorem point (t : Fin cfg0.N) (y) :
    k0_pay1 (iblk m c 0 t) (iblk m c 1 t) (iblk m c 2 t) y
      = layer (m ((c : Thread nD τ).loc main_arg0)) (m ((c : Thread nD τ).loc main_arg1)) (m ((c : Thread nD τ).loc main_arg2)) (((cfg0.win 3).blk t).view.emb y) := by
  pointwise [k0_pay1, layer, val_main_v1, val_main_v0]
  blk_point [iblk, entry0, entry1, V_main_arg2, idx t]

theorem final : (dats m 0 c).arrAt 3 cfg0.N
    = layer (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

theorem equal : Cert.algebraic_XoIdeal_XoRefIdeal
    (hXoIdeal := Cert.XoIdeal.Gen.facts) (hXoRefIdeal := Cert.XoRefIdeal.Gen.facts) := by
  intro m g m' g' _ hagree
  refine ⟨fun c => layer (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (run_blocks m g)
  · refine (θ_run _ _ _).mono (fun r h c => ?_) (Cert.XoRefIdeal.Value.run (F := Ideal) m' g')
    obtain ⟨e0, e1, e2⟩ := hagree c
    refine ⟨(h c).1.trans ?_, (h c).2⟩
    rw [val_main_v1_eq, e0, e1, e2]

/-- The reference terminates with its arguments unchanged; it has no semaphores. -/
theorem ref_frame : Cert.quiescent_XoRefIdeal (hXoRefIdeal := Cert.XoRefIdeal.Gen.facts) :=
  fun m ρ _ => (θ_run _ _ _).mono (fun r h => ⟨fun c => (h c).2, sem_eq_zero_of_no_sems rfl r.2⟩)
    (Cert.XoRefIdeal.Value.run (F := Ideal) m ρ)

end Cert.XoIdeal.Product

end
-- ==== Proof.Normed.lean ====
/- One row under the root-mean-square norm with its gain, as both programs write it. -/
module

public import proofs.«01_k».proof.Proof.NormGrad

@[expose] public section

noncomputable section

open Idealize.ShloMosaic

namespace Cert.Normed

open Cert.NormGrad

/-- Entry `k` of the row `x` over the root of its mean square, times the gain; `l` is the row's length. -/
abbrev nrm {n : ℕ} (l : EReal) (x g : Fin n → EReal) (k : Fin n) : EReal :=
  x k * Ideal.rsqrt (Ideal.div (∑ i, x i * x i) l + eps) * g k

end Cert.Normed

end
-- ==== Proof.InA.lean ====
/- The product `in_a`, the first part of the mixer's input projection, with the norm before it: both results are the reference's. -/
module

public import proofs.«01_k».proof.Proof.Gen.InAIdeal.Value
public import proofs.«01_k».proof.Proof.Gen.InARefIdeal.Run
public import proofs.«01_k».proof.Proof.Gen.InARefIdeal.Read
public import proofs.«01_k».proof.Defs
public import proofs.«01_k».proof.Proof.Normed
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.InAIdeal.Product

open Cert.InAIdeal Cert.InAIdeal.Gen Cert.InAIdeal.Value
open Cert.InARefIdeal.Read Cert.Normed

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem entry1 : (V m c main_v0 : FVec Ideal S1024x768 .bf16) = (m ((c : Thread nD τ).loc main_arg2) : FVec Ideal S1024x768 .f32) := rfl

/-- The normed rows. -/
abbrev rows (X : FVec Ideal S4096x1024 .f32) (G : FVec Ideal S1x1024 .f32) : FVec Ideal S4096x1024 .bf16 := val_main_v14 (F := Ideal) X G
/-- Their product with the weight. -/
abbrev layer (X : FVec Ideal S4096x1024 .f32) (G : FVec Ideal S1x1024 .f32) (W : FVec Ideal S1024x768 .f32) : FVec Ideal S4096x768 .bf16 := val_main_v13 (F := Ideal) X G W

theorem norm_at (x : Vec Ideal S1024x1024 .f32) (g : Vec Ideal S1x1024 .f32) (r : Fin 1024) (k : Fin 1024) :
    k0_pay3 x g (ix2 r k) = nrm (Ideal.ofBits .f32 0x44800000#32) (fun k => x (ix2 r k)) (fun k => g (ix2 0 k)) k := by
  pointwise [k0_pay3, k0_pay1]

theorem pay_at (x : Vec Ideal S1024x1024 .f32) (g : Vec Ideal S1x1024 .f32) (w : Vec Ideal S1024x768 .bf16) (r : Fin 1024) (j : Fin 768) :
    k0_pay4 (k0_pay2 x g) w (ix2 r j) = (∑ k, nrm (Ideal.ofBits .f32 0x44800000#32) (fun k => x (ix2 r k)) (fun k => g (ix2 0 k)) k * w (ix2 k j)) := by
  pointwise [k0_pay4, k0_pay2, k0_pay1]

theorem rows_at (X : FVec Ideal S4096x1024 .f32) (G : FVec Ideal S1x1024 .f32) (r : Fin 4096) (k : Fin 1024) :
    rows X G (ix2 r k) = nrm (Ideal.ofBits .f32 0x44800000#32) (fun k => X (ix2 r k)) (fun k => G (ix2 0 k)) k := by
  pointwise [rows, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14]

theorem layer_at (X : FVec Ideal S4096x1024 .f32) (G : FVec Ideal S1x1024 .f32) (W : FVec Ideal S1024x768 .f32) (r : Fin 4096) (j : Fin 768) :
    layer X G W (ix2 r j) = (∑ k, nrm (Ideal.ofBits .f32 0x44800000#32) (fun k => X (ix2 r k)) (fun k => G (ix2 0 k)) k * W (ix2 k j)) := by
  pointwise [layer, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14]

section
variable (t : Fin cfg0.N)

theorem bound : t.val < 4 := lt_of_lt_of_eq t.isLt N_0

/-- Row `r` of point `t`'s block. -/
abbrev row' (r : Fin 1024) : Fin 4096 := ⟨t.val * 1024 + r.val, by have := bound t; omega⟩

theorem b0 (r : Fin 1024) (k : Fin 1024) :
    (iblk m c 0 t : FVec Ideal S1024x1024 .f32) (ix2 r k) = (m ((c : Thread nD τ).loc main_arg0) : FVec Ideal S4096x1024 .f32) (ix2 (row' t r) k) := by
  blk_ext [iblk, V_main_arg0, idx t]
theorem b1 (k : Fin 1024) (j : Fin 768) :
    (iblk m c 1 t : FVec Ideal S1024x768 .bf16) (ix2 k j) = (m ((c : Thread nD τ).loc main_arg2) : FVec Ideal S1024x768 .f32) (ix2 k j) := by
  blk_ext [iblk, entry1, idx t]
theorem b2 (k : Fin 1024) :
    (iblk m c 2 t : FVec Ideal S1x1024 .f32) (ix2 0 k) = (m ((c : Thread nD τ).loc main_arg1) : FVec Ideal S1x1024 .f32) (ix2 0 k) := by
  blk_ext [iblk, V_main_arg1, idx t]

theorem place3 (r : Fin 1024) (j : Fin 768) : ((cfg0.win 3).blk t).view.emb (ix2 r j) = ix2 (row' t r) j := by
  blk_ext [idx t]
theorem place4 (r : Fin 1024) (k : Fin 1024) : ((cfg0.win 4).blk t).view.emb (ix2 r k) = ix2 (row' t r) k := by
  blk_ext [idx t]

theorem point3 (r : Fin 1024) (j : Fin 768) : k0_pay4 (k0_pay2 (iblk m c 0 t) (iblk m c 2 t)) (iblk m c 1 t) (ix2 r j)
    = layer (m ((c : Thread nD τ).loc main_arg0)) (m ((c : Thread nD τ).loc main_arg1)) (m ((c : Thread nD τ).loc main_arg2)) (ix2 (row' t r) j) := by
  rw [pay_at, layer_at]
  simp only [b0, b1, b2]
theorem point4 (r : Fin 1024) (k : Fin 1024) : k0_pay3 (iblk m c 0 t) (iblk m c 2 t) (ix2 r k)
    = rows (m ((c : Thread nD τ).loc main_arg0)) (m ((c : Thread nD τ).loc main_arg1)) (ix2 (row' t r) k) := by
  rw [norm_at, rows_at]
  simp only [b0, b2]
end

theorem final3 : (dats m 0 c).arrAt 3 cfg0.N
    = layer (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, j, rfl⟩ : ∃ r j, y = ix2 r j := ⟨_, _, eq_ix2 y⟩
  rw [place3]
  blk_simp
  rw [after0_3]; unfold outsAt0; dsimp only; frame_out
  exact point3 m c t r j

theorem final4 : (dats m 0 c).arrAt 4 cfg0.N
    = rows (m ((c : Thread nD τ).loc main_arg0)) (m ((c : Thread nD τ).loc main_arg1)) := by
  refine (dats m 0 c).arrAt_eq_of_covers 4 _ (by decide +kernel) fun t _ y => ?_
  obtain ⟨r, k, rfl⟩ : ∃ r k, y = ix2 r k := ⟨_, _, eq_ix2 y⟩
  rw [place4]
  blk_simp
  rw [after0_4]; unfold outsAt0; dsimp only; frame_out
  exact point4 m c t r k

theorem equal : Cert.algebraic_InAIdeal_InARefIdeal
    (hInAIdeal := Cert.InAIdeal.Gen.facts) (hInARefIdeal := Cert.InARefIdeal.Gen.facts) := by
  intro m g m' g' _ hagree
  refine ⟨fun c => layer (m ((c : Thread nD τ).loc main_arg0)) (m ((c : Thread nD τ).loc main_arg1)) (m ((c : Thread nD τ).loc main_arg2)),
    fun c => rows (m ((c : Thread nD τ).loc main_arg0)) (m ((c : Thread nD τ).loc main_arg1)), ?_, ?_⟩
  · exact (θ_run _ _ _).mono (fun r h c => ⟨(h c).1.trans (final3 m c), (h c).2.1.trans (final4 m c), (h c).2.2⟩) (run_blocks m g)
  · refine (θ_run _ _ _).mono (fun r h c => ?_) (Cert.InARefIdeal.Value.run (F := Ideal) m' g')
    obtain ⟨e0, e1, e2⟩ := hagree c
    refine ⟨(h c).1.trans ?_, (h c).2.1.trans ?_, (h c).2.2⟩
    · rw [val_main_v13_eq, e0, e1, e2]
    · rw [val_main_v14_eq, e0, e1]

/-- The reference terminates with its arguments unchanged; it has no semaphores. -/
theorem ref_frame : Cert.quiescent_InARefIdeal (hInARefIdeal := Cert.InARefIdeal.Gen.facts) :=
  fun m ρ _ => (θ_run _ _ _).mono (fun r h => ⟨fun c => (h c).2.2, sem_eq_zero_of_no_sems rfl r.2⟩)
    (Cert.InARefIdeal.Value.run (F := Ideal) m ρ)

end Cert.InAIdeal.Product

end
-- ==== Proof.MlaUkv.lean ====
/- The product `mla_ukv`, the latent attention's keys and values out of the compressed rows, with the norm before it: both results are the reference's. -/
module

public import proofs.«01_k».proof.Proof.Gen.MlaUkvIdeal.Value
public import proofs.«01_k».proof.Proof.Gen.MlaUkvRefIdeal.Run
public import proofs.«01_k».proof.Proof.Gen.MlaUkvRefIdeal.Read
public import proofs.«01_k».proof.Defs
public import proofs.«01_k».proof.Proof.Normed
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.MlaUkvIdeal.Product

open Cert.MlaUkvIdeal Cert.MlaUkvIdeal.Gen Cert.MlaUkvIdeal.Value
open Cert.MlaUkvRefIdeal.Read Cert.Normed

variable (m : (ℓ : Loc nD τ sig) → Buf (Elt Ideal) ℓ) (c : Dev nD)

theorem idx : ∀ t : Fin cfg0.N, win0_0.index t = ![t.val, 18] ∧ win0_1.index t = ![0, 0] ∧ win0_2.index t = ![0, 0]
    ∧ win0_3.index t = ![t.val, 0] ∧ win0_4.index t = ![t.val, 0] :=
  (by decide +kernel : ∀ t : Fin grid0.N, _)

theorem entry1 : (V m c main_v0 : FVec Ideal S128x512 .bf16) = (m ((c : Thread nD τ).loc main_arg2) : FVec Ideal S128x512 .f32) := rfl

/-- Column `k` of the 128 columns the call takes. -/
abbrev at' (k : Fin 128) : Fin 2560 := ⟨2304 + k.val, by omega⟩

/-- The normed rows. -/
abbrev rows (X : FVec Ideal S4096x2560 .f32) (G : FVec Ideal S1x128 .f32) : FVec Ideal S4096x128 .bf16 := val_main_v15 (F := Ideal) X G
/-- Their product with the weight. -/
abbrev layer (X : FVec Ideal S4096x2560 .f32) (G : FVec Ideal S1x128 .f32) (W : FVec Ideal S128x512 .f32) : FVec Ideal S4096x512 .bf16 := val_main_v14 (F := Ideal) X G W

theorem norm_at (x : Vec Ideal S1024x128 .f32) (g : Vec Ideal S1x128 .f32) (r : Fin 1024) (k : Fin 128) :
    k0_pay3 x g (ix2 r k) = nrm (Ideal.ofBits .f32 0x43000000#32) (fun k => x (ix2 r k)) (fun k => g (ix2 0 k)) k := by
  pointwise [k0_pay3, k0_pay1]

theorem pay_at (x : Vec Ideal S1024x128 .f32) (g : Vec Ideal S1x128 .f32) (w : Vec Ideal S128x512 .bf16) (r : Fin 1024) (j : Fin 512) :
    k0_pay4 (k0_pay2 x g) w (ix2 r j) = (∑ k, nrm (Ideal.ofBits .f32 0x43000000#32) (fun k => x (ix2 r k)) (fun k => g (ix2 0 k)) k * w (ix2 k j)) := by
  pointwise [k0_pay4, k0_pay2, k0_pay1]

theorem rows_at (X : FVec Ideal S4096x2560 .f32) (G : FVec Ideal S1x128 .f32) (r : Fin 4096) (k : Fin 128) :
    rows X G (ix2 r k) = nrm (Ideal.ofBits .f32 0x43000000#32) (fun k => X (ix2 r (at' k))) (fun k => G (ix2 0 k)) k := by
  pointwise [rows, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15]

theorem layer_at (X : FVec Ideal S4096x2560 .f32) (G : FVec Ideal S1x128 .f32) (W : FVec Ideal S128x512 .f32) (r : Fin 4096) (j : Fin 512) :
    layer X G W (ix2 r j) = (∑ k, nrm (Ideal.ofBits .f32 0x43000000#32) (fun k => X (ix2 r (at' k))) (fun k => G (ix2 0 k)) k * W (ix2 k j)) := by
  pointwise [layer, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15]

section
variable (t : Fin cfg0.N)

theorem bound : t.val < 4 := lt_of_lt_of_eq t.isLt N_0

/-- Row `r` of point `t`'s block. -/
abbrev row' (r : Fin 1024) : Fin 4096 := ⟨t.val * 1024 + r.val, by have := bound t; omega⟩

theorem b0 (r : Fin 1024) (k : Fin 128) :
    (iblk m c 0 t : FVec Ideal S1024x128 .f32) (ix2 r k) = (m ((c : Thread nD τ).loc main_arg0) : FVec Ideal S4096x2560 .f32) (ix2 (row' t r) (at' k)) := by
  blk_ext [iblk, V_main_arg0, idx t]
theorem b1 (k : Fin 128) (j : Fin 512) :
    (iblk m c 1 t : FVec Ideal S128x512 .bf16) (ix2 k j) = (m ((c : Thread nD τ).loc main_arg2) : FVec Ideal S128x512 .f32) (ix2 k j) := by
  blk_ext [iblk, entry1, idx t]
theorem b2 (k : Fin 128) :
    (iblk m c 2 t : FVec Ideal S1x128 .f32) (ix2 0 k) = (m ((c : Thread nD τ).loc main_arg1) : FVec Ideal S1x128 .f32) (ix2 0 k) := by
  blk_ext [iblk, V_main_arg1, idx t]

theorem place3 (r : Fin 1024) (j : Fin 512) : ((cfg0.win 3).blk t).view.emb (ix2 r j) = ix2 (row' t r) j := by
  blk_ext [idx t]
theorem place4 (r : Fin 1024) (k : Fin 128) : ((cfg0.win 4).blk t).view.emb (ix2 r k) = ix2 (row' t r) k := by
  blk_ext [idx t]

theorem point3 (r : Fin 1024) (j : Fin 512) : k0_pay4 (k0_pay2 (iblk m c 0 t) (iblk m c 2 t)) (iblk m c 1 t) (ix2 r j)
    = layer (m ((c : Thread nD τ).loc main_arg0)) (m ((c : Thread nD τ).loc main_arg1)) (m ((c : Thread nD τ).loc main_arg2)) (ix2 (row' t r) j) := by
  rw [pay_at, layer_at]
  simp only [b0, b1, b2]
theorem point4 (r : Fin 1024) (k : Fin 128) : k0_pay3 (iblk m c 0 t) (iblk m c 2 t) (ix2 r k)
    = rows (m ((c : Thread nD τ).loc main_arg0)) (m ((c : Thread nD τ).loc main_arg1)) (ix2 (row' t r) k) := by
  rw [norm_at, rows_at]
  simp only [b0, b2]
end

theorem final3 : (dats m 0 c).arrAt 3 cfg0.N
    = layer (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, j, rfl⟩ : ∃ r j, y = ix2 r j := ⟨_, _, eq_ix2 y⟩
  rw [place3]
  blk_simp
  rw [after0_3]; unfold outsAt0; dsimp only; frame_out
  exact point3 m c t r j

theorem final4 : (dats m 0 c).arrAt 4 cfg0.N
    = rows (m ((c : Thread nD τ).loc main_arg0)) (m ((c : Thread nD τ).loc main_arg1)) := by
  refine (dats m 0 c).arrAt_eq_of_covers 4 _ (by decide +kernel) fun t _ y => ?_
  obtain ⟨r, k, rfl⟩ : ∃ r k, y = ix2 r k := ⟨_, _, eq_ix2 y⟩
  rw [place4]
  blk_simp
  rw [after0_4]; unfold outsAt0; dsimp only; frame_out
  exact point4 m c t r k

theorem equal : Cert.algebraic_MlaUkvIdeal_MlaUkvRefIdeal
    (hMlaUkvIdeal := Cert.MlaUkvIdeal.Gen.facts) (hMlaUkvRefIdeal := Cert.MlaUkvRefIdeal.Gen.facts) := by
  intro m g m' g' _ hagree
  refine ⟨fun c => layer (m ((c : Thread nD τ).loc main_arg0)) (m ((c : Thread nD τ).loc main_arg1)) (m ((c : Thread nD τ).loc main_arg2)),
    fun c => rows (m ((c : Thread nD τ).loc main_arg0)) (m ((c : Thread nD τ).loc main_arg1)), ?_, ?_⟩
  · exact (θ_run _ _ _).mono (fun r h c => ⟨(h c).1.trans (final3 m c), (h c).2.1.trans (final4 m c), (h c).2.2⟩) (run_blocks m g)
  · refine (θ_run _ _ _).mono (fun r h c => ?_) (Cert.MlaUkvRefIdeal.Value.run (F := Ideal) m' g')
    obtain ⟨e0, e1, e2⟩ := hagree c
    refine ⟨(h c).1.trans ?_, (h c).2.1.trans ?_, (h c).2.2⟩
    · rw [val_main_v14_eq, e0, e1, e2]
    · rw [val_main_v15_eq, e0, e1]

/-- The reference terminates with its arguments unchanged; it has no semaphores. -/
theorem ref_frame : Cert.quiescent_MlaUkvRefIdeal (hMlaUkvRefIdeal := Cert.MlaUkvRefIdeal.Gen.facts) :=
  fun m ρ _ => (θ_run _ _ _).mono (fun r h => ⟨fun c => (h c).2.2, sem_eq_zero_of_no_sems rfl r.2⟩)
    (Cert.MlaUkvRefIdeal.Value.run (F := Ideal) m ρ)

end Cert.MlaUkvIdeal.Product

end
-- ==== Proof.MlaUq.lean ====
/- The product `mla_uq`, the latent attention's queries out of the compressed rows, with the norm before it: both results are the reference's. -/
module

public import proofs.«01_k».proof.Proof.Gen.MlaUqIdeal.Value
public import proofs.«01_k».proof.Proof.Gen.MlaUqRefIdeal.Run
public import proofs.«01_k».proof.Proof.Gen.MlaUqRefIdeal.Read
public import proofs.«01_k».proof.Defs
public import proofs.«01_k».proof.Proof.Normed
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.MlaUqIdeal.Product

open Cert.MlaUqIdeal Cert.MlaUqIdeal.Gen Cert.MlaUqIdeal.Value
open Cert.MlaUqRefIdeal.Read Cert.Normed

variable (m : (ℓ : Loc nD τ sig) → Buf (Elt Ideal) ℓ) (c : Dev nD)

theorem idx : ∀ t : Fin cfg0.N, win0_0.index t = ![t.val, 6] ∧ win0_1.index t = ![0, 0] ∧ win0_2.index t = ![0, 0]
    ∧ win0_3.index t = ![t.val, 0] ∧ win0_4.index t = ![t.val, 0] :=
  (by decide +kernel : ∀ t : Fin grid0.N, _)

theorem entry1 : (V m c main_v0 : FVec Ideal S256x512 .bf16) = (m ((c : Thread nD τ).loc main_arg2) : FVec Ideal S256x512 .f32) := rfl

/-- Column `k` of the 256 columns the call takes. -/
abbrev at' (k : Fin 256) : Fin 2560 := ⟨1536 + k.val, by omega⟩

/-- The normed rows. -/
abbrev rows (X : FVec Ideal S4096x2560 .f32) (G : FVec Ideal S1x256 .f32) : FVec Ideal S4096x256 .bf16 := val_main_v14 (F := Ideal) X G
/-- Their product with the weight. -/
abbrev layer (X : FVec Ideal S4096x2560 .f32) (G : FVec Ideal S1x256 .f32) (W : FVec Ideal S256x512 .f32) : FVec Ideal S4096x512 .f32 := val_main_v13 (F := Ideal) X G W

theorem norm_at (x : Vec Ideal S1024x256 .f32) (g : Vec Ideal S1x256 .f32) (r : Fin 1024) (k : Fin 256) :
    k0_pay3 x g (ix2 r k) = nrm (Ideal.ofBits .f32 0x43800000#32) (fun k => x (ix2 r k)) (fun k => g (ix2 0 k)) k := by
  pointwise [k0_pay3, k0_pay1]

theorem pay_at (x : Vec Ideal S1024x256 .f32) (g : Vec Ideal S1x256 .f32) (w : Vec Ideal S256x512 .bf16) (r : Fin 1024) (j : Fin 512) :
    k0_pay4 (k0_pay2 x g) w (ix2 r j) = (∑ k, nrm (Ideal.ofBits .f32 0x43800000#32) (fun k => x (ix2 r k)) (fun k => g (ix2 0 k)) k * w (ix2 k j)) := by
  pointwise [k0_pay4, k0_pay2, k0_pay1]

theorem rows_at (X : FVec Ideal S4096x2560 .f32) (G : FVec Ideal S1x256 .f32) (r : Fin 4096) (k : Fin 256) :
    rows X G (ix2 r k) = nrm (Ideal.ofBits .f32 0x43800000#32) (fun k => X (ix2 r (at' k))) (fun k => G (ix2 0 k)) k := by
  pointwise [rows, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14]

theorem layer_at (X : FVec Ideal S4096x2560 .f32) (G : FVec Ideal S1x256 .f32) (W : FVec Ideal S256x512 .f32) (r : Fin 4096) (j : Fin 512) :
    layer X G W (ix2 r j) = (∑ k, nrm (Ideal.ofBits .f32 0x43800000#32) (fun k => X (ix2 r (at' k))) (fun k => G (ix2 0 k)) k * W (ix2 k j)) := by
  pointwise [layer, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14]

section
variable (t : Fin cfg0.N)

theorem bound : t.val < 4 := lt_of_lt_of_eq t.isLt N_0

/-- Row `r` of point `t`'s block. -/
abbrev row' (r : Fin 1024) : Fin 4096 := ⟨t.val * 1024 + r.val, by have := bound t; omega⟩

theorem b0 (r : Fin 1024) (k : Fin 256) :
    (iblk m c 0 t : FVec Ideal S1024x256 .f32) (ix2 r k) = (m ((c : Thread nD τ).loc main_arg0) : FVec Ideal S4096x2560 .f32) (ix2 (row' t r) (at' k)) := by
  blk_ext [iblk, V_main_arg0, idx t]
theorem b1 (k : Fin 256) (j : Fin 512) :
    (iblk m c 1 t : FVec Ideal S256x512 .bf16) (ix2 k j) = (m ((c : Thread nD τ).loc main_arg2) : FVec Ideal S256x512 .f32) (ix2 k j) := by
  blk_ext [iblk, entry1, idx t]
theorem b2 (k : Fin 256) :
    (iblk m c 2 t : FVec Ideal S1x256 .f32) (ix2 0 k) = (m ((c : Thread nD τ).loc main_arg1) : FVec Ideal S1x256 .f32) (ix2 0 k) := by
  blk_ext [iblk, V_main_arg1, idx t]

theorem place3 (r : Fin 1024) (j : Fin 512) : ((cfg0.win 3).blk t).view.emb (ix2 r j) = ix2 (row' t r) j := by
  blk_ext [idx t]
theorem place4 (r : Fin 1024) (k : Fin 256) : ((cfg0.win 4).blk t).view.emb (ix2 r k) = ix2 (row' t r) k := by
  blk_ext [idx t]

theorem point3 (r : Fin 1024) (j : Fin 512) : k0_pay4 (k0_pay2 (iblk m c 0 t) (iblk m c 2 t)) (iblk m c 1 t) (ix2 r j)
    = layer (m ((c : Thread nD τ).loc main_arg0)) (m ((c : Thread nD τ).loc main_arg1)) (m ((c : Thread nD τ).loc main_arg2)) (ix2 (row' t r) j) := by
  rw [pay_at, layer_at]
  simp only [b0, b1, b2]
theorem point4 (r : Fin 1024) (k : Fin 256) : k0_pay3 (iblk m c 0 t) (iblk m c 2 t) (ix2 r k)
    = rows (m ((c : Thread nD τ).loc main_arg0)) (m ((c : Thread nD τ).loc main_arg1)) (ix2 (row' t r) k) := by
  rw [norm_at, rows_at]
  simp only [b0, b2]
end

theorem final3 : (dats m 0 c).arrAt 3 cfg0.N
    = layer (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, j, rfl⟩ : ∃ r j, y = ix2 r j := ⟨_, _, eq_ix2 y⟩
  rw [place3]
  blk_simp
  rw [after0_3]; unfold outsAt0; dsimp only; frame_out
  exact point3 m c t r j

theorem final4 : (dats m 0 c).arrAt 4 cfg0.N
    = rows (m ((c : Thread nD τ).loc main_arg0)) (m ((c : Thread nD τ).loc main_arg1)) := by
  refine (dats m 0 c).arrAt_eq_of_covers 4 _ (by decide +kernel) fun t _ y => ?_
  obtain ⟨r, k, rfl⟩ : ∃ r k, y = ix2 r k := ⟨_, _, eq_ix2 y⟩
  rw [place4]
  blk_simp
  rw [after0_4]; unfold outsAt0; dsimp only; frame_out
  exact point4 m c t r k

theorem equal : Cert.algebraic_MlaUqIdeal_MlaUqRefIdeal
    (hMlaUqIdeal := Cert.MlaUqIdeal.Gen.facts) (hMlaUqRefIdeal := Cert.MlaUqRefIdeal.Gen.facts) := by
  intro m g m' g' _ hagree
  refine ⟨fun c => layer (m ((c : Thread nD τ).loc main_arg0)) (m ((c : Thread nD τ).loc main_arg1)) (m ((c : Thread nD τ).loc main_arg2)),
    fun c => rows (m ((c : Thread nD τ).loc main_arg0)) (m ((c : Thread nD τ).loc main_arg1)), ?_, ?_⟩
  · exact (θ_run _ _ _).mono (fun r h c => ⟨(h c).1.trans (final3 m c), (h c).2.1.trans (final4 m c), (h c).2.2⟩) (run_blocks m g)
  · refine (θ_run _ _ _).mono (fun r h c => ?_) (Cert.MlaUqRefIdeal.Value.run (F := Ideal) m' g')
    obtain ⟨e0, e1, e2⟩ := hagree c
    refine ⟨(h c).1.trans ?_, (h c).2.1.trans ?_, (h c).2.2⟩
    · rw [val_main_v13_eq, e0, e1, e2]
    · rw [val_main_v14_eq, e0, e1]

/-- The reference terminates with its arguments unchanged; it has no semaphores. -/
theorem ref_frame : Cert.quiescent_MlaUqRefIdeal (hMlaUqRefIdeal := Cert.MlaUqRefIdeal.Gen.facts) :=
  fun m ρ _ => (θ_run _ _ _).mono (fun r h => ⟨fun c => (h c).2.2, sem_eq_zero_of_no_sems rfl r.2⟩)
    (Cert.MlaUqRefIdeal.Value.run (F := Ideal) m ρ)

end Cert.MlaUqIdeal.Product

end
-- ==== Proof.Xkv.lean ====
/- The product `xkv`, the cross attention's keys and values, with the norm before it: both results are the reference's. -/
module

public import proofs.«01_k».proof.Proof.Gen.XkvIdeal.Value
public import proofs.«01_k».proof.Proof.Gen.XkvRefIdeal.Run
public import proofs.«01_k».proof.Proof.Gen.XkvRefIdeal.Read
public import proofs.«01_k».proof.Defs
public import proofs.«01_k».proof.Proof.Normed
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.XkvIdeal.Product

open Cert.XkvIdeal Cert.XkvIdeal.Gen Cert.XkvIdeal.Value
open Cert.XkvRefIdeal.Read Cert.Normed

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem entry1 : (V m c main_v0 : FVec Ideal S1024x1024 .bf16) = (m ((c : Thread nD τ).loc main_arg2) : FVec Ideal S1024x1024 .f32) := rfl

/-- The normed rows. -/
abbrev rows (X : FVec Ideal S256x1024 .f32) (G : FVec Ideal S1x1024 .f32) : FVec Ideal S256x1024 .bf16 := val_main_v14 (F := Ideal) X G
/-- Their product with the weight. -/
abbrev layer (X : FVec Ideal S256x1024 .f32) (G : FVec Ideal S1x1024 .f32) (W : FVec Ideal S1024x1024 .f32) : FVec Ideal S256x1024 .bf16 := val_main_v13 (F := Ideal) X G W

theorem norm_at (x : Vec Ideal S256x1024 .f32) (g : Vec Ideal S1x1024 .f32) (r : Fin 256) (k : Fin 1024) :
    k0_pay3 x g (ix2 r k) = nrm (Ideal.ofBits .f32 0x44800000#32) (fun k => x (ix2 r k)) (fun k => g (ix2 0 k)) k := by
  pointwise [k0_pay3, k0_pay1]

theorem pay_at (x : Vec Ideal S256x1024 .f32) (g : Vec Ideal S1x1024 .f32) (w : Vec Ideal S1024x1024 .bf16) (r : Fin 256) (j : Fin 1024) :
    k0_pay4 (k0_pay2 x g) w (ix2 r j) = (∑ k, nrm (Ideal.ofBits .f32 0x44800000#32) (fun k => x (ix2 r k)) (fun k => g (ix2 0 k)) k * w (ix2 k j)) := by
  pointwise [k0_pay4, k0_pay2, k0_pay1]

theorem rows_at (X : FVec Ideal S256x1024 .f32) (G : FVec Ideal S1x1024 .f32) (r : Fin 256) (k : Fin 1024) :
    rows X G (ix2 r k) = nrm (Ideal.ofBits .f32 0x44800000#32) (fun k => X (ix2 r k)) (fun k => G (ix2 0 k)) k := by
  pointwise [rows, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14]

theorem layer_at (X : FVec Ideal S256x1024 .f32) (G : FVec Ideal S1x1024 .f32) (W : FVec Ideal S1024x1024 .f32) (r : Fin 256) (j : Fin 1024) :
    layer X G W (ix2 r j) = (∑ k, nrm (Ideal.ofBits .f32 0x44800000#32) (fun k => X (ix2 r k)) (fun k => G (ix2 0 k)) k * W (ix2 k j)) := by
  pointwise [layer, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14]

section
variable (t : Fin cfg0.N)

theorem bound : t.val < 1 := lt_of_lt_of_eq t.isLt N_0

/-- Row `r` of point `t`'s block. -/
abbrev row' (r : Fin 256) : Fin 256 := ⟨t.val * 256 + r.val, by have := bound t; omega⟩

theorem b0 (r : Fin 256) (k : Fin 1024) :
    (iblk m c 0 t : FVec Ideal S256x1024 .f32) (ix2 r k) = (m ((c : Thread nD τ).loc main_arg0) : FVec Ideal S256x1024 .f32) (ix2 (row' t r) k) := by
  blk_ext [iblk, V_main_arg0, idx t]
theorem b1 (k : Fin 1024) (j : Fin 1024) :
    (iblk m c 1 t : FVec Ideal S1024x1024 .bf16) (ix2 k j) = (m ((c : Thread nD τ).loc main_arg2) : FVec Ideal S1024x1024 .f32) (ix2 k j) := by
  blk_ext [iblk, entry1, idx t]
theorem b2 (k : Fin 1024) :
    (iblk m c 2 t : FVec Ideal S1x1024 .f32) (ix2 0 k) = (m ((c : Thread nD τ).loc main_arg1) : FVec Ideal S1x1024 .f32) (ix2 0 k) := by
  blk_ext [iblk, V_main_arg1, idx t]

theorem place3 (r : Fin 256) (j : Fin 1024) : ((cfg0.win 3).blk t).view.emb (ix2 r j) = ix2 (row' t r) j := by
  blk_ext [idx t]
theorem place4 (r : Fin 256) (k : Fin 1024) : ((cfg0.win 4).blk t).view.emb (ix2 r k) = ix2 (row' t r) k := by
  blk_ext [idx t]

theorem point3 (r : Fin 256) (j : Fin 1024) : k0_pay4 (k0_pay2 (iblk m c 0 t) (iblk m c 2 t)) (iblk m c 1 t) (ix2 r j)
    = layer (m ((c : Thread nD τ).loc main_arg0)) (m ((c : Thread nD τ).loc main_arg1)) (m ((c : Thread nD τ).loc main_arg2)) (ix2 (row' t r) j) := by
  rw [pay_at, layer_at]
  simp only [b0, b1, b2]
theorem point4 (r : Fin 256) (k : Fin 1024) : k0_pay3 (iblk m c 0 t) (iblk m c 2 t) (ix2 r k)
    = rows (m ((c : Thread nD τ).loc main_arg0)) (m ((c : Thread nD τ).loc main_arg1)) (ix2 (row' t r) k) := by
  rw [norm_at, rows_at]
  simp only [b0, b2]
end

theorem final3 : (dats m 0 c).arrAt 3 cfg0.N
    = layer (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, j, rfl⟩ : ∃ r j, y = ix2 r j := ⟨_, _, eq_ix2 y⟩
  rw [place3]
  blk_simp
  rw [after0_3]; unfold outsAt0; dsimp only; frame_out
  exact point3 m c t r j

theorem final4 : (dats m 0 c).arrAt 4 cfg0.N
    = rows (m ((c : Thread nD τ).loc main_arg0)) (m ((c : Thread nD τ).loc main_arg1)) := by
  refine (dats m 0 c).arrAt_eq_of_covers 4 _ (by decide +kernel) fun t _ y => ?_
  obtain ⟨r, k, rfl⟩ : ∃ r k, y = ix2 r k := ⟨_, _, eq_ix2 y⟩
  rw [place4]
  blk_simp
  rw [after0_4]; unfold outsAt0; dsimp only; frame_out
  exact point4 m c t r k

theorem equal : Cert.algebraic_XkvIdeal_XkvRefIdeal
    (hXkvIdeal := Cert.XkvIdeal.Gen.facts) (hXkvRefIdeal := Cert.XkvRefIdeal.Gen.facts) := by
  intro m g m' g' _ hagree
  refine ⟨fun c => layer (m ((c : Thread nD τ).loc main_arg0)) (m ((c : Thread nD τ).loc main_arg1)) (m ((c : Thread nD τ).loc main_arg2)),
    fun c => rows (m ((c : Thread nD τ).loc main_arg0)) (m ((c : Thread nD τ).loc main_arg1)), ?_, ?_⟩
  · exact (θ_run _ _ _).mono (fun r h c => ⟨(h c).1.trans (final3 m c), (h c).2.1.trans (final4 m c), (h c).2.2⟩) (run_blocks m g)
  · refine (θ_run _ _ _).mono (fun r h c => ?_) (Cert.XkvRefIdeal.Value.run (F := Ideal) m' g')
    obtain ⟨e0, e1, e2⟩ := hagree c
    refine ⟨(h c).1.trans ?_, (h c).2.1.trans ?_, (h c).2.2⟩
    · rw [val_main_v13_eq, e0, e1, e2]
    · rw [val_main_v14_eq, e0, e1]

/-- The reference terminates with its arguments unchanged; it has no semaphores. -/
theorem ref_frame : Cert.quiescent_XkvRefIdeal (hXkvRefIdeal := Cert.XkvRefIdeal.Gen.facts) :=
  fun m ρ _ => (θ_run _ _ _).mono (fun r h => ⟨fun c => (h c).2.2, sem_eq_zero_of_no_sems rfl r.2⟩)
    (Cert.XkvRefIdeal.Value.run (F := Ideal) m ρ)

end Cert.XkvIdeal.Product

end
-- ==== Proof.Xq.lean ====
/- The product `xq`, the cross attention's queries, with the norm before it: both results are the reference's. -/
module

public import proofs.«01_k».proof.Proof.Gen.XqIdeal.Value
public import proofs.«01_k».proof.Proof.Gen.XqRefIdeal.Run
public import proofs.«01_k».proof.Proof.Gen.XqRefIdeal.Read
public import proofs.«01_k».proof.Defs
public import proofs.«01_k».proof.Proof.Normed
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.XqIdeal.Product

open Cert.XqIdeal Cert.XqIdeal.Gen Cert.XqIdeal.Value
open Cert.XqRefIdeal.Read Cert.Normed

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem entry1 : (V m c main_v0 : FVec Ideal S1024x512 .bf16) = (m ((c : Thread nD τ).loc main_arg2) : FVec Ideal S1024x512 .f32) := rfl

/-- The normed rows. -/
abbrev rows (X : FVec Ideal S4096x1024 .f32) (G : FVec Ideal S1x1024 .f32) : FVec Ideal S4096x1024 .bf16 := val_main_v16 (F := Ideal) X G
/-- Their product with the weight. -/
abbrev layer (X : FVec Ideal S4096x1024 .f32) (G : FVec Ideal S1x1024 .f32) (W : FVec Ideal S1024x512 .f32) : FVec Ideal S4096x512 .bf16 := val_main_v15 (F := Ideal) X G W

theorem norm_at (x : Vec Ideal S1024x1024 .f32) (g : Vec Ideal S1x1024 .f32) (r : Fin 1024) (k : Fin 1024) :
    k0_pay3 x g (ix2 r k) = nrm (Ideal.ofBits .f32 0x44800000#32) (fun k => x (ix2 r k)) (fun k => g (ix2 0 k)) k := by
  pointwise [k0_pay3, k0_pay1]

theorem pay_at (x : Vec Ideal S1024x1024 .f32) (g : Vec Ideal S1x1024 .f32) (w : Vec Ideal S1024x512 .bf16) (r : Fin 1024) (j : Fin 512) :
    k0_pay4 (k0_pay2 x g) w (ix2 r j) = (∑ k, nrm (Ideal.ofBits .f32 0x44800000#32) (fun k => x (ix2 r k)) (fun k => g (ix2 0 k)) k * w (ix2 k j)) * Ideal.ofBits .f32 0x3DB504F3#32 := by
  pointwise [k0_pay4, k0_pay2, k0_pay1]

theorem rows_at (X : FVec Ideal S4096x1024 .f32) (G : FVec Ideal S1x1024 .f32) (r : Fin 4096) (k : Fin 1024) :
    rows X G (ix2 r k) = nrm (Ideal.ofBits .f32 0x44800000#32) (fun k => X (ix2 r k)) (fun k => G (ix2 0 k)) k := by
  pointwise [rows, val_main_v0, val_main_cst, val_main_v1, val_main_v2, val_main_cst_0, val_main_v3, val_main_v4, val_main_cst_1, val_main_v5, val_main_v6, val_main_v7, val_main_v8, val_main_v9, val_main_v10, val_main_v11, val_main_v12, val_main_cst_2, val_main_v13, val_main_v14, val_main_v15, val_main_v16]

theorem layer_at (X : FVec Ideal S4096x1024 .f32) (G : FVec Ideal S1x1024 .f32) (W : FVec Ideal S1024x512 .f32) (r : Fin 4096) (j : Fin 512) :
    layer X G W (ix2 r j) = (∑ k, nrm (Ideal.ofBits .f32 0x44800000#32) (fun k => X (ix2 r k)) (fun k => G (ix2 0 k)) k * W (ix2 k j)) * Ideal.ofBits .f32 0x3DB504F3#32 := by
  pointwise [layer, val_main_v0, val_main_cst, val_main_v1, val_main_v2, val_main_cst_0, val_main_v3, val_main_v4, val_main_cst_1, val_main_v5, val_main_v6, val_main_v7, val_main_v8, val_main_v9, val_main_v10, val_main_v11, val_main_v12, val_main_cst_2, val_main_v13, val_main_v14, val_main_v15, val_main_v16]

section
variable (t : Fin cfg0.N)

theorem bound : t.val < 4 := lt_of_lt_of_eq t.isLt N_0

/-- Row `r` of point `t`'s block. -/
abbrev row' (r : Fin 1024) : Fin 4096 := ⟨t.val * 1024 + r.val, by have := bound t; omega⟩

theorem b0 (r : Fin 1024) (k : Fin 1024) :
    (iblk m c 0 t : FVec Ideal S1024x1024 .f32) (ix2 r k) = (m ((c : Thread nD τ).loc main_arg0) : FVec Ideal S4096x1024 .f32) (ix2 (row' t r) k) := by
  blk_ext [iblk, V_main_arg0, idx t]
theorem b1 (k : Fin 1024) (j : Fin 512) :
    (iblk m c 1 t : FVec Ideal S1024x512 .bf16) (ix2 k j) = (m ((c : Thread nD τ).loc main_arg2) : FVec Ideal S1024x512 .f32) (ix2 k j) := by
  blk_ext [iblk, entry1, idx t]
theorem b2 (k : Fin 1024) :
    (iblk m c 2 t : FVec Ideal S1x1024 .f32) (ix2 0 k) = (m ((c : Thread nD τ).loc main_arg1) : FVec Ideal S1x1024 .f32) (ix2 0 k) := by
  blk_ext [iblk, V_main_arg1, idx t]

theorem place3 (r : Fin 1024) (j : Fin 512) : ((cfg0.win 3).blk t).view.emb (ix2 r j) = ix2 (row' t r) j := by
  blk_ext [idx t]
theorem place4 (r : Fin 1024) (k : Fin 1024) : ((cfg0.win 4).blk t).view.emb (ix2 r k) = ix2 (row' t r) k := by
  blk_ext [idx t]

theorem point3 (r : Fin 1024) (j : Fin 512) : k0_pay4 (k0_pay2 (iblk m c 0 t) (iblk m c 2 t)) (iblk m c 1 t) (ix2 r j)
    = layer (m ((c : Thread nD τ).loc main_arg0)) (m ((c : Thread nD τ).loc main_arg1)) (m ((c : Thread nD τ).loc main_arg2)) (ix2 (row' t r) j) := by
  rw [pay_at, layer_at]
  simp only [b0, b1, b2]
theorem point4 (r : Fin 1024) (k : Fin 1024) : k0_pay3 (iblk m c 0 t) (iblk m c 2 t) (ix2 r k)
    = rows (m ((c : Thread nD τ).loc main_arg0)) (m ((c : Thread nD τ).loc main_arg1)) (ix2 (row' t r) k) := by
  rw [norm_at, rows_at]
  simp only [b0, b2]
end

theorem final3 : (dats m 0 c).arrAt 3 cfg0.N
    = layer (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, j, rfl⟩ : ∃ r j, y = ix2 r j := ⟨_, _, eq_ix2 y⟩
  rw [place3]
  blk_simp
  rw [after0_3]; unfold outsAt0; dsimp only; frame_out
  exact point3 m c t r j

theorem final4 : (dats m 0 c).arrAt 4 cfg0.N
    = rows (m ((c : Thread nD τ).loc main_arg0)) (m ((c : Thread nD τ).loc main_arg1)) := by
  refine (dats m 0 c).arrAt_eq_of_covers 4 _ (by decide +kernel) fun t _ y => ?_
  obtain ⟨r, k, rfl⟩ : ∃ r k, y = ix2 r k := ⟨_, _, eq_ix2 y⟩
  rw [place4]
  blk_simp
  rw [after0_4]; unfold outsAt0; dsimp only; frame_out
  exact point4 m c t r k

theorem equal : Cert.algebraic_XqIdeal_XqRefIdeal
    (hXqIdeal := Cert.XqIdeal.Gen.facts) (hXqRefIdeal := Cert.XqRefIdeal.Gen.facts) := by
  intro m g m' g' _ hagree
  refine ⟨fun c => layer (m ((c : Thread nD τ).loc main_arg0)) (m ((c : Thread nD τ).loc main_arg1)) (m ((c : Thread nD τ).loc main_arg2)),
    fun c => rows (m ((c : Thread nD τ).loc main_arg0)) (m ((c : Thread nD τ).loc main_arg1)), ?_, ?_⟩
  · exact (θ_run _ _ _).mono (fun r h c => ⟨(h c).1.trans (final3 m c), (h c).2.1.trans (final4 m c), (h c).2.2⟩) (run_blocks m g)
  · refine (θ_run _ _ _).mono (fun r h c => ?_) (Cert.XqRefIdeal.Value.run (F := Ideal) m' g')
    obtain ⟨e0, e1, e2⟩ := hagree c
    refine ⟨(h c).1.trans ?_, (h c).2.1.trans ?_, (h c).2.2⟩
    · rw [val_main_v15_eq, e0, e1, e2]
    · rw [val_main_v16_eq, e0, e1]

/-- The reference terminates with its arguments unchanged; it has no semaphores. -/
theorem ref_frame : Cert.quiescent_XqRefIdeal (hXqRefIdeal := Cert.XqRefIdeal.Gen.facts) :=
  fun m ρ _ => (θ_run _ _ _).mono (fun r h => ⟨fun c => (h c).2.2, sem_eq_zero_of_no_sems rfl r.2⟩)
    (Cert.XqRefIdeal.Value.run (F := Ideal) m ρ)

end Cert.XqIdeal.Product

end
-- ==== Proof.DMn.lean ====
/- The call `d_mn`: the array its block makes is the reference's gradient of the normed memory rows. -/
module

public import proofs.«01_k».proof.Proof.Gen.DMnIdeal.Value
public import proofs.«01_k».proof.Proof.Gen.DMnRefIdeal.Run
public import proofs.«01_k».proof.Proof.Gen.DMnRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DMnIdeal.Product

open Cert.DMnIdeal Cert.DMnIdeal.Gen Cert.DMnIdeal.Value
open Cert.DMnRefIdeal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The gradient, over the gradient `D` and the weight `W`. -/
abbrev grad (D : FVec Ideal S256x1024 .f32) (W : FVec Ideal S1024x1024 .f32) : FVec Ideal S256x1024 .f32 :=
  val_main_v2 (F := Ideal) D W

theorem entry0 : (V m c main_v0 : FVec Ideal S256x1024 .bf16) = (m ((c : Thread nD τ).loc main_arg0) : FVec Ideal S256x1024 .f32) := rfl
theorem entry1 : (V m c main_v1 : FVec Ideal S1024x1024 .bf16) = (m ((c : Thread nD τ).loc main_arg1) : FVec Ideal S1024x1024 .f32) := rfl

theorem point (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad, val_main_v2]
  blk_point [iblk, entry0, entry1, idx t]

theorem final : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem equal : Cert.algebraic_DMnIdeal_DMnRefIdeal
    (hDMnIdeal := Cert.DMnIdeal.Gen.facts) (hDMnRefIdeal := Cert.DMnRefIdeal.Gen.facts) := by
  intro m g m' g' _ hagree
  refine ⟨fun c => grad (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ?_) (Cert.DMnRefIdeal.Value.run (F := Ideal) m' g')
    obtain ⟨e0, e1⟩ := hagree c
    refine ⟨(h c).1.trans ?_, (h c).2⟩
    rw [val_main_v2_eq, e0, e1]

/-- The reference terminates with its arguments unchanged; it has no semaphores. -/
theorem ref_frame : Cert.quiescent_DMnRefIdeal (hDMnRefIdeal := Cert.DMnRefIdeal.Gen.facts) :=
  fun m ρ _ => (θ_run _ _ _).mono (fun r h => ⟨fun c => (h c).2, sem_eq_zero_of_no_sems rfl r.2⟩)
    (Cert.DMnRefIdeal.Value.run (F := Ideal) m ρ)

end Cert.DMnIdeal.Product

end
-- ==== Proof.DXkv.lean ====
/- The call `d_xkv`: the array its block makes is the reference's gradient of the weight. -/
module

public import proofs.«01_k».proof.Proof.Gen.DXkvIdeal.Value
public import proofs.«01_k».proof.Proof.Gen.DXkvRefIdeal.Run
public import proofs.«01_k».proof.Proof.Gen.DXkvRefIdeal.Read
public import proofs.«01_k».proof.Defs
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DXkvIdeal.Product

open Cert.DXkvIdeal Cert.DXkvIdeal.Gen Cert.DXkvIdeal.Value
open Cert.DXkvRefIdeal.Read

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

/-- The gradient of the weight, over the rows `H` and the gradient `D`. -/
abbrev grad (H : FVec Ideal S256x1024 .f32) (D : FVec Ideal S256x1024 .f32) : FVec Ideal S1024x1024 .f32 :=
  val_main_v3 (F := Ideal) H D

theorem entry0 : (V m c main_v0 : FVec Ideal S256x1024 .bf16) = (m ((c : Thread nD τ).loc main_arg0) : FVec Ideal S256x1024 .f32) := rfl
theorem entry1 : (V m c main_v1 : FVec Ideal S256x1024 .bf16) = (m ((c : Thread nD τ).loc main_arg1) : FVec Ideal S256x1024 .f32) := rfl

theorem point (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad, val_main_v3, val_main_v2]
  refine Eq.trans ?_ (Finset.sum_congr rfl fun k _ => mul_comm _ _)
  blk_point [iblk, entry0, entry1, idx t]

theorem final : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem equal : Cert.algebraic_DXkvIdeal_DXkvRefIdeal
    (hDXkvIdeal := Cert.DXkvIdeal.Gen.facts) (hDXkvRefIdeal := Cert.DXkvRefIdeal.Gen.facts) := by
  intro m g m' g' _ hagree
  refine ⟨fun c => grad (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ?_) (Cert.DXkvRefIdeal.Value.run (F := Ideal) m' g')
    obtain ⟨e0, e1⟩ := hagree c
    refine ⟨(h c).1.trans ?_, (h c).2⟩
    rw [val_main_v3_eq, e0, e1]

/-- The reference terminates with its arguments unchanged; it has no semaphores. -/
theorem ref_frame : Cert.quiescent_DXkvRefIdeal (hDXkvRefIdeal := Cert.DXkvRefIdeal.Gen.facts) :=
  fun m ρ _ => (θ_run _ _ _).mono (fun r h => ⟨fun c => (h c).2, sem_eq_zero_of_no_sems rfl r.2⟩)
    (Cert.DXkvRefIdeal.Value.run (F := Ideal) m ρ)

end Cert.DXkvIdeal.Product

end
-- ==== Proof.Mlp1Rows.lean ====
/- The frame of the feed-forward layer's first product (ideal program): the norm is computed at the first of a block row's four
   points, kept in a scratch buffer and in the second result's block, and read at the other three. -/
module

public import proofs.«01_k».proof.Proof.Gen.Mlp1Ideal.Frame
public import proofs.«01_k».proof.Proof.Gen.Mlp1Ideal.Skeleton
public import Idealize.ShloMosaic.Lib.Pipeline.TableIdle
public import Idealize.ShloMosaic.Lib.Pipeline.ValueKit

@[expose] public section

set_option maxRecDepth 16384

noncomputable section

namespace Cert.Mlp1Ideal.Rows

open Cert.Mlp1Ideal Cert.Mlp1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A store over the whole of a block leaves its payload there. -/
theorem stored {s : Shape} {φ : EltTy} (v : View sig .tc .vmem s φ) (f : v.ty.Contents (Elt F)) {off : Fin s.rank → Nat}
    (h : off = fun _ => 0) (inb) (w : s.Idx → Elt F φ) :
    v.read (Elt F) (v.writes (Elt F) f [⟨Rect.unit (s := s) off s.size inb, w⟩]) = w := by
  rw [View.read_writes_eq_canon _ _ _ fun y => ⟨_, List.mem_singleton_self _, View.mem_set_unit_zero h inb y⟩,
    View.canon_unit_zero h]

theorem corner : (![0, 0] : Fin S1024x1024.rank → Nat) = fun _ => 0 := by funext a; fin_cases a <;> rfl

/-! ## The body -/

/-- A block row's first point is where the second coordinate is zero. -/
theorem first_iff : ∀ t : Fin cfg0.N, k0_cond1 (grid0.coords t) = 1#1 ↔ t.val % 4 = 0 :=
  (fun t => by
    have ht : t.val < 16 := Nat.lt_of_lt_of_eq t.isLt N_0
    have e1 : (grid0.coords t 1).val = t.val / 1 % 4 := Pipeline.Grid.coords_val t 1 (by decide) rfl
    simp only [k0_cond1, e1]
    word_cmp
   : ∀ t : Fin grid0.N, k0_cond1 (grid0.coords t) = 1#1 ↔ t.val % 4 = 0)

section
variable (c : Dev nD) (i : grid0.Coords)
  (a0 : Memref sig .tc .vmem S1024x1024 .f32) (h0 : a0.IsWhole) (a1 : Memref sig .tc .vmem S1024x1024 .bf16) (h1 : a1.IsWhole)
  (a2 : Memref sig .tc .vmem S1x1024 .f32) (h2 : a2.IsWhole) (a3 : Memref sig .tc .vmem S1024x1024 .bf16) (h3 : a3.IsWhole)
  (a4 : Memref sig .tc .vmem S1024x1024 .bf16) (h4 : a4.IsWhole) (a5 : Memref sig .tc .vmem S1024x1024 .bf16) (h5 : a5.IsWhole)
  (x : Vec F S1024x1024 .f32) (w : Vec F S1024x1024 .bf16) (g : Vec F S1x1024 .f32)

/-- The three operands, owned at their blocks. -/
abbrev ins : sProp 𝕄 :=
  iprop(owns (c : Thread nD τ) a0 fullShare x ∗ owns (c : Thread nD τ) a1 fullShare w ∗ owns (c : Thread nD τ) a2 fullShare g)
/-- The two results' blocks and the scratch, owned at given contents. -/
abbrev outs (y h s : Vec F S1024x1024 .bf16) : sProp 𝕄 :=
  iprop(owns (c : Thread nD τ) a3 fullShare y ∗ owns (c : Thread nD τ) a4 fullShare h ∗ owns (c : Thread nD τ) a5 fullShare s)

set_option maxHeartbeats 1000000 in
/-- At a block row's first point the body norms the rows, keeps them, and multiplies. -/
theorem first (hc : k0_cond1 i = 1#1) (E : Set ℕ) (K : PUnit → sProp 𝕄) :
    iprop(owns (c : Thread nD τ) a0 fullShare x ∗ owns (c : Thread nD τ) a1 fullShare w ∗ owns (c : Thread nD τ) a2 fullShare g
        ∗ (∃ d, owns (c : Thread nD τ) a3 fullShare d) ∗ (∃ d, owns (c : Thread nD τ) a4 fullShare d) ∗ (∃ d, owns (c : Thread nD τ) a5 fullShare d)
        ∗ (iprop(ins c a0 a1 a2 x w g ∗ outs c a3 a4 a5 (k0_pay4 (k0_pay2 x g) w) (k0_pay3 x g) (k0_pay2 x g)) -∗ K ⟨⟩))
      ⊢ wp frame (wpE (defs₀ (F := F)) Variants.none c none) E (cc0_mlp1 i a0 h0 a1 h1 a2 h2 a3 h3 a4 h4 a5 h5) K := by
  simp only [cc0_mlp1_eq_skeleton]; unfold cc0_mlp1_skel
  unfold ins outs owns
  iintro ⟨⟨%f0, %e0, H0⟩, ⟨%f1, %e1, H1⟩, ⟨%f2, %e2, H2⟩, ⟨%d3, %f3, -, H3⟩, ⟨%d4, %f4, -, H4⟩, ⟨%d5, %f5, -, H5⟩, Hk⟩
  obtain rfl := h0.eq_unread e0; obtain rfl := h1.eq_unread e1; obtain rfl := h2.eq_unread e2
  sl_exec (disch := first | sl_exact hc)
  sl_step
  iapply Hk
  isplitl [H0 H1 H2]
  · isplitl [H0]
    · iexists _; isplitr; · ipureintro; exact h0.read_unread _
      iexact H0
    isplitl [H1]
    · iexists _; isplitr; · ipureintro; exact h1.read_unread _
      iexact H1
    iexists _; isplitr; · ipureintro; exact h2.read_unread _
    iexact H2
  isplitl [H3]
  · iexists _; isplitr; swap; · iexact H3
    ipureintro; refine (stored _ _ corner _ _).trans ?_; frame_out
  isplitl [H4]
  · iexists _; isplitr; swap; · iexact H4
    ipureintro; refine (stored _ _ corner _ _).trans ?_; frame_out
  iexists _; isplitr; swap; · iexact H5
  ipureintro; refine (stored _ _ corner _ _).trans ?_; frame_out

set_option maxHeartbeats 1000000 in
/-- At the others it multiplies what the scratch holds. -/
theorem later (hc : ¬k0_cond1 i = 1#1) (h s : Vec F S1024x1024 .bf16) (E : Set ℕ) (K : PUnit → sProp 𝕄) :
    iprop(owns (c : Thread nD τ) a0 fullShare x ∗ owns (c : Thread nD τ) a1 fullShare w ∗ owns (c : Thread nD τ) a2 fullShare g
        ∗ (∃ d, owns (c : Thread nD τ) a3 fullShare d) ∗ owns (c : Thread nD τ) a4 fullShare h ∗ owns (c : Thread nD τ) a5 fullShare s
        ∗ (iprop(ins c a0 a1 a2 x w g ∗ outs c a3 a4 a5 (k0_pay4 s w) h s) -∗ K ⟨⟩))
      ⊢ wp frame (wpE (defs₀ (F := F)) Variants.none c none) E (cc0_mlp1 i a0 h0 a1 h1 a2 h2 a3 h3 a4 h4 a5 h5) K := by
  simp only [cc0_mlp1_eq_skeleton]; unfold cc0_mlp1_skel
  unfold ins outs owns
  iintro ⟨⟨%f0, %e0, H0⟩, ⟨%f1, %e1, H1⟩, ⟨%f2, %e2, H2⟩, ⟨%d3, %f3, -, H3⟩, ⟨%f4, %e4, H4⟩, ⟨%f5, %e5, H5⟩, Hk⟩
  obtain rfl := h0.eq_unread e0; obtain rfl := h1.eq_unread e1; obtain rfl := h2.eq_unread e2; obtain rfl := h5.eq_unread e5
  sl_exec (disch := first | sl_exact hc)
  sl_step
  iapply Hk
  isplitl [H0 H1 H2]
  · isplitl [H0]
    · iexists _; isplitr; · ipureintro; exact h0.read_unread _
      iexact H0
    isplitl [H1]
    · iexists _; isplitr; · ipureintro; exact h1.read_unread _
      iexact H1
    iexists _; isplitr; · ipureintro; exact h2.read_unread _
    iexact H2
  isplitl [H3]
  · iexists _; isplitr; swap; · iexact H3
    ipureintro; refine (stored _ _ corner _ _).trans ?_; frame_out
  isplitl [H4]
  · iexists _; isplitr; · ipureintro; exact e4
    iexact H4
  iexists _; isplitr; · ipureintro; exact h5.read_unread _
  iexact H5
end

/-! ## What the buffers hold -/

/-- The first point of `t`'s block row. -/
abbrev start (t : Fin cfg0.N) : Fin cfg0.N := ⟨t.val - t.val % 4, Nat.lt_of_le_of_lt (Nat.sub_le _ _) t.isLt⟩
/-- The point before. -/
abbrev prev (t : Fin cfg0.N) : Fin cfg0.N := ⟨t.val - 1, Nat.lt_of_le_of_lt (Nat.sub_le _ _) t.isLt⟩

theorem start_first (t : Fin cfg0.N) (h : t.val % 4 = 0) : start t = t := Fin.ext (by simp only [start, h, Nat.sub_zero])
theorem start_later (t : Fin cfg0.N) (h : ¬t.val % 4 = 0) : start t = start (prev t) := Fin.ext (by simp only [start, prev]; omega)

/-- The normed rows of `t`'s block row, as the scratch holds them and as the second result's block does. -/
def kept (c : Dev nD) (t : Fin cfg0.N) : Vec F S1024x1024 .bf16 := k0_pay2 (iblk m c 0 (start t)) (iblk m c 2 (start t))
def normed (c : Dev nD) (t : Fin cfg0.N) : Vec F S1024x1024 .bf16 := k0_pay3 (iblk m c 0 (start t)) (iblk m c 2 (start t))

theorem kept_first (c : Dev nD) (t : Fin cfg0.N) (h : t.val % 4 = 0) : kept m c t = k0_pay2 (iblk m c 0 t) (iblk m c 2 t) := by
  unfold kept; rw [start_first t h]
theorem normed_first (c : Dev nD) (t : Fin cfg0.N) (h : t.val % 4 = 0) : normed m c t = k0_pay3 (iblk m c 0 t) (iblk m c 2 t) := by
  unfold normed; rw [start_first t h]
theorem kept_later (c : Dev nD) (t : Fin cfg0.N) (h : ¬t.val % 4 = 0) : kept m c t = kept m c (prev t) := by
  unfold kept; rw [start_later t h]
theorem normed_later (c : Dev nD) (t : Fin cfg0.N) (h : ¬t.val % 4 = 0) : normed m c t = normed m c (prev t) := by
  unfold normed; rw [start_later t h]

/-- The scratch buffer. -/
abbrev scr : Memref sig .tc .vmem S1024x1024 .bf16 := Memref.whole cc0_scratch0

theorem scratch_any (c : Dev nD) : (Pipeline.ΦA spec0 c : sProp 𝕄)
    = iprop(iprop(∃ d, owns (c : Thread nD τ) scr fullShare d) ∗ (∃ r, prngReg c r)) := by
  unfold Pipeline.ΦA; rw [scopedRest0_eq]; simp only [scr, owns_whole]; try rfl

/-- Before the first point the scratch holds anything; after a point it holds that point's normed rows. -/
def held (c : Dev nD) : (n : ℕ) → n ≤ cfg0.N → sProp 𝕄
  | 0, _ => iprop(∃ d, owns (c : Thread nD τ) scr fullShare d)
  | n + 1, hn => owns (c : Thread nD τ) scr fullShare (kept m c ⟨n, hn⟩)

/-- The same, with the generator's register. -/
def inv (c : Dev nD) (n : ℕ) (h : n ≤ cfg0.N) : sProp 𝕄 := iprop(held m c n h ∗ (∃ r, prngReg c r))

theorem held_pos (c : Dev nD) (n : ℕ) (h : n ≤ cfg0.N) (hz : n ≠ 0) :
    held m c n h = owns (c : Thread nD τ) scr fullShare (kept m c ⟨n - 1, by omega⟩) := by
  cases n with
  | zero => exact absurd rfl hz
  | succ n => rfl

/-- Whatever the point, the scratch holds something. -/
theorem held_any (c : Dev nD) (n : ℕ) (h : n ≤ cfg0.N) : held m c n h ⊢ iprop(∃ d, owns (c : Thread nD τ) scr fullShare d) := by
  cases n with
  | zero => exact Idealize.SL.BI.Entails.refl _
  | succ n => unfold held; iintro H; iexists _; iexact H

/-- What the pipeline's buffers hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay4 (kept m c t) (iblk m c 1 t)
    | ⟨4, _⟩ => normed m c t
  Φ t := inv m c t.val (Nat.le_of_lt_succ t.isLt)
  q _ := fullShare
  owed _ := 0

theorem entry (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay4 (kept m c t) (iblk m c 1 t) := by dsimp only [dats]
theorem after4 (c : Dev nD) (t : Fin cfg0.N) : (dats m 0 c).after 4 t = normed m c t := by dsimp only [dats]

theorem before0 (c : Dev nD) (t : Fin cfg0.N) (d) : (dats m 0 c).before 0 t d = iblk m c 0 t :=
  before0_0_of m (dats m 0 c) (entry m c 0) (after0 m c) t d
theorem before1 (c : Dev nD) (t : Fin cfg0.N) (d) : (dats m 0 c).before 1 t d = iblk m c 1 t :=
  before0_1_of m (dats m 0 c) (entry m c 1) (after1 m c) t d
theorem before2 (c : Dev nD) (t : Fin cfg0.N) (d) : (dats m 0 c).before 2 t d = iblk m c 2 t :=
  before0_2_of m (dats m 0 c) (entry m c 2) (after2 m c) t d
/-- A point stores the normed rows only where it is the first of its block row. -/
theorem idle_first (t : Fin cfg0.N) (h : t.val % 4 = 0) : cfg0.idle 4 (cfg0.grid.coords t) = false := by
  show (!(k0_cond1 (grid0.coords t) == 1#1)) = false
  rw [(first_iff t).mpr h]; rfl
theorem idle_later (t : Fin cfg0.N) (h : ¬t.val % 4 = 0) : cfg0.idle 4 (cfg0.grid.coords t) = true := by
  show (!(k0_cond1 (grid0.coords t) == 1#1)) = true
  rw [Bool.not_eq_true', beq_eq_false_iff_ne]
  exact fun e => h ((first_iff t).mp e)

theorem fresh_iff (n : ℕ) (h : n ≤ cfg0.N) : cfg0.fresh 4 n = decide (n % 4 = 0) := by
  refine cfg0.fresh_tab 4 (fun n => decide (n % 4 = 0)) rfl (fun t => ?_) n h
  by_cases h3 : t.val % 4 = 3
  · rw [(flush0_4 t).mpr h3, Bool.true_or]
    exact decide_eq_true (by omega)
  · rw [Bool.eq_false_iff.mpr fun e => h3 ((flush0_4 t).mp e), Bool.false_or]
    by_cases h0 : t.val % 4 = 0
    · rw [idle_first t h0, Bool.false_and]
      exact decide_eq_false (by omega)
    · rw [show decide (t.val % 4 = 0) = false from decide_eq_false h0, Bool.and_false]
      exact decide_eq_false (by omega)

/-- The second result's block isn't written back inside a block row, so it still holds the normed rows. -/
theorem before4 (c : Dev nD) (t : Fin cfg0.N) (h : ¬t.val % 4 = 0) (d) : (dats m 0 c).before 4 t d = normed m c (prev t) := by
  rw [(dats m 0 c).before_out_traj 4 rfl (fun _ _ => rfl) (fun t _ hi _ => ?_) t.val t rfl d, fresh_iff t.val (Nat.le_of_lt t.isLt),
    if_neg (by rw [decide_eq_true_eq]; exact h)]
  · exact after4 m c (prev t)
  · rw [after4, after4]
    refine normed_later m c t fun e => ?_
    rw [idle_first t e] at hi
    exact Bool.false_ne_true hi

theorem inv_here (c : Dev nD) (t : Fin cfg0.N) :
    (dats m 0 c).Φ t.castSucc = iprop(held m c t.val (Nat.le_of_lt t.isLt) ∗ (∃ r, prngReg c r)) := by
  dsimp only [dats]; exact Pipeline.Dat.Φ_castSucc (inv m c) t
theorem inv_next (c : Dev nD) (t : Fin cfg0.N) :
    (dats m 0 c).Φ t.succ = iprop(owns (c : Thread nD τ) scr fullShare (kept m c t) ∗ (∃ r, prngReg c r)) := rfl

/-! ## What a point leaves -/

theorem leaves0 (c : Dev nD) (t : Fin cfg0.N) :
    (dats m 0 c).leavesExact 0 t = owns (c : Thread nD τ) (st0_0 t) fullShare (iblk m c 0 t) := by
  unfold Dat.leavesExact; rw [show cfg0.idle 0 (cfg0.grid.coords t) = false from rfl, after0]
theorem leaves1 (c : Dev nD) (t : Fin cfg0.N) :
    (dats m 0 c).leavesExact 1 t = owns (c : Thread nD τ) (st0_1 t) fullShare (iblk m c 1 t) := by
  unfold Dat.leavesExact; rw [show cfg0.idle 1 (cfg0.grid.coords t) = false from rfl, after1]
theorem leaves2 (c : Dev nD) (t : Fin cfg0.N) :
    (dats m 0 c).leavesExact 2 t = owns (c : Thread nD τ) (st0_2 t) fullShare (iblk m c 2 t) := by
  unfold Dat.leavesExact; rw [show cfg0.idle 2 (cfg0.grid.coords t) = false from rfl, after2]
theorem leaves3 (c : Dev nD) (t : Fin cfg0.N) :
    (dats m 0 c).leavesExact 3 t = owns (c : Thread nD τ) (st0_3 t) fullShare (k0_pay4 (kept m c t) (iblk m c 1 t)) := by
  unfold Dat.leavesExact; rw [show cfg0.idle 3 (cfg0.grid.coords t) = false from rfl, after3]
/-- With the normed rows in the second result's block, a point leaves what it should there, whether it stores them or not. -/
theorem leaves4 (c : Dev nD) (t : Fin cfg0.N) :
    owns (c : Thread nD τ) (st0_4 t) fullShare (normed m c t) ⊢ (dats m 0 c).leavesExact 4 t := by
  by_cases h : t.val % 4 = 0
  · unfold Dat.leavesExact; rw [idle_first t h, after4]
  · have hi := idle_later t h
    cases hf : (cfg0.win 4).flush t
    · rw [Dat.leavesExact_idle _ 4 t hi hf]
      simp only [before4 m c t h]
      rw [normed_later m c t h]
      iintro H; iexists (normed m c t); iexact H
    · unfold Dat.leavesExact; rw [hi, hf, after4]

/-! ## The body at a point -/

set_option maxHeartbeats 3200000 in
theorem point (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) Variants.none c none) Set.univ (bodyAt0 t) (fun _ =>
      iprop((dats m 0 c).Φ t.succ ∗ (dats m 0 c).owesAt () t.succ
      ∗ (dats m 0 c).leavesExact 0 t
      ∗ (dats m 0 c).leavesExact 1 t
      ∗ (dats m 0 c).leavesExact 2 t
      ∗ (dats m 0 c).leavesExact 3 t
      ∗ (dats m 0 c).leavesExact 4 t)) := by
  unfold bodyAt0
  simp only [before0, before1, before2]
  rw [show (dats m 0 c).owesAt () t.succ = (dats m 0 c).owesAt () t.castSucc from rfl,
    leaves0, leaves1, leaves2, leaves3, inv_here, inv_next]
  by_cases h : t.val % 4 = 0
  · have e4 := leaves4 m c t
    rw [normed_first m c t h] at e4
    rw [kept_first m c t h]
    iintro ⟨⟨H5, Hg⟩, Ho, ⟨%d0, H0⟩, ⟨%d1, H1⟩, ⟨%d2, H2⟩, ⟨%d3, H3⟩, ⟨%d4, H4⟩⟩
    iapply (first c (grid0.coords t) _ _ _ _ _ _ _ _ _ _ _ _ (iblk m c 0 t) (iblk m c 1 t) (iblk m c 2 t) ((first_iff t).mpr h) Set.univ _)
    isplitl [H0]; · iexact H0
    isplitl [H1]; · iexact H1
    isplitl [H2]; · iexact H2
    isplitl [H3]; · iexists _; iexact H3
    isplitl [H4]; · iexists _; iexact H4
    isplitl [H5]; · iapply (held_any m c _ _); iexact H5
    iintro ⟨⟨H0, H1, H2⟩, H3, H4, H5⟩
    isplitl [H5 Hg]
    · isplitl [H5]; · iexact H5
      iexact Hg
    isplitl [Ho]; · iexact Ho
    isplitl [H0]; · iexact H0
    isplitl [H1]; · iexact H1
    isplitl [H2]; · iexact H2
    isplitl [H3]; · iexact H3
    iapply e4; iexact H4
  · rw [held_pos m c t.val _ (by omega)]
    simp only [before4 m c t h]
    have e4 := leaves4 m c t
    rw [normed_later m c t h] at e4
    rw [kept_later m c t h]
    iintro ⟨⟨H5, Hg⟩, Ho, ⟨%d0, H0⟩, ⟨%d1, H1⟩, ⟨%d2, H2⟩, ⟨%d3, H3⟩, ⟨%d4, H4⟩⟩
    iapply (later c (grid0.coords t) _ _ _ _ _ _ _ _ _ _ _ _ (iblk m c 0 t) (iblk m c 1 t) (iblk m c 2 t)
      (fun e => h ((first_iff t).mp e)) _ _ Set.univ _)
    isplitl [H0]; · iexact H0
    isplitl [H1]; · iexact H1
    isplitl [H2]; · iexact H2
    isplitl [H3]; · iexists _; iexact H3
    isplitl [H4]; · iexact H4
    isplitl [H5]; · iexact H5
    iintro ⟨⟨H0, H1, H2⟩, H3, H4, H5⟩
    isplitl [H5 Hg]
    · isplitl [H5]; · iexact H5
      iexact Hg
    isplitl [Ho]; · iexact Ho
    isplitl [H0]; · iexact H0
    isplitl [H1]; · iexact H1
    isplitl [H2]; · iexact H2
    isplitl [H3]; · iexact H3
    iapply e4; iexact H4

theorem body (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (point m c t) rfl .rfl fun _ => .rfl

theorem inv_in (c : Dev nD) : Pipeline.ΦA spec0 c ⊢ (dats m 0 c).Φ 0 := by
  rw [scratch_any]
  exact Idealize.SL.BI.Entails.refl _
theorem inv_out (c : Dev nD) : (dats m 0 c).Φ (Fin.last cfg0.N) ⊢ Pipeline.ΦA spec0 c := by
  rw [scratch_any, show (dats m 0 c).Φ (Fin.last cfg0.N) = iprop(held m c cfg0.N (le_refl _) ∗ (∃ r, prngReg c r)) from rfl]
  iintro ⟨H, Hg⟩
  isplitl [H]
  · iapply (held_any m c _ _); iexact H
  iexact Hg

/-! ## The run -/

set_option backward.isDefEq.respectTransparency.types false in
theorem ran : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body m c).loose) (hshare := fun c => (dats m 0 c).share_full fun _ => rfl)
    (howed := fun _ _ => rfl) (V := V m) (hmain := hmain m Variants.none) (hA := entry m) (hin := inv_in m) (hout := inv_out m)

/-- The run leaves the arguments as they were and no semaphore counts. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (entry m) ((θ_run defs _ _).mono (fun _ h => h.1) (ran m ρ)))
    ((θ_run defs _ _).mono (fun _ h => h.2) (ran m ρ))

end Cert.Mlp1Ideal.Rows

end
-- ==== Proof.Mlp1.lean ====
/- The feed-forward layer's first product `mlp1`, with the norm before it: both results are the reference's. -/
module

public import proofs.«01_k».proof.Proof.Mlp1Rows
public import proofs.«01_k».proof.Proof.Gen.Mlp1RefIdeal.Run
public import proofs.«01_k».proof.Proof.Gen.Mlp1RefIdeal.Read
public import proofs.«01_k».proof.Defs
public import proofs.«01_k».proof.Proof.Normed
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.Mlp1Ideal.Product

open Cert.Mlp1Ideal Cert.Mlp1Ideal.Gen Cert.Mlp1Ideal.Rows
open Cert.Mlp1RefIdeal.Read Cert.Normed

variable (m : (ℓ : Loc nD τ sig) → Buf (Elt Ideal) ℓ) (c : Dev nD)

theorem idx : ∀ t : Fin cfg0.N, win0_0.index t = ![t.val / 4, 0] ∧ win0_1.index t = ![0, t.val % 4] ∧ win0_2.index t = ![0, 0]
    ∧ win0_3.index t = ![t.val / 4, t.val % 4] ∧ win0_4.index t = ![t.val / 4, 0] :=
  (by decide +kernel : ∀ t : Fin grid0.N, _)

theorem entry1 : (V m c main_v0 : FVec Ideal S1024x4096 .bf16) = (m ((c : Thread nD τ).loc main_arg2) : FVec Ideal S1024x4096 .f32) := rfl

/-- The normed rows. -/
abbrev rows (X : FVec Ideal S4096x1024 .f32) (G : FVec Ideal S1x1024 .f32) : FVec Ideal S4096x1024 .bf16 := val_main_v14 (F := Ideal) X G
/-- Their product with the weight. -/
abbrev layer (X : FVec Ideal S4096x1024 .f32) (G : FVec Ideal S1x1024 .f32) (W : FVec Ideal S1024x4096 .f32) : FVec Ideal S4096x4096 .bf16 := val_main_v13 (F := Ideal) X G W

theorem norm_at (x : Vec Ideal S1024x1024 .f32) (g : Vec Ideal S1x1024 .f32) (r : Fin 1024) (k : Fin 1024) :
    k0_pay3 x g (ix2 r k) = nrm (Ideal.ofBits .f32 0x44800000#32) (fun k => x (ix2 r k)) (fun k => g (ix2 0 k)) k := by
  pointwise [k0_pay3, k0_pay1]

theorem pay_at (x : Vec Ideal S1024x1024 .f32) (g : Vec Ideal S1x1024 .f32) (w : Vec Ideal S1024x1024 .bf16) (r : Fin 1024) (j : Fin 1024) :
    k0_pay4 (k0_pay2 x g) w (ix2 r j) = (∑ k, nrm (Ideal.ofBits .f32 0x44800000#32) (fun k => x (ix2 r k)) (fun k => g (ix2 0 k)) k * w (ix2 k j)) := by
  pointwise [k0_pay4, k0_pay2, k0_pay1]

theorem rows_at (X : FVec Ideal S4096x1024 .f32) (G : FVec Ideal S1x1024 .f32) (r : Fin 4096) (k : Fin 1024) :
    rows X G (ix2 r k) = nrm (Ideal.ofBits .f32 0x44800000#32) (fun k => X (ix2 r k)) (fun k => G (ix2 0 k)) k := by
  pointwise [rows, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14]

theorem layer_at (X : FVec Ideal S4096x1024 .f32) (G : FVec Ideal S1x1024 .f32) (W : FVec Ideal S1024x4096 .f32) (r : Fin 4096) (j : Fin 4096) :
    layer X G W (ix2 r j) = (∑ k, nrm (Ideal.ofBits .f32 0x44800000#32) (fun k => X (ix2 r k)) (fun k => G (ix2 0 k)) k * W (ix2 k j)) := by
  pointwise [layer, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14]

section
variable (t : Fin cfg0.N)

theorem bound : t.val < 16 := lt_of_lt_of_eq t.isLt N_0

/-- Row `r` and column `j` of point `t`'s block. -/
abbrev row' (r : Fin 1024) : Fin 4096 := ⟨t.val / 4 * 1024 + r.val, by have := bound t; omega⟩
abbrev col' (j : Fin 1024) : Fin 4096 := ⟨t.val % 4 * 1024 + j.val, by omega⟩

theorem row_start (r : Fin 1024) : row' (start t) r = row' t r := by
  have : (t.val - t.val % 4) / 4 = t.val / 4 := by omega
  simp only [row', start, this]

theorem b0 (r : Fin 1024) (k : Fin 1024) :
    (iblk m c 0 t : FVec Ideal S1024x1024 .f32) (ix2 r k) = (m ((c : Thread nD τ).loc main_arg0) : FVec Ideal S4096x1024 .f32) (ix2 (row' t r) k) := by
  blk_ext [iblk, V_main_arg0, idx t]
theorem b1 (k : Fin 1024) (j : Fin 1024) :
    (iblk m c 1 t : FVec Ideal S1024x1024 .bf16) (ix2 k j) = (m ((c : Thread nD τ).loc main_arg2) : FVec Ideal S1024x4096 .f32) (ix2 k (col' t j)) := by
  blk_ext [iblk, entry1, idx t]
theorem b2 (k : Fin 1024) :
    (iblk m c 2 t : FVec Ideal S1x1024 .f32) (ix2 0 k) = (m ((c : Thread nD τ).loc main_arg1) : FVec Ideal S1x1024 .f32) (ix2 0 k) := by
  blk_ext [iblk, V_main_arg1, idx t]

theorem place3 (r : Fin 1024) (j : Fin 1024) : ((cfg0.win 3).blk t).view.emb (ix2 r j) = ix2 (row' t r) (col' t j) := by
  blk_ext [idx t]
theorem place4 (r : Fin 1024) (k : Fin 1024) : ((cfg0.win 4).blk t).view.emb (ix2 r k) = ix2 (row' t r) k := by
  blk_ext [idx t]

theorem point3 (r : Fin 1024) (j : Fin 1024) : k0_pay4 (kept m c t) (iblk m c 1 t) (ix2 r j)
    = layer (m ((c : Thread nD τ).loc main_arg0)) (m ((c : Thread nD τ).loc main_arg1)) (m ((c : Thread nD τ).loc main_arg2)) (ix2 (row' t r) (col' t j)) := by
  unfold kept
  rw [pay_at, layer_at]
  simp only [b0, b1, b2, row_start]
theorem point4 (r : Fin 1024) (k : Fin 1024) : normed m c t (ix2 r k)
    = rows (m ((c : Thread nD τ).loc main_arg0)) (m ((c : Thread nD τ).loc main_arg1)) (ix2 (row' t r) k) := by
  unfold normed
  rw [norm_at, rows_at]
  simp only [b0, b2, row_start]
end

theorem final3 : (dats m 0 c).arrAt 3 cfg0.N
    = layer (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, j, rfl⟩ : ∃ r j, y = ix2 r j := ⟨_, _, eq_ix2 y⟩
  rw [place3]
  blk_simp
  rw [after3]
  exact point3 m c t r j

theorem final4 : (dats m 0 c).arrAt 4 cfg0.N
    = rows (m ((c : Thread nD τ).loc main_arg0)) (m ((c : Thread nD τ).loc main_arg1)) := by
  refine (dats m 0 c).arrAt_eq_of_covers 4 _ (by decide +kernel) fun t _ y => ?_
  obtain ⟨r, k, rfl⟩ : ∃ r k, y = ix2 r k := ⟨_, _, eq_ix2 y⟩
  rw [place4]
  blk_simp
  rw [after4]
  exact point4 m c t r k

/-- The run, with both results named and the arguments as they were. -/
theorem run_blocks (ρ : Dev nD → PrngReg) : θ_run defs (onTc (τ := τ) (main (F := Ideal))) ⟨m, fun _ => 0, ρ⟩ fun r => ∀ c : Dev nD,
      r.2.mem ((c : Thread nD τ).loc main_v1_0) = (dats m 0 c).arrAt 3 cfg0.N
      ∧ r.2.mem ((c : Thread nD τ).loc main_v1_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.2.1 c).1 3, (h.2.1 c).1 4, h.1.1 c⟩) (θ_run_and (frame m ρ) (ran m ρ))

theorem equal : Cert.algebraic_Mlp1Ideal_Mlp1RefIdeal
    (hMlp1Ideal := Cert.Mlp1Ideal.Gen.facts) (hMlp1RefIdeal := Cert.Mlp1RefIdeal.Gen.facts) := by
  intro m g m' g' _ hagree
  refine ⟨fun c => layer (m ((c : Thread nD τ).loc main_arg0)) (m ((c : Thread nD τ).loc main_arg1)) (m ((c : Thread nD τ).loc main_arg2)),
    fun c => rows (m ((c : Thread nD τ).loc main_arg0)) (m ((c : Thread nD τ).loc main_arg1)), ?_, ?_⟩
  · exact (θ_run _ _ _).mono (fun r h c => ⟨(h c).1.trans (final3 m c), (h c).2.1.trans (final4 m c), (h c).2.2⟩) (run_blocks m g)
  · refine (θ_run _ _ _).mono (fun r h c => ?_) (Cert.Mlp1RefIdeal.Value.run (F := Ideal) m' g')
    obtain ⟨e0, e1, e2⟩ := hagree c
    refine ⟨(h c).1.trans ?_, (h c).2.1.trans ?_, (h c).2.2⟩
    · rw [val_main_v13_eq, e0, e1, e2]
    · rw [val_main_v14_eq, e0, e1]

/-- The reference terminates with its arguments unchanged; it has no semaphores. -/
theorem ref_frame : Cert.quiescent_Mlp1RefIdeal (hMlp1RefIdeal := Cert.Mlp1RefIdeal.Gen.facts) :=
  fun m ρ _ => (θ_run _ _ _).mono (fun r h => ⟨fun c => (h c).2.2, sem_eq_zero_of_no_sems rfl r.2⟩)
    (Cert.Mlp1RefIdeal.Value.run (F := Ideal) m ρ)

end Cert.Mlp1Ideal.Product

end
-- ==== Proof.Mlp1Frame.lean ====
/- The frame of the feed-forward layer's first product: its text is the ideal program's, so one run gives both. -/
module

public import proofs.«01_k».proof.Proof.Mlp1Rows
public import proofs.«01_k».proof.Proof.Gen.Mlp1.Frame
public import proofs.«01_k».proof.Defs

@[expose] public section

set_option maxRecDepth 16384

noncomputable section

namespace Cert.Mlp1.Rows

open Idealize.ShloMosaic Idealize.SL.Sem

/-- The two programs' body tables are one. -/
theorem table : (Cert.Mlp1Ideal.defs₀ : Defs nD τ sig (Elt Bits) Λ₀) = Cert.Mlp1.defs₀ := by
  unfold Cert.Mlp1Ideal.defs₀ Cert.Mlp1.defs₀
  refine congrArg Defs.onTc (funext fun l => funext fun x => ?_)
  match l, x with
  | ⟨0, _⟩, (t, s) => rfl
  | ⟨n + 1, h⟩, _ => exact absurd h (by omega)

theorem tables : Cert.Mlp1Ideal.defs (F := Bits) = Cert.Mlp1.defs (F := Bits) :=
  congrArg (Pipeline.defs (pcfgs (F := Bits))) table

theorem frame : Cert.quiescent_Mlp1 (hMlp1 := Cert.Mlp1.Gen.facts) := fun m ρ _ => by
  rw [← tables]
  exact Cert.Mlp1Ideal.Rows.frame (F := Bits) m ρ

theorem frame_ideal : Cert.quiescent_Mlp1Ideal (hMlp1Ideal := Cert.Mlp1Ideal.Gen.facts) := fun m ρ _ =>
  Cert.Mlp1Ideal.Rows.frame (F := Ideal) m ρ

end Cert.Mlp1.Rows

end
-- ==== Proof.DMerge.lean ====
/- The call `d_merge`, the gradient through the branches' gates: its eight results are the reference's. -/
module

public import proofs.«01_k».proof.Proof.Gen.DMergeIdeal.Value
public import proofs.«01_k».proof.Proof.Gen.DMergeRefIdeal.Run
public import proofs.«01_k».proof.Proof.Gen.DMergeRefIdeal.Read
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.DMergeIdeal.Product

open Cert.DMergeIdeal Cert.DMergeIdeal.Gen Cert.DMergeIdeal.Value
open Cert.DMergeRefIdeal.Read

/-! ### Arrays of three thirds of 1024 columns -/

section
variable {n : ℕ}

/-- Column `j` of the third that starts at `o`. -/
abbrev at_ (o : ℕ) (ho : o ≤ 2048) (j : Fin 1024) : Fin 3072 := ⟨o + j.val, by omega⟩

theorem thirds (P : Fin 3072 → Prop) (h0 : ∀ j, P (at_ 0 (by decide) j)) (h1 : ∀ j, P (at_ 1024 (by decide) j))
    (h2 : ∀ j, P (at_ 2048 (by decide) j)) (y : Fin 3072) : P y := by
  rcases Nat.lt_or_ge y.val 1024 with h | h
  · exact (Fin.ext (Nat.zero_add _) : at_ 0 (by decide) ⟨y.val, h⟩ = y) ▸ h0 ⟨y.val, h⟩
  · rcases Nat.lt_or_ge y.val 2048 with h' | h'
    · exact (Fin.ext (by show 1024 + (y.val - 1024) = y.val; omega) : at_ 1024 (by decide) ⟨y.val - 1024, by omega⟩ = y) ▸ h1 _
    · exact (Fin.ext (by show 2048 + (y.val - 2048) = y.val; omega) : at_ 2048 (by decide) ⟨y.val - 2048, by omega⟩ = y) ▸ h2 _

section
variable {α : Type} (x0 x1 x2 : (⟨2, ![n, 1024]⟩ : Shape).Idx → α)
  (h : Shape.Concatenates [(⟨2, ![n, 1024]⟩ : Shape), ⟨2, ![n, 1024]⟩, ⟨2, ![n, 1024]⟩] (⟨2, ![n, 3072]⟩ : Shape) 1) (r : Fin n) (j : Fin 1024)

theorem concat1 : concatenate (⟨2, ![n, 3072]⟩ : Shape) 1 [⟨⟨2, ![n, 1024]⟩, x0⟩, ⟨⟨2, ![n, 1024]⟩, x1⟩, ⟨⟨2, ![n, 1024]⟩, x2⟩] h
    (ix2 r (at_ 0 (by decide) j)) = x0 (ix2 r j) := by
  refine concatenate_apply_piece (t := (⟨2, ![n, 3072]⟩ : Shape)) (1 : Fin 2)
    [⟨⟨2, ![n, 1024]⟩, x0⟩, ⟨⟨2, ![n, 1024]⟩, x1⟩, ⟨⟨2, ![n, 1024]⟩, x2⟩] h _ 0 (by simp) (⟨2, ![n, 1024]⟩ : Shape) x0 rfl rfl 0 rfl
    (ix2 r j) (fun b hb => ?_) rfl
  match b with
  | ⟨0, _⟩ => rfl
  | ⟨1, _⟩ => exact absurd rfl hb
theorem concat2 : concatenate (⟨2, ![n, 3072]⟩ : Shape) 1 [⟨⟨2, ![n, 1024]⟩, x0⟩, ⟨⟨2, ![n, 1024]⟩, x1⟩, ⟨⟨2, ![n, 1024]⟩, x2⟩] h
    (ix2 r (at_ 1024 (by decide) j)) = x1 (ix2 r j) := by
  refine concatenate_apply_piece (t := (⟨2, ![n, 3072]⟩ : Shape)) (1 : Fin 2)
    [⟨⟨2, ![n, 1024]⟩, x0⟩, ⟨⟨2, ![n, 1024]⟩, x1⟩, ⟨⟨2, ![n, 1024]⟩, x2⟩] h _ 1 (by simp) (⟨2, ![n, 1024]⟩ : Shape) x1 rfl rfl 1024 rfl
    (ix2 r j) (fun b hb => ?_) rfl
  match b with
  | ⟨0, _⟩ => rfl
  | ⟨1, _⟩ => exact absurd rfl hb
theorem concat3 : concatenate (⟨2, ![n, 3072]⟩ : Shape) 1 [⟨⟨2, ![n, 1024]⟩, x0⟩, ⟨⟨2, ![n, 1024]⟩, x1⟩, ⟨⟨2, ![n, 1024]⟩, x2⟩] h
    (ix2 r (at_ 2048 (by decide) j)) = x2 (ix2 r j) := by
  refine concatenate_apply_piece (t := (⟨2, ![n, 3072]⟩ : Shape)) (1 : Fin 2)
    [⟨⟨2, ![n, 1024]⟩, x0⟩, ⟨⟨2, ![n, 1024]⟩, x1⟩, ⟨⟨2, ![n, 1024]⟩, x2⟩] h _ 2 (by simp) (⟨2, ![n, 1024]⟩ : Shape) x2 rfl rfl 2048 rfl
    (ix2 r j) (fun b hb => ?_) rfl
  match b with
  | ⟨0, _⟩ => rfl
  | ⟨1, _⟩ => exact absurd rfl hb
end

variable {Val : EltTy → Type} [∀ e, Nonempty (Val e)] {e : EltTy}

/-- A third stored last is read there. -/
theorem canon_here {o : ℕ} (ho : o ≤ 2048) (inb : ∀ a, (![0, o] : Fin 2 → ℕ) a + (![n, 1024] : Fin 2 → ℕ) a ≤ (⟨2, ![n, 3072]⟩ : Shape).size a)
    (w : (⟨2, ![n, 1024]⟩ : Shape).Idx → Val e) (L : List (View.Piece Val (⟨2, ![n, 3072]⟩ : Shape) e)) (r : Fin n) (j : Fin 1024) :
    View.canon ((⟨Rect.unit (s := (⟨2, ![n, 3072]⟩ : Shape)) ![0, o] ![n, 1024] inb, w⟩ : View.Piece Val (⟨2, ![n, 3072]⟩ : Shape) e) :: L)
      (ix2 r (at_ o ho j)) = w (ix2 r j) := by
  have e : (ix2 r (at_ o ho j) : (⟨2, ![n, 3072]⟩ : Shape).Idx)
      = (Rect.unit (s := (⟨2, ![n, 3072]⟩ : Shape)) ![0, o] ![n, 1024] inb).emb (ix2 r j) := by
    funext a
    refine Fin.ext ?_
    refine Eq.trans ?_ (Rect.idx_unit_val _ _ inb (ix2 r j) a).symm
    match a with
    | ⟨0, _⟩ => exact (Nat.zero_add _).symm
    | ⟨1, _⟩ => rfl
  rw [e]
  exact View.canon_cons_emb _ _ _ _

/-- A third stored last does not show in the others. -/
theorem canon_past {o : ℕ} (inb : ∀ a, (![0, o] : Fin 2 → ℕ) a + (![n, 1024] : Fin 2 → ℕ) a ≤ (⟨2, ![n, 3072]⟩ : Shape).size a)
    (w : (⟨2, ![n, 1024]⟩ : Shape).Idx → Val e) (L : List (View.Piece Val (⟨2, ![n, 3072]⟩ : Shape) e)) (r : Fin n)
    {o' : ℕ} (ho : o' ≤ 2048) (j : Fin 1024) (h : o' + 1024 ≤ o ∨ o + 1024 ≤ o') :
    View.canon ((⟨Rect.unit (s := (⟨2, ![n, 3072]⟩ : Shape)) ![0, o] ![n, 1024] inb, w⟩ : View.Piece Val (⟨2, ![n, 3072]⟩ : Shape) e) :: L)
      (ix2 r (at_ o' ho j)) = View.canon L (ix2 r (at_ o' ho j)) := by
  refine View.canon_cons_of_not_mem _ _ fun hm => ?_
  have := (Rect.mem_set_unit (s := (⟨2, ![n, 3072]⟩ : Shape)) (off := ![0, o]) (size := ![n, 1024]) (inb := inb)).1 hm (1 : Fin 2)
  have a : o ≤ o' + j.val := this.1
  have b : o' + j.val < o + 1024 := this.2
  have := j.isLt
  omega

variable {sg : RefSig} {κ : Kind} {sp : Space} (v : View sg κ sp (⟨2, ![n, 3072]⟩ : Shape) e)
/-- Nor in a load of another. -/
theorem readCov_past {o o' : ℕ} (inb : ∀ a, (![0, o] : Fin 2 → ℕ) a + (![n, 1024] : Fin 2 → ℕ) a ≤ (⟨2, ![n, 3072]⟩ : Shape).size a)
    (inb' : ∀ a, (![0, o'] : Fin 2 → ℕ) a + (![n, 1024] : Fin 2 → ℕ) a ≤ (⟨2, ![n, 3072]⟩ : Shape).size a)
    (w : (⟨2, ![n, 1024]⟩ : Shape).Idx → Val e) (L : List (View.Piece Val (⟨2, ![n, 3072]⟩ : Shape) e)) (h : o + 1024 ≤ o' ∨ o' + 1024 ≤ o) :
    v.readCov ((⟨Rect.unit (s := (⟨2, ![n, 3072]⟩ : Shape)) ![0, o] ![n, 1024] inb, w⟩ : View.Piece Val (⟨2, ![n, 3072]⟩ : Shape) e) :: L)
        (Rect.unit (s := (⟨2, ![n, 3072]⟩ : Shape)) ![0, o'] ![n, 1024] inb').toLoadRect
      = v.readCov L (Rect.unit (s := (⟨2, ![n, 3072]⟩ : Shape)) ![0, o'] ![n, 1024] inb').toLoadRect :=
  View.readCov_cons_of_disjoint v _ L _ (Rect.unit_disjoint (inb := inb) (inb' := inb') 1 h)
/-- A load of what one store filled. -/
theorem readCov_all {o' : ℕ} (inb : ∀ a, (![0, 0] : Fin 2 → ℕ) a + (![n, 3072] : Fin 2 → ℕ) a ≤ (⟨2, ![n, 3072]⟩ : Shape).size a)
    (inb' : ∀ a, (![0, o'] : Fin 2 → ℕ) a + (![n, 1024] : Fin 2 → ℕ) a ≤ (⟨2, ![n, 3072]⟩ : Shape).size a)
    (Z : (⟨2, ![n, 3072]⟩ : Shape).Idx → Val e) (L : List (View.Piece Val (⟨2, ![n, 3072]⟩ : Shape) e)) :
    v.readCov ((⟨Rect.unit (s := (⟨2, ![n, 3072]⟩ : Shape)) ![0, 0] ![n, 3072] inb, Z⟩ : View.Piece Val (⟨2, ![n, 3072]⟩ : Shape) e) :: L)
        (Rect.unit (s := (⟨2, ![n, 3072]⟩ : Shape)) ![0, o'] ![n, 1024] inb').toLoadRect
      = View.ld Z (Rect.unit (s := (⟨2, ![n, 3072]⟩ : Shape)) ![0, o'] ![n, 1024] inb') :=
  View.readCov_fill v inb Z L _ fun a => match a with
    | ⟨0, _⟩ => rfl
    | ⟨1, _⟩ => rfl

/-- A third loaded. -/
theorem ld_third {o : ℕ} (ho : o ≤ 2048) (inb : ∀ a, (![0, o] : Fin 2 → ℕ) a + (![n, 1024] : Fin 2 → ℕ) a ≤ (⟨2, ![n, 3072]⟩ : Shape).size a)
    (X : (⟨2, ![n, 3072]⟩ : Shape).Idx → Val e) (r : Fin n) (j : Fin 1024) :
    View.ld X (Rect.unit (s := (⟨2, ![n, 3072]⟩ : Shape)) ![0, o] ![n, 1024] inb) (ix2 r j) = X (ix2 r (at_ o ho j)) := by
  refine View.ld_unit_apply_of X _ _ inb _ _ fun a => ?_
  match a with
  | ⟨0, _⟩ => exact (Nat.zero_add _).symm
  | ⟨1, _⟩ => rfl
end

/-! ### The body's values and the reference's, at an index -/

/-- A gate. -/
abbrev gate (z b : EReal) : EReal := Ideal.div 1 (1 + Ideal.exp (-(z + b)))
/-- A gate's argument's gradient. -/
abbrev slope (d u g : EReal) : EReal := d * u * g * (1 - g)

theorem slope_eq (d u g : EReal) : d * u * (g * (1 - g)) = slope d u g := (mul_assoc _ _ _).symm

section
variable (d : Vec Ideal S512x1024 .bf16) (z : Vec Ideal S512x1024 .f32) (b : Vec Ideal S1x1024 .f32)
  (x : Vec Ideal S512x256 .bf16) (w : Vec Ideal S256x1024 .bf16) (x' : Vec Ideal S512x512 .bf16) (w' : Vec Ideal S512x1024 .bf16)
  (acc : Vec Ideal S1x1024 .f32) (r : Fin 512) (j : Fin 1024)

theorem pay7_at : k0_pay7 d z b (ix2 r j) = gate (z (ix2 r j)) (b (ix2 0 j)) * d (ix2 r j) := by
  pointwise [k0_pay7, k0_pay5, k0_pay6]
  simp only [zero_sub, mul_comm]
theorem pay14_at : k0_pay14 (k0_pay5 d) z b (ix2 r j) = gate (z (ix2 r j)) (b (ix2 0 j)) * d (ix2 r j) := by
  pointwise [k0_pay14, k0_pay5, k0_pay13]
  simp only [zero_sub, mul_comm]
theorem pay21_at : k0_pay21 (k0_pay5 d) z b (ix2 r j) = gate (z (ix2 r j)) (b (ix2 0 j)) * d (ix2 r j) := by
  pointwise [k0_pay21, k0_pay5, k0_pay20]
  simp only [zero_sub, mul_comm]
theorem pay8_at (k : Fin 256) : k0_pay8 d z b w (ix2 r k) = ∑ j, gate (z (ix2 r j)) (b (ix2 0 j)) * d (ix2 r j) * w (ix2 k j) := by
  refine Eq.trans ?_ (Finset.sum_congr rfl fun j _ => congrArg (· * w (ix2 k j)) (pay7_at d z b r j))
  pointwise [k0_pay8]
theorem pay15_at (k : Fin 512) : k0_pay15 (k0_pay5 d) z b w' (ix2 r k) = ∑ j, gate (z (ix2 r j)) (b (ix2 0 j)) * d (ix2 r j) * w' (ix2 k j) := by
  refine Eq.trans ?_ (Finset.sum_congr rfl fun j _ => congrArg (· * w' (ix2 k j)) (pay14_at d z b r j))
  pointwise [k0_pay15]
theorem pay22_at (k : Fin 256) : k0_pay22 (k0_pay5 d) z b w (ix2 r k) = ∑ j, gate (z (ix2 r j)) (b (ix2 0 j)) * d (ix2 r j) * w (ix2 k j) := by
  refine Eq.trans ?_ (Finset.sum_congr rfl fun j _ => congrArg (· * w (ix2 k j)) (pay21_at d z b r j))
  pointwise [k0_pay22]

/-- The first branch's part of the gates' gradient. -/
abbrev part1 : FVec Ideal S512x1024 .f32 := k0_pay10 (k0_pay6 z b) (k0_pay9 d z b x w) (FloatOps.ofBits .f32 0x3F800000#32)
/-- The second branch's. -/
abbrev part2 : FVec Ideal S512x1024 .f32 := k0_pay17 (k0_pay5 d) (k0_pay13 z b) (k0_pay16 x') w'
/-- The third branch's. -/
abbrev part3 : FVec Ideal S512x1024 .f32 := k0_pay1 (k0_pay5 d) (k0_pay20 z b) x w

theorem part1_at : part1 d z b x w (ix2 r j)
    = slope (d (ix2 r j)) (∑ k, x (ix2 r k) * w (ix2 k j)) (gate (z (ix2 r j)) (b (ix2 0 j))) := by
  pointwise [part1, k0_pay10, k0_pay9, k0_pay6, k0_pay5]
  simp only [zero_sub]
theorem part2_at : part2 d z b x' w' (ix2 r j)
    = slope (d (ix2 r j)) (∑ k, x' (ix2 r k) * w' (ix2 k j)) (gate (z (ix2 r j)) (b (ix2 0 j))) := by
  pointwise [part2, k0_pay17, k0_pay16, k0_pay13, k0_pay5]
  simp only [zero_sub]
theorem part3_at : part3 d z b x w (ix2 r j)
    = slope (d (ix2 r j)) (∑ k, x (ix2 r k) * w (ix2 k j)) (gate (z (ix2 r j)) (b (ix2 0 j))) := by
  pointwise [part3, k0_pay1, k0_pay20, k0_pay5]
  simp only [zero_sub]

variable (g v : FVec Ideal S512x1024 .f32) (one : Ideal .f32)
theorem pay11_at : k0_pay11 g v one (ix2 r j) = k0_pay10 g v one (ix2 r j) := by pointwise [k0_pay11]
theorem pay18_at : k0_pay18 g v x' w' (ix2 r j) = k0_pay17 g v x' w' (ix2 r j) := by pointwise [k0_pay18]
theorem pay2_at : k0_pay2 g v x w (ix2 r j) = k0_pay1 g v x w (ix2 r j) := by pointwise [k0_pay2]
theorem pay12_at : k0_pay12 g v one acc (ix2 0 j) = acc (ix2 0 j) + ∑ r : Fin 512, k0_pay10 g v one (ix2 r j) := by pointwise [k0_pay12]
theorem pay19_at : k0_pay19 g v x' w' acc (ix2 0 j) = acc (ix2 0 j) + ∑ r : Fin 512, k0_pay17 g v x' w' (ix2 r j) := by pointwise [k0_pay19]
theorem pay3_at : k0_pay3 g v x w acc (ix2 0 j) = acc (ix2 0 j) + ∑ r : Fin 512, k0_pay1 g v x w (ix2 r j) := by pointwise [k0_pay3]
theorem pay4_at (y : S1x3072.Idx) : k0_pay4 (F := Ideal) y = 0 := by pointwise [k0_pay4]
end

section
variable (D : FVec Ideal S4096x1024 .f32) (Z : FVec Ideal S4096x3072 .f32) (B : FVec Ideal S1x3072 .f32)
  (X1 : FVec Ideal S4096x256 .f32) (X2 : FVec Ideal S4096x512 .f32) (X3 : FVec Ideal S4096x256 .f32)
  (W1 : FVec Ideal S256x1024 .f32) (W2 : FVec Ideal S512x1024 .f32) (W3 : FVec Ideal S256x1024 .f32)

/-- The gates' arguments' gradient. -/
abbrev gates : FVec Ideal S4096x3072 .f32 := val_main_v71 (F := Ideal) D Z B X1 X2 X3 W1 W2 W3
/-- The biases' gradient. -/
abbrev biases : FVec Ideal S1x3072 .f32 := val_main_v73 (F := Ideal) D Z B X1 X2 X3 W1 W2 W3

theorem up1_at (R : Fin 4096) (j : Fin 1024) : val_main_v66 (F := Ideal) D Z B (ix2 R j) = gate (Z (ix2 R (at_ 0 (by decide) j))) (B (ix2 0 (at_ 0 (by decide) j))) * D (ix2 R j) := by
  pointwise [val_main_v66, val_main_v19, val_main_v0, val_main_v3, val_main_v6, val_main_v7, val_main_v8, val_main_v9, val_main_v10, val_main_v11, val_main_v12, val_main_v13, val_main_v14, val_main_cst, val_main_cst_0]
  all_goals simp only [at_, Nat.zero_add]
theorem out1_at (R : Fin 4096) (k : Fin 256) : val_main_v69 (F := Ideal) D Z B W1 (ix2 R k)
    = ∑ j, gate (Z (ix2 R (at_ 0 (by decide) j))) (B (ix2 0 (at_ 0 (by decide) j))) * D (ix2 R j) * W1 (ix2 k j) := by
  refine Eq.trans ?_ (Finset.sum_congr rfl fun j _ => congrArg (· * W1 (ix2 k j)) (up1_at D Z B R j))
  pointwise [val_main_v69, val_main_v61, val_main_v66]
theorem gates1_at (R : Fin 4096) (j : Fin 1024) : gates D Z B X1 X2 X3 W1 W2 W3 (ix2 R (at_ 0 (by decide) j))
    = slope (D (ix2 R j)) (∑ k, X1 (ix2 R k) * W1 (ix2 k j)) (gate (Z (ix2 R (at_ 0 (by decide) j))) (B (ix2 0 (at_ 0 (by decide) j)))) := by
  refine Eq.trans (b := val_main_v21 (F := Ideal) D Z B X1 W1 (ix2 R j)) ?_ ?_
  · exact concat1 _ _ _ _ R j
  · rw [← slope_eq]
    pointwise [val_main_v15, val_main_v16, val_main_v17, val_main_v18, val_main_v19, val_main_v20, val_main_v21, val_main_v0, val_main_v3, val_main_v6, val_main_v7, val_main_v8, val_main_v9, val_main_v10, val_main_v11, val_main_v12, val_main_v13, val_main_v14, val_main_cst, val_main_cst_0, val_main_cst_1]
    all_goals simp only [at_, Nat.zero_add]
theorem biases1_at (j : Fin 1024) : biases D Z B X1 X2 X3 W1 W2 W3 (ix2 0 (at_ 0 (by decide) j))
    = ∑ R : Fin 4096, gates D Z B X1 X2 X3 W1 W2 W3 (ix2 R (at_ 0 (by decide) j)) := by
  have e : ∀ R : Fin 4096, gates D Z B X1 X2 X3 W1 W2 W3 (ix2 R (at_ 0 (by decide) j)) = val_main_v21 (F := Ideal) D Z B X1 W1 (ix2 R j) :=
    fun R => concat1 _ _ _ _ R j
  refine Eq.trans (b := val_main_v23 (F := Ideal) D Z B X1 W1 (ix2 0 j)) ?_ ?_
  · exact concat1 _ _ _ _ 0 j
  · simp only [e]
    pointwise [val_main_v22, val_main_v23, val_main_cst_2]
theorem up2_at (R : Fin 4096) (j : Fin 1024) : val_main_v67 (F := Ideal) D Z B (ix2 R j) = gate (Z (ix2 R (at_ 1024 (by decide) j))) (B (ix2 0 (at_ 1024 (by decide) j))) * D (ix2 R j) := by
  pointwise [val_main_v67, val_main_v37, val_main_v1, val_main_v4, val_main_v24, val_main_v25, val_main_v26, val_main_v27, val_main_v28, val_main_v29, val_main_v30, val_main_v31, val_main_v32, val_main_cst_3, val_main_cst_4]
  all_goals simp only [at_, Nat.zero_add]
theorem out2_at (R : Fin 4096) (k : Fin 512) : val_main_v63 (F := Ideal) D Z B W2 (ix2 R k)
    = ∑ j, gate (Z (ix2 R (at_ 1024 (by decide) j))) (B (ix2 0 (at_ 1024 (by decide) j))) * D (ix2 R j) * W2 (ix2 k j) := by
  refine Eq.trans ?_ (Finset.sum_congr rfl fun j _ => congrArg (· * W2 (ix2 k j)) (up2_at D Z B R j))
  pointwise [val_main_v63, val_main_v67]
theorem gates2_at (R : Fin 4096) (j : Fin 1024) : gates D Z B X1 X2 X3 W1 W2 W3 (ix2 R (at_ 1024 (by decide) j))
    = slope (D (ix2 R j)) (∑ k, X2 (ix2 R k) * W2 (ix2 k j)) (gate (Z (ix2 R (at_ 1024 (by decide) j))) (B (ix2 0 (at_ 1024 (by decide) j)))) := by
  refine Eq.trans (b := val_main_v39 (F := Ideal) D Z B X2 W2 (ix2 R j)) ?_ ?_
  · exact concat2 _ _ _ _ R j
  · rw [← slope_eq]
    pointwise [val_main_v33, val_main_v34, val_main_v35, val_main_v36, val_main_v37, val_main_v38, val_main_v39, val_main_v1, val_main_v4, val_main_v24, val_main_v25, val_main_v26, val_main_v27, val_main_v28, val_main_v29, val_main_v30, val_main_v31, val_main_v32, val_main_cst_3, val_main_cst_4, val_main_cst_5]
    all_goals simp only [at_, Nat.zero_add]
theorem biases2_at (j : Fin 1024) : biases D Z B X1 X2 X3 W1 W2 W3 (ix2 0 (at_ 1024 (by decide) j))
    = ∑ R : Fin 4096, gates D Z B X1 X2 X3 W1 W2 W3 (ix2 R (at_ 1024 (by decide) j)) := by
  have e : ∀ R : Fin 4096, gates D Z B X1 X2 X3 W1 W2 W3 (ix2 R (at_ 1024 (by decide) j)) = val_main_v39 (F := Ideal) D Z B X2 W2 (ix2 R j) :=
    fun R => concat2 _ _ _ _ R j
  refine Eq.trans (b := val_main_v41 (F := Ideal) D Z B X2 W2 (ix2 0 j)) ?_ ?_
  · exact concat2 _ _ _ _ 0 j
  · simp only [e]
    pointwise [val_main_v40, val_main_v41, val_main_cst_6]
theorem up3_at (R : Fin 4096) (j : Fin 1024) : val_main_v68 (F := Ideal) D Z B (ix2 R j) = gate (Z (ix2 R (at_ 2048 (by decide) j))) (B (ix2 0 (at_ 2048 (by decide) j))) * D (ix2 R j) := by
  pointwise [val_main_v68, val_main_v55, val_main_v2, val_main_v5, val_main_v42, val_main_v43, val_main_v44, val_main_v45, val_main_v46, val_main_v47, val_main_v48, val_main_v49, val_main_v50, val_main_cst_7, val_main_cst_8]
  all_goals simp only [at_, Nat.zero_add]
theorem out3_at (R : Fin 4096) (k : Fin 256) : val_main_v70 (F := Ideal) D Z B W3 (ix2 R k)
    = ∑ j, gate (Z (ix2 R (at_ 2048 (by decide) j))) (B (ix2 0 (at_ 2048 (by decide) j))) * D (ix2 R j) * W3 (ix2 k j) := by
  refine Eq.trans ?_ (Finset.sum_congr rfl fun j _ => congrArg (· * W3 (ix2 k j)) (up3_at D Z B R j))
  pointwise [val_main_v70, val_main_v65, val_main_v68]
theorem gates3_at (R : Fin 4096) (j : Fin 1024) : gates D Z B X1 X2 X3 W1 W2 W3 (ix2 R (at_ 2048 (by decide) j))
    = slope (D (ix2 R j)) (∑ k, X3 (ix2 R k) * W3 (ix2 k j)) (gate (Z (ix2 R (at_ 2048 (by decide) j))) (B (ix2 0 (at_ 2048 (by decide) j)))) := by
  refine Eq.trans (b := val_main_v57 (F := Ideal) D Z B X3 W3 (ix2 R j)) ?_ ?_
  · exact concat3 _ _ _ _ R j
  · rw [← slope_eq]
    pointwise [val_main_v51, val_main_v52, val_main_v53, val_main_v54, val_main_v55, val_main_v56, val_main_v57, val_main_v2, val_main_v5, val_main_v42, val_main_v43, val_main_v44, val_main_v45, val_main_v46, val_main_v47, val_main_v48, val_main_v49, val_main_v50, val_main_cst_7, val_main_cst_8, val_main_cst_9]
    all_goals simp only [at_, Nat.zero_add]
theorem biases3_at (j : Fin 1024) : biases D Z B X1 X2 X3 W1 W2 W3 (ix2 0 (at_ 2048 (by decide) j))
    = ∑ R : Fin 4096, gates D Z B X1 X2 X3 W1 W2 W3 (ix2 R (at_ 2048 (by decide) j)) := by
  have e : ∀ R : Fin 4096, gates D Z B X1 X2 X3 W1 W2 W3 (ix2 R (at_ 2048 (by decide) j)) = val_main_v57 (F := Ideal) D Z B X3 W3 (ix2 R j) :=
    fun R => concat3 _ _ _ _ R j
  refine Eq.trans (b := val_main_v59 (F := Ideal) D Z B X3 W3 (ix2 0 j)) ?_ ?_
  · exact concat3 _ _ _ _ 0 j
  · simp only [e]
    pointwise [val_main_v58, val_main_v59, val_main_cst_10]

theorem biases_at (y : S1x3072.Idx) : biases D Z B X1 X2 X3 W1 W2 W3 y = ∑ R : Fin 4096, gates D Z B X1 X2 X3 W1 W2 W3 (ix2 R (y 1)) := by
  suffices H : ∀ (r : Fin 1) (j : Fin 3072), biases D Z B X1 X2 X3 W1 W2 W3 (ix2 r j) = ∑ R : Fin 4096, gates D Z B X1 X2 X3 W1 W2 W3 (ix2 R j) by
    rw [eq_ix2 y]; exact H _ _
  intro r
  obtain rfl : r = 0 := Subsingleton.elim _ _
  exact thirds _ (biases1_at D Z B X1 X2 X3 W1 W2 W3) (biases2_at D Z B X1 X2 X3 W1 W2 W3) (biases3_at D Z B X1 X2 X3 W1 W2 W3)
end

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0]
    ∧ win0_6.index t = ![0, 0] ∧ win0_7.index t = ![0, 0] ∧ win0_8.index t = ![0, 0]
    ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0]
    ∧ win0_15.index t = ![t.val, 0] ∧ win0_16.index t = ![0, 0] :=
  (by decide +kernel : ∀ t : Fin grid0.N, _)

abbrev A0 : FVec Ideal S4096x1024 .f32 := m ((c : Thread nD τ).loc main_arg0)
abbrev A1 : FVec Ideal S4096x3072 .f32 := m ((c : Thread nD τ).loc main_arg1)
abbrev A2 : FVec Ideal S1x3072 .f32 := m ((c : Thread nD τ).loc main_arg2)
abbrev A3 : FVec Ideal S4096x256 .f32 := m ((c : Thread nD τ).loc main_arg3)
abbrev A4 : FVec Ideal S4096x512 .f32 := m ((c : Thread nD τ).loc main_arg4)
abbrev A5 : FVec Ideal S4096x256 .f32 := m ((c : Thread nD τ).loc main_arg5)
abbrev A6 : FVec Ideal S256x1024 .f32 := m ((c : Thread nD τ).loc main_arg6)
abbrev A7 : FVec Ideal S512x1024 .f32 := m ((c : Thread nD τ).loc main_arg7)
abbrev A8 : FVec Ideal S256x1024 .f32 := m ((c : Thread nD τ).loc main_arg8)

theorem entry0 : (V m c main_v0 : FVec Ideal S4096x1024 .bf16) = A0 m c := rfl
theorem entry3 : (V m c main_v1 : FVec Ideal S4096x256 .bf16) = A3 m c := rfl
theorem entry4 : (V m c main_v2 : FVec Ideal S4096x512 .bf16) = A4 m c := rfl
theorem entry5 : (V m c main_v3 : FVec Ideal S4096x256 .bf16) = A5 m c := rfl
theorem entry6 : (V m c main_v4 : FVec Ideal S256x1024 .bf16) = A6 m c := rfl
theorem entry7 : (V m c main_v5 : FVec Ideal S512x1024 .bf16) = A7 m c := rfl
theorem entry8 : (V m c main_v6 : FVec Ideal S256x1024 .bf16) = A8 m c := rfl

section
variable (t : Fin cfg0.N)

theorem N8 : t.val < 8 := lt_of_lt_of_eq t.isLt N_0

/-- Row `r` of point `t`'s block. -/
abbrev row (r : Fin 512) : Fin 4096 := ⟨t.val * 512 + r.val, by have := N8 t; omega⟩

theorem b0 (r : Fin 512) (k : Fin 1024) : (iblk m c 0 t : FVec Ideal S512x1024 .bf16) (ix2 r k) = A0 m c (ix2 (row t r) k) := by
  blk_ext [iblk, A0, entry0, idx t]
theorem b1 (r : Fin 512) (k : Fin 3072) : (iblk m c 1 t : FVec Ideal S512x3072 .f32) (ix2 r k) = A1 m c (ix2 (row t r) k) := by
  blk_ext [iblk, A1, V_main_arg1, idx t]
theorem b2 (r : Fin 1) (k : Fin 3072) : (iblk m c 2 t : FVec Ideal S1x3072 .f32) (ix2 r k) = A2 m c (ix2 r k) := by
  blk_ext [iblk, A2, V_main_arg2, idx t]
theorem b3 (r : Fin 512) (k : Fin 256) : (iblk m c 3 t : FVec Ideal S512x256 .bf16) (ix2 r k) = A3 m c (ix2 (row t r) k) := by
  blk_ext [iblk, A3, entry3, idx t]
theorem b4 (r : Fin 512) (k : Fin 512) : (iblk m c 4 t : FVec Ideal S512x512 .bf16) (ix2 r k) = A4 m c (ix2 (row t r) k) := by
  blk_ext [iblk, A4, entry4, idx t]
theorem b5 (r : Fin 512) (k : Fin 256) : (iblk m c 5 t : FVec Ideal S512x256 .bf16) (ix2 r k) = A5 m c (ix2 (row t r) k) := by
  blk_ext [iblk, A5, entry5, idx t]
theorem b6 (r : Fin 256) (k : Fin 1024) : (iblk m c 6 t : FVec Ideal S256x1024 .bf16) (ix2 r k) = A6 m c (ix2 r k) := by
  blk_ext [iblk, A6, entry6, idx t]
theorem b7 (r : Fin 512) (k : Fin 1024) : (iblk m c 7 t : FVec Ideal S512x1024 .bf16) (ix2 r k) = A7 m c (ix2 r k) := by
  blk_ext [iblk, A7, entry7, idx t]
theorem b8 (r : Fin 256) (k : Fin 1024) : (iblk m c 8 t : FVec Ideal S256x1024 .bf16) (ix2 r k) = A8 m c (ix2 r k) := by
  blk_ext [iblk, A8, entry8, idx t]
theorem place9 (r : Fin 512) (j : Fin 1024) : ((cfg0.win 9).blk t).view.emb (ix2 r j) = (ix2 (row t r) j : S4096x1024.Idx) := by
  blk_ext [idx t]
theorem place10 (r : Fin 512) (j : Fin 1024) : ((cfg0.win 10).blk t).view.emb (ix2 r j) = (ix2 (row t r) j : S4096x1024.Idx) := by
  blk_ext [idx t]
theorem place11 (r : Fin 512) (j : Fin 1024) : ((cfg0.win 11).blk t).view.emb (ix2 r j) = (ix2 (row t r) j : S4096x1024.Idx) := by
  blk_ext [idx t]
theorem place12 (r : Fin 512) (j : Fin 256) : ((cfg0.win 12).blk t).view.emb (ix2 r j) = (ix2 (row t r) j : S4096x256.Idx) := by
  blk_ext [idx t]
theorem place13 (r : Fin 512) (j : Fin 512) : ((cfg0.win 13).blk t).view.emb (ix2 r j) = (ix2 (row t r) j : S4096x512.Idx) := by
  blk_ext [idx t]
theorem place14 (r : Fin 512) (j : Fin 256) : ((cfg0.win 14).blk t).view.emb (ix2 r j) = (ix2 (row t r) j : S4096x256.Idx) := by
  blk_ext [idx t]
theorem place15 (r : Fin 512) (j : Fin 3072) : ((cfg0.win 15).blk t).view.emb (ix2 r j) = (ix2 (row t r) j : S4096x3072.Idx) := by
  blk_ext [idx t]

/-! The blocks' values are the reference's at the block's rows. -/

theorem gate1 (r : Fin 512) (j : Fin 1024) : gate ((View.ld (iblk m c 1 t) (Rect.unit (s := S512x3072) ![0, 0] ![512, 1024] inb_S512x3072_S512x1024_0_0)) (ix2 r j)) ((View.ld (iblk m c 2 t) (Rect.unit (s := S1x3072) ![0, 0] ![1, 1024] inb_S1x3072_S1x1024_0_0)) (ix2 0 j))
    = gate (A1 m c (ix2 (row t r) (at_ 0 (by decide) j))) (A2 m c (ix2 0 (at_ 0 (by decide) j))) :=
  congrArg₂ gate ((ld_third (by decide) _ _ r j).trans (b1 m c t r _)) ((ld_third (by decide) _ _ 0 j).trans (b2 m c t 0 _))
theorem up1 (r : Fin 512) (j : Fin 1024) : k0_pay7 (iblk m c 0 t) (View.ld (iblk m c 1 t) (Rect.unit (s := S512x3072) ![0, 0] ![512, 1024] inb_S512x3072_S512x1024_0_0)) (View.ld (iblk m c 2 t) (Rect.unit (s := S1x3072) ![0, 0] ![1, 1024] inb_S1x3072_S1x1024_0_0)) (ix2 r j)
    = val_main_v66 (F := Ideal) (A0 m c) (A1 m c) (A2 m c) (ix2 (row t r) j) := by
  refine (pay7_at (iblk m c 0 t) _ _ r j).trans (Eq.trans ?_ (up1_at _ _ _ _ j).symm)
  rw [gate1 m c t r j, b0 m c t r j]
theorem out1 (r : Fin 512) (k : Fin 256) : k0_pay8 (iblk m c 0 t) (View.ld (iblk m c 1 t) (Rect.unit (s := S512x3072) ![0, 0] ![512, 1024] inb_S512x3072_S512x1024_0_0)) (View.ld (iblk m c 2 t) (Rect.unit (s := S1x3072) ![0, 0] ![1, 1024] inb_S1x3072_S1x1024_0_0)) (iblk m c 6 t) (ix2 r k)
    = val_main_v69 (F := Ideal) (A0 m c) (A1 m c) (A2 m c) (A6 m c) (ix2 (row t r) k) := by
  refine (pay8_at (iblk m c 0 t) _ _ _ r k).trans (Eq.trans ?_ (out1_at _ _ _ _ _ k).symm)
  exact Finset.sum_congr rfl fun j _ => by rw [gate1 m c t r j, b0 m c t r j, b6 m c t k j]
theorem slope1 (r : Fin 512) (j : Fin 1024) : part1 (iblk m c 0 t) (View.ld (iblk m c 1 t) (Rect.unit (s := S512x3072) ![0, 0] ![512, 1024] inb_S512x3072_S512x1024_0_0)) (View.ld (iblk m c 2 t) (Rect.unit (s := S1x3072) ![0, 0] ![1, 1024] inb_S1x3072_S1x1024_0_0)) (iblk m c 3 t) (iblk m c 6 t) (ix2 r j)
    = gates (A0 m c) (A1 m c) (A2 m c) (A3 m c) (A4 m c) (A5 m c) (A6 m c) (A7 m c) (A8 m c) (ix2 (row t r) (at_ 0 (by decide) j)) := by
  refine (part1_at (iblk m c 0 t) _ _ _ _ r j).trans (Eq.trans ?_ (gates1_at _ _ _ _ _ _ _ _ _ _ j).symm)
  rw [gate1 m c t r j, b0 m c t r j]
  simp only [b3 m c t, b6 m c t]
theorem gate2 (r : Fin 512) (j : Fin 1024) : gate ((View.ld (iblk m c 1 t) (Rect.unit (s := S512x3072) ![0, 1024] ![512, 1024] inb_S512x3072_S512x1024_0_1024)) (ix2 r j)) ((View.ld (iblk m c 2 t) (Rect.unit (s := S1x3072) ![0, 1024] ![1, 1024] inb_S1x3072_S1x1024_0_1024)) (ix2 0 j))
    = gate (A1 m c (ix2 (row t r) (at_ 1024 (by decide) j))) (A2 m c (ix2 0 (at_ 1024 (by decide) j))) :=
  congrArg₂ gate ((ld_third (by decide) _ _ r j).trans (b1 m c t r _)) ((ld_third (by decide) _ _ 0 j).trans (b2 m c t 0 _))
theorem up2 (r : Fin 512) (j : Fin 1024) : k0_pay14 (k0_pay5 (iblk m c 0 t)) (View.ld (iblk m c 1 t) (Rect.unit (s := S512x3072) ![0, 1024] ![512, 1024] inb_S512x3072_S512x1024_0_1024)) (View.ld (iblk m c 2 t) (Rect.unit (s := S1x3072) ![0, 1024] ![1, 1024] inb_S1x3072_S1x1024_0_1024)) (ix2 r j)
    = val_main_v67 (F := Ideal) (A0 m c) (A1 m c) (A2 m c) (ix2 (row t r) j) := by
  refine (pay14_at (iblk m c 0 t) _ _ r j).trans (Eq.trans ?_ (up2_at _ _ _ _ j).symm)
  rw [gate2 m c t r j, b0 m c t r j]
theorem out2 (r : Fin 512) (k : Fin 512) : k0_pay15 (k0_pay5 (iblk m c 0 t)) (View.ld (iblk m c 1 t) (Rect.unit (s := S512x3072) ![0, 1024] ![512, 1024] inb_S512x3072_S512x1024_0_1024)) (View.ld (iblk m c 2 t) (Rect.unit (s := S1x3072) ![0, 1024] ![1, 1024] inb_S1x3072_S1x1024_0_1024)) (iblk m c 7 t) (ix2 r k)
    = val_main_v63 (F := Ideal) (A0 m c) (A1 m c) (A2 m c) (A7 m c) (ix2 (row t r) k) := by
  refine (pay15_at (iblk m c 0 t) _ _ _ r k).trans (Eq.trans ?_ (out2_at _ _ _ _ _ k).symm)
  exact Finset.sum_congr rfl fun j _ => by rw [gate2 m c t r j, b0 m c t r j, b7 m c t k j]
theorem slope2 (r : Fin 512) (j : Fin 1024) : part2 (iblk m c 0 t) (View.ld (iblk m c 1 t) (Rect.unit (s := S512x3072) ![0, 1024] ![512, 1024] inb_S512x3072_S512x1024_0_1024)) (View.ld (iblk m c 2 t) (Rect.unit (s := S1x3072) ![0, 1024] ![1, 1024] inb_S1x3072_S1x1024_0_1024)) (iblk m c 4 t) (iblk m c 7 t) (ix2 r j)
    = gates (A0 m c) (A1 m c) (A2 m c) (A3 m c) (A4 m c) (A5 m c) (A6 m c) (A7 m c) (A8 m c) (ix2 (row t r) (at_ 1024 (by decide) j)) := by
  refine (part2_at (iblk m c 0 t) _ _ _ _ r j).trans (Eq.trans ?_ (gates2_at _ _ _ _ _ _ _ _ _ _ j).symm)
  rw [gate2 m c t r j, b0 m c t r j]
  simp only [b4 m c t, b7 m c t]
theorem gate3 (r : Fin 512) (j : Fin 1024) : gate ((View.ld (iblk m c 1 t) (Rect.unit (s := S512x3072) ![0, 2048] ![512, 1024] inb_S512x3072_S512x1024_0_2048)) (ix2 r j)) ((View.ld (iblk m c 2 t) (Rect.unit (s := S1x3072) ![0, 2048] ![1, 1024] inb_S1x3072_S1x1024_0_2048)) (ix2 0 j))
    = gate (A1 m c (ix2 (row t r) (at_ 2048 (by decide) j))) (A2 m c (ix2 0 (at_ 2048 (by decide) j))) :=
  congrArg₂ gate ((ld_third (by decide) _ _ r j).trans (b1 m c t r _)) ((ld_third (by decide) _ _ 0 j).trans (b2 m c t 0 _))
theorem up3 (r : Fin 512) (j : Fin 1024) : k0_pay21 (k0_pay5 (iblk m c 0 t)) (View.ld (iblk m c 1 t) (Rect.unit (s := S512x3072) ![0, 2048] ![512, 1024] inb_S512x3072_S512x1024_0_2048)) (View.ld (iblk m c 2 t) (Rect.unit (s := S1x3072) ![0, 2048] ![1, 1024] inb_S1x3072_S1x1024_0_2048)) (ix2 r j)
    = val_main_v68 (F := Ideal) (A0 m c) (A1 m c) (A2 m c) (ix2 (row t r) j) := by
  refine (pay21_at (iblk m c 0 t) _ _ r j).trans (Eq.trans ?_ (up3_at _ _ _ _ j).symm)
  rw [gate3 m c t r j, b0 m c t r j]
theorem out3 (r : Fin 512) (k : Fin 256) : k0_pay22 (k0_pay5 (iblk m c 0 t)) (View.ld (iblk m c 1 t) (Rect.unit (s := S512x3072) ![0, 2048] ![512, 1024] inb_S512x3072_S512x1024_0_2048)) (View.ld (iblk m c 2 t) (Rect.unit (s := S1x3072) ![0, 2048] ![1, 1024] inb_S1x3072_S1x1024_0_2048)) (iblk m c 8 t) (ix2 r k)
    = val_main_v70 (F := Ideal) (A0 m c) (A1 m c) (A2 m c) (A8 m c) (ix2 (row t r) k) := by
  refine (pay22_at (iblk m c 0 t) _ _ _ r k).trans (Eq.trans ?_ (out3_at _ _ _ _ _ k).symm)
  exact Finset.sum_congr rfl fun j _ => by rw [gate3 m c t r j, b0 m c t r j, b8 m c t k j]
theorem slope3 (r : Fin 512) (j : Fin 1024) : part3 (iblk m c 0 t) (View.ld (iblk m c 1 t) (Rect.unit (s := S512x3072) ![0, 2048] ![512, 1024] inb_S512x3072_S512x1024_0_2048)) (View.ld (iblk m c 2 t) (Rect.unit (s := S1x3072) ![0, 2048] ![1, 1024] inb_S1x3072_S1x1024_0_2048)) (iblk m c 5 t) (iblk m c 8 t) (ix2 r j)
    = gates (A0 m c) (A1 m c) (A2 m c) (A3 m c) (A4 m c) (A5 m c) (A6 m c) (A7 m c) (A8 m c) (ix2 (row t r) (at_ 2048 (by decide) j)) := by
  refine (part3_at (iblk m c 0 t) _ _ _ _ r j).trans (Eq.trans ?_ (gates3_at _ _ _ _ _ _ _ _ _ _ j).symm)
  rw [gate3 m c t r j, b0 m c t r j]
  simp only [b5 m c t, b8 m c t]
theorem store1 (r : Fin 512) (j : Fin 1024) : k0_pay11 (k0_pay6 (View.ld (iblk m c 1 t) (Rect.unit (s := S512x3072) ![0, 0] ![512, 1024] inb_S512x3072_S512x1024_0_0)) (View.ld (iblk m c 2 t) (Rect.unit (s := S1x3072) ![0, 0] ![1, 1024] inb_S1x3072_S1x1024_0_0))) (k0_pay9 (iblk m c 0 t) (View.ld (iblk m c 1 t) (Rect.unit (s := S512x3072) ![0, 0] ![512, 1024] inb_S512x3072_S512x1024_0_0)) (View.ld (iblk m c 2 t) (Rect.unit (s := S1x3072) ![0, 0] ![1, 1024] inb_S1x3072_S1x1024_0_0)) (iblk m c 3 t) (iblk m c 6 t)) (FloatOps.ofBits .f32 0x3F800000#32) (ix2 r j)
    = gates (A0 m c) (A1 m c) (A2 m c) (A3 m c) (A4 m c) (A5 m c) (A6 m c) (A7 m c) (A8 m c) (ix2 (row t r) (at_ 0 (by decide) j)) := by
  rw [pay11_at]; exact slope1 m c t r j
theorem store2 (r : Fin 512) (j : Fin 1024) : k0_pay18 (k0_pay5 (iblk m c 0 t)) (k0_pay13 (View.ld (iblk m c 1 t) (Rect.unit (s := S512x3072) ![0, 1024] ![512, 1024] inb_S512x3072_S512x1024_0_1024)) (View.ld (iblk m c 2 t) (Rect.unit (s := S1x3072) ![0, 1024] ![1, 1024] inb_S1x3072_S1x1024_0_1024))) (k0_pay16 (iblk m c 4 t)) (iblk m c 7 t) (ix2 r j)
    = gates (A0 m c) (A1 m c) (A2 m c) (A3 m c) (A4 m c) (A5 m c) (A6 m c) (A7 m c) (A8 m c) (ix2 (row t r) (at_ 1024 (by decide) j)) := by
  rw [pay18_at]; exact slope2 m c t r j
theorem store3 (r : Fin 512) (j : Fin 1024) : k0_pay2 (k0_pay5 (iblk m c 0 t)) (k0_pay20 (View.ld (iblk m c 1 t) (Rect.unit (s := S512x3072) ![0, 2048] ![512, 1024] inb_S512x3072_S512x1024_0_2048)) (View.ld (iblk m c 2 t) (Rect.unit (s := S1x3072) ![0, 2048] ![1, 1024] inb_S1x3072_S1x1024_0_2048))) (iblk m c 5 t) (iblk m c 8 t) (ix2 r j)
    = gates (A0 m c) (A1 m c) (A2 m c) (A3 m c) (A4 m c) (A5 m c) (A6 m c) (A7 m c) (A8 m c) (ix2 (row t r) (at_ 2048 (by decide) j)) := by
  rw [pay2_at]; exact slope3 m c t r j
end

/-! ### The results -/

theorem final9 : (dats m 0 c).arrAt 9 cfg0.N = val_main_v66 (F := Ideal) (A0 m c) (A1 m c) (A2 m c) := by
  refine (dats m 0 c).arrAt_eq_of_covers 9 _ (by decide +kernel) fun t _ y => ?_
  blk_simp
  rw [after0_9]
  obtain ⟨r, j, rfl⟩ : ∃ (r : Fin 512) (j : Fin 1024), y = ix2 r j := ⟨_, _, eq_ix2 y⟩
  rw [place9]
  by_cases h : t.val % 8 = 0
  · rw [outsAt0_A m c t h]; frame_out; exact up1 m c t r j
  · rw [outsAt0_B m c t h]; frame_out; exact up1 m c t r j

theorem final10 : (dats m 0 c).arrAt 10 cfg0.N = val_main_v67 (F := Ideal) (A0 m c) (A1 m c) (A2 m c) := by
  refine (dats m 0 c).arrAt_eq_of_covers 10 _ (by decide +kernel) fun t _ y => ?_
  blk_simp
  rw [after0_10]
  obtain ⟨r, j, rfl⟩ : ∃ (r : Fin 512) (j : Fin 1024), y = ix2 r j := ⟨_, _, eq_ix2 y⟩
  rw [place10]
  by_cases h : t.val % 8 = 0
  · rw [outsAt0_A m c t h]; frame_out; exact up2 m c t r j
  · rw [outsAt0_B m c t h]; frame_out; exact up2 m c t r j

theorem final11 : (dats m 0 c).arrAt 11 cfg0.N = val_main_v68 (F := Ideal) (A0 m c) (A1 m c) (A2 m c) := by
  refine (dats m 0 c).arrAt_eq_of_covers 11 _ (by decide +kernel) fun t _ y => ?_
  blk_simp
  rw [after0_11]
  obtain ⟨r, j, rfl⟩ : ∃ (r : Fin 512) (j : Fin 1024), y = ix2 r j := ⟨_, _, eq_ix2 y⟩
  rw [place11]
  by_cases h : t.val % 8 = 0
  · rw [outsAt0_A m c t h]; frame_out; exact up3 m c t r j
  · rw [outsAt0_B m c t h]; frame_out; exact up3 m c t r j

theorem final12 : (dats m 0 c).arrAt 12 cfg0.N = val_main_v69 (F := Ideal) (A0 m c) (A1 m c) (A2 m c) (A6 m c) := by
  refine (dats m 0 c).arrAt_eq_of_covers 12 _ (by decide +kernel) fun t _ y => ?_
  blk_simp
  rw [after0_12]
  obtain ⟨r, j, rfl⟩ : ∃ (r : Fin 512) (j : Fin 256), y = ix2 r j := ⟨_, _, eq_ix2 y⟩
  rw [place12]
  by_cases h : t.val % 8 = 0
  · rw [outsAt0_A m c t h]; frame_out; exact out1 m c t r j
  · rw [outsAt0_B m c t h]; frame_out; exact out1 m c t r j

theorem final13 : (dats m 0 c).arrAt 13 cfg0.N = val_main_v63 (F := Ideal) (A0 m c) (A1 m c) (A2 m c) (A7 m c) := by
  refine (dats m 0 c).arrAt_eq_of_covers 13 _ (by decide +kernel) fun t _ y => ?_
  blk_simp
  rw [after0_13]
  obtain ⟨r, j, rfl⟩ : ∃ (r : Fin 512) (j : Fin 512), y = ix2 r j := ⟨_, _, eq_ix2 y⟩
  rw [place13]
  by_cases h : t.val % 8 = 0
  · rw [outsAt0_A m c t h]; frame_out; exact out2 m c t r j
  · rw [outsAt0_B m c t h]; frame_out; exact out2 m c t r j

theorem final14 : (dats m 0 c).arrAt 14 cfg0.N = val_main_v70 (F := Ideal) (A0 m c) (A1 m c) (A2 m c) (A8 m c) := by
  refine (dats m 0 c).arrAt_eq_of_covers 14 _ (by decide +kernel) fun t _ y => ?_
  blk_simp
  rw [after0_14]
  obtain ⟨r, j, rfl⟩ : ∃ (r : Fin 512) (j : Fin 256), y = ix2 r j := ⟨_, _, eq_ix2 y⟩
  rw [place14]
  by_cases h : t.val % 8 = 0
  · rw [outsAt0_A m c t h]; frame_out; exact out3 m c t r j
  · rw [outsAt0_B m c t h]; frame_out; exact out3 m c t r j

/-- The stored thirds, read at a column. -/
theorem stored_A (t : Fin cfg0.N) (h : t.val % 8 = 0) (r : Fin 512) (j : Fin 3072) : (outsAt0 m c t.val t.isLt).2.2.2.2.2.2.1 (ix2 r j)
    = gates (A0 m c) (A1 m c) (A2 m c) (A3 m c) (A4 m c) (A5 m c) (A6 m c) (A7 m c) (A8 m c) (ix2 (row t r) j) := by
  rw [outsAt0_A m c t h]; frame_out
  revert j
  refine thirds _ (fun j => ?_) (fun j => ?_) (fun j => ?_)
  · exact ((canon_past _ _ _ r _ j (by decide)).trans ((canon_past _ _ _ r _ j (by decide)).trans (canon_here _ _ _ _ r j))).trans
      (store1 m c t r j)
  · exact ((canon_past _ _ _ r _ j (by decide)).trans (canon_here _ _ _ _ r j)).trans (store2 m c t r j)
  · exact (canon_here _ _ _ _ r j).trans (store3 m c t r j)
theorem stored_B (t : Fin cfg0.N) (h : ¬t.val % 8 = 0) (r : Fin 512) (j : Fin 3072) : (outsAt0 m c t.val t.isLt).2.2.2.2.2.2.1 (ix2 r j)
    = gates (A0 m c) (A1 m c) (A2 m c) (A3 m c) (A4 m c) (A5 m c) (A6 m c) (A7 m c) (A8 m c) (ix2 (row t r) j) := by
  rw [outsAt0_B m c t h]; frame_out
  revert j
  refine thirds _ (fun j => ?_) (fun j => ?_) (fun j => ?_)
  · exact ((canon_past _ _ _ r _ j (by decide)).trans ((canon_past _ _ _ r _ j (by decide)).trans (canon_here _ _ _ _ r j))).trans
      (store1 m c t r j)
  · exact ((canon_past _ _ _ r _ j (by decide)).trans (canon_here _ _ _ _ r j)).trans (store2 m c t r j)
  · exact (canon_here _ _ _ _ r j).trans (store3 m c t r j)

theorem final15 : (dats m 0 c).arrAt 15 cfg0.N = val_main_v72 (F := Ideal) (A0 m c) (A1 m c) (A2 m c) (A3 m c) (A4 m c) (A5 m c) (A6 m c) (A7 m c) (A8 m c) := by
  refine (dats m 0 c).arrAt_eq_of_covers 15 _ (by decide +kernel) fun t _ y => ?_
  blk_simp
  rw [after0_15]
  obtain ⟨r, j, rfl⟩ : ∃ (r : Fin 512) (j : Fin 3072), y = ix2 r j := ⟨_, _, eq_ix2 y⟩
  rw [place15]
  by_cases h : t.val % 8 = 0
  · exact stored_A m c t h r j
  · exact stored_B m c t h r j

section
variable (t : Fin cfg0.N) (acc : Vec Ideal S1x1024 .f32) (j : Fin 1024)
theorem sum1 (a : EReal) (ha : acc (ix2 0 j) = a) : k0_pay12 (k0_pay6 (View.ld (iblk m c 1 t) (Rect.unit (s := S512x3072) ![0, 0] ![512, 1024] inb_S512x3072_S512x1024_0_0)) (View.ld (iblk m c 2 t) (Rect.unit (s := S1x3072) ![0, 0] ![1, 1024] inb_S1x3072_S1x1024_0_0))) (k0_pay9 (iblk m c 0 t) (View.ld (iblk m c 1 t) (Rect.unit (s := S512x3072) ![0, 0] ![512, 1024] inb_S512x3072_S512x1024_0_0)) (View.ld (iblk m c 2 t) (Rect.unit (s := S1x3072) ![0, 0] ![1, 1024] inb_S1x3072_S1x1024_0_0)) (iblk m c 3 t) (iblk m c 6 t)) (FloatOps.ofBits .f32 0x3F800000#32) acc (ix2 0 j)
    = a + ∑ r : Fin 512, gates (A0 m c) (A1 m c) (A2 m c) (A3 m c) (A4 m c) (A5 m c) (A6 m c) (A7 m c) (A8 m c) (ix2 (row t r) (at_ 0 (by decide) j)) := by
  rw [pay12_at, ha]
  exact congrArg (a + ·) (Finset.sum_congr rfl fun r _ => slope1 m c t r j)
theorem sum2 (a : EReal) (ha : acc (ix2 0 j) = a) : k0_pay19 (k0_pay5 (iblk m c 0 t)) (k0_pay13 (View.ld (iblk m c 1 t) (Rect.unit (s := S512x3072) ![0, 1024] ![512, 1024] inb_S512x3072_S512x1024_0_1024)) (View.ld (iblk m c 2 t) (Rect.unit (s := S1x3072) ![0, 1024] ![1, 1024] inb_S1x3072_S1x1024_0_1024))) (k0_pay16 (iblk m c 4 t)) (iblk m c 7 t) acc (ix2 0 j)
    = a + ∑ r : Fin 512, gates (A0 m c) (A1 m c) (A2 m c) (A3 m c) (A4 m c) (A5 m c) (A6 m c) (A7 m c) (A8 m c) (ix2 (row t r) (at_ 1024 (by decide) j)) := by
  rw [pay19_at, ha]
  exact congrArg (a + ·) (Finset.sum_congr rfl fun r _ => slope2 m c t r j)
theorem sum3 (a : EReal) (ha : acc (ix2 0 j) = a) : k0_pay3 (k0_pay5 (iblk m c 0 t)) (k0_pay20 (View.ld (iblk m c 1 t) (Rect.unit (s := S512x3072) ![0, 2048] ![512, 1024] inb_S512x3072_S512x1024_0_2048)) (View.ld (iblk m c 2 t) (Rect.unit (s := S1x3072) ![0, 2048] ![1, 1024] inb_S1x3072_S1x1024_0_2048))) (iblk m c 5 t) (iblk m c 8 t) acc (ix2 0 j)
    = a + ∑ r : Fin 512, gates (A0 m c) (A1 m c) (A2 m c) (A3 m c) (A4 m c) (A5 m c) (A6 m c) (A7 m c) (A8 m c) (ix2 (row t r) (at_ 2048 (by decide) j)) := by
  rw [pay3_at, ha]
  exact congrArg (a + ·) (Finset.sum_congr rfl fun r _ => slope3 m c t r j)
end

/-- A point's sums at the first point, over the zeros stored before them. -/
theorem first (t : Fin cfg0.N) (h : t.val % 8 = 0) (y : S1x3072.Idx) : (outsAt0 m c t.val t.isLt).2.2.2.2.2.2.2 y
    = 0 + ∑ r : Fin 512, gates (A0 m c) (A1 m c) (A2 m c) (A3 m c) (A4 m c) (A5 m c) (A6 m c) (A7 m c) (A8 m c) (ix2 (row t r) (y 1)) := by
  suffices H : ∀ (r0 : Fin 1) (j : Fin 3072), (outsAt0 m c t.val t.isLt).2.2.2.2.2.2.2 (ix2 r0 j)
      = 0 + ∑ r : Fin 512, gates (A0 m c) (A1 m c) (A2 m c) (A3 m c) (A4 m c) (A5 m c) (A6 m c) (A7 m c) (A8 m c) (ix2 (row t r) j) by
    rw [eq_ix2 y]; exact H _ _
  intro r0 j
  obtain rfl : r0 = 0 := Subsingleton.elim _ _
  rw [outsAt0_A m c t h]; frame_out
  revert j
  refine thirds _ (fun j => ?_) (fun j => ?_) (fun j => ?_)
  · refine ((canon_past _ _ _ 0 _ j (by decide)).trans ((canon_past _ _ _ 0 _ j (by decide)).trans (canon_here _ _ _ _ 0 j))).trans ?_
    refine sum1 m c t _ j 0 ?_
    exact (congrFun (readCov_all _ _ _ _ _) _).trans (pay4_at _)
  · refine ((canon_past _ _ _ 0 _ j (by decide)).trans (canon_here _ _ _ _ 0 j)).trans ?_
    refine sum2 m c t _ j 0 ?_
    exact (congrFun ((readCov_past _ _ _ _ _ (by decide)).trans (readCov_all _ _ _ _ _)) _).trans (pay4_at _)
  · refine (canon_here _ _ _ _ 0 j).trans ?_
    refine sum3 m c t _ j 0 ?_
    exact (congrFun ((readCov_past _ _ _ _ _ (by decide)).trans ((readCov_past _ _ _ _ _ (by decide)).trans (readCov_all _ _ _ _ _))) _).trans (pay4_at _)

/-- At a later point, over what the point before left. -/
theorem later (t : Fin cfg0.N) (h : ¬t.val % 8 = 0) (y : S1x3072.Idx) : (outsAt0 m c t.val t.isLt).2.2.2.2.2.2.2 y
    = (outsAt0 m c (t.val - 1) (Nat.lt_of_le_of_lt (Nat.sub_le _ _) t.isLt)).2.2.2.2.2.2.2 y
      + ∑ r : Fin 512, gates (A0 m c) (A1 m c) (A2 m c) (A3 m c) (A4 m c) (A5 m c) (A6 m c) (A7 m c) (A8 m c) (ix2 (row t r) (y 1)) := by
  suffices H : ∀ (r0 : Fin 1) (j : Fin 3072), (outsAt0 m c t.val t.isLt).2.2.2.2.2.2.2 (ix2 r0 j)
      = (outsAt0 m c (t.val - 1) (Nat.lt_of_le_of_lt (Nat.sub_le _ _) t.isLt)).2.2.2.2.2.2.2 (ix2 r0 j)
        + ∑ r : Fin 512, gates (A0 m c) (A1 m c) (A2 m c) (A3 m c) (A4 m c) (A5 m c) (A6 m c) (A7 m c) (A8 m c) (ix2 (row t r) j) by
    rw [eq_ix2 y]; exact H _ _
  intro r0 j
  obtain rfl : r0 = 0 := Subsingleton.elim _ _
  rw [outsAt0_B m c t h]; frame_out
  revert j
  refine thirds _ (fun j => ?_) (fun j => ?_) (fun j => ?_)
  · refine ((canon_past _ _ _ 0 _ j (by decide)).trans ((canon_past _ _ _ 0 _ j (by decide)).trans (canon_here _ _ _ _ 0 j))).trans ?_
    exact sum1 m c t _ j _ (ld_third (by decide) _ _ 0 j)
  · refine ((canon_past _ _ _ 0 _ j (by decide)).trans (canon_here _ _ _ _ 0 j)).trans ?_
    exact sum2 m c t _ j _ (ld_third (by decide) _ _ 0 j)
  · refine (canon_here _ _ _ _ 0 j).trans ?_
    exact sum3 m c t _ j _ (ld_third (by decide) _ _ 0 j)

/-- Eight blocks' sums make the sum over all rows. -/
theorem final16 : (dats m 0 c).arrAt 16 cfg0.N = biases (A0 m c) (A1 m c) (A2 m c) (A3 m c) (A4 m c) (A5 m c) (A6 m c) (A7 m c) (A8 m c) := by
  refine (dats m 0 c).arrAt_eq_of_after_last 16 t0_7 (by decide +kernel) _ fun j => ?_
  blk_simp
  rw [after0_16, Pipeline.eq_sum_fin_of_reset_step_apply_last (fun n h => (outsAt0 m c n h).2.2.2.2.2.2.2) 8 (fun _ => 0) _
    (first m c) (later m c) (le_of_eq N_0) t0_7 rfl j, zero_add, biases_at]
  exact Fin.sum_mul_add_congr fun t k hl => rfl

/-! ### The two programs -/

theorem equal : Cert.algebraic_DMergeIdeal_DMergeRefIdeal
    (hDMergeIdeal := Cert.DMergeIdeal.Gen.facts) (hDMergeRefIdeal := Cert.DMergeRefIdeal.Gen.facts) := by
  intro m g m' g' _ hagree
  refine ⟨fun c => val_main_v66 (F := Ideal) (A0 m c) (A1 m c) (A2 m c), fun c => val_main_v67 (F := Ideal) (A0 m c) (A1 m c) (A2 m c),
    fun c => val_main_v68 (F := Ideal) (A0 m c) (A1 m c) (A2 m c), fun c => val_main_v69 (F := Ideal) (A0 m c) (A1 m c) (A2 m c) (A6 m c),
    fun c => val_main_v63 (F := Ideal) (A0 m c) (A1 m c) (A2 m c) (A7 m c), fun c => val_main_v70 (F := Ideal) (A0 m c) (A1 m c) (A2 m c) (A8 m c),
    fun c => val_main_v72 (F := Ideal) (A0 m c) (A1 m c) (A2 m c) (A3 m c) (A4 m c) (A5 m c) (A6 m c) (A7 m c) (A8 m c),
    fun c => biases (A0 m c) (A1 m c) (A2 m c) (A3 m c) (A4 m c) (A5 m c) (A6 m c) (A7 m c) (A8 m c), ?_, ?_⟩
  · refine (θ_run _ _ _).mono (fun r h c => ?_) (run_blocks m g)
    obtain ⟨h9, h10, h11, h12, h13, h14, h15, h16, h⟩ := h c
    exact ⟨h9.trans (final9 m c), h10.trans (final10 m c), h11.trans (final11 m c), h12.trans (final12 m c), h13.trans (final13 m c),
      h14.trans (final14 m c), h15.trans (final15 m c), h16.trans (final16 m c), h⟩
  · refine (θ_run _ _ _).mono (fun r h c => ?_) (Cert.DMergeRefIdeal.Value.run (F := Ideal) m' g')
    obtain ⟨e0, e1, e2, e3, e4, e5, e6, e7, e8⟩ := hagree c
    obtain ⟨h9, h10, h11, h12, h13, h14, h15, h16, h⟩ := h c
    refine ⟨h9.trans ?_, h10.trans ?_, h11.trans ?_, h12.trans ?_, h13.trans ?_, h14.trans ?_, h15.trans ?_, h16.trans ?_, h⟩
    · rw [val_main_v66_eq, e0, e1, e2]
    · rw [val_main_v67_eq, e0, e1, e2]
    · rw [val_main_v68_eq, e0, e1, e2]
    · rw [val_main_v69_eq, e0, e1, e2, e6]
    · rw [val_main_v63_eq, e0, e1, e2, e7]
    · rw [val_main_v70_eq, e0, e1, e2, e8]
    · rw [val_main_v72_eq, e0, e1, e2, e3, e4, e5, e6, e7, e8]
    · rw [val_main_v73_eq, e0, e1, e2, e3, e4, e5, e6, e7, e8]

/-- The reference terminates with its arguments unchanged; it has no semaphores. -/
theorem ref_frame : Cert.quiescent_DMergeRefIdeal (hDMergeRefIdeal := Cert.DMergeRefIdeal.Gen.facts) :=
  fun m ρ _ => (θ_run _ _ _).mono (fun r h => ⟨fun c => (h c).2.2.2.2.2.2.2.2, sem_eq_zero_of_no_sems rfl r.2⟩)
    (Cert.DMergeRefIdeal.Value.run (F := Ideal) m ρ)

end Cert.DMergeIdeal.Product

end
-- ==== Proof.lean ====
/- The claims, assembled: the frames are the generated ones (a reference's is its host run); the equation of the
   attention's gradient is in Proof/XaOut.lean, a product's in the module of its name. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite
public import proofs.«01_k».proof.Proof.XaOut
public import proofs.«01_k».proof.Proof.Gen.Mlp2
public import proofs.«01_k».proof.Proof.Gen.Mlp2.Skeleton
public import proofs.«01_k».proof.Proof.Gen.Mlp2.Launch
public import proofs.«01_k».proof.Proof.Gen.Mlp2.Points
public import proofs.«01_k».proof.Proof.Gen.Mlp2.Frame
public import proofs.«01_k».proof.Proof.Gen.Mlp2Ideal
public import proofs.«01_k».proof.Proof.Gen.Mlp2Ideal.Skeleton
public import proofs.«01_k».proof.Proof.Gen.Mlp2Ideal.Launch
public import proofs.«01_k».proof.Proof.Gen.Mlp2Ideal.Points
public import proofs.«01_k».proof.Proof.Gen.Mlp2Ideal.Frame
public import proofs.«01_k».proof.Proof.Gen.Mlp2Ideal.Value
public import proofs.«01_k».proof.Proof.Gen.Mlp2RefIdeal
public import proofs.«01_k».proof.Proof.Gen.Mlp2RefIdeal.Run
public import proofs.«01_k».proof.Proof.Gen.Mlp2RefIdeal.Read
public import proofs.«01_k».proof.Proof.Gen.DMlp2
public import proofs.«01_k».proof.Proof.Gen.DMlp2.Skeleton
public import proofs.«01_k».proof.Proof.Gen.DMlp2.Launch
public import proofs.«01_k».proof.Proof.Gen.DMlp2.Points
public import proofs.«01_k».proof.Proof.Gen.DMlp2.Frame
public import proofs.«01_k».proof.Proof.Gen.DMlp2Ideal
public import proofs.«01_k».proof.Proof.Gen.DMlp2Ideal.Skeleton
public import proofs.«01_k».proof.Proof.Gen.DMlp2Ideal.Launch
public import proofs.«01_k».proof.Proof.Gen.DMlp2Ideal.Points
public import proofs.«01_k».proof.Proof.Gen.DMlp2Ideal.Frame
public import proofs.«01_k».proof.Proof.Gen.DMlp2Ideal.Value
public import proofs.«01_k».proof.Proof.Gen.DMlp2RefIdeal
public import proofs.«01_k».proof.Proof.Gen.DMlp2RefIdeal.Run
public import proofs.«01_k».proof.Proof.Gen.DMlp2RefIdeal.Read
public import proofs.«01_k».proof.Proof.Gen.DAct
public import proofs.«01_k».proof.Proof.Gen.DAct.Skeleton
public import proofs.«01_k».proof.Proof.Gen.DAct.Launch
public import proofs.«01_k».proof.Proof.Gen.DAct.Points
public import proofs.«01_k».proof.Proof.Gen.DAct.Frame
public import proofs.«01_k».proof.Proof.Gen.DActIdeal
public import proofs.«01_k».proof.Proof.Gen.DActIdeal.Skeleton
public import proofs.«01_k».proof.Proof.Gen.DActIdeal.Launch
public import proofs.«01_k».proof.Proof.Gen.DActIdeal.Points
public import proofs.«01_k».proof.Proof.Gen.DActIdeal.Frame
public import proofs.«01_k».proof.Proof.Gen.DActIdeal.Value
public import proofs.«01_k».proof.Proof.Gen.DActRefIdeal
public import proofs.«01_k».proof.Proof.Gen.DActRefIdeal.Run
public import proofs.«01_k».proof.Proof.Gen.DActRefIdeal.Read
public import proofs.«01_k».proof.Proof.Gen.DMlp1
public import proofs.«01_k».proof.Proof.Gen.DMlp1.Skeleton
public import proofs.«01_k».proof.Proof.Gen.DMlp1.Launch
public import proofs.«01_k».proof.Proof.Gen.DMlp1.Points
public import proofs.«01_k».proof.Proof.Gen.DMlp1.Frame
public import proofs.«01_k».proof.Proof.Gen.DMlp1Ideal
public import proofs.«01_k».proof.Proof.Gen.DMlp1Ideal.Skeleton
public import proofs.«01_k».proof.Proof.Gen.DMlp1Ideal.Launch
public import proofs.«01_k».proof.Proof.Gen.DMlp1Ideal.Points
public import proofs.«01_k».proof.Proof.Gen.DMlp1Ideal.Frame
public import proofs.«01_k».proof.Proof.Gen.DMlp1Ideal.Value
public import proofs.«01_k».proof.Proof.Gen.DMlp1RefIdeal
public import proofs.«01_k».proof.Proof.Gen.DMlp1RefIdeal.Run
public import proofs.«01_k».proof.Proof.Gen.DMlp1RefIdeal.Read
public import proofs.«01_k».proof.Proof.Gen.DHm
public import proofs.«01_k».proof.Proof.Gen.DHm.Skeleton
public import proofs.«01_k».proof.Proof.Gen.DHm.Launch
public import proofs.«01_k».proof.Proof.Gen.DHm.Points
public import proofs.«01_k».proof.Proof.Gen.DHm.Frame
public import proofs.«01_k».proof.Proof.Gen.DHmIdeal
public import proofs.«01_k».proof.Proof.Gen.DHmIdeal.Skeleton
public import proofs.«01_k».proof.Proof.Gen.DHmIdeal.Launch
public import proofs.«01_k».proof.Proof.Gen.DHmIdeal.Points
public import proofs.«01_k».proof.Proof.Gen.DHmIdeal.Frame
public import proofs.«01_k».proof.Proof.Gen.DHmIdeal.Value
public import proofs.«01_k».proof.Proof.Gen.DHmRefIdeal
public import proofs.«01_k».proof.Proof.Gen.DHmRefIdeal.Run
public import proofs.«01_k».proof.Proof.Gen.DHmRefIdeal.Read
public import proofs.«01_k».proof.Proof.Gen.Pre_finite_mlp
public import proofs.«01_k».proof.Proof.DAct
public import proofs.«01_k».proof.Proof.DHm
public import proofs.«01_k».proof.Proof.DMlp1
public import proofs.«01_k».proof.Proof.DMlp2
public import proofs.«01_k».proof.Proof.Mlp2
public import proofs.«01_k».proof.Proof.Gen.InB
public import proofs.«01_k».proof.Proof.Gen.InB.Skeleton
public import proofs.«01_k».proof.Proof.Gen.InB.Launch
public import proofs.«01_k».proof.Proof.Gen.InB.Points
public import proofs.«01_k».proof.Proof.Gen.InB.Frame
public import proofs.«01_k».proof.Proof.Gen.InBIdeal
public import proofs.«01_k».proof.Proof.Gen.InBIdeal.Skeleton
public import proofs.«01_k».proof.Proof.Gen.InBIdeal.Launch
public import proofs.«01_k».proof.Proof.Gen.InBIdeal.Points
public import proofs.«01_k».proof.Proof.Gen.InBIdeal.Frame
public import proofs.«01_k».proof.Proof.Gen.InBIdeal.Value
public import proofs.«01_k».proof.Proof.Gen.InBRefIdeal
public import proofs.«01_k».proof.Proof.Gen.InBRefIdeal.Run
public import proofs.«01_k».proof.Proof.Gen.InBRefIdeal.Read
public import proofs.«01_k».proof.Proof.Gen.InC
public import proofs.«01_k».proof.Proof.Gen.InC.Skeleton
public import proofs.«01_k».proof.Proof.Gen.InC.Launch
public import proofs.«01_k».proof.Proof.Gen.InC.Points
public import proofs.«01_k».proof.Proof.Gen.InC.Frame
public import proofs.«01_k».proof.Proof.Gen.InCIdeal
public import proofs.«01_k».proof.Proof.Gen.InCIdeal.Skeleton
public import proofs.«01_k».proof.Proof.Gen.InCIdeal.Launch
public import proofs.«01_k».proof.Proof.Gen.InCIdeal.Points
public import proofs.«01_k».proof.Proof.Gen.InCIdeal.Frame
public import proofs.«01_k».proof.Proof.Gen.InCIdeal.Value
public import proofs.«01_k».proof.Proof.Gen.InCRefIdeal
public import proofs.«01_k».proof.Proof.Gen.InCRefIdeal.Run
public import proofs.«01_k».proof.Proof.Gen.InCRefIdeal.Read
public import proofs.«01_k».proof.Proof.Gen.DInA
public import proofs.«01_k».proof.Proof.Gen.DInA.Skeleton
public import proofs.«01_k».proof.Proof.Gen.DInA.Launch
public import proofs.«01_k».proof.Proof.Gen.DInA.Points
public import proofs.«01_k».proof.Proof.Gen.DInA.Frame
public import proofs.«01_k».proof.Proof.Gen.DInAIdeal
public import proofs.«01_k».proof.Proof.Gen.DInAIdeal.Skeleton
public import proofs.«01_k».proof.Proof.Gen.DInAIdeal.Launch
public import proofs.«01_k».proof.Proof.Gen.DInAIdeal.Points
public import proofs.«01_k».proof.Proof.Gen.DInAIdeal.Frame
public import proofs.«01_k».proof.Proof.Gen.DInAIdeal.Value
public import proofs.«01_k».proof.Proof.Gen.DInARefIdeal
public import proofs.«01_k».proof.Proof.Gen.DInARefIdeal.Run
public import proofs.«01_k».proof.Proof.Gen.DInARefIdeal.Read
public import proofs.«01_k».proof.Proof.Gen.DInB
public import proofs.«01_k».proof.Proof.Gen.DInB.Skeleton
public import proofs.«01_k».proof.Proof.Gen.DInB.Launch
public import proofs.«01_k».proof.Proof.Gen.DInB.Points
public import proofs.«01_k».proof.Proof.Gen.DInB.Frame
public import proofs.«01_k».proof.Proof.Gen.DInBIdeal
public import proofs.«01_k».proof.Proof.Gen.DInBIdeal.Skeleton
public import proofs.«01_k».proof.Proof.Gen.DInBIdeal.Launch
public import proofs.«01_k».proof.Proof.Gen.DInBIdeal.Points
public import proofs.«01_k».proof.Proof.Gen.DInBIdeal.Frame
public import proofs.«01_k».proof.Proof.Gen.DInBIdeal.Value
public import proofs.«01_k».proof.Proof.Gen.DInBRefIdeal
public import proofs.«01_k».proof.Proof.Gen.DInBRefIdeal.Run
public import proofs.«01_k».proof.Proof.Gen.DInBRefIdeal.Read
public import proofs.«01_k».proof.Proof.Gen.DInC
public import proofs.«01_k».proof.Proof.Gen.DInC.Skeleton
public import proofs.«01_k».proof.Proof.Gen.DInC.Launch
public import proofs.«01_k».proof.Proof.Gen.DInC.Points
public import proofs.«01_k».proof.Proof.Gen.DInC.Frame
public import proofs.«01_k».proof.Proof.Gen.DInCIdeal
public import proofs.«01_k».proof.Proof.Gen.DInCIdeal.Skeleton
public import proofs.«01_k».proof.Proof.Gen.DInCIdeal.Launch
public import proofs.«01_k».proof.Proof.Gen.DInCIdeal.Points
public import proofs.«01_k».proof.Proof.Gen.DInCIdeal.Frame
public import proofs.«01_k».proof.Proof.Gen.DInCIdeal.Value
public import proofs.«01_k».proof.Proof.Gen.DInCRefIdeal
public import proofs.«01_k».proof.Proof.Gen.DInCRefIdeal.Run
public import proofs.«01_k».proof.Proof.Gen.DInCRefIdeal.Read
public import proofs.«01_k».proof.Proof.Gen.DHa
public import proofs.«01_k».proof.Proof.Gen.DHa.Skeleton
public import proofs.«01_k».proof.Proof.Gen.DHa.Launch
public import proofs.«01_k».proof.Proof.Gen.DHa.Points
public import proofs.«01_k».proof.Proof.Gen.DHa.Frame
public import proofs.«01_k».proof.Proof.Gen.DHaIdeal
public import proofs.«01_k».proof.Proof.Gen.DHaIdeal.Skeleton
public import proofs.«01_k».proof.Proof.Gen.DHaIdeal.Launch
public import proofs.«01_k».proof.Proof.Gen.DHaIdeal.Points
public import proofs.«01_k».proof.Proof.Gen.DHaIdeal.Frame
public import proofs.«01_k».proof.Proof.Gen.DHaIdeal.Value
public import proofs.«01_k».proof.Proof.Gen.DHaRefIdeal
public import proofs.«01_k».proof.Proof.Gen.DHaRefIdeal.Run
public import proofs.«01_k».proof.Proof.Gen.DHaRefIdeal.Read
public import proofs.«01_k».proof.Proof.Gen.DHb
public import proofs.«01_k».proof.Proof.Gen.DHb.Skeleton
public import proofs.«01_k».proof.Proof.Gen.DHb.Launch
public import proofs.«01_k».proof.Proof.Gen.DHb.Points
public import proofs.«01_k».proof.Proof.Gen.DHb.Frame
public import proofs.«01_k».proof.Proof.Gen.DHbIdeal
public import proofs.«01_k».proof.Proof.Gen.DHbIdeal.Skeleton
public import proofs.«01_k».proof.Proof.Gen.DHbIdeal.Launch
public import proofs.«01_k».proof.Proof.Gen.DHbIdeal.Points
public import proofs.«01_k».proof.Proof.Gen.DHbIdeal.Frame
public import proofs.«01_k».proof.Proof.Gen.DHbIdeal.Value
public import proofs.«01_k».proof.Proof.Gen.DHbRefIdeal
public import proofs.«01_k».proof.Proof.Gen.DHbRefIdeal.Run
public import proofs.«01_k».proof.Proof.Gen.DHbRefIdeal.Read
public import proofs.«01_k».proof.Proof.Gen.DHc
public import proofs.«01_k».proof.Proof.Gen.DHc.Skeleton
public import proofs.«01_k».proof.Proof.Gen.DHc.Launch
public import proofs.«01_k».proof.Proof.Gen.DHc.Points
public import proofs.«01_k».proof.Proof.Gen.DHc.Frame
public import proofs.«01_k».proof.Proof.Gen.DHcIdeal
public import proofs.«01_k».proof.Proof.Gen.DHcIdeal.Skeleton
public import proofs.«01_k».proof.Proof.Gen.DHcIdeal.Launch
public import proofs.«01_k».proof.Proof.Gen.DHcIdeal.Points
public import proofs.«01_k».proof.Proof.Gen.DHcIdeal.Frame
public import proofs.«01_k».proof.Proof.Gen.DHcIdeal.Value
public import proofs.«01_k».proof.Proof.Gen.DHcRefIdeal
public import proofs.«01_k».proof.Proof.Gen.DHcRefIdeal.Run
public import proofs.«01_k».proof.Proof.Gen.DHcRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.DOut
public import proofs.«01_k».proof.Proof.Gen.DOut.Skeleton
public import proofs.«01_k».proof.Proof.Gen.DOut.Launch
public import proofs.«01_k».proof.Proof.Gen.DOut.Points
public import proofs.«01_k».proof.Proof.Gen.DOut.Frame
public import proofs.«01_k».proof.Proof.Gen.DOutIdeal
public import proofs.«01_k».proof.Proof.Gen.DOutIdeal.Skeleton
public import proofs.«01_k».proof.Proof.Gen.DOutIdeal.Launch
public import proofs.«01_k».proof.Proof.Gen.DOutIdeal.Points
public import proofs.«01_k».proof.Proof.Gen.DOutIdeal.Frame
public import proofs.«01_k».proof.Proof.Gen.DOutIdeal.Value
public import proofs.«01_k».proof.Proof.Gen.DOutRefIdeal
public import proofs.«01_k».proof.Proof.Gen.DOutRefIdeal.Run
public import proofs.«01_k».proof.Proof.Gen.DOutRefIdeal.Read
public import proofs.«01_k».proof.Proof.Gen.DY
public import proofs.«01_k».proof.Proof.Gen.DY.Skeleton
public import proofs.«01_k».proof.Proof.Gen.DY.Launch
public import proofs.«01_k».proof.Proof.Gen.DY.Points
public import proofs.«01_k».proof.Proof.Gen.DY.Frame
public import proofs.«01_k».proof.Proof.Gen.DYIdeal
public import proofs.«01_k».proof.Proof.Gen.DYIdeal.Skeleton
public import proofs.«01_k».proof.Proof.Gen.DYIdeal.Launch
public import proofs.«01_k».proof.Proof.Gen.DYIdeal.Points
public import proofs.«01_k».proof.Proof.Gen.DYIdeal.Frame
public import proofs.«01_k».proof.Proof.Gen.DYIdeal.Value
public import proofs.«01_k».proof.Proof.Gen.DYRefIdeal
public import proofs.«01_k».proof.Proof.Gen.DYRefIdeal.Run
public import proofs.«01_k».proof.Proof.Gen.DYRefIdeal.Read
public import proofs.«01_k».proof.Proof.Gen.Pre_finite_mix
public import proofs.«01_k».proof.Proof.DHa
public import proofs.«01_k».proof.Proof.DHb
public import proofs.«01_k».proof.Proof.DHc
public import proofs.«01_k».proof.Proof.DInA
public import proofs.«01_k».proof.Proof.DInB
public import proofs.«01_k».proof.Proof.DInC
public import proofs.«01_k».proof.Proof.DOut
public import proofs.«01_k».proof.Proof.DY
public import proofs.«01_k».proof.Proof.InB
public import proofs.«01_k».proof.Proof.InC
public import proofs.«01_k».proof.Proof.Out
public import proofs.«01_k».proof.Proof.Gen.UpMerge
public import proofs.«01_k».proof.Proof.Gen.UpMerge.Skeleton
public import proofs.«01_k».proof.Proof.Gen.UpMerge.Launch
public import proofs.«01_k».proof.Proof.Gen.UpMerge.Points
public import proofs.«01_k».proof.Proof.Gen.UpMerge.Frame
public import proofs.«01_k».proof.Proof.Gen.UpMergeIdeal
public import proofs.«01_k».proof.Proof.Gen.UpMergeIdeal.Skeleton
public import proofs.«01_k».proof.Proof.Gen.UpMergeIdeal.Launch
public import proofs.«01_k».proof.Proof.Gen.UpMergeIdeal.Points
public import proofs.«01_k».proof.Proof.Gen.UpMergeIdeal.Frame
public import proofs.«01_k».proof.Proof.Gen.UpMergeIdeal.Value
public import proofs.«01_k».proof.Proof.Gen.UpMergeRefIdeal
public import proofs.«01_k».proof.Proof.Gen.UpMergeRefIdeal.Run
public import proofs.«01_k».proof.Proof.Gen.UpMergeRefIdeal.Read
public import proofs.«01_k».proof.Proof.Gen.Xo
public import proofs.«01_k».proof.Proof.Gen.Xo.Skeleton
public import proofs.«01_k».proof.Proof.Gen.Xo.Launch
public import proofs.«01_k».proof.Proof.Gen.Xo.Points
public import proofs.«01_k».proof.Proof.Gen.Xo.Frame
public import proofs.«01_k».proof.Proof.Gen.XoIdeal
public import proofs.«01_k».proof.Proof.Gen.XoIdeal.Skeleton
public import proofs.«01_k».proof.Proof.Gen.XoIdeal.Launch
public import proofs.«01_k».proof.Proof.Gen.XoIdeal.Points
public import proofs.«01_k».proof.Proof.Gen.XoIdeal.Frame
public import proofs.«01_k».proof.Proof.Gen.XoIdeal.Value
public import proofs.«01_k».proof.Proof.Gen.XoRefIdeal
public import proofs.«01_k».proof.Proof.Gen.XoRefIdeal.Run
public import proofs.«01_k».proof.Proof.Gen.XoRefIdeal.Read
public import proofs.«01_k».proof.Proof.Gen.DXo
public import proofs.«01_k».proof.Proof.Gen.DXo.Skeleton
public import proofs.«01_k».proof.Proof.Gen.DXo.Launch
public import proofs.«01_k».proof.Proof.Gen.DXo.Points
public import proofs.«01_k».proof.Proof.Gen.DXo.Frame
public import proofs.«01_k».proof.Proof.Gen.DXoIdeal
public import proofs.«01_k».proof.Proof.Gen.DXoIdeal.Skeleton
public import proofs.«01_k».proof.Proof.Gen.DXoIdeal.Launch
public import proofs.«01_k».proof.Proof.Gen.DXoIdeal.Points
public import proofs.«01_k».proof.Proof.Gen.DXoIdeal.Frame
public import proofs.«01_k».proof.Proof.Gen.DXoIdeal.Value
public import proofs.«01_k».proof.Proof.Gen.DXoRefIdeal
public import proofs.«01_k».proof.Proof.Gen.DXoRefIdeal.Run
public import proofs.«01_k».proof.Proof.Gen.DXoRefIdeal.Read
public import proofs.«01_k».proof.Proof.Gen.DOx
public import proofs.«01_k».proof.Proof.Gen.DOx.Skeleton
public import proofs.«01_k».proof.Proof.Gen.DOx.Launch
public import proofs.«01_k».proof.Proof.Gen.DOx.Points
public import proofs.«01_k».proof.Proof.Gen.DOx.Frame
public import proofs.«01_k».proof.Proof.Gen.DOxIdeal
public import proofs.«01_k».proof.Proof.Gen.DOxIdeal.Skeleton
public import proofs.«01_k».proof.Proof.Gen.DOxIdeal.Launch
public import proofs.«01_k».proof.Proof.Gen.DOxIdeal.Points
public import proofs.«01_k».proof.Proof.Gen.DOxIdeal.Frame
public import proofs.«01_k».proof.Proof.Gen.DOxIdeal.Value
public import proofs.«01_k».proof.Proof.Gen.DOxRefIdeal
public import proofs.«01_k».proof.Proof.Gen.DOxRefIdeal.Run
public import proofs.«01_k».proof.Proof.Gen.DOxRefIdeal.Read
public import proofs.«01_k».proof.Proof.Gen.DXq
public import proofs.«01_k».proof.Proof.Gen.DXq.Skeleton
public import proofs.«01_k».proof.Proof.Gen.DXq.Launch
public import proofs.«01_k».proof.Proof.Gen.DXq.Points
public import proofs.«01_k».proof.Proof.Gen.DXq.Frame
public import proofs.«01_k».proof.Proof.Gen.DXqIdeal
public import proofs.«01_k».proof.Proof.Gen.DXqIdeal.Skeleton
public import proofs.«01_k».proof.Proof.Gen.DXqIdeal.Launch
public import proofs.«01_k».proof.Proof.Gen.DXqIdeal.Points
public import proofs.«01_k».proof.Proof.Gen.DXqIdeal.Frame
public import proofs.«01_k».proof.Proof.Gen.DXqIdeal.Value
public import proofs.«01_k».proof.Proof.Gen.DXqRefIdeal
public import proofs.«01_k».proof.Proof.Gen.DXqRefIdeal.Run
public import proofs.«01_k».proof.Proof.Gen.DXqRefIdeal.Read
public import proofs.«01_k».proof.Proof.Gen.DHx
public import proofs.«01_k».proof.Proof.Gen.DHx.Skeleton
public import proofs.«01_k».proof.Proof.Gen.DHx.Launch
public import proofs.«01_k».proof.Proof.Gen.DHx.Points
public import proofs.«01_k».proof.Proof.Gen.DHx.Frame
public import proofs.«01_k».proof.Proof.Gen.DHxIdeal
public import proofs.«01_k».proof.Proof.Gen.DHxIdeal.Skeleton
public import proofs.«01_k».proof.Proof.Gen.DHxIdeal.Launch
public import proofs.«01_k».proof.Proof.Gen.DHxIdeal.Points
public import proofs.«01_k».proof.Proof.Gen.DHxIdeal.Frame
public import proofs.«01_k».proof.Proof.Gen.DHxIdeal.Value
public import proofs.«01_k».proof.Proof.Gen.DHxRefIdeal
public import proofs.«01_k».proof.Proof.Gen.DHxRefIdeal.Run
public import proofs.«01_k».proof.Proof.Gen.DHxRefIdeal.Read
public import proofs.«01_k».proof.Proof.Gen.DUp
public import proofs.«01_k».proof.Proof.Gen.DUp.Skeleton
public import proofs.«01_k».proof.Proof.Gen.DUp.Launch
public import proofs.«01_k».proof.Proof.Gen.DUp.Points
public import proofs.«01_k».proof.Proof.Gen.DUp.Frame
public import proofs.«01_k».proof.Proof.Gen.DUpIdeal
public import proofs.«01_k».proof.Proof.Gen.DUpIdeal.Skeleton
public import proofs.«01_k».proof.Proof.Gen.DUpIdeal.Launch
public import proofs.«01_k».proof.Proof.Gen.DUpIdeal.Points
public import proofs.«01_k».proof.Proof.Gen.DUpIdeal.Frame
public import proofs.«01_k».proof.Proof.Gen.DUpIdeal.Value
public import proofs.«01_k».proof.Proof.Gen.DUpRefIdeal
public import proofs.«01_k».proof.Proof.Gen.DUpRefIdeal.Run
public import proofs.«01_k».proof.Proof.Gen.DUpRefIdeal.Read
public import proofs.«01_k».proof.Proof.Gen.DUpGla
public import proofs.«01_k».proof.Proof.Gen.DUpGla.Skeleton
public import proofs.«01_k».proof.Proof.Gen.DUpGla.Launch
public import proofs.«01_k».proof.Proof.Gen.DUpGla.Points
public import proofs.«01_k».proof.Proof.Gen.DUpGla.Frame
public import proofs.«01_k».proof.Proof.Gen.DUpGlaIdeal
public import proofs.«01_k».proof.Proof.Gen.DUpGlaIdeal.Skeleton
public import proofs.«01_k».proof.Proof.Gen.DUpGlaIdeal.Launch
public import proofs.«01_k».proof.Proof.Gen.DUpGlaIdeal.Points
public import proofs.«01_k».proof.Proof.Gen.DUpGlaIdeal.Frame
public import proofs.«01_k».proof.Proof.Gen.DUpGlaIdeal.Value
public import proofs.«01_k».proof.Proof.Gen.DUpGlaRefIdeal
public import proofs.«01_k».proof.Proof.Gen.DUpGlaRefIdeal.Run
public import proofs.«01_k».proof.Proof.Gen.DUpGlaRefIdeal.Read
public import proofs.«01_k».proof.Proof.Gen.DUq
public import proofs.«01_k».proof.Proof.Gen.DUq.Skeleton
public import proofs.«01_k».proof.Proof.Gen.DUq.Launch
public import proofs.«01_k».proof.Proof.Gen.DUq.Points
public import proofs.«01_k».proof.Proof.Gen.DUq.Frame
public import proofs.«01_k».proof.Proof.Gen.DUqIdeal
public import proofs.«01_k».proof.Proof.Gen.DUqIdeal.Skeleton
public import proofs.«01_k».proof.Proof.Gen.DUqIdeal.Launch
public import proofs.«01_k».proof.Proof.Gen.DUqIdeal.Points
public import proofs.«01_k».proof.Proof.Gen.DUqIdeal.Frame
public import proofs.«01_k».proof.Proof.Gen.DUqIdeal.Value
public import proofs.«01_k».proof.Proof.Gen.DUqRefIdeal
public import proofs.«01_k».proof.Proof.Gen.DUqRefIdeal.Run
public import proofs.«01_k».proof.Proof.Gen.DUqRefIdeal.Read
public import proofs.«01_k».proof.Proof.Gen.DCqn
public import proofs.«01_k».proof.Proof.Gen.DCqn.Skeleton
public import proofs.«01_k».proof.Proof.Gen.DCqn.Launch
public import proofs.«01_k».proof.Proof.Gen.DCqn.Points
public import proofs.«01_k».proof.Proof.Gen.DCqn.Frame
public import proofs.«01_k».proof.Proof.Gen.DCqnIdeal
public import proofs.«01_k».proof.Proof.Gen.DCqnIdeal.Skeleton
public import proofs.«01_k».proof.Proof.Gen.DCqnIdeal.Launch
public import proofs.«01_k».proof.Proof.Gen.DCqnIdeal.Points
public import proofs.«01_k».proof.Proof.Gen.DCqnIdeal.Frame
public import proofs.«01_k».proof.Proof.Gen.DCqnIdeal.Value
public import proofs.«01_k».proof.Proof.Gen.DCqnRefIdeal
public import proofs.«01_k».proof.Proof.Gen.DCqnRefIdeal.Run
public import proofs.«01_k».proof.Proof.Gen.DCqnRefIdeal.Read
public import proofs.«01_k».proof.Proof.Gen.DUkv
public import proofs.«01_k».proof.Proof.Gen.DUkv.Skeleton
public import proofs.«01_k».proof.Proof.Gen.DUkv.Launch
public import proofs.«01_k».proof.Proof.Gen.DUkv.Points
public import proofs.«01_k».proof.Proof.Gen.DUkv.Frame
public import proofs.«01_k».proof.Proof.Gen.DUkvIdeal
public import proofs.«01_k».proof.Proof.Gen.DUkvIdeal.Skeleton
public import proofs.«01_k».proof.Proof.Gen.DUkvIdeal.Launch
public import proofs.«01_k».proof.Proof.Gen.DUkvIdeal.Points
public import proofs.«01_k».proof.Proof.Gen.DUkvIdeal.Frame
public import proofs.«01_k».proof.Proof.Gen.DUkvIdeal.Value
public import proofs.«01_k».proof.Proof.Gen.DUkvRefIdeal
public import proofs.«01_k».proof.Proof.Gen.DUkvRefIdeal.Run
public import proofs.«01_k».proof.Proof.Gen.DUkvRefIdeal.Read
public import proofs.«01_k».proof.Proof.Gen.DCkvn
public import proofs.«01_k».proof.Proof.Gen.DCkvn.Skeleton
public import proofs.«01_k».proof.Proof.Gen.DCkvn.Launch
public import proofs.«01_k».proof.Proof.Gen.DCkvn.Points
public import proofs.«01_k».proof.Proof.Gen.DCkvn.Frame
public import proofs.«01_k».proof.Proof.Gen.DCkvnIdeal
public import proofs.«01_k».proof.Proof.Gen.DCkvnIdeal.Skeleton
public import proofs.«01_k».proof.Proof.Gen.DCkvnIdeal.Launch
public import proofs.«01_k».proof.Proof.Gen.DCkvnIdeal.Points
public import proofs.«01_k».proof.Proof.Gen.DCkvnIdeal.Frame
public import proofs.«01_k».proof.Proof.Gen.DCkvnIdeal.Value
public import proofs.«01_k».proof.Proof.Gen.DCkvnRefIdeal
public import proofs.«01_k».proof.Proof.Gen.DCkvnRefIdeal.Run
public import proofs.«01_k».proof.Proof.Gen.DCkvnRefIdeal.Read
public import proofs.«01_k».proof.Proof.Gen.Pre_finite_xq
public import proofs.«01_k».proof.Proof.DCkvn
public import proofs.«01_k».proof.Proof.DCqn
public import proofs.«01_k».proof.Proof.DHx
public import proofs.«01_k».proof.Proof.DOx
public import proofs.«01_k».proof.Proof.DUkv
public import proofs.«01_k».proof.Proof.DUp
public import proofs.«01_k».proof.Proof.DUpGla
public import proofs.«01_k».proof.Proof.DUq
public import proofs.«01_k».proof.Proof.DXo
public import proofs.«01_k».proof.Proof.DXq
public import proofs.«01_k».proof.Proof.UpMerge
public import proofs.«01_k».proof.Proof.Xo
public import proofs.«01_k».proof.Proof.Gen.InA
public import proofs.«01_k».proof.Proof.Gen.InA.Skeleton
public import proofs.«01_k».proof.Proof.Gen.InA.Launch
public import proofs.«01_k».proof.Proof.Gen.InA.Points
public import proofs.«01_k».proof.Proof.Gen.InA.Frame
public import proofs.«01_k».proof.Proof.Gen.InAIdeal
public import proofs.«01_k».proof.Proof.Gen.InAIdeal.Skeleton
public import proofs.«01_k».proof.Proof.Gen.InAIdeal.Launch
public import proofs.«01_k».proof.Proof.Gen.InAIdeal.Points
public import proofs.«01_k».proof.Proof.Gen.InAIdeal.Frame
public import proofs.«01_k».proof.Proof.Gen.InAIdeal.Value
public import proofs.«01_k».proof.Proof.Gen.InARefIdeal
public import proofs.«01_k».proof.Proof.Gen.InARefIdeal.Run
public import proofs.«01_k».proof.Proof.Gen.InARefIdeal.Read
public import proofs.«01_k».proof.Proof.Gen.Xq
public import proofs.«01_k».proof.Proof.Gen.Xq.Skeleton
public import proofs.«01_k».proof.Proof.Gen.Xq.Launch
public import proofs.«01_k».proof.Proof.Gen.Xq.Points
public import proofs.«01_k».proof.Proof.Gen.Xq.Frame
public import proofs.«01_k».proof.Proof.Gen.XqIdeal
public import proofs.«01_k».proof.Proof.Gen.XqIdeal.Skeleton
public import proofs.«01_k».proof.Proof.Gen.XqIdeal.Launch
public import proofs.«01_k».proof.Proof.Gen.XqIdeal.Points
public import proofs.«01_k».proof.Proof.Gen.XqIdeal.Frame
public import proofs.«01_k».proof.Proof.Gen.XqIdeal.Value
public import proofs.«01_k».proof.Proof.Gen.XqRefIdeal
public import proofs.«01_k».proof.Proof.Gen.XqRefIdeal.Run
public import proofs.«01_k».proof.Proof.Gen.XqRefIdeal.Read
public import proofs.«01_k».proof.Proof.Gen.Xkv
public import proofs.«01_k».proof.Proof.Gen.Xkv.Skeleton
public import proofs.«01_k».proof.Proof.Gen.Xkv.Launch
public import proofs.«01_k».proof.Proof.Gen.Xkv.Points
public import proofs.«01_k».proof.Proof.Gen.Xkv.Frame
public import proofs.«01_k».proof.Proof.Gen.XkvIdeal
public import proofs.«01_k».proof.Proof.Gen.XkvIdeal.Skeleton
public import proofs.«01_k».proof.Proof.Gen.XkvIdeal.Launch
public import proofs.«01_k».proof.Proof.Gen.XkvIdeal.Points
public import proofs.«01_k».proof.Proof.Gen.XkvIdeal.Frame
public import proofs.«01_k».proof.Proof.Gen.XkvIdeal.Value
public import proofs.«01_k».proof.Proof.Gen.XkvRefIdeal
public import proofs.«01_k».proof.Proof.Gen.XkvRefIdeal.Run
public import proofs.«01_k».proof.Proof.Gen.XkvRefIdeal.Read
public import proofs.«01_k».proof.Proof.Gen.MlaUq
public import proofs.«01_k».proof.Proof.Gen.MlaUq.Skeleton
public import proofs.«01_k».proof.Proof.Gen.MlaUq.Launch
public import proofs.«01_k».proof.Proof.Gen.MlaUq.Points
public import proofs.«01_k».proof.Proof.Gen.MlaUq.Frame
public import proofs.«01_k».proof.Proof.Gen.MlaUqIdeal
public import proofs.«01_k».proof.Proof.Gen.MlaUqIdeal.Skeleton
public import proofs.«01_k».proof.Proof.Gen.MlaUqIdeal.Launch
public import proofs.«01_k».proof.Proof.Gen.MlaUqIdeal.Points
public import proofs.«01_k».proof.Proof.Gen.MlaUqIdeal.Frame
public import proofs.«01_k».proof.Proof.Gen.MlaUqIdeal.Value
public import proofs.«01_k».proof.Proof.Gen.MlaUqRefIdeal
public import proofs.«01_k».proof.Proof.Gen.MlaUqRefIdeal.Run
public import proofs.«01_k».proof.Proof.Gen.MlaUqRefIdeal.Read
public import proofs.«01_k».proof.Proof.Gen.MlaUkv
public import proofs.«01_k».proof.Proof.Gen.MlaUkv.Skeleton
public import proofs.«01_k».proof.Proof.Gen.MlaUkv.Launch
public import proofs.«01_k».proof.Proof.Gen.MlaUkv.Points
public import proofs.«01_k».proof.Proof.Gen.MlaUkv.Frame
public import proofs.«01_k».proof.Proof.Gen.MlaUkvIdeal
public import proofs.«01_k».proof.Proof.Gen.MlaUkvIdeal.Skeleton
public import proofs.«01_k».proof.Proof.Gen.MlaUkvIdeal.Launch
public import proofs.«01_k».proof.Proof.Gen.MlaUkvIdeal.Points
public import proofs.«01_k».proof.Proof.Gen.MlaUkvIdeal.Frame
public import proofs.«01_k».proof.Proof.Gen.MlaUkvIdeal.Value
public import proofs.«01_k».proof.Proof.Gen.MlaUkvRefIdeal
public import proofs.«01_k».proof.Proof.Gen.MlaUkvRefIdeal.Run
public import proofs.«01_k».proof.Proof.Gen.MlaUkvRefIdeal.Read
public import proofs.«01_k».proof.Proof.InA
public import proofs.«01_k».proof.Proof.MlaUkv
public import proofs.«01_k».proof.Proof.MlaUq
public import proofs.«01_k».proof.Proof.Xkv
public import proofs.«01_k».proof.Proof.Xq
public import proofs.«01_k».proof.Proof.Gen.Mlp1
public import proofs.«01_k».proof.Proof.Gen.Mlp1.Skeleton
public import proofs.«01_k».proof.Proof.Gen.Mlp1.Launch
public import proofs.«01_k».proof.Proof.Gen.Mlp1.Points
public import proofs.«01_k».proof.Proof.Gen.Mlp1.Frame
public import proofs.«01_k».proof.Proof.Gen.Mlp1Ideal
public import proofs.«01_k».proof.Proof.Gen.Mlp1Ideal.Skeleton
public import proofs.«01_k».proof.Proof.Gen.Mlp1Ideal.Launch
public import proofs.«01_k».proof.Proof.Gen.Mlp1Ideal.Points
public import proofs.«01_k».proof.Proof.Gen.Mlp1Ideal.Frame
public import proofs.«01_k».proof.Proof.Gen.Mlp1RefIdeal
public import proofs.«01_k».proof.Proof.Gen.Mlp1RefIdeal.Run
public import proofs.«01_k».proof.Proof.Gen.Mlp1RefIdeal.Read
public import proofs.«01_k».proof.Proof.Gen.DXkv
public import proofs.«01_k».proof.Proof.Gen.DXkv.Skeleton
public import proofs.«01_k».proof.Proof.Gen.DXkv.Launch
public import proofs.«01_k».proof.Proof.Gen.DXkv.Points
public import proofs.«01_k».proof.Proof.Gen.DXkv.Frame
public import proofs.«01_k».proof.Proof.Gen.DXkvIdeal
public import proofs.«01_k».proof.Proof.Gen.DXkvIdeal.Skeleton
public import proofs.«01_k».proof.Proof.Gen.DXkvIdeal.Launch
public import proofs.«01_k».proof.Proof.Gen.DXkvIdeal.Points
public import proofs.«01_k».proof.Proof.Gen.DXkvIdeal.Frame
public import proofs.«01_k».proof.Proof.Gen.DXkvIdeal.Value
public import proofs.«01_k».proof.Proof.Gen.DXkvRefIdeal
public import proofs.«01_k».proof.Proof.Gen.DXkvRefIdeal.Run
public import proofs.«01_k».proof.Proof.Gen.DXkvRefIdeal.Read
public import proofs.«01_k».proof.Proof.Gen.DMn
public import proofs.«01_k».proof.Proof.Gen.DMn.Skeleton
public import proofs.«01_k».proof.Proof.Gen.DMn.Launch
public import proofs.«01_k».proof.Proof.Gen.DMn.Points
public import proofs.«01_k».proof.Proof.Gen.DMn.Frame
public import proofs.«01_k».proof.Proof.Gen.DMnIdeal
public import proofs.«01_k».proof.Proof.Gen.DMnIdeal.Skeleton
public import proofs.«01_k».proof.Proof.Gen.DMnIdeal.Launch
public import proofs.«01_k».proof.Proof.Gen.DMnIdeal.Points
public import proofs.«01_k».proof.Proof.Gen.DMnIdeal.Frame
public import proofs.«01_k».proof.Proof.Gen.DMnIdeal.Value
public import proofs.«01_k».proof.Proof.Gen.DMnRefIdeal
public import proofs.«01_k».proof.Proof.Gen.DMnRefIdeal.Run
public import proofs.«01_k».proof.Proof.Gen.DMnRefIdeal.Read
public import proofs.«01_k».proof.Proof.DMn
public import proofs.«01_k».proof.Proof.DXkv
public import proofs.«01_k».proof.Proof.Mlp1
public import proofs.«01_k».proof.Proof.Mlp1Frame
public import proofs.«01_k».proof.Proof.Gen.DMerge
public import proofs.«01_k».proof.Proof.Gen.DMerge.Skeleton
public import proofs.«01_k».proof.Proof.Gen.DMerge.Launch
public import proofs.«01_k».proof.Proof.Gen.DMerge.Points
public import proofs.«01_k».proof.Proof.Gen.DMerge.Frame
public import proofs.«01_k».proof.Proof.Gen.DMergeIdeal
public import proofs.«01_k».proof.Proof.Gen.DMergeIdeal.Skeleton
public import proofs.«01_k».proof.Proof.Gen.DMergeIdeal.Launch
public import proofs.«01_k».proof.Proof.Gen.DMergeIdeal.Points
public import proofs.«01_k».proof.Proof.Gen.DMergeIdeal.Frame
public import proofs.«01_k».proof.Proof.Gen.DMergeIdeal.Value
public import proofs.«01_k».proof.Proof.Gen.DMergeRefIdeal
public import proofs.«01_k».proof.Proof.Gen.DMergeRefIdeal.Run
public import proofs.«01_k».proof.Proof.Gen.DMergeRefIdeal.Read
public import proofs.«01_k».proof.Proof.DMerge
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Mlp2.Gen.facts, Cert.Mlp2Ideal.Gen.facts, Cert.Mlp2RefIdeal.Gen.facts, Cert.DMlp2.Gen.facts, Cert.DMlp2Ideal.Gen.facts, Cert.DMlp2RefIdeal.Gen.facts, Cert.DAct.Gen.facts, Cert.DActIdeal.Gen.facts, Cert.DActRefIdeal.Gen.facts, Cert.DMlp1.Gen.facts, Cert.DMlp1Ideal.Gen.facts, Cert.DMlp1RefIdeal.Gen.facts, Cert.DHm.Gen.facts, Cert.DHmIdeal.Gen.facts, Cert.DHmRefIdeal.Gen.facts, Cert.InB.Gen.facts, Cert.InBIdeal.Gen.facts, Cert.InBRefIdeal.Gen.facts, Cert.InC.Gen.facts, Cert.InCIdeal.Gen.facts, Cert.InCRefIdeal.Gen.facts, Cert.DInA.Gen.facts, Cert.DInAIdeal.Gen.facts, Cert.DInARefIdeal.Gen.facts, Cert.DInB.Gen.facts, Cert.DInBIdeal.Gen.facts, Cert.DInBRefIdeal.Gen.facts, Cert.DInC.Gen.facts, Cert.DInCIdeal.Gen.facts, Cert.DInCRefIdeal.Gen.facts, Cert.DHa.Gen.facts, Cert.DHaIdeal.Gen.facts, Cert.DHaRefIdeal.Gen.facts, Cert.DHb.Gen.facts, Cert.DHbIdeal.Gen.facts, Cert.DHbRefIdeal.Gen.facts, Cert.DHc.Gen.facts, Cert.DHcIdeal.Gen.facts, Cert.DHcRefIdeal.Gen.facts, Cert.Out.Gen.facts, Cert.OutIdeal.Gen.facts, Cert.OutRefIdeal.Gen.facts, Cert.DOut.Gen.facts, Cert.DOutIdeal.Gen.facts, Cert.DOutRefIdeal.Gen.facts, Cert.DY.Gen.facts, Cert.DYIdeal.Gen.facts, Cert.DYRefIdeal.Gen.facts, Cert.UpMerge.Gen.facts, Cert.UpMergeIdeal.Gen.facts, Cert.UpMergeRefIdeal.Gen.facts, Cert.Xo.Gen.facts, Cert.XoIdeal.Gen.facts, Cert.XoRefIdeal.Gen.facts, Cert.DXo.Gen.facts, Cert.DXoIdeal.Gen.facts, Cert.DXoRefIdeal.Gen.facts, Cert.DOx.Gen.facts, Cert.DOxIdeal.Gen.facts, Cert.DOxRefIdeal.Gen.facts, Cert.DXq.Gen.facts, Cert.DXqIdeal.Gen.facts, Cert.DXqRefIdeal.Gen.facts, Cert.DHx.Gen.facts, Cert.DHxIdeal.Gen.facts, Cert.DHxRefIdeal.Gen.facts, Cert.DUp.Gen.facts, Cert.DUpIdeal.Gen.facts, Cert.DUpRefIdeal.Gen.facts, Cert.DUpGla.Gen.facts, Cert.DUpGlaIdeal.Gen.facts, Cert.DUpGlaRefIdeal.Gen.facts, Cert.DUq.Gen.facts, Cert.DUqIdeal.Gen.facts, Cert.DUqRefIdeal.Gen.facts, Cert.DCqn.Gen.facts, Cert.DCqnIdeal.Gen.facts, Cert.DCqnRefIdeal.Gen.facts, Cert.DUkv.Gen.facts, Cert.DUkvIdeal.Gen.facts, Cert.DUkvRefIdeal.Gen.facts, Cert.DCkvn.Gen.facts, Cert.DCkvnIdeal.Gen.facts, Cert.DCkvnRefIdeal.Gen.facts, Cert.Mlp1.Gen.facts, Cert.Mlp1Ideal.Gen.facts, Cert.Mlp1RefIdeal.Gen.facts, Cert.InA.Gen.facts, Cert.InAIdeal.Gen.facts, Cert.InARefIdeal.Gen.facts, Cert.Xq.Gen.facts, Cert.XqIdeal.Gen.facts, Cert.XqRefIdeal.Gen.facts, Cert.Xkv.Gen.facts, Cert.XkvIdeal.Gen.facts, Cert.XkvRefIdeal.Gen.facts, Cert.MlaUq.Gen.facts, Cert.MlaUqIdeal.Gen.facts, Cert.MlaUqRefIdeal.Gen.facts, Cert.MlaUkv.Gen.facts, Cert.MlaUkvIdeal.Gen.facts, Cert.MlaUkvRefIdeal.Gen.facts, Cert.DXkv.Gen.facts, Cert.DXkvIdeal.Gen.facts, Cert.DXkvRefIdeal.Gen.facts, Cert.DMn.Gen.facts, Cert.DMnIdeal.Gen.facts, Cert.DMnRefIdeal.Gen.facts, Cert.DMerge.Gen.facts, Cert.DMergeIdeal.Gen.facts, Cert.DMergeRefIdeal.Gen.facts, Cert.Pre_finite.Gen.facts, Cert.Pre_finite_mlp.Gen.facts, Cert.Pre_finite_mix.Gen.facts, Cert.Pre_finite_xq.Gen.facts,
  fun m ρ _ => Cert.Kernel.Gen.frame m ρ,
  fun m ρ _ => Cert.KernelIdeal.Gen.frame m ρ,
  fun m ρ _ => Cert.KernelIdeal.Gen.frame m ρ,
  fun m ρ _ => Cert.KernelIdeal.Xa.ref_frame m ρ,
  fun m ρ _ => Cert.KernelIdeal.Xa.ref_frame m ρ,
  fun m ρ _ => Cert.Mlp2.Gen.frame m ρ,
  fun m ρ _ => Cert.Mlp2Ideal.Gen.frame m ρ,
  fun m ρ _ => Cert.Mlp2Ideal.Product.ref_frame m ρ trivial,
  fun m ρ _ => Cert.DMlp2.Gen.frame m ρ,
  fun m ρ _ => Cert.DMlp2Ideal.Gen.frame m ρ,
  fun m ρ _ => Cert.DMlp2Ideal.Product.ref_frame m ρ trivial,
  fun m ρ _ => Cert.DAct.Gen.frame m ρ,
  fun m ρ _ => Cert.DActIdeal.Gen.frame m ρ,
  fun m ρ _ => Cert.DActIdeal.Product.ref_frame m ρ trivial,
  fun m ρ _ => Cert.DMlp1.Gen.frame m ρ,
  fun m ρ _ => Cert.DMlp1Ideal.Gen.frame m ρ,
  fun m ρ _ => Cert.DMlp1Ideal.Product.ref_frame m ρ trivial,
  fun m ρ _ => Cert.DHm.Gen.frame m ρ,
  fun m ρ _ => Cert.DHmIdeal.Gen.frame m ρ,
  fun m ρ _ => Cert.DHmIdeal.Gen.frame m ρ,
  fun m ρ _ => Cert.DHmIdeal.Product.ref_frame m ρ trivial,
  fun m ρ _ => Cert.DHmIdeal.Product.ref_frame m ρ trivial,
  fun m ρ _ => Cert.InB.Gen.frame m ρ,
  fun m ρ _ => Cert.InBIdeal.Gen.frame m ρ,
  fun m ρ _ => Cert.InBIdeal.Product.ref_frame m ρ trivial,
  fun m ρ _ => Cert.InC.Gen.frame m ρ,
  fun m ρ _ => Cert.InCIdeal.Gen.frame m ρ,
  fun m ρ _ => Cert.InCIdeal.Product.ref_frame m ρ trivial,
  fun m ρ _ => Cert.DInA.Gen.frame m ρ,
  fun m ρ _ => Cert.DInAIdeal.Gen.frame m ρ,
  fun m ρ _ => Cert.DInAIdeal.Product.ref_frame m ρ trivial,
  fun m ρ _ => Cert.DInB.Gen.frame m ρ,
  fun m ρ _ => Cert.DInBIdeal.Gen.frame m ρ,
  fun m ρ _ => Cert.DInBIdeal.Product.ref_frame m ρ trivial,
  fun m ρ _ => Cert.DInC.Gen.frame m ρ,
  fun m ρ _ => Cert.DInCIdeal.Gen.frame m ρ,
  fun m ρ _ => Cert.DInCIdeal.Product.ref_frame m ρ trivial,
  fun m ρ _ => Cert.DHa.Gen.frame m ρ,
  fun m ρ _ => Cert.DHaIdeal.Gen.frame m ρ,
  fun m ρ _ => Cert.DHaIdeal.Product.ref_frame m ρ trivial,
  fun m ρ _ => Cert.DHb.Gen.frame m ρ,
  fun m ρ _ => Cert.DHbIdeal.Gen.frame m ρ,
  fun m ρ _ => Cert.DHbIdeal.Product.ref_frame m ρ trivial,
  fun m ρ _ => Cert.DHc.Gen.frame m ρ,
  fun m ρ _ => Cert.DHcIdeal.Gen.frame m ρ,
  fun m ρ _ => Cert.DHcIdeal.Gen.frame m ρ,
  fun m ρ _ => Cert.DHcIdeal.Product.ref_frame m ρ trivial,
  fun m ρ _ => Cert.DHcIdeal.Product.ref_frame m ρ trivial,
  fun m ρ _ => Cert.Out.Gen.frame m ρ,
  fun m ρ _ => Cert.OutIdeal.Gen.frame m ρ,
  fun m ρ _ => Cert.OutIdeal.Product.ref_frame m ρ trivial,
  fun m ρ _ => Cert.DOut.Gen.frame m ρ,
  fun m ρ _ => Cert.DOutIdeal.Gen.frame m ρ,
  fun m ρ _ => Cert.DOutIdeal.Product.ref_frame m ρ trivial,
  fun m ρ _ => Cert.DY.Gen.frame m ρ,
  fun m ρ _ => Cert.DYIdeal.Gen.frame m ρ,
  fun m ρ _ => Cert.DYIdeal.Product.ref_frame m ρ trivial,
  fun m ρ _ => Cert.UpMerge.Gen.frame m ρ,
  fun m ρ _ => Cert.UpMergeIdeal.Gen.frame m ρ,
  fun m ρ _ => Cert.UpMergeIdeal.Product.ref_frame m ρ trivial,
  fun m ρ _ => Cert.Xo.Gen.frame m ρ,
  fun m ρ _ => Cert.XoIdeal.Gen.frame m ρ,
  fun m ρ _ => Cert.XoIdeal.Product.ref_frame m ρ trivial,
  fun m ρ _ => Cert.DXo.Gen.frame m ρ,
  fun m ρ _ => Cert.DXoIdeal.Gen.frame m ρ,
  fun m ρ _ => Cert.DXoIdeal.Product.ref_frame m ρ trivial,
  fun m ρ _ => Cert.DOx.Gen.frame m ρ,
  fun m ρ _ => Cert.DOxIdeal.Gen.frame m ρ,
  fun m ρ _ => Cert.DOxIdeal.Product.ref_frame m ρ trivial,
  fun m ρ _ => Cert.DXq.Gen.frame m ρ,
  fun m ρ _ => Cert.DXqIdeal.Gen.frame m ρ,
  fun m ρ _ => Cert.DXqIdeal.Product.ref_frame m ρ trivial,
  fun m ρ _ => Cert.DHx.Gen.frame m ρ,
  fun m ρ _ => Cert.DHxIdeal.Gen.frame m ρ,
  fun m ρ _ => Cert.DHxIdeal.Gen.frame m ρ,
  fun m ρ _ => Cert.DHxIdeal.Product.ref_frame m ρ trivial,
  fun m ρ _ => Cert.DHxIdeal.Product.ref_frame m ρ trivial,
  fun m ρ _ => Cert.DUp.Gen.frame m ρ,
  fun m ρ _ => Cert.DUpIdeal.Gen.frame m ρ,
  fun m ρ _ => Cert.DUpIdeal.Product.ref_frame m ρ trivial,
  fun m ρ _ => Cert.DUpGla.Gen.frame m ρ,
  fun m ρ _ => Cert.DUpGlaIdeal.Gen.frame m ρ,
  fun m ρ _ => Cert.DUpGlaIdeal.Product.ref_frame m ρ trivial,
  fun m ρ _ => Cert.DUq.Gen.frame m ρ,
  fun m ρ _ => Cert.DUqIdeal.Gen.frame m ρ,
  fun m ρ _ => Cert.DUqIdeal.Product.ref_frame m ρ trivial,
  fun m ρ _ => Cert.DCqn.Gen.frame m ρ,
  fun m ρ _ => Cert.DCqnIdeal.Gen.frame m ρ,
  fun m ρ _ => Cert.DCqnIdeal.Product.ref_frame m ρ trivial,
  fun m ρ _ => Cert.DUkv.Gen.frame m ρ,
  fun m ρ _ => Cert.DUkvIdeal.Gen.frame m ρ,
  fun m ρ _ => Cert.DUkvIdeal.Product.ref_frame m ρ trivial,
  fun m ρ _ => Cert.DCkvn.Gen.frame m ρ,
  fun m ρ _ => Cert.DCkvnIdeal.Gen.frame m ρ,
  fun m ρ _ => Cert.DCkvnIdeal.Product.ref_frame m ρ trivial,
  Cert.Mlp1.Rows.frame,
  Cert.Mlp1.Rows.frame_ideal,
  fun m ρ _ => Cert.Mlp1Ideal.Product.ref_frame m ρ trivial,
  fun m ρ _ => Cert.InA.Gen.frame m ρ,
  fun m ρ _ => Cert.InAIdeal.Gen.frame m ρ,
  fun m ρ _ => Cert.InAIdeal.Product.ref_frame m ρ trivial,
  fun m ρ _ => Cert.Xq.Gen.frame m ρ,
  fun m ρ _ => Cert.XqIdeal.Gen.frame m ρ,
  fun m ρ _ => Cert.XqIdeal.Product.ref_frame m ρ trivial,
  fun m ρ _ => Cert.Xkv.Gen.frame m ρ,
  fun m ρ _ => Cert.XkvIdeal.Gen.frame m ρ,
  fun m ρ _ => Cert.XkvIdeal.Product.ref_frame m ρ trivial,
  fun m ρ _ => Cert.MlaUq.Gen.frame m ρ,
  fun m ρ _ => Cert.MlaUqIdeal.Gen.frame m ρ,
  fun m ρ _ => Cert.MlaUqIdeal.Product.ref_frame m ρ trivial,
  fun m ρ _ => Cert.MlaUkv.Gen.frame m ρ,
  fun m ρ _ => Cert.MlaUkvIdeal.Gen.frame m ρ,
  fun m ρ _ => Cert.MlaUkvIdeal.Product.ref_frame m ρ trivial,
  fun m ρ _ => Cert.DXkv.Gen.frame m ρ,
  fun m ρ _ => Cert.DXkvIdeal.Gen.frame m ρ,
  fun m ρ _ => Cert.DXkvIdeal.Product.ref_frame m ρ trivial,
  fun m ρ _ => Cert.DMn.Gen.frame m ρ,
  fun m ρ _ => Cert.DMnIdeal.Gen.frame m ρ,
  fun m ρ _ => Cert.DMnIdeal.Product.ref_frame m ρ trivial,
  fun m ρ _ => Cert.DMerge.Gen.frame m ρ,
  fun m ρ _ => Cert.DMergeIdeal.Gen.frame m ρ,
  fun m ρ _ => Cert.DMergeIdeal.Product.ref_frame m ρ trivial,
  trivial,
  Cert.KernelIdeal.Xa.equal,
  trivial,
  Cert.Mlp2Ideal.Product.equal,
  trivial,
  Cert.DMlp2Ideal.Product.equal,
  trivial,
  Cert.DActIdeal.Product.equal,
  trivial,
  Cert.DMlp1Ideal.Product.equal,
  trivial,
  Cert.DHmIdeal.Product.equal,
  trivial,
  Cert.InBIdeal.Product.equal,
  trivial,
  Cert.InCIdeal.Product.equal,
  trivial,
  Cert.DInAIdeal.Product.equal,
  trivial,
  Cert.DInBIdeal.Product.equal,
  trivial,
  Cert.DInCIdeal.Product.equal,
  trivial,
  Cert.DHaIdeal.Product.equal,
  trivial,
  Cert.DHbIdeal.Product.equal,
  trivial,
  Cert.DHcIdeal.Product.equal,
  trivial,
  Cert.OutIdeal.Product.equal,
  trivial,
  Cert.DOutIdeal.Product.equal,
  trivial,
  Cert.DYIdeal.Product.equal,
  trivial,
  Cert.UpMergeIdeal.Product.equal,
  trivial,
  Cert.XoIdeal.Product.equal,
  trivial,
  Cert.DXoIdeal.Product.equal,
  trivial,
  Cert.DOxIdeal.Product.equal,
  trivial,
  Cert.DXqIdeal.Product.equal,
  trivial,
  Cert.DHxIdeal.Product.equal,
  trivial,
  Cert.DUpIdeal.Product.equal,
  trivial,
  Cert.DUpGlaIdeal.Product.equal,
  trivial,
  Cert.DUqIdeal.Product.equal,
  trivial,
  Cert.DCqnIdeal.Product.equal,
  trivial,
  Cert.DUkvIdeal.Product.equal,
  trivial,
  Cert.DCkvnIdeal.Product.equal,
  trivial,
  Cert.Mlp1Ideal.Product.equal,
  trivial,
  Cert.InAIdeal.Product.equal,
  trivial,
  Cert.XqIdeal.Product.equal,
  trivial,
  Cert.XkvIdeal.Product.equal,
  trivial,
  Cert.MlaUqIdeal.Product.equal,
  trivial,
  Cert.MlaUkvIdeal.Product.equal,
  trivial,
  Cert.DXkvIdeal.Product.equal,
  trivial,
  Cert.DMnIdeal.Product.equal,
  trivial,
  Cert.DMergeIdeal.Product.equal⟩

end Cert.Proof

end
